-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite2 [hPre_finite2 : Cert.Pre_finite2.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite2.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite2 [hPre_finite2 : Cert.Pre_finite2.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite2.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))) = (fun _ => 1#1)

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_WgradDownRefIdeal (m : (ℓ : Loc Cert.WgradDownRefIdeal.nD Cert.WgradDownRefIdeal.τ Cert.WgradDownRefIdeal.sig) → Buf (Elt Ideal) ℓ) : Prop :=
  True

def Pre_WgradGate (m : (ℓ : Loc Cert.WgradGate.nD Cert.WgradGate.τ Cert.WgradGate.sig) → Buf (Elt Bits) ℓ) : Prop :=
  True

def Pre_WgradGateIdeal (m : (ℓ : Loc Cert.WgradGateIdeal.nD Cert.WgradGateIdeal.τ Cert.WgradGateIdeal.sig) → Buf (Elt Ideal) ℓ) : Prop :=
  True

def Pre_WgradGateRefIdeal (m : (ℓ : Loc Cert.WgradGateRefIdeal.nD Cert.WgradGateRefIdeal.τ Cert.WgradGateRefIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutRefIdeal (m : (ℓ : Loc Cert.WgradOutRefIdeal.nD Cert.WgradOutRefIdeal.τ Cert.WgradOutRefIdeal.sig) → Buf (Elt Ideal) ℓ) : Prop :=
  True

def Pre_WgradInA (m : (ℓ : Loc Cert.WgradInA.nD Cert.WgradInA.τ Cert.WgradInA.sig) → Buf (Elt Bits) ℓ) : Prop :=
  True

def Pre_WgradInAIdeal (m : (ℓ : Loc Cert.WgradInAIdeal.nD Cert.WgradInAIdeal.τ Cert.WgradInAIdeal.sig) → Buf (Elt Ideal) ℓ) : Prop :=
  True

def Pre_WgradInARefIdeal (m : (ℓ : Loc Cert.WgradInARefIdeal.nD Cert.WgradInARefIdeal.τ Cert.WgradInARefIdeal.sig) → Buf (Elt Ideal) ℓ) : Prop :=
  True

def Pre_WgradInB (m : (ℓ : Loc Cert.WgradInB.nD Cert.WgradInB.τ Cert.WgradInB.sig) → Buf (Elt Bits) ℓ) : Prop :=
  True

def Pre_WgradInBIdeal (m : (ℓ : Loc Cert.WgradInBIdeal.nD Cert.WgradInBIdeal.τ Cert.WgradInBIdeal.sig) → Buf (Elt Ideal) ℓ) : Prop :=
  True

def Pre_WgradInBRefIdeal (m : (ℓ : Loc Cert.WgradInBRefIdeal.nD Cert.WgradInBRefIdeal.τ Cert.WgradInBRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ProjABwd (m : (ℓ : Loc Cert.ProjABwd.nD Cert.ProjABwd.τ Cert.ProjABwd.sig) → Buf (Elt Bits) ℓ) : Prop :=
  True

def Pre_ProjABwdIdeal (m : (ℓ : Loc Cert.ProjABwdIdeal.nD Cert.ProjABwdIdeal.τ Cert.ProjABwdIdeal.sig) → Buf (Elt Ideal) ℓ) : Prop :=
  True

def Pre_ProjABwdIdeal_finite9 [hPre_finite9 : Cert.Pre_finite9.Facts] (m : (ℓ : Loc Cert.ProjABwdIdeal.nD Cert.ProjABwdIdeal.τ Cert.ProjABwdIdeal.sig) → Buf (Elt Ideal) ℓ) : Prop :=
  ∀ c : Dev Cert.ProjABwdIdeal.nD,
    (Cert.Pre_finite9.fn (F := Ideal) (m ((c.tc : Thread Cert.ProjABwdIdeal.nD Cert.ProjABwdIdeal.τ).loc Cert.ProjABwdIdeal.main_arg0)) (m ((c.tc : Thread Cert.ProjABwdIdeal.nD Cert.ProjABwdIdeal.τ).loc Cert.ProjABwdIdeal.main_arg1)) (m ((c.tc : Thread Cert.ProjABwdIdeal.nD Cert.ProjABwdIdeal.τ).loc Cert.ProjABwdIdeal.main_arg2)) (m ((c.tc : Thread Cert.ProjABwdIdeal.nD Cert.ProjABwdIdeal.τ).loc Cert.ProjABwdIdeal.main_arg3)) (m ((c.tc : Thread Cert.ProjABwdIdeal.nD Cert.ProjABwdIdeal.τ).loc Cert.ProjABwdIdeal.main_arg4))) = (fun _ => 1#1)

def Pre_ProjABwdRefIdeal (m : (ℓ : Loc Cert.ProjABwdRefIdeal.nD Cert.ProjABwdRefIdeal.τ Cert.ProjABwdRefIdeal.sig) → Buf (Elt Ideal) ℓ) : Prop :=
  True

def Pre_ProjABwdRefIdeal_finite9 [hPre_finite9 : Cert.Pre_finite9.Facts] (m : (ℓ : Loc Cert.ProjABwdRefIdeal.nD Cert.ProjABwdRefIdeal.τ Cert.ProjABwdRefIdeal.sig) → Buf (Elt Ideal) ℓ) : Prop :=
  ∀ c : Dev Cert.ProjABwdRefIdeal.nD,
    (Cert.Pre_finite9.fn (F := Ideal) (m ((c.tc : Thread Cert.ProjABwdRefIdeal.nD Cert.ProjABwdRefIdeal.τ).loc Cert.ProjABwdRefIdeal.main_arg0)) (m ((c.tc : Thread Cert.ProjABwdRefIdeal.nD Cert.ProjABwdRefIdeal.τ).loc Cert.ProjABwdRefIdeal.main_arg1)) (m ((c.tc : Thread Cert.ProjABwdRefIdeal.nD Cert.ProjABwdRefIdeal.τ).loc Cert.ProjABwdRefIdeal.main_arg2)) (m ((c.tc : Thread Cert.ProjABwdRefIdeal.nD Cert.ProjABwdRefIdeal.τ).loc Cert.ProjABwdRefIdeal.main_arg3)) (m ((c.tc : Thread Cert.ProjABwdRefIdeal.nD Cert.ProjABwdRefIdeal.τ).loc Cert.ProjABwdRefIdeal.main_arg4))) = (fun _ => 1#1)

def Pre_ProjBBwd (m : (ℓ : Loc Cert.ProjBBwd.nD Cert.ProjBBwd.τ Cert.ProjBBwd.sig) → Buf (Elt Bits) ℓ) : Prop :=
  True

def Pre_ProjBBwdIdeal (m : (ℓ : Loc Cert.ProjBBwdIdeal.nD Cert.ProjBBwdIdeal.τ Cert.ProjBBwdIdeal.sig) → Buf (Elt Ideal) ℓ) : Prop :=
  True

def Pre_ProjBBwdIdeal_finite10 [hPre_finite10 : Cert.Pre_finite10.Facts] (m : (ℓ : Loc Cert.ProjBBwdIdeal.nD Cert.ProjBBwdIdeal.τ Cert.ProjBBwdIdeal.sig) → Buf (Elt Ideal) ℓ) : Prop :=
  ∀ c : Dev Cert.ProjBBwdIdeal.nD,
    (Cert.Pre_finite10.fn (F := Ideal) (m ((c.tc : Thread Cert.ProjBBwdIdeal.nD Cert.ProjBBwdIdeal.τ).loc Cert.ProjBBwdIdeal.main_arg0)) (m ((c.tc : Thread Cert.ProjBBwdIdeal.nD Cert.ProjBBwdIdeal.τ).loc Cert.ProjBBwdIdeal.main_arg1)) (m ((c.tc : Thread Cert.ProjBBwdIdeal.nD Cert.ProjBBwdIdeal.τ).loc Cert.ProjBBwdIdeal.main_arg2)) (m ((c.tc : Thread Cert.ProjBBwdIdeal.nD Cert.ProjBBwdIdeal.τ).loc Cert.ProjBBwdIdeal.main_arg3)) (m ((c.tc : Thread Cert.ProjBBwdIdeal.nD Cert.ProjBBwdIdeal.τ).loc Cert.ProjBBwdIdeal.main_arg4))) = (fun _ => 1#1)

def Pre_ProjBBwdRefIdeal (m : (ℓ : Loc Cert.ProjBBwdRefIdeal.nD Cert.ProjBBwdRefIdeal.τ Cert.ProjBBwdRefIdeal.sig) → Buf (Elt Ideal) ℓ) : Prop :=
  True

def Pre_ProjBBwdRefIdeal_finite10 [hPre_finite10 : Cert.Pre_finite10.Facts] (m : (ℓ : Loc Cert.ProjBBwdRefIdeal.nD Cert.ProjBBwdRefIdeal.τ Cert.ProjBBwdRefIdeal.sig) → Buf (Elt Ideal) ℓ) : Prop :=
  ∀ c : Dev Cert.ProjBBwdRefIdeal.nD,
    (Cert.Pre_finite10.fn (F := Ideal) (m ((c.tc : Thread Cert.ProjBBwdRefIdeal.nD Cert.ProjBBwdRefIdeal.τ).loc Cert.ProjBBwdRefIdeal.main_arg0)) (m ((c.tc : Thread Cert.ProjBBwdRefIdeal.nD Cert.ProjBBwdRefIdeal.τ).loc Cert.ProjBBwdRefIdeal.main_arg1)) (m ((c.tc : Thread Cert.ProjBBwdRefIdeal.nD Cert.ProjBBwdRefIdeal.τ).loc Cert.ProjBBwdRefIdeal.main_arg2)) (m ((c.tc : Thread Cert.ProjBBwdRefIdeal.nD Cert.ProjBBwdRefIdeal.τ).loc Cert.ProjBBwdRefIdeal.main_arg3)) (m ((c.tc : Thread Cert.ProjBBwdRefIdeal.nD Cert.ProjBBwdRefIdeal.τ).loc Cert.ProjBBwdRefIdeal.main_arg4))) = (fun _ => 1#1)

def Pre_ProjBKvBwd (m : (ℓ : Loc Cert.ProjBKvBwd.nD Cert.ProjBKvBwd.τ Cert.ProjBKvBwd.sig) → Buf (Elt Bits) ℓ) : Prop :=
  True

def Pre_ProjBKvBwdIdeal (m : (ℓ : Loc Cert.ProjBKvBwdIdeal.nD Cert.ProjBKvBwdIdeal.τ Cert.ProjBKvBwdIdeal.sig) → Buf (Elt Ideal) ℓ) : Prop :=
  True

def Pre_ProjBKvBwdIdeal_finite11 [hPre_finite11 : Cert.Pre_finite11.Facts] (m : (ℓ : Loc Cert.ProjBKvBwdIdeal.nD Cert.ProjBKvBwdIdeal.τ Cert.ProjBKvBwdIdeal.sig) → Buf (Elt Ideal) ℓ) : Prop :=
  ∀ c : Dev Cert.ProjBKvBwdIdeal.nD,
    (Cert.Pre_finite11.fn (F := Ideal) (m ((c.tc : Thread Cert.ProjBKvBwdIdeal.nD Cert.ProjBKvBwdIdeal.τ).loc Cert.ProjBKvBwdIdeal.main_arg0)) (m ((c.tc : Thread Cert.ProjBKvBwdIdeal.nD Cert.ProjBKvBwdIdeal.τ).loc Cert.ProjBKvBwdIdeal.main_arg1)) (m ((c.tc : Thread Cert.ProjBKvBwdIdeal.nD Cert.ProjBKvBwdIdeal.τ).loc Cert.ProjBKvBwdIdeal.main_arg2)) (m ((c.tc : Thread Cert.ProjBKvBwdIdeal.nD Cert.ProjBKvBwdIdeal.τ).loc Cert.ProjBKvBwdIdeal.main_arg3)) (m ((c.tc : Thread Cert.ProjBKvBwdIdeal.nD Cert.ProjBKvBwdIdeal.τ).loc Cert.ProjBKvBwdIdeal.main_arg4)) (m ((c.tc : Thread Cert.ProjBKvBwdIdeal.nD Cert.ProjBKvBwdIdeal.τ).loc Cert.ProjBKvBwdIdeal.main_arg5)) (m ((c.tc : Thread Cert.ProjBKvBwdIdeal.nD Cert.ProjBKvBwdIdeal.τ).loc Cert.ProjBKvBwdIdeal.main_arg6)) (m ((c.tc : Thread Cert.ProjBKvBwdIdeal.nD Cert.ProjBKvBwdIdeal.τ).loc Cert.ProjBKvBwdIdeal.main_arg7)) (m ((c.tc : Thread Cert.ProjBKvBwdIdeal.nD Cert.ProjBKvBwdIdeal.τ).loc Cert.ProjBKvBwdIdeal.main_arg8)) (m ((c.tc : Thread Cert.ProjBKvBwdIdeal.nD Cert.ProjBKvBwdIdeal.τ).loc Cert.ProjBKvBwdIdeal.main_arg9)) (m ((c.tc : Thread Cert.ProjBKvBwdIdeal.nD Cert.ProjBKvBwdIdeal.τ).loc Cert.ProjBKvBwdIdeal.main_arg10))) = (fun _ => 1#1)

def Pre_ProjBKvBwdRefIdeal (m : (ℓ : Loc Cert.ProjBKvBwdRefIdeal.nD Cert.ProjBKvBwdRefIdeal.τ Cert.ProjBKvBwdRefIdeal.sig) → Buf (Elt Ideal) ℓ) : Prop :=
  True

def Pre_ProjBKvBwdRefIdeal_finite11 [hPre_finite11 : Cert.Pre_finite11.Facts] (m : (ℓ : Loc Cert.ProjBKvBwdRefIdeal.nD Cert.ProjBKvBwdRefIdeal.τ Cert.ProjBKvBwdRefIdeal.sig) → Buf (Elt Ideal) ℓ) : Prop :=
  ∀ c : Dev Cert.ProjBKvBwdRefIdeal.nD,
    (Cert.Pre_finite11.fn (F := Ideal) (m ((c.tc : Thread Cert.ProjBKvBwdRefIdeal.nD Cert.ProjBKvBwdRefIdeal.τ).loc Cert.ProjBKvBwdRefIdeal.main_arg0)) (m ((c.tc : Thread Cert.ProjBKvBwdRefIdeal.nD Cert.ProjBKvBwdRefIdeal.τ).loc Cert.ProjBKvBwdRefIdeal.main_arg1)) (m ((c.tc : Thread Cert.ProjBKvBwdRefIdeal.nD Cert.ProjBKvBwdRefIdeal.τ).loc Cert.ProjBKvBwdRefIdeal.main_arg2)) (m ((c.tc : Thread Cert.ProjBKvBwdRefIdeal.nD Cert.ProjBKvBwdRefIdeal.τ).loc Cert.ProjBKvBwdRefIdeal.main_arg3)) (m ((c.tc : Thread Cert.ProjBKvBwdRefIdeal.nD Cert.ProjBKvBwdRefIdeal.τ).loc Cert.ProjBKvBwdRefIdeal.main_arg4)) (m ((c.tc : Thread Cert.ProjBKvBwdRefIdeal.nD Cert.ProjBKvBwdRefIdeal.τ).loc Cert.ProjBKvBwdRefIdeal.main_arg5)) (m ((c.tc : Thread Cert.ProjBKvBwdRefIdeal.nD Cert.ProjBKvBwdRefIdeal.τ).loc Cert.ProjBKvBwdRefIdeal.main_arg6)) (m ((c.tc : Thread Cert.ProjBKvBwdRefIdeal.nD Cert.ProjBKvBwdRefIdeal.τ).loc Cert.ProjBKvBwdRefIdeal.main_arg7)) (m ((c.tc : Thread Cert.ProjBKvBwdRefIdeal.nD Cert.ProjBKvBwdRefIdeal.τ).loc Cert.ProjBKvBwdRefIdeal.main_arg8)) (m ((c.tc : Thread Cert.ProjBKvBwdRefIdeal.nD Cert.ProjBKvBwdRefIdeal.τ).loc Cert.ProjBKvBwdRefIdeal.main_arg9)) (m ((c.tc : Thread Cert.ProjBKvBwdRefIdeal.nD Cert.ProjBKvBwdRefIdeal.τ).loc Cert.ProjBKvBwdRefIdeal.main_arg10))) = (fun _ => 1#1)

def Pre_WgradKv (m : (ℓ : Loc Cert.WgradKv.nD Cert.WgradKv.τ Cert.WgradKv.sig) → Buf (Elt Bits) ℓ) : Prop :=
  True

def Pre_WgradKvIdeal (m : (ℓ : Loc Cert.WgradKvIdeal.nD Cert.WgradKvIdeal.τ Cert.WgradKvIdeal.sig) → Buf (Elt Ideal) ℓ) : Prop :=
  True

def Pre_WgradKvRefIdeal (m : (ℓ : Loc Cert.WgradKvRefIdeal.nD Cert.WgradKvRefIdeal.τ Cert.WgradKvRefIdeal.sig) → Buf (Elt Ideal) ℓ) : Prop :=
  True

def Pre_ProjAFwd (m : (ℓ : Loc Cert.ProjAFwd.nD Cert.ProjAFwd.τ Cert.ProjAFwd.sig) → Buf (Elt Bits) ℓ) : Prop :=
  True

def Pre_ProjAFwdIdeal (m : (ℓ : Loc Cert.ProjAFwdIdeal.nD Cert.ProjAFwdIdeal.τ Cert.ProjAFwdIdeal.sig) → Buf (Elt Ideal) ℓ) : Prop :=
  True

def Pre_ProjAFwdRefIdeal (m : (ℓ : Loc Cert.ProjAFwdRefIdeal.nD Cert.ProjAFwdRefIdeal.τ Cert.ProjAFwdRefIdeal.sig) → Buf (Elt Ideal) ℓ) : Prop :=
  True

def Pre_ProjBFwd (m : (ℓ : Loc Cert.ProjBFwd.nD Cert.ProjBFwd.τ Cert.ProjBFwd.sig) → Buf (Elt Bits) ℓ) : Prop :=
  True

def Pre_ProjBFwdIdeal (m : (ℓ : Loc Cert.ProjBFwdIdeal.nD Cert.ProjBFwdIdeal.τ Cert.ProjBFwdIdeal.sig) → Buf (Elt Ideal) ℓ) : Prop :=
  True

def Pre_ProjBFwdRefIdeal (m : (ℓ : Loc Cert.ProjBFwdRefIdeal.nD Cert.ProjBFwdRefIdeal.τ Cert.ProjBFwdRefIdeal.sig) → Buf (Elt Ideal) ℓ) : Prop :=
  True

def Pre_ProjBKvFwd (m : (ℓ : Loc Cert.ProjBKvFwd.nD Cert.ProjBKvFwd.τ Cert.ProjBKvFwd.sig) → Buf (Elt Bits) ℓ) : Prop :=
  True

def Pre_ProjBKvFwdIdeal (m : (ℓ : Loc Cert.ProjBKvFwdIdeal.nD Cert.ProjBKvFwdIdeal.τ Cert.ProjBKvFwdIdeal.sig) → Buf (Elt Ideal) ℓ) : Prop :=
  True

def Pre_ProjBKvFwdRefIdeal (m : (ℓ : Loc Cert.ProjBKvFwdRefIdeal.nD Cert.ProjBKvFwdRefIdeal.τ Cert.ProjBKvFwdRefIdeal.sig) → Buf (Elt Ideal) ℓ) : Prop :=
  True

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossIdeal_finite16 [hPre_finite16 : Cert.Pre_finite16.Facts] (m : (ℓ : Loc Cert.FfnLossIdeal.nD Cert.FfnLossIdeal.τ Cert.FfnLossIdeal.sig) → Buf (Elt Ideal) ℓ) : Prop :=
  ∀ c : Dev Cert.FfnLossIdeal.nD,
    (Cert.Pre_finite16.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))) = (fun _ => 1#1)

def Pre_FfnLossRefIdeal (m : (ℓ : Loc Cert.FfnLossRefIdeal.nD Cert.FfnLossRefIdeal.τ Cert.FfnLossRefIdeal.sig) → Buf (Elt Ideal) ℓ) : Prop :=
  True

def Pre_FfnLossRefIdeal_finite16 [hPre_finite16 : Cert.Pre_finite16.Facts] (m : (ℓ : Loc Cert.FfnLossRefIdeal.nD Cert.FfnLossRefIdeal.τ Cert.FfnLossRefIdeal.sig) → Buf (Elt Ideal) ℓ) : Prop :=
  ∀ c : Dev Cert.FfnLossRefIdeal.nD,
    (Cert.Pre_finite16.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4)) (m ((c.tc : Thread Cert.FfnLossRefIdeal.nD Cert.FfnLossRefIdeal.τ).loc Cert.FfnLossRefIdeal.main_arg5)) (m ((c.tc : Thread Cert.FfnLossRefIdeal.nD Cert.FfnLossRefIdeal.τ).loc Cert.FfnLossRefIdeal.main_arg6))) = (fun _ => 1#1)

def Pre_MixAFwd (m : (ℓ : Loc Cert.MixAFwd.nD Cert.MixAFwd.τ Cert.MixAFwd.sig) → Buf (Elt Bits) ℓ) : Prop :=
  True

def Pre_MixAFwdIdeal (m : (ℓ : Loc Cert.MixAFwdIdeal.nD Cert.MixAFwdIdeal.τ Cert.MixAFwdIdeal.sig) → Buf (Elt Ideal) ℓ) : Prop :=
  True

def Pre_MixAFwdIdeal_finite17 [hPre_finite17 : Cert.Pre_finite17.Facts] (m : (ℓ : Loc Cert.MixAFwdIdeal.nD Cert.MixAFwdIdeal.τ Cert.MixAFwdIdeal.sig) → Buf (Elt Ideal) ℓ) : Prop :=
  ∀ c : Dev Cert.MixAFwdIdeal.nD,
    (Cert.Pre_finite17.fn (F := Ideal) (m ((c.tc : Thread Cert.MixAFwdIdeal.nD Cert.MixAFwdIdeal.τ).loc Cert.MixAFwdIdeal.main_arg0)) (m ((c.tc : Thread Cert.MixAFwdIdeal.nD Cert.MixAFwdIdeal.τ).loc Cert.MixAFwdIdeal.main_arg1)) (m ((c.tc : Thread Cert.MixAFwdIdeal.nD Cert.MixAFwdIdeal.τ).loc Cert.MixAFwdIdeal.main_arg2)) (m ((c.tc : Thread Cert.MixAFwdIdeal.nD Cert.MixAFwdIdeal.τ).loc Cert.MixAFwdIdeal.main_arg3)) (m ((c.tc : Thread Cert.MixAFwdIdeal.nD Cert.MixAFwdIdeal.τ).loc Cert.MixAFwdIdeal.main_arg4))) = (fun _ => 1#1)

def Pre_MixAFwdRefIdeal (m : (ℓ : Loc Cert.MixAFwdRefIdeal.nD Cert.MixAFwdRefIdeal.τ Cert.MixAFwdRefIdeal.sig) → Buf (Elt Ideal) ℓ) : Prop :=
  True

def Pre_MixAFwdRefIdeal_finite17 [hPre_finite17 : Cert.Pre_finite17.Facts] (m : (ℓ : Loc Cert.MixAFwdRefIdeal.nD Cert.MixAFwdRefIdeal.τ Cert.MixAFwdRefIdeal.sig) → Buf (Elt Ideal) ℓ) : Prop :=
  ∀ c : Dev Cert.MixAFwdRefIdeal.nD,
    (Cert.Pre_finite17.fn (F := Ideal) (m ((c.tc : Thread Cert.MixAFwdRefIdeal.nD Cert.MixAFwdRefIdeal.τ).loc Cert.MixAFwdRefIdeal.main_arg0)) (m ((c.tc : Thread Cert.MixAFwdRefIdeal.nD Cert.MixAFwdRefIdeal.τ).loc Cert.MixAFwdRefIdeal.main_arg1)) (m ((c.tc : Thread Cert.MixAFwdRefIdeal.nD Cert.MixAFwdRefIdeal.τ).loc Cert.MixAFwdRefIdeal.main_arg2)) (m ((c.tc : Thread Cert.MixAFwdRefIdeal.nD Cert.MixAFwdRefIdeal.τ).loc Cert.MixAFwdRefIdeal.main_arg3)) (m ((c.tc : Thread Cert.MixAFwdRefIdeal.nD Cert.MixAFwdRefIdeal.τ).loc Cert.MixAFwdRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite2 [hFfnBwdIdeal : Cert.FfnBwdIdeal.Facts] [hPre_finite2 : Cert.Pre_finite2.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite2 m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_finite2 [hFfnBwdRefIdeal : Cert.FfnBwdRefIdeal.Facts] [hPre_finite2 : Cert.Pre_finite2.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite2 m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ r.2.sem = fun _ => 0)

def quiescent_WgradDownRefIdeal [hWgradDownRefIdeal : Cert.WgradDownRefIdeal.Facts] : Prop :=
  ∀ (m : (ℓ : Loc Cert.WgradDownRefIdeal.nD Cert.WgradDownRefIdeal.τ Cert.WgradDownRefIdeal.sig) → Buf (Elt Ideal) ℓ) (g : Dev Cert.WgradDownRefIdeal.nD → PrngReg), Pre_WgradDownRefIdeal m →
    θ_run (Cert.WgradDownRefIdeal.defs (F := Ideal)) (onTc (τ := Cert.WgradDownRefIdeal.τ) (Cert.WgradDownRefIdeal.main (F := Ideal))) ⟨m, fun _ => 0, g⟩ (fun r => (∀ c : Dev Cert.WgradDownRefIdeal.nD,
      r.2.mem ((c.tc : Thread Cert.WgradDownRefIdeal.nD Cert.WgradDownRefIdeal.τ).loc Cert.WgradDownRefIdeal.main_arg0) = m ((c.tc : Thread Cert.WgradDownRefIdeal.nD Cert.WgradDownRefIdeal.τ).loc Cert.WgradDownRefIdeal.main_arg0)
      ∧ r.2.mem ((c.tc : Thread Cert.WgradDownRefIdeal.nD Cert.WgradDownRefIdeal.τ).loc Cert.WgradDownRefIdeal.main_arg1) = m ((c.tc : Thread Cert.WgradDownRefIdeal.nD Cert.WgradDownRefIdeal.τ).loc Cert.WgradDownRefIdeal.main_arg1))
      ∧ r.2.sem = fun _ => 0)

def quiescent_WgradGate [hWgradGate : Cert.WgradGate.Facts] : Prop :=
  ∀ (m : (ℓ : Loc Cert.WgradGate.nD Cert.WgradGate.τ Cert.WgradGate.sig) → Buf (Elt Bits) ℓ) (g : Dev Cert.WgradGate.nD → PrngReg), Pre_WgradGate m →
    θ_run (Cert.WgradGate.defs (F := Bits)) (onTc (τ := Cert.WgradGate.τ) (Cert.WgradGate.main (F := Bits))) ⟨m, fun _ => 0, g⟩ (fun r => (∀ c : Dev Cert.WgradGate.nD,
      r.2.mem ((c.tc : Thread Cert.WgradGate.nD Cert.WgradGate.τ).loc Cert.WgradGate.main_arg0) = m ((c.tc : Thread Cert.WgradGate.nD Cert.WgradGate.τ).loc Cert.WgradGate.main_arg0)
      ∧ r.2.mem ((c.tc : Thread Cert.WgradGate.nD Cert.WgradGate.τ).loc Cert.WgradGate.main_arg1) = m ((c.tc : Thread Cert.WgradGate.nD Cert.WgradGate.τ).loc Cert.WgradGate.main_arg1))
      ∧ r.2.sem = fun _ => 0)

def quiescent_WgradGateIdeal [hWgradGateIdeal : Cert.WgradGateIdeal.Facts] : Prop :=
  ∀ (m : (ℓ : Loc Cert.WgradGateIdeal.nD Cert.WgradGateIdeal.τ Cert.WgradGateIdeal.sig) → Buf (Elt Ideal) ℓ) (g : Dev Cert.WgradGateIdeal.nD → PrngReg), Pre_WgradGateIdeal m →
    θ_run (Cert.WgradGateIdeal.defs (F := Ideal)) (onTc (τ := Cert.WgradGateIdeal.τ) (Cert.WgradGateIdeal.main (F := Ideal))) ⟨m, fun _ => 0, g⟩ (fun r => (∀ c : Dev Cert.WgradGateIdeal.nD,
      r.2.mem ((c.tc : Thread Cert.WgradGateIdeal.nD Cert.WgradGateIdeal.τ).loc Cert.WgradGateIdeal.main_arg0) = m ((c.tc : Thread Cert.WgradGateIdeal.nD Cert.WgradGateIdeal.τ).loc Cert.WgradGateIdeal.main_arg0)
      ∧ r.2.mem ((c.tc : Thread Cert.WgradGateIdeal.nD Cert.WgradGateIdeal.τ).loc Cert.WgradGateIdeal.main_arg1) = m ((c.tc : Thread Cert.WgradGateIdeal.nD Cert.WgradGateIdeal.τ).loc Cert.WgradGateIdeal.main_arg1))
      ∧ r.2.sem = fun _ => 0)

def quiescent_WgradGateRefIdeal [hWgradGateRefIdeal : Cert.WgradGateRefIdeal.Facts] : Prop :=
  ∀ (m : (ℓ : Loc Cert.WgradGateRefIdeal.nD Cert.WgradGateRefIdeal.τ Cert.WgradGateRefIdeal.sig) → Buf (Elt Ideal) ℓ) (g : Dev Cert.WgradGateRefIdeal.nD → PrngReg), Pre_WgradGateRefIdeal m →
    θ_run (Cert.WgradGateRefIdeal.defs (F := Ideal)) (onTc (τ := Cert.WgradGateRefIdeal.τ) (Cert.WgradGateRefIdeal.main (F := Ideal))) ⟨m, fun _ => 0, g⟩ (fun r => (∀ c : Dev Cert.WgradGateRefIdeal.nD,
      r.2.mem ((c.tc : Thread Cert.WgradGateRefIdeal.nD Cert.WgradGateRefIdeal.τ).loc Cert.WgradGateRefIdeal.main_arg0) = m ((c.tc : Thread Cert.WgradGateRefIdeal.nD Cert.WgradGateRefIdeal.τ).loc Cert.WgradGateRefIdeal.main_arg0)
      ∧ r.2.mem ((c.tc : Thread Cert.WgradGateRefIdeal.nD Cert.WgradGateRefIdeal.τ).loc Cert.WgradGateRefIdeal.main_arg1) = m ((c.tc : Thread Cert.WgradGateRefIdeal.nD Cert.WgradGateRefIdeal.τ).loc Cert.WgradGateRefIdeal.main_arg1))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ r.2.sem = fun _ => 0)

def quiescent_WgradOutRefIdeal [hWgradOutRefIdeal : Cert.WgradOutRefIdeal.Facts] : Prop :=
  ∀ (m : (ℓ : Loc Cert.WgradOutRefIdeal.nD Cert.WgradOutRefIdeal.τ Cert.WgradOutRefIdeal.sig) → Buf (Elt Ideal) ℓ) (g : Dev Cert.WgradOutRefIdeal.nD → PrngReg), Pre_WgradOutRefIdeal m →
    θ_run (Cert.WgradOutRefIdeal.defs (F := Ideal)) (onTc (τ := Cert.WgradOutRefIdeal.τ) (Cert.WgradOutRefIdeal.main (F := Ideal))) ⟨m, fun _ => 0, g⟩ (fun r => (∀ c : Dev Cert.WgradOutRefIdeal.nD,
      r.2.mem ((c.tc : Thread Cert.WgradOutRefIdeal.nD Cert.WgradOutRefIdeal.τ).loc Cert.WgradOutRefIdeal.main_arg0) = m ((c.tc : Thread Cert.WgradOutRefIdeal.nD Cert.WgradOutRefIdeal.τ).loc Cert.WgradOutRefIdeal.main_arg0)
      ∧ r.2.mem ((c.tc : Thread Cert.WgradOutRefIdeal.nD Cert.WgradOutRefIdeal.τ).loc Cert.WgradOutRefIdeal.main_arg1) = m ((c.tc : Thread Cert.WgradOutRefIdeal.nD Cert.WgradOutRefIdeal.τ).loc Cert.WgradOutRefIdeal.main_arg1))
      ∧ r.2.sem = fun _ => 0)

def quiescent_WgradInA [hWgradInA : Cert.WgradInA.Facts] : Prop :=
  ∀ (m : (ℓ : Loc Cert.WgradInA.nD Cert.WgradInA.τ Cert.WgradInA.sig) → Buf (Elt Bits) ℓ) (g : Dev Cert.WgradInA.nD → PrngReg), Pre_WgradInA m →
    θ_run (Cert.WgradInA.defs (F := Bits)) (onTc (τ := Cert.WgradInA.τ) (Cert.WgradInA.main (F := Bits))) ⟨m, fun _ => 0, g⟩ (fun r => (∀ c : Dev Cert.WgradInA.nD,
      r.2.mem ((c.tc : Thread Cert.WgradInA.nD Cert.WgradInA.τ).loc Cert.WgradInA.main_arg0) = m ((c.tc : Thread Cert.WgradInA.nD Cert.WgradInA.τ).loc Cert.WgradInA.main_arg0)
      ∧ r.2.mem ((c.tc : Thread Cert.WgradInA.nD Cert.WgradInA.τ).loc Cert.WgradInA.main_arg1) = m ((c.tc : Thread Cert.WgradInA.nD Cert.WgradInA.τ).loc Cert.WgradInA.main_arg1))
      ∧ r.2.sem = fun _ => 0)

def quiescent_WgradInAIdeal [hWgradInAIdeal : Cert.WgradInAIdeal.Facts] : Prop :=
  ∀ (m : (ℓ : Loc Cert.WgradInAIdeal.nD Cert.WgradInAIdeal.τ Cert.WgradInAIdeal.sig) → Buf (Elt Ideal) ℓ) (g : Dev Cert.WgradInAIdeal.nD → PrngReg), Pre_WgradInAIdeal m →
    θ_run (Cert.WgradInAIdeal.defs (F := Ideal)) (onTc (τ := Cert.WgradInAIdeal.τ) (Cert.WgradInAIdeal.main (F := Ideal))) ⟨m, fun _ => 0, g⟩ (fun r => (∀ c : Dev Cert.WgradInAIdeal.nD,
      r.2.mem ((c.tc : Thread Cert.WgradInAIdeal.nD Cert.WgradInAIdeal.τ).loc Cert.WgradInAIdeal.main_arg0) = m ((c.tc : Thread Cert.WgradInAIdeal.nD Cert.WgradInAIdeal.τ).loc Cert.WgradInAIdeal.main_arg0)
      ∧ r.2.mem ((c.tc : Thread Cert.WgradInAIdeal.nD Cert.WgradInAIdeal.τ).loc Cert.WgradInAIdeal.main_arg1) = m ((c.tc : Thread Cert.WgradInAIdeal.nD Cert.WgradInAIdeal.τ).loc Cert.WgradInAIdeal.main_arg1))
      ∧ r.2.sem = fun _ => 0)

def quiescent_WgradInARefIdeal [hWgradInARefIdeal : Cert.WgradInARefIdeal.Facts] : Prop :=
  ∀ (m : (ℓ : Loc Cert.WgradInARefIdeal.nD Cert.WgradInARefIdeal.τ Cert.WgradInARefIdeal.sig) → Buf (Elt Ideal) ℓ) (g : Dev Cert.WgradInARefIdeal.nD → PrngReg), Pre_WgradInARefIdeal m →
    θ_run (Cert.WgradInARefIdeal.defs (F := Ideal)) (onTc (τ := Cert.WgradInARefIdeal.τ) (Cert.WgradInARefIdeal.main (F := Ideal))) ⟨m, fun _ => 0, g⟩ (fun r => (∀ c : Dev Cert.WgradInARefIdeal.nD,
      r.2.mem ((c.tc : Thread Cert.WgradInARefIdeal.nD Cert.WgradInARefIdeal.τ).loc Cert.WgradInARefIdeal.main_arg0) = m ((c.tc : Thread Cert.WgradInARefIdeal.nD Cert.WgradInARefIdeal.τ).loc Cert.WgradInARefIdeal.main_arg0)
      ∧ r.2.mem ((c.tc : Thread Cert.WgradInARefIdeal.nD Cert.WgradInARefIdeal.τ).loc Cert.WgradInARefIdeal.main_arg1) = m ((c.tc : Thread Cert.WgradInARefIdeal.nD Cert.WgradInARefIdeal.τ).loc Cert.WgradInARefIdeal.main_arg1))
      ∧ r.2.sem = fun _ => 0)

def quiescent_WgradInB [hWgradInB : Cert.WgradInB.Facts] : Prop :=
  ∀ (m : (ℓ : Loc Cert.WgradInB.nD Cert.WgradInB.τ Cert.WgradInB.sig) → Buf (Elt Bits) ℓ) (g : Dev Cert.WgradInB.nD → PrngReg), Pre_WgradInB m →
    θ_run (Cert.WgradInB.defs (F := Bits)) (onTc (τ := Cert.WgradInB.τ) (Cert.WgradInB.main (F := Bits))) ⟨m, fun _ => 0, g⟩ (fun r => (∀ c : Dev Cert.WgradInB.nD,
      r.2.mem ((c.tc : Thread Cert.WgradInB.nD Cert.WgradInB.τ).loc Cert.WgradInB.main_arg0) = m ((c.tc : Thread Cert.WgradInB.nD Cert.WgradInB.τ).loc Cert.WgradInB.main_arg0)
      ∧ r.2.mem ((c.tc : Thread Cert.WgradInB.nD Cert.WgradInB.τ).loc Cert.WgradInB.main_arg1) = m ((c.tc : Thread Cert.WgradInB.nD Cert.WgradInB.τ).loc Cert.WgradInB.main_arg1))
      ∧ r.2.sem = fun _ => 0)

def quiescent_WgradInBIdeal [hWgradInBIdeal : Cert.WgradInBIdeal.Facts] : Prop :=
  ∀ (m : (ℓ : Loc Cert.WgradInBIdeal.nD Cert.WgradInBIdeal.τ Cert.WgradInBIdeal.sig) → Buf (Elt Ideal) ℓ) (g : Dev Cert.WgradInBIdeal.nD → PrngReg), Pre_WgradInBIdeal m →
    θ_run (Cert.WgradInBIdeal.defs (F := Ideal)) (onTc (τ := Cert.WgradInBIdeal.τ) (Cert.WgradInBIdeal.main (F := Ideal))) ⟨m, fun _ => 0, g⟩ (fun r => (∀ c : Dev Cert.WgradInBIdeal.nD,
      r.2.mem ((c.tc : Thread Cert.WgradInBIdeal.nD Cert.WgradInBIdeal.τ).loc Cert.WgradInBIdeal.main_arg0) = m ((c.tc : Thread Cert.WgradInBIdeal.nD Cert.WgradInBIdeal.τ).loc Cert.WgradInBIdeal.main_arg0)
      ∧ r.2.mem ((c.tc : Thread Cert.WgradInBIdeal.nD Cert.WgradInBIdeal.τ).loc Cert.WgradInBIdeal.main_arg1) = m ((c.tc : Thread Cert.WgradInBIdeal.nD Cert.WgradInBIdeal.τ).loc Cert.WgradInBIdeal.main_arg1))
      ∧ r.2.sem = fun _ => 0)

def quiescent_WgradInBRefIdeal [hWgradInBRefIdeal : Cert.WgradInBRefIdeal.Facts] : Prop :=
  ∀ (m : (ℓ : Loc Cert.WgradInBRefIdeal.nD Cert.WgradInBRefIdeal.τ Cert.WgradInBRefIdeal.sig) → Buf (Elt Ideal) ℓ) (g : Dev Cert.WgradInBRefIdeal.nD → PrngReg), Pre_WgradInBRefIdeal m →
    θ_run (Cert.WgradInBRefIdeal.defs (F := Ideal)) (onTc (τ := Cert.WgradInBRefIdeal.τ) (Cert.WgradInBRefIdeal.main (F := Ideal))) ⟨m, fun _ => 0, g⟩ (fun r => (∀ c : Dev Cert.WgradInBRefIdeal.nD,
      r.2.mem ((c.tc : Thread Cert.WgradInBRefIdeal.nD Cert.WgradInBRefIdeal.τ).loc Cert.WgradInBRefIdeal.main_arg0) = m ((c.tc : Thread Cert.WgradInBRefIdeal.nD Cert.WgradInBRefIdeal.τ).loc Cert.WgradInBRefIdeal.main_arg0)
      ∧ r.2.mem ((c.tc : Thread Cert.WgradInBRefIdeal.nD Cert.WgradInBRefIdeal.τ).loc Cert.WgradInBRefIdeal.main_arg1) = m ((c.tc : Thread Cert.WgradInBRefIdeal.nD Cert.WgradInBRefIdeal.τ).loc Cert.WgradInBRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_ProjABwd [hProjABwd : Cert.ProjABwd.Facts] : Prop :=
  ∀ (m : (ℓ : Loc Cert.ProjABwd.nD Cert.ProjABwd.τ Cert.ProjABwd.sig) → Buf (Elt Bits) ℓ) (g : Dev Cert.ProjABwd.nD → PrngReg), Pre_ProjABwd m →
    θ_run (Cert.ProjABwd.defs (F := Bits)) (onTc (τ := Cert.ProjABwd.τ) (Cert.ProjABwd.main (F := Bits))) ⟨m, fun _ => 0, g⟩ (fun r => (∀ c : Dev Cert.ProjABwd.nD,
      r.2.mem ((c.tc : Thread Cert.ProjABwd.nD Cert.ProjABwd.τ).loc Cert.ProjABwd.main_arg0) = m ((c.tc : Thread Cert.ProjABwd.nD Cert.ProjABwd.τ).loc Cert.ProjABwd.main_arg0)
      ∧ r.2.mem ((c.tc : Thread Cert.ProjABwd.nD Cert.ProjABwd.τ).loc Cert.ProjABwd.main_arg1) = m ((c.tc : Thread Cert.ProjABwd.nD Cert.ProjABwd.τ).loc Cert.ProjABwd.main_arg1)
      ∧ r.2.mem ((c.tc : Thread Cert.ProjABwd.nD Cert.ProjABwd.τ).loc Cert.ProjABwd.main_arg2) = m ((c.tc : Thread Cert.ProjABwd.nD Cert.ProjABwd.τ).loc Cert.ProjABwd.main_arg2)
      ∧ r.2.mem ((c.tc : Thread Cert.ProjABwd.nD Cert.ProjABwd.τ).loc Cert.ProjABwd.main_arg3) = m ((c.tc : Thread Cert.ProjABwd.nD Cert.ProjABwd.τ).loc Cert.ProjABwd.main_arg3)
      ∧ r.2.mem ((c.tc : Thread Cert.ProjABwd.nD Cert.ProjABwd.τ).loc Cert.ProjABwd.main_arg4) = m ((c.tc : Thread Cert.ProjABwd.nD Cert.ProjABwd.τ).loc Cert.ProjABwd.main_arg4))
      ∧ r.2.sem = fun _ => 0)

def quiescent_ProjABwdIdeal [hProjABwdIdeal : Cert.ProjABwdIdeal.Facts] : Prop :=
  ∀ (m : (ℓ : Loc Cert.ProjABwdIdeal.nD Cert.ProjABwdIdeal.τ Cert.ProjABwdIdeal.sig) → Buf (Elt Ideal) ℓ) (g : Dev Cert.ProjABwdIdeal.nD → PrngReg), Pre_ProjABwdIdeal m →
    θ_run (Cert.ProjABwdIdeal.defs (F := Ideal)) (onTc (τ := Cert.ProjABwdIdeal.τ) (Cert.ProjABwdIdeal.main (F := Ideal))) ⟨m, fun _ => 0, g⟩ (fun r => (∀ c : Dev Cert.ProjABwdIdeal.nD,
      r.2.mem ((c.tc : Thread Cert.ProjABwdIdeal.nD Cert.ProjABwdIdeal.τ).loc Cert.ProjABwdIdeal.main_arg0) = m ((c.tc : Thread Cert.ProjABwdIdeal.nD Cert.ProjABwdIdeal.τ).loc Cert.ProjABwdIdeal.main_arg0)
      ∧ r.2.mem ((c.tc : Thread Cert.ProjABwdIdeal.nD Cert.ProjABwdIdeal.τ).loc Cert.ProjABwdIdeal.main_arg1) = m ((c.tc : Thread Cert.ProjABwdIdeal.nD Cert.ProjABwdIdeal.τ).loc Cert.ProjABwdIdeal.main_arg1)
      ∧ r.2.mem ((c.tc : Thread Cert.ProjABwdIdeal.nD Cert.ProjABwdIdeal.τ).loc Cert.ProjABwdIdeal.main_arg2) = m ((c.tc : Thread Cert.ProjABwdIdeal.nD Cert.ProjABwdIdeal.τ).loc Cert.ProjABwdIdeal.main_arg2)
      ∧ r.2.mem ((c.tc : Thread Cert.ProjABwdIdeal.nD Cert.ProjABwdIdeal.τ).loc Cert.ProjABwdIdeal.main_arg3) = m ((c.tc : Thread Cert.ProjABwdIdeal.nD Cert.ProjABwdIdeal.τ).loc Cert.ProjABwdIdeal.main_arg3)
      ∧ r.2.mem ((c.tc : Thread Cert.ProjABwdIdeal.nD Cert.ProjABwdIdeal.τ).loc Cert.ProjABwdIdeal.main_arg4) = m ((c.tc : Thread Cert.ProjABwdIdeal.nD Cert.ProjABwdIdeal.τ).loc Cert.ProjABwdIdeal.main_arg4))
      ∧ r.2.sem = fun _ => 0)

def quiescent_ProjABwdIdeal_pre_finite9 [hProjABwdIdeal : Cert.ProjABwdIdeal.Facts] [hPre_finite9 : Cert.Pre_finite9.Facts] : Prop :=
  ∀ (m : (ℓ : Loc Cert.ProjABwdIdeal.nD Cert.ProjABwdIdeal.τ Cert.ProjABwdIdeal.sig) → Buf (Elt Ideal) ℓ) (g : Dev Cert.ProjABwdIdeal.nD → PrngReg), Pre_ProjABwdIdeal_finite9 m →
    θ_run (Cert.ProjABwdIdeal.defs (F := Ideal)) (onTc (τ := Cert.ProjABwdIdeal.τ) (Cert.ProjABwdIdeal.main (F := Ideal))) ⟨m, fun _ => 0, g⟩ (fun r => (∀ c : Dev Cert.ProjABwdIdeal.nD,
      r.2.mem ((c.tc : Thread Cert.ProjABwdIdeal.nD Cert.ProjABwdIdeal.τ).loc Cert.ProjABwdIdeal.main_arg0) = m ((c.tc : Thread Cert.ProjABwdIdeal.nD Cert.ProjABwdIdeal.τ).loc Cert.ProjABwdIdeal.main_arg0)
      ∧ r.2.mem ((c.tc : Thread Cert.ProjABwdIdeal.nD Cert.ProjABwdIdeal.τ).loc Cert.ProjABwdIdeal.main_arg1) = m ((c.tc : Thread Cert.ProjABwdIdeal.nD Cert.ProjABwdIdeal.τ).loc Cert.ProjABwdIdeal.main_arg1)
      ∧ r.2.mem ((c.tc : Thread Cert.ProjABwdIdeal.nD Cert.ProjABwdIdeal.τ).loc Cert.ProjABwdIdeal.main_arg2) = m ((c.tc : Thread Cert.ProjABwdIdeal.nD Cert.ProjABwdIdeal.τ).loc Cert.ProjABwdIdeal.main_arg2)
      ∧ r.2.mem ((c.tc : Thread Cert.ProjABwdIdeal.nD Cert.ProjABwdIdeal.τ).loc Cert.ProjABwdIdeal.main_arg3) = m ((c.tc : Thread Cert.ProjABwdIdeal.nD Cert.ProjABwdIdeal.τ).loc Cert.ProjABwdIdeal.main_arg3)
      ∧ r.2.mem ((c.tc : Thread Cert.ProjABwdIdeal.nD Cert.ProjABwdIdeal.τ).loc Cert.ProjABwdIdeal.main_arg4) = m ((c.tc : Thread Cert.ProjABwdIdeal.nD Cert.ProjABwdIdeal.τ).loc Cert.ProjABwdIdeal.main_arg4))
      ∧ r.2.sem = fun _ => 0)

def quiescent_ProjABwdRefIdeal [hProjABwdRefIdeal : Cert.ProjABwdRefIdeal.Facts] : Prop :=
  ∀ (m : (ℓ : Loc Cert.ProjABwdRefIdeal.nD Cert.ProjABwdRefIdeal.τ Cert.ProjABwdRefIdeal.sig) → Buf (Elt Ideal) ℓ) (g : Dev Cert.ProjABwdRefIdeal.nD → PrngReg), Pre_ProjABwdRefIdeal m →
    θ_run (Cert.ProjABwdRefIdeal.defs (F := Ideal)) (onTc (τ := Cert.ProjABwdRefIdeal.τ) (Cert.ProjABwdRefIdeal.main (F := Ideal))) ⟨m, fun _ => 0, g⟩ (fun r => (∀ c : Dev Cert.ProjABwdRefIdeal.nD,
      r.2.mem ((c.tc : Thread Cert.ProjABwdRefIdeal.nD Cert.ProjABwdRefIdeal.τ).loc Cert.ProjABwdRefIdeal.main_arg0) = m ((c.tc : Thread Cert.ProjABwdRefIdeal.nD Cert.ProjABwdRefIdeal.τ).loc Cert.ProjABwdRefIdeal.main_arg0)
      ∧ r.2.mem ((c.tc : Thread Cert.ProjABwdRefIdeal.nD Cert.ProjABwdRefIdeal.τ).loc Cert.ProjABwdRefIdeal.main_arg1) = m ((c.tc : Thread Cert.ProjABwdRefIdeal.nD Cert.ProjABwdRefIdeal.τ).loc Cert.ProjABwdRefIdeal.main_arg1)
      ∧ r.2.mem ((c.tc : Thread Cert.ProjABwdRefIdeal.nD Cert.ProjABwdRefIdeal.τ).loc Cert.ProjABwdRefIdeal.main_arg2) = m ((c.tc : Thread Cert.ProjABwdRefIdeal.nD Cert.ProjABwdRefIdeal.τ).loc Cert.ProjABwdRefIdeal.main_arg2)
      ∧ r.2.mem ((c.tc : Thread Cert.ProjABwdRefIdeal.nD Cert.ProjABwdRefIdeal.τ).loc Cert.ProjABwdRefIdeal.main_arg3) = m ((c.tc : Thread Cert.ProjABwdRefIdeal.nD Cert.ProjABwdRefIdeal.τ).loc Cert.ProjABwdRefIdeal.main_arg3)
      ∧ r.2.mem ((c.tc : Thread Cert.ProjABwdRefIdeal.nD Cert.ProjABwdRefIdeal.τ).loc Cert.ProjABwdRefIdeal.main_arg4) = m ((c.tc : Thread Cert.ProjABwdRefIdeal.nD Cert.ProjABwdRefIdeal.τ).loc Cert.ProjABwdRefIdeal.main_arg4))
      ∧ r.2.sem = fun _ => 0)

def quiescent_ProjABwdRefIdeal_pre_finite9 [hProjABwdRefIdeal : Cert.ProjABwdRefIdeal.Facts] [hPre_finite9 : Cert.Pre_finite9.Facts] : Prop :=
  ∀ (m : (ℓ : Loc Cert.ProjABwdRefIdeal.nD Cert.ProjABwdRefIdeal.τ Cert.ProjABwdRefIdeal.sig) → Buf (Elt Ideal) ℓ) (g : Dev Cert.ProjABwdRefIdeal.nD → PrngReg), Pre_ProjABwdRefIdeal_finite9 m →
    θ_run (Cert.ProjABwdRefIdeal.defs (F := Ideal)) (onTc (τ := Cert.ProjABwdRefIdeal.τ) (Cert.ProjABwdRefIdeal.main (F := Ideal))) ⟨m, fun _ => 0, g⟩ (fun r => (∀ c : Dev Cert.ProjABwdRefIdeal.nD,
      r.2.mem ((c.tc : Thread Cert.ProjABwdRefIdeal.nD Cert.ProjABwdRefIdeal.τ).loc Cert.ProjABwdRefIdeal.main_arg0) = m ((c.tc : Thread Cert.ProjABwdRefIdeal.nD Cert.ProjABwdRefIdeal.τ).loc Cert.ProjABwdRefIdeal.main_arg0)
      ∧ r.2.mem ((c.tc : Thread Cert.ProjABwdRefIdeal.nD Cert.ProjABwdRefIdeal.τ).loc Cert.ProjABwdRefIdeal.main_arg1) = m ((c.tc : Thread Cert.ProjABwdRefIdeal.nD Cert.ProjABwdRefIdeal.τ).loc Cert.ProjABwdRefIdeal.main_arg1)
      ∧ r.2.mem ((c.tc : Thread Cert.ProjABwdRefIdeal.nD Cert.ProjABwdRefIdeal.τ).loc Cert.ProjABwdRefIdeal.main_arg2) = m ((c.tc : Thread Cert.ProjABwdRefIdeal.nD Cert.ProjABwdRefIdeal.τ).loc Cert.ProjABwdRefIdeal.main_arg2)
      ∧ r.2.mem ((c.tc : Thread Cert.ProjABwdRefIdeal.nD Cert.ProjABwdRefIdeal.τ).loc Cert.ProjABwdRefIdeal.main_arg3) = m ((c.tc : Thread Cert.ProjABwdRefIdeal.nD Cert.ProjABwdRefIdeal.τ).loc Cert.ProjABwdRefIdeal.main_arg3)
      ∧ r.2.mem ((c.tc : Thread Cert.ProjABwdRefIdeal.nD Cert.ProjABwdRefIdeal.τ).loc Cert.ProjABwdRefIdeal.main_arg4) = m ((c.tc : Thread Cert.ProjABwdRefIdeal.nD Cert.ProjABwdRefIdeal.τ).loc Cert.ProjABwdRefIdeal.main_arg4))
      ∧ r.2.sem = fun _ => 0)

def quiescent_ProjBBwd [hProjBBwd : Cert.ProjBBwd.Facts] : Prop :=
  ∀ (m : (ℓ : Loc Cert.ProjBBwd.nD Cert.ProjBBwd.τ Cert.ProjBBwd.sig) → Buf (Elt Bits) ℓ) (g : Dev Cert.ProjBBwd.nD → PrngReg), Pre_ProjBBwd m →
    θ_run (Cert.ProjBBwd.defs (F := Bits)) (onTc (τ := Cert.ProjBBwd.τ) (Cert.ProjBBwd.main (F := Bits))) ⟨m, fun _ => 0, g⟩ (fun r => (∀ c : Dev Cert.ProjBBwd.nD,
      r.2.mem ((c.tc : Thread Cert.ProjBBwd.nD Cert.ProjBBwd.τ).loc Cert.ProjBBwd.main_arg0) = m ((c.tc : Thread Cert.ProjBBwd.nD Cert.ProjBBwd.τ).loc Cert.ProjBBwd.main_arg0)
      ∧ r.2.mem ((c.tc : Thread Cert.ProjBBwd.nD Cert.ProjBBwd.τ).loc Cert.ProjBBwd.main_arg1) = m ((c.tc : Thread Cert.ProjBBwd.nD Cert.ProjBBwd.τ).loc Cert.ProjBBwd.main_arg1)
      ∧ r.2.mem ((c.tc : Thread Cert.ProjBBwd.nD Cert.ProjBBwd.τ).loc Cert.ProjBBwd.main_arg2) = m ((c.tc : Thread Cert.ProjBBwd.nD Cert.ProjBBwd.τ).loc Cert.ProjBBwd.main_arg2)
      ∧ r.2.mem ((c.tc : Thread Cert.ProjBBwd.nD Cert.ProjBBwd.τ).loc Cert.ProjBBwd.main_arg3) = m ((c.tc : Thread Cert.ProjBBwd.nD Cert.ProjBBwd.τ).loc Cert.ProjBBwd.main_arg3)
      ∧ r.2.mem ((c.tc : Thread Cert.ProjBBwd.nD Cert.ProjBBwd.τ).loc Cert.ProjBBwd.main_arg4) = m ((c.tc : Thread Cert.ProjBBwd.nD Cert.ProjBBwd.τ).loc Cert.ProjBBwd.main_arg4))
      ∧ r.2.sem = fun _ => 0)

def quiescent_ProjBBwdIdeal [hProjBBwdIdeal : Cert.ProjBBwdIdeal.Facts] : Prop :=
  ∀ (m : (ℓ : Loc Cert.ProjBBwdIdeal.nD Cert.ProjBBwdIdeal.τ Cert.ProjBBwdIdeal.sig) → Buf (Elt Ideal) ℓ) (g : Dev Cert.ProjBBwdIdeal.nD → PrngReg), Pre_ProjBBwdIdeal m →
    θ_run (Cert.ProjBBwdIdeal.defs (F := Ideal)) (onTc (τ := Cert.ProjBBwdIdeal.τ) (Cert.ProjBBwdIdeal.main (F := Ideal))) ⟨m, fun _ => 0, g⟩ (fun r => (∀ c : Dev Cert.ProjBBwdIdeal.nD,
      r.2.mem ((c.tc : Thread Cert.ProjBBwdIdeal.nD Cert.ProjBBwdIdeal.τ).loc Cert.ProjBBwdIdeal.main_arg0) = m ((c.tc : Thread Cert.ProjBBwdIdeal.nD Cert.ProjBBwdIdeal.τ).loc Cert.ProjBBwdIdeal.main_arg0)
      ∧ r.2.mem ((c.tc : Thread Cert.ProjBBwdIdeal.nD Cert.ProjBBwdIdeal.τ).loc Cert.ProjBBwdIdeal.main_arg1) = m ((c.tc : Thread Cert.ProjBBwdIdeal.nD Cert.ProjBBwdIdeal.τ).loc Cert.ProjBBwdIdeal.main_arg1)
      ∧ r.2.mem ((c.tc : Thread Cert.ProjBBwdIdeal.nD Cert.ProjBBwdIdeal.τ).loc Cert.ProjBBwdIdeal.main_arg2) = m ((c.tc : Thread Cert.ProjBBwdIdeal.nD Cert.ProjBBwdIdeal.τ).loc Cert.ProjBBwdIdeal.main_arg2)
      ∧ r.2.mem ((c.tc : Thread Cert.ProjBBwdIdeal.nD Cert.ProjBBwdIdeal.τ).loc Cert.ProjBBwdIdeal.main_arg3) = m ((c.tc : Thread Cert.ProjBBwdIdeal.nD Cert.ProjBBwdIdeal.τ).loc Cert.ProjBBwdIdeal.main_arg3)
      ∧ r.2.mem ((c.tc : Thread Cert.ProjBBwdIdeal.nD Cert.ProjBBwdIdeal.τ).loc Cert.ProjBBwdIdeal.main_arg4) = m ((c.tc : Thread Cert.ProjBBwdIdeal.nD Cert.ProjBBwdIdeal.τ).loc Cert.ProjBBwdIdeal.main_arg4))
      ∧ r.2.sem = fun _ => 0)

def quiescent_ProjBBwdIdeal_pre_finite10 [hProjBBwdIdeal : Cert.ProjBBwdIdeal.Facts] [hPre_finite10 : Cert.Pre_finite10.Facts] : Prop :=
  ∀ (m : (ℓ : Loc Cert.ProjBBwdIdeal.nD Cert.ProjBBwdIdeal.τ Cert.ProjBBwdIdeal.sig) → Buf (Elt Ideal) ℓ) (g : Dev Cert.ProjBBwdIdeal.nD → PrngReg), Pre_ProjBBwdIdeal_finite10 m →
    θ_run (Cert.ProjBBwdIdeal.defs (F := Ideal)) (onTc (τ := Cert.ProjBBwdIdeal.τ) (Cert.ProjBBwdIdeal.main (F := Ideal))) ⟨m, fun _ => 0, g⟩ (fun r => (∀ c : Dev Cert.ProjBBwdIdeal.nD,
      r.2.mem ((c.tc : Thread Cert.ProjBBwdIdeal.nD Cert.ProjBBwdIdeal.τ).loc Cert.ProjBBwdIdeal.main_arg0) = m ((c.tc : Thread Cert.ProjBBwdIdeal.nD Cert.ProjBBwdIdeal.τ).loc Cert.ProjBBwdIdeal.main_arg0)
      ∧ r.2.mem ((c.tc : Thread Cert.ProjBBwdIdeal.nD Cert.ProjBBwdIdeal.τ).loc Cert.ProjBBwdIdeal.main_arg1) = m ((c.tc : Thread Cert.ProjBBwdIdeal.nD Cert.ProjBBwdIdeal.τ).loc Cert.ProjBBwdIdeal.main_arg1)
      ∧ r.2.mem ((c.tc : Thread Cert.ProjBBwdIdeal.nD Cert.ProjBBwdIdeal.τ).loc Cert.ProjBBwdIdeal.main_arg2) = m ((c.tc : Thread Cert.ProjBBwdIdeal.nD Cert.ProjBBwdIdeal.τ).loc Cert.ProjBBwdIdeal.main_arg2)
      ∧ r.2.mem ((c.tc : Thread Cert.ProjBBwdIdeal.nD Cert.ProjBBwdIdeal.τ).loc Cert.ProjBBwdIdeal.main_arg3) = m ((c.tc : Thread Cert.ProjBBwdIdeal.nD Cert.ProjBBwdIdeal.τ).loc Cert.ProjBBwdIdeal.main_arg3)
      ∧ r.2.mem ((c.tc : Thread Cert.ProjBBwdIdeal.nD Cert.ProjBBwdIdeal.τ).loc Cert.ProjBBwdIdeal.main_arg4) = m ((c.tc : Thread Cert.ProjBBwdIdeal.nD Cert.ProjBBwdIdeal.τ).loc Cert.ProjBBwdIdeal.main_arg4))
      ∧ r.2.sem = fun _ => 0)

def quiescent_ProjBBwdRefIdeal [hProjBBwdRefIdeal : Cert.ProjBBwdRefIdeal.Facts] : Prop :=
  ∀ (m : (ℓ : Loc Cert.ProjBBwdRefIdeal.nD Cert.ProjBBwdRefIdeal.τ Cert.ProjBBwdRefIdeal.sig) → Buf (Elt Ideal) ℓ) (g : Dev Cert.ProjBBwdRefIdeal.nD → PrngReg), Pre_ProjBBwdRefIdeal m →
    θ_run (Cert.ProjBBwdRefIdeal.defs (F := Ideal)) (onTc (τ := Cert.ProjBBwdRefIdeal.τ) (Cert.ProjBBwdRefIdeal.main (F := Ideal))) ⟨m, fun _ => 0, g⟩ (fun r => (∀ c : Dev Cert.ProjBBwdRefIdeal.nD,
      r.2.mem ((c.tc : Thread Cert.ProjBBwdRefIdeal.nD Cert.ProjBBwdRefIdeal.τ).loc Cert.ProjBBwdRefIdeal.main_arg0) = m ((c.tc : Thread Cert.ProjBBwdRefIdeal.nD Cert.ProjBBwdRefIdeal.τ).loc Cert.ProjBBwdRefIdeal.main_arg0)
      ∧ r.2.mem ((c.tc : Thread Cert.ProjBBwdRefIdeal.nD Cert.ProjBBwdRefIdeal.τ).loc Cert.ProjBBwdRefIdeal.main_arg1) = m ((c.tc : Thread Cert.ProjBBwdRefIdeal.nD Cert.ProjBBwdRefIdeal.τ).loc Cert.ProjBBwdRefIdeal.main_arg1)
      ∧ r.2.mem ((c.tc : Thread Cert.ProjBBwdRefIdeal.nD Cert.ProjBBwdRefIdeal.τ).loc Cert.ProjBBwdRefIdeal.main_arg2) = m ((c.tc : Thread Cert.ProjBBwdRefIdeal.nD Cert.ProjBBwdRefIdeal.τ).loc Cert.ProjBBwdRefIdeal.main_arg2)
      ∧ r.2.mem ((c.tc : Thread Cert.ProjBBwdRefIdeal.nD Cert.ProjBBwdRefIdeal.τ).loc Cert.ProjBBwdRefIdeal.main_arg3) = m ((c.tc : Thread Cert.ProjBBwdRefIdeal.nD Cert.ProjBBwdRefIdeal.τ).loc Cert.ProjBBwdRefIdeal.main_arg3)
      ∧ r.2.mem ((c.tc : Thread Cert.ProjBBwdRefIdeal.nD Cert.ProjBBwdRefIdeal.τ).loc Cert.ProjBBwdRefIdeal.main_arg4) = m ((c.tc : Thread Cert.ProjBBwdRefIdeal.nD Cert.ProjBBwdRefIdeal.τ).loc Cert.ProjBBwdRefIdeal.main_arg4))
      ∧ r.2.sem = fun _ => 0)

def quiescent_ProjBBwdRefIdeal_pre_finite10 [hProjBBwdRefIdeal : Cert.ProjBBwdRefIdeal.Facts] [hPre_finite10 : Cert.Pre_finite10.Facts] : Prop :=
  ∀ (m : (ℓ : Loc Cert.ProjBBwdRefIdeal.nD Cert.ProjBBwdRefIdeal.τ Cert.ProjBBwdRefIdeal.sig) → Buf (Elt Ideal) ℓ) (g : Dev Cert.ProjBBwdRefIdeal.nD → PrngReg), Pre_ProjBBwdRefIdeal_finite10 m →
    θ_run (Cert.ProjBBwdRefIdeal.defs (F := Ideal)) (onTc (τ := Cert.ProjBBwdRefIdeal.τ) (Cert.ProjBBwdRefIdeal.main (F := Ideal))) ⟨m, fun _ => 0, g⟩ (fun r => (∀ c : Dev Cert.ProjBBwdRefIdeal.nD,
      r.2.mem ((c.tc : Thread Cert.ProjBBwdRefIdeal.nD Cert.ProjBBwdRefIdeal.τ).loc Cert.ProjBBwdRefIdeal.main_arg0) = m ((c.tc : Thread Cert.ProjBBwdRefIdeal.nD Cert.ProjBBwdRefIdeal.τ).loc Cert.ProjBBwdRefIdeal.main_arg0)
      ∧ r.2.mem ((c.tc : Thread Cert.ProjBBwdRefIdeal.nD Cert.ProjBBwdRefIdeal.τ).loc Cert.ProjBBwdRefIdeal.main_arg1) = m ((c.tc : Thread Cert.ProjBBwdRefIdeal.nD Cert.ProjBBwdRefIdeal.τ).loc Cert.ProjBBwdRefIdeal.main_arg1)
      ∧ r.2.mem ((c.tc : Thread Cert.ProjBBwdRefIdeal.nD Cert.ProjBBwdRefIdeal.τ).loc Cert.ProjBBwdRefIdeal.main_arg2) = m ((c.tc : Thread Cert.ProjBBwdRefIdeal.nD Cert.ProjBBwdRefIdeal.τ).loc Cert.ProjBBwdRefIdeal.main_arg2)
      ∧ r.2.mem ((c.tc : Thread Cert.ProjBBwdRefIdeal.nD Cert.ProjBBwdRefIdeal.τ).loc Cert.ProjBBwdRefIdeal.main_arg3) = m ((c.tc : Thread Cert.ProjBBwdRefIdeal.nD Cert.ProjBBwdRefIdeal.τ).loc Cert.ProjBBwdRefIdeal.main_arg3)
      ∧ r.2.mem ((c.tc : Thread Cert.ProjBBwdRefIdeal.nD Cert.ProjBBwdRefIdeal.τ).loc Cert.ProjBBwdRefIdeal.main_arg4) = m ((c.tc : Thread Cert.ProjBBwdRefIdeal.nD Cert.ProjBBwdRefIdeal.τ).loc Cert.ProjBBwdRefIdeal.main_arg4))
      ∧ r.2.sem = fun _ => 0)

def quiescent_ProjBKvBwd [hProjBKvBwd : Cert.ProjBKvBwd.Facts] : Prop :=
  ∀ (m : (ℓ : Loc Cert.ProjBKvBwd.nD Cert.ProjBKvBwd.τ Cert.ProjBKvBwd.sig) → Buf (Elt Bits) ℓ) (g : Dev Cert.ProjBKvBwd.nD → PrngReg), Pre_ProjBKvBwd m →
    θ_run (Cert.ProjBKvBwd.defs (F := Bits)) (onTc (τ := Cert.ProjBKvBwd.τ) (Cert.ProjBKvBwd.main (F := Bits))) ⟨m, fun _ => 0, g⟩ (fun r => (∀ c : Dev Cert.ProjBKvBwd.nD,
      r.2.mem ((c.tc : Thread Cert.ProjBKvBwd.nD Cert.ProjBKvBwd.τ).loc Cert.ProjBKvBwd.main_arg0) = m ((c.tc : Thread Cert.ProjBKvBwd.nD Cert.ProjBKvBwd.τ).loc Cert.ProjBKvBwd.main_arg0)
      ∧ r.2.mem ((c.tc : Thread Cert.ProjBKvBwd.nD Cert.ProjBKvBwd.τ).loc Cert.ProjBKvBwd.main_arg1) = m ((c.tc : Thread Cert.ProjBKvBwd.nD Cert.ProjBKvBwd.τ).loc Cert.ProjBKvBwd.main_arg1)
      ∧ r.2.mem ((c.tc : Thread Cert.ProjBKvBwd.nD Cert.ProjBKvBwd.τ).loc Cert.ProjBKvBwd.main_arg2) = m ((c.tc : Thread Cert.ProjBKvBwd.nD Cert.ProjBKvBwd.τ).loc Cert.ProjBKvBwd.main_arg2)
      ∧ r.2.mem ((c.tc : Thread Cert.ProjBKvBwd.nD Cert.ProjBKvBwd.τ).loc Cert.ProjBKvBwd.main_arg3) = m ((c.tc : Thread Cert.ProjBKvBwd.nD Cert.ProjBKvBwd.τ).loc Cert.ProjBKvBwd.main_arg3)
      ∧ r.2.mem ((c.tc : Thread Cert.ProjBKvBwd.nD Cert.ProjBKvBwd.τ).loc Cert.ProjBKvBwd.main_arg4) = m ((c.tc : Thread Cert.ProjBKvBwd.nD Cert.ProjBKvBwd.τ).loc Cert.ProjBKvBwd.main_arg4)
      ∧ r.2.mem ((c.tc : Thread Cert.ProjBKvBwd.nD Cert.ProjBKvBwd.τ).loc Cert.ProjBKvBwd.main_arg5) = m ((c.tc : Thread Cert.ProjBKvBwd.nD Cert.ProjBKvBwd.τ).loc Cert.ProjBKvBwd.main_arg5)
      ∧ r.2.mem ((c.tc : Thread Cert.ProjBKvBwd.nD Cert.ProjBKvBwd.τ).loc Cert.ProjBKvBwd.main_arg6) = m ((c.tc : Thread Cert.ProjBKvBwd.nD Cert.ProjBKvBwd.τ).loc Cert.ProjBKvBwd.main_arg6)
      ∧ r.2.mem ((c.tc : Thread Cert.ProjBKvBwd.nD Cert.ProjBKvBwd.τ).loc Cert.ProjBKvBwd.main_arg7) = m ((c.tc : Thread Cert.ProjBKvBwd.nD Cert.ProjBKvBwd.τ).loc Cert.ProjBKvBwd.main_arg7)
      ∧ r.2.mem ((c.tc : Thread Cert.ProjBKvBwd.nD Cert.ProjBKvBwd.τ).loc Cert.ProjBKvBwd.main_arg8) = m ((c.tc : Thread Cert.ProjBKvBwd.nD Cert.ProjBKvBwd.τ).loc Cert.ProjBKvBwd.main_arg8)
      ∧ r.2.mem ((c.tc : Thread Cert.ProjBKvBwd.nD Cert.ProjBKvBwd.τ).loc Cert.ProjBKvBwd.main_arg9) = m ((c.tc : Thread Cert.ProjBKvBwd.nD Cert.ProjBKvBwd.τ).loc Cert.ProjBKvBwd.main_arg9)
      ∧ r.2.mem ((c.tc : Thread Cert.ProjBKvBwd.nD Cert.ProjBKvBwd.τ).loc Cert.ProjBKvBwd.main_arg10) = m ((c.tc : Thread Cert.ProjBKvBwd.nD Cert.ProjBKvBwd.τ).loc Cert.ProjBKvBwd.main_arg10))
      ∧ r.2.sem = fun _ => 0)

def quiescent_ProjBKvBwdIdeal [hProjBKvBwdIdeal : Cert.ProjBKvBwdIdeal.Facts] : Prop :=
  ∀ (m : (ℓ : Loc Cert.ProjBKvBwdIdeal.nD Cert.ProjBKvBwdIdeal.τ Cert.ProjBKvBwdIdeal.sig) → Buf (Elt Ideal) ℓ) (g : Dev Cert.ProjBKvBwdIdeal.nD → PrngReg), Pre_ProjBKvBwdIdeal m →
    θ_run (Cert.ProjBKvBwdIdeal.defs (F := Ideal)) (onTc (τ := Cert.ProjBKvBwdIdeal.τ) (Cert.ProjBKvBwdIdeal.main (F := Ideal))) ⟨m, fun _ => 0, g⟩ (fun r => (∀ c : Dev Cert.ProjBKvBwdIdeal.nD,
      r.2.mem ((c.tc : Thread Cert.ProjBKvBwdIdeal.nD Cert.ProjBKvBwdIdeal.τ).loc Cert.ProjBKvBwdIdeal.main_arg0) = m ((c.tc : Thread Cert.ProjBKvBwdIdeal.nD Cert.ProjBKvBwdIdeal.τ).loc Cert.ProjBKvBwdIdeal.main_arg0)
      ∧ r.2.mem ((c.tc : Thread Cert.ProjBKvBwdIdeal.nD Cert.ProjBKvBwdIdeal.τ).loc Cert.ProjBKvBwdIdeal.main_arg1) = m ((c.tc : Thread Cert.ProjBKvBwdIdeal.nD Cert.ProjBKvBwdIdeal.τ).loc Cert.ProjBKvBwdIdeal.main_arg1)
      ∧ r.2.mem ((c.tc : Thread Cert.ProjBKvBwdIdeal.nD Cert.ProjBKvBwdIdeal.τ).loc Cert.ProjBKvBwdIdeal.main_arg2) = m ((c.tc : Thread Cert.ProjBKvBwdIdeal.nD Cert.ProjBKvBwdIdeal.τ).loc Cert.ProjBKvBwdIdeal.main_arg2)
      ∧ r.2.mem ((c.tc : Thread Cert.ProjBKvBwdIdeal.nD Cert.ProjBKvBwdIdeal.τ).loc Cert.ProjBKvBwdIdeal.main_arg3) = m ((c.tc : Thread Cert.ProjBKvBwdIdeal.nD Cert.ProjBKvBwdIdeal.τ).loc Cert.ProjBKvBwdIdeal.main_arg3)
      ∧ r.2.mem ((c.tc : Thread Cert.ProjBKvBwdIdeal.nD Cert.ProjBKvBwdIdeal.τ).loc Cert.ProjBKvBwdIdeal.main_arg4) = m ((c.tc : Thread Cert.ProjBKvBwdIdeal.nD Cert.ProjBKvBwdIdeal.τ).loc Cert.ProjBKvBwdIdeal.main_arg4)
      ∧ r.2.mem ((c.tc : Thread Cert.ProjBKvBwdIdeal.nD Cert.ProjBKvBwdIdeal.τ).loc Cert.ProjBKvBwdIdeal.main_arg5) = m ((c.tc : Thread Cert.ProjBKvBwdIdeal.nD Cert.ProjBKvBwdIdeal.τ).loc Cert.ProjBKvBwdIdeal.main_arg5)
      ∧ r.2.mem ((c.tc : Thread Cert.ProjBKvBwdIdeal.nD Cert.ProjBKvBwdIdeal.τ).loc Cert.ProjBKvBwdIdeal.main_arg6) = m ((c.tc : Thread Cert.ProjBKvBwdIdeal.nD Cert.ProjBKvBwdIdeal.τ).loc Cert.ProjBKvBwdIdeal.main_arg6)
      ∧ r.2.mem ((c.tc : Thread Cert.ProjBKvBwdIdeal.nD Cert.ProjBKvBwdIdeal.τ).loc Cert.ProjBKvBwdIdeal.main_arg7) = m ((c.tc : Thread Cert.ProjBKvBwdIdeal.nD Cert.ProjBKvBwdIdeal.τ).loc Cert.ProjBKvBwdIdeal.main_arg7)
      ∧ r.2.mem ((c.tc : Thread Cert.ProjBKvBwdIdeal.nD Cert.ProjBKvBwdIdeal.τ).loc Cert.ProjBKvBwdIdeal.main_arg8) = m ((c.tc : Thread Cert.ProjBKvBwdIdeal.nD Cert.ProjBKvBwdIdeal.τ).loc Cert.ProjBKvBwdIdeal.main_arg8)
      ∧ r.2.mem ((c.tc : Thread Cert.ProjBKvBwdIdeal.nD Cert.ProjBKvBwdIdeal.τ).loc Cert.ProjBKvBwdIdeal.main_arg9) = m ((c.tc : Thread Cert.ProjBKvBwdIdeal.nD Cert.ProjBKvBwdIdeal.τ).loc Cert.ProjBKvBwdIdeal.main_arg9)
      ∧ r.2.mem ((c.tc : Thread Cert.ProjBKvBwdIdeal.nD Cert.ProjBKvBwdIdeal.τ).loc Cert.ProjBKvBwdIdeal.main_arg10) = m ((c.tc : Thread Cert.ProjBKvBwdIdeal.nD Cert.ProjBKvBwdIdeal.τ).loc Cert.ProjBKvBwdIdeal.main_arg10))
      ∧ r.2.sem = fun _ => 0)

def quiescent_ProjBKvBwdIdeal_pre_finite11 [hProjBKvBwdIdeal : Cert.ProjBKvBwdIdeal.Facts] [hPre_finite11 : Cert.Pre_finite11.Facts] : Prop :=
  ∀ (m : (ℓ : Loc Cert.ProjBKvBwdIdeal.nD Cert.ProjBKvBwdIdeal.τ Cert.ProjBKvBwdIdeal.sig) → Buf (Elt Ideal) ℓ) (g : Dev Cert.ProjBKvBwdIdeal.nD → PrngReg), Pre_ProjBKvBwdIdeal_finite11 m →
    θ_run (Cert.ProjBKvBwdIdeal.defs (F := Ideal)) (onTc (τ := Cert.ProjBKvBwdIdeal.τ) (Cert.ProjBKvBwdIdeal.main (F := Ideal))) ⟨m, fun _ => 0, g⟩ (fun r => (∀ c : Dev Cert.ProjBKvBwdIdeal.nD,
      r.2.mem ((c.tc : Thread Cert.ProjBKvBwdIdeal.nD Cert.ProjBKvBwdIdeal.τ).loc Cert.ProjBKvBwdIdeal.main_arg0) = m ((c.tc : Thread Cert.ProjBKvBwdIdeal.nD Cert.ProjBKvBwdIdeal.τ).loc Cert.ProjBKvBwdIdeal.main_arg0)
      ∧ r.2.mem ((c.tc : Thread Cert.ProjBKvBwdIdeal.nD Cert.ProjBKvBwdIdeal.τ).loc Cert.ProjBKvBwdIdeal.main_arg1) = m ((c.tc : Thread Cert.ProjBKvBwdIdeal.nD Cert.ProjBKvBwdIdeal.τ).loc Cert.ProjBKvBwdIdeal.main_arg1)
      ∧ r.2.mem ((c.tc : Thread Cert.ProjBKvBwdIdeal.nD Cert.ProjBKvBwdIdeal.τ).loc Cert.ProjBKvBwdIdeal.main_arg2) = m ((c.tc : Thread Cert.ProjBKvBwdIdeal.nD Cert.ProjBKvBwdIdeal.τ).loc Cert.ProjBKvBwdIdeal.main_arg2)
      ∧ r.2.mem ((c.tc : Thread Cert.ProjBKvBwdIdeal.nD Cert.ProjBKvBwdIdeal.τ).loc Cert.ProjBKvBwdIdeal.main_arg3) = m ((c.tc : Thread Cert.ProjBKvBwdIdeal.nD Cert.ProjBKvBwdIdeal.τ).loc Cert.ProjBKvBwdIdeal.main_arg3)
      ∧ r.2.mem ((c.tc : Thread Cert.ProjBKvBwdIdeal.nD Cert.ProjBKvBwdIdeal.τ).loc Cert.ProjBKvBwdIdeal.main_arg4) = m ((c.tc : Thread Cert.ProjBKvBwdIdeal.nD Cert.ProjBKvBwdIdeal.τ).loc Cert.ProjBKvBwdIdeal.main_arg4)
      ∧ r.2.mem ((c.tc : Thread Cert.ProjBKvBwdIdeal.nD Cert.ProjBKvBwdIdeal.τ).loc Cert.ProjBKvBwdIdeal.main_arg5) = m ((c.tc : Thread Cert.ProjBKvBwdIdeal.nD Cert.ProjBKvBwdIdeal.τ).loc Cert.ProjBKvBwdIdeal.main_arg5)
      ∧ r.2.mem ((c.tc : Thread Cert.ProjBKvBwdIdeal.nD Cert.ProjBKvBwdIdeal.τ).loc Cert.ProjBKvBwdIdeal.main_arg6) = m ((c.tc : Thread Cert.ProjBKvBwdIdeal.nD Cert.ProjBKvBwdIdeal.τ).loc Cert.ProjBKvBwdIdeal.main_arg6)
      ∧ r.2.mem ((c.tc : Thread Cert.ProjBKvBwdIdeal.nD Cert.ProjBKvBwdIdeal.τ).loc Cert.ProjBKvBwdIdeal.main_arg7) = m ((c.tc : Thread Cert.ProjBKvBwdIdeal.nD Cert.ProjBKvBwdIdeal.τ).loc Cert.ProjBKvBwdIdeal.main_arg7)
      ∧ r.2.mem ((c.tc : Thread Cert.ProjBKvBwdIdeal.nD Cert.ProjBKvBwdIdeal.τ).loc Cert.ProjBKvBwdIdeal.main_arg8) = m ((c.tc : Thread Cert.ProjBKvBwdIdeal.nD Cert.ProjBKvBwdIdeal.τ).loc Cert.ProjBKvBwdIdeal.main_arg8)
      ∧ r.2.mem ((c.tc : Thread Cert.ProjBKvBwdIdeal.nD Cert.ProjBKvBwdIdeal.τ).loc Cert.ProjBKvBwdIdeal.main_arg9) = m ((c.tc : Thread Cert.ProjBKvBwdIdeal.nD Cert.ProjBKvBwdIdeal.τ).loc Cert.ProjBKvBwdIdeal.main_arg9)
      ∧ r.2.mem ((c.tc : Thread Cert.ProjBKvBwdIdeal.nD Cert.ProjBKvBwdIdeal.τ).loc Cert.ProjBKvBwdIdeal.main_arg10) = m ((c.tc : Thread Cert.ProjBKvBwdIdeal.nD Cert.ProjBKvBwdIdeal.τ).loc Cert.ProjBKvBwdIdeal.main_arg10))
      ∧ r.2.sem = fun _ => 0)

def quiescent_ProjBKvBwdRefIdeal [hProjBKvBwdRefIdeal : Cert.ProjBKvBwdRefIdeal.Facts] : Prop :=
  ∀ (m : (ℓ : Loc Cert.ProjBKvBwdRefIdeal.nD Cert.ProjBKvBwdRefIdeal.τ Cert.ProjBKvBwdRefIdeal.sig) → Buf (Elt Ideal) ℓ) (g : Dev Cert.ProjBKvBwdRefIdeal.nD → PrngReg), Pre_ProjBKvBwdRefIdeal m →
    θ_run (Cert.ProjBKvBwdRefIdeal.defs (F := Ideal)) (onTc (τ := Cert.ProjBKvBwdRefIdeal.τ) (Cert.ProjBKvBwdRefIdeal.main (F := Ideal))) ⟨m, fun _ => 0, g⟩ (fun r => (∀ c : Dev Cert.ProjBKvBwdRefIdeal.nD,
      r.2.mem ((c.tc : Thread Cert.ProjBKvBwdRefIdeal.nD Cert.ProjBKvBwdRefIdeal.τ).loc Cert.ProjBKvBwdRefIdeal.main_arg0) = m ((c.tc : Thread Cert.ProjBKvBwdRefIdeal.nD Cert.ProjBKvBwdRefIdeal.τ).loc Cert.ProjBKvBwdRefIdeal.main_arg0)
      ∧ r.2.mem ((c.tc : Thread Cert.ProjBKvBwdRefIdeal.nD Cert.ProjBKvBwdRefIdeal.τ).loc Cert.ProjBKvBwdRefIdeal.main_arg1) = m ((c.tc : Thread Cert.ProjBKvBwdRefIdeal.nD Cert.ProjBKvBwdRefIdeal.τ).loc Cert.ProjBKvBwdRefIdeal.main_arg1)
      ∧ r.2.mem ((c.tc : Thread Cert.ProjBKvBwdRefIdeal.nD Cert.ProjBKvBwdRefIdeal.τ).loc Cert.ProjBKvBwdRefIdeal.main_arg2) = m ((c.tc : Thread Cert.ProjBKvBwdRefIdeal.nD Cert.ProjBKvBwdRefIdeal.τ).loc Cert.ProjBKvBwdRefIdeal.main_arg2)
      ∧ r.2.mem ((c.tc : Thread Cert.ProjBKvBwdRefIdeal.nD Cert.ProjBKvBwdRefIdeal.τ).loc Cert.ProjBKvBwdRefIdeal.main_arg3) = m ((c.tc : Thread Cert.ProjBKvBwdRefIdeal.nD Cert.ProjBKvBwdRefIdeal.τ).loc Cert.ProjBKvBwdRefIdeal.main_arg3)
      ∧ r.2.mem ((c.tc : Thread Cert.ProjBKvBwdRefIdeal.nD Cert.ProjBKvBwdRefIdeal.τ).loc Cert.ProjBKvBwdRefIdeal.main_arg4) = m ((c.tc : Thread Cert.ProjBKvBwdRefIdeal.nD Cert.ProjBKvBwdRefIdeal.τ).loc Cert.ProjBKvBwdRefIdeal.main_arg4)
      ∧ r.2.mem ((c.tc : Thread Cert.ProjBKvBwdRefIdeal.nD Cert.ProjBKvBwdRefIdeal.τ).loc Cert.ProjBKvBwdRefIdeal.main_arg5) = m ((c.tc : Thread Cert.ProjBKvBwdRefIdeal.nD Cert.ProjBKvBwdRefIdeal.τ).loc Cert.ProjBKvBwdRefIdeal.main_arg5)
      ∧ r.2.mem ((c.tc : Thread Cert.ProjBKvBwdRefIdeal.nD Cert.ProjBKvBwdRefIdeal.τ).loc Cert.ProjBKvBwdRefIdeal.main_arg6) = m ((c.tc : Thread Cert.ProjBKvBwdRefIdeal.nD Cert.ProjBKvBwdRefIdeal.τ).loc Cert.ProjBKvBwdRefIdeal.main_arg6)
      ∧ r.2.mem ((c.tc : Thread Cert.ProjBKvBwdRefIdeal.nD Cert.ProjBKvBwdRefIdeal.τ).loc Cert.ProjBKvBwdRefIdeal.main_arg7) = m ((c.tc : Thread Cert.ProjBKvBwdRefIdeal.nD Cert.ProjBKvBwdRefIdeal.τ).loc Cert.ProjBKvBwdRefIdeal.main_arg7)
      ∧ r.2.mem ((c.tc : Thread Cert.ProjBKvBwdRefIdeal.nD Cert.ProjBKvBwdRefIdeal.τ).loc Cert.ProjBKvBwdRefIdeal.main_arg8) = m ((c.tc : Thread Cert.ProjBKvBwdRefIdeal.nD Cert.ProjBKvBwdRefIdeal.τ).loc Cert.ProjBKvBwdRefIdeal.main_arg8)
      ∧ r.2.mem ((c.tc : Thread Cert.ProjBKvBwdRefIdeal.nD Cert.ProjBKvBwdRefIdeal.τ).loc Cert.ProjBKvBwdRefIdeal.main_arg9) = m ((c.tc : Thread Cert.ProjBKvBwdRefIdeal.nD Cert.ProjBKvBwdRefIdeal.τ).loc Cert.ProjBKvBwdRefIdeal.main_arg9)
      ∧ r.2.mem ((c.tc : Thread Cert.ProjBKvBwdRefIdeal.nD Cert.ProjBKvBwdRefIdeal.τ).loc Cert.ProjBKvBwdRefIdeal.main_arg10) = m ((c.tc : Thread Cert.ProjBKvBwdRefIdeal.nD Cert.ProjBKvBwdRefIdeal.τ).loc Cert.ProjBKvBwdRefIdeal.main_arg10))
      ∧ r.2.sem = fun _ => 0)

def quiescent_ProjBKvBwdRefIdeal_pre_finite11 [hProjBKvBwdRefIdeal : Cert.ProjBKvBwdRefIdeal.Facts] [hPre_finite11 : Cert.Pre_finite11.Facts] : Prop :=
  ∀ (m : (ℓ : Loc Cert.ProjBKvBwdRefIdeal.nD Cert.ProjBKvBwdRefIdeal.τ Cert.ProjBKvBwdRefIdeal.sig) → Buf (Elt Ideal) ℓ) (g : Dev Cert.ProjBKvBwdRefIdeal.nD → PrngReg), Pre_ProjBKvBwdRefIdeal_finite11 m →
    θ_run (Cert.ProjBKvBwdRefIdeal.defs (F := Ideal)) (onTc (τ := Cert.ProjBKvBwdRefIdeal.τ) (Cert.ProjBKvBwdRefIdeal.main (F := Ideal))) ⟨m, fun _ => 0, g⟩ (fun r => (∀ c : Dev Cert.ProjBKvBwdRefIdeal.nD,
      r.2.mem ((c.tc : Thread Cert.ProjBKvBwdRefIdeal.nD Cert.ProjBKvBwdRefIdeal.τ).loc Cert.ProjBKvBwdRefIdeal.main_arg0) = m ((c.tc : Thread Cert.ProjBKvBwdRefIdeal.nD Cert.ProjBKvBwdRefIdeal.τ).loc Cert.ProjBKvBwdRefIdeal.main_arg0)
      ∧ r.2.mem ((c.tc : Thread Cert.ProjBKvBwdRefIdeal.nD Cert.ProjBKvBwdRefIdeal.τ).loc Cert.ProjBKvBwdRefIdeal.main_arg1) = m ((c.tc : Thread Cert.ProjBKvBwdRefIdeal.nD Cert.ProjBKvBwdRefIdeal.τ).loc Cert.ProjBKvBwdRefIdeal.main_arg1)
      ∧ r.2.mem ((c.tc : Thread Cert.ProjBKvBwdRefIdeal.nD Cert.ProjBKvBwdRefIdeal.τ).loc Cert.ProjBKvBwdRefIdeal.main_arg2) = m ((c.tc : Thread Cert.ProjBKvBwdRefIdeal.nD Cert.ProjBKvBwdRefIdeal.τ).loc Cert.ProjBKvBwdRefIdeal.main_arg2)
      ∧ r.2.mem ((c.tc : Thread Cert.ProjBKvBwdRefIdeal.nD Cert.ProjBKvBwdRefIdeal.τ).loc Cert.ProjBKvBwdRefIdeal.main_arg3) = m ((c.tc : Thread Cert.ProjBKvBwdRefIdeal.nD Cert.ProjBKvBwdRefIdeal.τ).loc Cert.ProjBKvBwdRefIdeal.main_arg3)
      ∧ r.2.mem ((c.tc : Thread Cert.ProjBKvBwdRefIdeal.nD Cert.ProjBKvBwdRefIdeal.τ).loc Cert.ProjBKvBwdRefIdeal.main_arg4) = m ((c.tc : Thread Cert.ProjBKvBwdRefIdeal.nD Cert.ProjBKvBwdRefIdeal.τ).loc Cert.ProjBKvBwdRefIdeal.main_arg4)
      ∧ r.2.mem ((c.tc : Thread Cert.ProjBKvBwdRefIdeal.nD Cert.ProjBKvBwdRefIdeal.τ).loc Cert.ProjBKvBwdRefIdeal.main_arg5) = m ((c.tc : Thread Cert.ProjBKvBwdRefIdeal.nD Cert.ProjBKvBwdRefIdeal.τ).loc Cert.ProjBKvBwdRefIdeal.main_arg5)
      ∧ r.2.mem ((c.tc : Thread Cert.ProjBKvBwdRefIdeal.nD Cert.ProjBKvBwdRefIdeal.τ).loc Cert.ProjBKvBwdRefIdeal.main_arg6) = m ((c.tc : Thread Cert.ProjBKvBwdRefIdeal.nD Cert.ProjBKvBwdRefIdeal.τ).loc Cert.ProjBKvBwdRefIdeal.main_arg6)
      ∧ r.2.mem ((c.tc : Thread Cert.ProjBKvBwdRefIdeal.nD Cert.ProjBKvBwdRefIdeal.τ).loc Cert.ProjBKvBwdRefIdeal.main_arg7) = m ((c.tc : Thread Cert.ProjBKvBwdRefIdeal.nD Cert.ProjBKvBwdRefIdeal.τ).loc Cert.ProjBKvBwdRefIdeal.main_arg7)
      ∧ r.2.mem ((c.tc : Thread Cert.ProjBKvBwdRefIdeal.nD Cert.ProjBKvBwdRefIdeal.τ).loc Cert.ProjBKvBwdRefIdeal.main_arg8) = m ((c.tc : Thread Cert.ProjBKvBwdRefIdeal.nD Cert.ProjBKvBwdRefIdeal.τ).loc Cert.ProjBKvBwdRefIdeal.main_arg8)
      ∧ r.2.mem ((c.tc : Thread Cert.ProjBKvBwdRefIdeal.nD Cert.ProjBKvBwdRefIdeal.τ).loc Cert.ProjBKvBwdRefIdeal.main_arg9) = m ((c.tc : Thread Cert.ProjBKvBwdRefIdeal.nD Cert.ProjBKvBwdRefIdeal.τ).loc Cert.ProjBKvBwdRefIdeal.main_arg9)
      ∧ r.2.mem ((c.tc : Thread Cert.ProjBKvBwdRefIdeal.nD Cert.ProjBKvBwdRefIdeal.τ).loc Cert.ProjBKvBwdRefIdeal.main_arg10) = m ((c.tc : Thread Cert.ProjBKvBwdRefIdeal.nD Cert.ProjBKvBwdRefIdeal.τ).loc Cert.ProjBKvBwdRefIdeal.main_arg10))
      ∧ r.2.sem = fun _ => 0)

def quiescent_WgradKv [hWgradKv : Cert.WgradKv.Facts] : Prop :=
  ∀ (m : (ℓ : Loc Cert.WgradKv.nD Cert.WgradKv.τ Cert.WgradKv.sig) → Buf (Elt Bits) ℓ) (g : Dev Cert.WgradKv.nD → PrngReg), Pre_WgradKv m →
    θ_run (Cert.WgradKv.defs (F := Bits)) (onTc (τ := Cert.WgradKv.τ) (Cert.WgradKv.main (F := Bits))) ⟨m, fun _ => 0, g⟩ (fun r => (∀ c : Dev Cert.WgradKv.nD,
      r.2.mem ((c.tc : Thread Cert.WgradKv.nD Cert.WgradKv.τ).loc Cert.WgradKv.main_arg0) = m ((c.tc : Thread Cert.WgradKv.nD Cert.WgradKv.τ).loc Cert.WgradKv.main_arg0)
      ∧ r.2.mem ((c.tc : Thread Cert.WgradKv.nD Cert.WgradKv.τ).loc Cert.WgradKv.main_arg1) = m ((c.tc : Thread Cert.WgradKv.nD Cert.WgradKv.τ).loc Cert.WgradKv.main_arg1))
      ∧ r.2.sem = fun _ => 0)

def quiescent_WgradKvIdeal [hWgradKvIdeal : Cert.WgradKvIdeal.Facts] : Prop :=
  ∀ (m : (ℓ : Loc Cert.WgradKvIdeal.nD Cert.WgradKvIdeal.τ Cert.WgradKvIdeal.sig) → Buf (Elt Ideal) ℓ) (g : Dev Cert.WgradKvIdeal.nD → PrngReg), Pre_WgradKvIdeal m →
    θ_run (Cert.WgradKvIdeal.defs (F := Ideal)) (onTc (τ := Cert.WgradKvIdeal.τ) (Cert.WgradKvIdeal.main (F := Ideal))) ⟨m, fun _ => 0, g⟩ (fun r => (∀ c : Dev Cert.WgradKvIdeal.nD,
      r.2.mem ((c.tc : Thread Cert.WgradKvIdeal.nD Cert.WgradKvIdeal.τ).loc Cert.WgradKvIdeal.main_arg0) = m ((c.tc : Thread Cert.WgradKvIdeal.nD Cert.WgradKvIdeal.τ).loc Cert.WgradKvIdeal.main_arg0)
      ∧ r.2.mem ((c.tc : Thread Cert.WgradKvIdeal.nD Cert.WgradKvIdeal.τ).loc Cert.WgradKvIdeal.main_arg1) = m ((c.tc : Thread Cert.WgradKvIdeal.nD Cert.WgradKvIdeal.τ).loc Cert.WgradKvIdeal.main_arg1))
      ∧ r.2.sem = fun _ => 0)

def quiescent_WgradKvRefIdeal [hWgradKvRefIdeal : Cert.WgradKvRefIdeal.Facts] : Prop :=
  ∀ (m : (ℓ : Loc Cert.WgradKvRefIdeal.nD Cert.WgradKvRefIdeal.τ Cert.WgradKvRefIdeal.sig) → Buf (Elt Ideal) ℓ) (g : Dev Cert.WgradKvRefIdeal.nD → PrngReg), Pre_WgradKvRefIdeal m →
    θ_run (Cert.WgradKvRefIdeal.defs (F := Ideal)) (onTc (τ := Cert.WgradKvRefIdeal.τ) (Cert.WgradKvRefIdeal.main (F := Ideal))) ⟨m, fun _ => 0, g⟩ (fun r => (∀ c : Dev Cert.WgradKvRefIdeal.nD,
      r.2.mem ((c.tc : Thread Cert.WgradKvRefIdeal.nD Cert.WgradKvRefIdeal.τ).loc Cert.WgradKvRefIdeal.main_arg0) = m ((c.tc : Thread Cert.WgradKvRefIdeal.nD Cert.WgradKvRefIdeal.τ).loc Cert.WgradKvRefIdeal.main_arg0)
      ∧ r.2.mem ((c.tc : Thread Cert.WgradKvRefIdeal.nD Cert.WgradKvRefIdeal.τ).loc Cert.WgradKvRefIdeal.main_arg1) = m ((c.tc : Thread Cert.WgradKvRefIdeal.nD Cert.WgradKvRefIdeal.τ).loc Cert.WgradKvRefIdeal.main_arg1))
      ∧ r.2.sem = fun _ => 0)

def quiescent_ProjAFwd [hProjAFwd : Cert.ProjAFwd.Facts] : Prop :=
  ∀ (m : (ℓ : Loc Cert.ProjAFwd.nD Cert.ProjAFwd.τ Cert.ProjAFwd.sig) → Buf (Elt Bits) ℓ) (g : Dev Cert.ProjAFwd.nD → PrngReg), Pre_ProjAFwd m →
    θ_run (Cert.ProjAFwd.defs (F := Bits)) (onTc (τ := Cert.ProjAFwd.τ) (Cert.ProjAFwd.main (F := Bits))) ⟨m, fun _ => 0, g⟩ (fun r => (∀ c : Dev Cert.ProjAFwd.nD,
      r.2.mem ((c.tc : Thread Cert.ProjAFwd.nD Cert.ProjAFwd.τ).loc Cert.ProjAFwd.main_arg0) = m ((c.tc : Thread Cert.ProjAFwd.nD Cert.ProjAFwd.τ).loc Cert.ProjAFwd.main_arg0)
      ∧ r.2.mem ((c.tc : Thread Cert.ProjAFwd.nD Cert.ProjAFwd.τ).loc Cert.ProjAFwd.main_arg1) = m ((c.tc : Thread Cert.ProjAFwd.nD Cert.ProjAFwd.τ).loc Cert.ProjAFwd.main_arg1)
      ∧ r.2.mem ((c.tc : Thread Cert.ProjAFwd.nD Cert.ProjAFwd.τ).loc Cert.ProjAFwd.main_arg2) = m ((c.tc : Thread Cert.ProjAFwd.nD Cert.ProjAFwd.τ).loc Cert.ProjAFwd.main_arg2))
      ∧ r.2.sem = fun _ => 0)

def quiescent_ProjAFwdIdeal [hProjAFwdIdeal : Cert.ProjAFwdIdeal.Facts] : Prop :=
  ∀ (m : (ℓ : Loc Cert.ProjAFwdIdeal.nD Cert.ProjAFwdIdeal.τ Cert.ProjAFwdIdeal.sig) → Buf (Elt Ideal) ℓ) (g : Dev Cert.ProjAFwdIdeal.nD → PrngReg), Pre_ProjAFwdIdeal m →
    θ_run (Cert.ProjAFwdIdeal.defs (F := Ideal)) (onTc (τ := Cert.ProjAFwdIdeal.τ) (Cert.ProjAFwdIdeal.main (F := Ideal))) ⟨m, fun _ => 0, g⟩ (fun r => (∀ c : Dev Cert.ProjAFwdIdeal.nD,
      r.2.mem ((c.tc : Thread Cert.ProjAFwdIdeal.nD Cert.ProjAFwdIdeal.τ).loc Cert.ProjAFwdIdeal.main_arg0) = m ((c.tc : Thread Cert.ProjAFwdIdeal.nD Cert.ProjAFwdIdeal.τ).loc Cert.ProjAFwdIdeal.main_arg0)
      ∧ r.2.mem ((c.tc : Thread Cert.ProjAFwdIdeal.nD Cert.ProjAFwdIdeal.τ).loc Cert.ProjAFwdIdeal.main_arg1) = m ((c.tc : Thread Cert.ProjAFwdIdeal.nD Cert.ProjAFwdIdeal.τ).loc Cert.ProjAFwdIdeal.main_arg1)
      ∧ r.2.mem ((c.tc : Thread Cert.ProjAFwdIdeal.nD Cert.ProjAFwdIdeal.τ).loc Cert.ProjAFwdIdeal.main_arg2) = m ((c.tc : Thread Cert.ProjAFwdIdeal.nD Cert.ProjAFwdIdeal.τ).loc Cert.ProjAFwdIdeal.main_arg2))
      ∧ r.2.sem = fun _ => 0)

def quiescent_ProjAFwdRefIdeal [hProjAFwdRefIdeal : Cert.ProjAFwdRefIdeal.Facts] : Prop :=
  ∀ (m : (ℓ : Loc Cert.ProjAFwdRefIdeal.nD Cert.ProjAFwdRefIdeal.τ Cert.ProjAFwdRefIdeal.sig) → Buf (Elt Ideal) ℓ) (g : Dev Cert.ProjAFwdRefIdeal.nD → PrngReg), Pre_ProjAFwdRefIdeal m →
    θ_run (Cert.ProjAFwdRefIdeal.defs (F := Ideal)) (onTc (τ := Cert.ProjAFwdRefIdeal.τ) (Cert.ProjAFwdRefIdeal.main (F := Ideal))) ⟨m, fun _ => 0, g⟩ (fun r => (∀ c : Dev Cert.ProjAFwdRefIdeal.nD,
      r.2.mem ((c.tc : Thread Cert.ProjAFwdRefIdeal.nD Cert.ProjAFwdRefIdeal.τ).loc Cert.ProjAFwdRefIdeal.main_arg0) = m ((c.tc : Thread Cert.ProjAFwdRefIdeal.nD Cert.ProjAFwdRefIdeal.τ).loc Cert.ProjAFwdRefIdeal.main_arg0)
      ∧ r.2.mem ((c.tc : Thread Cert.ProjAFwdRefIdeal.nD Cert.ProjAFwdRefIdeal.τ).loc Cert.ProjAFwdRefIdeal.main_arg1) = m ((c.tc : Thread Cert.ProjAFwdRefIdeal.nD Cert.ProjAFwdRefIdeal.τ).loc Cert.ProjAFwdRefIdeal.main_arg1)
      ∧ r.2.mem ((c.tc : Thread Cert.ProjAFwdRefIdeal.nD Cert.ProjAFwdRefIdeal.τ).loc Cert.ProjAFwdRefIdeal.main_arg2) = m ((c.tc : Thread Cert.ProjAFwdRefIdeal.nD Cert.ProjAFwdRefIdeal.τ).loc Cert.ProjAFwdRefIdeal.main_arg2))
      ∧ r.2.sem = fun _ => 0)

def quiescent_ProjBFwd [hProjBFwd : Cert.ProjBFwd.Facts] : Prop :=
  ∀ (m : (ℓ : Loc Cert.ProjBFwd.nD Cert.ProjBFwd.τ Cert.ProjBFwd.sig) → Buf (Elt Bits) ℓ) (g : Dev Cert.ProjBFwd.nD → PrngReg), Pre_ProjBFwd m →
    θ_run (Cert.ProjBFwd.defs (F := Bits)) (onTc (τ := Cert.ProjBFwd.τ) (Cert.ProjBFwd.main (F := Bits))) ⟨m, fun _ => 0, g⟩ (fun r => (∀ c : Dev Cert.ProjBFwd.nD,
      r.2.mem ((c.tc : Thread Cert.ProjBFwd.nD Cert.ProjBFwd.τ).loc Cert.ProjBFwd.main_arg0) = m ((c.tc : Thread Cert.ProjBFwd.nD Cert.ProjBFwd.τ).loc Cert.ProjBFwd.main_arg0)
      ∧ r.2.mem ((c.tc : Thread Cert.ProjBFwd.nD Cert.ProjBFwd.τ).loc Cert.ProjBFwd.main_arg1) = m ((c.tc : Thread Cert.ProjBFwd.nD Cert.ProjBFwd.τ).loc Cert.ProjBFwd.main_arg1)
      ∧ r.2.mem ((c.tc : Thread Cert.ProjBFwd.nD Cert.ProjBFwd.τ).loc Cert.ProjBFwd.main_arg2) = m ((c.tc : Thread Cert.ProjBFwd.nD Cert.ProjBFwd.τ).loc Cert.ProjBFwd.main_arg2))
      ∧ r.2.sem = fun _ => 0)

def quiescent_ProjBFwdIdeal [hProjBFwdIdeal : Cert.ProjBFwdIdeal.Facts] : Prop :=
  ∀ (m : (ℓ : Loc Cert.ProjBFwdIdeal.nD Cert.ProjBFwdIdeal.τ Cert.ProjBFwdIdeal.sig) → Buf (Elt Ideal) ℓ) (g : Dev Cert.ProjBFwdIdeal.nD → PrngReg), Pre_ProjBFwdIdeal m →
    θ_run (Cert.ProjBFwdIdeal.defs (F := Ideal)) (onTc (τ := Cert.ProjBFwdIdeal.τ) (Cert.ProjBFwdIdeal.main (F := Ideal))) ⟨m, fun _ => 0, g⟩ (fun r => (∀ c : Dev Cert.ProjBFwdIdeal.nD,
      r.2.mem ((c.tc : Thread Cert.ProjBFwdIdeal.nD Cert.ProjBFwdIdeal.τ).loc Cert.ProjBFwdIdeal.main_arg0) = m ((c.tc : Thread Cert.ProjBFwdIdeal.nD Cert.ProjBFwdIdeal.τ).loc Cert.ProjBFwdIdeal.main_arg0)
      ∧ r.2.mem ((c.tc : Thread Cert.ProjBFwdIdeal.nD Cert.ProjBFwdIdeal.τ).loc Cert.ProjBFwdIdeal.main_arg1) = m ((c.tc : Thread Cert.ProjBFwdIdeal.nD Cert.ProjBFwdIdeal.τ).loc Cert.ProjBFwdIdeal.main_arg1)
      ∧ r.2.mem ((c.tc : Thread Cert.ProjBFwdIdeal.nD Cert.ProjBFwdIdeal.τ).loc Cert.ProjBFwdIdeal.main_arg2) = m ((c.tc : Thread Cert.ProjBFwdIdeal.nD Cert.ProjBFwdIdeal.τ).loc Cert.ProjBFwdIdeal.main_arg2))
      ∧ r.2.sem = fun _ => 0)

def quiescent_ProjBFwdRefIdeal [hProjBFwdRefIdeal : Cert.ProjBFwdRefIdeal.Facts] : Prop :=
  ∀ (m : (ℓ : Loc Cert.ProjBFwdRefIdeal.nD Cert.ProjBFwdRefIdeal.τ Cert.ProjBFwdRefIdeal.sig) → Buf (Elt Ideal) ℓ) (g : Dev Cert.ProjBFwdRefIdeal.nD → PrngReg), Pre_ProjBFwdRefIdeal m →
    θ_run (Cert.ProjBFwdRefIdeal.defs (F := Ideal)) (onTc (τ := Cert.ProjBFwdRefIdeal.τ) (Cert.ProjBFwdRefIdeal.main (F := Ideal))) ⟨m, fun _ => 0, g⟩ (fun r => (∀ c : Dev Cert.ProjBFwdRefIdeal.nD,
      r.2.mem ((c.tc : Thread Cert.ProjBFwdRefIdeal.nD Cert.ProjBFwdRefIdeal.τ).loc Cert.ProjBFwdRefIdeal.main_arg0) = m ((c.tc : Thread Cert.ProjBFwdRefIdeal.nD Cert.ProjBFwdRefIdeal.τ).loc Cert.ProjBFwdRefIdeal.main_arg0)
      ∧ r.2.mem ((c.tc : Thread Cert.ProjBFwdRefIdeal.nD Cert.ProjBFwdRefIdeal.τ).loc Cert.ProjBFwdRefIdeal.main_arg1) = m ((c.tc : Thread Cert.ProjBFwdRefIdeal.nD Cert.ProjBFwdRefIdeal.τ).loc Cert.ProjBFwdRefIdeal.main_arg1)
      ∧ r.2.mem ((c.tc : Thread Cert.ProjBFwdRefIdeal.nD Cert.ProjBFwdRefIdeal.τ).loc Cert.ProjBFwdRefIdeal.main_arg2) = m ((c.tc : Thread Cert.ProjBFwdRefIdeal.nD Cert.ProjBFwdRefIdeal.τ).loc Cert.ProjBFwdRefIdeal.main_arg2))
      ∧ r.2.sem = fun _ => 0)

def quiescent_ProjBKvFwd [hProjBKvFwd : Cert.ProjBKvFwd.Facts] : Prop :=
  ∀ (m : (ℓ : Loc Cert.ProjBKvFwd.nD Cert.ProjBKvFwd.τ Cert.ProjBKvFwd.sig) → Buf (Elt Bits) ℓ) (g : Dev Cert.ProjBKvFwd.nD → PrngReg), Pre_ProjBKvFwd m →
    θ_run (Cert.ProjBKvFwd.defs (F := Bits)) (onTc (τ := Cert.ProjBKvFwd.τ) (Cert.ProjBKvFwd.main (F := Bits))) ⟨m, fun _ => 0, g⟩ (fun r => (∀ c : Dev Cert.ProjBKvFwd.nD,
      r.2.mem ((c.tc : Thread Cert.ProjBKvFwd.nD Cert.ProjBKvFwd.τ).loc Cert.ProjBKvFwd.main_arg0) = m ((c.tc : Thread Cert.ProjBKvFwd.nD Cert.ProjBKvFwd.τ).loc Cert.ProjBKvFwd.main_arg0)
      ∧ r.2.mem ((c.tc : Thread Cert.ProjBKvFwd.nD Cert.ProjBKvFwd.τ).loc Cert.ProjBKvFwd.main_arg1) = m ((c.tc : Thread Cert.ProjBKvFwd.nD Cert.ProjBKvFwd.τ).loc Cert.ProjBKvFwd.main_arg1)
      ∧ r.2.mem ((c.tc : Thread Cert.ProjBKvFwd.nD Cert.ProjBKvFwd.τ).loc Cert.ProjBKvFwd.main_arg2) = m ((c.tc : Thread Cert.ProjBKvFwd.nD Cert.ProjBKvFwd.τ).loc Cert.ProjBKvFwd.main_arg2)
      ∧ r.2.mem ((c.tc : Thread Cert.ProjBKvFwd.nD Cert.ProjBKvFwd.τ).loc Cert.ProjBKvFwd.main_arg3) = m ((c.tc : Thread Cert.ProjBKvFwd.nD Cert.ProjBKvFwd.τ).loc Cert.ProjBKvFwd.main_arg3)
      ∧ r.2.mem ((c.tc : Thread Cert.ProjBKvFwd.nD Cert.ProjBKvFwd.τ).loc Cert.ProjBKvFwd.main_arg4) = m ((c.tc : Thread Cert.ProjBKvFwd.nD Cert.ProjBKvFwd.τ).loc Cert.ProjBKvFwd.main_arg4))
      ∧ r.2.sem = fun _ => 0)

def quiescent_ProjBKvFwdIdeal [hProjBKvFwdIdeal : Cert.ProjBKvFwdIdeal.Facts] : Prop :=
  ∀ (m : (ℓ : Loc Cert.ProjBKvFwdIdeal.nD Cert.ProjBKvFwdIdeal.τ Cert.ProjBKvFwdIdeal.sig) → Buf (Elt Ideal) ℓ) (g : Dev Cert.ProjBKvFwdIdeal.nD → PrngReg), Pre_ProjBKvFwdIdeal m →
    θ_run (Cert.ProjBKvFwdIdeal.defs (F := Ideal)) (onTc (τ := Cert.ProjBKvFwdIdeal.τ) (Cert.ProjBKvFwdIdeal.main (F := Ideal))) ⟨m, fun _ => 0, g⟩ (fun r => (∀ c : Dev Cert.ProjBKvFwdIdeal.nD,
      r.2.mem ((c.tc : Thread Cert.ProjBKvFwdIdeal.nD Cert.ProjBKvFwdIdeal.τ).loc Cert.ProjBKvFwdIdeal.main_arg0) = m ((c.tc : Thread Cert.ProjBKvFwdIdeal.nD Cert.ProjBKvFwdIdeal.τ).loc Cert.ProjBKvFwdIdeal.main_arg0)
      ∧ r.2.mem ((c.tc : Thread Cert.ProjBKvFwdIdeal.nD Cert.ProjBKvFwdIdeal.τ).loc Cert.ProjBKvFwdIdeal.main_arg1) = m ((c.tc : Thread Cert.ProjBKvFwdIdeal.nD Cert.ProjBKvFwdIdeal.τ).loc Cert.ProjBKvFwdIdeal.main_arg1)
      ∧ r.2.mem ((c.tc : Thread Cert.ProjBKvFwdIdeal.nD Cert.ProjBKvFwdIdeal.τ).loc Cert.ProjBKvFwdIdeal.main_arg2) = m ((c.tc : Thread Cert.ProjBKvFwdIdeal.nD Cert.ProjBKvFwdIdeal.τ).loc Cert.ProjBKvFwdIdeal.main_arg2)
      ∧ r.2.mem ((c.tc : Thread Cert.ProjBKvFwdIdeal.nD Cert.ProjBKvFwdIdeal.τ).loc Cert.ProjBKvFwdIdeal.main_arg3) = m ((c.tc : Thread Cert.ProjBKvFwdIdeal.nD Cert.ProjBKvFwdIdeal.τ).loc Cert.ProjBKvFwdIdeal.main_arg3)
      ∧ r.2.mem ((c.tc : Thread Cert.ProjBKvFwdIdeal.nD Cert.ProjBKvFwdIdeal.τ).loc Cert.ProjBKvFwdIdeal.main_arg4) = m ((c.tc : Thread Cert.ProjBKvFwdIdeal.nD Cert.ProjBKvFwdIdeal.τ).loc Cert.ProjBKvFwdIdeal.main_arg4))
      ∧ r.2.sem = fun _ => 0)

def quiescent_ProjBKvFwdRefIdeal [hProjBKvFwdRefIdeal : Cert.ProjBKvFwdRefIdeal.Facts] : Prop :=
  ∀ (m : (ℓ : Loc Cert.ProjBKvFwdRefIdeal.nD Cert.ProjBKvFwdRefIdeal.τ Cert.ProjBKvFwdRefIdeal.sig) → Buf (Elt Ideal) ℓ) (g : Dev Cert.ProjBKvFwdRefIdeal.nD → PrngReg), Pre_ProjBKvFwdRefIdeal m →
    θ_run (Cert.ProjBKvFwdRefIdeal.defs (F := Ideal)) (onTc (τ := Cert.ProjBKvFwdRefIdeal.τ) (Cert.ProjBKvFwdRefIdeal.main (F := Ideal))) ⟨m, fun _ => 0, g⟩ (fun r => (∀ c : Dev Cert.ProjBKvFwdRefIdeal.nD,
      r.2.mem ((c.tc : Thread Cert.ProjBKvFwdRefIdeal.nD Cert.ProjBKvFwdRefIdeal.τ).loc Cert.ProjBKvFwdRefIdeal.main_arg0) = m ((c.tc : Thread Cert.ProjBKvFwdRefIdeal.nD Cert.ProjBKvFwdRefIdeal.τ).loc Cert.ProjBKvFwdRefIdeal.main_arg0)
      ∧ r.2.mem ((c.tc : Thread Cert.ProjBKvFwdRefIdeal.nD Cert.ProjBKvFwdRefIdeal.τ).loc Cert.ProjBKvFwdRefIdeal.main_arg1) = m ((c.tc : Thread Cert.ProjBKvFwdRefIdeal.nD Cert.ProjBKvFwdRefIdeal.τ).loc Cert.ProjBKvFwdRefIdeal.main_arg1)
      ∧ r.2.mem ((c.tc : Thread Cert.ProjBKvFwdRefIdeal.nD Cert.ProjBKvFwdRefIdeal.τ).loc Cert.ProjBKvFwdRefIdeal.main_arg2) = m ((c.tc : Thread Cert.ProjBKvFwdRefIdeal.nD Cert.ProjBKvFwdRefIdeal.τ).loc Cert.ProjBKvFwdRefIdeal.main_arg2)
      ∧ r.2.mem ((c.tc : Thread Cert.ProjBKvFwdRefIdeal.nD Cert.ProjBKvFwdRefIdeal.τ).loc Cert.ProjBKvFwdRefIdeal.main_arg3) = m ((c.tc : Thread Cert.ProjBKvFwdRefIdeal.nD Cert.ProjBKvFwdRefIdeal.τ).loc Cert.ProjBKvFwdRefIdeal.main_arg3)
      ∧ r.2.mem ((c.tc : Thread Cert.ProjBKvFwdRefIdeal.nD Cert.ProjBKvFwdRefIdeal.τ).loc Cert.ProjBKvFwdRefIdeal.main_arg4) = m ((c.tc : Thread Cert.ProjBKvFwdRefIdeal.nD Cert.ProjBKvFwdRefIdeal.τ).loc Cert.ProjBKvFwdRefIdeal.main_arg4))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4)
      ∧ r.2.mem ((c.tc : Thread Cert.FfnLoss.nD Cert.FfnLoss.τ).loc Cert.FfnLoss.main_arg5) = m ((c.tc : Thread Cert.FfnLoss.nD Cert.FfnLoss.τ).loc Cert.FfnLoss.main_arg5)
      ∧ r.2.mem ((c.tc : Thread Cert.FfnLoss.nD Cert.FfnLoss.τ).loc Cert.FfnLoss.main_arg6) = m ((c.tc : Thread Cert.FfnLoss.nD Cert.FfnLoss.τ).loc Cert.FfnLoss.main_arg6))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
      ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ r.2.sem = fun _ => 0)

def quiescent_FfnLossIdeal_pre_finite16 [hFfnLossIdeal : Cert.FfnLossIdeal.Facts] [hPre_finite16 : Cert.Pre_finite16.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal_finite16 m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
      ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4)
      ∧ r.2.mem ((c.tc : Thread Cert.FfnLossRefIdeal.nD Cert.FfnLossRefIdeal.τ).loc Cert.FfnLossRefIdeal.main_arg5) = m ((c.tc : Thread Cert.FfnLossRefIdeal.nD Cert.FfnLossRefIdeal.τ).loc Cert.FfnLossRefIdeal.main_arg5)
      ∧ r.2.mem ((c.tc : Thread Cert.FfnLossRefIdeal.nD Cert.FfnLossRefIdeal.τ).loc Cert.FfnLossRefIdeal.main_arg6) = m ((c.tc : Thread Cert.FfnLossRefIdeal.nD Cert.FfnLossRefIdeal.τ).loc Cert.FfnLossRefIdeal.main_arg6))
      ∧ r.2.sem = fun _ => 0)

def quiescent_FfnLossRefIdeal_pre_finite16 [hFfnLossRefIdeal : Cert.FfnLossRefIdeal.Facts] [hPre_finite16 : Cert.Pre_finite16.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal_finite16 m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4)
      ∧ r.2.mem ((c.tc : Thread Cert.FfnLossRefIdeal.nD Cert.FfnLossRefIdeal.τ).loc Cert.FfnLossRefIdeal.main_arg5) = m ((c.tc : Thread Cert.FfnLossRefIdeal.nD Cert.FfnLossRefIdeal.τ).loc Cert.FfnLossRefIdeal.main_arg5)
      ∧ r.2.mem ((c.tc : Thread Cert.FfnLossRefIdeal.nD Cert.FfnLossRefIdeal.τ).loc Cert.FfnLossRefIdeal.main_arg6) = m ((c.tc : Thread Cert.FfnLossRefIdeal.nD Cert.FfnLossRefIdeal.τ).loc Cert.FfnLossRefIdeal.main_arg6))
      ∧ r.2.sem = fun _ => 0)

def quiescent_MixAFwd [hMixAFwd : Cert.MixAFwd.Facts] : Prop :=
  ∀ (m : (ℓ : Loc Cert.MixAFwd.nD Cert.MixAFwd.τ Cert.MixAFwd.sig) → Buf (Elt Bits) ℓ) (g : Dev Cert.MixAFwd.nD → PrngReg), Pre_MixAFwd m →
    θ_run (Cert.MixAFwd.defs (F := Bits)) (onTc (τ := Cert.MixAFwd.τ) (Cert.MixAFwd.main (F := Bits))) ⟨m, fun _ => 0, g⟩ (fun r => (∀ c : Dev Cert.MixAFwd.nD,
      r.2.mem ((c.tc : Thread Cert.MixAFwd.nD Cert.MixAFwd.τ).loc Cert.MixAFwd.main_arg0) = m ((c.tc : Thread Cert.MixAFwd.nD Cert.MixAFwd.τ).loc Cert.MixAFwd.main_arg0)
      ∧ r.2.mem ((c.tc : Thread Cert.MixAFwd.nD Cert.MixAFwd.τ).loc Cert.MixAFwd.main_arg1) = m ((c.tc : Thread Cert.MixAFwd.nD Cert.MixAFwd.τ).loc Cert.MixAFwd.main_arg1)
      ∧ r.2.mem ((c.tc : Thread Cert.MixAFwd.nD Cert.MixAFwd.τ).loc Cert.MixAFwd.main_arg2) = m ((c.tc : Thread Cert.MixAFwd.nD Cert.MixAFwd.τ).loc Cert.MixAFwd.main_arg2)
      ∧ r.2.mem ((c.tc : Thread Cert.MixAFwd.nD Cert.MixAFwd.τ).loc Cert.MixAFwd.main_arg3) = m ((c.tc : Thread Cert.MixAFwd.nD Cert.MixAFwd.τ).loc Cert.MixAFwd.main_arg3)
      ∧ r.2.mem ((c.tc : Thread Cert.MixAFwd.nD Cert.MixAFwd.τ).loc Cert.MixAFwd.main_arg4) = m ((c.tc : Thread Cert.MixAFwd.nD Cert.MixAFwd.τ).loc Cert.MixAFwd.main_arg4))
      ∧ r.2.sem = fun _ => 0)

def quiescent_MixAFwdIdeal [hMixAFwdIdeal : Cert.MixAFwdIdeal.Facts] : Prop :=
  ∀ (m : (ℓ : Loc Cert.MixAFwdIdeal.nD Cert.MixAFwdIdeal.τ Cert.MixAFwdIdeal.sig) → Buf (Elt Ideal) ℓ) (g : Dev Cert.MixAFwdIdeal.nD → PrngReg), Pre_MixAFwdIdeal m →
    θ_run (Cert.MixAFwdIdeal.defs (F := Ideal)) (onTc (τ := Cert.MixAFwdIdeal.τ) (Cert.MixAFwdIdeal.main (F := Ideal))) ⟨m, fun _ => 0, g⟩ (fun r => (∀ c : Dev Cert.MixAFwdIdeal.nD,
      r.2.mem ((c.tc : Thread Cert.MixAFwdIdeal.nD Cert.MixAFwdIdeal.τ).loc Cert.MixAFwdIdeal.main_arg0) = m ((c.tc : Thread Cert.MixAFwdIdeal.nD Cert.MixAFwdIdeal.τ).loc Cert.MixAFwdIdeal.main_arg0)
      ∧ r.2.mem ((c.tc : Thread Cert.MixAFwdIdeal.nD Cert.MixAFwdIdeal.τ).loc Cert.MixAFwdIdeal.main_arg1) = m ((c.tc : Thread Cert.MixAFwdIdeal.nD Cert.MixAFwdIdeal.τ).loc Cert.MixAFwdIdeal.main_arg1)
      ∧ r.2.mem ((c.tc : Thread Cert.MixAFwdIdeal.nD Cert.MixAFwdIdeal.τ).loc Cert.MixAFwdIdeal.main_arg2) = m ((c.tc : Thread Cert.MixAFwdIdeal.nD Cert.MixAFwdIdeal.τ).loc Cert.MixAFwdIdeal.main_arg2)
      ∧ r.2.mem ((c.tc : Thread Cert.MixAFwdIdeal.nD Cert.MixAFwdIdeal.τ).loc Cert.MixAFwdIdeal.main_arg3) = m ((c.tc : Thread Cert.MixAFwdIdeal.nD Cert.MixAFwdIdeal.τ).loc Cert.MixAFwdIdeal.main_arg3)
      ∧ r.2.mem ((c.tc : Thread Cert.MixAFwdIdeal.nD Cert.MixAFwdIdeal.τ).loc Cert.MixAFwdIdeal.main_arg4) = m ((c.tc : Thread Cert.MixAFwdIdeal.nD Cert.MixAFwdIdeal.τ).loc Cert.MixAFwdIdeal.main_arg4))
      ∧ r.2.sem = fun _ => 0)

def quiescent_MixAFwdIdeal_pre_finite17 [hMixAFwdIdeal : Cert.MixAFwdIdeal.Facts] [hPre_finite17 : Cert.Pre_finite17.Facts] : Prop :=
  ∀ (m : (ℓ : Loc Cert.MixAFwdIdeal.nD Cert.MixAFwdIdeal.τ Cert.MixAFwdIdeal.sig) → Buf (Elt Ideal) ℓ) (g : Dev Cert.MixAFwdIdeal.nD → PrngReg), Pre_MixAFwdIdeal_finite17 m →
    θ_run (Cert.MixAFwdIdeal.defs (F := Ideal)) (onTc (τ := Cert.MixAFwdIdeal.τ) (Cert.MixAFwdIdeal.main (F := Ideal))) ⟨m, fun _ => 0, g⟩ (fun r => (∀ c : Dev Cert.MixAFwdIdeal.nD,
      r.2.mem ((c.tc : Thread Cert.MixAFwdIdeal.nD Cert.MixAFwdIdeal.τ).loc Cert.MixAFwdIdeal.main_arg0) = m ((c.tc : Thread Cert.MixAFwdIdeal.nD Cert.MixAFwdIdeal.τ).loc Cert.MixAFwdIdeal.main_arg0)
      ∧ r.2.mem ((c.tc : Thread Cert.MixAFwdIdeal.nD Cert.MixAFwdIdeal.τ).loc Cert.MixAFwdIdeal.main_arg1) = m ((c.tc : Thread Cert.MixAFwdIdeal.nD Cert.MixAFwdIdeal.τ).loc Cert.MixAFwdIdeal.main_arg1)
      ∧ r.2.mem ((c.tc : Thread Cert.MixAFwdIdeal.nD Cert.MixAFwdIdeal.τ).loc Cert.MixAFwdIdeal.main_arg2) = m ((c.tc : Thread Cert.MixAFwdIdeal.nD Cert.MixAFwdIdeal.τ).loc Cert.MixAFwdIdeal.main_arg2)
      ∧ r.2.mem ((c.tc : Thread Cert.MixAFwdIdeal.nD Cert.MixAFwdIdeal.τ).loc Cert.MixAFwdIdeal.main_arg3) = m ((c.tc : Thread Cert.MixAFwdIdeal.nD Cert.MixAFwdIdeal.τ).loc Cert.MixAFwdIdeal.main_arg3)
      ∧ r.2.mem ((c.tc : Thread Cert.MixAFwdIdeal.nD Cert.MixAFwdIdeal.τ).loc Cert.MixAFwdIdeal.main_arg4) = m ((c.tc : Thread Cert.MixAFwdIdeal.nD Cert.MixAFwdIdeal.τ).loc Cert.MixAFwdIdeal.main_arg4))
      ∧ r.2.sem = fun _ => 0)

def quiescent_MixAFwdRefIdeal [hMixAFwdRefIdeal : Cert.MixAFwdRefIdeal.Facts] : Prop :=
  ∀ (m : (ℓ : Loc Cert.MixAFwdRefIdeal.nD Cert.MixAFwdRefIdeal.τ Cert.MixAFwdRefIdeal.sig) → Buf (Elt Ideal) ℓ) (g : Dev Cert.MixAFwdRefIdeal.nD → PrngReg), Pre_MixAFwdRefIdeal m →
    θ_run (Cert.MixAFwdRefIdeal.defs (F := Ideal)) (onTc (τ := Cert.MixAFwdRefIdeal.τ) (Cert.MixAFwdRefIdeal.main (F := Ideal))) ⟨m, fun _ => 0, g⟩ (fun r => (∀ c : Dev Cert.MixAFwdRefIdeal.nD,
      r.2.mem ((c.tc : Thread Cert.MixAFwdRefIdeal.nD Cert.MixAFwdRefIdeal.τ).loc Cert.MixAFwdRefIdeal.main_arg0) = m ((c.tc : Thread Cert.MixAFwdRefIdeal.nD Cert.MixAFwdRefIdeal.τ).loc Cert.MixAFwdRefIdeal.main_arg0)
      ∧ r.2.mem ((c.tc : Thread Cert.MixAFwdRefIdeal.nD Cert.MixAFwdRefIdeal.τ).loc Cert.MixAFwdRefIdeal.main_arg1) = m ((c.tc : Thread Cert.MixAFwdRefIdeal.nD Cert.MixAFwdRefIdeal.τ).loc Cert.MixAFwdRefIdeal.main_arg1)
      ∧ r.2.mem ((c.tc : Thread Cert.MixAFwdRefIdeal.nD Cert.MixAFwdRefIdeal.τ).loc Cert.MixAFwdRefIdeal.main_arg2) = m ((c.tc : Thread Cert.MixAFwdRefIdeal.nD Cert.MixAFwdRefIdeal.τ).loc Cert.MixAFwdRefIdeal.main_arg2)
      ∧ r.2.mem ((c.tc : Thread Cert.MixAFwdRefIdeal.nD Cert.MixAFwdRefIdeal.τ).loc Cert.MixAFwdRefIdeal.main_arg3) = m ((c.tc : Thread Cert.MixAFwdRefIdeal.nD Cert.MixAFwdRefIdeal.τ).loc Cert.MixAFwdRefIdeal.main_arg3)
      ∧ r.2.mem ((c.tc : Thread Cert.MixAFwdRefIdeal.nD Cert.MixAFwdRefIdeal.τ).loc Cert.MixAFwdRefIdeal.main_arg4) = m ((c.tc : Thread Cert.MixAFwdRefIdeal.nD Cert.MixAFwdRefIdeal.τ).loc Cert.MixAFwdRefIdeal.main_arg4))
      ∧ r.2.sem = fun _ => 0)

def quiescent_MixAFwdRefIdeal_pre_finite17 [hMixAFwdRefIdeal : Cert.MixAFwdRefIdeal.Facts] [hPre_finite17 : Cert.Pre_finite17.Facts] : Prop :=
  ∀ (m : (ℓ : Loc Cert.MixAFwdRefIdeal.nD Cert.MixAFwdRefIdeal.τ Cert.MixAFwdRefIdeal.sig) → Buf (Elt Ideal) ℓ) (g : Dev Cert.MixAFwdRefIdeal.nD → PrngReg), Pre_MixAFwdRefIdeal_finite17 m →
    θ_run (Cert.MixAFwdRefIdeal.defs (F := Ideal)) (onTc (τ := Cert.MixAFwdRefIdeal.τ) (Cert.MixAFwdRefIdeal.main (F := Ideal))) ⟨m, fun _ => 0, g⟩ (fun r => (∀ c : Dev Cert.MixAFwdRefIdeal.nD,
      r.2.mem ((c.tc : Thread Cert.MixAFwdRefIdeal.nD Cert.MixAFwdRefIdeal.τ).loc Cert.MixAFwdRefIdeal.main_arg0) = m ((c.tc : Thread Cert.MixAFwdRefIdeal.nD Cert.MixAFwdRefIdeal.τ).loc Cert.MixAFwdRefIdeal.main_arg0)
      ∧ r.2.mem ((c.tc : Thread Cert.MixAFwdRefIdeal.nD Cert.MixAFwdRefIdeal.τ).loc Cert.MixAFwdRefIdeal.main_arg1) = m ((c.tc : Thread Cert.MixAFwdRefIdeal.nD Cert.MixAFwdRefIdeal.τ).loc Cert.MixAFwdRefIdeal.main_arg1)
      ∧ r.2.mem ((c.tc : Thread Cert.MixAFwdRefIdeal.nD Cert.MixAFwdRefIdeal.τ).loc Cert.MixAFwdRefIdeal.main_arg2) = m ((c.tc : Thread Cert.MixAFwdRefIdeal.nD Cert.MixAFwdRefIdeal.τ).loc Cert.MixAFwdRefIdeal.main_arg2)
      ∧ r.2.mem ((c.tc : Thread Cert.MixAFwdRefIdeal.nD Cert.MixAFwdRefIdeal.τ).loc Cert.MixAFwdRefIdeal.main_arg3) = m ((c.tc : Thread Cert.MixAFwdRefIdeal.nD Cert.MixAFwdRefIdeal.τ).loc Cert.MixAFwdRefIdeal.main_arg3)
      ∧ r.2.mem ((c.tc : Thread Cert.MixAFwdRefIdeal.nD Cert.MixAFwdRefIdeal.τ).loc Cert.MixAFwdRefIdeal.main_arg4) = m ((c.tc : Thread Cert.MixAFwdRefIdeal.nD Cert.MixAFwdRefIdeal.τ).loc Cert.MixAFwdRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnBwd_FfnBwdIdeal : Prop :=
  True

def algebraic_FfnBwdIdeal_FfnBwdRefIdeal_pre_finite2 [hFfnBwdIdeal : Cert.FfnBwdIdeal.Facts] [hFfnBwdRefIdeal : Cert.FfnBwdRefIdeal.Facts] [hPre_finite2 : Cert.Pre_finite2.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite2 m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v20_0)) (v1 : (c : Dev Cert.FfnBwdIdeal.nD) → Buf (Elt Ideal) ((c.tc : Thread Cert.FfnBwdIdeal.nD Cert.FfnBwdIdeal.τ).loc Cert.FfnBwdIdeal.main_v20_1)) (v2 : (c : Dev Cert.FfnBwdIdeal.nD) → Buf (Elt Ideal) ((c.tc : Thread Cert.FfnBwdIdeal.nD Cert.FfnBwdIdeal.τ).loc Cert.FfnBwdIdeal.main_v20_2)) (v3 : (c : Dev Cert.FfnBwdIdeal.nD) → Buf (Elt Ideal) ((c.tc : Thread Cert.FfnBwdIdeal.nD Cert.FfnBwdIdeal.τ).loc Cert.FfnBwdIdeal.main_v20_3)) (v4 : (c : Dev Cert.FfnBwdIdeal.nD) → Buf (Elt Ideal) ((c.tc : Thread Cert.FfnBwdIdeal.nD Cert.FfnBwdIdeal.τ).loc Cert.FfnBwdIdeal.main_v20_4)) (v5 : (c : Dev Cert.FfnBwdIdeal.nD) → Buf (Elt Ideal) ((c.tc : Thread Cert.FfnBwdIdeal.nD Cert.FfnBwdIdeal.τ).loc Cert.FfnBwdIdeal.main_v20_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v20_0) = v0 c
          ∧ r.2.mem ((c.tc : Thread Cert.FfnBwdIdeal.nD Cert.FfnBwdIdeal.τ).loc Cert.FfnBwdIdeal.main_v20_1) = v1 c
          ∧ r.2.mem ((c.tc : Thread Cert.FfnBwdIdeal.nD Cert.FfnBwdIdeal.τ).loc Cert.FfnBwdIdeal.main_v20_2) = v2 c
          ∧ r.2.mem ((c.tc : Thread Cert.FfnBwdIdeal.nD Cert.FfnBwdIdeal.τ).loc Cert.FfnBwdIdeal.main_v20_3) = v3 c
          ∧ r.2.mem ((c.tc : Thread Cert.FfnBwdIdeal.nD Cert.FfnBwdIdeal.τ).loc Cert.FfnBwdIdeal.main_v20_4) = v4 c
          ∧ r.2.mem ((c.tc : Thread Cert.FfnBwdIdeal.nD Cert.FfnBwdIdeal.τ).loc Cert.FfnBwdIdeal.main_v20_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v74) = v0 c
          ∧ r.2.mem ((c.tc : Thread Cert.FfnBwdRefIdeal.nD Cert.FfnBwdRefIdeal.τ).loc Cert.FfnBwdRefIdeal.main_v77) = v1 c
          ∧ r.2.mem ((c.tc : Thread Cert.FfnBwdRefIdeal.nD Cert.FfnBwdRefIdeal.τ).loc Cert.FfnBwdRefIdeal.main_v78) = v2 c
          ∧ r.2.mem ((c.tc : Thread Cert.FfnBwdRefIdeal.nD Cert.FfnBwdRefIdeal.τ).loc Cert.FfnBwdRefIdeal.main_v79) = v3 c
          ∧ r.2.mem ((c.tc : Thread Cert.FfnBwdRefIdeal.nD Cert.FfnBwdRefIdeal.τ).loc Cert.FfnBwdRefIdeal.main_v80) = v4 c
          ∧ r.2.mem ((c.tc : Thread Cert.FfnBwdRefIdeal.nD Cert.FfnBwdRefIdeal.τ).loc Cert.FfnBwdRefIdeal.main_v57) = v5 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_WgradDown_WgradDownIdeal : Prop :=
  True

def algebraic_WgradDownIdeal_WgradDownRefIdeal [hWgradDownIdeal : Cert.WgradDownIdeal.Facts] [hWgradDownRefIdeal : Cert.WgradDownRefIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownRefIdeal.nD Cert.WgradDownRefIdeal.τ Cert.WgradDownRefIdeal.sig) → Buf (Elt Ideal) ℓ) (g' : Dev Cert.WgradDownRefIdeal.nD → PrngReg), Pre_WgradDownIdeal m →
    (∀ c : Dev Cert.WgradDownIdeal.nD,
      m' ((c.tc : Thread Cert.WgradDownRefIdeal.nD Cert.WgradDownRefIdeal.τ).loc Cert.WgradDownRefIdeal.main_arg0) = m ((c.tc : Thread Cert.WgradDownIdeal.nD Cert.WgradDownIdeal.τ).loc Cert.WgradDownIdeal.main_arg0)
      ∧ m' ((c.tc : Thread Cert.WgradDownRefIdeal.nD Cert.WgradDownRefIdeal.τ).loc Cert.WgradDownRefIdeal.main_arg1) = m ((c.tc : Thread Cert.WgradDownIdeal.nD Cert.WgradDownIdeal.τ).loc Cert.WgradDownIdeal.main_arg1)) →
    ∃ (v0 : (c : Dev Cert.WgradDownIdeal.nD) → Buf (Elt Ideal) ((c.tc : Thread Cert.WgradDownIdeal.nD Cert.WgradDownIdeal.τ).loc Cert.WgradDownIdeal.main_v0)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v0) = v0 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ θ_run (Cert.WgradDownRefIdeal.defs (F := Ideal)) (onTc (τ := Cert.WgradDownRefIdeal.τ) (Cert.WgradDownRefIdeal.main (F := Ideal))) ⟨m', fun _ => 0, g'⟩ (fun r => ∀ c : Dev Cert.WgradDownRefIdeal.nD,
          r.2.mem ((c.tc : Thread Cert.WgradDownRefIdeal.nD Cert.WgradDownRefIdeal.τ).loc Cert.WgradDownRefIdeal.main_v5) = v0 c
          ∧ r.2.mem ((c.tc : Thread Cert.WgradDownRefIdeal.nD Cert.WgradDownRefIdeal.τ).loc Cert.WgradDownRefIdeal.main_arg0) = m' ((c.tc : Thread Cert.WgradDownRefIdeal.nD Cert.WgradDownRefIdeal.τ).loc Cert.WgradDownRefIdeal.main_arg0)
          ∧ r.2.mem ((c.tc : Thread Cert.WgradDownRefIdeal.nD Cert.WgradDownRefIdeal.τ).loc Cert.WgradDownRefIdeal.main_arg1) = m' ((c.tc : Thread Cert.WgradDownRefIdeal.nD Cert.WgradDownRefIdeal.τ).loc Cert.WgradDownRefIdeal.main_arg1))

def preserves_WgradGate_WgradGateIdeal : Prop :=
  True

def algebraic_WgradGateIdeal_WgradGateRefIdeal [hWgradGateIdeal : Cert.WgradGateIdeal.Facts] [hWgradGateRefIdeal : Cert.WgradGateRefIdeal.Facts] : Prop :=
  ∀ (m : (ℓ : Loc Cert.WgradGateIdeal.nD Cert.WgradGateIdeal.τ Cert.WgradGateIdeal.sig) → Buf (Elt Ideal) ℓ) (g : Dev Cert.WgradGateIdeal.nD → PrngReg)
    (m' : (ℓ : Loc Cert.WgradGateRefIdeal.nD Cert.WgradGateRefIdeal.τ Cert.WgradGateRefIdeal.sig) → Buf (Elt Ideal) ℓ) (g' : Dev Cert.WgradGateRefIdeal.nD → PrngReg), Pre_WgradGateIdeal m →
    (∀ c : Dev Cert.WgradGateIdeal.nD,
      m' ((c.tc : Thread Cert.WgradGateRefIdeal.nD Cert.WgradGateRefIdeal.τ).loc Cert.WgradGateRefIdeal.main_arg0) = m ((c.tc : Thread Cert.WgradGateIdeal.nD Cert.WgradGateIdeal.τ).loc Cert.WgradGateIdeal.main_arg0)
      ∧ m' ((c.tc : Thread Cert.WgradGateRefIdeal.nD Cert.WgradGateRefIdeal.τ).loc Cert.WgradGateRefIdeal.main_arg1) = m ((c.tc : Thread Cert.WgradGateIdeal.nD Cert.WgradGateIdeal.τ).loc Cert.WgradGateIdeal.main_arg1)) →
    ∃ (v0 : (c : Dev Cert.WgradGateIdeal.nD) → Buf (Elt Ideal) ((c.tc : Thread Cert.WgradGateIdeal.nD Cert.WgradGateIdeal.τ).loc Cert.WgradGateIdeal.main_v0)),
      θ_run (Cert.WgradGateIdeal.defs (F := Ideal)) (onTc (τ := Cert.WgradGateIdeal.τ) (Cert.WgradGateIdeal.main (F := Ideal))) ⟨m, fun _ => 0, g⟩ (fun r => ∀ c : Dev Cert.WgradGateIdeal.nD,
          r.2.mem ((c.tc : Thread Cert.WgradGateIdeal.nD Cert.WgradGateIdeal.τ).loc Cert.WgradGateIdeal.main_v0) = v0 c
          ∧ r.2.mem ((c.tc : Thread Cert.WgradGateIdeal.nD Cert.WgradGateIdeal.τ).loc Cert.WgradGateIdeal.main_arg0) = m ((c.tc : Thread Cert.WgradGateIdeal.nD Cert.WgradGateIdeal.τ).loc Cert.WgradGateIdeal.main_arg0)
          ∧ r.2.mem ((c.tc : Thread Cert.WgradGateIdeal.nD Cert.WgradGateIdeal.τ).loc Cert.WgradGateIdeal.main_arg1) = m ((c.tc : Thread Cert.WgradGateIdeal.nD Cert.WgradGateIdeal.τ).loc Cert.WgradGateIdeal.main_arg1))
      ∧ θ_run (Cert.WgradGateRefIdeal.defs (F := Ideal)) (onTc (τ := Cert.WgradGateRefIdeal.τ) (Cert.WgradGateRefIdeal.main (F := Ideal))) ⟨m', fun _ => 0, g'⟩ (fun r => ∀ c : Dev Cert.WgradGateRefIdeal.nD,
          r.2.mem ((c.tc : Thread Cert.WgradGateRefIdeal.nD Cert.WgradGateRefIdeal.τ).loc Cert.WgradGateRefIdeal.main_v7) = v0 c
          ∧ r.2.mem ((c.tc : Thread Cert.WgradGateRefIdeal.nD Cert.WgradGateRefIdeal.τ).loc Cert.WgradGateRefIdeal.main_arg0) = m' ((c.tc : Thread Cert.WgradGateRefIdeal.nD Cert.WgradGateRefIdeal.τ).loc Cert.WgradGateRefIdeal.main_arg0)
          ∧ r.2.mem ((c.tc : Thread Cert.WgradGateRefIdeal.nD Cert.WgradGateRefIdeal.τ).loc Cert.WgradGateRefIdeal.main_arg1) = m' ((c.tc : Thread Cert.WgradGateRefIdeal.nD Cert.WgradGateRefIdeal.τ).loc Cert.WgradGateRefIdeal.main_arg1))

def preserves_WgradOut_WgradOutIdeal : Prop :=
  True

def algebraic_WgradOutIdeal_WgradOutRefIdeal [hWgradOutIdeal : Cert.WgradOutIdeal.Facts] [hWgradOutRefIdeal : Cert.WgradOutRefIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutRefIdeal.nD Cert.WgradOutRefIdeal.τ Cert.WgradOutRefIdeal.sig) → Buf (Elt Ideal) ℓ) (g' : Dev Cert.WgradOutRefIdeal.nD → PrngReg), Pre_WgradOutIdeal m →
    (∀ c : Dev Cert.WgradOutIdeal.nD,
      m' ((c.tc : Thread Cert.WgradOutRefIdeal.nD Cert.WgradOutRefIdeal.τ).loc Cert.WgradOutRefIdeal.main_arg0) = m ((c.tc : Thread Cert.WgradOutIdeal.nD Cert.WgradOutIdeal.τ).loc Cert.WgradOutIdeal.main_arg0)
      ∧ m' ((c.tc : Thread Cert.WgradOutRefIdeal.nD Cert.WgradOutRefIdeal.τ).loc Cert.WgradOutRefIdeal.main_arg1) = m ((c.tc : Thread Cert.WgradOutIdeal.nD Cert.WgradOutIdeal.τ).loc Cert.WgradOutIdeal.main_arg1)) →
    ∃ (v0 : (c : Dev Cert.WgradOutIdeal.nD) → Buf (Elt Ideal) ((c.tc : Thread Cert.WgradOutIdeal.nD Cert.WgradOutIdeal.τ).loc Cert.WgradOutIdeal.main_v0)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v0) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ θ_run (Cert.WgradOutRefIdeal.defs (F := Ideal)) (onTc (τ := Cert.WgradOutRefIdeal.τ) (Cert.WgradOutRefIdeal.main (F := Ideal))) ⟨m', fun _ => 0, g'⟩ (fun r => ∀ c : Dev Cert.WgradOutRefIdeal.nD,
          r.2.mem ((c.tc : Thread Cert.WgradOutRefIdeal.nD Cert.WgradOutRefIdeal.τ).loc Cert.WgradOutRefIdeal.main_v5) = v0 c
          ∧ r.2.mem ((c.tc : Thread Cert.WgradOutRefIdeal.nD Cert.WgradOutRefIdeal.τ).loc Cert.WgradOutRefIdeal.main_arg0) = m' ((c.tc : Thread Cert.WgradOutRefIdeal.nD Cert.WgradOutRefIdeal.τ).loc Cert.WgradOutRefIdeal.main_arg0)
          ∧ r.2.mem ((c.tc : Thread Cert.WgradOutRefIdeal.nD Cert.WgradOutRefIdeal.τ).loc Cert.WgradOutRefIdeal.main_arg1) = m' ((c.tc : Thread Cert.WgradOutRefIdeal.nD Cert.WgradOutRefIdeal.τ).loc Cert.WgradOutRefIdeal.main_arg1))

def preserves_WgradInA_WgradInAIdeal : Prop :=
  True

def algebraic_WgradInAIdeal_WgradInARefIdeal [hWgradInAIdeal : Cert.WgradInAIdeal.Facts] [hWgradInARefIdeal : Cert.WgradInARefIdeal.Facts] : Prop :=
  ∀ (m : (ℓ : Loc Cert.WgradInAIdeal.nD Cert.WgradInAIdeal.τ Cert.WgradInAIdeal.sig) → Buf (Elt Ideal) ℓ) (g : Dev Cert.WgradInAIdeal.nD → PrngReg)
    (m' : (ℓ : Loc Cert.WgradInARefIdeal.nD Cert.WgradInARefIdeal.τ Cert.WgradInARefIdeal.sig) → Buf (Elt Ideal) ℓ) (g' : Dev Cert.WgradInARefIdeal.nD → PrngReg), Pre_WgradInAIdeal m →
    (∀ c : Dev Cert.WgradInAIdeal.nD,
      m' ((c.tc : Thread Cert.WgradInARefIdeal.nD Cert.WgradInARefIdeal.τ).loc Cert.WgradInARefIdeal.main_arg0) = m ((c.tc : Thread Cert.WgradInAIdeal.nD Cert.WgradInAIdeal.τ).loc Cert.WgradInAIdeal.main_arg0)
      ∧ m' ((c.tc : Thread Cert.WgradInARefIdeal.nD Cert.WgradInARefIdeal.τ).loc Cert.WgradInARefIdeal.main_arg1) = m ((c.tc : Thread Cert.WgradInAIdeal.nD Cert.WgradInAIdeal.τ).loc Cert.WgradInAIdeal.main_arg1)) →
    ∃ (v0 : (c : Dev Cert.WgradInAIdeal.nD) → Buf (Elt Ideal) ((c.tc : Thread Cert.WgradInAIdeal.nD Cert.WgradInAIdeal.τ).loc Cert.WgradInAIdeal.main_v0)),
      θ_run (Cert.WgradInAIdeal.defs (F := Ideal)) (onTc (τ := Cert.WgradInAIdeal.τ) (Cert.WgradInAIdeal.main (F := Ideal))) ⟨m, fun _ => 0, g⟩ (fun r => ∀ c : Dev Cert.WgradInAIdeal.nD,
          r.2.mem ((c.tc : Thread Cert.WgradInAIdeal.nD Cert.WgradInAIdeal.τ).loc Cert.WgradInAIdeal.main_v0) = v0 c
          ∧ r.2.mem ((c.tc : Thread Cert.WgradInAIdeal.nD Cert.WgradInAIdeal.τ).loc Cert.WgradInAIdeal.main_arg0) = m ((c.tc : Thread Cert.WgradInAIdeal.nD Cert.WgradInAIdeal.τ).loc Cert.WgradInAIdeal.main_arg0)
          ∧ r.2.mem ((c.tc : Thread Cert.WgradInAIdeal.nD Cert.WgradInAIdeal.τ).loc Cert.WgradInAIdeal.main_arg1) = m ((c.tc : Thread Cert.WgradInAIdeal.nD Cert.WgradInAIdeal.τ).loc Cert.WgradInAIdeal.main_arg1))
      ∧ θ_run (Cert.WgradInARefIdeal.defs (F := Ideal)) (onTc (τ := Cert.WgradInARefIdeal.τ) (Cert.WgradInARefIdeal.main (F := Ideal))) ⟨m', fun _ => 0, g'⟩ (fun r => ∀ c : Dev Cert.WgradInARefIdeal.nD,
          r.2.mem ((c.tc : Thread Cert.WgradInARefIdeal.nD Cert.WgradInARefIdeal.τ).loc Cert.WgradInARefIdeal.main_v6) = v0 c
          ∧ r.2.mem ((c.tc : Thread Cert.WgradInARefIdeal.nD Cert.WgradInARefIdeal.τ).loc Cert.WgradInARefIdeal.main_arg0) = m' ((c.tc : Thread Cert.WgradInARefIdeal.nD Cert.WgradInARefIdeal.τ).loc Cert.WgradInARefIdeal.main_arg0)
          ∧ r.2.mem ((c.tc : Thread Cert.WgradInARefIdeal.nD Cert.WgradInARefIdeal.τ).loc Cert.WgradInARefIdeal.main_arg1) = m' ((c.tc : Thread Cert.WgradInARefIdeal.nD Cert.WgradInARefIdeal.τ).loc Cert.WgradInARefIdeal.main_arg1))

def preserves_WgradInB_WgradInBIdeal : Prop :=
  True

def algebraic_WgradInBIdeal_WgradInBRefIdeal [hWgradInBIdeal : Cert.WgradInBIdeal.Facts] [hWgradInBRefIdeal : Cert.WgradInBRefIdeal.Facts] : Prop :=
  ∀ (m : (ℓ : Loc Cert.WgradInBIdeal.nD Cert.WgradInBIdeal.τ Cert.WgradInBIdeal.sig) → Buf (Elt Ideal) ℓ) (g : Dev Cert.WgradInBIdeal.nD → PrngReg)
    (m' : (ℓ : Loc Cert.WgradInBRefIdeal.nD Cert.WgradInBRefIdeal.τ Cert.WgradInBRefIdeal.sig) → Buf (Elt Ideal) ℓ) (g' : Dev Cert.WgradInBRefIdeal.nD → PrngReg), Pre_WgradInBIdeal m →
    (∀ c : Dev Cert.WgradInBIdeal.nD,
      m' ((c.tc : Thread Cert.WgradInBRefIdeal.nD Cert.WgradInBRefIdeal.τ).loc Cert.WgradInBRefIdeal.main_arg0) = m ((c.tc : Thread Cert.WgradInBIdeal.nD Cert.WgradInBIdeal.τ).loc Cert.WgradInBIdeal.main_arg0)
      ∧ m' ((c.tc : Thread Cert.WgradInBRefIdeal.nD Cert.WgradInBRefIdeal.τ).loc Cert.WgradInBRefIdeal.main_arg1) = m ((c.tc : Thread Cert.WgradInBIdeal.nD Cert.WgradInBIdeal.τ).loc Cert.WgradInBIdeal.main_arg1)) →
    ∃ (v0 : (c : Dev Cert.WgradInBIdeal.nD) → Buf (Elt Ideal) ((c.tc : Thread Cert.WgradInBIdeal.nD Cert.WgradInBIdeal.τ).loc Cert.WgradInBIdeal.main_v0)),
      θ_run (Cert.WgradInBIdeal.defs (F := Ideal)) (onTc (τ := Cert.WgradInBIdeal.τ) (Cert.WgradInBIdeal.main (F := Ideal))) ⟨m, fun _ => 0, g⟩ (fun r => ∀ c : Dev Cert.WgradInBIdeal.nD,
          r.2.mem ((c.tc : Thread Cert.WgradInBIdeal.nD Cert.WgradInBIdeal.τ).loc Cert.WgradInBIdeal.main_v0) = v0 c
          ∧ r.2.mem ((c.tc : Thread Cert.WgradInBIdeal.nD Cert.WgradInBIdeal.τ).loc Cert.WgradInBIdeal.main_arg0) = m ((c.tc : Thread Cert.WgradInBIdeal.nD Cert.WgradInBIdeal.τ).loc Cert.WgradInBIdeal.main_arg0)
          ∧ r.2.mem ((c.tc : Thread Cert.WgradInBIdeal.nD Cert.WgradInBIdeal.τ).loc Cert.WgradInBIdeal.main_arg1) = m ((c.tc : Thread Cert.WgradInBIdeal.nD Cert.WgradInBIdeal.τ).loc Cert.WgradInBIdeal.main_arg1))
      ∧ θ_run (Cert.WgradInBRefIdeal.defs (F := Ideal)) (onTc (τ := Cert.WgradInBRefIdeal.τ) (Cert.WgradInBRefIdeal.main (F := Ideal))) ⟨m', fun _ => 0, g'⟩ (fun r => ∀ c : Dev Cert.WgradInBRefIdeal.nD,
          r.2.mem ((c.tc : Thread Cert.WgradInBRefIdeal.nD Cert.WgradInBRefIdeal.τ).loc Cert.WgradInBRefIdeal.main_v6) = v0 c
          ∧ r.2.mem ((c.tc : Thread Cert.WgradInBRefIdeal.nD Cert.WgradInBRefIdeal.τ).loc Cert.WgradInBRefIdeal.main_arg0) = m' ((c.tc : Thread Cert.WgradInBRefIdeal.nD Cert.WgradInBRefIdeal.τ).loc Cert.WgradInBRefIdeal.main_arg0)
          ∧ r.2.mem ((c.tc : Thread Cert.WgradInBRefIdeal.nD Cert.WgradInBRefIdeal.τ).loc Cert.WgradInBRefIdeal.main_arg1) = m' ((c.tc : Thread Cert.WgradInBRefIdeal.nD Cert.WgradInBRefIdeal.τ).loc Cert.WgradInBRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v22) = v0 c
          ∧ r.2.mem ((c.tc : Thread Cert.FfnFwdRefIdeal.nD Cert.FfnFwdRefIdeal.τ).loc Cert.FfnFwdRefIdeal.main_v23) = v1 c
          ∧ r.2.mem ((c.tc : Thread Cert.FfnFwdRefIdeal.nD Cert.FfnFwdRefIdeal.τ).loc Cert.FfnFwdRefIdeal.main_v24) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_ProjABwd_ProjABwdIdeal : Prop :=
  True

def algebraic_ProjABwdIdeal_ProjABwdRefIdeal_pre_finite9 [hProjABwdIdeal : Cert.ProjABwdIdeal.Facts] [hProjABwdRefIdeal : Cert.ProjABwdRefIdeal.Facts] [hPre_finite9 : Cert.Pre_finite9.Facts] : Prop :=
  ∀ (m : (ℓ : Loc Cert.ProjABwdIdeal.nD Cert.ProjABwdIdeal.τ Cert.ProjABwdIdeal.sig) → Buf (Elt Ideal) ℓ) (g : Dev Cert.ProjABwdIdeal.nD → PrngReg)
    (m' : (ℓ : Loc Cert.ProjABwdRefIdeal.nD Cert.ProjABwdRefIdeal.τ Cert.ProjABwdRefIdeal.sig) → Buf (Elt Ideal) ℓ) (g' : Dev Cert.ProjABwdRefIdeal.nD → PrngReg), Pre_ProjABwdIdeal_finite9 m →
    (∀ c : Dev Cert.ProjABwdIdeal.nD,
      m' ((c.tc : Thread Cert.ProjABwdRefIdeal.nD Cert.ProjABwdRefIdeal.τ).loc Cert.ProjABwdRefIdeal.main_arg0) = m ((c.tc : Thread Cert.ProjABwdIdeal.nD Cert.ProjABwdIdeal.τ).loc Cert.ProjABwdIdeal.main_arg0)
      ∧ m' ((c.tc : Thread Cert.ProjABwdRefIdeal.nD Cert.ProjABwdRefIdeal.τ).loc Cert.ProjABwdRefIdeal.main_arg1) = m ((c.tc : Thread Cert.ProjABwdIdeal.nD Cert.ProjABwdIdeal.τ).loc Cert.ProjABwdIdeal.main_arg1)
      ∧ m' ((c.tc : Thread Cert.ProjABwdRefIdeal.nD Cert.ProjABwdRefIdeal.τ).loc Cert.ProjABwdRefIdeal.main_arg2) = m ((c.tc : Thread Cert.ProjABwdIdeal.nD Cert.ProjABwdIdeal.τ).loc Cert.ProjABwdIdeal.main_arg2)
      ∧ m' ((c.tc : Thread Cert.ProjABwdRefIdeal.nD Cert.ProjABwdRefIdeal.τ).loc Cert.ProjABwdRefIdeal.main_arg3) = m ((c.tc : Thread Cert.ProjABwdIdeal.nD Cert.ProjABwdIdeal.τ).loc Cert.ProjABwdIdeal.main_arg3)
      ∧ m' ((c.tc : Thread Cert.ProjABwdRefIdeal.nD Cert.ProjABwdRefIdeal.τ).loc Cert.ProjABwdRefIdeal.main_arg4) = m ((c.tc : Thread Cert.ProjABwdIdeal.nD Cert.ProjABwdIdeal.τ).loc Cert.ProjABwdIdeal.main_arg4)) →
    ∃ (v0 : (c : Dev Cert.ProjABwdIdeal.nD) → Buf (Elt Ideal) ((c.tc : Thread Cert.ProjABwdIdeal.nD Cert.ProjABwdIdeal.τ).loc Cert.ProjABwdIdeal.main_v0_0)) (v1 : (c : Dev Cert.ProjABwdIdeal.nD) → Buf (Elt Ideal) ((c.tc : Thread Cert.ProjABwdIdeal.nD Cert.ProjABwdIdeal.τ).loc Cert.ProjABwdIdeal.main_v0_1)) (v2 : (c : Dev Cert.ProjABwdIdeal.nD) → Buf (Elt Ideal) ((c.tc : Thread Cert.ProjABwdIdeal.nD Cert.ProjABwdIdeal.τ).loc Cert.ProjABwdIdeal.main_v0_2)),
      θ_run (Cert.ProjABwdIdeal.defs (F := Ideal)) (onTc (τ := Cert.ProjABwdIdeal.τ) (Cert.ProjABwdIdeal.main (F := Ideal))) ⟨m, fun _ => 0, g⟩ (fun r => ∀ c : Dev Cert.ProjABwdIdeal.nD,
          r.2.mem ((c.tc : Thread Cert.ProjABwdIdeal.nD Cert.ProjABwdIdeal.τ).loc Cert.ProjABwdIdeal.main_v0_0) = v0 c
          ∧ r.2.mem ((c.tc : Thread Cert.ProjABwdIdeal.nD Cert.ProjABwdIdeal.τ).loc Cert.ProjABwdIdeal.main_v0_1) = v1 c
          ∧ r.2.mem ((c.tc : Thread Cert.ProjABwdIdeal.nD Cert.ProjABwdIdeal.τ).loc Cert.ProjABwdIdeal.main_v0_2) = v2 c
          ∧ r.2.mem ((c.tc : Thread Cert.ProjABwdIdeal.nD Cert.ProjABwdIdeal.τ).loc Cert.ProjABwdIdeal.main_arg0) = m ((c.tc : Thread Cert.ProjABwdIdeal.nD Cert.ProjABwdIdeal.τ).loc Cert.ProjABwdIdeal.main_arg0)
          ∧ r.2.mem ((c.tc : Thread Cert.ProjABwdIdeal.nD Cert.ProjABwdIdeal.τ).loc Cert.ProjABwdIdeal.main_arg1) = m ((c.tc : Thread Cert.ProjABwdIdeal.nD Cert.ProjABwdIdeal.τ).loc Cert.ProjABwdIdeal.main_arg1)
          ∧ r.2.mem ((c.tc : Thread Cert.ProjABwdIdeal.nD Cert.ProjABwdIdeal.τ).loc Cert.ProjABwdIdeal.main_arg2) = m ((c.tc : Thread Cert.ProjABwdIdeal.nD Cert.ProjABwdIdeal.τ).loc Cert.ProjABwdIdeal.main_arg2)
          ∧ r.2.mem ((c.tc : Thread Cert.ProjABwdIdeal.nD Cert.ProjABwdIdeal.τ).loc Cert.ProjABwdIdeal.main_arg3) = m ((c.tc : Thread Cert.ProjABwdIdeal.nD Cert.ProjABwdIdeal.τ).loc Cert.ProjABwdIdeal.main_arg3)
          ∧ r.2.mem ((c.tc : Thread Cert.ProjABwdIdeal.nD Cert.ProjABwdIdeal.τ).loc Cert.ProjABwdIdeal.main_arg4) = m ((c.tc : Thread Cert.ProjABwdIdeal.nD Cert.ProjABwdIdeal.τ).loc Cert.ProjABwdIdeal.main_arg4))
      ∧ θ_run (Cert.ProjABwdRefIdeal.defs (F := Ideal)) (onTc (τ := Cert.ProjABwdRefIdeal.τ) (Cert.ProjABwdRefIdeal.main (F := Ideal))) ⟨m', fun _ => 0, g'⟩ (fun r => ∀ c : Dev Cert.ProjABwdRefIdeal.nD,
          r.2.mem ((c.tc : Thread Cert.ProjABwdRefIdeal.nD Cert.ProjABwdRefIdeal.τ).loc Cert.ProjABwdRefIdeal.main_v38) = v0 c
          ∧ r.2.mem ((c.tc : Thread Cert.ProjABwdRefIdeal.nD Cert.ProjABwdRefIdeal.τ).loc Cert.ProjABwdRefIdeal.main_v21) = v1 c
          ∧ r.2.mem ((c.tc : Thread Cert.ProjABwdRefIdeal.nD Cert.ProjABwdRefIdeal.τ).loc Cert.ProjABwdRefIdeal.main_v51) = v2 c
          ∧ r.2.mem ((c.tc : Thread Cert.ProjABwdRefIdeal.nD Cert.ProjABwdRefIdeal.τ).loc Cert.ProjABwdRefIdeal.main_arg0) = m' ((c.tc : Thread Cert.ProjABwdRefIdeal.nD Cert.ProjABwdRefIdeal.τ).loc Cert.ProjABwdRefIdeal.main_arg0)
          ∧ r.2.mem ((c.tc : Thread Cert.ProjABwdRefIdeal.nD Cert.ProjABwdRefIdeal.τ).loc Cert.ProjABwdRefIdeal.main_arg1) = m' ((c.tc : Thread Cert.ProjABwdRefIdeal.nD Cert.ProjABwdRefIdeal.τ).loc Cert.ProjABwdRefIdeal.main_arg1)
          ∧ r.2.mem ((c.tc : Thread Cert.ProjABwdRefIdeal.nD Cert.ProjABwdRefIdeal.τ).loc Cert.ProjABwdRefIdeal.main_arg2) = m' ((c.tc : Thread Cert.ProjABwdRefIdeal.nD Cert.ProjABwdRefIdeal.τ).loc Cert.ProjABwdRefIdeal.main_arg2)
          ∧ r.2.mem ((c.tc : Thread Cert.ProjABwdRefIdeal.nD Cert.ProjABwdRefIdeal.τ).loc Cert.ProjABwdRefIdeal.main_arg3) = m' ((c.tc : Thread Cert.ProjABwdRefIdeal.nD Cert.ProjABwdRefIdeal.τ).loc Cert.ProjABwdRefIdeal.main_arg3)
          ∧ r.2.mem ((c.tc : Thread Cert.ProjABwdRefIdeal.nD Cert.ProjABwdRefIdeal.τ).loc Cert.ProjABwdRefIdeal.main_arg4) = m' ((c.tc : Thread Cert.ProjABwdRefIdeal.nD Cert.ProjABwdRefIdeal.τ).loc Cert.ProjABwdRefIdeal.main_arg4))

def preserves_ProjBBwd_ProjBBwdIdeal : Prop :=
  True

def algebraic_ProjBBwdIdeal_ProjBBwdRefIdeal_pre_finite10 [hProjBBwdIdeal : Cert.ProjBBwdIdeal.Facts] [hProjBBwdRefIdeal : Cert.ProjBBwdRefIdeal.Facts] [hPre_finite10 : Cert.Pre_finite10.Facts] : Prop :=
  ∀ (m : (ℓ : Loc Cert.ProjBBwdIdeal.nD Cert.ProjBBwdIdeal.τ Cert.ProjBBwdIdeal.sig) → Buf (Elt Ideal) ℓ) (g : Dev Cert.ProjBBwdIdeal.nD → PrngReg)
    (m' : (ℓ : Loc Cert.ProjBBwdRefIdeal.nD Cert.ProjBBwdRefIdeal.τ Cert.ProjBBwdRefIdeal.sig) → Buf (Elt Ideal) ℓ) (g' : Dev Cert.ProjBBwdRefIdeal.nD → PrngReg), Pre_ProjBBwdIdeal_finite10 m →
    (∀ c : Dev Cert.ProjBBwdIdeal.nD,
      m' ((c.tc : Thread Cert.ProjBBwdRefIdeal.nD Cert.ProjBBwdRefIdeal.τ).loc Cert.ProjBBwdRefIdeal.main_arg0) = m ((c.tc : Thread Cert.ProjBBwdIdeal.nD Cert.ProjBBwdIdeal.τ).loc Cert.ProjBBwdIdeal.main_arg0)
      ∧ m' ((c.tc : Thread Cert.ProjBBwdRefIdeal.nD Cert.ProjBBwdRefIdeal.τ).loc Cert.ProjBBwdRefIdeal.main_arg1) = m ((c.tc : Thread Cert.ProjBBwdIdeal.nD Cert.ProjBBwdIdeal.τ).loc Cert.ProjBBwdIdeal.main_arg1)
      ∧ m' ((c.tc : Thread Cert.ProjBBwdRefIdeal.nD Cert.ProjBBwdRefIdeal.τ).loc Cert.ProjBBwdRefIdeal.main_arg2) = m ((c.tc : Thread Cert.ProjBBwdIdeal.nD Cert.ProjBBwdIdeal.τ).loc Cert.ProjBBwdIdeal.main_arg2)
      ∧ m' ((c.tc : Thread Cert.ProjBBwdRefIdeal.nD Cert.ProjBBwdRefIdeal.τ).loc Cert.ProjBBwdRefIdeal.main_arg3) = m ((c.tc : Thread Cert.ProjBBwdIdeal.nD Cert.ProjBBwdIdeal.τ).loc Cert.ProjBBwdIdeal.main_arg3)
      ∧ m' ((c.tc : Thread Cert.ProjBBwdRefIdeal.nD Cert.ProjBBwdRefIdeal.τ).loc Cert.ProjBBwdRefIdeal.main_arg4) = m ((c.tc : Thread Cert.ProjBBwdIdeal.nD Cert.ProjBBwdIdeal.τ).loc Cert.ProjBBwdIdeal.main_arg4)) →
    ∃ (v0 : (c : Dev Cert.ProjBBwdIdeal.nD) → Buf (Elt Ideal) ((c.tc : Thread Cert.ProjBBwdIdeal.nD Cert.ProjBBwdIdeal.τ).loc Cert.ProjBBwdIdeal.main_v0_0)) (v1 : (c : Dev Cert.ProjBBwdIdeal.nD) → Buf (Elt Ideal) ((c.tc : Thread Cert.ProjBBwdIdeal.nD Cert.ProjBBwdIdeal.τ).loc Cert.ProjBBwdIdeal.main_v0_1)) (v2 : (c : Dev Cert.ProjBBwdIdeal.nD) → Buf (Elt Ideal) ((c.tc : Thread Cert.ProjBBwdIdeal.nD Cert.ProjBBwdIdeal.τ).loc Cert.ProjBBwdIdeal.main_v0_2)),
      θ_run (Cert.ProjBBwdIdeal.defs (F := Ideal)) (onTc (τ := Cert.ProjBBwdIdeal.τ) (Cert.ProjBBwdIdeal.main (F := Ideal))) ⟨m, fun _ => 0, g⟩ (fun r => ∀ c : Dev Cert.ProjBBwdIdeal.nD,
          r.2.mem ((c.tc : Thread Cert.ProjBBwdIdeal.nD Cert.ProjBBwdIdeal.τ).loc Cert.ProjBBwdIdeal.main_v0_0) = v0 c
          ∧ r.2.mem ((c.tc : Thread Cert.ProjBBwdIdeal.nD Cert.ProjBBwdIdeal.τ).loc Cert.ProjBBwdIdeal.main_v0_1) = v1 c
          ∧ r.2.mem ((c.tc : Thread Cert.ProjBBwdIdeal.nD Cert.ProjBBwdIdeal.τ).loc Cert.ProjBBwdIdeal.main_v0_2) = v2 c
          ∧ r.2.mem ((c.tc : Thread Cert.ProjBBwdIdeal.nD Cert.ProjBBwdIdeal.τ).loc Cert.ProjBBwdIdeal.main_arg0) = m ((c.tc : Thread Cert.ProjBBwdIdeal.nD Cert.ProjBBwdIdeal.τ).loc Cert.ProjBBwdIdeal.main_arg0)
          ∧ r.2.mem ((c.tc : Thread Cert.ProjBBwdIdeal.nD Cert.ProjBBwdIdeal.τ).loc Cert.ProjBBwdIdeal.main_arg1) = m ((c.tc : Thread Cert.ProjBBwdIdeal.nD Cert.ProjBBwdIdeal.τ).loc Cert.ProjBBwdIdeal.main_arg1)
          ∧ r.2.mem ((c.tc : Thread Cert.ProjBBwdIdeal.nD Cert.ProjBBwdIdeal.τ).loc Cert.ProjBBwdIdeal.main_arg2) = m ((c.tc : Thread Cert.ProjBBwdIdeal.nD Cert.ProjBBwdIdeal.τ).loc Cert.ProjBBwdIdeal.main_arg2)
          ∧ r.2.mem ((c.tc : Thread Cert.ProjBBwdIdeal.nD Cert.ProjBBwdIdeal.τ).loc Cert.ProjBBwdIdeal.main_arg3) = m ((c.tc : Thread Cert.ProjBBwdIdeal.nD Cert.ProjBBwdIdeal.τ).loc Cert.ProjBBwdIdeal.main_arg3)
          ∧ r.2.mem ((c.tc : Thread Cert.ProjBBwdIdeal.nD Cert.ProjBBwdIdeal.τ).loc Cert.ProjBBwdIdeal.main_arg4) = m ((c.tc : Thread Cert.ProjBBwdIdeal.nD Cert.ProjBBwdIdeal.τ).loc Cert.ProjBBwdIdeal.main_arg4))
      ∧ θ_run (Cert.ProjBBwdRefIdeal.defs (F := Ideal)) (onTc (τ := Cert.ProjBBwdRefIdeal.τ) (Cert.ProjBBwdRefIdeal.main (F := Ideal))) ⟨m', fun _ => 0, g'⟩ (fun r => ∀ c : Dev Cert.ProjBBwdRefIdeal.nD,
          r.2.mem ((c.tc : Thread Cert.ProjBBwdRefIdeal.nD Cert.ProjBBwdRefIdeal.τ).loc Cert.ProjBBwdRefIdeal.main_v38) = v0 c
          ∧ r.2.mem ((c.tc : Thread Cert.ProjBBwdRefIdeal.nD Cert.ProjBBwdRefIdeal.τ).loc Cert.ProjBBwdRefIdeal.main_v21) = v1 c
          ∧ r.2.mem ((c.tc : Thread Cert.ProjBBwdRefIdeal.nD Cert.ProjBBwdRefIdeal.τ).loc Cert.ProjBBwdRefIdeal.main_v51) = v2 c
          ∧ r.2.mem ((c.tc : Thread Cert.ProjBBwdRefIdeal.nD Cert.ProjBBwdRefIdeal.τ).loc Cert.ProjBBwdRefIdeal.main_arg0) = m' ((c.tc : Thread Cert.ProjBBwdRefIdeal.nD Cert.ProjBBwdRefIdeal.τ).loc Cert.ProjBBwdRefIdeal.main_arg0)
          ∧ r.2.mem ((c.tc : Thread Cert.ProjBBwdRefIdeal.nD Cert.ProjBBwdRefIdeal.τ).loc Cert.ProjBBwdRefIdeal.main_arg1) = m' ((c.tc : Thread Cert.ProjBBwdRefIdeal.nD Cert.ProjBBwdRefIdeal.τ).loc Cert.ProjBBwdRefIdeal.main_arg1)
          ∧ r.2.mem ((c.tc : Thread Cert.ProjBBwdRefIdeal.nD Cert.ProjBBwdRefIdeal.τ).loc Cert.ProjBBwdRefIdeal.main_arg2) = m' ((c.tc : Thread Cert.ProjBBwdRefIdeal.nD Cert.ProjBBwdRefIdeal.τ).loc Cert.ProjBBwdRefIdeal.main_arg2)
          ∧ r.2.mem ((c.tc : Thread Cert.ProjBBwdRefIdeal.nD Cert.ProjBBwdRefIdeal.τ).loc Cert.ProjBBwdRefIdeal.main_arg3) = m' ((c.tc : Thread Cert.ProjBBwdRefIdeal.nD Cert.ProjBBwdRefIdeal.τ).loc Cert.ProjBBwdRefIdeal.main_arg3)
          ∧ r.2.mem ((c.tc : Thread Cert.ProjBBwdRefIdeal.nD Cert.ProjBBwdRefIdeal.τ).loc Cert.ProjBBwdRefIdeal.main_arg4) = m' ((c.tc : Thread Cert.ProjBBwdRefIdeal.nD Cert.ProjBBwdRefIdeal.τ).loc Cert.ProjBBwdRefIdeal.main_arg4))

def preserves_ProjBKvBwd_ProjBKvBwdIdeal : Prop :=
  True

def algebraic_ProjBKvBwdIdeal_ProjBKvBwdRefIdeal_pre_finite11 [hProjBKvBwdIdeal : Cert.ProjBKvBwdIdeal.Facts] [hProjBKvBwdRefIdeal : Cert.ProjBKvBwdRefIdeal.Facts] [hPre_finite11 : Cert.Pre_finite11.Facts] : Prop :=
  ∀ (m : (ℓ : Loc Cert.ProjBKvBwdIdeal.nD Cert.ProjBKvBwdIdeal.τ Cert.ProjBKvBwdIdeal.sig) → Buf (Elt Ideal) ℓ) (g : Dev Cert.ProjBKvBwdIdeal.nD → PrngReg)
    (m' : (ℓ : Loc Cert.ProjBKvBwdRefIdeal.nD Cert.ProjBKvBwdRefIdeal.τ Cert.ProjBKvBwdRefIdeal.sig) → Buf (Elt Ideal) ℓ) (g' : Dev Cert.ProjBKvBwdRefIdeal.nD → PrngReg), Pre_ProjBKvBwdIdeal_finite11 m →
    (∀ c : Dev Cert.ProjBKvBwdIdeal.nD,
      m' ((c.tc : Thread Cert.ProjBKvBwdRefIdeal.nD Cert.ProjBKvBwdRefIdeal.τ).loc Cert.ProjBKvBwdRefIdeal.main_arg0) = m ((c.tc : Thread Cert.ProjBKvBwdIdeal.nD Cert.ProjBKvBwdIdeal.τ).loc Cert.ProjBKvBwdIdeal.main_arg0)
      ∧ m' ((c.tc : Thread Cert.ProjBKvBwdRefIdeal.nD Cert.ProjBKvBwdRefIdeal.τ).loc Cert.ProjBKvBwdRefIdeal.main_arg1) = m ((c.tc : Thread Cert.ProjBKvBwdIdeal.nD Cert.ProjBKvBwdIdeal.τ).loc Cert.ProjBKvBwdIdeal.main_arg1)
      ∧ m' ((c.tc : Thread Cert.ProjBKvBwdRefIdeal.nD Cert.ProjBKvBwdRefIdeal.τ).loc Cert.ProjBKvBwdRefIdeal.main_arg2) = m ((c.tc : Thread Cert.ProjBKvBwdIdeal.nD Cert.ProjBKvBwdIdeal.τ).loc Cert.ProjBKvBwdIdeal.main_arg2)
      ∧ m' ((c.tc : Thread Cert.ProjBKvBwdRefIdeal.nD Cert.ProjBKvBwdRefIdeal.τ).loc Cert.ProjBKvBwdRefIdeal.main_arg3) = m ((c.tc : Thread Cert.ProjBKvBwdIdeal.nD Cert.ProjBKvBwdIdeal.τ).loc Cert.ProjBKvBwdIdeal.main_arg3)
      ∧ m' ((c.tc : Thread Cert.ProjBKvBwdRefIdeal.nD Cert.ProjBKvBwdRefIdeal.τ).loc Cert.ProjBKvBwdRefIdeal.main_arg4) = m ((c.tc : Thread Cert.ProjBKvBwdIdeal.nD Cert.ProjBKvBwdIdeal.τ).loc Cert.ProjBKvBwdIdeal.main_arg4)
      ∧ m' ((c.tc : Thread Cert.ProjBKvBwdRefIdeal.nD Cert.ProjBKvBwdRefIdeal.τ).loc Cert.ProjBKvBwdRefIdeal.main_arg5) = m ((c.tc : Thread Cert.ProjBKvBwdIdeal.nD Cert.ProjBKvBwdIdeal.τ).loc Cert.ProjBKvBwdIdeal.main_arg5)
      ∧ m' ((c.tc : Thread Cert.ProjBKvBwdRefIdeal.nD Cert.ProjBKvBwdRefIdeal.τ).loc Cert.ProjBKvBwdRefIdeal.main_arg6) = m ((c.tc : Thread Cert.ProjBKvBwdIdeal.nD Cert.ProjBKvBwdIdeal.τ).loc Cert.ProjBKvBwdIdeal.main_arg6)
      ∧ m' ((c.tc : Thread Cert.ProjBKvBwdRefIdeal.nD Cert.ProjBKvBwdRefIdeal.τ).loc Cert.ProjBKvBwdRefIdeal.main_arg7) = m ((c.tc : Thread Cert.ProjBKvBwdIdeal.nD Cert.ProjBKvBwdIdeal.τ).loc Cert.ProjBKvBwdIdeal.main_arg7)
      ∧ m' ((c.tc : Thread Cert.ProjBKvBwdRefIdeal.nD Cert.ProjBKvBwdRefIdeal.τ).loc Cert.ProjBKvBwdRefIdeal.main_arg8) = m ((c.tc : Thread Cert.ProjBKvBwdIdeal.nD Cert.ProjBKvBwdIdeal.τ).loc Cert.ProjBKvBwdIdeal.main_arg8)
      ∧ m' ((c.tc : Thread Cert.ProjBKvBwdRefIdeal.nD Cert.ProjBKvBwdRefIdeal.τ).loc Cert.ProjBKvBwdRefIdeal.main_arg9) = m ((c.tc : Thread Cert.ProjBKvBwdIdeal.nD Cert.ProjBKvBwdIdeal.τ).loc Cert.ProjBKvBwdIdeal.main_arg9)
      ∧ m' ((c.tc : Thread Cert.ProjBKvBwdRefIdeal.nD Cert.ProjBKvBwdRefIdeal.τ).loc Cert.ProjBKvBwdRefIdeal.main_arg10) = m ((c.tc : Thread Cert.ProjBKvBwdIdeal.nD Cert.ProjBKvBwdIdeal.τ).loc Cert.ProjBKvBwdIdeal.main_arg10)) →
    ∃ (v0 : (c : Dev Cert.ProjBKvBwdIdeal.nD) → Buf (Elt Ideal) ((c.tc : Thread Cert.ProjBKvBwdIdeal.nD Cert.ProjBKvBwdIdeal.τ).loc Cert.ProjBKvBwdIdeal.main_v0_0)) (v1 : (c : Dev Cert.ProjBKvBwdIdeal.nD) → Buf (Elt Ideal) ((c.tc : Thread Cert.ProjBKvBwdIdeal.nD Cert.ProjBKvBwdIdeal.τ).loc Cert.ProjBKvBwdIdeal.main_v0_1)) (v2 : (c : Dev Cert.ProjBKvBwdIdeal.nD) → Buf (Elt Ideal) ((c.tc : Thread Cert.ProjBKvBwdIdeal.nD Cert.ProjBKvBwdIdeal.τ).loc Cert.ProjBKvBwdIdeal.main_v0_2)) (v3 : (c : Dev Cert.ProjBKvBwdIdeal.nD) → Buf (Elt Ideal) ((c.tc : Thread Cert.ProjBKvBwdIdeal.nD Cert.ProjBKvBwdIdeal.τ).loc Cert.ProjBKvBwdIdeal.main_v0_3)) (v4 : (c : Dev Cert.ProjBKvBwdIdeal.nD) → Buf (Elt Ideal) ((c.tc : Thread Cert.ProjBKvBwdIdeal.nD Cert.ProjBKvBwdIdeal.τ).loc Cert.ProjBKvBwdIdeal.main_v0_4)) (v5 : (c : Dev Cert.ProjBKvBwdIdeal.nD) → Buf (Elt Ideal) ((c.tc : Thread Cert.ProjBKvBwdIdeal.nD Cert.ProjBKvBwdIdeal.τ).loc Cert.ProjBKvBwdIdeal.main_v0_5)),
      θ_run (Cert.ProjBKvBwdIdeal.defs (F := Ideal)) (onTc (τ := Cert.ProjBKvBwdIdeal.τ) (Cert.ProjBKvBwdIdeal.main (F := Ideal))) ⟨m, fun _ => 0, g⟩ (fun r => ∀ c : Dev Cert.ProjBKvBwdIdeal.nD,
          r.2.mem ((c.tc : Thread Cert.ProjBKvBwdIdeal.nD Cert.ProjBKvBwdIdeal.τ).loc Cert.ProjBKvBwdIdeal.main_v0_0) = v0 c
          ∧ r.2.mem ((c.tc : Thread Cert.ProjBKvBwdIdeal.nD Cert.ProjBKvBwdIdeal.τ).loc Cert.ProjBKvBwdIdeal.main_v0_1) = v1 c
          ∧ r.2.mem ((c.tc : Thread Cert.ProjBKvBwdIdeal.nD Cert.ProjBKvBwdIdeal.τ).loc Cert.ProjBKvBwdIdeal.main_v0_2) = v2 c
          ∧ r.2.mem ((c.tc : Thread Cert.ProjBKvBwdIdeal.nD Cert.ProjBKvBwdIdeal.τ).loc Cert.ProjBKvBwdIdeal.main_v0_3) = v3 c
          ∧ r.2.mem ((c.tc : Thread Cert.ProjBKvBwdIdeal.nD Cert.ProjBKvBwdIdeal.τ).loc Cert.ProjBKvBwdIdeal.main_v0_4) = v4 c
          ∧ r.2.mem ((c.tc : Thread Cert.ProjBKvBwdIdeal.nD Cert.ProjBKvBwdIdeal.τ).loc Cert.ProjBKvBwdIdeal.main_v0_5) = v5 c
          ∧ r.2.mem ((c.tc : Thread Cert.ProjBKvBwdIdeal.nD Cert.ProjBKvBwdIdeal.τ).loc Cert.ProjBKvBwdIdeal.main_arg0) = m ((c.tc : Thread Cert.ProjBKvBwdIdeal.nD Cert.ProjBKvBwdIdeal.τ).loc Cert.ProjBKvBwdIdeal.main_arg0)
          ∧ r.2.mem ((c.tc : Thread Cert.ProjBKvBwdIdeal.nD Cert.ProjBKvBwdIdeal.τ).loc Cert.ProjBKvBwdIdeal.main_arg1) = m ((c.tc : Thread Cert.ProjBKvBwdIdeal.nD Cert.ProjBKvBwdIdeal.τ).loc Cert.ProjBKvBwdIdeal.main_arg1)
          ∧ r.2.mem ((c.tc : Thread Cert.ProjBKvBwdIdeal.nD Cert.ProjBKvBwdIdeal.τ).loc Cert.ProjBKvBwdIdeal.main_arg2) = m ((c.tc : Thread Cert.ProjBKvBwdIdeal.nD Cert.ProjBKvBwdIdeal.τ).loc Cert.ProjBKvBwdIdeal.main_arg2)
          ∧ r.2.mem ((c.tc : Thread Cert.ProjBKvBwdIdeal.nD Cert.ProjBKvBwdIdeal.τ).loc Cert.ProjBKvBwdIdeal.main_arg3) = m ((c.tc : Thread Cert.ProjBKvBwdIdeal.nD Cert.ProjBKvBwdIdeal.τ).loc Cert.ProjBKvBwdIdeal.main_arg3)
          ∧ r.2.mem ((c.tc : Thread Cert.ProjBKvBwdIdeal.nD Cert.ProjBKvBwdIdeal.τ).loc Cert.ProjBKvBwdIdeal.main_arg4) = m ((c.tc : Thread Cert.ProjBKvBwdIdeal.nD Cert.ProjBKvBwdIdeal.τ).loc Cert.ProjBKvBwdIdeal.main_arg4)
          ∧ r.2.mem ((c.tc : Thread Cert.ProjBKvBwdIdeal.nD Cert.ProjBKvBwdIdeal.τ).loc Cert.ProjBKvBwdIdeal.main_arg5) = m ((c.tc : Thread Cert.ProjBKvBwdIdeal.nD Cert.ProjBKvBwdIdeal.τ).loc Cert.ProjBKvBwdIdeal.main_arg5)
          ∧ r.2.mem ((c.tc : Thread Cert.ProjBKvBwdIdeal.nD Cert.ProjBKvBwdIdeal.τ).loc Cert.ProjBKvBwdIdeal.main_arg6) = m ((c.tc : Thread Cert.ProjBKvBwdIdeal.nD Cert.ProjBKvBwdIdeal.τ).loc Cert.ProjBKvBwdIdeal.main_arg6)
          ∧ r.2.mem ((c.tc : Thread Cert.ProjBKvBwdIdeal.nD Cert.ProjBKvBwdIdeal.τ).loc Cert.ProjBKvBwdIdeal.main_arg7) = m ((c.tc : Thread Cert.ProjBKvBwdIdeal.nD Cert.ProjBKvBwdIdeal.τ).loc Cert.ProjBKvBwdIdeal.main_arg7)
          ∧ r.2.mem ((c.tc : Thread Cert.ProjBKvBwdIdeal.nD Cert.ProjBKvBwdIdeal.τ).loc Cert.ProjBKvBwdIdeal.main_arg8) = m ((c.tc : Thread Cert.ProjBKvBwdIdeal.nD Cert.ProjBKvBwdIdeal.τ).loc Cert.ProjBKvBwdIdeal.main_arg8)
          ∧ r.2.mem ((c.tc : Thread Cert.ProjBKvBwdIdeal.nD Cert.ProjBKvBwdIdeal.τ).loc Cert.ProjBKvBwdIdeal.main_arg9) = m ((c.tc : Thread Cert.ProjBKvBwdIdeal.nD Cert.ProjBKvBwdIdeal.τ).loc Cert.ProjBKvBwdIdeal.main_arg9)
          ∧ r.2.mem ((c.tc : Thread Cert.ProjBKvBwdIdeal.nD Cert.ProjBKvBwdIdeal.τ).loc Cert.ProjBKvBwdIdeal.main_arg10) = m ((c.tc : Thread Cert.ProjBKvBwdIdeal.nD Cert.ProjBKvBwdIdeal.τ).loc Cert.ProjBKvBwdIdeal.main_arg10))
      ∧ θ_run (Cert.ProjBKvBwdRefIdeal.defs (F := Ideal)) (onTc (τ := Cert.ProjBKvBwdRefIdeal.τ) (Cert.ProjBKvBwdRefIdeal.main (F := Ideal))) ⟨m', fun _ => 0, g'⟩ (fun r => ∀ c : Dev Cert.ProjBKvBwdRefIdeal.nD,
          r.2.mem ((c.tc : Thread Cert.ProjBKvBwdRefIdeal.nD Cert.ProjBKvBwdRefIdeal.τ).loc Cert.ProjBKvBwdRefIdeal.main_v85) = v0 c
          ∧ r.2.mem ((c.tc : Thread Cert.ProjBKvBwdRefIdeal.nD Cert.ProjBKvBwdRefIdeal.τ).loc Cert.ProjBKvBwdRefIdeal.main_v67) = v1 c
          ∧ r.2.mem ((c.tc : Thread Cert.ProjBKvBwdRefIdeal.nD Cert.ProjBKvBwdRefIdeal.τ).loc Cert.ProjBKvBwdRefIdeal.main_v48) = v2 c
          ∧ r.2.mem ((c.tc : Thread Cert.ProjBKvBwdRefIdeal.nD Cert.ProjBKvBwdRefIdeal.τ).loc Cert.ProjBKvBwdRefIdeal.main_v98) = v3 c
          ∧ r.2.mem ((c.tc : Thread Cert.ProjBKvBwdRefIdeal.nD Cert.ProjBKvBwdRefIdeal.τ).loc Cert.ProjBKvBwdRefIdeal.main_v111) = v4 c
          ∧ r.2.mem ((c.tc : Thread Cert.ProjBKvBwdRefIdeal.nD Cert.ProjBKvBwdRefIdeal.τ).loc Cert.ProjBKvBwdRefIdeal.main_v112) = v5 c
          ∧ r.2.mem ((c.tc : Thread Cert.ProjBKvBwdRefIdeal.nD Cert.ProjBKvBwdRefIdeal.τ).loc Cert.ProjBKvBwdRefIdeal.main_arg0) = m' ((c.tc : Thread Cert.ProjBKvBwdRefIdeal.nD Cert.ProjBKvBwdRefIdeal.τ).loc Cert.ProjBKvBwdRefIdeal.main_arg0)
          ∧ r.2.mem ((c.tc : Thread Cert.ProjBKvBwdRefIdeal.nD Cert.ProjBKvBwdRefIdeal.τ).loc Cert.ProjBKvBwdRefIdeal.main_arg1) = m' ((c.tc : Thread Cert.ProjBKvBwdRefIdeal.nD Cert.ProjBKvBwdRefIdeal.τ).loc Cert.ProjBKvBwdRefIdeal.main_arg1)
          ∧ r.2.mem ((c.tc : Thread Cert.ProjBKvBwdRefIdeal.nD Cert.ProjBKvBwdRefIdeal.τ).loc Cert.ProjBKvBwdRefIdeal.main_arg2) = m' ((c.tc : Thread Cert.ProjBKvBwdRefIdeal.nD Cert.ProjBKvBwdRefIdeal.τ).loc Cert.ProjBKvBwdRefIdeal.main_arg2)
          ∧ r.2.mem ((c.tc : Thread Cert.ProjBKvBwdRefIdeal.nD Cert.ProjBKvBwdRefIdeal.τ).loc Cert.ProjBKvBwdRefIdeal.main_arg3) = m' ((c.tc : Thread Cert.ProjBKvBwdRefIdeal.nD Cert.ProjBKvBwdRefIdeal.τ).loc Cert.ProjBKvBwdRefIdeal.main_arg3)
          ∧ r.2.mem ((c.tc : Thread Cert.ProjBKvBwdRefIdeal.nD Cert.ProjBKvBwdRefIdeal.τ).loc Cert.ProjBKvBwdRefIdeal.main_arg4) = m' ((c.tc : Thread Cert.ProjBKvBwdRefIdeal.nD Cert.ProjBKvBwdRefIdeal.τ).loc Cert.ProjBKvBwdRefIdeal.main_arg4)
          ∧ r.2.mem ((c.tc : Thread Cert.ProjBKvBwdRefIdeal.nD Cert.ProjBKvBwdRefIdeal.τ).loc Cert.ProjBKvBwdRefIdeal.main_arg5) = m' ((c.tc : Thread Cert.ProjBKvBwdRefIdeal.nD Cert.ProjBKvBwdRefIdeal.τ).loc Cert.ProjBKvBwdRefIdeal.main_arg5)
          ∧ r.2.mem ((c.tc : Thread Cert.ProjBKvBwdRefIdeal.nD Cert.ProjBKvBwdRefIdeal.τ).loc Cert.ProjBKvBwdRefIdeal.main_arg6) = m' ((c.tc : Thread Cert.ProjBKvBwdRefIdeal.nD Cert.ProjBKvBwdRefIdeal.τ).loc Cert.ProjBKvBwdRefIdeal.main_arg6)
          ∧ r.2.mem ((c.tc : Thread Cert.ProjBKvBwdRefIdeal.nD Cert.ProjBKvBwdRefIdeal.τ).loc Cert.ProjBKvBwdRefIdeal.main_arg7) = m' ((c.tc : Thread Cert.ProjBKvBwdRefIdeal.nD Cert.ProjBKvBwdRefIdeal.τ).loc Cert.ProjBKvBwdRefIdeal.main_arg7)
          ∧ r.2.mem ((c.tc : Thread Cert.ProjBKvBwdRefIdeal.nD Cert.ProjBKvBwdRefIdeal.τ).loc Cert.ProjBKvBwdRefIdeal.main_arg8) = m' ((c.tc : Thread Cert.ProjBKvBwdRefIdeal.nD Cert.ProjBKvBwdRefIdeal.τ).loc Cert.ProjBKvBwdRefIdeal.main_arg8)
          ∧ r.2.mem ((c.tc : Thread Cert.ProjBKvBwdRefIdeal.nD Cert.ProjBKvBwdRefIdeal.τ).loc Cert.ProjBKvBwdRefIdeal.main_arg9) = m' ((c.tc : Thread Cert.ProjBKvBwdRefIdeal.nD Cert.ProjBKvBwdRefIdeal.τ).loc Cert.ProjBKvBwdRefIdeal.main_arg9)
          ∧ r.2.mem ((c.tc : Thread Cert.ProjBKvBwdRefIdeal.nD Cert.ProjBKvBwdRefIdeal.τ).loc Cert.ProjBKvBwdRefIdeal.main_arg10) = m' ((c.tc : Thread Cert.ProjBKvBwdRefIdeal.nD Cert.ProjBKvBwdRefIdeal.τ).loc Cert.ProjBKvBwdRefIdeal.main_arg10))

def preserves_WgradKv_WgradKvIdeal : Prop :=
  True

def algebraic_WgradKvIdeal_WgradKvRefIdeal [hWgradKvIdeal : Cert.WgradKvIdeal.Facts] [hWgradKvRefIdeal : Cert.WgradKvRefIdeal.Facts] : Prop :=
  ∀ (m : (ℓ : Loc Cert.WgradKvIdeal.nD Cert.WgradKvIdeal.τ Cert.WgradKvIdeal.sig) → Buf (Elt Ideal) ℓ) (g : Dev Cert.WgradKvIdeal.nD → PrngReg)
    (m' : (ℓ : Loc Cert.WgradKvRefIdeal.nD Cert.WgradKvRefIdeal.τ Cert.WgradKvRefIdeal.sig) → Buf (Elt Ideal) ℓ) (g' : Dev Cert.WgradKvRefIdeal.nD → PrngReg), Pre_WgradKvIdeal m →
    (∀ c : Dev Cert.WgradKvIdeal.nD,
      m' ((c.tc : Thread Cert.WgradKvRefIdeal.nD Cert.WgradKvRefIdeal.τ).loc Cert.WgradKvRefIdeal.main_arg0) = m ((c.tc : Thread Cert.WgradKvIdeal.nD Cert.WgradKvIdeal.τ).loc Cert.WgradKvIdeal.main_arg0)
      ∧ m' ((c.tc : Thread Cert.WgradKvRefIdeal.nD Cert.WgradKvRefIdeal.τ).loc Cert.WgradKvRefIdeal.main_arg1) = m ((c.tc : Thread Cert.WgradKvIdeal.nD Cert.WgradKvIdeal.τ).loc Cert.WgradKvIdeal.main_arg1)) →
    ∃ (v0 : (c : Dev Cert.WgradKvIdeal.nD) → Buf (Elt Ideal) ((c.tc : Thread Cert.WgradKvIdeal.nD Cert.WgradKvIdeal.τ).loc Cert.WgradKvIdeal.main_v0)),
      θ_run (Cert.WgradKvIdeal.defs (F := Ideal)) (onTc (τ := Cert.WgradKvIdeal.τ) (Cert.WgradKvIdeal.main (F := Ideal))) ⟨m, fun _ => 0, g⟩ (fun r => ∀ c : Dev Cert.WgradKvIdeal.nD,
          r.2.mem ((c.tc : Thread Cert.WgradKvIdeal.nD Cert.WgradKvIdeal.τ).loc Cert.WgradKvIdeal.main_v0) = v0 c
          ∧ r.2.mem ((c.tc : Thread Cert.WgradKvIdeal.nD Cert.WgradKvIdeal.τ).loc Cert.WgradKvIdeal.main_arg0) = m ((c.tc : Thread Cert.WgradKvIdeal.nD Cert.WgradKvIdeal.τ).loc Cert.WgradKvIdeal.main_arg0)
          ∧ r.2.mem ((c.tc : Thread Cert.WgradKvIdeal.nD Cert.WgradKvIdeal.τ).loc Cert.WgradKvIdeal.main_arg1) = m ((c.tc : Thread Cert.WgradKvIdeal.nD Cert.WgradKvIdeal.τ).loc Cert.WgradKvIdeal.main_arg1))
      ∧ θ_run (Cert.WgradKvRefIdeal.defs (F := Ideal)) (onTc (τ := Cert.WgradKvRefIdeal.τ) (Cert.WgradKvRefIdeal.main (F := Ideal))) ⟨m', fun _ => 0, g'⟩ (fun r => ∀ c : Dev Cert.WgradKvRefIdeal.nD,
          r.2.mem ((c.tc : Thread Cert.WgradKvRefIdeal.nD Cert.WgradKvRefIdeal.τ).loc Cert.WgradKvRefIdeal.main_v6) = v0 c
          ∧ r.2.mem ((c.tc : Thread Cert.WgradKvRefIdeal.nD Cert.WgradKvRefIdeal.τ).loc Cert.WgradKvRefIdeal.main_arg0) = m' ((c.tc : Thread Cert.WgradKvRefIdeal.nD Cert.WgradKvRefIdeal.τ).loc Cert.WgradKvRefIdeal.main_arg0)
          ∧ r.2.mem ((c.tc : Thread Cert.WgradKvRefIdeal.nD Cert.WgradKvRefIdeal.τ).loc Cert.WgradKvRefIdeal.main_arg1) = m' ((c.tc : Thread Cert.WgradKvRefIdeal.nD Cert.WgradKvRefIdeal.τ).loc Cert.WgradKvRefIdeal.main_arg1))

def preserves_ProjAFwd_ProjAFwdIdeal : Prop :=
  True

def algebraic_ProjAFwdIdeal_ProjAFwdRefIdeal [hProjAFwdIdeal : Cert.ProjAFwdIdeal.Facts] [hProjAFwdRefIdeal : Cert.ProjAFwdRefIdeal.Facts] : Prop :=
  ∀ (m : (ℓ : Loc Cert.ProjAFwdIdeal.nD Cert.ProjAFwdIdeal.τ Cert.ProjAFwdIdeal.sig) → Buf (Elt Ideal) ℓ) (g : Dev Cert.ProjAFwdIdeal.nD → PrngReg)
    (m' : (ℓ : Loc Cert.ProjAFwdRefIdeal.nD Cert.ProjAFwdRefIdeal.τ Cert.ProjAFwdRefIdeal.sig) → Buf (Elt Ideal) ℓ) (g' : Dev Cert.ProjAFwdRefIdeal.nD → PrngReg), Pre_ProjAFwdIdeal m →
    (∀ c : Dev Cert.ProjAFwdIdeal.nD,
      m' ((c.tc : Thread Cert.ProjAFwdRefIdeal.nD Cert.ProjAFwdRefIdeal.τ).loc Cert.ProjAFwdRefIdeal.main_arg0) = m ((c.tc : Thread Cert.ProjAFwdIdeal.nD Cert.ProjAFwdIdeal.τ).loc Cert.ProjAFwdIdeal.main_arg0)
      ∧ m' ((c.tc : Thread Cert.ProjAFwdRefIdeal.nD Cert.ProjAFwdRefIdeal.τ).loc Cert.ProjAFwdRefIdeal.main_arg1) = m ((c.tc : Thread Cert.ProjAFwdIdeal.nD Cert.ProjAFwdIdeal.τ).loc Cert.ProjAFwdIdeal.main_arg1)
      ∧ m' ((c.tc : Thread Cert.ProjAFwdRefIdeal.nD Cert.ProjAFwdRefIdeal.τ).loc Cert.ProjAFwdRefIdeal.main_arg2) = m ((c.tc : Thread Cert.ProjAFwdIdeal.nD Cert.ProjAFwdIdeal.τ).loc Cert.ProjAFwdIdeal.main_arg2)) →
    ∃ (v0 : (c : Dev Cert.ProjAFwdIdeal.nD) → Buf (Elt Ideal) ((c.tc : Thread Cert.ProjAFwdIdeal.nD Cert.ProjAFwdIdeal.τ).loc Cert.ProjAFwdIdeal.main_v0)),
      θ_run (Cert.ProjAFwdIdeal.defs (F := Ideal)) (onTc (τ := Cert.ProjAFwdIdeal.τ) (Cert.ProjAFwdIdeal.main (F := Ideal))) ⟨m, fun _ => 0, g⟩ (fun r => ∀ c : Dev Cert.ProjAFwdIdeal.nD,
          r.2.mem ((c.tc : Thread Cert.ProjAFwdIdeal.nD Cert.ProjAFwdIdeal.τ).loc Cert.ProjAFwdIdeal.main_v0) = v0 c
          ∧ r.2.mem ((c.tc : Thread Cert.ProjAFwdIdeal.nD Cert.ProjAFwdIdeal.τ).loc Cert.ProjAFwdIdeal.main_arg0) = m ((c.tc : Thread Cert.ProjAFwdIdeal.nD Cert.ProjAFwdIdeal.τ).loc Cert.ProjAFwdIdeal.main_arg0)
          ∧ r.2.mem ((c.tc : Thread Cert.ProjAFwdIdeal.nD Cert.ProjAFwdIdeal.τ).loc Cert.ProjAFwdIdeal.main_arg1) = m ((c.tc : Thread Cert.ProjAFwdIdeal.nD Cert.ProjAFwdIdeal.τ).loc Cert.ProjAFwdIdeal.main_arg1)
          ∧ r.2.mem ((c.tc : Thread Cert.ProjAFwdIdeal.nD Cert.ProjAFwdIdeal.τ).loc Cert.ProjAFwdIdeal.main_arg2) = m ((c.tc : Thread Cert.ProjAFwdIdeal.nD Cert.ProjAFwdIdeal.τ).loc Cert.ProjAFwdIdeal.main_arg2))
      ∧ θ_run (Cert.ProjAFwdRefIdeal.defs (F := Ideal)) (onTc (τ := Cert.ProjAFwdRefIdeal.τ) (Cert.ProjAFwdRefIdeal.main (F := Ideal))) ⟨m', fun _ => 0, g'⟩ (fun r => ∀ c : Dev Cert.ProjAFwdRefIdeal.nD,
          r.2.mem ((c.tc : Thread Cert.ProjAFwdRefIdeal.nD Cert.ProjAFwdRefIdeal.τ).loc Cert.ProjAFwdRefIdeal.main_v14) = v0 c
          ∧ r.2.mem ((c.tc : Thread Cert.ProjAFwdRefIdeal.nD Cert.ProjAFwdRefIdeal.τ).loc Cert.ProjAFwdRefIdeal.main_arg0) = m' ((c.tc : Thread Cert.ProjAFwdRefIdeal.nD Cert.ProjAFwdRefIdeal.τ).loc Cert.ProjAFwdRefIdeal.main_arg0)
          ∧ r.2.mem ((c.tc : Thread Cert.ProjAFwdRefIdeal.nD Cert.ProjAFwdRefIdeal.τ).loc Cert.ProjAFwdRefIdeal.main_arg1) = m' ((c.tc : Thread Cert.ProjAFwdRefIdeal.nD Cert.ProjAFwdRefIdeal.τ).loc Cert.ProjAFwdRefIdeal.main_arg1)
          ∧ r.2.mem ((c.tc : Thread Cert.ProjAFwdRefIdeal.nD Cert.ProjAFwdRefIdeal.τ).loc Cert.ProjAFwdRefIdeal.main_arg2) = m' ((c.tc : Thread Cert.ProjAFwdRefIdeal.nD Cert.ProjAFwdRefIdeal.τ).loc Cert.ProjAFwdRefIdeal.main_arg2))

def preserves_ProjBFwd_ProjBFwdIdeal : Prop :=
  True

def algebraic_ProjBFwdIdeal_ProjBFwdRefIdeal [hProjBFwdIdeal : Cert.ProjBFwdIdeal.Facts] [hProjBFwdRefIdeal : Cert.ProjBFwdRefIdeal.Facts] : Prop :=
  ∀ (m : (ℓ : Loc Cert.ProjBFwdIdeal.nD Cert.ProjBFwdIdeal.τ Cert.ProjBFwdIdeal.sig) → Buf (Elt Ideal) ℓ) (g : Dev Cert.ProjBFwdIdeal.nD → PrngReg)
    (m' : (ℓ : Loc Cert.ProjBFwdRefIdeal.nD Cert.ProjBFwdRefIdeal.τ Cert.ProjBFwdRefIdeal.sig) → Buf (Elt Ideal) ℓ) (g' : Dev Cert.ProjBFwdRefIdeal.nD → PrngReg), Pre_ProjBFwdIdeal m →
    (∀ c : Dev Cert.ProjBFwdIdeal.nD,
      m' ((c.tc : Thread Cert.ProjBFwdRefIdeal.nD Cert.ProjBFwdRefIdeal.τ).loc Cert.ProjBFwdRefIdeal.main_arg0) = m ((c.tc : Thread Cert.ProjBFwdIdeal.nD Cert.ProjBFwdIdeal.τ).loc Cert.ProjBFwdIdeal.main_arg0)
      ∧ m' ((c.tc : Thread Cert.ProjBFwdRefIdeal.nD Cert.ProjBFwdRefIdeal.τ).loc Cert.ProjBFwdRefIdeal.main_arg1) = m ((c.tc : Thread Cert.ProjBFwdIdeal.nD Cert.ProjBFwdIdeal.τ).loc Cert.ProjBFwdIdeal.main_arg1)
      ∧ m' ((c.tc : Thread Cert.ProjBFwdRefIdeal.nD Cert.ProjBFwdRefIdeal.τ).loc Cert.ProjBFwdRefIdeal.main_arg2) = m ((c.tc : Thread Cert.ProjBFwdIdeal.nD Cert.ProjBFwdIdeal.τ).loc Cert.ProjBFwdIdeal.main_arg2)) →
    ∃ (v0 : (c : Dev Cert.ProjBFwdIdeal.nD) → Buf (Elt Ideal) ((c.tc : Thread Cert.ProjBFwdIdeal.nD Cert.ProjBFwdIdeal.τ).loc Cert.ProjBFwdIdeal.main_v0)),
      θ_run (Cert.ProjBFwdIdeal.defs (F := Ideal)) (onTc (τ := Cert.ProjBFwdIdeal.τ) (Cert.ProjBFwdIdeal.main (F := Ideal))) ⟨m, fun _ => 0, g⟩ (fun r => ∀ c : Dev Cert.ProjBFwdIdeal.nD,
          r.2.mem ((c.tc : Thread Cert.ProjBFwdIdeal.nD Cert.ProjBFwdIdeal.τ).loc Cert.ProjBFwdIdeal.main_v0) = v0 c
          ∧ r.2.mem ((c.tc : Thread Cert.ProjBFwdIdeal.nD Cert.ProjBFwdIdeal.τ).loc Cert.ProjBFwdIdeal.main_arg0) = m ((c.tc : Thread Cert.ProjBFwdIdeal.nD Cert.ProjBFwdIdeal.τ).loc Cert.ProjBFwdIdeal.main_arg0)
          ∧ r.2.mem ((c.tc : Thread Cert.ProjBFwdIdeal.nD Cert.ProjBFwdIdeal.τ).loc Cert.ProjBFwdIdeal.main_arg1) = m ((c.tc : Thread Cert.ProjBFwdIdeal.nD Cert.ProjBFwdIdeal.τ).loc Cert.ProjBFwdIdeal.main_arg1)
          ∧ r.2.mem ((c.tc : Thread Cert.ProjBFwdIdeal.nD Cert.ProjBFwdIdeal.τ).loc Cert.ProjBFwdIdeal.main_arg2) = m ((c.tc : Thread Cert.ProjBFwdIdeal.nD Cert.ProjBFwdIdeal.τ).loc Cert.ProjBFwdIdeal.main_arg2))
      ∧ θ_run (Cert.ProjBFwdRefIdeal.defs (F := Ideal)) (onTc (τ := Cert.ProjBFwdRefIdeal.τ) (Cert.ProjBFwdRefIdeal.main (F := Ideal))) ⟨m', fun _ => 0, g'⟩ (fun r => ∀ c : Dev Cert.ProjBFwdRefIdeal.nD,
          r.2.mem ((c.tc : Thread Cert.ProjBFwdRefIdeal.nD Cert.ProjBFwdRefIdeal.τ).loc Cert.ProjBFwdRefIdeal.main_v14) = v0 c
          ∧ r.2.mem ((c.tc : Thread Cert.ProjBFwdRefIdeal.nD Cert.ProjBFwdRefIdeal.τ).loc Cert.ProjBFwdRefIdeal.main_arg0) = m' ((c.tc : Thread Cert.ProjBFwdRefIdeal.nD Cert.ProjBFwdRefIdeal.τ).loc Cert.ProjBFwdRefIdeal.main_arg0)
          ∧ r.2.mem ((c.tc : Thread Cert.ProjBFwdRefIdeal.nD Cert.ProjBFwdRefIdeal.τ).loc Cert.ProjBFwdRefIdeal.main_arg1) = m' ((c.tc : Thread Cert.ProjBFwdRefIdeal.nD Cert.ProjBFwdRefIdeal.τ).loc Cert.ProjBFwdRefIdeal.main_arg1)
          ∧ r.2.mem ((c.tc : Thread Cert.ProjBFwdRefIdeal.nD Cert.ProjBFwdRefIdeal.τ).loc Cert.ProjBFwdRefIdeal.main_arg2) = m' ((c.tc : Thread Cert.ProjBFwdRefIdeal.nD Cert.ProjBFwdRefIdeal.τ).loc Cert.ProjBFwdRefIdeal.main_arg2))

def preserves_ProjBKvFwd_ProjBKvFwdIdeal : Prop :=
  True

def algebraic_ProjBKvFwdIdeal_ProjBKvFwdRefIdeal [hProjBKvFwdIdeal : Cert.ProjBKvFwdIdeal.Facts] [hProjBKvFwdRefIdeal : Cert.ProjBKvFwdRefIdeal.Facts] : Prop :=
  ∀ (m : (ℓ : Loc Cert.ProjBKvFwdIdeal.nD Cert.ProjBKvFwdIdeal.τ Cert.ProjBKvFwdIdeal.sig) → Buf (Elt Ideal) ℓ) (g : Dev Cert.ProjBKvFwdIdeal.nD → PrngReg)
    (m' : (ℓ : Loc Cert.ProjBKvFwdRefIdeal.nD Cert.ProjBKvFwdRefIdeal.τ Cert.ProjBKvFwdRefIdeal.sig) → Buf (Elt Ideal) ℓ) (g' : Dev Cert.ProjBKvFwdRefIdeal.nD → PrngReg), Pre_ProjBKvFwdIdeal m →
    (∀ c : Dev Cert.ProjBKvFwdIdeal.nD,
      m' ((c.tc : Thread Cert.ProjBKvFwdRefIdeal.nD Cert.ProjBKvFwdRefIdeal.τ).loc Cert.ProjBKvFwdRefIdeal.main_arg0) = m ((c.tc : Thread Cert.ProjBKvFwdIdeal.nD Cert.ProjBKvFwdIdeal.τ).loc Cert.ProjBKvFwdIdeal.main_arg0)
      ∧ m' ((c.tc : Thread Cert.ProjBKvFwdRefIdeal.nD Cert.ProjBKvFwdRefIdeal.τ).loc Cert.ProjBKvFwdRefIdeal.main_arg1) = m ((c.tc : Thread Cert.ProjBKvFwdIdeal.nD Cert.ProjBKvFwdIdeal.τ).loc Cert.ProjBKvFwdIdeal.main_arg1)
      ∧ m' ((c.tc : Thread Cert.ProjBKvFwdRefIdeal.nD Cert.ProjBKvFwdRefIdeal.τ).loc Cert.ProjBKvFwdRefIdeal.main_arg2) = m ((c.tc : Thread Cert.ProjBKvFwdIdeal.nD Cert.ProjBKvFwdIdeal.τ).loc Cert.ProjBKvFwdIdeal.main_arg2)
      ∧ m' ((c.tc : Thread Cert.ProjBKvFwdRefIdeal.nD Cert.ProjBKvFwdRefIdeal.τ).loc Cert.ProjBKvFwdRefIdeal.main_arg3) = m ((c.tc : Thread Cert.ProjBKvFwdIdeal.nD Cert.ProjBKvFwdIdeal.τ).loc Cert.ProjBKvFwdIdeal.main_arg3)
      ∧ m' ((c.tc : Thread Cert.ProjBKvFwdRefIdeal.nD Cert.ProjBKvFwdRefIdeal.τ).loc Cert.ProjBKvFwdRefIdeal.main_arg4) = m ((c.tc : Thread Cert.ProjBKvFwdIdeal.nD Cert.ProjBKvFwdIdeal.τ).loc Cert.ProjBKvFwdIdeal.main_arg4)) →
    ∃ (v0 : (c : Dev Cert.ProjBKvFwdIdeal.nD) → Buf (Elt Ideal) ((c.tc : Thread Cert.ProjBKvFwdIdeal.nD Cert.ProjBKvFwdIdeal.τ).loc Cert.ProjBKvFwdIdeal.main_v0_0)) (v1 : (c : Dev Cert.ProjBKvFwdIdeal.nD) → Buf (Elt Ideal) ((c.tc : Thread Cert.ProjBKvFwdIdeal.nD Cert.ProjBKvFwdIdeal.τ).loc Cert.ProjBKvFwdIdeal.main_v0_1)),
      θ_run (Cert.ProjBKvFwdIdeal.defs (F := Ideal)) (onTc (τ := Cert.ProjBKvFwdIdeal.τ) (Cert.ProjBKvFwdIdeal.main (F := Ideal))) ⟨m, fun _ => 0, g⟩ (fun r => ∀ c : Dev Cert.ProjBKvFwdIdeal.nD,
          r.2.mem ((c.tc : Thread Cert.ProjBKvFwdIdeal.nD Cert.ProjBKvFwdIdeal.τ).loc Cert.ProjBKvFwdIdeal.main_v0_0) = v0 c
          ∧ r.2.mem ((c.tc : Thread Cert.ProjBKvFwdIdeal.nD Cert.ProjBKvFwdIdeal.τ).loc Cert.ProjBKvFwdIdeal.main_v0_1) = v1 c
          ∧ r.2.mem ((c.tc : Thread Cert.ProjBKvFwdIdeal.nD Cert.ProjBKvFwdIdeal.τ).loc Cert.ProjBKvFwdIdeal.main_arg0) = m ((c.tc : Thread Cert.ProjBKvFwdIdeal.nD Cert.ProjBKvFwdIdeal.τ).loc Cert.ProjBKvFwdIdeal.main_arg0)
          ∧ r.2.mem ((c.tc : Thread Cert.ProjBKvFwdIdeal.nD Cert.ProjBKvFwdIdeal.τ).loc Cert.ProjBKvFwdIdeal.main_arg1) = m ((c.tc : Thread Cert.ProjBKvFwdIdeal.nD Cert.ProjBKvFwdIdeal.τ).loc Cert.ProjBKvFwdIdeal.main_arg1)
          ∧ r.2.mem ((c.tc : Thread Cert.ProjBKvFwdIdeal.nD Cert.ProjBKvFwdIdeal.τ).loc Cert.ProjBKvFwdIdeal.main_arg2) = m ((c.tc : Thread Cert.ProjBKvFwdIdeal.nD Cert.ProjBKvFwdIdeal.τ).loc Cert.ProjBKvFwdIdeal.main_arg2)
          ∧ r.2.mem ((c.tc : Thread Cert.ProjBKvFwdIdeal.nD Cert.ProjBKvFwdIdeal.τ).loc Cert.ProjBKvFwdIdeal.main_arg3) = m ((c.tc : Thread Cert.ProjBKvFwdIdeal.nD Cert.ProjBKvFwdIdeal.τ).loc Cert.ProjBKvFwdIdeal.main_arg3)
          ∧ r.2.mem ((c.tc : Thread Cert.ProjBKvFwdIdeal.nD Cert.ProjBKvFwdIdeal.τ).loc Cert.ProjBKvFwdIdeal.main_arg4) = m ((c.tc : Thread Cert.ProjBKvFwdIdeal.nD Cert.ProjBKvFwdIdeal.τ).loc Cert.ProjBKvFwdIdeal.main_arg4))
      ∧ θ_run (Cert.ProjBKvFwdRefIdeal.defs (F := Ideal)) (onTc (τ := Cert.ProjBKvFwdRefIdeal.τ) (Cert.ProjBKvFwdRefIdeal.main (F := Ideal))) ⟨m', fun _ => 0, g'⟩ (fun r => ∀ c : Dev Cert.ProjBKvFwdRefIdeal.nD,
          r.2.mem ((c.tc : Thread Cert.ProjBKvFwdRefIdeal.nD Cert.ProjBKvFwdRefIdeal.τ).loc Cert.ProjBKvFwdRefIdeal.main_v14) = v0 c
          ∧ r.2.mem ((c.tc : Thread Cert.ProjBKvFwdRefIdeal.nD Cert.ProjBKvFwdRefIdeal.τ).loc Cert.ProjBKvFwdRefIdeal.main_v29) = v1 c
          ∧ r.2.mem ((c.tc : Thread Cert.ProjBKvFwdRefIdeal.nD Cert.ProjBKvFwdRefIdeal.τ).loc Cert.ProjBKvFwdRefIdeal.main_arg0) = m' ((c.tc : Thread Cert.ProjBKvFwdRefIdeal.nD Cert.ProjBKvFwdRefIdeal.τ).loc Cert.ProjBKvFwdRefIdeal.main_arg0)
          ∧ r.2.mem ((c.tc : Thread Cert.ProjBKvFwdRefIdeal.nD Cert.ProjBKvFwdRefIdeal.τ).loc Cert.ProjBKvFwdRefIdeal.main_arg1) = m' ((c.tc : Thread Cert.ProjBKvFwdRefIdeal.nD Cert.ProjBKvFwdRefIdeal.τ).loc Cert.ProjBKvFwdRefIdeal.main_arg1)
          ∧ r.2.mem ((c.tc : Thread Cert.ProjBKvFwdRefIdeal.nD Cert.ProjBKvFwdRefIdeal.τ).loc Cert.ProjBKvFwdRefIdeal.main_arg2) = m' ((c.tc : Thread Cert.ProjBKvFwdRefIdeal.nD Cert.ProjBKvFwdRefIdeal.τ).loc Cert.ProjBKvFwdRefIdeal.main_arg2)
          ∧ r.2.mem ((c.tc : Thread Cert.ProjBKvFwdRefIdeal.nD Cert.ProjBKvFwdRefIdeal.τ).loc Cert.ProjBKvFwdRefIdeal.main_arg3) = m' ((c.tc : Thread Cert.ProjBKvFwdRefIdeal.nD Cert.ProjBKvFwdRefIdeal.τ).loc Cert.ProjBKvFwdRefIdeal.main_arg3)
          ∧ r.2.mem ((c.tc : Thread Cert.ProjBKvFwdRefIdeal.nD Cert.ProjBKvFwdRefIdeal.τ).loc Cert.ProjBKvFwdRefIdeal.main_arg4) = m' ((c.tc : Thread Cert.ProjBKvFwdRefIdeal.nD Cert.ProjBKvFwdRefIdeal.τ).loc Cert.ProjBKvFwdRefIdeal.main_arg4))

def preserves_FfnLoss_FfnLossIdeal : Prop :=
  True

def algebraic_FfnLossIdeal_FfnLossRefIdeal_pre_finite16 [hFfnLossIdeal : Cert.FfnLossIdeal.Facts] [hFfnLossRefIdeal : Cert.FfnLossRefIdeal.Facts] [hPre_finite16 : Cert.Pre_finite16.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal_finite16 m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)
      ∧ m' ((c.tc : Thread Cert.FfnLossRefIdeal.nD Cert.FfnLossRefIdeal.τ).loc Cert.FfnLossRefIdeal.main_arg5) = m ((c.tc : Thread Cert.FfnLossIdeal.nD Cert.FfnLossIdeal.τ).loc Cert.FfnLossIdeal.main_arg5)
      ∧ m' ((c.tc : Thread Cert.FfnLossRefIdeal.nD Cert.FfnLossRefIdeal.τ).loc Cert.FfnLossRefIdeal.main_arg6) = m ((c.tc : Thread Cert.FfnLossIdeal.nD Cert.FfnLossIdeal.τ).loc Cert.FfnLossIdeal.main_arg6)) →
    ∃ (v0 : (c : Dev Cert.FfnLossIdeal.nD) → Buf (Elt Ideal) ((c.tc : Thread Cert.FfnLossIdeal.nD Cert.FfnLossIdeal.τ).loc Cert.FfnLossIdeal.main_v0_0)) (v1 : (c : Dev Cert.FfnLossIdeal.nD) → Buf (Elt Ideal) ((c.tc : Thread Cert.FfnLossIdeal.nD Cert.FfnLossIdeal.τ).loc Cert.FfnLossIdeal.main_v0_1)) (v2 : (c : Dev Cert.FfnLossIdeal.nD) → Buf (Elt Ideal) ((c.tc : Thread Cert.FfnLossIdeal.nD Cert.FfnLossIdeal.τ).loc Cert.FfnLossIdeal.main_v0_2)) (v3 : (c : Dev Cert.FfnLossIdeal.nD) → Buf (Elt Ideal) ((c.tc : Thread Cert.FfnLossIdeal.nD Cert.FfnLossIdeal.τ).loc Cert.FfnLossIdeal.main_v0_3)) (v4 : (c : Dev Cert.FfnLossIdeal.nD) → Buf (Elt Ideal) ((c.tc : Thread Cert.FfnLossIdeal.nD Cert.FfnLossIdeal.τ).loc Cert.FfnLossIdeal.main_v0_4)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v0_0) = v0 c
          ∧ r.2.mem ((c.tc : Thread Cert.FfnLossIdeal.nD Cert.FfnLossIdeal.τ).loc Cert.FfnLossIdeal.main_v0_1) = v1 c
          ∧ r.2.mem ((c.tc : Thread Cert.FfnLossIdeal.nD Cert.FfnLossIdeal.τ).loc Cert.FfnLossIdeal.main_v0_2) = v2 c
          ∧ r.2.mem ((c.tc : Thread Cert.FfnLossIdeal.nD Cert.FfnLossIdeal.τ).loc Cert.FfnLossIdeal.main_v0_3) = v3 c
          ∧ r.2.mem ((c.tc : Thread Cert.FfnLossIdeal.nD Cert.FfnLossIdeal.τ).loc Cert.FfnLossIdeal.main_v0_4) = v4 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
          ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
          ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v72) = v0 c
          ∧ r.2.mem ((c.tc : Thread Cert.FfnLossRefIdeal.nD Cert.FfnLossRefIdeal.τ).loc Cert.FfnLossRefIdeal.main_v73) = v1 c
          ∧ r.2.mem ((c.tc : Thread Cert.FfnLossRefIdeal.nD Cert.FfnLossRefIdeal.τ).loc Cert.FfnLossRefIdeal.main_v74) = v2 c
          ∧ r.2.mem ((c.tc : Thread Cert.FfnLossRefIdeal.nD Cert.FfnLossRefIdeal.τ).loc Cert.FfnLossRefIdeal.main_v71) = v3 c
          ∧ r.2.mem ((c.tc : Thread Cert.FfnLossRefIdeal.nD Cert.FfnLossRefIdeal.τ).loc Cert.FfnLossRefIdeal.main_v55) = v4 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4)
          ∧ r.2.mem ((c.tc : Thread Cert.FfnLossRefIdeal.nD Cert.FfnLossRefIdeal.τ).loc Cert.FfnLossRefIdeal.main_arg5) = m' ((c.tc : Thread Cert.FfnLossRefIdeal.nD Cert.FfnLossRefIdeal.τ).loc Cert.FfnLossRefIdeal.main_arg5)
          ∧ r.2.mem ((c.tc : Thread Cert.FfnLossRefIdeal.nD Cert.FfnLossRefIdeal.τ).loc Cert.FfnLossRefIdeal.main_arg6) = m' ((c.tc : Thread Cert.FfnLossRefIdeal.nD Cert.FfnLossRefIdeal.τ).loc Cert.FfnLossRefIdeal.main_arg6))

def preserves_MixAFwd_MixAFwdIdeal : Prop :=
  True

def algebraic_MixAFwdIdeal_MixAFwdRefIdeal_pre_finite17 [hMixAFwdIdeal : Cert.MixAFwdIdeal.Facts] [hMixAFwdRefIdeal : Cert.MixAFwdRefIdeal.Facts] [hPre_finite17 : Cert.Pre_finite17.Facts] : Prop :=
  ∀ (m : (ℓ : Loc Cert.MixAFwdIdeal.nD Cert.MixAFwdIdeal.τ Cert.MixAFwdIdeal.sig) → Buf (Elt Ideal) ℓ) (g : Dev Cert.MixAFwdIdeal.nD → PrngReg)
    (m' : (ℓ : Loc Cert.MixAFwdRefIdeal.nD Cert.MixAFwdRefIdeal.τ Cert.MixAFwdRefIdeal.sig) → Buf (Elt Ideal) ℓ) (g' : Dev Cert.MixAFwdRefIdeal.nD → PrngReg), Pre_MixAFwdIdeal_finite17 m →
    (∀ c : Dev Cert.MixAFwdIdeal.nD,
      m' ((c.tc : Thread Cert.MixAFwdRefIdeal.nD Cert.MixAFwdRefIdeal.τ).loc Cert.MixAFwdRefIdeal.main_arg0) = m ((c.tc : Thread Cert.MixAFwdIdeal.nD Cert.MixAFwdIdeal.τ).loc Cert.MixAFwdIdeal.main_arg0)
      ∧ m' ((c.tc : Thread Cert.MixAFwdRefIdeal.nD Cert.MixAFwdRefIdeal.τ).loc Cert.MixAFwdRefIdeal.main_arg1) = m ((c.tc : Thread Cert.MixAFwdIdeal.nD Cert.MixAFwdIdeal.τ).loc Cert.MixAFwdIdeal.main_arg1)
      ∧ m' ((c.tc : Thread Cert.MixAFwdRefIdeal.nD Cert.MixAFwdRefIdeal.τ).loc Cert.MixAFwdRefIdeal.main_arg2) = m ((c.tc : Thread Cert.MixAFwdIdeal.nD Cert.MixAFwdIdeal.τ).loc Cert.MixAFwdIdeal.main_arg2)
      ∧ m' ((c.tc : Thread Cert.MixAFwdRefIdeal.nD Cert.MixAFwdRefIdeal.τ).loc Cert.MixAFwdRefIdeal.main_arg3) = m ((c.tc : Thread Cert.MixAFwdIdeal.nD Cert.MixAFwdIdeal.τ).loc Cert.MixAFwdIdeal.main_arg3)
      ∧ m' ((c.tc : Thread Cert.MixAFwdRefIdeal.nD Cert.MixAFwdRefIdeal.τ).loc Cert.MixAFwdRefIdeal.main_arg4) = m ((c.tc : Thread Cert.MixAFwdIdeal.nD Cert.MixAFwdIdeal.τ).loc Cert.MixAFwdIdeal.main_arg4)) →
    ∃ (v0 : (c : Dev Cert.MixAFwdIdeal.nD) → Buf (Elt Ideal) ((c.tc : Thread Cert.MixAFwdIdeal.nD Cert.MixAFwdIdeal.τ).loc Cert.MixAFwdIdeal.main_v0_0)) (v1 : (c : Dev Cert.MixAFwdIdeal.nD) → Buf (Elt Ideal) ((c.tc : Thread Cert.MixAFwdIdeal.nD Cert.MixAFwdIdeal.τ).loc Cert.MixAFwdIdeal.main_v0_1)),
      θ_run (Cert.MixAFwdIdeal.defs (F := Ideal)) (onTc (τ := Cert.MixAFwdIdeal.τ) (Cert.MixAFwdIdeal.main (F := Ideal))) ⟨m, fun _ => 0, g⟩ (fun r => ∀ c : Dev Cert.MixAFwdIdeal.nD,
          r.2.mem ((c.tc : Thread Cert.MixAFwdIdeal.nD Cert.MixAFwdIdeal.τ).loc Cert.MixAFwdIdeal.main_v0_0) = v0 c
          ∧ r.2.mem ((c.tc : Thread Cert.MixAFwdIdeal.nD Cert.MixAFwdIdeal.τ).loc Cert.MixAFwdIdeal.main_v0_1) = v1 c
          ∧ r.2.mem ((c.tc : Thread Cert.MixAFwdIdeal.nD Cert.MixAFwdIdeal.τ).loc Cert.MixAFwdIdeal.main_arg0) = m ((c.tc : Thread Cert.MixAFwdIdeal.nD Cert.MixAFwdIdeal.τ).loc Cert.MixAFwdIdeal.main_arg0)
          ∧ r.2.mem ((c.tc : Thread Cert.MixAFwdIdeal.nD Cert.MixAFwdIdeal.τ).loc Cert.MixAFwdIdeal.main_arg1) = m ((c.tc : Thread Cert.MixAFwdIdeal.nD Cert.MixAFwdIdeal.τ).loc Cert.MixAFwdIdeal.main_arg1)
          ∧ r.2.mem ((c.tc : Thread Cert.MixAFwdIdeal.nD Cert.MixAFwdIdeal.τ).loc Cert.MixAFwdIdeal.main_arg2) = m ((c.tc : Thread Cert.MixAFwdIdeal.nD Cert.MixAFwdIdeal.τ).loc Cert.MixAFwdIdeal.main_arg2)
          ∧ r.2.mem ((c.tc : Thread Cert.MixAFwdIdeal.nD Cert.MixAFwdIdeal.τ).loc Cert.MixAFwdIdeal.main_arg3) = m ((c.tc : Thread Cert.MixAFwdIdeal.nD Cert.MixAFwdIdeal.τ).loc Cert.MixAFwdIdeal.main_arg3)
          ∧ r.2.mem ((c.tc : Thread Cert.MixAFwdIdeal.nD Cert.MixAFwdIdeal.τ).loc Cert.MixAFwdIdeal.main_arg4) = m ((c.tc : Thread Cert.MixAFwdIdeal.nD Cert.MixAFwdIdeal.τ).loc Cert.MixAFwdIdeal.main_arg4))
      ∧ θ_run (Cert.MixAFwdRefIdeal.defs (F := Ideal)) (onTc (τ := Cert.MixAFwdRefIdeal.τ) (Cert.MixAFwdRefIdeal.main (F := Ideal))) ⟨m', fun _ => 0, g'⟩ (fun r => ∀ c : Dev Cert.MixAFwdRefIdeal.nD,
          r.2.mem ((c.tc : Thread Cert.MixAFwdRefIdeal.nD Cert.MixAFwdRefIdeal.τ).loc Cert.MixAFwdRefIdeal.main_v56) = v0 c
          ∧ r.2.mem ((c.tc : Thread Cert.MixAFwdRefIdeal.nD Cert.MixAFwdRefIdeal.τ).loc Cert.MixAFwdRefIdeal.main_v57) = v1 c
          ∧ r.2.mem ((c.tc : Thread Cert.MixAFwdRefIdeal.nD Cert.MixAFwdRefIdeal.τ).loc Cert.MixAFwdRefIdeal.main_arg0) = m' ((c.tc : Thread Cert.MixAFwdRefIdeal.nD Cert.MixAFwdRefIdeal.τ).loc Cert.MixAFwdRefIdeal.main_arg0)
          ∧ r.2.mem ((c.tc : Thread Cert.MixAFwdRefIdeal.nD Cert.MixAFwdRefIdeal.τ).loc Cert.MixAFwdRefIdeal.main_arg1) = m' ((c.tc : Thread Cert.MixAFwdRefIdeal.nD Cert.MixAFwdRefIdeal.τ).loc Cert.MixAFwdRefIdeal.main_arg1)
          ∧ r.2.mem ((c.tc : Thread Cert.MixAFwdRefIdeal.nD Cert.MixAFwdRefIdeal.τ).loc Cert.MixAFwdRefIdeal.main_arg2) = m' ((c.tc : Thread Cert.MixAFwdRefIdeal.nD Cert.MixAFwdRefIdeal.τ).loc Cert.MixAFwdRefIdeal.main_arg2)
          ∧ r.2.mem ((c.tc : Thread Cert.MixAFwdRefIdeal.nD Cert.MixAFwdRefIdeal.τ).loc Cert.MixAFwdRefIdeal.main_arg3) = m' ((c.tc : Thread Cert.MixAFwdRefIdeal.nD Cert.MixAFwdRefIdeal.τ).loc Cert.MixAFwdRefIdeal.main_arg3)
          ∧ r.2.mem ((c.tc : Thread Cert.MixAFwdRefIdeal.nD Cert.MixAFwdRefIdeal.τ).loc Cert.MixAFwdRefIdeal.main_arg4) = m' ((c.tc : Thread Cert.MixAFwdRefIdeal.nD Cert.MixAFwdRefIdeal.τ).loc Cert.MixAFwdRefIdeal.main_arg4))

def Claim : Prop :=
  ∃ (hKernel : Cert.Kernel.Facts) (hKernelIdeal : Cert.KernelIdeal.Facts) (hReferenceIdeal : Cert.ReferenceIdeal.Facts) (hFfnBwd : Cert.FfnBwd.Facts) (hFfnBwdIdeal : Cert.FfnBwdIdeal.Facts) (hFfnBwdRefIdeal : Cert.FfnBwdRefIdeal.Facts) (hWgradDown : Cert.WgradDown.Facts) (hWgradDownIdeal : Cert.WgradDownIdeal.Facts) (hWgradDownRefIdeal : Cert.WgradDownRefIdeal.Facts) (hWgradGate : Cert.WgradGate.Facts) (hWgradGateIdeal : Cert.WgradGateIdeal.Facts) (hWgradGateRefIdeal : Cert.WgradGateRefIdeal.Facts) (hWgradOut : Cert.WgradOut.Facts) (hWgradOutIdeal : Cert.WgradOutIdeal.Facts) (hWgradOutRefIdeal : Cert.WgradOutRefIdeal.Facts) (hWgradInA : Cert.WgradInA.Facts) (hWgradInAIdeal : Cert.WgradInAIdeal.Facts) (hWgradInARefIdeal : Cert.WgradInARefIdeal.Facts) (hWgradInB : Cert.WgradInB.Facts) (hWgradInBIdeal : Cert.WgradInBIdeal.Facts) (hWgradInBRefIdeal : Cert.WgradInBRefIdeal.Facts) (hFfnFwd : Cert.FfnFwd.Facts) (hFfnFwdIdeal : Cert.FfnFwdIdeal.Facts) (hFfnFwdRefIdeal : Cert.FfnFwdRefIdeal.Facts) (hProjABwd : Cert.ProjABwd.Facts) (hProjABwdIdeal : Cert.ProjABwdIdeal.Facts) (hProjABwdRefIdeal : Cert.ProjABwdRefIdeal.Facts) (hProjBBwd : Cert.ProjBBwd.Facts) (hProjBBwdIdeal : Cert.ProjBBwdIdeal.Facts) (hProjBBwdRefIdeal : Cert.ProjBBwdRefIdeal.Facts) (hProjBKvBwd : Cert.ProjBKvBwd.Facts) (hProjBKvBwdIdeal : Cert.ProjBKvBwdIdeal.Facts) (hProjBKvBwdRefIdeal : Cert.ProjBKvBwdRefIdeal.Facts) (hWgradKv : Cert.WgradKv.Facts) (hWgradKvIdeal : Cert.WgradKvIdeal.Facts) (hWgradKvRefIdeal : Cert.WgradKvRefIdeal.Facts) (hProjAFwd : Cert.ProjAFwd.Facts) (hProjAFwdIdeal : Cert.ProjAFwdIdeal.Facts) (hProjAFwdRefIdeal : Cert.ProjAFwdRefIdeal.Facts) (hProjBFwd : Cert.ProjBFwd.Facts) (hProjBFwdIdeal : Cert.ProjBFwdIdeal.Facts) (hProjBFwdRefIdeal : Cert.ProjBFwdRefIdeal.Facts) (hProjBKvFwd : Cert.ProjBKvFwd.Facts) (hProjBKvFwdIdeal : Cert.ProjBKvFwdIdeal.Facts) (hProjBKvFwdRefIdeal : Cert.ProjBKvFwdRefIdeal.Facts) (hFfnLoss : Cert.FfnLoss.Facts) (hFfnLossIdeal : Cert.FfnLossIdeal.Facts) (hFfnLossRefIdeal : Cert.FfnLossRefIdeal.Facts) (hMixAFwd : Cert.MixAFwd.Facts) (hMixAFwdIdeal : Cert.MixAFwdIdeal.Facts) (hMixAFwdRefIdeal : Cert.MixAFwdRefIdeal.Facts) (hPre_finite : Cert.Pre_finite.Facts) (hPre_finite2 : Cert.Pre_finite2.Facts) (hPre_finite9 : Cert.Pre_finite9.Facts) (hPre_finite10 : Cert.Pre_finite10.Facts) (hPre_finite11 : Cert.Pre_finite11.Facts) (hPre_finite16 : Cert.Pre_finite16.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnBwd (hFfnBwd := hFfnBwd)
    ∧ quiescent_FfnBwdIdeal (hFfnBwdIdeal := hFfnBwdIdeal)
    ∧ quiescent_FfnBwdIdeal_pre_finite2 (hFfnBwdIdeal := hFfnBwdIdeal) (hPre_finite2 := hPre_finite2)
    ∧ quiescent_FfnBwdRefIdeal (hFfnBwdRefIdeal := hFfnBwdRefIdeal)
    ∧ quiescent_FfnBwdRefIdeal_pre_finite2 (hFfnBwdRefIdeal := hFfnBwdRefIdeal) (hPre_finite2 := hPre_finite2)
    ∧ quiescent_WgradDown (hWgradDown := hWgradDown)
    ∧ quiescent_WgradDownIdeal (hWgradDownIdeal := hWgradDownIdeal)
    ∧ quiescent_WgradDownRefIdeal (hWgradDownRefIdeal := hWgradDownRefIdeal)
    ∧ quiescent_WgradGate (hWgradGate := hWgradGate)
    ∧ quiescent_WgradGateIdeal (hWgradGateIdeal := hWgradGateIdeal)
    ∧ quiescent_WgradGateRefIdeal (hWgradGateRefIdeal := hWgradGateRefIdeal)
    ∧ quiescent_WgradOut (hWgradOut := hWgradOut)
    ∧ quiescent_WgradOutIdeal (hWgradOutIdeal := hWgradOutIdeal)
    ∧ quiescent_WgradOutRefIdeal (hWgradOutRefIdeal := hWgradOutRefIdeal)
    ∧ quiescent_WgradInA (hWgradInA := hWgradInA)
    ∧ quiescent_WgradInAIdeal (hWgradInAIdeal := hWgradInAIdeal)
    ∧ quiescent_WgradInARefIdeal (hWgradInARefIdeal := hWgradInARefIdeal)
    ∧ quiescent_WgradInB (hWgradInB := hWgradInB)
    ∧ quiescent_WgradInBIdeal (hWgradInBIdeal := hWgradInBIdeal)
    ∧ quiescent_WgradInBRefIdeal (hWgradInBRefIdeal := hWgradInBRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ProjABwd (hProjABwd := hProjABwd)
    ∧ quiescent_ProjABwdIdeal (hProjABwdIdeal := hProjABwdIdeal)
    ∧ quiescent_ProjABwdIdeal_pre_finite9 (hProjABwdIdeal := hProjABwdIdeal) (hPre_finite9 := hPre_finite9)
    ∧ quiescent_ProjABwdRefIdeal (hProjABwdRefIdeal := hProjABwdRefIdeal)
    ∧ quiescent_ProjABwdRefIdeal_pre_finite9 (hProjABwdRefIdeal := hProjABwdRefIdeal) (hPre_finite9 := hPre_finite9)
    ∧ quiescent_ProjBBwd (hProjBBwd := hProjBBwd)
    ∧ quiescent_ProjBBwdIdeal (hProjBBwdIdeal := hProjBBwdIdeal)
    ∧ quiescent_ProjBBwdIdeal_pre_finite10 (hProjBBwdIdeal := hProjBBwdIdeal) (hPre_finite10 := hPre_finite10)
    ∧ quiescent_ProjBBwdRefIdeal (hProjBBwdRefIdeal := hProjBBwdRefIdeal)
    ∧ quiescent_ProjBBwdRefIdeal_pre_finite10 (hProjBBwdRefIdeal := hProjBBwdRefIdeal) (hPre_finite10 := hPre_finite10)
    ∧ quiescent_ProjBKvBwd (hProjBKvBwd := hProjBKvBwd)
    ∧ quiescent_ProjBKvBwdIdeal (hProjBKvBwdIdeal := hProjBKvBwdIdeal)
    ∧ quiescent_ProjBKvBwdIdeal_pre_finite11 (hProjBKvBwdIdeal := hProjBKvBwdIdeal) (hPre_finite11 := hPre_finite11)
    ∧ quiescent_ProjBKvBwdRefIdeal (hProjBKvBwdRefIdeal := hProjBKvBwdRefIdeal)
    ∧ quiescent_ProjBKvBwdRefIdeal_pre_finite11 (hProjBKvBwdRefIdeal := hProjBKvBwdRefIdeal) (hPre_finite11 := hPre_finite11)
    ∧ quiescent_WgradKv (hWgradKv := hWgradKv)
    ∧ quiescent_WgradKvIdeal (hWgradKvIdeal := hWgradKvIdeal)
    ∧ quiescent_WgradKvRefIdeal (hWgradKvRefIdeal := hWgradKvRefIdeal)
    ∧ quiescent_ProjAFwd (hProjAFwd := hProjAFwd)
    ∧ quiescent_ProjAFwdIdeal (hProjAFwdIdeal := hProjAFwdIdeal)
    ∧ quiescent_ProjAFwdRefIdeal (hProjAFwdRefIdeal := hProjAFwdRefIdeal)
    ∧ quiescent_ProjBFwd (hProjBFwd := hProjBFwd)
    ∧ quiescent_ProjBFwdIdeal (hProjBFwdIdeal := hProjBFwdIdeal)
    ∧ quiescent_ProjBFwdRefIdeal (hProjBFwdRefIdeal := hProjBFwdRefIdeal)
    ∧ quiescent_ProjBKvFwd (hProjBKvFwd := hProjBKvFwd)
    ∧ quiescent_ProjBKvFwdIdeal (hProjBKvFwdIdeal := hProjBKvFwdIdeal)
    ∧ quiescent_ProjBKvFwdRefIdeal (hProjBKvFwdRefIdeal := hProjBKvFwdRefIdeal)
    ∧ quiescent_FfnLoss (hFfnLoss := hFfnLoss)
    ∧ quiescent_FfnLossIdeal (hFfnLossIdeal := hFfnLossIdeal)
    ∧ quiescent_FfnLossIdeal_pre_finite16 (hFfnLossIdeal := hFfnLossIdeal) (hPre_finite16 := hPre_finite16)
    ∧ quiescent_FfnLossRefIdeal (hFfnLossRefIdeal := hFfnLossRefIdeal)
    ∧ quiescent_FfnLossRefIdeal_pre_finite16 (hFfnLossRefIdeal := hFfnLossRefIdeal) (hPre_finite16 := hPre_finite16)
    ∧ quiescent_MixAFwd (hMixAFwd := hMixAFwd)
    ∧ quiescent_MixAFwdIdeal (hMixAFwdIdeal := hMixAFwdIdeal)
    ∧ quiescent_MixAFwdIdeal_pre_finite17 (hMixAFwdIdeal := hMixAFwdIdeal) (hPre_finite17 := hPre_finite17)
    ∧ quiescent_MixAFwdRefIdeal (hMixAFwdRefIdeal := hMixAFwdRefIdeal)
    ∧ quiescent_MixAFwdRefIdeal_pre_finite17 (hMixAFwdRefIdeal := hMixAFwdRefIdeal) (hPre_finite17 := hPre_finite17)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnBwd_FfnBwdIdeal
    ∧ algebraic_FfnBwdIdeal_FfnBwdRefIdeal_pre_finite2 (hFfnBwdIdeal := hFfnBwdIdeal) (hFfnBwdRefIdeal := hFfnBwdRefIdeal) (hPre_finite2 := hPre_finite2)
    ∧ preserves_WgradDown_WgradDownIdeal
    ∧ algebraic_WgradDownIdeal_WgradDownRefIdeal (hWgradDownIdeal := hWgradDownIdeal) (hWgradDownRefIdeal := hWgradDownRefIdeal)
    ∧ preserves_WgradGate_WgradGateIdeal
    ∧ algebraic_WgradGateIdeal_WgradGateRefIdeal (hWgradGateIdeal := hWgradGateIdeal) (hWgradGateRefIdeal := hWgradGateRefIdeal)
    ∧ preserves_WgradOut_WgradOutIdeal
    ∧ algebraic_WgradOutIdeal_WgradOutRefIdeal (hWgradOutIdeal := hWgradOutIdeal) (hWgradOutRefIdeal := hWgradOutRefIdeal)
    ∧ preserves_WgradInA_WgradInAIdeal
    ∧ algebraic_WgradInAIdeal_WgradInARefIdeal (hWgradInAIdeal := hWgradInAIdeal) (hWgradInARefIdeal := hWgradInARefIdeal)
    ∧ preserves_WgradInB_WgradInBIdeal
    ∧ algebraic_WgradInBIdeal_WgradInBRefIdeal (hWgradInBIdeal := hWgradInBIdeal) (hWgradInBRefIdeal := hWgradInBRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ProjABwd_ProjABwdIdeal
    ∧ algebraic_ProjABwdIdeal_ProjABwdRefIdeal_pre_finite9 (hProjABwdIdeal := hProjABwdIdeal) (hProjABwdRefIdeal := hProjABwdRefIdeal) (hPre_finite9 := hPre_finite9)
    ∧ preserves_ProjBBwd_ProjBBwdIdeal
    ∧ algebraic_ProjBBwdIdeal_ProjBBwdRefIdeal_pre_finite10 (hProjBBwdIdeal := hProjBBwdIdeal) (hProjBBwdRefIdeal := hProjBBwdRefIdeal) (hPre_finite10 := hPre_finite10)
    ∧ preserves_ProjBKvBwd_ProjBKvBwdIdeal
    ∧ algebraic_ProjBKvBwdIdeal_ProjBKvBwdRefIdeal_pre_finite11 (hProjBKvBwdIdeal := hProjBKvBwdIdeal) (hProjBKvBwdRefIdeal := hProjBKvBwdRefIdeal) (hPre_finite11 := hPre_finite11)
    ∧ preserves_WgradKv_WgradKvIdeal
    ∧ algebraic_WgradKvIdeal_WgradKvRefIdeal (hWgradKvIdeal := hWgradKvIdeal) (hWgradKvRefIdeal := hWgradKvRefIdeal)
    ∧ preserves_ProjAFwd_ProjAFwdIdeal
    ∧ algebraic_ProjAFwdIdeal_ProjAFwdRefIdeal (hProjAFwdIdeal := hProjAFwdIdeal) (hProjAFwdRefIdeal := hProjAFwdRefIdeal)
    ∧ preserves_ProjBFwd_ProjBFwdIdeal
    ∧ algebraic_ProjBFwdIdeal_ProjBFwdRefIdeal (hProjBFwdIdeal := hProjBFwdIdeal) (hProjBFwdRefIdeal := hProjBFwdRefIdeal)
    ∧ preserves_ProjBKvFwd_ProjBKvFwdIdeal
    ∧ algebraic_ProjBKvFwdIdeal_ProjBKvFwdRefIdeal (hProjBKvFwdIdeal := hProjBKvFwdIdeal) (hProjBKvFwdRefIdeal := hProjBKvFwdRefIdeal)
    ∧ preserves_FfnLoss_FfnLossIdeal
    ∧ algebraic_FfnLossIdeal_FfnLossRefIdeal_pre_finite16 (hFfnLossIdeal := hFfnLossIdeal) (hFfnLossRefIdeal := hFfnLossRefIdeal) (hPre_finite16 := hPre_finite16)
    ∧ preserves_MixAFwd_MixAFwdIdeal
    ∧ algebraic_MixAFwdIdeal_MixAFwdRefIdeal_pre_finite17 (hMixAFwdIdeal := hMixAFwdIdeal) (hMixAFwdRefIdeal := hMixAFwdRefIdeal) (hPre_finite17 := hPre_finite17)
-- ==== Pre_finite.lean ====
abbrev S16384x1024 : Shape := ⟨2, ![16384, 1024]⟩
abbrev S16384x2560 : Shape := ⟨2, ![16384, 2560]⟩
abbrev S3x768 : Shape := ⟨2, ![3, 768]⟩
abbrev S256x2048 : Shape := ⟨2, ![256, 2048]⟩
abbrev S1024x1024 : Shape := ⟨2, ![1024, 1024]⟩
abbrev S16384x256 : Shape := ⟨2, ![16384, 256]⟩
abbrev S256x512 : Shape := ⟨2, ![256, 512]⟩
abbrev S256x1024 : Shape := ⟨2, ![256, 1024]⟩
abbrev S_ : Shape := ⟨0, ![]⟩

class Facts : Prop where
  slices_S16384x2560_S16384x256_0_2304 : S16384x2560.Slices ![0, 2304] S16384x256
  slices_S256x2048_S256x512_0_512 : S256x2048.Slices ![0, 512] S256x512
  slices_S1024x1024_S256x1024_768_0 : S1024x1024.Slices ![768, 0] S256x1024
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S16384x256 : S_.BroadcastsInDim S16384x256 (![] : Fin 0 → Fin S16384x256.rank)
  reducesTo_S16384x256_S_d0_1 : S16384x256.ReducesTo [0, 1] S_
  bcast_S_S256x512 : S_.BroadcastsInDim S256x512 (![] : Fin 0 → Fin S256x512.rank)
  reducesTo_S256x512_S_d0_1 : S256x512.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_v6 : IVec S_ 1) (main_v11 : IVec S_ 1) (main_v16 : IVec S_ 1) (main_v17 : FVec F S256x1024 .f32) : IVec S_ 1 :=
  let main_v18 : FVec F S256x1024 .f32 := Host.absf main_v17
  let main_cst_4 : FVec F S_ .f32 := constant S_ .f32 0x7F800000#32
  let main_v19 : FVec F S256x1024 .f32 := broadcastInDim S256x1024 ![] bcast_S_S256x1024 main_cst_4
  let main_v20 : IVec S256x1024 1 := cmpf .olt main_v18 main_v19
  let main_c_5 : IVec S_ 1 := constantI S_ 1 1#1
  let main_v21 : IVec S_ 1 := (fun x v => Host.reduce IntOp.andi x v reducesTo_S256x1024_S_d0_1 h_S_) main_v20 main_c_5
  let main_v22 : IVec S_ 1 := andi main_v6 main_v11
  let main_v23 : IVec S_ 1 := andi main_v22 main_v16
  let main_v24 : IVec S_ 1 := andi main_v23 main_v21
  main_v24

def fn {F : FTy → Type} [FloatOps F] (main_arg0 : FVec F S16384x1024 .f32) (main_arg1 : FVec F S16384x2560 .bf16) (main_arg2 : FVec F S3x768 .f32) (main_arg3 : FVec F S256x2048 .bf16) (main_arg4 : FVec F S1024x1024 .bf16) : IVec S_ 1 :=
  let main_v0 : FVec F S16384x256 .bf16 := (extractStridedSlice S16384x256 ![0, 2304] · slices_S16384x2560_S16384x256_0_2304) main_arg1
  let main_v1 : FVec F S256x512 .bf16 := (extractStridedSlice S256x512 ![0, 512] · slices_S256x2048_S256x512_0_512) main_arg3
  let main_v2 : FVec F S256x1024 .bf16 := (extractStridedSlice S256x1024 ![768, 0] · slices_S1024x1024_S256x1024_768_0) main_arg4
  let main_v3 : FVec F S16384x1024 .f32 := Host.absf main_arg0
  let main_cst : FVec F S_ .f32 := constant S_ .f32 0x7F800000#32
  let main_v4 : FVec F S16384x1024 .f32 := broadcastInDim S16384x1024 ![] bcast_S_S16384x1024 main_cst
  let main_v5 : IVec S16384x1024 1 := cmpf .olt main_v3 main_v4
  let main_c : IVec S_ 1 := constantI S_ 1 1#1
  let main_v6 : IVec S_ 1 := (fun x v => Host.reduce IntOp.andi x v reducesTo_S16384x1024_S_d0_1 h_S_) main_v5 main_c
  let main_v7 : FVec F S16384x256 .f32 := (extf .f32 · bitsLt_bf16_f32) main_v0
  let main_v8 : FVec F S16384x256 .f32 := Host.absf main_v7
  let main_cst_0 : FVec F S_ .f32 := constant S_ .f32 0x7F800000#32
  let main_v9 : FVec F S16384x256 .f32 := broadcastInDim S16384x256 ![] bcast_S_S16384x256 main_cst_0
  let main_v10 : IVec S16384x256 1 := cmpf .olt main_v8 main_v9
  let main_c_1 : IVec S_ 1 := constantI S_ 1 1#1
  let main_v11 : IVec S_ 1 := (fun x v => Host.reduce IntOp.andi x v reducesTo_S16384x256_S_d0_1 h_S_) main_v10 main_c_1
  let main_v12 : FVec F S256x512 .f32 := (extf .f32 · bitsLt_bf16_f32) main_v1
  let main_v13 : FVec F S256x512 .f32 := Host.absf main_v12
  let main_cst_2 : FVec F S_ .f32 := constant S_ .f32 0x7F800000#32
  let main_v14 : FVec F S256x512 .f32 := broadcastInDim S256x512 ![] bcast_S_S256x512 main_cst_2
  let main_v15 : IVec S256x512 1 := cmpf .olt main_v13 main_v14
  let main_c_3 : IVec S_ 1 := constantI S_ 1 1#1
  let main_v16 : IVec S_ 1 := (fun x v => Host.reduce IntOp.andi x v reducesTo_S256x512_S_d0_1 h_S_) main_v15 main_c_3
  let main_v17 : FVec F S256x1024 .f32 := (extf .f32 · bitsLt_bf16_f32) main_v2
  fn_part1 (F := F) main_v6 main_v11 main_v16 main_v17
-- ==== Pre_finite10.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v4 : IVec S_ 1) (main_v9 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v4 main_v9
  let main_v19 : IVec S_ 1 := andi main_v18 main_v13
  let main_v20 : IVec S_ 1 := andi main_v19 main_v17
  main_v20

def fn {F : FTy → Type} [FloatOps F] (main_arg0 : FVec F S16384x1024 .bf16) (main_arg1 : FVec F S1024x1024 .bf16) (main_arg2 : FVec F S16384x1024 .f32) (main_arg3 : FVec F S1x1024 .f32) (main_arg4 : FVec F S16384x1024 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : FVec F S16384x1024 .f32 := Host.absf main_arg2
  let main_cst_2 : FVec F S_ .f32 := constant S_ .f32 0x7F800000#32
  let main_v11 : FVec F S16384x1024 .f32 := broadcastInDim S16384x1024 ![] bcast_S_S16384x1024 main_cst_2
  let main_v12 : IVec S16384x1024 1 := cmpf .olt main_v10 main_v11
  let main_c_3 : IVec S_ 1 := constantI S_ 1 1#1
  let main_v13 : IVec S_ 1 := (fun x v => Host.reduce IntOp.andi x v reducesTo_S16384x1024_S_d0_1 h_S_) main_v12 main_c_3
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v4 main_v9 main_v13 main_v16
-- ==== Pre_finite11.lean ====
abbrev S16384x1024 : Shape := ⟨2, ![16384, 1024]⟩
abbrev S1024x1024 : Shape := ⟨2, ![1024, 1024]⟩
abbrev S1x1024 : Shape := ⟨2, ![1, 1024]⟩
abbrev S16384x512 : Shape := ⟨2, ![16384, 512]⟩
abbrev S32x128x512 : Shape := ⟨3, ![32, 128, 512]⟩
abbrev S1024x512 : Shape := ⟨2, ![1024, 512]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S16384x512 : S_.BroadcastsInDim S16384x512 (![] : Fin 0 → Fin S16384x512.rank)
  reducesTo_S16384x512_S_d0_1 : S16384x512.ReducesTo [0, 1] S_
  bcast_S_S32x128x512 : S_.BroadcastsInDim S32x128x512 (![] : Fin 0 → Fin S32x128x512.rank)
  reducesTo_S32x128x512_S_d0_1_2 : S32x128x512.ReducesTo [0, 1, 2] S_
  bcast_S_S1024x512 : S_.BroadcastsInDim S1024x512 (![] : Fin 0 → Fin S1024x512.rank)
  reducesTo_S1024x512_S_d0_1 : S1024x512.ReducesTo [0, 1] S_

variable [Facts]

def fn_part2 {F : FTy → Type} [FloatOps F] (main_v4 : IVec S_ 1) (main_v9 : IVec S_ 1) (main_v13 : IVec S_ 1) (main_v18 : IVec S_ 1) (main_v23 : IVec S_ 1) (main_v28 : IVec S_ 1) (main_v32 : IVec S_ 1) (main_v33 : FVec F S16384x1024 .f32) : IVec S_ 1 :=
  let main_cst_12 : FVec F S_ .f32 := constant S_ .f32 0x7F800000#32
  let main_v34 : FVec F S16384x1024 .f32 := broadcastInDim S16384x1024 ![] bcast_S_S16384x1024 main_cst_12
  let main_v35 : IVec S16384x1024 1 := cmpf .olt main_v33 main_v34
  let main_c_13 : IVec S_ 1 := constantI S_ 1 1#1
  let main_v36 : IVec S_ 1 := (fun x v => Host.reduce IntOp.andi x v reducesTo_S16384x1024_S_d0_1 h_S_) main_v35 main_c_13
  let main_v37 : IVec S_ 1 := andi main_v4 main_v9
  let main_v38 : IVec S_ 1 := andi main_v37 main_v13
  let main_v39 : IVec S_ 1 := andi main_v38 main_v18
  let main_v40 : IVec S_ 1 := andi main_v39 main_v23
  let main_v41 : IVec S_ 1 := andi main_v40 main_v28
  let main_v42 : IVec S_ 1 := andi main_v41 main_v32
  let main_v43 : IVec S_ 1 := andi main_v42 main_v36
  main_v43

def fn_part1 {F : FTy → Type} [FloatOps F] (main_arg4 : FVec F S32x128x512 .f32) (main_arg6 : FVec F S32x128x512 .f32) (main_arg7 : FVec F S1024x512 .bf16) (main_arg8 : FVec F S1x1024 .f32) (main_arg9 : FVec F S16384x1024 .f32) (main_v4 : IVec S_ 1) (main_v9 : IVec S_ 1) (main_v13 : IVec S_ 1) (main_v15 : FVec F S16384x512 .f32) (main_v16 : FVec F S16384x512 .f32) : IVec S_ 1 :=
  let main_v17 : IVec S16384x512 1 := cmpf .olt main_v15 main_v16
  let main_c_5 : IVec S_ 1 := constantI S_ 1 1#1
  let main_v18 : IVec S_ 1 := (fun x v => Host.reduce IntOp.andi x v reducesTo_S16384x512_S_d0_1 h_S_) main_v17 main_c_5
  let main_v19 : FVec F S32x128x512 .f32 := addf main_arg4 main_arg6
  let main_v20 : FVec F S32x128x512 .f32 := Host.absf main_v19
  let main_cst_6 : FVec F S_ .f32 := constant S_ .f32 0x7F800000#32
  let main_v21 : FVec F S32x128x512 .f32 := broadcastInDim S32x128x512 ![] bcast_S_S32x128x512 main_cst_6
  let main_v22 : IVec S32x128x512 1 := cmpf .olt main_v20 main_v21
  let main_c_7 : IVec S_ 1 := constantI S_ 1 1#1
  let main_v23 : IVec S_ 1 := (fun x v => Host.reduce IntOp.andi x v reducesTo_S32x128x512_S_d0_1_2 h_S_) main_v22 main_c_7
  let main_v24 : FVec F S1024x512 .f32 := (extf .f32 · bitsLt_bf16_f32) main_arg7
  let main_v25 : FVec F S1024x512 .f32 := Host.absf main_v24
  let main_cst_8 : FVec F S_ .f32 := constant S_ .f32 0x7F800000#32
  let main_v26 : FVec F S1024x512 .f32 := broadcastInDim S1024x512 ![] bcast_S_S1024x512 main_cst_8
  let main_v27 : IVec S1024x512 1 := cmpf .olt main_v25 main_v26
  let main_c_9 : IVec S_ 1 := constantI S_ 1 1#1
  let main_v28 : IVec S_ 1 := (fun x v => Host.reduce IntOp.andi x v reducesTo_S1024x512_S_d0_1 h_S_) main_v27 main_c_9
  let main_v29 : FVec F S1x1024 .f32 := Host.absf main_arg8
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : FVec F S16384x1024 .f32 := Host.absf main_arg9
  fn_part2 (F := F) main_v4 main_v9 main_v13 main_v18 main_v23 main_v28 main_v32 main_v33

def fn {F : FTy → Type} [FloatOps F] (main_arg0 : FVec F S16384x1024 .bf16) (main_arg1 : FVec F S1024x1024 .bf16) (main_arg2 : FVec F S1x1024 .f32) (main_arg3 : FVec F S16384x512 .f32) (main_arg4 : FVec F S32x128x512 .f32) (main_arg5 : FVec F S16384x512 .f32) (main_arg6 : FVec F S32x128x512 .f32) (main_arg7 : FVec F S1024x512 .bf16) (main_arg8 : FVec F S1x1024 .f32) (main_arg9 : FVec F S16384x1024 .f32) (main_arg10 : FVec F S16384x1024 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : FVec F S16384x512 .f32 := addf main_arg3 main_arg5
  let main_v15 : FVec F S16384x512 .f32 := Host.absf main_v14
  let main_cst_4 : FVec F S_ .f32 := constant S_ .f32 0x7F800000#32
  let main_v16 : FVec F S16384x512 .f32 := broadcastInDim S16384x512 ![] bcast_S_S16384x512 main_cst_4
  fn_part1 (F := F) main_arg4 main_arg6 main_arg7 main_arg8 main_arg9 main_v4 main_v9 main_v13 main_v15 main_v16
-- ==== Pre_finite16.lean ====
abbrev S16384x1024 : Shape := ⟨2, ![16384, 1024]⟩
abbrev S1x1024 : Shape := ⟨2, ![1, 1024]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v22 : IVec S_ 1) (main_v26 : IVec S_ 1) (main_v30 : IVec S_ 1) (main_v33 : IVec S_ 1) : IVec S_ 1 :=
  let main_v34 : IVec S_ 1 := andi main_v33 main_v22
  let main_v35 : IVec S_ 1 := andi main_v34 main_v26
  let main_v36 : IVec S_ 1 := andi main_v35 main_v30
  main_v36

def fn_part1 {F : FTy → Type} [FloatOps F] (main_arg4 : FVec F S2816x1024 .bf16) (main_arg5 : FVec F S1x1024 .f32) (main_arg6 : FVec F S16384x1024 .f32) (main_v3 : IVec S_ 1) (main_v7 : IVec S_ 1) (main_v12 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : FVec F S2816x1024 .f32 := (extf .f32 · bitsLt_bf16_f32) main_arg4
  let main_v19 : FVec F S2816x1024 .f32 := Host.absf main_v18
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : FVec F S1x1024 .f32 := Host.absf main_arg5
  let main_cst_8 : FVec F S_ .f32 := constant S_ .f32 0x7F800000#32
  let main_v24 : FVec F S1x1024 .f32 := broadcastInDim S1x1024 ![] bcast_S_S1x1024 main_cst_8
  let main_v25 : IVec S1x1024 1 := cmpf .olt main_v23 main_v24
  let main_c_9 : IVec S_ 1 := constantI S_ 1 1#1
  let main_v26 : IVec S_ 1 := (fun x v => Host.reduce IntOp.andi x v reducesTo_S1x1024_S_d0_1 h_S_) main_v25 main_c_9
  let main_v27 : FVec F S16384x1024 .f32 := Host.absf main_arg6
  let main_cst_10 : FVec F S_ .f32 := constant S_ .f32 0x7F800000#32
  let main_v28 : FVec F S16384x1024 .f32 := broadcastInDim S16384x1024 ![] bcast_S_S16384x1024 main_cst_10
  let main_v29 : IVec S16384x1024 1 := cmpf .olt main_v27 main_v28
  let main_c_11 : IVec S_ 1 := constantI S_ 1 1#1
  let main_v30 : IVec S_ 1 := (fun x v => Host.reduce IntOp.andi x v reducesTo_S16384x1024_S_d0_1 h_S_) main_v29 main_c_11
  let main_v31 : IVec S_ 1 := andi main_v3 main_v7
  let main_v32 : IVec S_ 1 := andi main_v31 main_v12
  let main_v33 : IVec S_ 1 := andi main_v32 main_v17
  fn_part2 (F := F) main_v22 main_v26 main_v30 main_v33

def fn {F : FTy → Type} [FloatOps F] (main_arg0 : FVec F S16384x1024 .f32) (main_arg1 : FVec F S1x1024 .f32) (main_arg2 : FVec F S2816x1024 .bf16) (main_arg3 : FVec F S2816x1024 .bf16) (main_arg4 : FVec F S2816x1024 .bf16) (main_arg5 : FVec F S1x1024 .f32) (main_arg6 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S2816x1024 .f32 := (extf .f32 · bitsLt_bf16_f32) main_arg2
  let main_v9 : FVec F S2816x1024 .f32 := Host.absf main_v8
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : FVec F S2816x1024 .f32 := (extf .f32 · bitsLt_bf16_f32) main_arg3
  let main_v14 : FVec F S2816x1024 .f32 := Host.absf main_v13
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_arg6 main_v3 main_v7 main_v12 main_v16
-- ==== Pre_finite17.lean ====
abbrev S16384x1024 : Shape := ⟨2, ![16384, 1024]⟩
abbrev S16384x2560 : Shape := ⟨2, ![16384, 2560]⟩
abbrev S3x768 : Shape := ⟨2, ![3, 768]⟩
abbrev S256x2048 : Shape := ⟨2, ![256, 2048]⟩
abbrev S1024x1024 : Shape := ⟨2, ![1024, 1024]⟩
abbrev S16384x256 : Shape := ⟨2, ![16384, 256]⟩
abbrev S256x256 : Shape := ⟨2, ![256, 256]⟩
abbrev S_ : Shape := ⟨0, ![]⟩

class Facts : Prop where
  slices_S16384x2560_S16384x256_0_2304 : S16384x2560.Slices ![0, 2304] S16384x256
  slices_S256x2048_S256x256_0_512 : S256x2048.Slices ![0, 512] S256x256
  bitsLt_bf16_f32 : FTy.bits .bf16 < FTy.bits .f32
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16384x1024 .f32) (main_arg1 : FVec F S16384x2560 .bf16) (main_arg2 : FVec F S3x768 .f32) (main_arg3 : FVec F S256x2048 .bf16) (main_arg4 : FVec F S1024x1024 .bf16) : IVec S_ 1 :=
  let main_v0 : FVec F S16384x256 .bf16 := (extractStridedSlice S16384x256 ![0, 2304] · slices_S16384x2560_S16384x256_0_2304) main_arg1
  let main_v1 : FVec F S256x256 .bf16 := (extractStridedSlice S256x256 ![0, 512] · slices_S256x2048_S256x256_0_512) main_arg3
  let main_v2 : FVec F S16384x256 .f32 := (extf .f32 · bitsLt_bf16_f32) main_v0
  let main_v3 : FVec F S16384x256 .f32 := Host.absf main_v2
  let main_cst : FVec F S_ .f32 := constant S_ .f32 0x7F800000#32
  let main_v4 : FVec F S16384x256 .f32 := broadcastInDim S16384x256 ![] bcast_S_S16384x256 main_cst
  let main_v5 : IVec S16384x256 1 := cmpf .olt main_v3 main_v4
  let main_c : IVec S_ 1 := constantI S_ 1 1#1
  let main_v6 : IVec S_ 1 := (fun x v => Host.reduce IntOp.andi x v reducesTo_S16384x256_S_d0_1 h_S_) main_v5 main_c
  let main_v7 : FVec F S256x256 .f32 := (extf .f32 · bitsLt_bf16_f32) main_v1
  let main_v8 : FVec F S256x256 .f32 := Host.absf main_v7
  let main_cst_0 : FVec F S_ .f32 := constant S_ .f32 0x7F800000#32
  let main_v9 : FVec F S256x256 .f32 := broadcastInDim S256x256 ![] bcast_S_S256x256 main_cst_0
  let main_v10 : IVec S256x256 1 := cmpf .olt main_v8 main_v9
  let main_c_1 : IVec S_ 1 := constantI S_ 1 1#1
  let main_v11 : IVec S_ 1 := (fun x v => Host.reduce IntOp.andi x v reducesTo_S256x256_S_d0_1 h_S_) main_v10 main_c_1
  let main_v12 : IVec S_ 1 := andi main_v6 main_v11
  main_v12
-- ==== Pre_finite2.lean ====
abbrev S16384x1024 : Shape := ⟨2, ![16384, 1024]⟩
abbrev S1x1024 : Shape := ⟨2, ![1, 1024]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .bf16) (main_arg5 : FVec F S2816x1024 .bf16) (main_v3 : IVec S_ 1) (main_v7 : IVec S_ 1) (main_v11 : IVec S_ 1) (main_v15 : IVec S2816x1024 1) (main_c_5 : IVec S_ 1) : IVec S_ 1 :=
  let main_v16 : IVec S_ 1 := (fun x v => Host.reduce IntOp.andi x v reducesTo_S2816x1024_S_d0_1 h_S_) main_v15 main_c_5
  let main_v17 : FVec F S2816x1024 .f32 := (extf .f32 · bitsLt_bf16_f32) main_arg4
  let main_v18 : FVec F S2816x1024 .f32 := Host.absf main_v17
  let main_cst_6 : FVec F S_ .f32 := constant S_ .f32 0x7F800000#32
  let main_v19 : FVec F S2816x1024 .f32 := broadcastInDim S2816x1024 ![] bcast_S_S2816x1024 main_cst_6
  let main_v20 : IVec S2816x1024 1 := cmpf .olt main_v18 main_v19
  let main_c_7 : IVec S_ 1 := constantI S_ 1 1#1
  let main_v21 : IVec S_ 1 := (fun x v => Host.reduce IntOp.andi x v reducesTo_S2816x1024_S_d0_1 h_S_) main_v20 main_c_7
  let main_v22 : FVec F S2816x1024 .f32 := (extf .f32 · bitsLt_bf16_f32) main_arg5
  let main_v23 : FVec F S2816x1024 .f32 := Host.absf main_v22
  let main_cst_8 : FVec F S_ .f32 := constant S_ .f32 0x7F800000#32
  let main_v24 : FVec F S2816x1024 .f32 := broadcastInDim S2816x1024 ![] bcast_S_S2816x1024 main_cst_8
  let main_v25 : IVec S2816x1024 1 := cmpf .olt main_v23 main_v24
  let main_c_9 : IVec S_ 1 := constantI S_ 1 1#1
  let main_v26 : IVec S_ 1 := (fun x v => Host.reduce IntOp.andi x v reducesTo_S2816x1024_S_d0_1 h_S_) main_v25 main_c_9
  let main_v27 : IVec S_ 1 := andi main_v3 main_v7
  let main_v28 : IVec S_ 1 := andi main_v27 main_v11
  let main_v29 : IVec S_ 1 := andi main_v28 main_v16
  let main_v30 : IVec S_ 1 := andi main_v29 main_v21
  let main_v31 : IVec S_ 1 := andi main_v30 main_v26
  main_v31

def fn {F : FTy → Type} [FloatOps F] (main_arg0 : FVec F S16384x1024 .f32) (main_arg1 : FVec F S16384x1024 .f32) (main_arg2 : FVec F S1x1024 .f32) (main_arg3 : FVec F S2816x1024 .bf16) (main_arg4 : FVec F S2816x1024 .bf16) (main_arg5 : FVec F S2816x1024 .bf16) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S2816x1024 .f32 := (extf .f32 · bitsLt_bf16_f32) main_arg3
  let main_v13 : FVec F S2816x1024 .f32 := Host.absf main_v12
  let main_cst_4 : FVec F S_ .f32 := constant S_ .f32 0x7F800000#32
  let main_v14 : FVec F S2816x1024 .f32 := broadcastInDim S2816x1024 ![] bcast_S_S2816x1024 main_cst_4
  let main_v15 : IVec S2816x1024 1 := cmpf .olt main_v13 main_v14
  let main_c_5 : IVec S_ 1 := constantI S_ 1 1#1
  fn_part1 (F := F) main_arg4 main_arg5 main_v3 main_v7 main_v11 main_v15 main_c_5
-- ==== Pre_finite9.lean ====
abbrev S16384x2560 : Shape := ⟨2, ![16384, 2560]⟩
abbrev S1024x2560 : Shape := ⟨2, ![1024, 2560]⟩
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x2560 : S_.BroadcastsInDim S16384x2560 (![] : Fin 0 → Fin S16384x2560.rank)
  reducesTo_S16384x2560_S_d0_1 : S16384x2560.ReducesTo [0, 1] S_
  h_S_ : 0 < S_.numel
  bcast_S_S1024x2560 : S_.BroadcastsInDim S1024x2560 (![] : Fin 0 → Fin S1024x2560.rank)
  reducesTo_S1024x2560_S_d0_1 : S1024x2560.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v4 : IVec S_ 1) (main_v9 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v4 main_v9
  let main_v19 : IVec S_ 1 := andi main_v18 main_v13
  let main_v20 : IVec S_ 1 := andi main_v19 main_v17
  main_v20

def fn {F : FTy → Type} [FloatOps F] (main_arg0 : FVec F S16384x2560 .bf16) (main_arg1 : FVec F S1024x2560 .bf16) (main_arg2 : FVec F S16384x1024 .f32) (main_arg3 : FVec F S1x1024 .f32) (main_arg4 : FVec F S16384x1024 .f32) : IVec S_ 1 :=
  let main_v0 : FVec F S16384x2560 .f32 := (extf .f32 · bitsLt_bf16_f32) main_arg0
  let main_v1 : FVec F S16384x2560 .f32 := Host.absf main_v0
  let main_cst : FVec F S_ .f32 := constant S_ .f32 0x7F800000#32
  let main_v2 : FVec F S16384x2560 .f32 := broadcastInDim S16384x2560 ![] bcast_S_S16384x2560 main_cst
  let main_v3 : IVec S16384x2560 1 := cmpf .olt main_v1 main_v2
  let main_c : IVec S_ 1 := constantI S_ 1 1#1
  let main_v4 : IVec S_ 1 := (fun x v => Host.reduce IntOp.andi x v reducesTo_S16384x2560_S_d0_1 h_S_) main_v3 main_c
  let main_v5 : FVec F S1024x2560 .f32 := (extf .f32 · bitsLt_bf16_f32) main_arg1
  let main_v6 : FVec F S1024x2560 .f32 := Host.absf main_v5
  let main_cst_0 : FVec F S_ .f32 := constant S_ .f32 0x7F800000#32
  let main_v7 : FVec F S1024x2560 .f32 := broadcastInDim S1024x2560 ![] bcast_S_S1024x2560 main_cst_0
  let main_v8 : IVec S1024x2560 1 := cmpf .olt main_v6 main_v7
  let main_c_1 : IVec S_ 1 := constantI S_ 1 1#1
  let main_v9 : IVec S_ 1 := (fun x v => Host.reduce IntOp.andi x v reducesTo_S1024x2560_S_d0_1 h_S_) main_v8 main_c_1
  let main_v10 : FVec F S16384x1024 .f32 := Host.absf main_arg2
  let main_cst_2 : FVec F S_ .f32 := constant S_ .f32 0x7F800000#32
  let main_v11 : FVec F S16384x1024 .f32 := broadcastInDim S16384x1024 ![] bcast_S_S16384x1024 main_cst_2
  let main_v12 : IVec S16384x1024 1 := cmpf .olt main_v10 main_v11
  let main_c_3 : IVec S_ 1 := constantI S_ 1 1#1
  let main_v13 : IVec S_ 1 := (fun x v => Host.reduce IntOp.andi x v reducesTo_S16384x1024_S_d0_1 h_S_) main_v12 main_c_3
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v4 main_v9 main_v13 main_v16
-- ==== Kernel.lean ====
abbrev S16384x1024 : Shape := ⟨2, ![16384, 1024]⟩
abbrev S16384x2560 : Shape := ⟨2, ![16384, 2560]⟩
abbrev S3x768 : Shape := ⟨2, ![3, 768]⟩
abbrev S256x2048 : Shape := ⟨2, ![256, 2048]⟩
abbrev S1024x1024 : Shape := ⟨2, ![1024, 1024]⟩
abbrev S8x768 : Shape := ⟨2, ![8, 768]⟩
abbrev S256x512 : Shape := ⟨2, ![256, 512]⟩
abbrev S512x1024 : Shape := ⟨2, ![512, 1024]⟩
abbrev S16x1024 : Shape := ⟨2, ![16, 1024]⟩
abbrev S512x2560 : Shape := ⟨2, ![512, 2560]⟩
abbrev S16x2560 : Shape := ⟨2, ![16, 2560]⟩
abbrev S256x256 : Shape := ⟨2, ![256, 256]⟩
abbrev S512x768 : Shape := ⟨2, ![512, 768]⟩
abbrev S16x768 : Shape := ⟨2, ![16, 768]⟩
abbrev S504x768 : Shape := ⟨2, ![504, 768]⟩
abbrev S1x768 : Shape := ⟨2, ![1, 768]⟩
abbrev S512x256 : Shape := ⟨2, ![512, 256]⟩
abbrev S768x1024 : Shape := ⟨2, ![768, 1024]⟩
abbrev S768 : Shape := ⟨1, ![768]⟩
abbrev S1x256 : Shape := ⟨2, ![1, 256]⟩
abbrev S512 : Shape := ⟨1, ![512]⟩
abbrev S1x512 : Shape := ⟨2, ![1, 512]⟩

abbrev nBuf : Space → Nat
  | .hbm => 8
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x2560, .bf16⟩
  | .hbm, ⟨2, _⟩ => ⟨S3x768, .f32⟩
  | .hbm, ⟨3, _⟩ => ⟨S256x2048, .bf16⟩
  | .hbm, ⟨4, _⟩ => ⟨S1024x1024, .bf16⟩
  | .hbm, ⟨5, _⟩ => ⟨S16384x2560, .bf16⟩
  | .hbm, ⟨6, _⟩ => ⟨S8x768, .f32⟩
  | .hbm, ⟨7, _⟩ => ⟨S256x512, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x2560, .bf16⟩
  | .local _ .vmem, ⟨5, _⟩ => ⟨S512x2560, .bf16⟩
  | .local _ .vmem, ⟨6, _⟩ => ⟨S16x2560, .bf16⟩
  | .local _ .vmem, ⟨7, _⟩ => ⟨S16x2560, .bf16⟩
  | .local _ .vmem, ⟨8, _⟩ => ⟨S16x2560, .bf16⟩
  | .local _ .vmem, ⟨9, _⟩ => ⟨S16x2560, .bf16⟩
  | .local _ .vmem, ⟨10, _⟩ => ⟨S3x768, .f32⟩
  | .local _ .vmem, ⟨11, _⟩ => ⟨S256x512, .bf16⟩
  | .local _ .vmem, ⟨12, _⟩ => ⟨S1024x1024, .bf16⟩
  | .local _ .vmem, ⟨13, _⟩ => ⟨S512x2560, .bf16⟩
  | .local _ .vmem, ⟨14, _⟩ => ⟨S512x2560, .bf16⟩
  | .local _ .vmem, ⟨15, _⟩ => ⟨S8x768, .f32⟩
  | .local _ .vmem, ⟨16, _⟩ => ⟨S256x512, .f32⟩
  | .local _ .vmem, ⟨17, _⟩ => ⟨S256x256, .f32⟩
  | .local _ .vmem, ⟨18, _⟩ => ⟨S256x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_127 : BitVec 32 := 31#32
  let v395 : BitVec 1 := Scalar.cmpi .eq arg0 c31_i32_127
  let v396 : BitVec 32 := Scalar.extui v395
  let c0_i32_128 : BitVec 32 := 0#32
  let v397 : BitVec 1 := Scalar.cmpi .ne v396 c0_i32_128
  v397

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x1024 : Shape := ⟨2, ![16384, 1024]⟩
abbrev S16384x2560 : Shape := ⟨2, ![16384, 2560]⟩
abbrev S3x768 : Shape := ⟨2, ![3, 768]⟩
abbrev S256x2048 : Shape := ⟨2, ![256, 2048]⟩
abbrev S1024x1024 : Shape := ⟨2, ![1024, 1024]⟩
abbrev S256x512 : Shape := ⟨2, ![256, 512]⟩
abbrev S16384x768 : Shape := ⟨2, ![16384, 768]⟩
abbrev S16384x256 : Shape := ⟨2, ![16384, 256]⟩
abbrev S_ : Shape := ⟨0, ![]⟩
abbrev S2x768 : Shape := ⟨2, ![2, 768]⟩
abbrev S16386x768 : Shape := ⟨2, ![16386, 768]⟩
abbrev S1x768 : Shape := ⟨2, ![1, 768]⟩
abbrev S768 : Shape := ⟨1, ![768]⟩
abbrev S256x256 : Shape := ⟨2, ![256, 256]⟩
abbrev S16384x4x64 : Shape := ⟨3, ![16384, 4, 64]⟩
abbrev S256x4x64 : Shape := ⟨3, ![256, 4, 64]⟩
abbrev S4x16384x256 : Shape := ⟨3, ![4, 16384, 256]⟩
abbrev S4x16384 : Shape := ⟨2, ![4, 16384]⟩
abbrev S4x16384x1 : Shape := ⟨3, ![4, 16384, 1]⟩
abbrev S4x64x16384 : Shape := ⟨3, ![4, 64, 16384]⟩
abbrev S4x64x256 : Shape := ⟨3, ![4, 64, 256]⟩
abbrev S4x256x64 : Shape := ⟨3, ![4, 256, 64]⟩
abbrev S4x16384x64 : Shape := ⟨3, ![4, 16384, 64]⟩
abbrev S8x768 : Shape := ⟨2, ![8, 768]⟩

abbrev nBuf : Space → Nat
  | .hbm => 179
  | .vmem => 0
  | .smem => 0
  | _ => 0

abbrev hbmTy0_0 (i : Nat) : BufTy := match i % 128 with
  | 0 => ⟨S16384x1024, .f32⟩
  | 1 => ⟨S16384x2560, .bf16⟩
  | 2 => ⟨S3x768, .f32⟩
  | 3 => ⟨S256x2048, .bf16⟩
  | 4 => ⟨S1024x1024, .bf16⟩
  | 5 => ⟨S256x512, .bf16⟩
  | 6 => ⟨S256x512, .f32⟩
  | 7 => ⟨S1024x1024, .f32⟩
  | 8 => ⟨S16384x2560, .f32⟩
  | 9 => ⟨S16384x768, .f32⟩
  | 10 => ⟨S16384x768, .f32⟩
  | 11 => ⟨S16384x768, .f32⟩
  | 12 => ⟨S16384x256, .f32⟩
  | 13 => ⟨S16384x768, .f32⟩
  | 14 => ⟨S_, .f32⟩
  | 15 => ⟨S2x768, .f32⟩
  | 16 => ⟨S16386x768, .f32⟩
  | 17 => ⟨S_, .f32⟩
  | 18 => ⟨S2x768, .f32⟩
  | 19 => ⟨S1x768, .f32⟩
  | 20 => ⟨S768, .f32⟩
  | 21 => ⟨S16384x768, .f32⟩
  | 22 => ⟨S1x768, .f32⟩
  | 23 => ⟨S16384x768, .f32⟩
  | 24 => ⟨S16384x768, .f32⟩
  | 25 => ⟨S1x768, .f32⟩
  | 26 => ⟨S768, .f32⟩
  | 27 => ⟨S16384x768, .f32⟩
  | 28 => ⟨S1x768, .f32⟩
  | 29 => ⟨S16384x768, .f32⟩
  | 30 => ⟨S16384x768, .f32⟩
  | 31 => ⟨S16384x768, .f32⟩
  | 32 => ⟨S1x768, .f32⟩
  | 33 => ⟨S768, .f32⟩
  | 34 => ⟨S16384x768, .f32⟩
  | 35 => ⟨S1x768, .f32⟩
  | 36 => ⟨S16384x768, .f32⟩
  | 37 => ⟨S16384x768, .f32⟩
  | 38 => ⟨S16384x768, .f32⟩
  | 39 => ⟨S16384x768, .f32⟩
  | 40 => ⟨S256x256, .f32⟩
  | 41 => ⟨S256x256, .f32⟩
  | 42 => ⟨S16384x4x64, .f32⟩
  | 43 => ⟨S256x4x64, .f32⟩
  | 44 => ⟨S256x4x64, .f32⟩
  | 45 => ⟨S4x16384x256, .f32⟩
  | 46 => ⟨S_, .f32⟩
  | 47 => ⟨S4x16384x256, .f32⟩
  | 48 => ⟨S4x16384x256, .f32⟩
  | 49 => ⟨S_, .f32⟩
  | 50 => ⟨S4x16384, .f32⟩
  | 51 => ⟨S4x16384x1, .f32⟩
  | 52 => ⟨S4x16384x256, .f32⟩
  | 53 => ⟨S4x16384x256, .i1⟩
  | 54 => ⟨S4x16384x256, .f32⟩
  | 55 => ⟨S_, .f32⟩
  | 56 => ⟨S4x16384, .f32⟩
  | 57 => ⟨S_, .f32⟩
  | 58 => ⟨S4x16384, .f32⟩
  | 59 => ⟨S4x16384, .f32⟩
  | 60 => ⟨S_, .f32⟩
  | 61 => ⟨S4x16384, .f32⟩
  | 62 => ⟨S4x16384, .i1⟩
  | 63 => ⟨S_, .f32⟩
  | 64 => ⟨S4x16384, .f32⟩
  | 65 => ⟨S4x16384, .i1⟩
  | 66 => ⟨S_, .f32⟩
  | 67 => ⟨S4x16384, .f32⟩
  | 68 => ⟨S_, .f32⟩
  | 69 => ⟨S4x16384, .f32⟩
  | 70 => ⟨S_, .f32⟩
  | 71 => ⟨S4x16384, .f32⟩
  | 72 => ⟨S4x16384, .f32⟩
  | 73 => ⟨S4x16384, .f32⟩
  | 74 => ⟨S4x16384x1, .f32⟩
  | 75 => ⟨S4x16384x256, .f32⟩
  | 76 => ⟨S4x16384x256, .f32⟩
  | 77 => ⟨S4x16384x256, .f32⟩
  | 78 => ⟨S_, .f32⟩
  | 79 => ⟨S4x16384, .f32⟩
  | 80 => ⟨S4x16384x1, .f32⟩
  | 81 => ⟨S4x16384x256, .f32⟩
  | 82 => ⟨S4x16384x256, .f32⟩
  | 83 => ⟨S4x16384x1, .f32⟩
  | 84 => ⟨S_, .f32⟩
  | 85 => ⟨S4x16384x1, .f32⟩
  | 86 => ⟨S4x16384x1, .f32⟩
  | 87 => ⟨S4x64x16384, .f32⟩
  | 88 => ⟨S16384x4x64, .f32⟩
  | 89 => ⟨S16384x256, .f32⟩
  | 90 => ⟨S16384x1024, .f32⟩
  | 91 => ⟨S16384x1024, .f32⟩
  | 92 => ⟨S16384x1024, .f32⟩
  | 93 => ⟨S16384x768, .f32⟩
  | 94 => ⟨S16384x256, .f32⟩
  | 95 => ⟨S16384x4x64, .f32⟩
  | 96 => ⟨S4x64x16384, .f32⟩
  | 97 => ⟨S4x16384x256, .f32⟩
  | 98 => ⟨S4x64x256, .f32⟩
  | 99 => ⟨S256x4x64, .f32⟩
  | 100 => ⟨S4x16384x256, .f32⟩
  | 101 => ⟨S4x16384x256, .f32⟩
  | 102 => ⟨S4x16384x256, .f32⟩
  | 103 => ⟨S_, .f32⟩
  | 104 => ⟨S4x16384, .f32⟩
  | 105 => ⟨S4x16384x1, .f32⟩
  | 106 => ⟨S4x16384x1, .f32⟩
  | 107 => ⟨S4x16384x256, .f32⟩
  | 108 => ⟨S4x16384x256, .f32⟩
  | 109 => ⟨S_, .f32⟩
  | 110 => ⟨S4x16384, .f32⟩
  | 111 => ⟨S4x16384x256, .f32⟩
  | 112 => ⟨S4x16384x256, .f32⟩
  | 113 => ⟨S4x16384x256, .f32⟩
  | 114 => ⟨S_, .f32⟩
  | 115 => ⟨S4x16384x256, .f32⟩
  | 116 => ⟨S4x16384x256, .f32⟩
  | 117 => ⟨S4x256x64, .f32⟩
  | 118 => ⟨S256x4x64, .f32⟩
  | 119 => ⟨S4x16384x64, .f32⟩
  | 120 => ⟨S16384x4x64, .f32⟩
  | 121 => ⟨S256x256, .f32⟩
  | 122 => ⟨S256x256, .f32⟩
  | 123 => ⟨S16384x256, .f32⟩
  | 124 => ⟨S256x512, .f32⟩
  | 125 => ⟨S16384x768, .f32⟩
  | 126 => ⟨S16384x768, .f32⟩
  | 127 => ⟨S16384x768, .f32⟩
  | _ => ⟨S16384x1024, .f32⟩

abbrev hbmTy0_1 (i : Nat) : BufTy := match i % 128 with
  | 0 => ⟨S16384x768, .f32⟩
  | 1 => ⟨S16384x768, .f32⟩
  | 2 => ⟨S_, .f32⟩
  | 3 => ⟨S768, .f32⟩
  | 4 => ⟨S1x768, .f32⟩
  | 5 => ⟨S_, .f32⟩
  | 6 => ⟨S768, .f32⟩
  | 7 => ⟨S_, .f32⟩
  | 8 => ⟨S16386x768, .f32⟩
  | 9 => ⟨S1x768, .f32⟩
  | 10 => ⟨S_, .f32⟩
  | 11 => ⟨S3x768, .f32⟩
  | 12 => ⟨S16384x768, .f32⟩
  | 13 => ⟨S16384x768, .f32⟩
  | 14 => ⟨S16384x768, .f32⟩
  | 15 => ⟨S_, .f32⟩
  | 16 => ⟨S768, .f32⟩
  | 17 => ⟨S1x768, .f32⟩
  | 18 => ⟨S_, .f32⟩
  | 19 => ⟨S768, .f32⟩
  | 20 => ⟨S_, .f32⟩
  | 21 => ⟨S16386x768, .f32⟩
  | 22 => ⟨S16386x768, .f32⟩
  | 23 => ⟨S1x768, .f32⟩
  | 24 => ⟨S_, .f32⟩
  | 25 => ⟨S3x768, .f32⟩
  | 26 => ⟨S3x768, .f32⟩
  | 27 => ⟨S16384x768, .f32⟩
  | 28 => ⟨S16384x768, .f32⟩
  | 29 => ⟨S16384x768, .f32⟩
  | 30 => ⟨S_, .f32⟩
  | 31 => ⟨S768, .f32⟩
  | 32 => ⟨S1x768, .f32⟩
  | 33 => ⟨S_, .f32⟩
  | 34 => ⟨S768, .f32⟩
  | 35 => ⟨S_, .f32⟩
  | 36 => ⟨S16386x768, .f32⟩
  | 37 => ⟨S16386x768, .f32⟩
  | 38 => ⟨S1x768, .f32⟩
  | 39 => ⟨S_, .f32⟩
  | 40 => ⟨S3x768, .f32⟩
  | 41 => ⟨S3x768, .f32⟩
  | 42 => ⟨S2x768, .f32⟩
  | 43 => ⟨S16384x768, .f32⟩
  | 44 => ⟨S16384x768, .f32⟩
  | 45 => ⟨S16384x768, .f32⟩
  | 46 => ⟨S16384x2560, .f32⟩
  | 47 => ⟨S16384x2560, .bf16⟩
  | 48 => ⟨S_, .i32⟩
  | 49 => ⟨S_, .f32⟩
  | 50 => ⟨S8x768, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_12 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_13 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_14 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_15 : Ref sig .tc := ⟨.hbm, 130, rfl⟩
abbrev main_v109 : Ref sig .tc := ⟨.hbm, 131, rfl⟩
abbrev main_v110 : Ref sig .tc := ⟨.hbm, 132, rfl⟩
abbrev main_cst_16 : Ref sig .tc := ⟨.hbm, 133, rfl⟩
abbrev main_v111 : Ref sig .tc := ⟨.hbm, 134, rfl⟩
abbrev main_cst_17 : Ref sig .tc := ⟨.hbm, 135, rfl⟩
abbrev main_v112 : Ref sig .tc := ⟨.hbm, 136, rfl⟩
abbrev main_v113 : Ref sig .tc := ⟨.hbm, 137, rfl⟩
abbrev main_cst_18 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_19 : Ref sig .tc := ⟨.hbm, 143, rfl⟩
abbrev main_v118 : Ref sig .tc := ⟨.hbm, 144, rfl⟩
abbrev main_v119 : Ref sig .tc := ⟨.hbm, 145, rfl⟩
abbrev main_cst_20 : Ref sig .tc := ⟨.hbm, 146, rfl⟩
abbrev main_v120 : Ref sig .tc := ⟨.hbm, 147, rfl⟩
abbrev main_cst_21 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_22 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_23 : Ref sig .tc := ⟨.hbm, 158, rfl⟩
abbrev main_v129 : Ref sig .tc := ⟨.hbm, 159, rfl⟩
abbrev main_v130 : Ref sig .tc := ⟨.hbm, 160, rfl⟩
abbrev main_cst_24 : Ref sig .tc := ⟨.hbm, 161, rfl⟩
abbrev main_v131 : Ref sig .tc := ⟨.hbm, 162, rfl⟩
abbrev main_cst_25 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_26 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_c : Ref sig .tc := ⟨.hbm, 176, rfl⟩
abbrev main_call0_v0 : Ref sig .tc := ⟨.hbm, 177, rfl⟩
abbrev main_v143 : Ref sig .tc := ⟨.hbm, 178, rfl⟩

abbrev nD : Nat := 1
abbrev τ : Topo := Topo.v7x

variable {F : FTy → Type} [FloatOps F]
-- ==== FfnBwd.lean ====
abbrev S16384x1024 : Shape := ⟨2, ![16384, 1024]⟩
abbrev S1x1024 : Shape := ⟨2, ![1, 1024]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1536x1024 : Shape := ⟨2, ![1536, 1024]⟩
abbrev S256x1536 : Shape := ⟨2, ![256, 1536]⟩
abbrev S1280x1024 : Shape := ⟨2, ![1280, 1024]⟩
abbrev S256x1280 : Shape := ⟨2, ![256, 1280]⟩
abbrev S1024 : Shape := ⟨1, ![1024]⟩

abbrev nBuf : Space → Nat
  | .hbm => 35
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S2816x1024, .f32⟩
  | .hbm, ⟨22, _⟩ => ⟨S1024x2816, .f32⟩
  | .hbm, ⟨23, _⟩ => ⟨S16384x2816, .f32⟩
  | .hbm, ⟨24, _⟩ => ⟨S16384x2816, .bf16⟩
  | .hbm, ⟨25, _⟩ => ⟨S2816x1024, .f32⟩
  | .hbm, ⟨26, _⟩ => ⟨S1024x2816, .f32⟩
  | .hbm, ⟨27, _⟩ => ⟨S16384x2816, .f32⟩
  | .hbm, ⟨28, _⟩ => ⟨S16384x2816, .bf16⟩
  | .hbm, ⟨29, _⟩ => ⟨S16384x1024, .f32⟩
  | .hbm, ⟨30, _⟩ => ⟨S16384x2816, .bf16⟩
  | .hbm, ⟨31, _⟩ => ⟨S16384x2816, .bf16⟩
  | .hbm, ⟨32, _⟩ => ⟨S16384x2816, .bf16⟩
  | .hbm, ⟨33, _⟩ => ⟨S16384x1024, .bf16⟩
  | .hbm, ⟨34, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnBwdRefIdeal.lean ====
abbrev S16384x1024 : Shape := ⟨2, ![16384, 1024]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1024 : Shape := ⟨1, ![1024]⟩

abbrev nBuf : Space → Nat
  | .hbm => 136
  | .vmem => 0
  | .smem => 0
  | _ => 0

abbrev hbmTy0_0 (i : Nat) : BufTy := match i % 128 with
  | 0 => ⟨S16384x1024, .f32⟩
  | 1 => ⟨S16384x1024, .f32⟩
  | 2 => ⟨S1x1024, .f32⟩
  | 3 => ⟨S2816x1024, .bf16⟩
  | 4 => ⟨S2816x1024, .bf16⟩
  | 5 => ⟨S2816x1024, .bf16⟩
  | 6 => ⟨S2816x1024, .f32⟩
  | 7 => ⟨S1024x2816, .f32⟩
  | 8 => ⟨S2816x1024, .f32⟩
  | 9 => ⟨S1024x2816, .f32⟩
  | 10 => ⟨S2816x1024, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1024, .f32⟩
  | 23 => ⟨S16384x1024, .f32⟩
  | 24 => ⟨S16384x1024, .f32⟩
  | 25 => ⟨S16384x1024, .f32⟩
  | 26 => ⟨S16384x2816, .f32⟩
  | 27 => ⟨S16384x2816, .f32⟩
  | 28 => ⟨S16384x2816, .f32⟩
  | 29 => ⟨S16384x2816, .f32⟩
  | 30 => ⟨S_, .f32⟩
  | 31 => ⟨S16384x2816, .f32⟩
  | 32 => ⟨S16384x2816, .f32⟩
  | 33 => ⟨S_, .f32⟩
  | 34 => ⟨S16384x2816, .f32⟩
  | 35 => ⟨S16384x2816, .f32⟩
  | 36 => ⟨S_, .f32⟩
  | 37 => ⟨S16384x2816, .f32⟩
  | 38 => ⟨S16384x2816, .f32⟩
  | 39 => ⟨S16384x2816, .f32⟩
  | 40 => ⟨S16384x2816, .f32⟩
  | 41 => ⟨S16384x2816, .f32⟩
  | 42 => ⟨S16384x1024, .f32⟩
  | 43 => ⟨S16384x2816, .f32⟩
  | 44 => ⟨S16384x2816, .f32⟩
  | 45 => ⟨S16384x2816, .f32⟩
  | 46 => ⟨S16384x2816, .f32⟩
  | 47 => ⟨S16384x2816, .f32⟩
  | 48 => ⟨S16384x2816, .f32⟩
  | 49 => ⟨S16384x2816, .f32⟩
  | 50 => ⟨S16384x1024, .f32⟩
  | 51 => ⟨S_, .f32⟩
  | 52 => ⟨S16384, .f32⟩
  | 53 => ⟨S16384x1, .f32⟩
  | 54 => ⟨S_, .f32⟩
  | 55 => ⟨S16384x1, .f32⟩
  | 56 => ⟨S16384x1, .f32⟩
  | 57 => ⟨S_, .f32⟩
  | 58 => ⟨S16384x1, .f32⟩
  | 59 => ⟨S16384x1, .f32⟩
  | 60 => ⟨S16384x1, .f32⟩
  | 61 => ⟨S16384x1, .f32⟩
  | 62 => ⟨S_, .f32⟩
  | 63 => ⟨S16384x1, .f32⟩
  | 64 => ⟨S16384x1, .f32⟩
  | 65 => ⟨S16384x1024, .f32⟩
  | 66 => ⟨S16384x1024, .f32⟩
  | 67 => ⟨S16384x1024, .f32⟩
  | 68 => ⟨S16384x1024, .f32⟩
  | 69 => ⟨S16384x2816, .f32⟩
  | 70 => ⟨S16384x2816, .f32⟩
  | 71 => ⟨S16384x2816, .f32⟩
  | 72 => ⟨S16384x2816, .f32⟩
  | 73 => ⟨S_, .f32⟩
  | 74 => ⟨S16384x2816, .f32⟩
  | 75 => ⟨S16384x2816, .f32⟩
  | 76 => ⟨S_, .f32⟩
  | 77 => ⟨S16384x2816, .f32⟩
  | 78 => ⟨S16384x2816, .f32⟩
  | 79 => ⟨S_, .f32⟩
  | 80 => ⟨S16384x2816, .f32⟩
  | 81 => ⟨S16384x2816, .f32⟩
  | 82 => ⟨S16384x2816, .f32⟩
  | 83 => ⟨S16384x2816, .f32⟩
  | 84 => ⟨S16384x2816, .f32⟩
  | 85 => ⟨S16384x1024, .f32⟩
  | 86 => ⟨S16384x1024, .f32⟩
  | 87 => ⟨S16384x1024, .f32⟩
  | 88 => ⟨S16384x2816, .f32⟩
  | 89 => ⟨S16384x2816, .f32⟩
  | 90 => ⟨S16384x2816, .f32⟩
  | 91 => ⟨S16384x2816, .f32⟩
  | 92 => ⟨S16384x2816, .f32⟩
  | 93 => ⟨S16384x2816, .f32⟩
  | 94 => ⟨S16384x2816, .f32⟩
  | 95 => ⟨S16384x1024, .f32⟩
  | 96 => ⟨S16384x1024, .f32⟩
  | 97 => ⟨S16384x1024, .f32⟩
  | 98 => ⟨S16384x1024, .f32⟩
  | 99 => ⟨S_, .f32⟩
  | 100 => ⟨S1024, .f32⟩
  | 101 => ⟨S1x1024, .f32⟩
  | 102 => ⟨S16384x1024, .f32⟩
  | 103 => ⟨S16384x1024, .f32⟩
  | 104 => ⟨S16384x1024, .f32⟩
  | 105 => ⟨S_, .f32⟩
  | 106 => ⟨S16384, .f32⟩
  | 107 => ⟨S16384x1, .f32⟩
  | 108 => ⟨S16384x1024, .f32⟩
  | 109 => ⟨S16384x1024, .f32⟩
  | 110 => ⟨S16384x1024, .f32⟩
  | 111 => ⟨S16384x1, .f32⟩
  | 112 => ⟨S_, .f32⟩
  | 113 => ⟨S16384x1, .f32⟩
  | 114 => ⟨S16384x1, .f32⟩
  | 115 => ⟨S_, .f32⟩
  | 116 => ⟨S16384, .f32⟩
  | 117 => ⟨S16384x1024, .f32⟩
  | 118 => ⟨S16384x1024, .f32⟩
  | 119 => ⟨S16384x1024, .f32⟩
  | 120 => ⟨S16384x1024, .f32⟩
  | 121 => ⟨S16384x1024, .f32⟩
  | 122 => ⟨S16384x2816, .f32⟩
  | 123 => ⟨S16384x2816, .f32⟩
  | 124 => ⟨S_, .f32⟩
  | 125 => ⟨S16384x2816, .f32⟩
  | 126 => ⟨S16384x2816, .f32⟩
  | 127 => ⟨S_, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x2816, .f32⟩
  | 3 => ⟨S16384x2816, .f32⟩
  | 4 => ⟨S16384x2816, .bf16⟩
  | 5 => ⟨S16384x2816, .bf16⟩
  | 6 => ⟨S16384x2816, .bf16⟩
  | 7 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_cst_2 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_v43_2 : Ref sig .tc := ⟨.hbm, 78, rfl⟩
abbrev main_call2_cst_1 : Ref sig .tc := ⟨.hbm, 79, rfl⟩
abbrev main_call2_v6 : Ref sig .tc := ⟨.hbm, 80, rfl⟩
abbrev main_call2_v7 : Ref sig .tc := ⟨.hbm, 81, rfl⟩
abbrev main_v43_1 : Ref sig .tc := ⟨.hbm, 82, rfl⟩
abbrev main_v43_0 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_6 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_7 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_8 : Ref sig .tc := ⟨.hbm, 112, rfl⟩
abbrev main_v67 : Ref sig .tc := ⟨.hbm, 113, rfl⟩
abbrev main_v68 : Ref sig .tc := ⟨.hbm, 114, rfl⟩
abbrev main_cst_9 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_call4_v0 : Ref sig .tc := ⟨.hbm, 122, rfl⟩
abbrev main_call4_v1 : Ref sig .tc := ⟨.hbm, 123, rfl⟩
abbrev main_call4_cst : Ref sig .tc := ⟨.hbm, 124, rfl⟩
abbrev main_call4_v2 : Ref sig .tc := ⟨.hbm, 125, rfl⟩
abbrev main_call4_v3 : Ref sig .tc := ⟨.hbm, 126, rfl⟩
abbrev main_call4_cst_0 : Ref sig .tc := ⟨.hbm, 127, rfl⟩
abbrev main_call4_v4 : Ref sig .tc := ⟨.hbm, 128, rfl⟩
abbrev main_call4_v5 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩

abbrev nD : Nat := 1
abbrev τ : Topo := Topo.v7x

variable {F : FTy → Type} [FloatOps F]
-- ==== WgradDown.lean ====
abbrev S16384x2816 : Shape := ⟨2, ![16384, 2816]⟩
abbrev S16384x1024 : Shape := ⟨2, ![16384, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S2816x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v12 : BitVec 1 := Scalar.cmpi .eq arg0 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradDownRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S16384x2816, .f32⟩
  | .hbm, ⟨3, _⟩ => ⟨S_, .f32⟩
  | .hbm, ⟨4, _⟩ => ⟨S2816x1024, .f32⟩
  | .hbm, ⟨5, _⟩ => ⟨S16384x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradGate.lean ====
abbrev S16384x2816 : Shape := ⟨2, ![16384, 2816]⟩
abbrev S16384x1024 : Shape := ⟨2, ![16384, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradGateRefIdeal.lean ====
abbrev S16384x2816 : Shape := ⟨2, ![16384, 2816]⟩
abbrev S16384x1024 : Shape := ⟨2, ![16384, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x1024, .f32⟩
  | .hbm, ⟨3, _⟩ => ⟨S16384x2816, .f32⟩
  | .hbm, ⟨4, _⟩ => ⟨S_, .f32⟩
  | .hbm, ⟨5, _⟩ => ⟨S1024x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradOut.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v12 : BitVec 1 := Scalar.cmpi .eq arg0 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradOutRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradInA.lean ====
abbrev S16384x1024 : Shape := ⟨2, ![16384, 1024]⟩
abbrev S16384x2560 : Shape := ⟨2, ![16384, 2560]⟩
abbrev S1024x2560 : Shape := ⟨2, ![1024, 2560]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2560, .bf16⟩
  | .hbm, ⟨2, _⟩ => ⟨S1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1024x2560, .bf16⟩
  | .local _ .vmem, ⟨5, _⟩ => ⟨S1024x2560, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradInARefIdeal.lean ====
abbrev S16384x1024 : Shape := ⟨2, ![16384, 1024]⟩
abbrev S16384x2560 : Shape := ⟨2, ![16384, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2560, .bf16⟩
  | .hbm, ⟨2, _⟩ => ⟨S16384x1024, .f32⟩
  | .hbm, ⟨3, _⟩ => ⟨S16384x2560, .f32⟩
  | .hbm, ⟨4, _⟩ => ⟨S_, .f32⟩
  | .hbm, ⟨5, _⟩ => ⟨S1024x2560, .f32⟩
  | .hbm, ⟨6, _⟩ => ⟨S16384x2560, .f32⟩
  | .hbm, ⟨7, _⟩ => ⟨S2560x1024, .f32⟩
  | .hbm, ⟨8, _⟩ => ⟨S1024x2560, .f32⟩
  | .hbm, ⟨9, _⟩ => ⟨S1024x2560, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WgradInB.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradInBRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnFwd.lean ====
abbrev S16384x1024 : Shape := ⟨2, ![16384, 1024]⟩
abbrev S1x1024 : Shape := ⟨2, ![1, 1024]⟩
abbrev S2816x1024 : Shape := ⟨2, ![2816, 1024]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1536x1024 : Shape := ⟨2, ![1536, 1024]⟩
abbrev S512x1536 : Shape := ⟨2, ![512, 1536]⟩
abbrev S1280x1024 : Shape := ⟨2, ![1280, 1024]⟩
abbrev S512x1280 : Shape := ⟨2, ![512, 1280]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S16384x1024, .f32⟩
  | .hbm, ⟨6, _⟩ => ⟨S16384x2816, .bf16⟩
  | .hbm, ⟨7, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S16384x1024 : Shape := ⟨2, ![16384, 1024]⟩
abbrev S1x1024 : Shape := ⟨2, ![1, 1024]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S2816x1024, .f32⟩
  | .hbm, ⟨21, _⟩ => ⟨S1024x2816, .f32⟩
  | .hbm, ⟨22, _⟩ => ⟨S16384x2816, .f32⟩
  | .hbm, ⟨23, _⟩ => ⟨S2816x1024, .f32⟩
  | .hbm, ⟨24, _⟩ => ⟨S1024x2816, .f32⟩
  | .hbm, ⟨25, _⟩ => ⟨S16384x2816, .f32⟩
  | .hbm, ⟨26, _⟩ => ⟨S2816x1024, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S16384x1024, .f32⟩
  | .hbm, ⟨39, _⟩ => ⟨S16384x2816, .bf16⟩
  | .hbm, ⟨40, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== ProjABwd.lean ====
abbrev S16384x2560 : Shape := ⟨2, ![16384, 2560]⟩
abbrev S1024x2560 : Shape := ⟨2, ![1024, 2560]⟩
abbrev S16384x1024 : Shape := ⟨2, ![16384, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x2560, .bf16⟩
  | .hbm, ⟨1, _⟩ => ⟨S1024x2560, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .bf16⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjABwdRefIdeal.lean ====
abbrev S16384x2560 : Shape := ⟨2, ![16384, 2560]⟩
abbrev S1024x2560 : Shape := ⟨2, ![1024, 2560]⟩
abbrev S16384x1024 : Shape := ⟨2, ![16384, 1024]⟩
abbrev S1x1024 : Shape := ⟨2, ![1, 1024]⟩
abbrev S2560x1024 : Shape := ⟨2, ![2560, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S16384x2560, .bf16⟩
  | .hbm, ⟨1, _⟩ => ⟨S1024x2560, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x2560, .f32⟩
  | .hbm, ⟨6, _⟩ => ⟨S1024x2560, .f32⟩
  | .hbm, ⟨7, _⟩ => ⟨S2560x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .bf16⟩
  | _, _ => ⟨S16384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== ProjBBwd.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjBBwdRefIdeal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== ProjBKvBwd.lean ====
abbrev S16384x1024 : Shape := ⟨2, ![16384, 1024]⟩
abbrev S1024x1024 : Shape := ⟨2, ![1024, 1024]⟩
abbrev S1x1024 : Shape := ⟨2, ![1, 1024]⟩
abbrev S16384x512 : Shape := ⟨2, ![16384, 512]⟩
abbrev S32x128x512 : Shape := ⟨3, ![32, 128, 512]⟩
abbrev S1024x512 : Shape := ⟨2, ![1024, 512]⟩
abbrev S512x1024 : Shape := ⟨2, ![512, 1024]⟩
abbrev S512x512 : Shape := ⟨2, ![512, 512]⟩
abbrev S1x128x512 : Shape := ⟨3, ![1, 128, 512]⟩
abbrev S128x512 : Shape := ⟨2, ![128, 512]⟩
abbrev S384x512 : Shape := ⟨2, ![384, 512]⟩
abbrev S512 : Shape := ⟨1, ![512]⟩
abbrev S512x1 : Shape := ⟨2, ![512, 1]⟩
abbrev S1024 : Shape := ⟨1, ![1024]⟩

abbrev nBuf : Space → Nat
  | .hbm => 17
  | .vmem => 28
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1x1024, .f32⟩
  | .hbm, ⟨3, _⟩ => ⟨S16384x512, .f32⟩
  | .hbm, ⟨4, _⟩ => ⟨S32x128x512, .f32⟩
  | .hbm, ⟨5, _⟩ => ⟨S16384x512, .f32⟩
  | .hbm, ⟨6, _⟩ => ⟨S32x128x512, .f32⟩
  | .hbm, ⟨7, _⟩ => ⟨S1024x512, .bf16⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1x1024, .f32⟩
  | .hbm, ⟨14, _⟩ => ⟨S16384x1024, .bf16⟩
  | .hbm, ⟨15, _⟩ => ⟨S16384x1024, .bf16⟩
  | .hbm, ⟨16, _⟩ => ⟨S16384x512, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x512, .f32⟩
  | .local _ .vmem, ⟨5, _⟩ => ⟨S512x512, .f32⟩
  | .local _ .vmem, ⟨6, _⟩ => ⟨S1x128x512, .f32⟩
  | .local _ .vmem, ⟨7, _⟩ => ⟨S1x128x512, .f32⟩
  | .local _ .vmem, ⟨8, _⟩ => ⟨S512x512, .f32⟩
  | .local _ .vmem, ⟨9, _⟩ => ⟨S512x512, .f32⟩
  | .local _ .vmem, ⟨10, _⟩ => ⟨S1x128x512, .f32⟩
  | .local _ .vmem, ⟨11, _⟩ => ⟨S1x128x512, .f32⟩
  | .local _ .vmem, ⟨12, _⟩ => ⟨S1024x512, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x512, .bf16⟩
  | .local _ .vmem, ⟨27, _⟩ => ⟨S512x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjBKvBwdRefIdeal.lean ====
abbrev S16384x1024 : Shape := ⟨2, ![16384, 1024]⟩
abbrev S1024x1024 : Shape := ⟨2, ![1024, 1024]⟩
abbrev S1x1024 : Shape := ⟨2, ![1, 1024]⟩
abbrev S16384x512 : Shape := ⟨2, ![16384, 512]⟩
abbrev S32x128x512 : Shape := ⟨3, ![32, 128, 512]⟩
abbrev S1024x512 : Shape := ⟨2, ![1024, 512]⟩
abbrev S31x128x512 : Shape := ⟨3, ![31, 128, 512]⟩
abbrev S_ : Shape := ⟨0, ![]⟩
abbrev S1x128x512 : Shape := ⟨3, ![1, 128, 512]⟩
abbrev S32x384x512 : Shape := ⟨3, ![32, 384, 512]⟩
abbrev S32x512x512 : Shape := ⟨3, ![32, 512, 512]⟩
abbrev S512x1024 : Shape := ⟨2, ![512, 1024]⟩
abbrev S16384 : Shape := ⟨1, ![16384]⟩
abbrev S16384x1 : Shape := ⟨2, ![16384, 1]⟩
abbrev S1024 : Shape := ⟨1, ![1024]⟩

abbrev nBuf : Space → Nat
  | .hbm => 148
  | .vmem => 0
  | .smem => 0
  | _ => 0

abbrev hbmTy0_0 (i : Nat) : BufTy := match i % 128 with
  | 0 => ⟨S16384x1024, .bf16⟩
  | 1 => ⟨S1024x1024, .bf16⟩
  | 2 => ⟨S1x1024, .f32⟩
  | 3 => ⟨S16384x512, .f32⟩
  | 4 => ⟨S32x128x512, .f32⟩
  | 5 => ⟨S16384x512, .f32⟩
  | 6 => ⟨S32x128x512, .f32⟩
  | 7 => ⟨S1024x512, .bf16⟩
  | 8 => ⟨S1x1024, .f32⟩
  | 9 => ⟨S16384x1024, .f32⟩
  | 10 => ⟨S16384x1024, .f32⟩
  | 11 => ⟨S32x128x512, .f32⟩
  | 12 => ⟨S31x128x512, .f32⟩
  | 13 => ⟨S_, .f32⟩
  | 14 => ⟨S1x128x512, .f32⟩
  | 15 => ⟨S32x128x512, .f32⟩
  | 16 => ⟨S_, .f32⟩
  | 17 => ⟨S32x384x512, .f32⟩
  | 18 => ⟨S32x512x512, .f32⟩
  | 19 => ⟨S16384x512, .f32⟩
  | 20 => ⟨S16384x512, .f32⟩
  | 21 => ⟨S16384x512, .f32⟩
  | 22 => ⟨S16384x1024, .f32⟩
  | 23 => ⟨S1024x1024, .f32⟩
  | 24 => ⟨S1024x1024, .f32⟩
  | 25 => ⟨S16384x1024, .f32⟩
  | 26 => ⟨S1024x512, .f32⟩
  | 27 => ⟨S512x1024, .f32⟩
  | 28 => ⟨S16384x1024, .f32⟩
  | 29 => ⟨S16384x1024, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1, .f32⟩
  | 40 => ⟨S16384x1, .f32⟩
  | 41 => ⟨S_, .f32⟩
  | 42 => ⟨S16384x1, .f32⟩
  | 43 => ⟨S16384x1, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S_, .f32⟩
  | 50 => ⟨S16384, .f32⟩
  | 51 => ⟨S16384x1, .f32⟩
  | 52 => ⟨S_, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x1, .f32⟩
  | 59 => ⟨S16384x1, .f32⟩
  | 60 => ⟨S_, .f32⟩
  | 61 => ⟨S16384x1, .f32⟩
  | 62 => ⟨S16384x1, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S_, .f32⟩
  | 69 => ⟨S1024, .f32⟩
  | 70 => ⟨S1x1024, .f32⟩
  | 71 => ⟨S16384x1024, .f32⟩
  | 72 => ⟨S16384x1024, .f32⟩
  | 73 => ⟨S16384x1024, .f32⟩
  | 74 => ⟨S_, .f32⟩
  | 75 => ⟨S16384, .f32⟩
  | 76 => ⟨S16384x1, .f32⟩
  | 77 => ⟨S16384x1024, .f32⟩
  | 78 => ⟨S16384x1024, .f32⟩
  | 79 => ⟨S16384x1, .f32⟩
  | 80 => ⟨S_, .f32⟩
  | 81 => ⟨S16384x1, .f32⟩
  | 82 => ⟨S16384x1, .f32⟩
  | 83 => ⟨S_, .f32⟩
  | 84 => ⟨S16384, .f32⟩
  | 85 => ⟨S16384x1024, .f32⟩
  | 86 => ⟨S16384x1024, .f32⟩
  | 87 => ⟨S16384x1024, .f32⟩
  | 88 => ⟨S16384x1024, .f32⟩
  | 89 => ⟨S16384x1024, .f32⟩
  | 90 => ⟨S16384x1024, .f32⟩
  | 91 => ⟨S_, .f32⟩
  | 92 => ⟨S1024, .f32⟩
  | 93 => ⟨S1x1024, .f32⟩
  | 94 => ⟨S16384x1024, .f32⟩
  | 95 => ⟨S16384x1024, .f32⟩
  | 96 => ⟨S16384x1024, .f32⟩
  | 97 => ⟨S_, .f32⟩
  | 98 => ⟨S16384, .f32⟩
  | 99 => ⟨S16384x1, .f32⟩
  | 100 => ⟨S16384x1024, .f32⟩
  | 101 => ⟨S16384x1024, .f32⟩
  | 102 => ⟨S16384x1024, .f32⟩
  | 103 => ⟨S16384x1, .f32⟩
  | 104 => ⟨S_, .f32⟩
  | 105 => ⟨S16384x1, .f32⟩
  | 106 => ⟨S16384x1, .f32⟩
  | 107 => ⟨S_, .f32⟩
  | 108 => ⟨S16384, .f32⟩
  | 109 => ⟨S16384x1024, .f32⟩
  | 110 => ⟨S16384x1024, .f32⟩
  | 111 => ⟨S16384x1024, .f32⟩
  | 112 => ⟨S16384x1024, .f32⟩
  | 113 => ⟨S16384x1024, .f32⟩
  | 114 => ⟨S16384x1024, .f32⟩
  | 115 => ⟨S16384x1024, .f32⟩
  | 116 => ⟨S_, .f32⟩
  | 117 => ⟨S16384, .f32⟩
  | 118 => ⟨S16384x1, .f32⟩
  | 119 => ⟨S_, .f32⟩
  | 120 => ⟨S16384x1, .f32⟩
  | 121 => ⟨S16384x1, .f32⟩
  | 122 => ⟨S_, .f32⟩
  | 123 => ⟨S16384x1, .f32⟩
  | 124 => ⟨S16384x1, .f32⟩
  | 125 => ⟨S16384x1, .f32⟩
  | 126 => ⟨S16384x1024, .f32⟩
  | 127 => ⟨S16384x1024, .f32⟩
  | _ => ⟨S16384x1024, .bf16⟩

abbrev hbmTy0_1 (i : Nat) : BufTy := match i % 128 with
  | 0 => ⟨S16384x1024, .f32⟩
  | 1 => ⟨S16384x1024, .f32⟩
  | 2 => ⟨S16384x1024, .bf16⟩
  | 3 => ⟨S16384x1024, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S16384x1, .f32⟩
  | 14 => ⟨S16384x1024, .f32⟩
  | 15 => ⟨S16384x1024, .f32⟩
  | 16 => ⟨S16384x1024, .f32⟩
  | 17 => ⟨S16384x1024, .f32⟩
  | 18 => ⟨S16384x1024, .bf16⟩
  | 19 => ⟨S16384x512, .bf16⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_cst_19 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_20 : Ref sig .tc := ⟨.hbm, 132, rfl⟩
abbrev main_v100 : Ref sig .tc := ⟨.hbm, 133, rfl⟩
abbrev main_v101 : Ref sig .tc := ⟨.hbm, 134, rfl⟩
abbrev main_cst_21 : Ref sig .tc := ⟨.hbm, 135, rfl⟩
abbrev main_v102 : Ref sig .tc := ⟨.hbm, 136, rfl⟩
abbrev main_v103 : Ref sig .tc := ⟨.hbm, 137, rfl⟩
abbrev main_cst_22 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩

abbrev nD : Nat := 1
abbrev τ : Topo := Topo.v7x

variable {F : FTy → Type} [FloatOps F]
-- ==== WgradKv.lean ====
abbrev S16384x1024 : Shape := ⟨2, ![16384, 1024]⟩
abbrev S16384x512 : Shape := ⟨2, ![16384, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WgradKvRefIdeal.lean ====
abbrev S16384x1024 : Shape := ⟨2, ![16384, 1024]⟩
abbrev S16384x512 : Shape := ⟨2, ![16384, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x1024, .f32⟩
  | .hbm, ⟨3, _⟩ => ⟨S16384x512, .f32⟩
  | .hbm, ⟨4, _⟩ => ⟨S_, .f32⟩
  | .hbm, ⟨5, _⟩ => ⟨S1024x512, .f32⟩
  | .hbm, ⟨6, _⟩ => ⟨S16384x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjAFwd.lean ====
abbrev S16384x1024 : Shape := ⟨2, ![16384, 1024]⟩
abbrev S1x1024 : Shape := ⟨2, ![1, 1024]⟩
abbrev S1024x2560 : Shape := ⟨2, ![1024, 2560]⟩
abbrev S16384x2560 : Shape := ⟨2, ![16384, 2560]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2560, .bf16⟩
  | .hbm, ⟨3, _⟩ => ⟨S16384x2560, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x2560, .bf16⟩
  | .local _ .vmem, ⟨5, _⟩ => ⟨S1024x2560, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjAFwdRefIdeal.lean ====
abbrev S16384x1024 : Shape := ⟨2, ![16384, 1024]⟩
abbrev S1x1024 : Shape := ⟨2, ![1, 1024]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S16384x2560 : Shape := ⟨2, ![16384, 2560]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2560, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x2560, .f32⟩
  | .hbm, ⟨19, _⟩ => ⟨S16384x2560, .f32⟩
  | .hbm, ⟨20, _⟩ => ⟨S16384x2560, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjBFwd.lean ====
abbrev S16384x1024 : Shape := ⟨2, ![16384, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjBFwdRefIdeal.lean ====
abbrev S16384x1024 : Shape := ⟨2, ![16384, 1024]⟩
abbrev S1x1024 : Shape := ⟨2, ![1, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x1024, .f32⟩
  | .hbm, ⟨19, _⟩ => ⟨S16384x1024, .f32⟩
  | .hbm, ⟨20, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjBKvFwd.lean ====
abbrev S16384x1024 : Shape := ⟨2, ![16384, 1024]⟩
abbrev S1x1024 : Shape := ⟨2, ![1, 1024]⟩
abbrev S1024x1024 : Shape := ⟨2, ![1024, 1024]⟩
abbrev S1024x512 : Shape := ⟨2, ![1024, 512]⟩
abbrev S16384x512 : Shape := ⟨2, ![16384, 512]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S1x1024, .f32⟩
  | .hbm, ⟨4, _⟩ => ⟨S1024x512, .bf16⟩
  | .hbm, ⟨5, _⟩ => ⟨S16384x1024, .bf16⟩
  | .hbm, ⟨6, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024, .f32⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjBKvFwdRefIdeal.lean ====
abbrev S16384x1024 : Shape := ⟨2, ![16384, 1024]⟩
abbrev S1x1024 : Shape := ⟨2, ![1, 1024]⟩
abbrev S1024x1024 : Shape := ⟨2, ![1024, 1024]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S16384x512 : Shape := ⟨2, ![16384, 512]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S1x1024, .f32⟩
  | .hbm, ⟨4, _⟩ => ⟨S1024x512, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x1024, .f32⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S1024x512, .f32⟩
  | .hbm, ⟨39, _⟩ => ⟨S16384x512, .f32⟩
  | .hbm, ⟨40, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== FfnLoss.lean ====
abbrev S16384x1024 : Shape := ⟨2, ![16384, 1024]⟩
abbrev S1x1024 : Shape := ⟨2, ![1, 1024]⟩
abbrev S2816x1024 : Shape := ⟨2, ![2816, 1024]⟩
abbrev S16384x2816 : Shape := ⟨2, ![16384, 2816]⟩
abbrev S8x128 : Shape := ⟨2, ![8, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1536x1024 : Shape := ⟨2, ![1536, 1024]⟩
abbrev S512x1536 : Shape := ⟨2, ![512, 1536]⟩
abbrev S1280x1024 : Shape := ⟨2, ![1280, 1024]⟩
abbrev S512x1280 : Shape := ⟨2, ![512, 1280]⟩
abbrev S1024 : Shape := ⟨1, ![1024]⟩
abbrev S1 : Shape := ⟨1, ![1]⟩
abbrev S1x1 : Shape := ⟨2, ![1, 1]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S1x1024, .f32⟩
  | .hbm, ⟨6, _⟩ => ⟨S16384x1024, .f32⟩
  | .hbm, ⟨7, _⟩ => ⟨S16384x2816, .bf16⟩
  | .hbm, ⟨8, _⟩ => ⟨S16384x2816, .bf16⟩
  | .hbm, ⟨9, _⟩ => ⟨S8x128, .f32⟩
  | .hbm, ⟨10, _⟩ => ⟨S16384x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S8x128, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnLossRefIdeal.lean ====
abbrev S16384x1024 : Shape := ⟨2, ![16384, 1024]⟩
abbrev S1x1024 : Shape := ⟨2, ![1, 1024]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S1024 : Shape := ⟨1, ![1024]⟩
abbrev S8x128 : Shape := ⟨2, ![8, 128]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S2816x1024, .f32⟩
  | .hbm, ⟨23, _⟩ => ⟨S1024x2816, .f32⟩
  | .hbm, ⟨24, _⟩ => ⟨S16384x2816, .f32⟩
  | .hbm, ⟨25, _⟩ => ⟨S2816x1024, .f32⟩
  | .hbm, ⟨26, _⟩ => ⟨S1024x2816, .f32⟩
  | .hbm, ⟨27, _⟩ => ⟨S16384x2816, .f32⟩
  | .hbm, ⟨28, _⟩ => ⟨S2816x1024, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S16384, .f32⟩
  | .hbm, ⟨78, _⟩ => ⟨S_, .f32⟩
  | .hbm, ⟨79, _⟩ => ⟨S16384, .f32⟩
  | .hbm, ⟨80, _⟩ => ⟨S16384, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S16384x1024, .f32⟩
  | .hbm, ⟨94, _⟩ => ⟨S16384x1024, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S_, .f32⟩
  | .hbm, ⟨100, _⟩ => ⟨S16384, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S16384x2816, .bf16⟩
  | .hbm, ⟨107, _⟩ => ⟨S16384x2816, .bf16⟩
  | .hbm, ⟨108, _⟩ => ⟨S8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_cst_11 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_cst_13 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_16 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== MixAFwd.lean ====
abbrev S16384x1024 : Shape := ⟨2, ![16384, 1024]⟩
abbrev S16384x2560 : Shape := ⟨2, ![16384, 2560]⟩
abbrev S3x768 : Shape := ⟨2, ![3, 768]⟩
abbrev S256x2048 : Shape := ⟨2, ![256, 2048]⟩
abbrev S1024x1024 : Shape := ⟨2, ![1024, 1024]⟩
abbrev S512x1024 : Shape := ⟨2, ![512, 1024]⟩
abbrev S512x2560 : Shape := ⟨2, ![512, 2560]⟩
abbrev S16x2560 : Shape := ⟨2, ![16, 2560]⟩
abbrev S256x512 : Shape := ⟨2, ![256, 512]⟩
abbrev S512x768 : Shape := ⟨2, ![512, 768]⟩
abbrev S16x768 : Shape := ⟨2, ![16, 768]⟩
abbrev S8x768 : Shape := ⟨2, ![8, 768]⟩
abbrev S504x768 : Shape := ⟨2, ![504, 768]⟩
abbrev S1x768 : Shape := ⟨2, ![1, 768]⟩
abbrev S512x256 : Shape := ⟨2, ![512, 256]⟩
abbrev S256x256 : Shape := ⟨2, ![256, 256]⟩
abbrev S1x256 : Shape := ⟨2, ![1, 256]⟩
abbrev S512 : Shape := ⟨1, ![512]⟩
abbrev S1x512 : Shape := ⟨2, ![1, 512]⟩

abbrev nBuf : Space → Nat
  | .hbm => 7
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x2560, .bf16⟩
  | .hbm, ⟨2, _⟩ => ⟨S3x768, .f32⟩
  | .hbm, ⟨3, _⟩ => ⟨S256x2048, .bf16⟩
  | .hbm, ⟨4, _⟩ => ⟨S1024x1024, .bf16⟩
  | .hbm, ⟨5, _⟩ => ⟨S16384x1024, .f32⟩
  | .hbm, ⟨6, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x2560, .bf16⟩
  | .local _ .vmem, ⟨3, _⟩ => ⟨S512x2560, .bf16⟩
  | .local _ .vmem, ⟨4, _⟩ => ⟨S16x2560, .bf16⟩
  | .local _ .vmem, ⟨5, _⟩ => ⟨S16x2560, .bf16⟩
  | .local _ .vmem, ⟨6, _⟩ => ⟨S3x768, .f32⟩
  | .local _ .vmem, ⟨7, _⟩ => ⟨S256x512, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixAFwdRefIdeal.lean ====
abbrev S16384x1024 : Shape := ⟨2, ![16384, 1024]⟩
abbrev S16384x2560 : Shape := ⟨2, ![16384, 2560]⟩
abbrev S3x768 : Shape := ⟨2, ![3, 768]⟩
abbrev S256x2048 : Shape := ⟨2, ![256, 2048]⟩
abbrev S1024x1024 : Shape := ⟨2, ![1024, 1024]⟩
abbrev S256x512 : Shape := ⟨2, ![256, 512]⟩
abbrev S16384x768 : Shape := ⟨2, ![16384, 768]⟩
abbrev S16384x256 : Shape := ⟨2, ![16384, 256]⟩
abbrev S_ : Shape := ⟨0, ![]⟩
abbrev S2x768 : Shape := ⟨2, ![2, 768]⟩
abbrev S16386x768 : Shape := ⟨2, ![16386, 768]⟩
abbrev S1x768 : Shape := ⟨2, ![1, 768]⟩
abbrev S768 : Shape := ⟨1, ![768]⟩
abbrev S256x256 : Shape := ⟨2, ![256, 256]⟩
abbrev S16384x4x64 : Shape := ⟨3, ![16384, 4, 64]⟩
abbrev S256x4x64 : Shape := ⟨3, ![256, 4, 64]⟩
abbrev S4x16384x256 : Shape := ⟨3, ![4, 16384, 256]⟩
abbrev S4x16384 : Shape := ⟨2, ![4, 16384]⟩
abbrev S4x16384x1 : Shape := ⟨3, ![4, 16384, 1]⟩
abbrev S4x64x16384 : Shape := ⟨3, ![4, 64, 16384]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2560, .bf16⟩
  | .hbm, ⟨2, _⟩ => ⟨S3x768, .f32⟩
  | .hbm, ⟨3, _⟩ => ⟨S256x2048, .bf16⟩
  | .hbm, ⟨4, _⟩ => ⟨S1024x1024, .bf16⟩
  | .hbm, ⟨5, _⟩ => ⟨S256x512, .bf16⟩
  | .hbm, ⟨6, _⟩ => ⟨S256x512, .f32⟩
  | .hbm, ⟨7, _⟩ => ⟨S16384x2560, .f32⟩
  | .hbm, ⟨8, _⟩ => ⟨S16384x768, .f32⟩
  | .hbm, ⟨9, _⟩ => ⟨S16384x768, .f32⟩
  | .hbm, ⟨10, _⟩ => ⟨S16384x768, .f32⟩
  | .hbm, ⟨11, _⟩ => ⟨S16384x256, .f32⟩
  | .hbm, ⟨12, _⟩ => ⟨S16384x768, .f32⟩
  | .hbm, ⟨13, _⟩ => ⟨S_, .f32⟩
  | .hbm, ⟨14, _⟩ => ⟨S2x768, .f32⟩
  | .hbm, ⟨15, _⟩ => ⟨S16386x768, .f32⟩
  | .hbm, ⟨16, _⟩ => ⟨S1x768, .f32⟩
  | .hbm, ⟨17, _⟩ => ⟨S768, .f32⟩
  | .hbm, ⟨18, _⟩ => ⟨S16384x768, .f32⟩
  | .hbm, ⟨19, _⟩ => ⟨S1x768, .f32⟩
  | .hbm, ⟨20, _⟩ => ⟨S16384x768, .f32⟩
  | .hbm, ⟨21, _⟩ => ⟨S16384x768, .f32⟩
  | .hbm, ⟨22, _⟩ => ⟨S1x768, .f32⟩
  | .hbm, ⟨23, _⟩ => ⟨S768, .f32⟩
  | .hbm, ⟨24, _⟩ => ⟨S16384x768, .f32⟩
  | .hbm, ⟨25, _⟩ => ⟨S1x768, .f32⟩
  | .hbm, ⟨26, _⟩ => ⟨S16384x768, .f32⟩
  | .hbm, ⟨27, _⟩ => ⟨S16384x768, .f32⟩
  | .hbm, ⟨28, _⟩ => ⟨S16384x768, .f32⟩
  | .hbm, ⟨29, _⟩ => ⟨S1x768, .f32⟩
  | .hbm, ⟨30, _⟩ => ⟨S768, .f32⟩
  | .hbm, ⟨31, _⟩ => ⟨S16384x768, .f32⟩
  | .hbm, ⟨32, _⟩ => ⟨S1x768, .f32⟩
  | .hbm, ⟨33, _⟩ => ⟨S16384x768, .f32⟩
  | .hbm, ⟨34, _⟩ => ⟨S16384x768, .f32⟩
  | .hbm, ⟨35, _⟩ => ⟨S16384x768, .f32⟩
  | .hbm, ⟨36, _⟩ => ⟨S16384x768, .f32⟩
  | .hbm, ⟨37, _⟩ => ⟨S256x256, .f32⟩
  | .hbm, ⟨38, _⟩ => ⟨S256x256, .f32⟩
  | .hbm, ⟨39, _⟩ => ⟨S16384x4x64, .f32⟩
  | .hbm, ⟨40, _⟩ => ⟨S256x4x64, .f32⟩
  | .hbm, ⟨41, _⟩ => ⟨S256x4x64, .f32⟩
  | .hbm, ⟨42, _⟩ => ⟨S4x16384x256, .f32⟩
  | .hbm, ⟨43, _⟩ => ⟨S_, .f32⟩
  | .hbm, ⟨44, _⟩ => ⟨S4x16384x256, .f32⟩
  | .hbm, ⟨45, _⟩ => ⟨S4x16384x256, .f32⟩
  | .hbm, ⟨46, _⟩ => ⟨S_, .f32⟩
  | .hbm, ⟨47, _⟩ => ⟨S4x16384, .f32⟩
  | .hbm, ⟨48, _⟩ => ⟨S_, .f32⟩
  | .hbm, ⟨49, _⟩ => ⟨S4x16384, .f32⟩
  | .hbm, ⟨50, _⟩ => ⟨S4x16384, .f32⟩
  | .hbm, ⟨51, _⟩ => ⟨S4x16384x1, .f32⟩
  | .hbm, ⟨52, _⟩ => ⟨S4x16384x256, .f32⟩
  | .hbm, ⟨53, _⟩ => ⟨S4x16384x256, .f32⟩
  | .hbm, ⟨54, _⟩ => ⟨S4x16384x256, .f32⟩
  | .hbm, ⟨55, _⟩ => ⟨S_, .f32⟩
  | .hbm, ⟨56, _⟩ => ⟨S4x16384, .f32⟩
  | .hbm, ⟨57, _⟩ => ⟨S4x16384x1, .f32⟩
  | .hbm, ⟨58, _⟩ => ⟨S4x16384x256, .f32⟩
  | .hbm, ⟨59, _⟩ => ⟨S4x16384x256, .f32⟩
  | .hbm, ⟨60, _⟩ => ⟨S4x64x16384, .f32⟩
  | .hbm, ⟨61, _⟩ => ⟨S16384x4x64, .f32⟩
  | .hbm, ⟨62, _⟩ => ⟨S16384x256, .f32⟩
  | .hbm, ⟨63, _⟩ => ⟨S16384x1024, .f32⟩
  | .hbm, ⟨64, _⟩ => ⟨S1024x1024, .f32⟩
  | .hbm, ⟨65, _⟩ => ⟨S16384x1024, .f32⟩
  | .hbm, ⟨66, _⟩ => ⟨S16384x1024, .f32⟩
  | .hbm, ⟨67, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_0 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩

abbrev nD : Nat := 1
abbrev τ : Topo := Topo.v7x

variable {F : FTy → Type} [FloatOps F]
-- ==== Proof.WgradDown.lean ====
/- The weight gradient of the feed-forward down projection: one accumulated product of two tall
   arrays, walked 1024 rows at a time, is the one product over all rows. -/
module

public import proofs.«01_k».proof.Proof.Gen.WgradDownIdeal.Value
public import proofs.«01_k».proof.Proof.Gen.WgradDownRefIdeal.Read
public import Idealize.ShloMosaic.Lib.Pipeline.ValueKit.Acc
public import Idealize.ShloMosaic.Lib.Pipeline.ValueKit.Geometry
public import Idealize.ShloMosaic.Lib.Pointwise
public import Idealize.ShloMosaic.Lib.Pipeline.ReadBack
public import proofs.«01_k».proof.Defs

@[expose] public section

set_option maxRecDepth 16384

noncomputable section

namespace Cert.WgradDownProof

open Cert.WgradDownIdeal Cert.WgradDownIdeal.Gen Idealize.ShloMosaic Idealize.ShloMosaic.TcCoe Idealize.SL.Sem
open Idealize.ShloMosaic.Pipeline (Dat)

variable (m : (ℓ : Loc nD τ sig) → Buf (Elt Ideal) ℓ)

/-- The block stored at the first point is zero everywhere. -/
theorem zero_apply (r : Fin 2816) (l : Fin 1024) : k0_pay1 (F := Ideal) (ix2 r l) = 0 := by
  pointwise [k0_pay1]

/-- One point's step at an entry: what was there plus the product of the point's rows. -/
theorem step_apply (a : Vec Ideal S2816x1024 .f32) (x : Vec Ideal S1024x2816 .bf16) (y : Vec Ideal S1024x1024 .f32)
    (r : Fin 2816) (l : Fin 1024) :
    k0_pay2 a x y (ix2 r l) = a (ix2 r l) + ∑ k : Fin 1024, x (ix2 k r) * y (ix2 k l) := by
  pointwise [k0_pay2]

/-- The closing conversion keeps every entry. -/
theorem close_apply (a : Vec Ideal S2816x1024 .f32) (r : Fin 2816) (l : Fin 1024) :
    k0_pay3 a (ix2 r l) = a (ix2 r l) := by
  pointwise [k0_pay3]

/-- The block of rows the left window holds at point `t` starts at row `1024 t`. -/
theorem rows_left : ∀ t : Fin cfg0.N, win0_0.index t = ![t.val, 0] := (by decide +kernel : ∀ t : Fin grid0.N, _)
/-- The block of rows the right window holds at point `t` starts at row `1024 t`. -/
theorem rows_right : ∀ t : Fin cfg0.N, win0_1.index t = ![t.val, 0] := (by decide +kernel : ∀ t : Fin grid0.N, _)
/-- The output block is the whole array at every point. -/
theorem rows_out : ∀ t : Fin cfg0.N, win0_2.index t = ![0, 0] := (by decide +kernel : ∀ t : Fin grid0.N, _)

/-- The product of one point's rows at entry `j`. -/
def rowsProduct (x : Vec Ideal S1024x2816 .bf16) (y : Vec Ideal S1024x1024 .f32) (j : S2816x1024.Idx) : EReal :=
  ∑ k : Fin 1024, x (ix2 k (j 0)) * y (ix2 k (j 1))

/-- What point `t` adds at entry `j`: the product of the point's rows. -/
def part (c : Dev nD) (t : Fin cfg0.N) (j : S2816x1024.Idx) : EReal :=
  rowsProduct (iblk m c 0 t) (iblk m c 1 t) j

/-- After the last point the scratch holds the sum of all points' products. -/
theorem scratch_last (c : Dev nD) (t : Fin cfg0.N) (ht : t.val + 1 = cfg0.N) (j : S2816x1024.Idx) :
    (outsAt0 m c t.val t.isLt).2 j = 0 + ∑ p : Fin cfg0.N, part m c p j := by
  exact Pipeline.eq_sum_fin_of_reset_step_apply_last (fun n h => (outsAt0 m c n h).2) 16 (fun _ => (0 : EReal)) (part m c)
    (fun t h j => by
      obtain ⟨r, l, rfl⟩ : ∃ r l, j = ix2 r l := ⟨j 0, j 1, (ix2_eta j).symm⟩
      rw [outsAt0_A m c t h (by omega)]; frame_out; rw [step_apply, zero_apply]; rfl)
    (fun t h j => by
      obtain ⟨r, l, rfl⟩ : ∃ r l, j = ix2 r l := ⟨j 0, j 1, (ix2_eta j).symm⟩
      by_cases h1 : t.val % 16 = 15
      · rw [outsAt0_C m c t h h1]; frame_out; rw [step_apply, read_unread_whole]; rfl
      · rw [outsAt0_B m c t h h1]; frame_out; rw [step_apply, read_unread_whole]; rfl)
    (le_of_eq N_0) t ht j

/-- The closing store takes the scratch as the point leaves it. -/
theorem out_of_scratch (c : Dev nD) (t : Fin cfg0.N) (h1 : t.val % 16 = 15) :
    (outsAt0 m c t.val t.isLt).1 = k0_pay3 (outsAt0 m c t.val t.isLt).2 := by
  rw [outsAt0_C m c t (by omega) h1]; frame_out

/-- The array the kernel leaves is the product over all rows. -/
theorem result (c : Dev nD) : (dats m 0 c).arrAt 2 cfg0.N
    = Cert.WgradDownRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have hN : cfg0.N = 16 := N_0
  have h15 : t.val % 16 = 15 := (flush0_2 t).mp hf
  have ht : t.val + 1 = cfg0.N := by have : t.val < 16 := lt_of_lt_of_eq t.isLt N_0; rw [hN]; omega
  blk_simp
  rw [after0_2, out_of_scratch m c t h15]
  obtain ⟨r, l, rfl⟩ : ∃ r l, y = ix2 r l := ⟨y 0, y 1, (ix2_eta y).symm⟩
  have he : ((win0_2.blk t).view.emb (ix2 r l) : S2816x1024.Idx) = ix2 r l := by
    blk_ext [rows_out t]
  rw [he, close_apply, scratch_last m c t ht, zero_add]
  simp only [Cert.WgradDownRefIdeal.Read.val_main_v5_apply, Cert.WgradDownRefIdeal.Read.val_main_v4_apply,
    Cert.WgradDownRefIdeal.Read.val_main_v3_apply, Cert.WgradDownRefIdeal.Read.val_main_v0_apply, Ideal.truncf_def, Ideal.extf_def, part, rowsProduct]
  refine Fin.sum_mul_add_congr (S := cfg0.N) (n := 1024) (fun t k ht => ?_) (by rw [hN])
  rw [mul_comm]
  congr 1
  · blk_ext [iblk, V_main_arg1, rows_right t]
  · blk_ext [iblk, V_main_arg0, rows_left t]

/-- Each window's rows and the closing store put together: the kernel's run ends at the reference's array. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = Cert.WgradDownRefIdeal.Read.val_main_v5 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (Cert.WgradDownIdeal.Value.run_blocks m ρ)

/-- From memories agreeing on the arguments, kernel and reference both run and end with equal results. -/
theorem algebraic : Cert.algebraic_WgradDownIdeal_WgradDownRefIdeal := by
  intro m ρ m' ρ' _ hm
  refine ⟨_, kernel_run m ρ, (θ_run _ _ _).mono (fun r h c => ⟨(h c).1.trans ?_, (h c).2⟩) (Cert.WgradDownRefIdeal.Value.run m' ρ')⟩
  rw [(hm c).1, (hm c).2]
  exact Cert.WgradDownRefIdeal.Read.val_main_v5_eq _ _

end Cert.WgradDownProof

end
-- ==== Proof.WgradGate.lean ====
/- The weight gradient of the feed-forward gate (and up) projection, kept transposed: one accumulated
   product of two tall arrays, walked 1024 rows at a time, is the one product over all rows. -/
module

public import proofs.«01_k».proof.Proof.Gen.WgradGateIdeal.Value
public import proofs.«01_k».proof.Proof.Gen.WgradGateRefIdeal.Read
public import Idealize.ShloMosaic.Lib.Pipeline.ValueKit.Acc
public import Idealize.ShloMosaic.Lib.Pipeline.ValueKit.Geometry
public import Idealize.ShloMosaic.Lib.Pointwise
public import Idealize.ShloMosaic.Lib.Pipeline.ReadBack
public import proofs.«01_k».proof.Defs

@[expose] public section

set_option maxRecDepth 16384

noncomputable section

namespace Cert.WgradGateProof

open Cert.WgradGateIdeal Cert.WgradGateIdeal.Gen Idealize.ShloMosaic Idealize.ShloMosaic.TcCoe Idealize.SL.Sem
open Idealize.ShloMosaic.Pipeline (Dat)

variable (m : (ℓ : Loc nD τ sig) → Buf (Elt Ideal) ℓ)

/-- The block stored at the first point is zero everywhere. -/
theorem zero_apply (r : Fin 2816) (l : Fin 1024) : k0_pay1 (F := Ideal) (ix2 r l) = 0 := by
  pointwise [k0_pay1]

/-- One point's step at an entry: what was there plus the product of the point's rows. -/
theorem step_apply (a : Vec Ideal S2816x1024 .f32) (x : Vec Ideal S1024x2816 .bf16) (y : Vec Ideal S1024x1024 .bf16)
    (r : Fin 2816) (l : Fin 1024) :
    k0_pay2 a x y (ix2 r l) = a (ix2 r l) + ∑ k : Fin 1024, x (ix2 k r) * y (ix2 k l) := by
  pointwise [k0_pay2]

/-- The closing conversion keeps every entry. -/
theorem close_apply (a : Vec Ideal S2816x1024 .f32) (r : Fin 2816) (l : Fin 1024) :
    k0_pay3 a (ix2 r l) = a (ix2 r l) := by
  pointwise [k0_pay3]

/-- The block of rows the left window holds at point `t` starts at row `1024 t`. -/
theorem rows_left : ∀ t : Fin cfg0.N, win0_0.index t = ![t.val, 0] := (by decide +kernel : ∀ t : Fin grid0.N, _)
/-- The block of rows the right window holds at point `t` starts at row `1024 t`. -/
theorem rows_right : ∀ t : Fin cfg0.N, win0_1.index t = ![t.val, 0] := (by decide +kernel : ∀ t : Fin grid0.N, _)
/-- The output block is the whole array at every point. -/
theorem rows_out : ∀ t : Fin cfg0.N, win0_2.index t = ![0, 0] := (by decide +kernel : ∀ t : Fin grid0.N, _)

/-- The product of one point's rows at entry `j`. -/
def rowsProduct (x : Vec Ideal S1024x2816 .bf16) (y : Vec Ideal S1024x1024 .bf16) (j : S2816x1024.Idx) : EReal :=
  ∑ k : Fin 1024, x (ix2 k (j 0)) * y (ix2 k (j 1))

/-- What point `t` adds at entry `j`: the product of the point's rows. -/
def part (c : Dev nD) (t : Fin cfg0.N) (j : S2816x1024.Idx) : EReal :=
  rowsProduct (iblk m c 0 t) (iblk m c 1 t) j

/-- After the last point the scratch holds the sum of all points' products. -/
theorem scratch_last (c : Dev nD) (t : Fin cfg0.N) (ht : t.val + 1 = cfg0.N) (j : S2816x1024.Idx) :
    (outsAt0 m c t.val t.isLt).2 j = 0 + ∑ p : Fin cfg0.N, part m c p j := by
  exact Pipeline.eq_sum_fin_of_reset_step_apply_last (fun n h => (outsAt0 m c n h).2) 16 (fun _ => (0 : EReal)) (part m c)
    (fun t h j => by
      obtain ⟨r, l, rfl⟩ : ∃ r l, j = ix2 r l := ⟨j 0, j 1, (ix2_eta j).symm⟩
      rw [outsAt0_A m c t h (by omega)]; frame_out; rw [step_apply, zero_apply]; rfl)
    (fun t h j => by
      obtain ⟨r, l, rfl⟩ : ∃ r l, j = ix2 r l := ⟨j 0, j 1, (ix2_eta j).symm⟩
      by_cases h1 : t.val % 16 = 15
      · rw [outsAt0_C m c t h h1]; frame_out; rw [step_apply, read_unread_whole]; rfl
      · rw [outsAt0_B m c t h h1]; frame_out; rw [step_apply, read_unread_whole]; rfl)
    (le_of_eq N_0) t ht j

/-- The closing store takes the scratch as the point leaves it. -/
theorem out_of_scratch (c : Dev nD) (t : Fin cfg0.N) (h1 : t.val % 16 = 15) :
    (outsAt0 m c t.val t.isLt).1 = k0_pay3 (outsAt0 m c t.val t.isLt).2 := by
  rw [outsAt0_C m c t (by omega) h1]; frame_out

/-- The array the kernel leaves is the product over all rows. -/
theorem result (c : Dev nD) : (dats m 0 c).arrAt 2 cfg0.N
    = Cert.WgradGateRefIdeal.Read.val_main_v7 (F := Ideal) (m ((c : Thread nD τ).loc main_arg0)) (m ((c : Thread nD τ).loc main_arg1)) := by
  refine (dats m 0 c).arrAt_eq_of_covers 2 _ (by decide +kernel) fun t hf y => ?_
  have hN : cfg0.N = 16 := N_0
  have h15 : t.val % 16 = 15 := (flush0_2 t).mp hf
  have ht : t.val + 1 = cfg0.N := by have : t.val < 16 := lt_of_lt_of_eq t.isLt N_0; rw [hN]; omega
  blk_simp
  rw [after0_2, out_of_scratch m c t h15]
  obtain ⟨r, l, rfl⟩ : ∃ r l, y = ix2 r l := ⟨y 0, y 1, (ix2_eta y).symm⟩
  have he : ((win0_2.blk t).view.emb (ix2 r l) : S2816x1024.Idx) = ix2 r l := by
    blk_ext [rows_out t]
  rw [he, close_apply, scratch_last m c t ht, zero_add]
  simp only [Cert.WgradGateRefIdeal.Read.val_main_v7_apply,
    Cert.WgradGateRefIdeal.Read.val_main_v6_apply,
    Cert.WgradGateRefIdeal.Read.val_main_v5_apply,
    Cert.WgradGateRefIdeal.Read.val_main_v4_apply,
    Cert.WgradGateRefIdeal.Read.val_main_v1_apply,
    Cert.WgradGateRefIdeal.Read.val_main_v0_apply, Ideal.truncf_def, Ideal.extf_def, part, rowsProduct]
  refine Fin.sum_mul_add_congr (S := cfg0.N) (n := 1024) (fun t k ht => ?_) (by rw [hN])
  congr 1
  · blk_ext [iblk, V_main_arg0, rows_left t]
  · blk_ext [iblk, V_main_arg1, rows_right t]

/-- Each window's rows and the closing store put together: the kernel's run ends at the reference's array. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = Cert.WgradGateRefIdeal.Read.val_main_v7 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (Cert.WgradGateIdeal.Value.run_blocks m ρ)

/-- From memories agreeing on the arguments, kernel and reference both run and end with equal results. -/
theorem algebraic : Cert.algebraic_WgradGateIdeal_WgradGateRefIdeal := by
  intro m ρ m' ρ' _ hm
  refine ⟨_, kernel_run m ρ, (θ_run _ _ _).mono (fun r h c => ⟨(h c).1.trans ?_, (h c).2⟩) (Cert.WgradGateRefIdeal.Value.run m' ρ')⟩
  rw [(hm c).1, (hm c).2]
  exact Cert.WgradGateRefIdeal.Read.val_main_v7_eq _ _

end Cert.WgradGateProof

end
-- ==== Proof.WgradOut.lean ====
/- The weight gradient of the mixers' output projection: one accumulated product of two tall arrays,
   walked 1024 rows at a time, is the one product over all rows. -/
module

public import proofs.«01_k».proof.Proof.Gen.WgradOutIdeal.Value
public import proofs.«01_k».proof.Proof.Gen.WgradOutRefIdeal.Read
public import Idealize.ShloMosaic.Lib.Pipeline.ValueKit.Acc
public import Idealize.ShloMosaic.Lib.Pipeline.ValueKit.Geometry
public import Idealize.ShloMosaic.Lib.Pointwise
public import Idealize.ShloMosaic.Lib.Pipeline.ReadBack
public import proofs.«01_k».proof.Defs

@[expose] public section

set_option maxRecDepth 16384

noncomputable section

namespace Cert.WgradOutProof

open Cert.WgradOutIdeal Cert.WgradOutIdeal.Gen Idealize.ShloMosaic Idealize.ShloMosaic.TcCoe Idealize.SL.Sem
open Idealize.ShloMosaic.Pipeline (Dat)

variable (m : (ℓ : Loc nD τ sig) → Buf (Elt Ideal) ℓ)

/-- The block stored at the first point is zero everywhere. -/
theorem zero_apply (r : Fin 1024) (l : Fin 1024) : k0_pay1 (F := Ideal) (ix2 r l) = 0 := by
  pointwise [k0_pay1]

/-- One point's step at an entry: what was there plus the product of the point's rows. -/
theorem step_apply (a : Vec Ideal S1024x1024 .f32) (x : Vec Ideal S1024x1024 .bf16) (y : Vec Ideal S1024x1024 .f32)
    (r : Fin 1024) (l : Fin 1024) :
    k0_pay2 a x y (ix2 r l) = a (ix2 r l) + ∑ k : Fin 1024, x (ix2 k r) * y (ix2 k l) := by
  pointwise [k0_pay2]

/-- The closing conversion keeps every entry. -/
theorem close_apply (a : Vec Ideal S1024x1024 .f32) (r : Fin 1024) (l : Fin 1024) :
    k0_pay3 a (ix2 r l) = a (ix2 r l) := by
  pointwise [k0_pay3]

/-- The block of rows the left window holds at point `t` starts at row `1024 t`. -/
theorem rows_left : ∀ t : Fin cfg0.N, win0_0.index t = ![t.val, 0] := (by decide +kernel : ∀ t : Fin grid0.N, _)
/-- The block of rows the right window holds at point `t` starts at row `1024 t`. -/
theorem rows_right : ∀ t : Fin cfg0.N, win0_1.index t = ![t.val, 0] := (by decide +kernel : ∀ t : Fin grid0.N, _)
/-- The output block is the whole array at every point. -/
theorem rows_out : ∀ t : Fin cfg0.N, win0_2.index t = ![0, 0] := (by decide +kernel : ∀ t : Fin grid0.N, _)

/-- The product of one point's rows at entry `j`. -/
def rowsProduct (x : Vec Ideal S1024x1024 .bf16) (y : Vec Ideal S1024x1024 .f32) (j : S1024x1024.Idx) : EReal :=
  ∑ k : Fin 1024, x (ix2 k (j 0)) * y (ix2 k (j 1))

/-- What point `t` adds at entry `j`: the product of the point's rows. -/
def part (c : Dev nD) (t : Fin cfg0.N) (j : S1024x1024.Idx) : EReal :=
  rowsProduct (iblk m c 0 t) (iblk m c 1 t) j

/-- After the last point the scratch holds the sum of all points' products. -/
theorem scratch_last (c : Dev nD) (t : Fin cfg0.N) (ht : t.val + 1 = cfg0.N) (j : S1024x1024.Idx) :
    (outsAt0 m c t.val t.isLt).2 j = 0 + ∑ p : Fin cfg0.N, part m c p j := by
  exact Pipeline.eq_sum_fin_of_reset_step_apply_last (fun n h => (outsAt0 m c n h).2) 16 (fun _ => (0 : EReal)) (part m c)
    (fun t h j => by
      obtain ⟨r, l, rfl⟩ : ∃ r l, j = ix2 r l := ⟨j 0, j 1, (ix2_eta j).symm⟩
      rw [outsAt0_A m c t h (by omega)]; frame_out; rw [step_apply, zero_apply]; rfl)
    (fun t h j => by
      obtain ⟨r, l, rfl⟩ : ∃ r l, j = ix2 r l := ⟨j 0, j 1, (ix2_eta j).symm⟩
      by_cases h1 : t.val % 16 = 15
      · rw [outsAt0_C m c t h h1]; frame_out; rw [step_apply, read_unread_whole]; rfl
      · rw [outsAt0_B m c t h h1]; frame_out; rw [step_apply, read_unread_whole]; rfl)
    (le_of_eq N_0) t ht j

/-- The closing store takes the scratch as the point leaves it. -/
theorem out_of_scratch (c : Dev nD) (t : Fin cfg0.N) (h1 : t.val % 16 = 15) :
    (outsAt0 m c t.val t.isLt).1 = k0_pay3 (outsAt0 m c t.val t.isLt).2 := by
  rw [outsAt0_C m c t (by omega) h1]; frame_out

/-- The array the kernel leaves is the product over all rows. -/
theorem result (c : Dev nD) : (dats m 0 c).arrAt 2 cfg0.N
    = Cert.WgradOutRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have hN : cfg0.N = 16 := N_0
  have h15 : t.val % 16 = 15 := (flush0_2 t).mp hf
  have ht : t.val + 1 = cfg0.N := by have : t.val < 16 := lt_of_lt_of_eq t.isLt N_0; rw [hN]; omega
  blk_simp
  rw [after0_2, out_of_scratch m c t h15]
  obtain ⟨r, l, rfl⟩ : ∃ r l, y = ix2 r l := ⟨y 0, y 1, (ix2_eta y).symm⟩
  have he : ((win0_2.blk t).view.emb (ix2 r l) : S1024x1024.Idx) = ix2 r l := by
    blk_ext [rows_out t]
  rw [he, close_apply, scratch_last m c t ht, zero_add]
  simp only [Cert.WgradOutRefIdeal.Read.val_main_v5_apply,
    Cert.WgradOutRefIdeal.Read.val_main_v4_apply,
    Cert.WgradOutRefIdeal.Read.val_main_v3_apply,
    Cert.WgradOutRefIdeal.Read.val_main_v0_apply, Ideal.truncf_def, Ideal.extf_def, part, rowsProduct]
  refine Fin.sum_mul_add_congr (S := cfg0.N) (n := 1024) (fun t k ht => ?_) (by rw [hN])
  rw [mul_comm]
  congr 1
  · blk_ext [iblk, V_main_arg1, rows_right t]
  · blk_ext [iblk, V_main_arg0, rows_left t]

/-- Each window's rows and the closing store put together: the kernel's run ends at the reference's array. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = Cert.WgradOutRefIdeal.Read.val_main_v5 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (Cert.WgradOutIdeal.Value.run_blocks m ρ)

/-- From memories agreeing on the arguments, kernel and reference both run and end with equal results. -/
theorem algebraic : Cert.algebraic_WgradOutIdeal_WgradOutRefIdeal := by
  intro m ρ m' ρ' _ hm
  refine ⟨_, kernel_run m ρ, (θ_run _ _ _).mono (fun r h c => ⟨(h c).1.trans ?_, (h c).2⟩) (Cert.WgradOutRefIdeal.Value.run m' ρ')⟩
  rw [(hm c).1, (hm c).2]
  exact Cert.WgradOutRefIdeal.Read.val_main_v5_eq _ _

end Cert.WgradOutProof

end
-- ==== Proof.WgradInA.lean ====
/- The weight gradient of the convolution mixer's input projection: one accumulated product of two tall
   arrays, walked 1024 rows at a time, is the one product over all rows. -/
module

public import proofs.«01_k».proof.Proof.Gen.WgradInAIdeal.Value
public import proofs.«01_k».proof.Proof.Gen.WgradInARefIdeal.Read
public import Idealize.ShloMosaic.Lib.Pipeline.ValueKit.Acc
public import Idealize.ShloMosaic.Lib.Pipeline.ValueKit.Geometry
public import Idealize.ShloMosaic.Lib.Pointwise
public import Idealize.ShloMosaic.Lib.Pipeline.ReadBack
public import proofs.«01_k».proof.Defs

@[expose] public section

set_option maxRecDepth 16384

noncomputable section

namespace Cert.WgradInAProof

open Cert.WgradInAIdeal Cert.WgradInAIdeal.Gen Idealize.ShloMosaic Idealize.ShloMosaic.TcCoe Idealize.SL.Sem
open Idealize.ShloMosaic.Pipeline (Dat)

variable (m : (ℓ : Loc nD τ sig) → Buf (Elt Ideal) ℓ)

/-- The block stored at the first point is zero everywhere. -/
theorem zero_apply (r : Fin 1024) (l : Fin 2560) : k0_pay1 (F := Ideal) (ix2 r l) = 0 := by
  pointwise [k0_pay1]

/-- One point's step at an entry: what was there plus the product of the point's rows. -/
theorem step_apply (a : Vec Ideal S1024x2560 .f32) (x : Vec Ideal S1024x1024 .bf16) (y : Vec Ideal S1024x2560 .bf16)
    (r : Fin 1024) (l : Fin 2560) :
    k0_pay2 a x y (ix2 r l) = a (ix2 r l) + ∑ k : Fin 1024, x (ix2 k r) * y (ix2 k l) := by
  pointwise [k0_pay2]

/-- The closing conversion keeps every entry. -/
theorem close_apply (a : Vec Ideal S1024x2560 .f32) (r : Fin 1024) (l : Fin 2560) :
    k0_pay3 a (ix2 r l) = a (ix2 r l) := by
  pointwise [k0_pay3]

/-- The block of rows the left window holds at point `t` starts at row `1024 t`. -/
theorem rows_left : ∀ t : Fin cfg0.N, win0_0.index t = ![t.val, 0] := (by decide +kernel : ∀ t : Fin grid0.N, _)
/-- The block of rows the right window holds at point `t` starts at row `1024 t`. -/
theorem rows_right : ∀ t : Fin cfg0.N, win0_1.index t = ![t.val, 0] := (by decide +kernel : ∀ t : Fin grid0.N, _)
/-- The output block is the whole array at every point. -/
theorem rows_out : ∀ t : Fin cfg0.N, win0_2.index t = ![0, 0] := (by decide +kernel : ∀ t : Fin grid0.N, _)

/-- The product of one point's rows at entry `j`. -/
def rowsProduct (x : Vec Ideal S1024x1024 .bf16) (y : Vec Ideal S1024x2560 .bf16) (j : S1024x2560.Idx) : EReal :=
  ∑ k : Fin 1024, x (ix2 k (j 0)) * y (ix2 k (j 1))

/-- What point `t` adds at entry `j`: the product of the point's rows. -/
def part (c : Dev nD) (t : Fin cfg0.N) (j : S1024x2560.Idx) : EReal :=
  rowsProduct (iblk m c 0 t) (iblk m c 1 t) j

/-- After the last point the scratch holds the sum of all points' products. -/
theorem scratch_last (c : Dev nD) (t : Fin cfg0.N) (ht : t.val + 1 = cfg0.N) (j : S1024x2560.Idx) :
    (outsAt0 m c t.val t.isLt).2 j = 0 + ∑ p : Fin cfg0.N, part m c p j := by
  exact Pipeline.eq_sum_fin_of_reset_step_apply_last (fun n h => (outsAt0 m c n h).2) 16 (fun _ => (0 : EReal)) (part m c)
    (fun t h j => by
      obtain ⟨r, l, rfl⟩ : ∃ r l, j = ix2 r l := ⟨j 0, j 1, (ix2_eta j).symm⟩
      rw [outsAt0_A m c t h (by omega)]; frame_out; rw [step_apply, zero_apply]; rfl)
    (fun t h j => by
      obtain ⟨r, l, rfl⟩ : ∃ r l, j = ix2 r l := ⟨j 0, j 1, (ix2_eta j).symm⟩
      by_cases h1 : t.val % 16 = 15
      · rw [outsAt0_C m c t h h1]; frame_out; rw [step_apply, read_unread_whole]; rfl
      · rw [outsAt0_B m c t h h1]; frame_out; rw [step_apply, read_unread_whole]; rfl)
    (le_of_eq N_0) t ht j

/-- The closing store takes the scratch as the point leaves it. -/
theorem out_of_scratch (c : Dev nD) (t : Fin cfg0.N) (h1 : t.val % 16 = 15) :
    (outsAt0 m c t.val t.isLt).1 = k0_pay3 (outsAt0 m c t.val t.isLt).2 := by
  rw [outsAt0_C m c t (by omega) h1]; frame_out

/-- The array the kernel leaves is the product over all rows. -/
theorem result (c : Dev nD) : (dats m 0 c).arrAt 2 cfg0.N
    = Cert.WgradInARefIdeal.Read.val_main_v6 (F := Ideal) (m ((c : Thread nD τ).loc main_arg0)) (m ((c : Thread nD τ).loc main_arg1)) := by
  refine (dats m 0 c).arrAt_eq_of_covers 2 _ (by decide +kernel) fun t hf y => ?_
  have hN : cfg0.N = 16 := N_0
  have h15 : t.val % 16 = 15 := (flush0_2 t).mp hf
  have ht : t.val + 1 = cfg0.N := by have : t.val < 16 := lt_of_lt_of_eq t.isLt N_0; rw [hN]; omega
  blk_simp
  rw [after0_2, out_of_scratch m c t h15]
  obtain ⟨r, l, rfl⟩ : ∃ r l, y = ix2 r l := ⟨y 0, y 1, (ix2_eta y).symm⟩
  have he : ((win0_2.blk t).view.emb (ix2 r l) : S1024x2560.Idx) = ix2 r l := by
    blk_ext [rows_out t]
  rw [he, close_apply, scratch_last m c t ht, zero_add]
  simp only [Cert.WgradInARefIdeal.Read.val_main_v6_apply,
    Cert.WgradInARefIdeal.Read.val_main_v5_apply,
    Cert.WgradInARefIdeal.Read.val_main_v4_apply,
    Cert.WgradInARefIdeal.Read.val_main_v1_apply,
    Cert.WgradInARefIdeal.Read.val_main_v0_apply, Ideal.truncf_def, Ideal.extf_def, part, rowsProduct]
  refine Fin.sum_mul_add_congr (S := cfg0.N) (n := 1024) (fun t k ht => ?_) (by rw [hN])
  rw [mul_comm]
  congr 1
  · blk_ext [iblk, V_main_arg1, rows_right t]
  · blk_ext [iblk, V_main_arg0, rows_left t]

/-- Each window's rows and the closing store put together: the kernel's run ends at the reference's array. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = Cert.WgradInARefIdeal.Read.val_main_v6 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (Cert.WgradInAIdeal.Value.run_blocks m ρ)

/-- From memories agreeing on the arguments, kernel and reference both run and end with equal results. -/
theorem algebraic : Cert.algebraic_WgradInAIdeal_WgradInARefIdeal := by
  intro m ρ m' ρ' _ hm
  refine ⟨_, kernel_run m ρ, (θ_run _ _ _).mono (fun r h c => ⟨(h c).1.trans ?_, (h c).2⟩) (Cert.WgradInARefIdeal.Value.run m' ρ')⟩
  rw [(hm c).1, (hm c).2]
  exact Cert.WgradInARefIdeal.Read.val_main_v6_eq _ _

end Cert.WgradInAProof

end
-- ==== Proof.WgradInB.lean ====
/- The weight gradient of the attention mixer's input projection: one accumulated product of two tall
   arrays, walked 1024 rows at a time, is the one product over all rows. -/
module

public import proofs.«01_k».proof.Proof.Gen.WgradInBIdeal.Value
public import proofs.«01_k».proof.Proof.Gen.WgradInBRefIdeal.Read
public import Idealize.ShloMosaic.Lib.Pipeline.ValueKit.Acc
public import Idealize.ShloMosaic.Lib.Pipeline.ValueKit.Geometry
public import Idealize.ShloMosaic.Lib.Pointwise
public import Idealize.ShloMosaic.Lib.Pipeline.ReadBack
public import proofs.«01_k».proof.Defs

@[expose] public section

set_option maxRecDepth 16384

noncomputable section

namespace Cert.WgradInBProof

open Cert.WgradInBIdeal Cert.WgradInBIdeal.Gen Idealize.ShloMosaic Idealize.ShloMosaic.TcCoe Idealize.SL.Sem
open Idealize.ShloMosaic.Pipeline (Dat)

variable (m : (ℓ : Loc nD τ sig) → Buf (Elt Ideal) ℓ)

/-- The block stored at the first point is zero everywhere. -/
theorem zero_apply (r : Fin 1024) (l : Fin 1024) : k0_pay1 (F := Ideal) (ix2 r l) = 0 := by
  pointwise [k0_pay1]

/-- One point's step at an entry: what was there plus the product of the point's rows. -/
theorem step_apply (a : Vec Ideal S1024x1024 .f32) (x : Vec Ideal S1024x1024 .bf16) (y : Vec Ideal S1024x1024 .bf16)
    (r : Fin 1024) (l : Fin 1024) :
    k0_pay2 a x y (ix2 r l) = a (ix2 r l) + ∑ k : Fin 1024, x (ix2 k r) * y (ix2 k l) := by
  pointwise [k0_pay2]

/-- The closing conversion keeps every entry. -/
theorem close_apply (a : Vec Ideal S1024x1024 .f32) (r : Fin 1024) (l : Fin 1024) :
    k0_pay3 a (ix2 r l) = a (ix2 r l) := by
  pointwise [k0_pay3]

/-- The block of rows the left window holds at point `t` starts at row `1024 t`. -/
theorem rows_left : ∀ t : Fin cfg0.N, win0_0.index t = ![t.val, 0] := (by decide +kernel : ∀ t : Fin grid0.N, _)
/-- The block of rows the right window holds at point `t` starts at row `1024 t`. -/
theorem rows_right : ∀ t : Fin cfg0.N, win0_1.index t = ![t.val, 0] := (by decide +kernel : ∀ t : Fin grid0.N, _)
/-- The output block is the whole array at every point. -/
theorem rows_out : ∀ t : Fin cfg0.N, win0_2.index t = ![0, 0] := (by decide +kernel : ∀ t : Fin grid0.N, _)

/-- The product of one point's rows at entry `j`. -/
def rowsProduct (x : Vec Ideal S1024x1024 .bf16) (y : Vec Ideal S1024x1024 .bf16) (j : S1024x1024.Idx) : EReal :=
  ∑ k : Fin 1024, x (ix2 k (j 0)) * y (ix2 k (j 1))

/-- What point `t` adds at entry `j`: the product of the point's rows. -/
def part (c : Dev nD) (t : Fin cfg0.N) (j : S1024x1024.Idx) : EReal :=
  rowsProduct (iblk m c 0 t) (iblk m c 1 t) j

/-- After the last point the scratch holds the sum of all points' products. -/
theorem scratch_last (c : Dev nD) (t : Fin cfg0.N) (ht : t.val + 1 = cfg0.N) (j : S1024x1024.Idx) :
    (outsAt0 m c t.val t.isLt).2 j = 0 + ∑ p : Fin cfg0.N, part m c p j := by
  exact Pipeline.eq_sum_fin_of_reset_step_apply_last (fun n h => (outsAt0 m c n h).2) 16 (fun _ => (0 : EReal)) (part m c)
    (fun t h j => by
      obtain ⟨r, l, rfl⟩ : ∃ r l, j = ix2 r l := ⟨j 0, j 1, (ix2_eta j).symm⟩
      rw [outsAt0_A m c t h (by omega)]; frame_out; rw [step_apply, zero_apply]; rfl)
    (fun t h j => by
      obtain ⟨r, l, rfl⟩ : ∃ r l, j = ix2 r l := ⟨j 0, j 1, (ix2_eta j).symm⟩
      by_cases h1 : t.val % 16 = 15
      · rw [outsAt0_C m c t h h1]; frame_out; rw [step_apply, read_unread_whole]; rfl
      · rw [outsAt0_B m c t h h1]; frame_out; rw [step_apply, read_unread_whole]; rfl)
    (le_of_eq N_0) t ht j

/-- The closing store takes the scratch as the point leaves it. -/
theorem out_of_scratch (c : Dev nD) (t : Fin cfg0.N) (h1 : t.val % 16 = 15) :
    (outsAt0 m c t.val t.isLt).1 = k0_pay3 (outsAt0 m c t.val t.isLt).2 := by
  rw [outsAt0_C m c t (by omega) h1]; frame_out

/-- The array the kernel leaves is the product over all rows. -/
theorem result (c : Dev nD) : (dats m 0 c).arrAt 2 cfg0.N
    = Cert.WgradInBRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have hN : cfg0.N = 16 := N_0
  have h15 : t.val % 16 = 15 := (flush0_2 t).mp hf
  have ht : t.val + 1 = cfg0.N := by have : t.val < 16 := lt_of_lt_of_eq t.isLt N_0; rw [hN]; omega
  blk_simp
  rw [after0_2, out_of_scratch m c t h15]
  obtain ⟨r, l, rfl⟩ : ∃ r l, y = ix2 r l := ⟨y 0, y 1, (ix2_eta y).symm⟩
  have he : ((win0_2.blk t).view.emb (ix2 r l) : S1024x1024.Idx) = ix2 r l := by
    blk_ext [rows_out t]
  rw [he, close_apply, scratch_last m c t ht, zero_add]
  simp only [Cert.WgradInBRefIdeal.Read.val_main_v6_apply,
    Cert.WgradInBRefIdeal.Read.val_main_v5_apply,
    Cert.WgradInBRefIdeal.Read.val_main_v4_apply,
    Cert.WgradInBRefIdeal.Read.val_main_v1_apply,
    Cert.WgradInBRefIdeal.Read.val_main_v0_apply, Ideal.truncf_def, Ideal.extf_def, part, rowsProduct]
  refine Fin.sum_mul_add_congr (S := cfg0.N) (n := 1024) (fun t k ht => ?_) (by rw [hN])
  rw [mul_comm]
  congr 1
  · blk_ext [iblk, V_main_arg1, rows_right t]
  · blk_ext [iblk, V_main_arg0, rows_left t]

/-- Each window's rows and the closing store put together: the kernel's run ends at the reference's array. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = Cert.WgradInBRefIdeal.Read.val_main_v6 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (Cert.WgradInBIdeal.Value.run_blocks m ρ)

/-- From memories agreeing on the arguments, kernel and reference both run and end with equal results. -/
theorem algebraic : Cert.algebraic_WgradInBIdeal_WgradInBRefIdeal := by
  intro m ρ m' ρ' _ hm
  refine ⟨_, kernel_run m ρ, (θ_run _ _ _).mono (fun r h c => ⟨(h c).1.trans ?_, (h c).2⟩) (Cert.WgradInBRefIdeal.Value.run m' ρ')⟩
  rw [(hm c).1, (hm c).2]
  exact Cert.WgradInBRefIdeal.Read.val_main_v6_eq _ _

end Cert.WgradInBProof

end
-- ==== Proof.Rows.lean ====
/- Formulas on one row that several programs share: the scaled row of the norm, a product's entry,
   the gated value, and a sum cut in two. -/
module

public import Idealize.ShloMosaic.Lib.Pointwise

@[expose] public section

noncomputable section

namespace Cert.Rows

open Idealize.ShloMosaic

/-- The factor by which the norm scales a row of 1024 entries. -/
def scale (x : Fin 1024 → EReal) : EReal :=
  Ideal.rsqrt (Ideal.div (∑ k, x k * x k) (Ideal.ofBits FTy.f32 1149239296#32) + Ideal.ofBits FTy.f32 925353388#32)

/-- The normed row with its gain. -/
def normed (x g : Fin 1024 → EReal) (k : Fin 1024) : EReal := x k * scale x * g k

/-- One entry of a row times a matrix given by its rows. -/
def entry (h w : Fin 1024 → EReal) : EReal := ∑ k, h k * w k

/-- The gated value: `a` times its logistic, times `b`. -/
def gated (a b : EReal) : EReal := a * Ideal.div 1 (1 + Ideal.exp (-a)) * b

/-- An index of the first 1536, among all 2816. -/
def low (j : Fin 1536) : Fin 2816 := ⟨j.val, by omega⟩

/-- An index of the other 1280, among all 2816. -/
def high (j : Fin 1280) : Fin 2816 := ⟨1536 + j.val, by omega⟩

/-- A sum over 2816 indices is the sum over the first 1536 plus the sum over the other 1280. -/
theorem sum_cut (f : Fin 2816 → EReal) :
    ∑ k, f k = (∑ k, f (low k)) + ∑ k, f (high k) :=
  Fin.sum_univ_add (a := 1536) (b := 1280) f

/-- Subtracting from zero negates. -/
theorem zero_minus (a : EReal) : 0 - a = -a := by rw [sub_eq_add_neg, zero_add]

end Cert.Rows

end
-- ==== Proof.FfnFwd.lean ====
/- The feed-forward block: the kernel walks 512 rows at a time and splits the hidden width in two
   parts; the reference takes each product whole. -/
module

public import proofs.«01_k».proof.Proof.Gen.FfnFwdIdeal.Value
public import proofs.«01_k».proof.Proof.Gen.FfnFwdRefIdeal.Read
public import Idealize.ShloMosaic.Lib.Pipeline.ValueKit.Tiles
public import Idealize.ShloMosaic.Lib.Pipeline.ValueKit.Geometry
public import Idealize.ShloMosaic.Lib.Pointwise
public import Idealize.ShloMosaic.Lib.Pipeline.ReadBack
public import proofs.«01_k».proof.Proof.Rows
public import proofs.«01_k».proof.Defs

@[expose] public section

set_option maxRecDepth 16384

noncomputable section

namespace Cert.FfnFwdProof

open Cert.FfnFwdIdeal Cert.FfnFwdIdeal.Gen Idealize.ShloMosaic Idealize.ShloMosaic.TcCoe Idealize.SL.Sem
open Idealize.ShloMosaic.Pipeline (Dat)
open Cert.Rows

variable (m : (ℓ : Loc nD τ sig) → Buf (Elt Ideal) ℓ)

/-- The kernel's normed rows. -/
theorem normed_block (x : Vec Ideal S512x1024 .f32) (g : Vec Ideal S1x1024 .f32) (r : Fin 512) (k : Fin 1024) :
    k0_pay6 (F := Ideal) x g (ix2 r k) = normed (fun k => x (ix2 r k)) (fun k => g (ix2 0 k)) k := by
  pointwise [k0_pay6]; rfl

/-- First part of the first product. -/
theorem gate_low (x : Vec Ideal S512x1024 .f32) (g : Vec Ideal S1x1024 .f32) (w : Vec Ideal S1536x1024 .bf16) (r : Fin 512) (k : Fin 1536) :
    k0_pay9 (F := Ideal) x g w (ix2 r k) = entry (normed (fun k => x (ix2 r k)) (fun k => g (ix2 0 k))) (fun l => w (ix2 k l)) := by
  pointwise [k0_pay9, k0_pay7]; simp only [normed_block]; rfl

/-- Second part of the first product. -/
theorem gate_high (h : Vec Ideal S512x1024 .bf16) (w : Vec Ideal S1280x1024 .bf16) (r : Fin 512) (k : Fin 1280) :
    k0_pay3 (F := Ideal) h w (ix2 r k) = entry (fun l => h (ix2 r l)) (fun l => w (ix2 k l)) := by
  pointwise [k0_pay3, k0_pay1]; rfl

/-- First part of the second product. -/
theorem up_low (x : Vec Ideal S512x1024 .f32) (g : Vec Ideal S1x1024 .f32) (w : Vec Ideal S1536x1024 .bf16) (r : Fin 512) (k : Fin 1536) :
    k0_pay10 (F := Ideal) x g w (ix2 r k) = entry (normed (fun k => x (ix2 r k)) (fun k => g (ix2 0 k))) (fun l => w (ix2 k l)) := by
  pointwise [k0_pay10, k0_pay8]; simp only [normed_block]; rfl

/-- Second part of the second product. -/
theorem up_high (h : Vec Ideal S512x1024 .bf16) (w : Vec Ideal S1280x1024 .bf16) (r : Fin 512) (k : Fin 1280) :
    k0_pay4 (F := Ideal) h w (ix2 r k) = entry (fun l => h (ix2 r l)) (fun l => w (ix2 k l)) := by
  pointwise [k0_pay4, k0_pay2]; rfl

/-- The gated values of the first part. -/
theorem act_low (x : Vec Ideal S512x1024 .f32) (g : Vec Ideal S1x1024 .f32) (w1 w2 : Vec Ideal S1536x1024 .bf16) (r : Fin 512) (k : Fin 1536) :
    k0_pay11 (F := Ideal) x g w1 w2 (ix2 r k)
      = gated (entry (normed (fun k => x (ix2 r k)) (fun k => g (ix2 0 k))) (fun l => w1 (ix2 k l)))
          (entry (normed (fun k => x (ix2 r k)) (fun k => g (ix2 0 k))) (fun l => w2 (ix2 k l))) := by
  pointwise [k0_pay11, k0_pay7, k0_pay8]; simp only [normed_block, zero_minus]; rfl

/-- The stored row: what came in plus both parts of the last product. -/
theorem row_stored (x : Vec Ideal S512x1024 .f32) (h : Vec Ideal S512x1024 .bf16) (a : Vec Ideal S512x1536 .bf16)
    (d1 : Vec Ideal S1536x1024 .bf16) (w1 w2 d2 : Vec Ideal S1280x1024 .bf16) (r : Fin 512) (k : Fin 1024) :
    k0_pay5 (F := Ideal) x h a d1 (constant (F := Ideal) S512x1024 .f32 0x00000000#32) w1 w2 d2 (ix2 r k)
      = x (ix2 r k) + ((∑ j, a (ix2 r j) * d1 (ix2 j k))
        + ∑ j, gated (entry (fun l => h (ix2 r l)) (fun l => w1 (ix2 j l))) (entry (fun l => h (ix2 r l)) (fun l => w2 (ix2 j l))) * d2 (ix2 j k)) := by
  pointwise [k0_pay5, k0_pay1, k0_pay2]; simp only [zero_minus, add_assoc]; rfl

/-- The reference's normed rows. -/
theorem normed_ref (x : Vec Ideal Cert.FfnFwdRefIdeal.S16384x1024 .f32) (g : Vec Ideal Cert.FfnFwdRefIdeal.S1x1024 .f32) (r : Fin 16384) (k : Fin 1024) :
    Cert.FfnFwdRefIdeal.Read.val_main_v11 (F := Ideal) x g (ix2 r k) = normed (fun k => x (ix2 r k)) (fun k => g (ix2 0 k)) k := by
  pointwise [Cert.FfnFwdRefIdeal.Read.val_main_v0, Cert.FfnFwdRefIdeal.Read.val_main_v1, Cert.FfnFwdRefIdeal.Read.val_main_v2, Cert.FfnFwdRefIdeal.Read.val_main_v3, Cert.FfnFwdRefIdeal.Read.val_main_v4, Cert.FfnFwdRefIdeal.Read.val_main_v5, Cert.FfnFwdRefIdeal.Read.val_main_v6, Cert.FfnFwdRefIdeal.Read.val_main_v7, Cert.FfnFwdRefIdeal.Read.val_main_v8, Cert.FfnFwdRefIdeal.Read.val_main_v9, Cert.FfnFwdRefIdeal.Read.val_main_v10, Cert.FfnFwdRefIdeal.Read.val_main_v11, Cert.FfnFwdRefIdeal.Read.val_main_cst, Cert.FfnFwdRefIdeal.Read.val_main_cst_0, Cert.FfnFwdRefIdeal.Read.val_main_cst_1]; rfl

/-- The reference's first product. -/
theorem gate_ref (x : Vec Ideal Cert.FfnFwdRefIdeal.S16384x1024 .f32) (g : Vec Ideal Cert.FfnFwdRefIdeal.S1x1024 .f32) (w : Vec Ideal Cert.FfnFwdRefIdeal.S2816x1024 .bf16) (r : Fin 16384) (j : Fin 2816) :
    Cert.FfnFwdRefIdeal.Read.val_main_v14 (F := Ideal) x g w (ix2 r j) = entry (normed (fun k => x (ix2 r k)) (fun k => g (ix2 0 k))) (fun l => w (ix2 j l)) := by
  pointwise [Cert.FfnFwdRefIdeal.Read.val_main_v14, Cert.FfnFwdRefIdeal.Read.val_main_v13, Cert.FfnFwdRefIdeal.Read.val_main_v12]; simp only [normed_ref]; rfl

/-- The reference's second product. -/
theorem up_ref (x : Vec Ideal Cert.FfnFwdRefIdeal.S16384x1024 .f32) (g : Vec Ideal Cert.FfnFwdRefIdeal.S1x1024 .f32) (w : Vec Ideal Cert.FfnFwdRefIdeal.S2816x1024 .bf16) (r : Fin 16384) (j : Fin 2816) :
    Cert.FfnFwdRefIdeal.Read.val_main_v17 (F := Ideal) x g w (ix2 r j) = entry (normed (fun k => x (ix2 r k)) (fun k => g (ix2 0 k))) (fun l => w (ix2 j l)) := by
  pointwise [Cert.FfnFwdRefIdeal.Read.val_main_v17, Cert.FfnFwdRefIdeal.Read.val_main_v16, Cert.FfnFwdRefIdeal.Read.val_main_v15]; simp only [normed_ref]; rfl

/-- The reference's result row. -/
theorem row_ref (x : Vec Ideal Cert.FfnFwdRefIdeal.S16384x1024 .f32) (g : Vec Ideal Cert.FfnFwdRefIdeal.S1x1024 .f32) (w1 w2 w3 : Vec Ideal Cert.FfnFwdRefIdeal.S2816x1024 .bf16) (r : Fin 16384) (k : Fin 1024) :
    Cert.FfnFwdRefIdeal.Read.val_main_v22 (F := Ideal) x g w1 w2 w3 (ix2 r k) = x (ix2 r k) + ∑ j : Fin 2816,
      gated (entry (normed (fun k => x (ix2 r k)) (fun k => g (ix2 0 k))) (fun l => w1 (ix2 j l)))
          (entry (normed (fun k => x (ix2 r k)) (fun k => g (ix2 0 k))) (fun l => w2 (ix2 j l))) * w3 (ix2 j k) := by
  pointwise [Cert.FfnFwdRefIdeal.Read.val_main_v22, Cert.FfnFwdRefIdeal.Read.val_main_v21, Cert.FfnFwdRefIdeal.Read.val_main_v20, Cert.FfnFwdRefIdeal.Read.val_main_v19, Cert.FfnFwdRefIdeal.Read.val_main_v18, Cert.FfnFwdRefIdeal.Read.val_main_call0_v5, Cert.FfnFwdRefIdeal.Read.val_main_call0_v4, Cert.FfnFwdRefIdeal.Read.val_main_call0_v3, Cert.FfnFwdRefIdeal.Read.val_main_call0_v2, Cert.FfnFwdRefIdeal.Read.val_main_call0_v1, Cert.FfnFwdRefIdeal.Read.val_main_call0_v0, Cert.FfnFwdRefIdeal.Read.val_main_call0_cst, Cert.FfnFwdRefIdeal.Read.val_main_call0_cst_0]
  simp only [gate_ref, up_ref]; rfl

/-- The input block at point `t` starts at row `512 t`. -/
theorem rows_x : ∀ t : Fin cfg0.N, win0_0.index t = ![t.val, 0] := (by decide +kernel : ∀ t : Fin grid0.N, _)
/-- The gain is whole at every point. -/
theorem rows_g : ∀ t : Fin cfg0.N, win0_1.index t = ![0, 0] := (by decide +kernel : ∀ t : Fin grid0.N, _)
/-- The first matrix is whole at every point. -/
theorem rows_w1 : ∀ t : Fin cfg0.N, win0_2.index t = ![0, 0] := (by decide +kernel : ∀ t : Fin grid0.N, _)
/-- The second matrix is whole at every point. -/
theorem rows_w2 : ∀ t : Fin cfg0.N, win0_3.index t = ![0, 0] := (by decide +kernel : ∀ t : Fin grid0.N, _)
/-- The third matrix is whole at every point. -/
theorem rows_w3 : ∀ t : Fin cfg0.N, win0_4.index t = ![0, 0] := (by decide +kernel : ∀ t : Fin grid0.N, _)
/-- The result block at point `t` starts at row `512 t`. -/
theorem rows_y : ∀ t : Fin cfg0.N, win0_5.index t = ![t.val, 0] := (by decide +kernel : ∀ t : Fin grid0.N, _)
/-- The first product's block at point `t` starts at row `512 t`. -/
theorem rows_gate : ∀ t : Fin cfg0.N, win0_6.index t = ![t.val, 0] := (by decide +kernel : ∀ t : Fin grid0.N, _)
/-- The second product's block at point `t` starts at row `512 t`. -/
theorem rows_up : ∀ t : Fin cfg0.N, win0_7.index t = ![t.val, 0] := (by decide +kernel : ∀ t : Fin grid0.N, _)

/-- Row `r` of the block at point `t`, as a row of the whole array. -/
def row (t : Fin cfg0.N) (r : Fin 512) : Fin 16384 :=
  ⟨512 * t.val + r.val, by have : t.val < 32 := lt_of_lt_of_eq t.isLt N_0; omega⟩

/-- An entry of the input block. -/
theorem x_at (c : Dev nD) (t : Fin cfg0.N) (r : Fin 512) (k : Fin 1024) :
    (iblk m c 0 t : Vec Ideal S512x1024 .f32) (ix2 r k) = m ((c : Thread nD τ).loc main_arg0) (ix2 (row t r) k) := by
  blk_ext [iblk, V_main_arg0, rows_x t, row]
/-- An entry of the gain. -/
theorem g_at (c : Dev nD) (t : Fin cfg0.N) (r : Fin 1) (k : Fin 1024) :
    (iblk m c 1 t : Vec Ideal S1x1024 .f32) (ix2 r k) = m ((c : Thread nD τ).loc main_arg1) (ix2 r k) := by
  blk_ext [iblk, V_main_arg1, rows_g t]
/-- An entry of the first matrix. -/
theorem w1_at (c : Dev nD) (t : Fin cfg0.N) (r : Fin 2816) (k : Fin 1024) :
    (iblk m c 2 t : Vec Ideal S2816x1024 .bf16) (ix2 r k) = m ((c : Thread nD τ).loc main_arg2) (ix2 r k) := by
  blk_ext [iblk, V_main_arg2, rows_w1 t]
/-- An entry of the second matrix. -/
theorem w2_at (c : Dev nD) (t : Fin cfg0.N) (r : Fin 2816) (k : Fin 1024) :
    (iblk m c 3 t : Vec Ideal S2816x1024 .bf16) (ix2 r k) = m ((c : Thread nD τ).loc main_arg3) (ix2 r k) := by
  blk_ext [iblk, V_main_arg3, rows_w2 t]
/-- An entry of the third matrix. -/
theorem w3_at (c : Dev nD) (t : Fin cfg0.N) (r : Fin 2816) (k : Fin 1024) :
    (iblk m c 4 t : Vec Ideal S2816x1024 .bf16) (ix2 r k) = m ((c : Thread nD τ).loc main_arg4) (ix2 r k) := by
  blk_ext [iblk, V_main_arg4, rows_w3 t]

/-- The first 1536 rows of a matrix. -/
def lowRows (w : Vec Ideal S2816x1024 .bf16) : Vec Ideal S1536x1024 .bf16 := View.ld (Val := Elt Ideal) w (Rect.unit (s := S2816x1024) ![0, 0] ![1536, 1024] inb_S2816x1024_S1536x1024_0_0)
/-- The other 1280 rows of a matrix. -/
def highRows (w : Vec Ideal S2816x1024 .bf16) : Vec Ideal S1280x1024 .bf16 := View.ld (Val := Elt Ideal) w (Rect.unit (s := S2816x1024) ![1536, 0] ![1280, 1024] inb_S2816x1024_S1280x1024_1536_0)
/-- An entry of the first 1536 rows. -/
theorem low_at (w : Vec Ideal S2816x1024 .bf16) (j : Fin 1536) (l : Fin 1024) : lowRows w (ix2 j l) = w (ix2 (low j) l) :=
  View.ld_unit_apply_of w _ _ _ _ _ (fun a => by match a with | ⟨0, _⟩ => simp [low] <;> rfl | ⟨1, _⟩ => simp)
/-- An entry of the other 1280 rows. -/
theorem high_at (w : Vec Ideal S2816x1024 .bf16) (j : Fin 1280) (l : Fin 1024) : highRows w (ix2 j l) = w (ix2 (high j) l) :=
  View.ld_unit_apply_of w _ _ _ _ _ (fun a => by match a with | ⟨0, _⟩ => simp [high] <;> rfl | ⟨1, _⟩ => simp)

/-- The gate entry stored in the first columns, from the whole matrix. -/
theorem gate_low_read (x : Vec Ideal S512x1024 .f32) (g : Vec Ideal S1x1024 .f32) (w : Vec Ideal S2816x1024 .bf16) (r : Fin 512) (j : Fin 1536) :
    k0_pay9 (F := Ideal) x g (lowRows w) (ix2 r j) = entry (normed (fun k => x (ix2 r k)) (fun k => g (ix2 0 k))) (fun l => w (ix2 (low j) l)) := by
  rw [gate_low]; simp only [low_at]
/-- The gate entry stored in the other columns, from the whole matrix. -/
theorem gate_high_read (x : Vec Ideal S512x1024 .f32) (g : Vec Ideal S1x1024 .f32) (w : Vec Ideal S2816x1024 .bf16) (r : Fin 512) (j : Fin 1280) :
    k0_pay3 (F := Ideal) (k0_pay6 x g) (highRows w) (ix2 r j) = entry (normed (fun k => x (ix2 r k)) (fun k => g (ix2 0 k))) (fun l => w (ix2 (high j) l)) := by
  rw [gate_high]; simp only [high_at, normed_block]
/-- The up entry stored in the first columns, from the whole matrix. -/
theorem up_low_read (x : Vec Ideal S512x1024 .f32) (g : Vec Ideal S1x1024 .f32) (w : Vec Ideal S2816x1024 .bf16) (r : Fin 512) (j : Fin 1536) :
    k0_pay10 (F := Ideal) x g (lowRows w) (ix2 r j) = entry (normed (fun k => x (ix2 r k)) (fun k => g (ix2 0 k))) (fun l => w (ix2 (low j) l)) := by
  rw [up_low]; simp only [low_at]
/-- The up entry stored in the other columns, from the whole matrix. -/
theorem up_high_read (x : Vec Ideal S512x1024 .f32) (g : Vec Ideal S1x1024 .f32) (w : Vec Ideal S2816x1024 .bf16) (r : Fin 512) (j : Fin 1280) :
    k0_pay4 (F := Ideal) (k0_pay6 x g) (highRows w) (ix2 r j) = entry (normed (fun k => x (ix2 r k)) (fun k => g (ix2 0 k))) (fun l => w (ix2 (high j) l)) := by
  rw [up_high]; simp only [high_at, normed_block]
/-- The stored row, from the whole matrices. -/
theorem row_read (x : Vec Ideal S512x1024 .f32) (g : Vec Ideal S1x1024 .f32) (w1 w2 w3 : Vec Ideal S2816x1024 .bf16) (r : Fin 512) (k : Fin 1024) :
    k0_pay5 (F := Ideal) x (k0_pay6 x g) (k0_pay11 x g (lowRows w1) (lowRows w2)) (lowRows w3) (constant (F := Ideal) S512x1024 .f32 0x00000000#32)
        (highRows w1) (highRows w2) (highRows w3) (ix2 r k)
      = x (ix2 r k) + ∑ j : Fin 2816, gated (entry (normed (fun k => x (ix2 r k)) (fun k => g (ix2 0 k))) (fun l => w1 (ix2 j l))) (entry (normed (fun k => x (ix2 r k)) (fun k => g (ix2 0 k))) (fun l => w2 (ix2 j l))) * w3 (ix2 j k) := by
  rw [row_stored, sum_cut]; simp only [act_low, normed_block, low_at, high_at]

/-- The two column ranges of a stored block hold every column. -/
theorem columns (w1 : Vec Ideal S512x1280 .bf16) (w2 : Vec Ideal S512x1536 .bf16) (y : S512x2816.Idx) :
    ∃ p ∈ ([⟨Rect.unit ![0, 1536] ![512, 1280] inb_S512x2816_S512x1280_0_1536, w1⟩,
        ⟨Rect.unit ![0, 0] ![512, 1536] inb_S512x2816_S512x1536_0_0, w2⟩] : List (View.Piece (Elt Ideal) S512x2816 .bf16)), y ∈ p.1.set := by
  have h0 : (y 0).val < 512 := (y 0).isLt
  have h1 : (y 1).val < 2816 := (y 1).isLt
  by_cases h : (y 1).val < 1536
  · refine ⟨_, List.mem_cons_of_mem _ List.mem_cons_self, ?_⟩
    show y ∈ (Rect.unit (s := S512x2816) ![0, 0] ![512, 1536] inb_S512x2816_S512x1536_0_0).set
    exact Rect.mem_set_unit.mpr (fun a => by match a with | ⟨0, _⟩ => exact ⟨Nat.zero_le _, by simpa using h0⟩ | ⟨1, _⟩ => exact ⟨Nat.zero_le _, by simpa using h⟩)
  · refine ⟨_, List.mem_cons_self, ?_⟩
    show y ∈ (Rect.unit (s := S512x2816) ![0, 1536] ![512, 1280] inb_S512x2816_S512x1280_0_1536).set
    exact Rect.mem_set_unit.mpr (fun a => by match a with | ⟨0, _⟩ => exact ⟨Nat.zero_le _, by simpa using h0⟩ | ⟨1, _⟩ => exact ⟨Nat.le_of_not_lt h, h1⟩)

/-- The first product's array. -/
theorem gate_result (c : Dev nD) : (dats m 0 c).arrAt 6 cfg0.N
    = Cert.FfnFwdRefIdeal.Read.val_main_v23 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨r, l, rfl⟩ : ∃ r l, y = ix2 r l := ⟨y 0, y 1, (ix2_eta y).symm⟩
  blk_simp
  have he : ((win0_6.blk t).view.emb (ix2 r l) : S16384x2816.Idx) = ix2 (row t r) l := by
    blk_ext [rows_gate t, row]
  rw [he, after0_6, Cert.FfnFwdRefIdeal.Read.val_main_v23_apply, gate_ref]
  unfold outsAt0 out0_A_6
  frame_out
  canon_tiles x h using columns _ _ _
  · obtain ⟨a, b, rfl⟩ : ∃ a b, x = ix2 a b := ⟨x 0, x 1, (ix2_eta x).symm⟩
    obtain rfl : r = a := Fin.ext h0
    obtain rfl : l = high b := Fin.ext h1
    refine (gate_high_read (iblk m c 0 t) (iblk m c 1 t) (iblk m c 2 t) r b).trans ?_
    simp only [x_at, g_at, w1_at, Ideal.truncf_def]
  · obtain ⟨a, b, rfl⟩ : ∃ a b, x = ix2 a b := ⟨x 0, x 1, (ix2_eta x).symm⟩
    obtain rfl : r = a := Fin.ext h0
    obtain rfl : l = low b := Fin.ext h1
    refine (gate_low_read (iblk m c 0 t) (iblk m c 1 t) (iblk m c 2 t) r b).trans ?_
    simp only [x_at, g_at, w1_at, Ideal.truncf_def]

/-- The second product's array. -/
theorem up_result (c : Dev nD) : (dats m 0 c).arrAt 7 cfg0.N
    = Cert.FfnFwdRefIdeal.Read.val_main_v24 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  obtain ⟨r, l, rfl⟩ : ∃ r l, y = ix2 r l := ⟨y 0, y 1, (ix2_eta y).symm⟩
  blk_simp
  have he : ((win0_7.blk t).view.emb (ix2 r l) : S16384x2816.Idx) = ix2 (row t r) l := by
    blk_ext [rows_up t, row]
  rw [he, after0_7, Cert.FfnFwdRefIdeal.Read.val_main_v24_apply, up_ref]
  unfold outsAt0 out0_A_7
  frame_out
  canon_tiles x h using columns _ _ _
  · obtain ⟨a, b, rfl⟩ : ∃ a b, x = ix2 a b := ⟨x 0, x 1, (ix2_eta x).symm⟩
    obtain rfl : r = a := Fin.ext h0
    obtain rfl : l = high b := Fin.ext h1
    refine (up_high_read (iblk m c 0 t) (iblk m c 1 t) (iblk m c 3 t) r b).trans ?_
    simp only [x_at, g_at, w2_at, Ideal.truncf_def]
  · obtain ⟨a, b, rfl⟩ : ∃ a b, x = ix2 a b := ⟨x 0, x 1, (ix2_eta x).symm⟩
    obtain rfl : r = a := Fin.ext h0
    obtain rfl : l = low b := Fin.ext h1
    refine (up_low_read (iblk m c 0 t) (iblk m c 1 t) (iblk m c 3 t) r b).trans ?_
    simp only [x_at, g_at, w2_at, Ideal.truncf_def]

/-- The result's array. -/
theorem row_result (c : Dev nD) : (dats m 0 c).arrAt 5 cfg0.N
    = Cert.FfnFwdRefIdeal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, l, rfl⟩ : ∃ r l, y = ix2 r l := ⟨y 0, y 1, (ix2_eta y).symm⟩
  blk_simp
  have he : ((win0_5.blk t).view.emb (ix2 r l) : S16384x1024.Idx) = ix2 (row t r) l := by
    blk_ext [rows_y t, row]
  rw [he, after0_5, row_ref]
  unfold outsAt0 out0_A_5
  frame_out
  refine (row_read (iblk m c 0 t) (iblk m c 1 t) (iblk m c 2 t) (iblk m c 3 t) (iblk m c 4 t) r l).trans ?_
  simp only [x_at, g_at, w1_at, w2_at, w3_at]

/-- The kernel's run ends at the reference's three arrays, its arguments kept. -/
theorem kernel_run (ρ : Dev nD → PrngReg) :
    θ_run defs (onTc (τ := τ) (main (F := Ideal))) ⟨m, fun _ => 0, ρ⟩ fun r => ∀ c : Dev nD,
      r.2.mem ((c : Thread nD τ).loc main_v0_0) = Cert.FfnFwdRefIdeal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = Cert.FfnFwdRefIdeal.Read.val_main_v23 (F := Ideal) (m ((c : Thread nD τ).loc main_arg0)) (m ((c : Thread nD τ).loc main_arg1)) (m ((c : Thread nD τ).loc main_arg2))
      ∧ r.2.mem ((c : Thread nD τ).loc main_v0_2) = Cert.FfnFwdRefIdeal.Read.val_main_v24 (F := Ideal) (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (row_result m c), (h c).2.1.trans (gate_result m c),
    (h c).2.2.1.trans (up_result m c), (h c).2.2.2⟩) (Cert.FfnFwdIdeal.Value.run_blocks m ρ)

/-- From memories agreeing on the arguments, kernel and reference both run and end with equal results. -/
theorem algebraic : Cert.algebraic_FfnFwdIdeal_FfnFwdRefIdeal := by
  intro m ρ m' ρ' _ hm
  refine ⟨_, _, _, kernel_run m ρ, (θ_run _ _ _).mono (fun r h c => ⟨(h c).1.trans ?_, (h c).2.1.trans ?_, (h c).2.2.1.trans ?_, (h c).2.2.2⟩)
    (Cert.FfnFwdRefIdeal.Value.run m' ρ')⟩
  · rw [(hm c).1, (hm c).2.1, (hm c).2.2.1, (hm c).2.2.2.1, (hm c).2.2.2.2]
    exact Cert.FfnFwdRefIdeal.Read.val_main_v22_eq _ _ _ _ _
  · rw [(hm c).1, (hm c).2.1, (hm c).2.2.1]
    exact Cert.FfnFwdRefIdeal.Read.val_main_v23_eq _ _ _
  · rw [(hm c).1, (hm c).2.1, (hm c).2.2.2.1]
    exact Cert.FfnFwdRefIdeal.Read.val_main_v24_eq _ _ _

end Cert.FfnFwdProof

end
-- ==== Proof.Finite.lean ====
/- Entries that are real numbers: what the preconditions say of an array, and the steps of a backward
   pass that need it, because they multiply out a sum. -/
module

public import Idealize.ShloMosaic.Lib.Pointwise
public import Idealize.ShloMosaic.Lib.ReduceAll
public import proofs.«01_k».proof.Proof.Rows

@[expose] public section

noncomputable section

namespace Cert.Finite

open Idealize.ShloMosaic
open Cert.Rows

/-- An extended real that is a real number. -/
def IsReal (x : EReal) : Prop := ∃ a : ℝ, x = a

/-- A real number is one. -/
theorem real (a : ℝ) : IsReal (a : EReal) := ⟨a, rfl⟩
/-- Sums of reals are real. -/
theorem add {x y : EReal} (hx : IsReal x) (hy : IsReal y) : IsReal (x + y) := by
  obtain ⟨a, rfl⟩ := hx; obtain ⟨b, rfl⟩ := hy; exact ⟨a + b, rfl⟩
/-- Products of reals are real. -/
theorem mul {x y : EReal} (hx : IsReal x) (hy : IsReal y) : IsReal (x * y) := by
  obtain ⟨a, rfl⟩ := hx; obtain ⟨b, rfl⟩ := hy; exact ⟨a * b, rfl⟩
/-- Negatives of reals are real. -/
theorem neg {x : EReal} (hx : IsReal x) : IsReal (-x) := by
  obtain ⟨a, rfl⟩ := hx; exact ⟨-a, rfl⟩
/-- Differences of reals are real. -/
theorem sub {x y : EReal} (hx : IsReal x) (hy : IsReal y) : IsReal (x - y) := by
  obtain ⟨a, rfl⟩ := hx; obtain ⟨b, rfl⟩ := hy; exact ⟨a - b, rfl⟩
/-- A finite sum of real numbers, as an extended real. -/
theorem coe_sum {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih]; rfl
/-- Finite sums of reals are real. -/
theorem sum {ι : Type} [Fintype ι] {f : ι → EReal} (h : ∀ i, IsReal (f i)) : IsReal (∑ i, f i) := by
  choose g hg using h
  exact ⟨∑ i, g i, by simp only [hg]; exact coe_sum _ _⟩
/-- Exponentials of reals are real. -/
theorem exp {x : EReal} (hx : IsReal x) : IsReal (Ideal.exp x) := by
  obtain ⟨a, rfl⟩ := hx; exact ⟨Real.exp a, rfl⟩
/-- A quotient of reals, the divisor not zero. -/
theorem div_real (a : ℝ) {b : ℝ} (hb : b ≠ 0) : Ideal.div (a : EReal) (b : EReal) = ((a / b : ℝ) : EReal) := by
  rw [Ideal.div_coe hb, ← EReal.coe_mul, mul_one_div]
/-- The reciprocal square root of a positive real. -/
theorem rsqrt_real {a : ℝ} (ha : 0 < a) : Ideal.rsqrt (a : EReal) = (((Real.sqrt a)⁻¹ : ℝ) : EReal) := by
  rw [Ideal.rsqrt_coe, if_neg (not_lt.mpr ha.le), if_neg ha.ne']

/-- An entry below infinity in absolute value is a real. -/
theorem of_test {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x with
  | bot => simp [Ideal.cmp] at h
  | top => simp [Ideal.cmp] at h
  | coe a => exact ⟨a, rfl⟩

/-- The row length, as a number. -/
theorem bits_1024 : Ideal.ofBits FTy.f32 1149239296#32 = ((1024 : ℝ) : EReal) := by
  simp [Ideal.ofBits, Ideal.ieee, ← EReal.coe_mul]; norm_num
/-- The norm's small constant is a positive real. -/
theorem bits_eps : ∃ e : ℝ, 0 < e ∧ Ideal.ofBits FTy.f32 925353388#32 = (e : EReal) := by
  refine ⟨_, ?_, by simp [Ideal.ofBits, Ideal.ieee]; rfl⟩
  norm_num
/-- Minus one half. -/
theorem bits_mhalf : Ideal.ofBits FTy.f32 3204448256#32 = ((-(1/2) : ℝ) : EReal) := by
  simp [Ideal.ofBits, Ideal.ieee, ← EReal.coe_mul]; norm_num

/-- The mean square of a row, with the small constant. -/
def meanSq (x : Fin 1024 → EReal) : EReal :=
  Ideal.div (∑ k, x k * x k) (Ideal.ofBits FTy.f32 1149239296#32) + Ideal.ofBits FTy.f32 925353388#32

/-- For a real row the mean square is a positive real. -/
theorem meanSq_real {x : Fin 1024 → EReal} (hx : ∀ k, IsReal (x k)) : ∃ s : ℝ, 0 < s ∧ meanSq x = (s : EReal) := by
  choose a ha using hx
  obtain ⟨e, he, hb⟩ := bits_eps
  refine ⟨(∑ k, a k * a k) / 1024 + e, by have := Finset.sum_nonneg (fun k (_ : k ∈ Finset.univ) => mul_self_nonneg (a k)); positivity, ?_⟩
  simp only [meanSq, hb, bits_1024, ha, ← EReal.coe_mul, coe_sum]
  rw [div_real _ (by norm_num), ← EReal.coe_add]

/-- The scale of a real row is real. -/
theorem scale_real {x : Fin 1024 → EReal} (hx : ∀ k, IsReal (x k)) : IsReal (scale x) := by
  obtain ⟨s, hs, h⟩ := meanSq_real hx
  exact ⟨_, (congrArg Ideal.rsqrt h).trans (rsqrt_real hs)⟩

/-- The normed row of a real row is real. -/
theorem normed_real {x g : Fin 1024 → EReal} (hx : ∀ k, IsReal (x k)) (hg : ∀ k, IsReal (g k)) (k : Fin 1024) : IsReal (normed x g k) :=
  mul (mul (hx k) (scale_real hx)) (hg k)

/-- The factor of the norm's inner derivative, as the reference takes it from the derivative of the root. -/
def inner (x d : Fin 1024 → EReal) : EReal :=
  Ideal.div ((∑ j, x j * d j) * (Ideal.ofBits FTy.f32 3204448256#32 * Ideal.div (scale x) (meanSq x))) (Ideal.ofBits FTy.f32 1149239296#32)

/-- The norm's gradient: the kernel's form is the reference's. -/
theorem norm_back {x d : Fin 1024 → EReal} (hx : ∀ k, IsReal (x k)) (hd : ∀ k, IsReal (d k)) (k : Fin 1024) :
    scale x * (d k - x k * scale x * Ideal.div (∑ j, d j * (x j * scale x)) (Ideal.ofBits FTy.f32 1149239296#32))
      = d k * scale x + x k * inner x d + inner x d * x k := by
  obtain ⟨s, hs, h⟩ := meanSq_real hx
  have hr : scale x = (((Real.sqrt s)⁻¹ : ℝ) : EReal) := (congrArg Ideal.rsqrt h).trans (rsqrt_real hs)
  choose a ha using hx
  choose b hb using hd
  have hq : Real.sqrt s * Real.sqrt s = s := Real.mul_self_sqrt hs.le
  have hp : 0 < Real.sqrt s := Real.sqrt_pos.mpr hs
  generalize hq' : Real.sqrt s = q at *
  subst hq
  simp only [inner, hr, h, ha, hb, bits_1024, bits_mhalf, ← EReal.coe_mul, coe_sum]
  rw [div_real _ (by norm_num), div_real _ (by positivity)]
  simp only [← EReal.coe_mul]
  rw [div_real _ (by norm_num)]
  simp only [← EReal.coe_mul, ← EReal.coe_sub, ← EReal.coe_add]
  congr 1
  have e : ∑ j, b j * (a j * q⁻¹) = (∑ j, a j * b j) * q⁻¹ := by
    rw [Finset.sum_mul]; exact Finset.sum_congr rfl fun j _ => by ring
  rw [e]
  generalize (∑ j, a j * b j) = S
  field_simp
  ring

/-- The logistic function as both sides write it. -/
def sig (a : EReal) : EReal := Ideal.div 1 (1 + Ideal.exp (-a))

/-- The logistic of a real is real. -/
theorem sig_real {a : EReal} (ha : IsReal a) : IsReal (sig a) := by
  obtain ⟨a, rfl⟩ := ha
  refine ⟨1 / (1 + Real.exp (-a)), ?_⟩
  rw [sig, ← EReal.coe_neg, Ideal.exp_coe, ← EReal.coe_one, ← EReal.coe_add, div_real _ (by positivity)]

/-- The gate's gradient: the kernel's form is the reference's. -/
theorem gate_back {d u a : EReal} (hd : IsReal d) (hu : IsReal u) (ha : IsReal a) :
    d * u * (sig a * (1 + a * (1 - sig a))) = d * u * sig a + a * (d * u) * (sig a * (1 - sig a)) := by
  obtain ⟨s, hs⟩ := sig_real ha
  rw [hs]
  obtain ⟨d, rfl⟩ := hd; obtain ⟨u, rfl⟩ := hu; obtain ⟨a, rfl⟩ := ha
  rw [← EReal.coe_one]
  simp only [← EReal.coe_mul, ← EReal.coe_sub, ← EReal.coe_add]
  congr 1; ring

/-- A conjunction of two truth values that is one has both ones. -/
theorem both {a b : BitVec 1} (h : IntOp.andi a b = 1#1) : a = 1#1 ∧ b = 1#1 := by
  revert h; revert a b; decide

/-- A test over a whole array, that every entry's absolute value is below infinity, read at one entry. -/
theorem all_of_test {s t u : Shape} [Subsingleton t.Idx] {axes : List (Fin s.rank)} (x : s.Idx → EReal) (p : s.Idx → BitVec 1) (init : u.Idx → BitVec 1)
    (h : s.ReducesTo axes t) (hu : 0 < u.numel) (j : t.Idx)
    (hp : ∀ i, p i = Ideal.cmp .olt (max (x i) (-(x i))) (Ideal.ofBits .f32 0x7F800000#32))
    (e : Host.reduce IntOp.andi p init h hu j = 1#1) (i : s.Idx) : IsReal (x i) :=
  of_test ((hp i).symm.trans (Host.reduce_andi_all p init h hu j e i))

end Cert.Finite

end
-- ==== Proof.ProjABwd.lean ====
/- The backward call of the first mixer's input projection: the gradient of the projection's product and of the norm
   before it, with the gain's gradient summed over the rows. -/
module

public import proofs.«01_k».proof.Proof.Gen.ProjABwdIdeal.Value
public import proofs.«01_k».proof.Proof.Gen.ProjABwdRefIdeal.Read
public import Idealize.ShloMosaic.Lib.Pipeline.ValueKit.Tiles
public import Idealize.ShloMosaic.Lib.Pipeline.ValueKit.Geometry
public import Idealize.ShloMosaic.Lib.Pointwise
public import Idealize.ShloMosaic.Lib.Pipeline.ReadBack
public import proofs.«01_k».proof.Proof.Gen.Pre_finite9
public import proofs.«01_k».proof.Proof.Finite
public import proofs.«01_k».proof.Defs

@[expose] public section

set_option maxRecDepth 16384

noncomputable section

namespace Cert.ProjABwdProof

open Cert.ProjABwdIdeal Cert.ProjABwdIdeal.Gen Idealize.ShloMosaic Idealize.ShloMosaic.TcCoe Idealize.SL.Sem
open Idealize.ShloMosaic.Pipeline (Dat)
open Cert.Rows Cert.Finite

variable (m : (ℓ : Loc nD τ sig) → Buf (Elt Ideal) ℓ)

/-- One entry of the product's gradient: a row of the incoming gradient times a row of the matrix. -/
def dh (p w : Fin 2560 → EReal) : EReal := ∑ k, p k * w k

/-- What the kernel stores of the norm's gradient. -/
def back (x d : Fin 1024 → EReal) (k : Fin 1024) : EReal :=
  scale x * (d k - x k * scale x * Ideal.div (∑ j, d j * (x j * scale x)) (Ideal.ofBits FTy.f32 1149239296#32))

/-- The kernel's normed rows. -/
theorem normed_block (x : Vec Ideal S1024x1024 .f32) (g : Vec Ideal S1x1024 .f32) (r k : Fin 1024) :
    k0_pay5 (F := Ideal) x g (ix2 r k) = normed (fun k => x (ix2 r k)) (fun k => g (ix2 0 k)) k := by
  pointwise [k0_pay5, k0_pay4, k0_pay3]; rfl

/-- The kernel's rows before the gain. -/
theorem scaled_block (x : Vec Ideal S1024x1024 .f32) (r k : Fin 1024) :
    k0_pay4 (F := Ideal) x (ix2 r k) = x (ix2 r k) * scale (fun k => x (ix2 r k)) := by
  pointwise [k0_pay4, k0_pay3]; rfl

/-- The kernel's gradient of the product. -/
theorem dh_block (p w : Vec Ideal S1024x2560 .bf16) (r k : Fin 1024) :
    k0_pay6 (F := Ideal) p w (ix2 r k) = dh (fun l => p (ix2 r l)) (fun l => w (ix2 k l)) := by
  pointwise [k0_pay6]; rfl

/-- The kernel's result row. -/
theorem row_block (x : Vec Ideal S1024x1024 .f32) (g : Vec Ideal S1x1024 .f32) (p w : Vec Ideal S1024x2560 .bf16) (e : Vec Ideal S1024x1024 .f32) (r k : Fin 1024) :
    k0_pay7 (F := Ideal) x g p w e (ix2 r k) = e (ix2 r k)
      + back (fun k => x (ix2 r k)) (fun k => dh (fun l => p (ix2 r l)) (fun l => w (ix2 k l)) * g (ix2 0 k)) k := by
  pointwise [k0_pay7]; simp only [scaled_block, dh_block]; pointwise [k0_pay3]; rfl

/-- The zero row stored at the first point. -/
theorem zero_row (k : Fin 1024) : k0_pay1 (F := Ideal) (ix2 0 k) = 0 := by
  pointwise [k0_pay1]

/-- One point's step of the gain's gradient. -/
theorem gain_step (a d : FVec Ideal S1024x1024 .f32) (o : Vec Ideal S1x1024 .f32) (k : Fin 1024) :
    k0_pay2 (F := Ideal) a d o (ix2 0 k) = o (ix2 0 k) + ∑ r, d (ix2 r k) * a (ix2 r k) := by
  pointwise [k0_pay2]

/-- The reference's scale of a row. -/
theorem scale_ref (x : Vec Ideal Cert.ProjABwdRefIdeal.S16384x1024 .f32) (r : Fin 16384) :
    Cert.ProjABwdRefIdeal.Read.val_main_v11 (F := Ideal) x (ix2 r 0) = scale (fun k => x (ix2 r k)) := by
  pointwise [Cert.ProjABwdRefIdeal.Read.val_main_v11, Cert.ProjABwdRefIdeal.Read.val_main_v10, Cert.ProjABwdRefIdeal.Read.val_main_v9, Cert.ProjABwdRefIdeal.Read.val_main_v8, Cert.ProjABwdRefIdeal.Read.val_main_v7, Cert.ProjABwdRefIdeal.Read.val_main_v6, Cert.ProjABwdRefIdeal.Read.val_main_v5, Cert.ProjABwdRefIdeal.Read.val_main_v4, Cert.ProjABwdRefIdeal.Read.val_main_cst, Cert.ProjABwdRefIdeal.Read.val_main_cst_0, Cert.ProjABwdRefIdeal.Read.val_main_cst_1]; rfl

/-- The reference's mean square of a row. -/
theorem meanSq_ref (x : Vec Ideal Cert.ProjABwdRefIdeal.S16384x1024 .f32) (r : Fin 16384) :
    Cert.ProjABwdRefIdeal.Read.val_main_v10 (F := Ideal) x (ix2 r 0) = meanSq (fun k => x (ix2 r k)) := by
  pointwise [Cert.ProjABwdRefIdeal.Read.val_main_v10, Cert.ProjABwdRefIdeal.Read.val_main_v9, Cert.ProjABwdRefIdeal.Read.val_main_v8, Cert.ProjABwdRefIdeal.Read.val_main_v7, Cert.ProjABwdRefIdeal.Read.val_main_v6, Cert.ProjABwdRefIdeal.Read.val_main_v5, Cert.ProjABwdRefIdeal.Read.val_main_v4, Cert.ProjABwdRefIdeal.Read.val_main_cst, Cert.ProjABwdRefIdeal.Read.val_main_cst_0, Cert.ProjABwdRefIdeal.Read.val_main_cst_1]; rfl

/-- The reference's gradient of the product. -/
theorem dh_ref (p : Vec Ideal Cert.ProjABwdRefIdeal.S16384x2560 .bf16) (w : Vec Ideal Cert.ProjABwdRefIdeal.S1024x2560 .bf16) (r : Fin 16384) (k : Fin 1024) :
    Cert.ProjABwdRefIdeal.Read.val_main_v3 (F := Ideal) p w (ix2 r k) = dh (fun l => p (ix2 r l)) (fun l => w (ix2 k l)) := by
  pointwise [Cert.ProjABwdRefIdeal.Read.val_main_v3, Cert.ProjABwdRefIdeal.Read.val_main_v2, Cert.ProjABwdRefIdeal.Read.val_main_v1, Cert.ProjABwdRefIdeal.Read.val_main_v0]; rfl

/-- The reference's factor of the inner derivative. -/
theorem inner_ref (p : Vec Ideal Cert.ProjABwdRefIdeal.S16384x2560 .bf16) (w : Vec Ideal Cert.ProjABwdRefIdeal.S1024x2560 .bf16) (x : Vec Ideal Cert.ProjABwdRefIdeal.S16384x1024 .f32) (g : Vec Ideal Cert.ProjABwdRefIdeal.S1x1024 .f32) (r : Fin 16384) (k : Fin 1024) :
    Cert.ProjABwdRefIdeal.Read.val_main_v33 (F := Ideal) p w x g (ix2 r k) = inner (fun k => x (ix2 r k)) (fun k => dh (fun l => p (ix2 r l)) (fun l => w (ix2 k l)) * g (ix2 0 k)) := by
  pointwise [Cert.ProjABwdRefIdeal.Read.val_main_v33, Cert.ProjABwdRefIdeal.Read.val_main_v32, Cert.ProjABwdRefIdeal.Read.val_main_v31, Cert.ProjABwdRefIdeal.Read.val_main_v30, Cert.ProjABwdRefIdeal.Read.val_main_v29, Cert.ProjABwdRefIdeal.Read.val_main_v26, Cert.ProjABwdRefIdeal.Read.val_main_v25, Cert.ProjABwdRefIdeal.Read.val_main_v24, Cert.ProjABwdRefIdeal.Read.val_main_v23, Cert.ProjABwdRefIdeal.Read.val_main_v22, Cert.ProjABwdRefIdeal.Read.val_main_v14, Cert.ProjABwdRefIdeal.Read.val_main_v13, Cert.ProjABwdRefIdeal.Read.val_main_v12, Cert.ProjABwdRefIdeal.Read.val_main_cst_2, Cert.ProjABwdRefIdeal.Read.val_main_cst_4, Cert.ProjABwdRefIdeal.Read.val_main_cst_5, Cert.ProjABwdRefIdeal.Read.val_main_cst_6]
  simp only [Fin.sum_univ_one, dh_ref, scale_ref, meanSq_ref]; rfl

/-- The reference's result row. -/
theorem row_ref (p : Vec Ideal Cert.ProjABwdRefIdeal.S16384x2560 .bf16) (w : Vec Ideal Cert.ProjABwdRefIdeal.S1024x2560 .bf16) (x : Vec Ideal Cert.ProjABwdRefIdeal.S16384x1024 .f32) (g : Vec Ideal Cert.ProjABwdRefIdeal.S1x1024 .f32) (e : Vec Ideal Cert.ProjABwdRefIdeal.S16384x1024 .f32) (r : Fin 16384) (k : Fin 1024) :
    Cert.ProjABwdRefIdeal.Read.val_main_v38 (F := Ideal) p w x g e (ix2 r k) = e (ix2 r k)
      + (dh (fun l => p (ix2 r l)) (fun l => w (ix2 k l)) * g (ix2 0 k) * scale (fun k => x (ix2 r k))
        + x (ix2 r k) * inner (fun k => x (ix2 r k)) (fun k => dh (fun l => p (ix2 r l)) (fun l => w (ix2 k l)) * g (ix2 0 k))
        + inner (fun k => x (ix2 r k)) (fun k => dh (fun l => p (ix2 r l)) (fun l => w (ix2 k l)) * g (ix2 0 k)) * x (ix2 r k)) := by
  pointwise [Cert.ProjABwdRefIdeal.Read.val_main_v38, Cert.ProjABwdRefIdeal.Read.val_main_v37, Cert.ProjABwdRefIdeal.Read.val_main_v36, Cert.ProjABwdRefIdeal.Read.val_main_v35, Cert.ProjABwdRefIdeal.Read.val_main_v34, Cert.ProjABwdRefIdeal.Read.val_main_v28, Cert.ProjABwdRefIdeal.Read.val_main_v27, Cert.ProjABwdRefIdeal.Read.val_main_v23, Cert.ProjABwdRefIdeal.Read.val_main_v22]
  simp only [inner_ref, dh_ref, scale_ref]

/-- The gain's gradient at a column, over all rows. -/
def gainSum (p : Vec Ideal S16384x2560 .bf16) (w : Vec Ideal S1024x2560 .bf16) (x : Vec Ideal S16384x1024 .f32) (k : Fin 1024) : EReal :=
  ∑ r : Fin 16384, x (ix2 r k) * scale (fun k => x (ix2 r k)) * dh (fun l => p (ix2 r l)) (fun l => w (ix2 k l))

/-- The reference's gradient of the gain. -/
theorem gain_ref (p : Vec Ideal Cert.ProjABwdRefIdeal.S16384x2560 .bf16) (w : Vec Ideal Cert.ProjABwdRefIdeal.S1024x2560 .bf16) (x : Vec Ideal Cert.ProjABwdRefIdeal.S16384x1024 .f32) (k : Fin 1024) :
    Cert.ProjABwdRefIdeal.Read.val_main_v21 (F := Ideal) p w x (ix2 0 k) = gainSum p w x k := by
  unfold gainSum
  pointwise [Cert.ProjABwdRefIdeal.Read.val_main_v21, Cert.ProjABwdRefIdeal.Read.val_main_v20, Cert.ProjABwdRefIdeal.Read.val_main_v19, Cert.ProjABwdRefIdeal.Read.val_main_v16, Cert.ProjABwdRefIdeal.Read.val_main_v15, Cert.ProjABwdRefIdeal.Read.val_main_cst_3]
  simp only [dh_ref, scale_ref]

/-- The reference's normed rows. -/
theorem normed_ref (x : Vec Ideal Cert.ProjABwdRefIdeal.S16384x1024 .f32) (g : Vec Ideal Cert.ProjABwdRefIdeal.S1x1024 .f32) (r : Fin 16384) (k : Fin 1024) :
    Cert.ProjABwdRefIdeal.Read.val_main_v51 (F := Ideal) x g (ix2 r k) = normed (fun k => x (ix2 r k)) (fun k => g (ix2 0 k)) k := by
  pointwise [Cert.ProjABwdRefIdeal.Read.val_main_v39, Cert.ProjABwdRefIdeal.Read.val_main_v40, Cert.ProjABwdRefIdeal.Read.val_main_v41, Cert.ProjABwdRefIdeal.Read.val_main_v42, Cert.ProjABwdRefIdeal.Read.val_main_v43, Cert.ProjABwdRefIdeal.Read.val_main_v44, Cert.ProjABwdRefIdeal.Read.val_main_v45, Cert.ProjABwdRefIdeal.Read.val_main_v46, Cert.ProjABwdRefIdeal.Read.val_main_v47, Cert.ProjABwdRefIdeal.Read.val_main_v48, Cert.ProjABwdRefIdeal.Read.val_main_v49, Cert.ProjABwdRefIdeal.Read.val_main_v50, Cert.ProjABwdRefIdeal.Read.val_main_v51, Cert.ProjABwdRefIdeal.Read.val_main_cst_7, Cert.ProjABwdRefIdeal.Read.val_main_cst_8, Cert.ProjABwdRefIdeal.Read.val_main_cst_9]; rfl

/-- The block of the incoming gradient at point `t` starts at row `1024 t`. -/
theorem rows_p : ∀ t : Fin cfg0.N, win0_0.index t = ![t.val, 0] := (by decide +kernel : ∀ t : Fin grid0.N, _)
/-- The matrix is whole at every point. -/
theorem rows_w : ∀ t : Fin cfg0.N, win0_1.index t = ![0, 0] := (by decide +kernel : ∀ t : Fin grid0.N, _)
/-- The block of the norm's input at point `t` starts at row `1024 t`. -/
theorem rows_x : ∀ t : Fin cfg0.N, win0_2.index t = ![t.val, 0] := (by decide +kernel : ∀ t : Fin grid0.N, _)
/-- The gain is whole at every point. -/
theorem rows_g : ∀ t : Fin cfg0.N, win0_3.index t = ![0, 0] := (by decide +kernel : ∀ t : Fin grid0.N, _)
/-- The block of the added gradient at point `t` starts at row `1024 t`. -/
theorem rows_e : ∀ t : Fin cfg0.N, win0_4.index t = ![t.val, 0] := (by decide +kernel : ∀ t : Fin grid0.N, _)
/-- The block of the result at point `t`. -/
theorem rows_out5 : ∀ t : Fin cfg0.N, win0_5.index t = ![t.val, 0] := (by decide +kernel : ∀ t : Fin grid0.N, _)
/-- The block of the gain's gradient at point `t`. -/
theorem rows_out6 : ∀ t : Fin cfg0.N, win0_6.index t = ![0, 0] := (by decide +kernel : ∀ t : Fin grid0.N, _)
/-- The block of the normed rows at point `t`. -/
theorem rows_out7 : ∀ t : Fin cfg0.N, win0_7.index t = ![t.val, 0] := (by decide +kernel : ∀ t : Fin grid0.N, _)

/-- Row `r` of the block at point `t`, as a row of the whole array. -/
def row (t : Fin cfg0.N) (r : Fin 1024) : Fin 16384 :=
  ⟨t.val * 1024 + r.val, by have : t.val < 16 := lt_of_lt_of_eq t.isLt N_0; omega⟩

/-- An entry of the block of the incoming gradient. -/
theorem p_at (c : Dev nD) (t : Fin cfg0.N) (r : Fin 1024) (k : Fin 2560) :
    (iblk m c 0 t : Vec Ideal S1024x2560 .bf16) (ix2 r k) = m ((c : Thread nD τ).loc main_arg0) (ix2 (row t r) k) := by
  blk_ext [iblk, V_main_arg0, rows_p t, row]
/-- An entry of the block of the matrix. -/
theorem w_at (c : Dev nD) (t : Fin cfg0.N) (r : Fin 1024) (k : Fin 2560) :
    (iblk m c 1 t : Vec Ideal S1024x2560 .bf16) (ix2 r k) = m ((c : Thread nD τ).loc main_arg1) (ix2 r k) := by
  blk_ext [iblk, V_main_arg1, rows_w t]
/-- An entry of the block of the norm's input. -/
theorem x_at (c : Dev nD) (t : Fin cfg0.N) (r : Fin 1024) (k : Fin 1024) :
    (iblk m c 2 t : Vec Ideal S1024x1024 .f32) (ix2 r k) = m ((c : Thread nD τ).loc main_arg2) (ix2 (row t r) k) := by
  blk_ext [iblk, V_main_arg2, rows_x t, row]
/-- An entry of the block of the gain. -/
theorem g_at (c : Dev nD) (t : Fin cfg0.N) (r : Fin 1) (k : Fin 1024) :
    (iblk m c 3 t : Vec Ideal S1x1024 .f32) (ix2 r k) = m ((c : Thread nD τ).loc main_arg3) (ix2 r k) := by
  blk_ext [iblk, V_main_arg3, rows_g t]
/-- An entry of the block of the added gradient. -/
theorem e_at (c : Dev nD) (t : Fin cfg0.N) (r : Fin 1024) (k : Fin 1024) :
    (iblk m c 4 t : Vec Ideal S1024x1024 .f32) (ix2 r k) = m ((c : Thread nD τ).loc main_arg4) (ix2 (row t r) k) := by
  blk_ext [iblk, V_main_arg4, rows_e t, row]

/-- Every entry of the arguments is a real number. -/
def Reals (c : Dev nD) : Prop :=
  (∀ i, IsReal ((m ((c : Thread nD τ).loc main_arg0) : Vec Ideal S16384x2560 .bf16) i)) ∧ (∀ i, IsReal ((m ((c : Thread nD τ).loc main_arg1) : Vec Ideal S1024x2560 .bf16) i))
    ∧ (∀ i, IsReal ((m ((c : Thread nD τ).loc main_arg2) : Vec Ideal S16384x1024 .f32) i)) ∧ (∀ i, IsReal ((m ((c : Thread nD τ).loc main_arg3) : Vec Ideal S1x1024 .f32) i))

/-- A product of real rows is real. -/
theorem dh_real {p w : Fin 2560 → EReal} (hp : ∀ k, IsReal (p k)) (hw : ∀ k, IsReal (w k)) : IsReal (dh p w) :=
  sum fun k => mul (hp k) (hw k)

/-- The two forms of the norm's gradient. -/
theorem back_eq {x d : Fin 1024 → EReal} (hx : ∀ k, IsReal (x k)) (hd : ∀ k, IsReal (d k)) (k : Fin 1024) :
    back x d k = d k * scale x + x k * inner x d + inner x d * x k := norm_back hx hd k

/-- The result's array. -/
theorem row_result (c : Dev nD) (hr : Reals m c) : (dats m 0 c).arrAt 5 cfg0.N
    = Cert.ProjABwdRefIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, l, rfl⟩ : ∃ r l, y = ix2 r l := ⟨y 0, y 1, (ix2_eta y).symm⟩
  blk_simp
  have he : ((win0_5.blk t).view.emb (ix2 r l) : S16384x1024.Idx) = ix2 (row t r) l := by
    blk_ext [rows_out5 t, row]
  rw [he, after0_5, row_ref]
  have hs : (outsAt0 m c t.val t.isLt).1 (ix2 r l) = k0_pay7 (F := Ideal) (iblk m c 2 t) (iblk m c 3 t) (iblk m c 0 t) (iblk m c 1 t) (iblk m c 4 t) (ix2 r l) := by
    by_cases h : t.val % 16 = 0
    · rw [outsAt0_A m c t h]; frame_out
    · rw [outsAt0_B m c t h]; frame_out
  refine hs.trans ((row_block (iblk m c 2 t) (iblk m c 3 t) (iblk m c 0 t) (iblk m c 1 t) (iblk m c 4 t) r l).trans ?_)
  simp only [p_at, w_at, x_at, g_at, e_at]
  rw [back_eq (fun k => hr.2.2.1 _) (fun k => mul (dh_real (fun _ => hr.1 _) (fun _ => hr.2.1 _)) (hr.2.2.2 _)) l]

/-- The normed rows' array. -/
theorem normed_result (c : Dev nD) : (dats m 0 c).arrAt 7 cfg0.N
    = Cert.ProjABwdRefIdeal.Read.val_main_v51 (F := Ideal) (m ((c : Thread nD τ).loc main_arg2)) (m ((c : Thread nD τ).loc main_arg3)) := by
  refine (dats m 0 c).arrAt_eq_of_covers 7 _ (by decide +kernel) fun t hf y => ?_
  obtain ⟨r, l, rfl⟩ : ∃ r l, y = ix2 r l := ⟨y 0, y 1, (ix2_eta y).symm⟩
  blk_simp
  have he : ((win0_7.blk t).view.emb (ix2 r l) : S16384x1024.Idx) = ix2 (row t r) l := by
    blk_ext [rows_out7 t, row]
  rw [he, after0_7, normed_ref]
  have hs : (outsAt0 m c t.val t.isLt).2.2 (ix2 r l) = k0_pay5 (F := Ideal) (iblk m c 2 t) (iblk m c 3 t) (ix2 r l) := by
    by_cases h : t.val % 16 = 0
    · rw [outsAt0_A m c t h]; frame_out
    · rw [outsAt0_B m c t h]; frame_out
  refine hs.trans ((normed_block (iblk m c 2 t) (iblk m c 3 t) r l).trans ?_)
  simp only [x_at, g_at]

/-- What one point adds to the gain's gradient, from its blocks. -/
def gainPart (p w : Vec Ideal S1024x2560 .bf16) (x : Vec Ideal S1024x1024 .f32) (k : Fin 1024) : EReal :=
  ∑ r, dh (fun l => p (ix2 r l)) (fun l => w (ix2 k l)) * (x (ix2 r k) * scale (fun k => x (ix2 r k)))

/-- What point `t` adds to the gain's gradient. -/
def part (c : Dev nD) (t : Fin cfg0.N) (k : Fin 1024) : EReal := gainPart (iblk m c 0 t) (iblk m c 1 t) (iblk m c 2 t) k

/-- One point's step of the gain's gradient, from its blocks. -/
theorem gain_apply (p w : Vec Ideal S1024x2560 .bf16) (x : Vec Ideal S1024x1024 .f32) (o : Vec Ideal S1x1024 .f32) (k : Fin 1024) :
    k0_pay2 (F := Ideal) (k0_pay4 x) (k0_pay6 p w) o (ix2 0 k) = o (ix2 0 k) + gainPart p w x k := by
  rw [gain_step]; simp only [dh_block, scaled_block]; rfl

/-- After the last point the row holds the sum of all points' parts. -/
theorem gain_last (c : Dev nD) (t : Fin cfg0.N) (ht : t.val + 1 = cfg0.N) (k : Fin 1024) :
    (outsAt0 m c t.val t.isLt).2.1 (ix2 0 k) = 0 + ∑ p : Fin cfg0.N, part m c p k := by
  exact Pipeline.eq_sum_fin_of_reset_step_apply_last (fun n h k => (outsAt0 m c n h).2.1 (ix2 0 k)) 16 (fun _ => (0 : EReal)) (part m c)
    (fun t h k => by
      show (outsAt0 m c t.val t.isLt).2.1 (ix2 0 k) = _
      rw [outsAt0_A m c t h]; frame_out
      refine (gain_apply (iblk m c 0 t) (iblk m c 1 t) (iblk m c 2 t) _ k).trans ?_
      rw [zero_row]; rfl)
    (fun t h k => by
      show (outsAt0 m c t.val t.isLt).2.1 (ix2 0 k) = _
      rw [outsAt0_B m c t h]; frame_out
      refine (gain_apply (iblk m c 0 t) (iblk m c 1 t) (iblk m c 2 t) _ k).trans ?_
      rfl)
    (le_of_eq N_0) t ht k

/-- The points' parts are the sum over all rows. -/
theorem sum_parts (c : Dev nD) (l : Fin 1024) : ∑ p : Fin cfg0.N, part m c p l
    = gainSum (m ((c : Thread nD τ).loc main_arg0)) (m ((c : Thread nD τ).loc main_arg1)) (m ((c : Thread nD τ).loc main_arg2)) l := by
  unfold gainSum
  unfold part gainPart
  refine Fin.sum_mul_add_congr (S := cfg0.N) (n := 1024) (fun t k ht => ?_) (by have : cfg0.N = 16 := N_0; rw [this])
  simp only [p_at, w_at, x_at, row]
  exact mul_comm _ _

/-- The gain's gradient. -/
theorem gain_result (c : Dev nD) : (dats m 0 c).arrAt 6 cfg0.N
    = Cert.ProjABwdRefIdeal.Read.val_main_v21 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have hN : cfg0.N = 16 := N_0
  have h15 : t.val % 16 = 15 := (flush0_6 t).mp hf
  have ht : t.val + 1 = cfg0.N := by have : t.val < 16 := lt_of_lt_of_eq t.isLt N_0; rw [hN]; omega
  obtain ⟨r, l, rfl⟩ : ∃ r l, y = ix2 r l := ⟨y 0, y 1, (ix2_eta y).symm⟩
  obtain rfl : r = 0 := Subsingleton.elim _ _
  blk_simp
  have he : ((win0_6.blk t).view.emb (ix2 0 l) : S1x1024.Idx) = ix2 0 l := by
    blk_ext [rows_out6 t]
  rw [he, after0_6, gain_ref, gain_last m c t ht, zero_add]
  exact sum_parts m c l

/-- The scalar shape has one index. -/
instance : Subsingleton Cert.Pre_finite9.S_.Idx := ⟨fun a b => funext fun d => d.elim0⟩

/-- The precondition says that the entries are real. -/
theorem reals (h : Cert.Pre_ProjABwdIdeal_finite9 m) (c : Dev nD) : Reals m c := by
  have e := congrFun (h c) (fun d => d.elim0)
  unfold Cert.Pre_finite9.fn Cert.Pre_finite9.fn_part1 at e
  obtain ⟨e, e3⟩ := both e
  obtain ⟨e, e2⟩ := both e
  obtain ⟨e0, e1⟩ := both e
  exact ⟨all_of_test _ _ _ _ _ _ (fun i => rfl) e0, all_of_test _ _ _ _ _ _ (fun i => rfl) e1,
    all_of_test _ _ _ _ _ _ (fun i => rfl) e2, all_of_test _ _ _ _ _ _ (fun i => rfl) e3⟩

/-- The kernel's run ends at the reference's three arrays, its arguments kept. -/
theorem kernel_run (hp : Cert.Pre_ProjABwdIdeal_finite9 m) (ρ : Dev nD → PrngReg) :
    θ_run defs (onTc (τ := τ) (main (F := Ideal))) ⟨m, fun _ => 0, ρ⟩ fun r => ∀ c : Dev nD,
      r.2.mem ((c : Thread nD τ).loc main_v0_0) = Cert.ProjABwdRefIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = Cert.ProjABwdRefIdeal.Read.val_main_v21 (F := Ideal) (m ((c : Thread nD τ).loc main_arg0)) (m ((c : Thread nD τ).loc main_arg1)) (m ((c : Thread nD τ).loc main_arg2))
      ∧ r.2.mem ((c : Thread nD τ).loc main_v0_2) = Cert.ProjABwdRefIdeal.Read.val_main_v51 (F := Ideal) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (row_result m c (reals m hp c)), (h c).2.1.trans (gain_result m c),
    (h c).2.2.1.trans (normed_result m c), (h c).2.2.2⟩) (Cert.ProjABwdIdeal.Value.run_blocks m ρ)

/-- From memories agreeing on the arguments, with real entries, kernel and reference both run and end with equal results. -/
theorem algebraic : Cert.algebraic_ProjABwdIdeal_ProjABwdRefIdeal_pre_finite9 := by
  intro m ρ m' ρ' hp hm
  refine ⟨_, _, _, kernel_run m hp ρ, (θ_run _ _ _).mono (fun r h c => ⟨(h c).1.trans ?_, (h c).2.1.trans ?_, (h c).2.2.1.trans ?_, (h c).2.2.2⟩)
    (Cert.ProjABwdRefIdeal.Value.run m' ρ')⟩
  · refine (Cert.ProjABwdRefIdeal.Read.val_main_v38_eq m' c).trans ?_
    rw [(hm c).1, (hm c).2.1, (hm c).2.2.1, (hm c).2.2.2.1, (hm c).2.2.2.2]
  · rw [(hm c).1, (hm c).2.1, (hm c).2.2.1]
    exact Cert.ProjABwdRefIdeal.Read.val_main_v21_eq _ _ _
  · rw [(hm c).2.2.1, (hm c).2.2.2.1]
    exact Cert.ProjABwdRefIdeal.Read.val_main_v51_eq _ _

end Cert.ProjABwdProof

end
-- ==== Proof.FfnBwd.lean ====
/- The feed-forward block's backward call: the kernel walks 256 rows at a time and splits the hidden width in two
   parts; the reference takes each product whole and goes back through the logistic and the norm as
   the derivative of each. -/
module

public import proofs.«01_k».proof.Proof.Gen.FfnBwdIdeal.Value
public import proofs.«01_k».proof.Proof.Gen.FfnBwdRefIdeal.Read
public import Idealize.ShloMosaic.Lib.Pipeline.ValueKit.Tiles
public import Idealize.ShloMosaic.Lib.Pipeline.ValueKit.Geometry
public import Idealize.ShloMosaic.Lib.Pointwise
public import Idealize.ShloMosaic.Lib.Pipeline.ReadBack
public import Idealize.ShloMosaic.Lib.StableHlo.RunRead
public import proofs.«01_k».proof.Proof.Gen.Pre_finite2
public import proofs.«01_k».proof.Proof.Finite
public import proofs.«01_k».proof.Defs

@[expose] public section

set_option maxRecDepth 16384

noncomputable section

namespace Cert.FfnBwdProof

open Cert.FfnBwdIdeal Cert.FfnBwdIdeal.Gen Idealize.ShloMosaic Idealize.ShloMosaic.TcCoe Idealize.SL.Sem
open Idealize.ShloMosaic.Pipeline (Dat)
open Cert.Rows Cert.Finite

variable (m : (ℓ : Loc nD τ sig) → Buf (Elt Ideal) ℓ)

/-- What the kernel stores of the norm's gradient. -/
def back (x d : Fin 1024 → EReal) (k : Fin 1024) : EReal :=
  scale x * (d k - x k * scale x * Ideal.div (∑ j, d j * (x j * scale x)) (Ideal.ofBits FTy.f32 1149239296#32))

/-- The gate's gradient at one entry, from the gradient of the gated value, the gate and the other factor. -/
def dgateE (d a u : EReal) : EReal := d * u * (sig a * (1 + a * (1 - sig a)))

/-- The gate's gradient as the reference takes it. -/
def dgateR (d a u : EReal) : EReal := d * u * sig a + a * (d * u) * (sig a * (1 - sig a))

/-- The other factor's gradient. -/
def dupE (d a : EReal) : EReal := d * (a * sig a)

/-- The gradient of the normed row at one entry, from the rows and the three matrices. -/
def dh (x g d : Fin 1024 → EReal) (wg wu wd : Fin 2816 → Fin 1024 → EReal) (k : Fin 1024) : EReal :=
  (∑ j, dgateE (entry d (wd j)) (entry (normed x g) (wg j)) (entry (normed x g) (wu j)) * wg j k)
    + ∑ j, dupE (entry d (wd j)) (entry (normed x g) (wg j)) * wu j k

/-- The same with the gate's gradient as the reference takes it. -/
def dhR (x g d : Fin 1024 → EReal) (wg wu wd : Fin 2816 → Fin 1024 → EReal) (k : Fin 1024) : EReal :=
  (∑ j, dgateR (entry d (wd j)) (entry (normed x g) (wg j)) (entry (normed x g) (wu j)) * wg j k)
    + ∑ j, dupE (entry d (wd j)) (entry (normed x g) (wg j)) * wu j k

/-- The reference's scale of a row. -/
theorem scale_ref (x : Vec Ideal Cert.FfnBwdRefIdeal.S16384x1024 .f32) (r : Fin 16384) :
    Cert.FfnBwdRefIdeal.Read.val_main_v12 (F := Ideal) x (ix2 r 0) = scale (fun k => x (ix2 r k)) := by
  pointwise [Cert.FfnBwdRefIdeal.Read.val_main_v12, Cert.FfnBwdRefIdeal.Read.val_main_v11, Cert.FfnBwdRefIdeal.Read.val_main_v10, Cert.FfnBwdRefIdeal.Read.val_main_v9, Cert.FfnBwdRefIdeal.Read.val_main_v8, Cert.FfnBwdRefIdeal.Read.val_main_v7, Cert.FfnBwdRefIdeal.Read.val_main_v6, Cert.FfnBwdRefIdeal.Read.val_main_v5, Cert.FfnBwdRefIdeal.Read.val_main_cst, Cert.FfnBwdRefIdeal.Read.val_main_cst_0, Cert.FfnBwdRefIdeal.Read.val_main_cst_1]; rfl

/-- The reference's scale of a row, taken again for the gradient. -/
theorem scale_ref' (x : Vec Ideal Cert.FfnBwdRefIdeal.S16384x1024 .f32) (r : Fin 16384) :
    Cert.FfnBwdRefIdeal.Read.val_main_v33 (F := Ideal) x (ix2 r 0) = scale (fun k => x (ix2 r k)) := by
  pointwise [Cert.FfnBwdRefIdeal.Read.val_main_v33, Cert.FfnBwdRefIdeal.Read.val_main_v32, Cert.FfnBwdRefIdeal.Read.val_main_v31, Cert.FfnBwdRefIdeal.Read.val_main_v30, Cert.FfnBwdRefIdeal.Read.val_main_v29, Cert.FfnBwdRefIdeal.Read.val_main_v28, Cert.FfnBwdRefIdeal.Read.val_main_v27, Cert.FfnBwdRefIdeal.Read.val_main_v26, Cert.FfnBwdRefIdeal.Read.val_main_cst_2, Cert.FfnBwdRefIdeal.Read.val_main_cst_3, Cert.FfnBwdRefIdeal.Read.val_main_cst_4]; rfl

/-- The reference's mean square of a row. -/
theorem meanSq_ref (x : Vec Ideal Cert.FfnBwdRefIdeal.S16384x1024 .f32) (r : Fin 16384) :
    Cert.FfnBwdRefIdeal.Read.val_main_v32 (F := Ideal) x (ix2 r 0) = meanSq (fun k => x (ix2 r k)) := by
  pointwise [Cert.FfnBwdRefIdeal.Read.val_main_v32, Cert.FfnBwdRefIdeal.Read.val_main_v31, Cert.FfnBwdRefIdeal.Read.val_main_v30, Cert.FfnBwdRefIdeal.Read.val_main_v29, Cert.FfnBwdRefIdeal.Read.val_main_v28, Cert.FfnBwdRefIdeal.Read.val_main_v27, Cert.FfnBwdRefIdeal.Read.val_main_v26, Cert.FfnBwdRefIdeal.Read.val_main_cst_2, Cert.FfnBwdRefIdeal.Read.val_main_cst_3, Cert.FfnBwdRefIdeal.Read.val_main_cst_4]; rfl

/-- The reference's normed rows. -/
theorem normed_ref (x : Vec Ideal Cert.FfnBwdRefIdeal.S16384x1024 .f32) (g : Vec Ideal Cert.FfnBwdRefIdeal.S1x1024 .f32) (r : Fin 16384) (k : Fin 1024) :
    Cert.FfnBwdRefIdeal.Read.val_main_v16 (F := Ideal) x g (ix2 r k) = normed (fun k => x (ix2 r k)) (fun k => g (ix2 0 k)) k := by
  pointwise [Cert.FfnBwdRefIdeal.Read.val_main_v16, Cert.FfnBwdRefIdeal.Read.val_main_v15, Cert.FfnBwdRefIdeal.Read.val_main_v14, Cert.FfnBwdRefIdeal.Read.val_main_v13]; simp only [scale_ref]; rfl

/-- The reference's normed rows, taken again for the gradient. -/
theorem normed_ref' (x : Vec Ideal Cert.FfnBwdRefIdeal.S16384x1024 .f32) (g : Vec Ideal Cert.FfnBwdRefIdeal.S1x1024 .f32) (r : Fin 16384) (k : Fin 1024) :
    Cert.FfnBwdRefIdeal.Read.val_main_v40 (F := Ideal) x g (ix2 r k) = normed (fun k => x (ix2 r k)) (fun k => g (ix2 0 k)) k := by
  pointwise [Cert.FfnBwdRefIdeal.Read.val_main_v40, Cert.FfnBwdRefIdeal.Read.val_main_v39, Cert.FfnBwdRefIdeal.Read.val_main_v38, Cert.FfnBwdRefIdeal.Read.val_main_v37]; simp only [scale_ref']; rfl

/-- The reference's gate. -/
theorem gate_ref (x : Vec Ideal Cert.FfnBwdRefIdeal.S16384x1024 .f32) (g : Vec Ideal Cert.FfnBwdRefIdeal.S1x1024 .f32) (wg : Vec Ideal Cert.FfnBwdRefIdeal.S2816x1024 .bf16) (r : Fin 16384) (j : Fin 2816) :
    Cert.FfnBwdRefIdeal.Read.val_main_v17 (F := Ideal) x g wg (ix2 r j) = entry (normed (fun k => x (ix2 r k)) (fun k => g (ix2 0 k))) (fun l => wg (ix2 j l)) := by
  pointwise [Cert.FfnBwdRefIdeal.Read.val_main_v17, Cert.FfnBwdRefIdeal.Read.val_main_v1, Cert.FfnBwdRefIdeal.Read.val_main_v0]; simp only [normed_ref]; rfl

/-- The reference's other factor. -/
theorem up_ref (x : Vec Ideal Cert.FfnBwdRefIdeal.S16384x1024 .f32) (g : Vec Ideal Cert.FfnBwdRefIdeal.S1x1024 .f32) (wu : Vec Ideal Cert.FfnBwdRefIdeal.S2816x1024 .bf16) (r : Fin 16384) (j : Fin 2816) :
    Cert.FfnBwdRefIdeal.Read.val_main_v18 (F := Ideal) x g wu (ix2 r j) = entry (normed (fun k => x (ix2 r k)) (fun k => g (ix2 0 k))) (fun l => wu (ix2 j l)) := by
  pointwise [Cert.FfnBwdRefIdeal.Read.val_main_v18, Cert.FfnBwdRefIdeal.Read.val_main_v3, Cert.FfnBwdRefIdeal.Read.val_main_v2]; simp only [normed_ref]; rfl

/-- The reference's gate, taken again for the gradient. -/
theorem gate_ref' (x : Vec Ideal Cert.FfnBwdRefIdeal.S16384x1024 .f32) (g : Vec Ideal Cert.FfnBwdRefIdeal.S1x1024 .f32) (wg : Vec Ideal Cert.FfnBwdRefIdeal.S2816x1024 .bf16) (r : Fin 16384) (j : Fin 2816) :
    Cert.FfnBwdRefIdeal.Read.val_main_v41 (F := Ideal) x g wg (ix2 r j) = entry (normed (fun k => x (ix2 r k)) (fun k => g (ix2 0 k))) (fun l => wg (ix2 j l)) := by
  pointwise [Cert.FfnBwdRefIdeal.Read.val_main_v41, Cert.FfnBwdRefIdeal.Read.val_main_v1, Cert.FfnBwdRefIdeal.Read.val_main_v0]; simp only [normed_ref']; rfl

/-- The reference's other factor, taken again for the gradient. -/
theorem up_ref' (x : Vec Ideal Cert.FfnBwdRefIdeal.S16384x1024 .f32) (g : Vec Ideal Cert.FfnBwdRefIdeal.S1x1024 .f32) (wu : Vec Ideal Cert.FfnBwdRefIdeal.S2816x1024 .bf16) (r : Fin 16384) (j : Fin 2816) :
    Cert.FfnBwdRefIdeal.Read.val_main_v42 (F := Ideal) x g wu (ix2 r j) = entry (normed (fun k => x (ix2 r k)) (fun k => g (ix2 0 k))) (fun l => wu (ix2 j l)) := by
  pointwise [Cert.FfnBwdRefIdeal.Read.val_main_v42, Cert.FfnBwdRefIdeal.Read.val_main_v3, Cert.FfnBwdRefIdeal.Read.val_main_v2]; simp only [normed_ref']; rfl

/-- The reference's gradient of the gated value. -/
theorem dact_ref (d : Vec Ideal Cert.FfnBwdRefIdeal.S16384x1024 .f32) (wd : Vec Ideal Cert.FfnBwdRefIdeal.S2816x1024 .bf16) (r : Fin 16384) (j : Fin 2816) :
    Cert.FfnBwdRefIdeal.Read.val_main_v22 (F := Ideal) d wd (ix2 r j) = entry (fun k => d (ix2 r k)) (fun l => wd (ix2 j l)) := by
  pointwise [Cert.FfnBwdRefIdeal.Read.val_main_v22, Cert.FfnBwdRefIdeal.Read.val_main_v4]; rfl

/-- The reference's gradient of the gated value, taken again. -/
theorem dact_ref' (d : Vec Ideal Cert.FfnBwdRefIdeal.S16384x1024 .f32) (wd : Vec Ideal Cert.FfnBwdRefIdeal.S2816x1024 .bf16) (r : Fin 16384) (j : Fin 2816) :
    Cert.FfnBwdRefIdeal.Read.val_main_v48 (F := Ideal) d wd (ix2 r j) = entry (fun k => d (ix2 r k)) (fun l => wd (ix2 j l)) := by
  pointwise [Cert.FfnBwdRefIdeal.Read.val_main_v48, Cert.FfnBwdRefIdeal.Read.val_main_v47, Cert.FfnBwdRefIdeal.Read.val_main_v4]; rfl

/-- The reference's gradient of the gate. -/
theorem dgate_ref (d : Vec Ideal Cert.FfnBwdRefIdeal.S16384x1024 .f32) (x : Vec Ideal Cert.FfnBwdRefIdeal.S16384x1024 .f32) (g : Vec Ideal Cert.FfnBwdRefIdeal.S1x1024 .f32) (wg wu wd : Vec Ideal Cert.FfnBwdRefIdeal.S2816x1024 .bf16) (r : Fin 16384) (j : Fin 2816) :
    Cert.FfnBwdRefIdeal.Read.val_main_v77 (F := Ideal) d x g wg wu wd (ix2 r j) = dgateR (entry (fun k => d (ix2 r k)) (fun l => wd (ix2 j l))) (entry (normed (fun k => x (ix2 r k)) (fun k => g (ix2 0 k))) (fun l => wg (ix2 j l))) (entry (normed (fun k => x (ix2 r k)) (fun k => g (ix2 0 k))) (fun l => wu (ix2 j l))) := by
  pointwise [Cert.FfnBwdRefIdeal.Read.val_main_v77, Cert.FfnBwdRefIdeal.Read.val_main_v25, Cert.FfnBwdRefIdeal.Read.val_main_call1_v2, Cert.FfnBwdRefIdeal.Read.val_main_call1_v1, Cert.FfnBwdRefIdeal.Read.val_main_call1_v0, Cert.FfnBwdRefIdeal.Read.val_main_v24, Cert.FfnBwdRefIdeal.Read.val_main_v19_1, Cert.FfnBwdRefIdeal.Read.val_main_v19_2, Cert.FfnBwdRefIdeal.Read.val_main_call0_v7, Cert.FfnBwdRefIdeal.Read.val_main_call0_v6, Cert.FfnBwdRefIdeal.Read.val_main_call0_cst_1, Cert.FfnBwdRefIdeal.Read.val_main_call0_v4, Cert.FfnBwdRefIdeal.Read.val_main_call0_cst_0, Cert.FfnBwdRefIdeal.Read.val_main_call0_v3, Cert.FfnBwdRefIdeal.Read.val_main_call0_v2, Cert.FfnBwdRefIdeal.Read.val_main_call0_cst, Cert.FfnBwdRefIdeal.Read.val_main_call0_v1, Cert.FfnBwdRefIdeal.Read.val_main_call0_v0]
  simp only [gate_ref, up_ref, dact_ref]; rfl

/-- The reference's gradient of the gate, taken again. -/
theorem dgate_ref' (d : Vec Ideal Cert.FfnBwdRefIdeal.S16384x1024 .f32) (x : Vec Ideal Cert.FfnBwdRefIdeal.S16384x1024 .f32) (g : Vec Ideal Cert.FfnBwdRefIdeal.S1x1024 .f32) (wg wu wd : Vec Ideal Cert.FfnBwdRefIdeal.S2816x1024 .bf16) (r : Fin 16384) (j : Fin 2816) :
    Cert.FfnBwdRefIdeal.Read.val_main_v51 (F := Ideal) d x g wg wu wd (ix2 r j) = dgateR (entry (fun k => d (ix2 r k)) (fun l => wd (ix2 j l))) (entry (normed (fun k => x (ix2 r k)) (fun k => g (ix2 0 k))) (fun l => wg (ix2 j l))) (entry (normed (fun k => x (ix2 r k)) (fun k => g (ix2 0 k))) (fun l => wu (ix2 j l))) := by
  pointwise [Cert.FfnBwdRefIdeal.Read.val_main_v51, Cert.FfnBwdRefIdeal.Read.val_main_call3_v2, Cert.FfnBwdRefIdeal.Read.val_main_call3_v1, Cert.FfnBwdRefIdeal.Read.val_main_call3_v0, Cert.FfnBwdRefIdeal.Read.val_main_v50, Cert.FfnBwdRefIdeal.Read.val_main_v43_1, Cert.FfnBwdRefIdeal.Read.val_main_v43_2, Cert.FfnBwdRefIdeal.Read.val_main_call2_v7, Cert.FfnBwdRefIdeal.Read.val_main_call2_v6, Cert.FfnBwdRefIdeal.Read.val_main_call2_cst_1, Cert.FfnBwdRefIdeal.Read.val_main_call2_v4, Cert.FfnBwdRefIdeal.Read.val_main_call2_cst_0, Cert.FfnBwdRefIdeal.Read.val_main_call2_v3, Cert.FfnBwdRefIdeal.Read.val_main_call2_v2, Cert.FfnBwdRefIdeal.Read.val_main_call2_cst, Cert.FfnBwdRefIdeal.Read.val_main_call2_v1, Cert.FfnBwdRefIdeal.Read.val_main_call2_v0]
  simp only [gate_ref', up_ref', dact_ref']; rfl

/-- The reference's gradient of the other factor. -/
theorem dup_ref (d : Vec Ideal Cert.FfnBwdRefIdeal.S16384x1024 .f32) (x : Vec Ideal Cert.FfnBwdRefIdeal.S16384x1024 .f32) (g : Vec Ideal Cert.FfnBwdRefIdeal.S1x1024 .f32) (wg wd : Vec Ideal Cert.FfnBwdRefIdeal.S2816x1024 .bf16) (r : Fin 16384) (j : Fin 2816) :
    Cert.FfnBwdRefIdeal.Read.val_main_v78 (F := Ideal) d x g wg wd (ix2 r j) = dupE (entry (fun k => d (ix2 r k)) (fun l => wd (ix2 j l))) (entry (normed (fun k => x (ix2 r k)) (fun k => g (ix2 0 k))) (fun l => wg (ix2 j l))) := by
  pointwise [Cert.FfnBwdRefIdeal.Read.val_main_v78, Cert.FfnBwdRefIdeal.Read.val_main_v23, Cert.FfnBwdRefIdeal.Read.val_main_v19_0, Cert.FfnBwdRefIdeal.Read.val_main_v19_2, Cert.FfnBwdRefIdeal.Read.val_main_call0_v4, Cert.FfnBwdRefIdeal.Read.val_main_call0_cst_0, Cert.FfnBwdRefIdeal.Read.val_main_call0_v3, Cert.FfnBwdRefIdeal.Read.val_main_call0_v2, Cert.FfnBwdRefIdeal.Read.val_main_call0_cst, Cert.FfnBwdRefIdeal.Read.val_main_call0_v1, Cert.FfnBwdRefIdeal.Read.val_main_call0_v0]
  simp only [gate_ref, dact_ref]; exact mul_comm _ _

/-- The reference's gradient of the other factor, taken again. -/
theorem dup_ref' (d : Vec Ideal Cert.FfnBwdRefIdeal.S16384x1024 .f32) (x : Vec Ideal Cert.FfnBwdRefIdeal.S16384x1024 .f32) (g : Vec Ideal Cert.FfnBwdRefIdeal.S1x1024 .f32) (wg wd : Vec Ideal Cert.FfnBwdRefIdeal.S2816x1024 .bf16) (r : Fin 16384) (j : Fin 2816) :
    Cert.FfnBwdRefIdeal.Read.val_main_v49 (F := Ideal) d x g wg wd (ix2 r j) = dupE (entry (fun k => d (ix2 r k)) (fun l => wd (ix2 j l))) (entry (normed (fun k => x (ix2 r k)) (fun k => g (ix2 0 k))) (fun l => wg (ix2 j l))) := by
  pointwise [Cert.FfnBwdRefIdeal.Read.val_main_v49, Cert.FfnBwdRefIdeal.Read.val_main_v43_0, Cert.FfnBwdRefIdeal.Read.val_main_v43_2, Cert.FfnBwdRefIdeal.Read.val_main_call2_v4, Cert.FfnBwdRefIdeal.Read.val_main_call2_cst_0, Cert.FfnBwdRefIdeal.Read.val_main_call2_v3, Cert.FfnBwdRefIdeal.Read.val_main_call2_v2, Cert.FfnBwdRefIdeal.Read.val_main_call2_cst, Cert.FfnBwdRefIdeal.Read.val_main_call2_v1, Cert.FfnBwdRefIdeal.Read.val_main_call2_v0]
  simp only [gate_ref', dact_ref']; exact mul_comm _ _

/-- The reference's gated value. -/
theorem act_ref (x : Vec Ideal Cert.FfnBwdRefIdeal.S16384x1024 .f32) (g : Vec Ideal Cert.FfnBwdRefIdeal.S1x1024 .f32) (wg wu : Vec Ideal Cert.FfnBwdRefIdeal.S2816x1024 .bf16) (r : Fin 16384) (j : Fin 2816) :
    Cert.FfnBwdRefIdeal.Read.val_main_v79 (F := Ideal) x g wg wu (ix2 r j) = gated (entry (normed (fun k => x (ix2 r k)) (fun k => g (ix2 0 k))) (fun l => wg (ix2 j l))) (entry (normed (fun k => x (ix2 r k)) (fun k => g (ix2 0 k))) (fun l => wu (ix2 j l))) := by
  pointwise [Cert.FfnBwdRefIdeal.Read.val_main_v79, Cert.FfnBwdRefIdeal.Read.val_main_v76, Cert.FfnBwdRefIdeal.Read.val_main_v75, Cert.FfnBwdRefIdeal.Read.val_main_call4_v5, Cert.FfnBwdRefIdeal.Read.val_main_call4_v4, Cert.FfnBwdRefIdeal.Read.val_main_call4_cst_0, Cert.FfnBwdRefIdeal.Read.val_main_call4_v3, Cert.FfnBwdRefIdeal.Read.val_main_call4_v2, Cert.FfnBwdRefIdeal.Read.val_main_call4_cst, Cert.FfnBwdRefIdeal.Read.val_main_call4_v1, Cert.FfnBwdRefIdeal.Read.val_main_call4_v0]
  simp only [gate_ref, up_ref]; rfl

/-- The reference's normed rows as they are returned. -/
theorem rows_ref (x : Vec Ideal Cert.FfnBwdRefIdeal.S16384x1024 .f32) (g : Vec Ideal Cert.FfnBwdRefIdeal.S1x1024 .f32) (r : Fin 16384) (k : Fin 1024) :
    Cert.FfnBwdRefIdeal.Read.val_main_v80 (F := Ideal) x g (ix2 r k) = normed (fun k => x (ix2 r k)) (fun k => g (ix2 0 k)) k := by
  pointwise [Cert.FfnBwdRefIdeal.Read.val_main_v80]; simp only [normed_ref]

/-- The reference's gradient of the normed rows. -/
theorem dh_ref (d : Vec Ideal Cert.FfnBwdRefIdeal.S16384x1024 .f32) (x : Vec Ideal Cert.FfnBwdRefIdeal.S16384x1024 .f32) (g : Vec Ideal Cert.FfnBwdRefIdeal.S1x1024 .f32) (wg wu wd : Vec Ideal Cert.FfnBwdRefIdeal.S2816x1024 .bf16) (r : Fin 16384) (k : Fin 1024) :
    Cert.FfnBwdRefIdeal.Read.val_main_v54 (F := Ideal) d x g wg wu wd (ix2 r k)
      = dhR (fun k => x (ix2 r k)) (fun k => g (ix2 0 k)) (fun k => d (ix2 r k)) (fun j l => wg (ix2 j l)) (fun j l => wu (ix2 j l)) (fun j l => wd (ix2 j l)) k := by
  pointwise [Cert.FfnBwdRefIdeal.Read.val_main_v54, Cert.FfnBwdRefIdeal.Read.val_main_v53, Cert.FfnBwdRefIdeal.Read.val_main_v52, Cert.FfnBwdRefIdeal.Read.val_main_v1, Cert.FfnBwdRefIdeal.Read.val_main_v0, Cert.FfnBwdRefIdeal.Read.val_main_v3, Cert.FfnBwdRefIdeal.Read.val_main_v2]
  simp only [dgate_ref', dup_ref']; exact add_comm _ _

/-- The reference's factor of the inner derivative. -/
theorem inner_ref (d : Vec Ideal Cert.FfnBwdRefIdeal.S16384x1024 .f32) (x : Vec Ideal Cert.FfnBwdRefIdeal.S16384x1024 .f32) (g : Vec Ideal Cert.FfnBwdRefIdeal.S1x1024 .f32) (wg wu wd : Vec Ideal Cert.FfnBwdRefIdeal.S2816x1024 .bf16) (r : Fin 16384) (k : Fin 1024) :
    Cert.FfnBwdRefIdeal.Read.val_main_v70 (F := Ideal) d x g wg wu wd (ix2 r k)
      = inner (fun k => x (ix2 r k)) (fun k => dhR (fun k => x (ix2 r k)) (fun k => g (ix2 0 k)) (fun k => d (ix2 r k)) (fun j l => wg (ix2 j l)) (fun j l => wu (ix2 j l)) (fun j l => wd (ix2 j l)) k * g (ix2 0 k)) := by
  pointwise [Cert.FfnBwdRefIdeal.Read.val_main_v70, Cert.FfnBwdRefIdeal.Read.val_main_v69, Cert.FfnBwdRefIdeal.Read.val_main_v68, Cert.FfnBwdRefIdeal.Read.val_main_v67, Cert.FfnBwdRefIdeal.Read.val_main_v66, Cert.FfnBwdRefIdeal.Read.val_main_v62, Cert.FfnBwdRefIdeal.Read.val_main_v61, Cert.FfnBwdRefIdeal.Read.val_main_v60, Cert.FfnBwdRefIdeal.Read.val_main_v59, Cert.FfnBwdRefIdeal.Read.val_main_v58, Cert.FfnBwdRefIdeal.Read.val_main_v36, Cert.FfnBwdRefIdeal.Read.val_main_v35, Cert.FfnBwdRefIdeal.Read.val_main_v34, Cert.FfnBwdRefIdeal.Read.val_main_cst_5, Cert.FfnBwdRefIdeal.Read.val_main_cst_7, Cert.FfnBwdRefIdeal.Read.val_main_cst_8, Cert.FfnBwdRefIdeal.Read.val_main_cst_9]
  simp only [Fin.sum_univ_one, dh_ref, scale_ref', meanSq_ref]; rfl

/-- The reference's result row. -/
theorem row_ref (d : Vec Ideal Cert.FfnBwdRefIdeal.S16384x1024 .f32) (x : Vec Ideal Cert.FfnBwdRefIdeal.S16384x1024 .f32) (g : Vec Ideal Cert.FfnBwdRefIdeal.S1x1024 .f32) (wg wu wd : Vec Ideal Cert.FfnBwdRefIdeal.S2816x1024 .bf16) (r : Fin 16384) (k : Fin 1024) :
    Cert.FfnBwdRefIdeal.Read.val_main_v74 (F := Ideal) d x g wg wu wd (ix2 r k) = d (ix2 r k)
      + (dhR (fun k => x (ix2 r k)) (fun k => g (ix2 0 k)) (fun k => d (ix2 r k)) (fun j l => wg (ix2 j l)) (fun j l => wu (ix2 j l)) (fun j l => wd (ix2 j l)) k * g (ix2 0 k) * scale (fun k => x (ix2 r k))
        + x (ix2 r k) * inner (fun k => x (ix2 r k)) (fun k => dhR (fun k => x (ix2 r k)) (fun k => g (ix2 0 k)) (fun k => d (ix2 r k)) (fun j l => wg (ix2 j l)) (fun j l => wu (ix2 j l)) (fun j l => wd (ix2 j l)) k * g (ix2 0 k))
        + inner (fun k => x (ix2 r k)) (fun k => dhR (fun k => x (ix2 r k)) (fun k => g (ix2 0 k)) (fun k => d (ix2 r k)) (fun j l => wg (ix2 j l)) (fun j l => wu (ix2 j l)) (fun j l => wd (ix2 j l)) k * g (ix2 0 k)) * x (ix2 r k)) := by
  pointwise [Cert.FfnBwdRefIdeal.Read.val_main_v74, Cert.FfnBwdRefIdeal.Read.val_main_v73, Cert.FfnBwdRefIdeal.Read.val_main_v72, Cert.FfnBwdRefIdeal.Read.val_main_v71, Cert.FfnBwdRefIdeal.Read.val_main_v65, Cert.FfnBwdRefIdeal.Read.val_main_v64, Cert.FfnBwdRefIdeal.Read.val_main_v63, Cert.FfnBwdRefIdeal.Read.val_main_v59, Cert.FfnBwdRefIdeal.Read.val_main_v58]
  simp only [inner_ref, dh_ref, scale_ref', add_assoc]

/-- The gain's gradient at a column, over all rows, from a gradient of the normed rows. -/
def gainSum (d x : Vec Ideal S16384x1024 .f32) (g : Vec Ideal S1x1024 .f32) (wg wu wd : Vec Ideal S2816x1024 .bf16) (k : Fin 1024) : EReal :=
  ∑ r : Fin 16384, x (ix2 r k) * scale (fun k => x (ix2 r k)) * dhR (fun k => x (ix2 r k)) (fun k => g (ix2 0 k)) (fun k => d (ix2 r k)) (fun j l => wg (ix2 j l)) (fun j l => wu (ix2 j l)) (fun j l => wd (ix2 j l)) k

/-- The reference's gradient of the gain. -/
theorem gain_ref (d : Vec Ideal Cert.FfnBwdRefIdeal.S16384x1024 .f32) (x : Vec Ideal Cert.FfnBwdRefIdeal.S16384x1024 .f32) (g : Vec Ideal Cert.FfnBwdRefIdeal.S1x1024 .f32) (wg wu wd : Vec Ideal Cert.FfnBwdRefIdeal.S2816x1024 .bf16) (k : Fin 1024) :
    Cert.FfnBwdRefIdeal.Read.val_main_v57 (F := Ideal) d x g wg wu wd (ix2 0 k) = gainSum d x g wg wu wd k := by
  unfold gainSum
  pointwise [Cert.FfnBwdRefIdeal.Read.val_main_v57, Cert.FfnBwdRefIdeal.Read.val_main_v56, Cert.FfnBwdRefIdeal.Read.val_main_v55, Cert.FfnBwdRefIdeal.Read.val_main_v38, Cert.FfnBwdRefIdeal.Read.val_main_v37, Cert.FfnBwdRefIdeal.Read.val_main_cst_6]
  simp only [dh_ref, scale_ref']

/-- The kernel's scale of a row. -/
theorem scale_block (x : Vec Ideal S256x1024 .f32) (r : Fin 256) :
    k0_pay4 (F := Ideal) x (ix2 r 0) = scale (fun k => x (ix2 r k)) := by
  pointwise [k0_pay4]; rfl

/-- The kernel's rows before the gain. -/
theorem scaled_block (x : Vec Ideal S256x1024 .f32) (r : Fin 256) (k : Fin 1024) :
    k0_pay5 (F := Ideal) x (ix2 r k) = x (ix2 r k) * scale (fun k => x (ix2 r k)) := by
  pointwise [k0_pay5]; simp only [scale_block]

/-- The kernel's normed rows. -/
theorem normed_block (x : Vec Ideal S256x1024 .f32) (g : Vec Ideal S1x1024 .f32) (r : Fin 256) (k : Fin 1024) :
    k0_pay6 (F := Ideal) x g (ix2 r k) = normed (fun k => x (ix2 r k)) (fun k => g (ix2 0 k)) k := by
  pointwise [k0_pay6]; simp only [scaled_block]; rfl

/-- First part of the gated value's gradient. -/
theorem dact_low (d : Vec Ideal S256x1024 .f32) (w : Vec Ideal S1536x1024 .bf16) (r : Fin 256) (j : Fin 1536) :
    k0_pay8 (F := Ideal) d w (ix2 r j) = entry (fun k => d (ix2 r k)) (fun l => w (ix2 j l)) := by
  pointwise [k0_pay8, k0_pay3]; rfl

/-- Second part of the gated value's gradient. -/
theorem dact_high (d : Vec Ideal S256x1024 .f32) (w : Vec Ideal S1280x1024 .bf16) (r : Fin 256) (j : Fin 1280) :
    k0_pay18 (F := Ideal) (k0_pay3 d) w (ix2 r j) = entry (fun k => d (ix2 r k)) (fun l => w (ix2 j l)) := by
  pointwise [k0_pay18, k0_pay3]; rfl

/-- The gate's gradient, first part. -/
theorem dgate_low (e : FVec Ideal S256x1536 .f32) (a u : Vec Ideal S256x1536 .bf16) (r : Fin 256) (j : Fin 1536) :
    k0_pay15 (F := Ideal) e (k0_pay9 a) (k0_pay10 u) (k0_pay11 a) (ix2 r j) = dgateE (e (ix2 r j)) (a (ix2 r j)) (u (ix2 r j)) := by
  pointwise [k0_pay15, k0_pay9, k0_pay10, k0_pay11]; simp only [zero_minus]; rfl

/-- The gate's gradient, second part. -/
theorem dgate_high (e : FVec Ideal S256x1280 .f32) (a u : Vec Ideal S256x1280 .bf16) (r : Fin 256) (j : Fin 1280) :
    k0_pay25 (F := Ideal) e (k0_pay19 a) (k0_pay20 u) (k0_pay21 a) (ix2 r j) = dgateE (e (ix2 r j)) (a (ix2 r j)) (u (ix2 r j)) := by
  pointwise [k0_pay25, k0_pay22, k0_pay19, k0_pay20, k0_pay21]; simp only [zero_minus]; rfl

/-- The other factor's gradient, first part. -/
theorem dup_low (e : FVec Ideal S256x1536 .f32) (a : Vec Ideal S256x1536 .bf16) (r : Fin 256) (j : Fin 1536) :
    k0_pay16 (F := Ideal) e (k0_pay12 a) (ix2 r j) = dupE (e (ix2 r j)) (a (ix2 r j)) := by
  pointwise [k0_pay16, k0_pay12, k0_pay9, k0_pay11]; simp only [zero_minus]; rfl

/-- The other factor's gradient, second part. -/
theorem dup_high (e : FVec Ideal S256x1280 .f32) (a : Vec Ideal S256x1280 .bf16) (r : Fin 256) (j : Fin 1280) :
    k0_pay26 (F := Ideal) e (k0_pay19 a) (k0_pay21 a) (ix2 r j) = dupE (e (ix2 r j)) (a (ix2 r j)) := by
  pointwise [k0_pay26, k0_pay23, k0_pay22, k0_pay19, k0_pay21]; simp only [zero_minus]; rfl

/-- The gated value, first part. -/
theorem act_low (a u : Vec Ideal S256x1536 .bf16) (r : Fin 256) (j : Fin 1536) :
    k0_pay14 (F := Ideal) (k0_pay13 a u) (ix2 r j) = gated (a (ix2 r j)) (u (ix2 r j)) := by
  pointwise [k0_pay14, k0_pay13, k0_pay12, k0_pay9, k0_pay10, k0_pay11]; simp only [zero_minus]; rfl

/-- The gated value, second part. -/
theorem act_high (a u : Vec Ideal S256x1280 .bf16) (r : Fin 256) (j : Fin 1280) :
    k0_pay24 (F := Ideal) (k0_pay19 a) (k0_pay20 u) (k0_pay21 a) (ix2 r j) = gated (a (ix2 r j)) (u (ix2 r j)) := by
  pointwise [k0_pay24, k0_pay23, k0_pay22, k0_pay19, k0_pay20, k0_pay21]; simp only [zero_minus]; rfl

/-- The normed rows' gradient: the first parts of both products. -/
theorem dh_low (e : FVec Ideal S256x1536 .f32) (a u : Vec Ideal S256x1536 .bf16) (w1 w2 : Vec Ideal S1536x1024 .bf16) (r : Fin 256) (k : Fin 1024) :
    k0_pay17 (F := Ideal) k0_pay7 e (k0_pay9 a) (k0_pay10 u) (k0_pay11 a) (k0_pay12 a) w1 w2 (ix2 r k)
      = (∑ j, dgateE (e (ix2 r j)) (a (ix2 r j)) (u (ix2 r j)) * w1 (ix2 j k)) + ∑ j, dupE (e (ix2 r j)) (a (ix2 r j)) * w2 (ix2 j k) := by
  pointwise [k0_pay17, k0_pay7]; simp only [dgate_low, dup_low]

/-- The normed rows' gradient: the second parts added. -/
theorem dh_high (v : FVec Ideal S256x1024 .f32) (e : FVec Ideal S256x1280 .f32) (a u : Vec Ideal S256x1280 .bf16) (w1 w2 : Vec Ideal S1280x1024 .bf16) (r : Fin 256) (k : Fin 1024) :
    k0_pay27 (F := Ideal) v e (k0_pay19 a) (k0_pay20 u) (k0_pay21 a) w1 w2 (ix2 r k)
      = v (ix2 r k) + (∑ j, dgateE (e (ix2 r j)) (a (ix2 r j)) (u (ix2 r j)) * w1 (ix2 j k)) + ∑ j, dupE (e (ix2 r j)) (a (ix2 r j)) * w2 (ix2 j k) := by
  pointwise [k0_pay27]; simp only [dgate_high, dup_high]

/-- The zero row stored at the first point. -/
theorem zero_row (k : Fin 1024) : k0_pay1 (F := Ideal) (ix2 0 k) = 0 := by
  pointwise [k0_pay1]

/-- One point's step of the gain's gradient. -/
theorem gain_step (a d : FVec Ideal S256x1024 .f32) (o : Vec Ideal S1x1024 .f32) (k : Fin 1024) :
    k0_pay2 (F := Ideal) a d o (ix2 0 k) = o (ix2 0 k) + ∑ r, d (ix2 r k) * a (ix2 r k) := by
  pointwise [k0_pay2]

/-- The stored row, from the normed rows' gradient. -/
theorem row_block (d x : Vec Ideal S256x1024 .f32) (g : Vec Ideal S1x1024 .f32) (v : FVec Ideal S256x1024 .f32) (e c1 c2 c3 : FVec Ideal S256x1280 .f32) (w1 w2 : Vec Ideal S1280x1024 .bf16) (r : Fin 256) (k : Fin 1024) :
    k0_pay28 (F := Ideal) d (k0_pay4 x) (k0_pay5 x) g v e c1 c2 c3 w1 w2 (ix2 r k)
      = d (ix2 r k) + back (fun k => x (ix2 r k)) (fun k => k0_pay27 (F := Ideal) v e c1 c2 c3 w1 w2 (ix2 r k) * g (ix2 0 k)) k := by
  pointwise [k0_pay28]; simp only [scaled_block, scale_block]; rfl

/-- The gate's array as the region finds it is the reference's gate. -/
theorem V_gate (c : Dev nD) : (V m c main_v15 : Vec Ideal S16384x2816 .bf16) = Cert.FfnBwdRefIdeal.Read.val_main_v17 (F := Ideal) (m ((c : Thread nD τ).loc main_arg1)) (m ((c : Thread nD τ).loc main_arg2)) (m ((c : Thread nD τ).loc main_arg3)) := by
  show StableHlo.after hostOps0 (fun b => m (c, b)) main_v15 = _
  unfold hostOps0
  after_results_simp
  rfl

/-- The other factor's array as the region finds it is the reference's. -/
theorem V_up (c : Dev nD) : (V m c main_v19 : Vec Ideal S16384x2816 .bf16) = Cert.FfnBwdRefIdeal.Read.val_main_v18 (F := Ideal) (m ((c : Thread nD τ).loc main_arg1)) (m ((c : Thread nD τ).loc main_arg2)) (m ((c : Thread nD τ).loc main_arg4)) := by
  show StableHlo.after hostOps0 (fun b => m (c, b)) main_v19 = _
  unfold hostOps0
  after_results_simp
  rfl

/-- The block of window 0 at each point. -/
theorem rows_0 : ∀ t : Fin cfg0.N, win0_0.index t = ![t.val, 0] := (by decide +kernel : ∀ t : Fin grid0.N, _)
/-- The block of window 1 at each point. -/
theorem rows_1 : ∀ t : Fin cfg0.N, win0_1.index t = ![t.val, 0] := (by decide +kernel : ∀ t : Fin grid0.N, _)
/-- The block of window 2 at each point. -/
theorem rows_2 : ∀ t : Fin cfg0.N, win0_2.index t = ![0, 0] := (by decide +kernel : ∀ t : Fin grid0.N, _)
/-- The block of window 3 at each point. -/
theorem rows_3 : ∀ t : Fin cfg0.N, win0_3.index t = ![t.val, 0] := (by decide +kernel : ∀ t : Fin grid0.N, _)
/-- The block of window 4 at each point. -/
theorem rows_4 : ∀ t : Fin cfg0.N, win0_4.index t = ![t.val, 0] := (by decide +kernel : ∀ t : Fin grid0.N, _)
/-- The block of window 5 at each point. -/
theorem rows_5 : ∀ t : Fin cfg0.N, win0_5.index t = ![0, 0] := (by decide +kernel : ∀ t : Fin grid0.N, _)
/-- The block of window 6 at each point. -/
theorem rows_6 : ∀ t : Fin cfg0.N, win0_6.index t = ![0, 0] := (by decide +kernel : ∀ t : Fin grid0.N, _)
/-- The block of window 7 at each point. -/
theorem rows_7 : ∀ t : Fin cfg0.N, win0_7.index t = ![0, 0] := (by decide +kernel : ∀ t : Fin grid0.N, _)
/-- The block of window 8 at each point. -/
theorem rows_8 : ∀ t : Fin cfg0.N, win0_8.index t = ![t.val, 0] := (by decide +kernel : ∀ t : Fin grid0.N, _)
/-- The block of window 9 at each point. -/
theorem rows_9 : ∀ t : Fin cfg0.N, win0_9.index t = ![t.val, 0] := (by decide +kernel : ∀ t : Fin grid0.N, _)
/-- The block of window 10 at each point. -/
theorem rows_10 : ∀ t : Fin cfg0.N, win0_10.index t = ![t.val, 0] := (by decide +kernel : ∀ t : Fin grid0.N, _)
/-- The block of window 11 at each point. -/
theorem rows_11 : ∀ t : Fin cfg0.N, win0_11.index t = ![t.val, 0] := (by decide +kernel : ∀ t : Fin grid0.N, _)
/-- The block of window 12 at each point. -/
theorem rows_12 : ∀ t : Fin cfg0.N, win0_12.index t = ![t.val, 0] := (by decide +kernel : ∀ t : Fin grid0.N, _)
/-- The block of window 13 at each point. -/
theorem rows_13 : ∀ t : Fin cfg0.N, win0_13.index t = ![0, 0] := (by decide +kernel : ∀ t : Fin grid0.N, _)

/-- Row `r` of the block at point `t`, as a row of the whole array. -/
def row (t : Fin cfg0.N) (r : Fin 256) : Fin 16384 :=
  ⟨t.val * 256 + r.val, by have : t.val < 64 := lt_of_lt_of_eq t.isLt N_0; omega⟩

/-- An entry of the block of the incoming gradient. -/
theorem d_at (c : Dev nD) (t : Fin cfg0.N) (r : Fin 256) (k : Fin 1024) :
    (iblk m c 0 t : Vec Ideal S256x1024 .f32) (ix2 r k) = m ((c : Thread nD τ).loc main_arg0) (ix2 (row t r) k) := by
  blk_ext [iblk, V_main_arg0, rows_0 t, row]
/-- An entry of the block of the norm's input. -/
theorem x_at (c : Dev nD) (t : Fin cfg0.N) (r : Fin 256) (k : Fin 1024) :
    (iblk m c 1 t : Vec Ideal S256x1024 .f32) (ix2 r k) = m ((c : Thread nD τ).loc main_arg1) (ix2 (row t r) k) := by
  blk_ext [iblk, V_main_arg1, rows_1 t, row]
/-- An entry of the block of the gain. -/
theorem g_at (c : Dev nD) (t : Fin cfg0.N) (r : Fin 1) (k : Fin 1024) :
    (iblk m c 2 t : Vec Ideal S1x1024 .f32) (ix2 r k) = m ((c : Thread nD τ).loc main_arg2) (ix2 r k) := by
  blk_ext [iblk, V_main_arg2, rows_2 t]
/-- An entry of the block of the first matrix. -/
theorem wg_at (c : Dev nD) (t : Fin cfg0.N) (r : Fin 2816) (k : Fin 1024) :
    (iblk m c 5 t : Vec Ideal S2816x1024 .bf16) (ix2 r k) = m ((c : Thread nD τ).loc main_arg3) (ix2 r k) := by
  blk_ext [iblk, V_main_arg3, rows_5 t]
/-- An entry of the block of the second matrix. -/
theorem wu_at (c : Dev nD) (t : Fin cfg0.N) (r : Fin 2816) (k : Fin 1024) :
    (iblk m c 6 t : Vec Ideal S2816x1024 .bf16) (ix2 r k) = m ((c : Thread nD τ).loc main_arg4) (ix2 r k) := by
  blk_ext [iblk, V_main_arg4, rows_6 t]
/-- An entry of the block of the third matrix. -/
theorem wd_at (c : Dev nD) (t : Fin cfg0.N) (r : Fin 2816) (k : Fin 1024) :
    (iblk m c 7 t : Vec Ideal S2816x1024 .bf16) (ix2 r k) = m ((c : Thread nD τ).loc main_arg5) (ix2 r k) := by
  blk_ext [iblk, V_main_arg5, rows_7 t]
/-- An entry of the block of the gate. -/
theorem gate_at (c : Dev nD) (t : Fin cfg0.N) (r : Fin 256) (j : Fin 2816) :
    (iblk m c 3 t : Vec Ideal S256x2816 .bf16) (ix2 r j)
      = entry (normed (fun k => m ((c : Thread nD τ).loc main_arg1) (ix2 (row t r) k)) (fun k => m ((c : Thread nD τ).loc main_arg2) (ix2 0 k))) (fun l => m ((c : Thread nD τ).loc main_arg3) (ix2 j l)) := by
  rw [← gate_ref]
  blk_ext [iblk, V_gate, rows_3 t, row]
/-- An entry of the block of the up. -/
theorem up_at (c : Dev nD) (t : Fin cfg0.N) (r : Fin 256) (j : Fin 2816) :
    (iblk m c 4 t : Vec Ideal S256x2816 .bf16) (ix2 r j)
      = entry (normed (fun k => m ((c : Thread nD τ).loc main_arg1) (ix2 (row t r) k)) (fun k => m ((c : Thread nD τ).loc main_arg2) (ix2 0 k))) (fun l => m ((c : Thread nD τ).loc main_arg4) (ix2 j l)) := by
  rw [← up_ref]
  blk_ext [iblk, V_up, rows_4 t, row]

/-- The two column ranges of a stored block hold every column. -/
theorem columns (w1 : Vec Ideal S256x1280 .bf16) (w2 : Vec Ideal S256x1536 .bf16) (y : S256x2816.Idx) :
    ∃ p ∈ ([⟨Rect.unit ![0, 1536] ![256, 1280] inb_S256x2816_S256x1280_0_1536, w1⟩,
        ⟨Rect.unit ![0, 0] ![256, 1536] inb_S256x2816_S256x1536_0_0, w2⟩] : List (View.Piece (Elt Ideal) S256x2816 .bf16)), y ∈ p.1.set := by
  have h0 : (y 0).val < 256 := (y 0).isLt
  have h1 : (y 1).val < 2816 := (y 1).isLt
  by_cases h : (y 1).val < 1536
  · refine ⟨_, List.mem_cons_of_mem _ List.mem_cons_self, ?_⟩
    show y ∈ (Rect.unit (s := S256x2816) ![0, 0] ![256, 1536] inb_S256x2816_S256x1536_0_0).set
    exact Rect.mem_set_unit.mpr (fun a => by match a with | ⟨0, _⟩ => exact ⟨Nat.zero_le _, by simpa using h0⟩ | ⟨1, _⟩ => exact ⟨Nat.zero_le _, by simpa using h⟩)
  · refine ⟨_, List.mem_cons_self, ?_⟩
    show y ∈ (Rect.unit (s := S256x2816) ![0, 1536] ![256, 1280] inb_S256x2816_S256x1280_0_1536).set
    exact Rect.mem_set_unit.mpr (fun a => by match a with | ⟨0, _⟩ => exact ⟨Nat.zero_le _, by simpa using h0⟩ | ⟨1, _⟩ => exact ⟨Nat.le_of_not_lt h, h1⟩)

/-- The first 1536 rows of a matrix. -/
def lowRows (w : Vec Ideal S2816x1024 .bf16) : Vec Ideal S1536x1024 .bf16 := View.ld (Val := Elt Ideal) w (Rect.unit (s := S2816x1024) ![0, 0] ![1536, 1024] inb_S2816x1024_S1536x1024_0_0)
/-- The other 1280 rows of a matrix. -/
def highRows (w : Vec Ideal S2816x1024 .bf16) : Vec Ideal S1280x1024 .bf16 := View.ld (Val := Elt Ideal) w (Rect.unit (s := S2816x1024) ![1536, 0] ![1280, 1024] inb_S2816x1024_S1280x1024_1536_0)
/-- The first 1536 columns of a block. -/
def lowCols (w : Vec Ideal S256x2816 .bf16) : Vec Ideal S256x1536 .bf16 := View.ld (Val := Elt Ideal) w (Rect.unit (s := S256x2816) ![0, 0] ![256, 1536] inb_S256x2816_S256x1536_0_0)
/-- The other 1280 columns of a block. -/
def highCols (w : Vec Ideal S256x2816 .bf16) : Vec Ideal S256x1280 .bf16 := View.ld (Val := Elt Ideal) w (Rect.unit (s := S256x2816) ![0, 1536] ![256, 1280] inb_S256x2816_S256x1280_0_1536)
/-- An entry of the first 1536 rows. -/
theorem low_at (w : Vec Ideal S2816x1024 .bf16) (j : Fin 1536) (l : Fin 1024) : lowRows w (ix2 j l) = w (ix2 (low j) l) :=
  View.ld_unit_apply_of w _ _ _ _ _ (fun a => by match a with | ⟨0, _⟩ => simp [low] <;> rfl | ⟨1, _⟩ => simp)
/-- An entry of the other 1280 rows. -/
theorem high_at (w : Vec Ideal S2816x1024 .bf16) (j : Fin 1280) (l : Fin 1024) : highRows w (ix2 j l) = w (ix2 (high j) l) :=
  View.ld_unit_apply_of w _ _ _ _ _ (fun a => by match a with | ⟨0, _⟩ => simp [high] <;> rfl | ⟨1, _⟩ => simp)
/-- An entry of the first 1536 columns. -/
theorem lowc_at (w : Vec Ideal S256x2816 .bf16) (r : Fin 256) (j : Fin 1536) : lowCols w (ix2 r j) = w (ix2 r (low j)) :=
  View.ld_unit_apply_of w _ _ _ _ _ (fun a => by match a with | ⟨0, _⟩ => simp | ⟨1, _⟩ => simp [low] <;> rfl)
/-- An entry of the other 1280 columns. -/
theorem highc_at (w : Vec Ideal S256x2816 .bf16) (r : Fin 256) (j : Fin 1280) : highCols w (ix2 r j) = w (ix2 r (high j)) :=
  View.ld_unit_apply_of w _ _ _ _ _ (fun a => by match a with | ⟨0, _⟩ => simp | ⟨1, _⟩ => simp [high] <;> rfl)

/-- The normed rows' gradient from rows of the gated value's gradient, the gate and the other factor. -/
def dhB (e a u : Fin 2816 → EReal) (wg wu : Fin 2816 → Fin 1024 → EReal) (k : Fin 1024) : EReal :=
  (∑ j, dgateE (e j) (a j) (u j) * wg j k) + ∑ j, dupE (e j) (a j) * wu j k

/-- The kernel's gradient of the normed rows, from its blocks. -/
theorem dh_read (d : Vec Ideal S256x1024 .f32) (a u : Vec Ideal S256x2816 .bf16) (wg wu wd : Vec Ideal S2816x1024 .bf16) (r : Fin 256) (k : Fin 1024) :
    k0_pay27 (F := Ideal) (k0_pay17 (F := Ideal) k0_pay7 (k0_pay8 d (lowRows wd)) (k0_pay9 (lowCols a)) (k0_pay10 (lowCols u)) (k0_pay11 (lowCols a)) (k0_pay12 (lowCols a)) (lowRows wg) (lowRows wu)) (k0_pay18 (k0_pay3 d) (highRows wd)) (k0_pay19 (highCols a)) (k0_pay20 (highCols u)) (k0_pay21 (highCols a)) (highRows wg) (highRows wu) (ix2 r k)
      = dhB (fun j => entry (fun k => d (ix2 r k)) (fun l => wd (ix2 j l))) (fun j => a (ix2 r j)) (fun j => u (ix2 r j)) (fun j l => wg (ix2 j l)) (fun j l => wu (ix2 j l)) k := by
  rw [dh_high, dh_low]; unfold dhB; rw [sum_cut, sum_cut]
  simp only [dact_low, dact_high, low_at, high_at, lowc_at, highc_at]
  rw [add_assoc]; exact add_add_add_comm _ _ _ _

/-- The stored row in terms of the blocks' entries. -/
def rowB (d x : Vec Ideal S256x1024 .f32) (g : Vec Ideal S1x1024 .f32) (a u : Vec Ideal S256x2816 .bf16) (wg wu wd : Vec Ideal S2816x1024 .bf16) (r : Fin 256) (k : Fin 1024) : EReal :=
  d (ix2 r k) + back (fun k => x (ix2 r k)) (fun k => dhB (fun j => entry (fun k => d (ix2 r k)) (fun l => wd (ix2 j l))) (fun j => a (ix2 r j)) (fun j => u (ix2 r j)) (fun j l => wg (ix2 j l)) (fun j l => wu (ix2 j l)) k * g (ix2 0 k)) k

/-- The stored row, from the kernel's blocks. -/
theorem row_read (d x : Vec Ideal S256x1024 .f32) (g : Vec Ideal S1x1024 .f32) (a u : Vec Ideal S256x2816 .bf16) (wg wu wd : Vec Ideal S2816x1024 .bf16) (r : Fin 256) (k : Fin 1024) :
    k0_pay28 (F := Ideal) d (k0_pay4 x) (k0_pay5 x) g (k0_pay17 (F := Ideal) k0_pay7 (k0_pay8 d (lowRows wd)) (k0_pay9 (lowCols a)) (k0_pay10 (lowCols u)) (k0_pay11 (lowCols a)) (k0_pay12 (lowCols a)) (lowRows wg) (lowRows wu)) (k0_pay18 (k0_pay3 d) (highRows wd)) (k0_pay19 (highCols a)) (k0_pay20 (highCols u)) (k0_pay21 (highCols a)) (highRows wg) (highRows wu) (ix2 r k)
      = rowB d x g a u wg wu wd r k := by
  unfold rowB
  rw [row_block]; simp only [dh_read]

/-- The gate's gradient in the first columns, from the kernel's blocks. -/
theorem dgate_low_read (d : Vec Ideal S256x1024 .f32) (a u : Vec Ideal S256x2816 .bf16) (wd : Vec Ideal S2816x1024 .bf16) (r : Fin 256) (j : Fin 1536) :
    k0_pay15 (F := Ideal) (k0_pay8 d (lowRows wd)) (k0_pay9 (lowCols a)) (k0_pay10 (lowCols u)) (k0_pay11 (lowCols a)) (ix2 r j)
      = dgateE (entry (fun k => d (ix2 r k)) (fun l => wd (ix2 (low j) l))) (a (ix2 r (low j))) (u (ix2 r (low j))) := by
  rw [dgate_low]; simp only [dact_low, low_at, lowc_at]
/-- The gate's gradient in the other columns, from the kernel's blocks. -/
theorem dgate_high_read (d : Vec Ideal S256x1024 .f32) (a u : Vec Ideal S256x2816 .bf16) (wd : Vec Ideal S2816x1024 .bf16) (r : Fin 256) (j : Fin 1280) :
    k0_pay25 (F := Ideal) (k0_pay18 (k0_pay3 d) (highRows wd)) (k0_pay19 (highCols a)) (k0_pay20 (highCols u)) (k0_pay21 (highCols a)) (ix2 r j)
      = dgateE (entry (fun k => d (ix2 r k)) (fun l => wd (ix2 (high j) l))) (a (ix2 r (high j))) (u (ix2 r (high j))) := by
  rw [dgate_high]; simp only [dact_high, high_at, highc_at]
/-- The other factor's gradient in the first columns, from the kernel's blocks. -/
theorem dup_low_read (d : Vec Ideal S256x1024 .f32) (a : Vec Ideal S256x2816 .bf16) (wd : Vec Ideal S2816x1024 .bf16) (r : Fin 256) (j : Fin 1536) :
    k0_pay16 (F := Ideal) (k0_pay8 d (lowRows wd)) (k0_pay12 (lowCols a)) (ix2 r j)
      = dupE (entry (fun k => d (ix2 r k)) (fun l => wd (ix2 (low j) l))) (a (ix2 r (low j))) := by
  rw [dup_low]; simp only [dact_low, low_at, lowc_at]
/-- The other factor's gradient in the other columns, from the kernel's blocks. -/
theorem dup_high_read (d : Vec Ideal S256x1024 .f32) (a : Vec Ideal S256x2816 .bf16) (wd : Vec Ideal S2816x1024 .bf16) (r : Fin 256) (j : Fin 1280) :
    k0_pay26 (F := Ideal) (k0_pay18 (k0_pay3 d) (highRows wd)) (k0_pay19 (highCols a)) (k0_pay21 (highCols a)) (ix2 r j)
      = dupE (entry (fun k => d (ix2 r k)) (fun l => wd (ix2 (high j) l))) (a (ix2 r (high j))) := by
  rw [dup_high]; simp only [dact_high, high_at, highc_at]
/-- The gated value in the first columns, from the kernel's blocks. -/
theorem act_low_read (a u : Vec Ideal S256x2816 .bf16) (r : Fin 256) (j : Fin 1536) :
    k0_pay14 (F := Ideal) (k0_pay13 (lowCols a) (lowCols u)) (ix2 r j) = gated (a (ix2 r (low j))) (u (ix2 r (low j))) := by
  rw [act_low]; simp only [lowc_at]
/-- The gated value in the other columns, from the kernel's blocks. -/
theorem act_high_read (a u : Vec Ideal S256x2816 .bf16) (r : Fin 256) (j : Fin 1280) :
    k0_pay24 (F := Ideal) (k0_pay19 (highCols a)) (k0_pay20 (highCols u)) (k0_pay21 (highCols a)) (ix2 r j) = gated (a (ix2 r (high j))) (u (ix2 r (high j))) := by
  rw [act_high]; simp only [highc_at]

/-- Every entry of the arguments is a real number. -/
def Reals (c : Dev nD) : Prop :=
  (∀ i, IsReal ((m ((c : Thread nD τ).loc main_arg0) : Vec Ideal S16384x1024 .f32) i))
    ∧ (∀ i, IsReal ((m ((c : Thread nD τ).loc main_arg1) : Vec Ideal S16384x1024 .f32) i))
    ∧ (∀ i, IsReal ((m ((c : Thread nD τ).loc main_arg2) : Vec Ideal S1x1024 .f32) i))
    ∧ (∀ i, IsReal ((m ((c : Thread nD τ).loc main_arg3) : Vec Ideal S2816x1024 .bf16) i))
    ∧ (∀ i, IsReal ((m ((c : Thread nD τ).loc main_arg4) : Vec Ideal S2816x1024 .bf16) i))
    ∧ (∀ i, IsReal ((m ((c : Thread nD τ).loc main_arg5) : Vec Ideal S2816x1024 .bf16) i))

/-- A real row times a real row is real. -/
theorem entry_real {h w : Fin 1024 → EReal} (hh : ∀ k, IsReal (h k)) (hw : ∀ k, IsReal (w k)) : IsReal (entry h w) :=
  sum fun k => mul (hh k) (hw k)

/-- One. -/
theorem one_real : IsReal (1 : EReal) := ⟨1, EReal.coe_one.symm⟩

/-- The gate's gradient of reals is real. -/
theorem dgateR_real {d a u : EReal} (hd : IsReal d) (ha : IsReal a) (hu : IsReal u) : IsReal (dgateR d a u) :=
  add (mul (mul hd hu) (sig_real ha)) (mul (mul ha (mul hd hu)) (mul (sig_real ha) (sub one_real (sig_real ha))))

/-- The other factor's gradient of reals is real. -/
theorem dupE_real {d a : EReal} (hd : IsReal d) (ha : IsReal a) : IsReal (dupE d a) := mul hd (mul ha (sig_real ha))

/-- The two forms of the gate's gradient. -/
theorem dgate_eq {d a u : EReal} (hd : IsReal d) (ha : IsReal a) (hu : IsReal u) : dgateE d a u = dgateR d a u := gate_back hd hu ha

/-- The two forms of the norm's gradient. -/
theorem back_eq {x d : Fin 1024 → EReal} (hx : ∀ k, IsReal (x k)) (hd : ∀ k, IsReal (d k)) (k : Fin 1024) :
    back x d k = d k * scale x + x k * inner x d + inner x d * x k := norm_back hx hd k

/-- The normed rows' gradient, at a point's row, is the reference's. -/
theorem dh_eq {x g d : Fin 1024 → EReal} {wg wu wd : Fin 2816 → Fin 1024 → EReal} (hx : ∀ k, IsReal (x k)) (hg : ∀ k, IsReal (g k)) (hd : ∀ k, IsReal (d k))
    (h1 : ∀ j k, IsReal (wg j k)) (h2 : ∀ j k, IsReal (wu j k)) (h3 : ∀ j k, IsReal (wd j k)) (k : Fin 1024) :
    dhB (fun j => entry d (wd j)) (fun j => entry (normed x g) (wg j)) (fun j => entry (normed x g) (wu j)) wg wu k = dhR x g d wg wu wd k := by
  unfold dhB dhR
  simp only [fun j => dgate_eq (entry_real hd (h3 j)) (entry_real (normed_real hx hg) (h1 j)) (entry_real (normed_real hx hg) (h2 j))]

/-- The normed rows' gradient is real. -/
theorem dhR_real {x g d : Fin 1024 → EReal} {wg wu wd : Fin 2816 → Fin 1024 → EReal} (hx : ∀ k, IsReal (x k)) (hg : ∀ k, IsReal (g k)) (hd : ∀ k, IsReal (d k))
    (h1 : ∀ j k, IsReal (wg j k)) (h2 : ∀ j k, IsReal (wu j k)) (h3 : ∀ j k, IsReal (wd j k)) (k : Fin 1024) : IsReal (dhR x g d wg wu wd k) :=
  add (sum fun j => mul (dgateR_real (entry_real hd (h3 j)) (entry_real (normed_real hx hg) (h1 j)) (entry_real (normed_real hx hg) (h2 j))) (h1 j k))
    (sum fun j => mul (dupE_real (entry_real hd (h3 j)) (entry_real (normed_real hx hg) (h1 j))) (h2 j k))

/-- The gate's gradient's array. -/
theorem dgate_result (c : Dev nD) (hr : Reals m c) : (dats m 0 c).arrAt 9 cfg0.N
    = Cert.FfnBwdRefIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  obtain ⟨r, l, rfl⟩ : ∃ r l, y = ix2 r l := ⟨y 0, y 1, (ix2_eta y).symm⟩
  blk_simp
  have he : ((win0_9.blk t).view.emb (ix2 r l) : S16384x2816.Idx) = ix2 (row t r) l := by
    blk_ext [rows_9 t, row]
  rw [he, after0_9, dgate_ref]
  by_cases h : t.val % 64 = 0
  · rw [outsAt0_A m c t h]; frame_out
    canon_tiles x h using columns _ _ _
    · obtain ⟨a, b, rfl⟩ : ∃ a b, x = ix2 a b := ⟨x 0, x 1, (ix2_eta x).symm⟩
      obtain rfl : r = a := Fin.ext h0
      obtain rfl : l = high b := Fin.ext h1
      refine (dgate_high_read (iblk m c 0 t) (iblk m c 3 t) (iblk m c 4 t) (iblk m c 7 t) r b).trans ?_
      simp only [d_at, wd_at, gate_at, up_at]
      rw [dgate_eq (entry_real (fun _ => hr.1 _) (fun _ => hr.2.2.2.2.2 _)) (entry_real (normed_real (fun _ => hr.2.1 _) (fun _ => hr.2.2.1 _)) (fun _ => hr.2.2.2.1 _)) (entry_real (normed_real (fun _ => hr.2.1 _) (fun _ => hr.2.2.1 _)) (fun _ => hr.2.2.2.2.1 _))]
    · obtain ⟨a, b, rfl⟩ : ∃ a b, x = ix2 a b := ⟨x 0, x 1, (ix2_eta x).symm⟩
      obtain rfl : r = a := Fin.ext h0
      obtain rfl : l = low b := Fin.ext h1
      refine (dgate_low_read (iblk m c 0 t) (iblk m c 3 t) (iblk m c 4 t) (iblk m c 7 t) r b).trans ?_
      simp only [d_at, wd_at, gate_at, up_at]
      rw [dgate_eq (entry_real (fun _ => hr.1 _) (fun _ => hr.2.2.2.2.2 _)) (entry_real (normed_real (fun _ => hr.2.1 _) (fun _ => hr.2.2.1 _)) (fun _ => hr.2.2.2.1 _)) (entry_real (normed_real (fun _ => hr.2.1 _) (fun _ => hr.2.2.1 _)) (fun _ => hr.2.2.2.2.1 _))]
  · rw [outsAt0_B m c t h]; frame_out
    canon_tiles x h using columns _ _ _
    · obtain ⟨a, b, rfl⟩ : ∃ a b, x = ix2 a b := ⟨x 0, x 1, (ix2_eta x).symm⟩
      obtain rfl : r = a := Fin.ext h0
      obtain rfl : l = high b := Fin.ext h1
      refine (dgate_high_read (iblk m c 0 t) (iblk m c 3 t) (iblk m c 4 t) (iblk m c 7 t) r b).trans ?_
      simp only [d_at, wd_at, gate_at, up_at]
      rw [dgate_eq (entry_real (fun _ => hr.1 _) (fun _ => hr.2.2.2.2.2 _)) (entry_real (normed_real (fun _ => hr.2.1 _) (fun _ => hr.2.2.1 _)) (fun _ => hr.2.2.2.1 _)) (entry_real (normed_real (fun _ => hr.2.1 _) (fun _ => hr.2.2.1 _)) (fun _ => hr.2.2.2.2.1 _))]
    · obtain ⟨a, b, rfl⟩ : ∃ a b, x = ix2 a b := ⟨x 0, x 1, (ix2_eta x).symm⟩
      obtain rfl : r = a := Fin.ext h0
      obtain rfl : l = low b := Fin.ext h1
      refine (dgate_low_read (iblk m c 0 t) (iblk m c 3 t) (iblk m c 4 t) (iblk m c 7 t) r b).trans ?_
      simp only [d_at, wd_at, gate_at, up_at]
      rw [dgate_eq (entry_real (fun _ => hr.1 _) (fun _ => hr.2.2.2.2.2 _)) (entry_real (normed_real (fun _ => hr.2.1 _) (fun _ => hr.2.2.1 _)) (fun _ => hr.2.2.2.1 _)) (entry_real (normed_real (fun _ => hr.2.1 _) (fun _ => hr.2.2.1 _)) (fun _ => hr.2.2.2.2.1 _))]

/-- The other factor's gradient's array. -/
theorem dup_result (c : Dev nD) : (dats m 0 c).arrAt 10 cfg0.N
    = Cert.FfnBwdRefIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 10 _ (by decide +kernel) fun t hf y => ?_
  obtain ⟨r, l, rfl⟩ : ∃ r l, y = ix2 r l := ⟨y 0, y 1, (ix2_eta y).symm⟩
  blk_simp
  have he : ((win0_10.blk t).view.emb (ix2 r l) : S16384x2816.Idx) = ix2 (row t r) l := by
    blk_ext [rows_10 t, row]
  rw [he, after0_10, dup_ref]
  by_cases h : t.val % 64 = 0
  · rw [outsAt0_A m c t h]; frame_out
    canon_tiles x h using columns _ _ _
    · obtain ⟨a, b, rfl⟩ : ∃ a b, x = ix2 a b := ⟨x 0, x 1, (ix2_eta x).symm⟩
      obtain rfl : r = a := Fin.ext h0
      obtain rfl : l = high b := Fin.ext h1
      refine (dup_high_read (iblk m c 0 t) (iblk m c 3 t) (iblk m c 7 t) r b).trans ?_
      simp only [d_at, wd_at, gate_at, up_at]
    · obtain ⟨a, b, rfl⟩ : ∃ a b, x = ix2 a b := ⟨x 0, x 1, (ix2_eta x).symm⟩
      obtain rfl : r = a := Fin.ext h0
      obtain rfl : l = low b := Fin.ext h1
      refine (dup_low_read (iblk m c 0 t) (iblk m c 3 t) (iblk m c 7 t) r b).trans ?_
      simp only [d_at, wd_at, gate_at, up_at]
  · rw [outsAt0_B m c t h]; frame_out
    canon_tiles x h using columns _ _ _
    · obtain ⟨a, b, rfl⟩ : ∃ a b, x = ix2 a b := ⟨x 0, x 1, (ix2_eta x).symm⟩
      obtain rfl : r = a := Fin.ext h0
      obtain rfl : l = high b := Fin.ext h1
      refine (dup_high_read (iblk m c 0 t) (iblk m c 3 t) (iblk m c 7 t) r b).trans ?_
      simp only [d_at, wd_at, gate_at, up_at]
    · obtain ⟨a, b, rfl⟩ : ∃ a b, x = ix2 a b := ⟨x 0, x 1, (ix2_eta x).symm⟩
      obtain rfl : r = a := Fin.ext h0
      obtain rfl : l = low b := Fin.ext h1
      refine (dup_low_read (iblk m c 0 t) (iblk m c 3 t) (iblk m c 7 t) r b).trans ?_
      simp only [d_at, wd_at, gate_at, up_at]

/-- The gated values' array. -/
theorem act_result (c : Dev nD) : (dats m 0 c).arrAt 11 cfg0.N
    = Cert.FfnBwdRefIdeal.Read.val_main_v79 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  obtain ⟨r, l, rfl⟩ : ∃ r l, y = ix2 r l := ⟨y 0, y 1, (ix2_eta y).symm⟩
  blk_simp
  have he : ((win0_11.blk t).view.emb (ix2 r l) : S16384x2816.Idx) = ix2 (row t r) l := by
    blk_ext [rows_11 t, row]
  rw [he, after0_11, act_ref]
  by_cases h : t.val % 64 = 0
  · rw [outsAt0_A m c t h]; frame_out
    canon_tiles x h using columns _ _ _
    · obtain ⟨a, b, rfl⟩ : ∃ a b, x = ix2 a b := ⟨x 0, x 1, (ix2_eta x).symm⟩
      obtain rfl : r = a := Fin.ext h0
      obtain rfl : l = high b := Fin.ext h1
      refine (act_high_read (iblk m c 3 t) (iblk m c 4 t) r b).trans ?_
      simp only [d_at, wd_at, gate_at, up_at]
    · obtain ⟨a, b, rfl⟩ : ∃ a b, x = ix2 a b := ⟨x 0, x 1, (ix2_eta x).symm⟩
      obtain rfl : r = a := Fin.ext h0
      obtain rfl : l = low b := Fin.ext h1
      refine (act_low_read (iblk m c 3 t) (iblk m c 4 t) r b).trans ?_
      simp only [d_at, wd_at, gate_at, up_at]
  · rw [outsAt0_B m c t h]; frame_out
    canon_tiles x h using columns _ _ _
    · obtain ⟨a, b, rfl⟩ : ∃ a b, x = ix2 a b := ⟨x 0, x 1, (ix2_eta x).symm⟩
      obtain rfl : r = a := Fin.ext h0
      obtain rfl : l = high b := Fin.ext h1
      refine (act_high_read (iblk m c 3 t) (iblk m c 4 t) r b).trans ?_
      simp only [d_at, wd_at, gate_at, up_at]
    · obtain ⟨a, b, rfl⟩ : ∃ a b, x = ix2 a b := ⟨x 0, x 1, (ix2_eta x).symm⟩
      obtain rfl : r = a := Fin.ext h0
      obtain rfl : l = low b := Fin.ext h1
      refine (act_low_read (iblk m c 3 t) (iblk m c 4 t) r b).trans ?_
      simp only [d_at, wd_at, gate_at, up_at]

/-- The normed rows' array. -/
theorem normed_result (c : Dev nD) : (dats m 0 c).arrAt 12 cfg0.N
    = Cert.FfnBwdRefIdeal.Read.val_main_v80 (F := Ideal) (m ((c : Thread nD τ).loc main_arg1)) (m ((c : Thread nD τ).loc main_arg2)) := by
  refine (dats m 0 c).arrAt_eq_of_covers 12 _ (by decide +kernel) fun t hf y => ?_
  obtain ⟨r, l, rfl⟩ : ∃ r l, y = ix2 r l := ⟨y 0, y 1, (ix2_eta y).symm⟩
  blk_simp
  have he : ((win0_12.blk t).view.emb (ix2 r l) : S16384x1024.Idx) = ix2 (row t r) l := by
    blk_ext [rows_12 t, row]
  rw [he, after0_12, rows_ref]
  have hs : (outsAt0 m c t.val t.isLt).2.2.2.2.1 (ix2 r l) = k0_pay6 (F := Ideal) (iblk m c 1 t) (iblk m c 2 t) (ix2 r l) := by
    by_cases h : t.val % 64 = 0
    · rw [outsAt0_A m c t h]; frame_out
    · rw [outsAt0_B m c t h]; frame_out
  refine hs.trans ((normed_block (iblk m c 1 t) (iblk m c 2 t) r l).trans ?_)
  simp only [x_at, g_at]

/-- The result's array. -/
theorem row_result (c : Dev nD) (hr : Reals m c) : (dats m 0 c).arrAt 8 cfg0.N
    = Cert.FfnBwdRefIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨r, l, rfl⟩ : ∃ r l, y = ix2 r l := ⟨y 0, y 1, (ix2_eta y).symm⟩
  blk_simp
  have he : ((win0_8.blk t).view.emb (ix2 r l) : S16384x1024.Idx) = ix2 (row t r) l := by
    blk_ext [rows_8 t, row]
  rw [he, after0_8, row_ref]
  have hs : (outsAt0 m c t.val t.isLt).1 (ix2 r l) = rowB (iblk m c 0 t) (iblk m c 1 t) (iblk m c 2 t) (iblk m c 3 t) (iblk m c 4 t) (iblk m c 5 t) (iblk m c 6 t) (iblk m c 7 t) r l := by
    by_cases h : t.val % 64 = 0
    · rw [outsAt0_A m c t h]; frame_out
      exact row_read (iblk m c 0 t) (iblk m c 1 t) (iblk m c 2 t) (iblk m c 3 t) (iblk m c 4 t) (iblk m c 5 t) (iblk m c 6 t) (iblk m c 7 t) r l
    · rw [outsAt0_B m c t h]; frame_out
      exact row_read (iblk m c 0 t) (iblk m c 1 t) (iblk m c 2 t) (iblk m c 3 t) (iblk m c 4 t) (iblk m c 5 t) (iblk m c 6 t) (iblk m c 7 t) r l
  refine hs.trans ?_
  unfold rowB
  simp only [d_at, x_at, g_at, gate_at, up_at, wg_at, wu_at, wd_at]
  conv_lhs => enter [2, 2, k, 1]; rw [dh_eq (fun _ => hr.2.1 _) (fun _ => hr.2.2.1 _) (fun _ => hr.1 _) (fun _ _ => hr.2.2.2.1 _) (fun _ _ => hr.2.2.2.2.1 _) (fun _ _ => hr.2.2.2.2.2 _) k]
  rw [back_eq (fun _ => hr.2.1 _) (fun _ => mul (dhR_real (fun _ => hr.2.1 _) (fun _ => hr.2.2.1 _) (fun _ => hr.1 _) (fun _ _ => hr.2.2.2.1 _) (fun _ _ => hr.2.2.2.2.1 _) (fun _ _ => hr.2.2.2.2.2 _) _) (hr.2.2.1 _)) l]

/-- What one point adds to the gain's gradient, from its blocks. -/
def gainPart (d x : Vec Ideal S256x1024 .f32) (a u : Vec Ideal S256x2816 .bf16) (wg wu wd : Vec Ideal S2816x1024 .bf16) (k : Fin 1024) : EReal :=
  ∑ r, dhB (fun j => entry (fun k => d (ix2 r k)) (fun l => wd (ix2 j l))) (fun j => a (ix2 r j)) (fun j => u (ix2 r j)) (fun j l => wg (ix2 j l)) (fun j l => wu (ix2 j l)) k
    * (x (ix2 r k) * scale (fun k => x (ix2 r k)))

/-- What point `t` adds to the gain's gradient. -/
def part (c : Dev nD) (t : Fin cfg0.N) (k : Fin 1024) : EReal := gainPart (iblk m c 0 t) (iblk m c 1 t) (iblk m c 3 t) (iblk m c 4 t) (iblk m c 5 t) (iblk m c 6 t) (iblk m c 7 t) k

/-- One point's step of the gain's gradient, from its blocks. -/
theorem gain_apply (d x : Vec Ideal S256x1024 .f32) (a u : Vec Ideal S256x2816 .bf16) (wg wu wd : Vec Ideal S2816x1024 .bf16) (o : Vec Ideal S1x1024 .f32) (k : Fin 1024) :
    k0_pay2 (F := Ideal) (k0_pay5 x) (k0_pay27 (F := Ideal) (k0_pay17 (F := Ideal) k0_pay7 (k0_pay8 d (lowRows wd)) (k0_pay9 (lowCols a)) (k0_pay10 (lowCols u)) (k0_pay11 (lowCols a)) (k0_pay12 (lowCols a)) (lowRows wg) (lowRows wu)) (k0_pay18 (k0_pay3 d) (highRows wd)) (k0_pay19 (highCols a)) (k0_pay20 (highCols u)) (k0_pay21 (highCols a)) (highRows wg) (highRows wu)) o (ix2 0 k) = o (ix2 0 k) + gainPart d x a u wg wu wd k := by
  rw [gain_step]; simp only [dh_read, scaled_block]; rfl

/-- After the last point the row holds the sum of all points' parts. -/
theorem gain_last (c : Dev nD) (t : Fin cfg0.N) (ht : t.val + 1 = cfg0.N) (k : Fin 1024) :
    (outsAt0 m c t.val t.isLt).2.2.2.2.2 (ix2 0 k) = 0 + ∑ p : Fin cfg0.N, part m c p k := by
  exact Pipeline.eq_sum_fin_of_reset_step_apply_last (fun n h k => (outsAt0 m c n h).2.2.2.2.2 (ix2 0 k)) 64 (fun _ => (0 : EReal)) (part m c)
    (fun t h k => by
      show (outsAt0 m c t.val t.isLt).2.2.2.2.2 (ix2 0 k) = _
      rw [outsAt0_A m c t h]; frame_out
      refine (gain_apply (iblk m c 0 t) (iblk m c 1 t) (iblk m c 3 t) (iblk m c 4 t) (iblk m c 5 t) (iblk m c 6 t) (iblk m c 7 t) _ k).trans ?_
      rw [zero_row]; rfl)
    (fun t h k => by
      show (outsAt0 m c t.val t.isLt).2.2.2.2.2 (ix2 0 k) = _
      rw [outsAt0_B m c t h]; frame_out
      refine (gain_apply (iblk m c 0 t) (iblk m c 1 t) (iblk m c 3 t) (iblk m c 4 t) (iblk m c 5 t) (iblk m c 6 t) (iblk m c 7 t) _ k).trans ?_
      rfl)
    (le_of_eq N_0) t ht k

/-- The points' parts are the sum over all rows. -/
theorem sum_parts (c : Dev nD) (hr : Reals m c) (l : Fin 1024) : ∑ p : Fin cfg0.N, part m c p l = gainSum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) l := by
  unfold gainSum
  unfold part gainPart
  refine Fin.sum_mul_add_congr (S := cfg0.N) (n := 256) (fun t k ht => ?_) (by have : cfg0.N = 64 := N_0; rw [this])
  simp only [d_at, x_at, g_at, gate_at, up_at, wg_at, wu_at, wd_at]
  rw [dh_eq (fun _ => hr.2.1 _) (fun _ => hr.2.2.1 _) (fun _ => hr.1 _) (fun _ _ => hr.2.2.2.1 _) (fun _ _ => hr.2.2.2.2.1 _) (fun _ _ => hr.2.2.2.2.2 _) l]
  exact mul_comm _ _

/-- The gain's gradient. -/
theorem gain_result (c : Dev nD) (hr : Reals m c) : (dats m 0 c).arrAt 13 cfg0.N
    = Cert.FfnBwdRefIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 13 _ (by decide +kernel) fun t hf y => ?_
  have hN : cfg0.N = 64 := N_0
  have h15 : t.val % 64 = 63 := (flush0_13 t).mp hf
  have ht : t.val + 1 = cfg0.N := by have : t.val < 64 := lt_of_lt_of_eq t.isLt N_0; rw [hN]; omega
  obtain ⟨r, l, rfl⟩ : ∃ r l, y = ix2 r l := ⟨y 0, y 1, (ix2_eta y).symm⟩
  obtain rfl : r = 0 := Subsingleton.elim _ _
  blk_simp
  have he : ((win0_13.blk t).view.emb (ix2 0 l) : S1x1024.Idx) = ix2 0 l := by
    blk_ext [rows_13 t]
  rw [he, after0_13, gain_ref, gain_last m c t ht, zero_add]
  exact sum_parts m c hr l

/-- The scalar shape has one index. -/
instance : Subsingleton Cert.Pre_finite2.S_.Idx := ⟨fun a b => funext fun d => d.elim0⟩

/-- The precondition says that the entries are real. -/
theorem reals (h : Cert.Pre_FfnBwdIdeal_finite2 m) (c : Dev nD) : Reals m c := by
  have e := congrFun (h c) (fun d => d.elim0)
  unfold Cert.Pre_finite2.fn Cert.Pre_finite2.fn_part1 at e
  obtain ⟨e, e5⟩ := both e
  obtain ⟨e, e4⟩ := both e
  obtain ⟨e, e3⟩ := both e
  obtain ⟨e, e2⟩ := both e
  obtain ⟨e0, e1⟩ := both e
  exact ⟨all_of_test _ _ _ _ _ _ (fun i => rfl) e0, all_of_test _ _ _ _ _ _ (fun i => rfl) e1, all_of_test _ _ _ _ _ _ (fun i => rfl) e2, all_of_test _ _ _ _ _ _ (fun i => rfl) e3, all_of_test _ _ _ _ _ _ (fun i => rfl) e4, all_of_test _ _ _ _ _ _ (fun i => rfl) e5⟩

/-- The kernel's run ends at the reference's six arrays, its arguments kept. -/
theorem kernel_run (hp : Cert.Pre_FfnBwdIdeal_finite2 m) (ρ : Dev nD → PrngReg) :
    θ_run defs (onTc (τ := τ) (main (F := Ideal))) ⟨m, fun _ => 0, ρ⟩ fun r => ∀ c : Dev nD,
      r.2.mem ((c : Thread nD τ).loc main_v20_0) = Cert.FfnBwdRefIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v20_1) = Cert.FfnBwdRefIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v20_2) = Cert.FfnBwdRefIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c : Thread nD τ).loc main_v20_3) = Cert.FfnBwdRefIdeal.Read.val_main_v79 (F := Ideal) (m ((c : Thread nD τ).loc main_arg1)) (m ((c : Thread nD τ).loc main_arg2)) (m ((c : Thread nD τ).loc main_arg3)) (m ((c : Thread nD τ).loc main_arg4))
      ∧ r.2.mem ((c : Thread nD τ).loc main_v20_4) = Cert.FfnBwdRefIdeal.Read.val_main_v80 (F := Ideal) (m ((c : Thread nD τ).loc main_arg1)) (m ((c : Thread nD τ).loc main_arg2))
      ∧ r.2.mem ((c : Thread nD τ).loc main_v20_5) = Cert.FfnBwdRefIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (row_result m c (reals m hp c)), (h c).2.1.trans (dgate_result m c (reals m hp c)), (h c).2.2.1.trans (dup_result m c), (h c).2.2.2.1.trans (act_result m c), (h c).2.2.2.2.1.trans (normed_result m c), (h c).2.2.2.2.2.1.trans (gain_result m c (reals m hp c)), (h c).2.2.2.2.2.2⟩) (Cert.FfnBwdIdeal.Value.run_blocks m ρ)

/-- From memories agreeing on the arguments, with real entries, kernel and reference both run and end with equal results. -/
theorem algebraic : Cert.algebraic_FfnBwdIdeal_FfnBwdRefIdeal_pre_finite2 := by
  intro m ρ m' ρ' hp hm
  refine ⟨_, _, _, _, _, _, kernel_run m hp ρ, (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.FfnBwdRefIdeal.Value.run m' ρ')⟩
  · refine (Cert.FfnBwdRefIdeal.Read.val_main_v74_eq m' c).trans ?_
    rw [(hm c).1, (hm c).2.1, (hm c).2.2.1, (hm c).2.2.2.1, (hm c).2.2.2.2.1, (hm c).2.2.2.2.2]
  · refine (Cert.FfnBwdRefIdeal.Read.val_main_v77_eq m' c).trans ?_
    rw [(hm c).1, (hm c).2.1, (hm c).2.2.1, (hm c).2.2.2.1, (hm c).2.2.2.2.1, (hm c).2.2.2.2.2]
  · rw [(hm c).1, (hm c).2.1, (hm c).2.2.1, (hm c).2.2.2.1, (hm c).2.2.2.2.2]
    exact Cert.FfnBwdRefIdeal.Read.val_main_v78_eq _ _ _ _ _
  · rw [(hm c).2.1, (hm c).2.2.1, (hm c).2.2.2.1, (hm c).2.2.2.2.1]
    exact Cert.FfnBwdRefIdeal.Read.val_main_v79_eq _ _ _ _
  · rw [(hm c).2.1, (hm c).2.2.1]
    exact Cert.FfnBwdRefIdeal.Read.val_main_v80_eq _ _
  · refine (Cert.FfnBwdRefIdeal.Read.val_main_v57_eq m' c).trans ?_
    rw [(hm c).1, (hm c).2.1, (hm c).2.2.1, (hm c).2.2.2.1, (hm c).2.2.2.2.1, (hm c).2.2.2.2.2]

end Cert.FfnBwdProof

end
-- ==== Proof.Attn.lean ====
/- The attention over the memory, on one token's row: scores, weights and their gradients as the reference forms them and
   as the kernel forms them, and why the two agree where every entry is real. -/
module

public import Idealize.ShloMosaic.Lib.Pointwise
public import proofs.«01_k».proof.Proof.Finite

@[expose] public section

noncomputable section

namespace Cert.Attn

open Idealize.ShloMosaic Cert.Finite

/-- The column of head `h`'s coordinate `d` among the 256 columns. -/
def col (h : Fin 4) (d : Fin 64) : Fin 256 := ⟨h.val * 64 + d.val, by omega⟩

/-- The head a column belongs to. -/
def head (j : Fin 256) : Fin 4 := ⟨j.val / 64, by omega⟩

/-- The score's scale. -/
def eighth : EReal := Ideal.ofBits FTy.f32 1040187392#32

/-- The scale is one eighth. -/
theorem eighth_real : eighth = ((1/8 : ℝ) : EReal) := by
  unfold eighth; simp [Ideal.ofBits, Ideal.ieee, ← EReal.coe_mul]; norm_num

/-- The kernel's scale, kept in the shorter format, is the same number. -/
theorem eighth_short : Ideal.ofBits FTy.bf16 15872#16 = eighth := by
  rw [eighth_real]; simp [Ideal.ofBits, Ideal.ieee, ← EReal.coe_mul]; norm_num

/-- The bits of minus infinity stand for the least element. -/
theorem bits_bot : Ideal.ofBits FTy.f32 4286578688#32 = ⊥ := by
  simp [Ideal.ofBits, Ideal.ieee]

/-- The greatest of 256 scores. -/
def top (s : Fin 256 → EReal) : EReal := Finset.fold max (Ideal.ofBits FTy.f32 4286578688#32) s Finset.univ

/-- A weight before it is normalised. -/
def ex (s : Fin 256 → EReal) (m : Fin 256) : EReal := Ideal.exp (s m - top s)

/-- The sum of the weights before they are normalised. -/
def tot (s : Fin 256 → EReal) : EReal := ∑ m, ex s m

/-- The score of one memory row for head `h`, as the reference forms it. -/
def score (h : Fin 4) (q : Fin 256 → EReal) (K : Fin 256 → Fin 256 → EReal) (m : Fin 256) : EReal :=
  (∑ d, q (col h d) * K m (col h d)) * eighth

/-- The normalised weight, as the reference forms it. -/
def prob (s : Fin 256 → EReal) (m : Fin 256) : EReal := Ideal.div (ex s m) (tot s)

/-- The gradient of a weight, as the reference forms it. -/
def dprob (h : Fin 4) (y : Fin 256 → EReal) (V : Fin 256 → Fin 256 → EReal) (m : Fin 256) : EReal :=
  ∑ d, y (col h d) * V m (col h d)

/-- The gradient of a score before its scale, as the reference forms it. -/
def dscore (s dp : Fin 256 → EReal) (m : Fin 256) : EReal :=
  (Ideal.div (dp m) (tot s) + -(∑ x, dp x * Ideal.div 1 (tot s * tot s) * ex s x)) * ex s m * eighth

/-- A row's entries in head `h`'s columns, zero in the others. -/
def keep (h : Fin 4) (f : Fin 256 → EReal) (j : Fin 256) : EReal := if head j = h then f j else 0

/-- The score as the kernel forms it. -/
def kscore (h : Fin 4) (q : Fin 256 → EReal) (K : Fin 256 → Fin 256 → EReal) (m : Fin 256) : EReal :=
  ∑ j, keep h (fun j => K m j * eighth) j * q j

/-- The normalised weight as the kernel forms it. -/
def kprob (s : Fin 256 → EReal) (m : Fin 256) : EReal := ex s m * Ideal.div 1 (tot s)

/-- The gradient of a weight as the kernel forms it. -/
def kdprob (h : Fin 4) (y : Fin 256 → EReal) (V : Fin 256 → Fin 256 → EReal) (m : Fin 256) : EReal :=
  ∑ j, keep h (V m) j * y j

/-- The gradient of a score before its scale, as the kernel forms it. -/
def kdscore (s dp : Fin 256 → EReal) (m : Fin 256) : EReal := kprob s m * (dp m - ∑ x, kprob s x * dp x)

/-- A sum over the columns that keeps one head's is the sum over that head's coordinates. -/
theorem sum_keep (h : Fin 4) (f g : Fin 256 → EReal) : ∑ j, keep h f j * g j = ∑ d, f (col h d) * g (col h d) := by
  have e : ∀ F : Fin 256 → EReal, ∑ j, F j = ∑ a : Fin 4, ∑ d : Fin 64, F (col a d) := fun F => by
    rw [← Fintype.sum_prod_type' (f := fun a d => F (col a d))]
    exact (Fintype.sum_equiv (finProdFinEquiv (m := 4) (n := 64)) _ _ fun x => congrArg F (Fin.ext (by
      simp only [col, finProdFinEquiv_apply_val]; omega))).symm
  rw [e, Finset.sum_eq_single h]
  · refine Finset.sum_congr rfl fun d _ => ?_
    have : head (col h d) = h := Fin.ext (by simp only [head, col]; omega)
    simp only [keep, this, if_true]
  · intro a _ ha
    refine Finset.sum_eq_zero fun d _ => ?_
    have : head (col a d) = a := Fin.ext (by simp only [head, col]; omega)
    simp only [keep, this, if_neg ha, zero_mul]
  · exact fun h' => absurd (Finset.mem_univ _) h'

/-- Of four terms, each kept for one head's columns, a column has the one of its own head. -/
theorem pick (j : Fin 256) (f : Fin 4 → EReal) :
    (if head j = 0 then f 0 else 0) + (if head j = 1 then f 1 else 0) + ((if head j = 2 then f 2 else 0) + (if head j = 3 then f 3 else 0)) = f (head j) := by
  generalize head j = a
  match a with
  | 0 => simp
  | 1 => simp
  | 2 => simp
  | 3 => simp

/-- The two gradients of a weight agree. -/
theorem kdprob_eq (h : Fin 4) (y : Fin 256 → EReal) (V : Fin 256 → Fin 256 → EReal) (m : Fin 256) :
    kdprob h y V m = dprob h y V m := by
  unfold kdprob dprob; rw [sum_keep]; exact Finset.sum_congr rfl fun d _ => mul_comm _ _

/-- The two scores agree where the entries are real. -/
theorem kscore_eq {h : Fin 4} {q : Fin 256 → EReal} {K : Fin 256 → Fin 256 → EReal} (hq : ∀ j, IsReal (q j)) (hK : ∀ m j, IsReal (K m j)) (m : Fin 256) :
    kscore h q K m = score h q K m := by
  choose a ha using hq
  choose b hb using hK
  unfold kscore score; rw [sum_keep, eighth_real]
  simp only [ha, hb, ← EReal.coe_mul, coe_sum]
  rw [EReal.coe_eq_coe_iff, Finset.sum_mul]
  exact Finset.sum_congr rfl fun d _ => by ring

/-- The score of real entries is real. -/
theorem score_real {h : Fin 4} {q : Fin 256 → EReal} {K : Fin 256 → Fin 256 → EReal} (hq : ∀ j, IsReal (q j)) (hK : ∀ m j, IsReal (K m j)) (m : Fin 256) :
    IsReal (score h q K m) :=
  mul (sum fun d => mul (hq _) (hK _ _)) ⟨_, eighth_real⟩

/-- The gradient of a weight from real entries is real. -/
theorem dprob_real {h : Fin 4} {y : Fin 256 → EReal} {V : Fin 256 → Fin 256 → EReal} (hy : ∀ j, IsReal (y j)) (hV : ∀ m j, IsReal (V m j)) (m : Fin 256) :
    IsReal (dprob h y V m) :=
  sum fun d => mul (hy _) (hV _ _)

/-- The greatest of real scores is real. -/
theorem top_real {s : Fin 256 → EReal} (hs : ∀ m, IsReal (s m)) : IsReal (top s) := by
  obtain ⟨i, _, hi⟩ := Finset.exists_mem_eq_sup (Finset.univ : Finset (Fin 256)) ⟨0, Finset.mem_univ _⟩ s
  have : top s = Finset.univ.sup s := by unfold top; rw [bits_bot]; rfl
  rw [this, hi]; exact hs i

/-- The weights of real scores are positive reals. -/
theorem ex_real {s : Fin 256 → EReal} (hs : ∀ m, IsReal (s m)) : ∃ e : Fin 256 → ℝ, (∀ m, 0 < e m) ∧ ∀ m, ex s m = (e m : EReal) := by
  obtain ⟨t, ht⟩ := top_real hs
  choose a ha using hs
  refine ⟨fun m => Real.exp (a m - t), fun m => Real.exp_pos _, fun m => ?_⟩
  unfold ex; rw [ht, ha, ← EReal.coe_sub]; rfl

/-- The kernel's normalised weight is the reference's. -/
theorem kprob_eq {s : Fin 256 → EReal} (hs : ∀ m, IsReal (s m)) (m : Fin 256) : kprob s m = prob s m := by
  obtain ⟨e, he, hx⟩ := ex_real hs
  have hL : (∑ x, e x) ≠ 0 := (Finset.sum_pos (fun x _ => he x) ⟨0, Finset.mem_univ _⟩).ne'
  unfold kprob prob tot
  simp only [hx, coe_sum]
  rw [← EReal.coe_one, div_real _ hL, div_real _ hL, ← EReal.coe_mul, EReal.coe_eq_coe_iff]
  field_simp

/-- The normalised weights of real scores are real. -/
theorem prob_real {s : Fin 256 → EReal} (hs : ∀ m, IsReal (s m)) (m : Fin 256) : IsReal (prob s m) := by
  obtain ⟨e, he, hx⟩ := ex_real hs
  have hL : (∑ x, e x) ≠ 0 := (Finset.sum_pos (fun x _ => he x) ⟨0, Finset.mem_univ _⟩).ne'
  unfold prob tot
  simp only [hx, coe_sum]
  exact ⟨_, div_real _ hL⟩

/-- The kernel's gradient of a score is real. -/
theorem kdscore_real {s dp : Fin 256 → EReal} (hs : ∀ m, IsReal (s m)) (hd : ∀ m, IsReal (dp m)) (m : Fin 256) : IsReal (kdscore s dp m) := by
  have hp : ∀ m, IsReal (kprob s m) := fun m => by rw [kprob_eq hs]; exact prob_real hs m
  exact mul (hp m) (sub (hd m) (sum fun x => mul (hp x) (hd x)))

/-- The kernel's gradient of a score, scaled, is the reference's. -/
theorem kdscore_eq {s dp : Fin 256 → EReal} (hs : ∀ m, IsReal (s m)) (hd : ∀ m, IsReal (dp m)) (m : Fin 256) :
    kdscore s dp m * eighth = dscore s dp m := by
  obtain ⟨e, he, hx⟩ := ex_real hs
  choose d hd using hd
  have hL : (∑ x, e x) ≠ 0 := (Finset.sum_pos (fun x _ => he x) ⟨0, Finset.mem_univ _⟩).ne'
  unfold kdscore dscore kprob tot
  simp only [hx, hd, coe_sum, eighth_real]
  generalize hS : (∑ x, e x) = L at *
  rw [← EReal.coe_one, ← EReal.coe_mul, div_real _ hL, div_real _ hL, div_real _ (mul_ne_zero hL hL)]
  simp only [← EReal.coe_mul, coe_sum, ← EReal.coe_sub, ← EReal.coe_neg, ← EReal.coe_add]
  rw [EReal.coe_eq_coe_iff]
  have h1 : ∑ x, e x * (1 / L) * d x = (∑ x, d x * e x) * (1 / L) := by
    rw [Finset.sum_mul]; exact Finset.sum_congr rfl fun x _ => by ring
  have h2 : ∑ x, d x * (1 / (L * L)) * e x = (∑ x, d x * e x) * (1 / (L * L)) := by
    rw [Finset.sum_mul]; exact Finset.sum_congr rfl fun x _ => by ring
  rw [h1, h2]
  field_simp
  ring

/-- The gradient of a score of real entries is real. -/
theorem dscore_real {s dp : Fin 256 → EReal} (hs : ∀ m, IsReal (s m)) (hd : ∀ m, IsReal (dp m)) (m : Fin 256) : IsReal (dscore s dp m) := by
  rw [← kdscore_eq hs hd]; exact mul (kdscore_real hs hd m) ⟨_, eighth_real⟩

end Cert.Attn

end
-- ==== Proof.MixTile.lean ====
/- The first mixer's backward call on one tile of 512 tokens: what the kernel's values are at an index. -/
module

public import proofs.«01_k».proof.Proof.Gen.KernelIdeal.Skeleton
public import Idealize.ShloMosaic.Lib.Pointwise
public import proofs.«01_k».proof.Proof.Attn

@[expose] public section

set_option maxRecDepth 16384

noncomputable section

namespace Cert.MixTile

open Cert.KernelIdeal Cert.KernelIdeal.Gen Idealize.ShloMosaic Idealize.ShloMosaic.TcCoe Idealize.SL.Sem
open Cert.Attn

/-- A column's head as the kernel counts it. -/
theorem head_word : ∀ j : Fin 256, k0_pay27 (ix2 0 j) = BitVec.ofNat 32 (j.val / 64) := by
  intro j
  pointwise [k0_pay27]
  revert j; decide +kernel

/-- Choosing by a column's head. -/
theorem select_head (h : Fin 4) (j : Fin 256) (a b : EReal) :
    Scalar.select (IntOp.cmpi CmpIPredicate.eq (k0_pay27 (ix2 0 j)) (BitVec.ofNat 32 h.val)) a b = if head j = h then a else b := by
  have : IntOp.cmpi CmpIPredicate.eq (k0_pay27 (ix2 0 j)) (BitVec.ofNat 32 h.val) = if head j = h then 1#1 else 0#1 := by
    rw [head_word]; revert j h; decide +kernel
  rw [this]; split <;> rfl

/-- A tile's memory queries of token `r`. -/
def q (p : Vec Ideal S512x2560 .bf16) (r : Fin 512) (j : Fin 256) : EReal := p (ix2 r ⟨2304 + j.val, by omega⟩)

/-- The memory's keys. -/
def keys (kv : Vec Ideal S256x512 .bf16) (m j : Fin 256) : EReal := kv (ix2 m ⟨j.val, by omega⟩)

/-- The memory's values. -/
def vals (kv : Vec Ideal S256x512 .bf16) (m j : Fin 256) : EReal := kv (ix2 m ⟨256 + j.val, by omega⟩)

/-- The gradient of the memory's output at token `r`. -/
def y (dx : Vec Ideal S512x1024 .f32) (wo : Vec Ideal S1024x1024 .bf16) (r : Fin 512) (j : Fin 256) : EReal :=
  ∑ k, dx (ix2 r k) * wo (ix2 ⟨768 + j.val, by omega⟩ k)

/-- The tile's scores of head `h` at token `r`. -/
def sc (h : Fin 4) (p : Vec Ideal S512x2560 .bf16) (kv : Vec Ideal S256x512 .bf16) (r : Fin 512) : Fin 256 → EReal := kscore h (q p r) (keys kv)

/-- The tile's gradients of the weights of head `h` at token `r`. -/
def dp (h : Fin 4) (dx : Vec Ideal S512x1024 .f32) (wo : Vec Ideal S1024x1024 .bf16) (kv : Vec Ideal S256x512 .bf16) (r : Fin 512) : Fin 256 → EReal :=
  kdprob h (y dx wo r) (vals kv)

/-- A kept term times a factor. -/
theorem keep_mul (h : Fin 4) (f : Fin 256 → EReal) (g : EReal) (j : Fin 256) : (if head j = h then f j * g else 0) = keep h f j * g := by
  unfold keep; split
  · rfl
  · exact (zero_mul g).symm

/-- The queries. -/
theorem q_at (p : Vec Ideal S512x2560 .bf16) (r : Fin 512) (j : Fin 256) : k0_pay24 (F := Ideal) p (ix2 r j) = q p r j := by
  pointwise [k0_pay24]; rfl
/-- The gradient of the memory's output. -/
theorem y_at (dx : Vec Ideal S512x1024 .f32) (wo : Vec Ideal S1024x1024 .bf16) (r : Fin 512) (j : Fin 256) : k0_pay13 (F := Ideal) wo dx (ix2 r j) = y dx wo r j := by
  pointwise [k0_pay13, k0_pay11]; rfl
/-- The keys. -/
theorem keys_at (kv : Vec Ideal S256x512 .bf16) (m j : Fin 256) : k0_pay25 (F := Ideal) kv (ix2 m j) = keys kv m j := by
  pointwise [k0_pay25]; rfl
/-- The values. -/
theorem vals_at (kv : Vec Ideal S256x512 .bf16) (m j : Fin 256) : k0_pay26 (F := Ideal) kv (ix2 m j) = vals kv m j := by
  pointwise [k0_pay26]; rfl
/-- The scaled keys. -/
theorem scaled_at (kv : Vec Ideal S256x512 .bf16) (m j : Fin 256) : k0_pay28 (F := Ideal) (k0_pay25 kv) (ix2 m j) = keys kv m j * eighth := by
  pointwise [k0_pay28]; rw [keys_at, eighth_short]
/-- The scaled keys of head 0. -/
theorem keys0_at (kv : Vec Ideal S256x512 .bf16) (m j : Fin 256) : k0_pay29 (F := Ideal) (k0_pay25 kv) (ix2 m j) = keep 0 (fun j => keys kv m j * eighth) j := by
  pointwise [k0_pay29]; rw [scaled_at]; exact select_head 0 j _ _
/-- The scaled keys of head 1. -/
theorem keys1_at (kv : Vec Ideal S256x512 .bf16) (m j : Fin 256) : k0_pay30 (F := Ideal) (k0_pay25 kv) (ix2 m j) = keep 1 (fun j => keys kv m j * eighth) j := by
  pointwise [k0_pay30]; rw [scaled_at]; exact select_head 1 j _ _
/-- The scaled keys of head 2. -/
theorem keys2_at (kv : Vec Ideal S256x512 .bf16) (m j : Fin 256) : k0_pay31 (F := Ideal) (k0_pay25 kv) (ix2 m j) = keep 2 (fun j => keys kv m j * eighth) j := by
  pointwise [k0_pay31]; rw [scaled_at]; exact select_head 2 j _ _
/-- The scaled keys of head 3. -/
theorem keys3_at (kv : Vec Ideal S256x512 .bf16) (m j : Fin 256) :
    k0_pay32 (F := Ideal) k0_pay27 (k0_pay28 (k0_pay25 kv)) 3#32 (ix2 m j) = keep 3 (fun j => keys kv m j * eighth) j := by
  pointwise [k0_pay32]; rw [scaled_at]; exact select_head 3 j _ _
/-- The scores of head 1. -/
theorem s1_at (p : Vec Ideal S512x2560 .bf16) (kv : Vec Ideal S256x512 .bf16) (m : Fin 256) (r : Fin 512) :
    k0_pay33 (F := Ideal) (k0_pay24 p) (k0_pay30 (k0_pay25 kv)) (ix2 m r) = sc 1 p kv r m := by
  pointwise [k0_pay33]; simp only [keys1_at, q_at]; rfl
/-- The scores of head 2. -/
theorem s2_at (p : Vec Ideal S512x2560 .bf16) (kv : Vec Ideal S256x512 .bf16) (m : Fin 256) (r : Fin 512) :
    k0_pay34 (F := Ideal) (k0_pay24 p) (k0_pay31 (k0_pay25 kv)) (ix2 m r) = sc 2 p kv r m := by
  pointwise [k0_pay34]; simp only [keys2_at, q_at]; rfl
/-- The scores of head 3. -/
theorem s3_at (p : Vec Ideal S512x2560 .bf16) (kv : Vec Ideal S256x512 .bf16) (m : Fin 256) (r : Fin 512) :
    k0_pay35 (F := Ideal) (k0_pay24 p) k0_pay27 (k0_pay28 (k0_pay25 kv)) 3#32 (ix2 m r) = sc 3 p kv r m := by
  pointwise [k0_pay35]; simp only [keys3_at, q_at]; rfl
/-- The gradients of the weights of head 0. -/
theorem d0_at (dx : Vec Ideal S512x1024 .f32) (wo : Vec Ideal S1024x1024 .bf16) (kv : Vec Ideal S256x512 .bf16) (m : Fin 256) (r : Fin 512) :
    k0_pay36 (F := Ideal) (k0_pay13 wo dx) (k0_pay26 kv) k0_pay27 (ix2 m r) = dp 0 dx wo kv r m := by
  pointwise [k0_pay36]; simp only [vals_at, y_at]; exact Finset.sum_congr rfl fun j _ => (select_head 0 j _ _).trans (keep_mul 0 (vals kv m) (y dx wo r j) j)
/-- The gradients of the weights of head 1. -/
theorem d1_at (dx : Vec Ideal S512x1024 .f32) (wo : Vec Ideal S1024x1024 .bf16) (kv : Vec Ideal S256x512 .bf16) (m : Fin 256) (r : Fin 512) :
    k0_pay37 (F := Ideal) (k0_pay13 wo dx) (k0_pay26 kv) k0_pay27 (ix2 m r) = dp 1 dx wo kv r m := by
  pointwise [k0_pay37]; simp only [vals_at, y_at]; exact Finset.sum_congr rfl fun j _ => (select_head 1 j _ _).trans (keep_mul 1 (vals kv m) (y dx wo r j) j)
/-- The gradients of the weights of head 2. -/
theorem d2_at (dx : Vec Ideal S512x1024 .f32) (wo : Vec Ideal S1024x1024 .bf16) (kv : Vec Ideal S256x512 .bf16) (m : Fin 256) (r : Fin 512) :
    k0_pay38 (F := Ideal) (k0_pay13 wo dx) (k0_pay26 kv) k0_pay27 (ix2 m r) = dp 2 dx wo kv r m := by
  pointwise [k0_pay38]; simp only [vals_at, y_at]; exact Finset.sum_congr rfl fun j _ => (select_head 2 j _ _).trans (keep_mul 2 (vals kv m) (y dx wo r j) j)
/-- The gradients of the weights of head 3. -/
theorem d3_at (dx : Vec Ideal S512x1024 .f32) (wo : Vec Ideal S1024x1024 .bf16) (kv : Vec Ideal S256x512 .bf16) (m : Fin 256) (r : Fin 512) :
    k0_pay39 (F := Ideal) (k0_pay13 wo dx) (k0_pay26 kv) k0_pay27 (ix2 m r) = dp 3 dx wo kv r m := by
  pointwise [k0_pay39]; simp only [vals_at, y_at]; exact Finset.sum_congr rfl fun j _ => (select_head 3 j _ _).trans (keep_mul 3 (vals kv m) (y dx wo r j) j)
/-- The scores of head 0 less their greatest. -/
theorem e0_at (p : Vec Ideal S512x2560 .bf16) (kv : Vec Ideal S256x512 .bf16) (m : Fin 256) (r : Fin 512) :
    k0_pay40 (F := Ideal) (k0_pay24 p) (k0_pay29 (k0_pay25 kv)) (ix2 m r) = sc 0 p kv r m - top (sc 0 p kv r) := by
  pointwise [k0_pay40]; simp only [keys0_at, q_at]; rfl
/-- The weights of head 0. -/
theorem w0_at (p : Vec Ideal S512x2560 .bf16) (kv : Vec Ideal S256x512 .bf16) (m : Fin 256) (r : Fin 512) :
    k0_pay41 (F := Ideal) (k0_pay40 (k0_pay24 p) (k0_pay29 (k0_pay25 kv))) (ix2 m r) = kprob (sc 0 p kv r) m := by
  pointwise [k0_pay41]; simp only [e0_at]; rfl
/-- The weights of a head from its scores. -/
theorem w1_at (s : Vec Ideal S256x512 .f32) (m : Fin 256) (r : Fin 512) :
    k0_pay44 (F := Ideal) s (ix2 m r) = kprob (fun m => s (ix2 m r)) m := by
  pointwise [k0_pay44]; rfl
/-- The weights of a head from its scores. -/
theorem w2_at (s : Vec Ideal S256x512 .f32) (m : Fin 256) (r : Fin 512) :
    k0_pay47 (F := Ideal) s (ix2 m r) = kprob (fun m => s (ix2 m r)) m := by
  pointwise [k0_pay47]; rfl
/-- The weights of a head from its scores. -/
theorem w3_at (s : Vec Ideal S256x512 .f32) (m : Fin 256) (r : Fin 512) :
    k0_pay51 (F := Ideal) s (ix2 m r) = kprob (fun m => s (ix2 m r)) m := by
  pointwise [k0_pay51]; rfl
/-- The gradients of head 0's scores. -/
theorem g0_at (d : Vec Ideal S256x512 .f32) (p : Vec Ideal S512x2560 .bf16) (kv : Vec Ideal S256x512 .bf16) (m : Fin 256) (r : Fin 512) :
    k0_pay43 (F := Ideal) d (k0_pay40 (k0_pay24 p) (k0_pay29 (k0_pay25 kv))) (ix2 m r) = kdscore (sc 0 p kv r) (fun m => d (ix2 m r)) m := by
  pointwise [k0_pay43]; simp only [w0_at]; rfl
/-- The gradients of a head's scores. -/
theorem g1_at (s d : Vec Ideal S256x512 .f32) (m : Fin 256) (r : Fin 512) :
    k0_pay46 (F := Ideal) s d (ix2 m r) = kdscore (fun m => s (ix2 m r)) (fun m => d (ix2 m r)) m := by
  pointwise [k0_pay46]; simp only [w1_at]; rfl
/-- The gradients of a head's scores. -/
theorem g2_at (s d : Vec Ideal S256x512 .f32) (m : Fin 256) (r : Fin 512) :
    k0_pay50 (F := Ideal) d (k0_pay47 s) (k0_pay48 s d) (ix2 m r) = kdscore (fun m => s (ix2 m r)) (fun m => d (ix2 m r)) m := by
  pointwise [k0_pay50, k0_pay48]; simp only [w2_at]; rfl
/-- The gradients of a head's scores. -/
theorem g3_at (s d : Vec Ideal S256x512 .f32) (m : Fin 256) (r : Fin 512) :
    k0_pay53 (F := Ideal) s d (ix2 m r) = kdscore (fun m => s (ix2 m r)) (fun m => d (ix2 m r)) m := by
  pointwise [k0_pay53]; simp only [w3_at]; rfl

/-- The tile's gradient of head `h`'s scores at token `r`. -/
def ds (h : Fin 4) (p : Vec Ideal S512x2560 .bf16) (dx : Vec Ideal S512x1024 .f32) (wo : Vec Ideal S1024x1024 .bf16) (kv : Vec Ideal S256x512 .bf16) (r : Fin 512) : Fin 256 → EReal :=
  kdscore (sc h p kv r) (dp h dx wo kv r)

/-- A term kept for one head's columns. -/
theorem sum_if {ι : Type} [Fintype ι] (h : Fin 4) (a : ι → EReal) (f : ι → Fin 256 → EReal) (j : Fin 256) :
    ∑ m, a m * keep h (f m) j = if head j = h then ∑ m, a m * f m j else 0 := by
  unfold keep; split
  · rfl
  · exact Finset.sum_eq_zero fun m _ => mul_zero _

/-- The queries' gradient. -/
theorem dq_at (p : Vec Ideal S512x2560 .bf16) (dx : Vec Ideal S512x1024 .f32) (wo : Vec Ideal S1024x1024 .bf16) (kv : Vec Ideal S256x512 .bf16) (r : Fin 512) (j : Fin 256) :
    (k0_pay54 (F := Ideal) (k0_pay29 (k0_pay25 kv)) (k0_pay30 (k0_pay25 kv)) (k0_pay31 (k0_pay25 kv)) (k0_pay32 k0_pay27 (k0_pay28 (k0_pay25 kv)) 3#32)
        (k0_pay35 (k0_pay24 p) k0_pay27 (k0_pay28 (k0_pay25 kv)) 3#32)
        (k0_pay38 (k0_pay13 wo dx) (k0_pay26 kv) k0_pay27)
        (k0_pay39 (k0_pay13 wo dx) (k0_pay26 kv) k0_pay27)
        (k0_pay43 (k0_pay36 (k0_pay13 wo dx) (k0_pay26 kv) k0_pay27) (k0_pay40 (k0_pay24 p) (k0_pay29 (k0_pay25 kv))))
        (k0_pay46 (k0_pay33 (k0_pay24 p) (k0_pay30 (k0_pay25 kv))) (k0_pay37 (k0_pay13 wo dx) (k0_pay26 kv) k0_pay27))
        (k0_pay47 (k0_pay34 (k0_pay24 p) (k0_pay31 (k0_pay25 kv))))
        (k0_pay48 (k0_pay34 (k0_pay24 p) (k0_pay31 (k0_pay25 kv))) (k0_pay38 (k0_pay13 wo dx) (k0_pay26 kv) k0_pay27))) (ix2 r j)
      = ∑ m, ds (head j) p dx wo kv r m * (keys kv m j * eighth) := by
  pointwise [k0_pay54]
  simp only [g0_at, g1_at, g2_at, g3_at, s1_at, s2_at, s3_at, d0_at, d1_at, d2_at, d3_at, keys0_at, keys1_at, keys2_at, keys3_at, sum_if]
  exact pick j fun h => ∑ m, ds h p dx wo kv r m * (keys kv m j * eighth)

/-- The keys' gradient of one tile, added to what was there. -/
theorem dmk_at (p : Vec Ideal S512x2560 .bf16) (dx : Vec Ideal S512x1024 .f32) (wo : Vec Ideal S1024x1024 .bf16) (kv : Vec Ideal S256x512 .bf16) (o : Vec Ideal S256x256 .f32) (m j : Fin 256) :
    k0_pay68 (F := Ideal) (k0_pay58 (k0_pay24 p) k0_pay27
          (k0_pay50 (k0_pay38 (k0_pay13 wo dx) (k0_pay26 kv) k0_pay27) (k0_pay47 (k0_pay34 (k0_pay24 p) (k0_pay31 (k0_pay25 kv))))
            (k0_pay48 (k0_pay34 (k0_pay24 p) (k0_pay31 (k0_pay25 kv))) (k0_pay38 (k0_pay13 wo dx) (k0_pay26 kv) k0_pay27)))
          (k0_pay53 (k0_pay35 (k0_pay24 p) k0_pay27 (k0_pay28 (k0_pay25 kv)) 3#32) (k0_pay39 (k0_pay13 wo dx) (k0_pay26 kv) k0_pay27))
          (k0_pay55 (k0_pay24 p) k0_pay27 (k0_pay43 (k0_pay36 (k0_pay13 wo dx) (k0_pay26 kv) k0_pay27) (k0_pay40 (k0_pay24 p) (k0_pay29 (k0_pay25 kv)))))
          (k0_pay56 k0_pay27)
          (k0_pay57 (k0_pay24 p) (k0_pay46 (k0_pay33 (k0_pay24 p) (k0_pay30 (k0_pay25 kv))) (k0_pay37 (k0_pay13 wo dx) (k0_pay26 kv) k0_pay27)))
          (FloatOps.ofBits FTy.f32 0#32)) o (ix2 m j)
      = o (ix2 m j) + (∑ r, ds (head j) p dx wo kv r m * q p r j) * eighth := by
  pointwise [k0_pay68, k0_pay58, k0_pay57, k0_pay56, k0_pay55]
  simp only [g0_at, g1_at, g2_at, g3_at, s1_at, s2_at, s3_at, d0_at, d1_at, d2_at, d3_at, q_at]
  refine congrArg (o (ix2 m j) + ·) (Eq.trans ?_ (pick j fun h => (∑ r, ds h p dx wo kv r m * q p r j) * eighth))
  rw [← select_head 0, ← select_head 1, ← select_head 2, ← select_head 3]; rfl

/-- The values' gradient of one tile, added to what was there. -/
theorem dmv_at (p : Vec Ideal S512x2560 .bf16) (dx : Vec Ideal S512x1024 .f32) (wo : Vec Ideal S1024x1024 .bf16) (kv : Vec Ideal S256x512 .bf16) (o : Vec Ideal S256x256 .f32) (m j : Fin 256) :
    k0_pay69 (F := Ideal) (k0_pay13 wo dx) k0_pay27
      (k0_pay52 (k0_pay35 (k0_pay24 p) k0_pay27 (k0_pay28 (k0_pay25 kv)) 3#32))
      (k0_pay59 (k0_pay13 wo dx) k0_pay27 (k0_pay42 (k0_pay40 (k0_pay24 p) (k0_pay29 (k0_pay25 kv)))))
      (k0_pay60 (k0_pay13 wo dx) k0_pay27 (k0_pay45 (k0_pay33 (k0_pay24 p) (k0_pay30 (k0_pay25 kv)))))
      (k0_pay61 (k0_pay13 wo dx) (k0_pay49 (k0_pay47 (k0_pay34 (k0_pay24 p) (k0_pay31 (k0_pay25 kv))))))
      (FloatOps.ofBits FTy.f32 0#32) (k0_pay62 k0_pay27) o (ix2 m j)
      = o (ix2 m j) + ∑ r, kprob (sc (head j) p kv r) m * y dx wo r j := by
  pointwise [k0_pay69, k0_pay62, k0_pay61, k0_pay60, k0_pay59, k0_pay52, k0_pay49, k0_pay45, k0_pay42]
  simp only [w0_at, w1_at, w2_at, w3_at, s1_at, s2_at, s3_at, y_at]
  refine congrArg (o (ix2 m j) + ·) (Eq.trans ?_ (pick j fun h => ∑ r, kprob (sc h p kv r) m * y dx wo r j))
  rw [← select_head 0, ← select_head 1, ← select_head 2, ← select_head 3]; rfl

end Cert.MixTile

end
-- ==== Proof.MixConvTile.lean ====
/- The first mixer's backward call on one tile of 512 tokens: what the kernel's values are at an index. -/
module

public import proofs.«01_k».proof.Proof.Gen.KernelIdeal.Skeleton
public import Idealize.ShloMosaic.Lib.Pointwise
public import proofs.«01_k».proof.Proof.Attn

@[expose] public section

set_option maxRecDepth 16384

noncomputable section

namespace Cert.MixConvTile

open Cert.KernelIdeal Cert.KernelIdeal.Gen Idealize.ShloMosaic Idealize.ShloMosaic.TcCoe Idealize.SL.Sem
open Cert.Attn

/-- Choosing by a small number. -/
theorem select_small (a : Fin 32) (b : Fin 32) (u v : EReal) :
    Scalar.select (IntOp.cmpi CmpIPredicate.eq (BitVec.ofNat 32 a.val) (BitVec.ofNat 32 b.val)) u v = if a = b then u else v := by
  have : IntOp.cmpi CmpIPredicate.eq (BitVec.ofNat 32 a.val) (BitVec.ofNat 32 b.val) = if a = b then 1#1 else 0#1 := by
    revert a b; decide +kernel
  rw [this]; split <;> rfl

/-- Rows below one among the first eight. -/
theorem below1 : ∀ n : Fin 8, IntOp.cmpi CmpIPredicate.slt (BitVec.ofNat 32 n.val) 1#32 = if n.val < 1 then 1#1 else 0#1 := by decide +kernel
/-- Rows below two among the first eight. -/
theorem below2 : ∀ n : Fin 8, IntOp.cmpi CmpIPredicate.slt (BitVec.ofNat 32 n.val) 2#32 = if n.val < 2 then 1#1 else 0#1 := by decide +kernel
/-- Rows from seven on among the last eight. -/
theorem from7 : ∀ n : Fin 8, IntOp.cmpi CmpIPredicate.sge (BitVec.ofNat 32 n.val) 7#32 = if 7 ≤ n.val then 1#1 else 0#1 := by decide +kernel
/-- Rows from six on among the last eight. -/
theorem from6 : ∀ n : Fin 8, IntOp.cmpi CmpIPredicate.sge (BitVec.ofNat 32 n.val) 6#32 = if 6 ≤ n.val then 1#1 else 0#1 := by decide +kernel

/-- The convolved value of row `r`: the gate times the input. -/
def v (p : Vec Ideal S512x2560 .bf16) (r : Fin 512) (l : Fin 768) : EReal := p (ix2 r ⟨1536 + l.val, by omega⟩) * p (ix2 r ⟨l.val, by omega⟩)

/-- The same from the sixteen rows before the tile, zero before the first tile. -/
def vBefore (n : ℕ) (ph : Vec Ideal S16x2560 .bf16) (r : Fin 16) (l : Fin 768) : EReal :=
  if n = 0 then 0 else ph (ix2 r ⟨1536 + l.val, by omega⟩) * ph (ix2 r ⟨l.val, by omega⟩)

/-- The convolved value `k` rows earlier. -/
def down (k : ℕ) (hk : k ≤ 16) (n : ℕ) (p : Vec Ideal S512x2560 .bf16) (ph : Vec Ideal S16x2560 .bf16) (r : Fin 512) (l : Fin 768) : EReal :=
  if h : k ≤ r.val then v p ⟨r.val - k, by omega⟩ l else vBefore n ph ⟨16 + r.val - k, by omega⟩ l

/-- The gradient of the convolution's output at row `r`. -/
def dconv (p : Vec Ideal S512x2560 .bf16) (dx : Vec Ideal S512x1024 .f32) (wo : Vec Ideal S1024x1024 .bf16) (r : Fin 512) (l : Fin 768) : EReal :=
  (∑ k, dx (ix2 r k) * wo (ix2 ⟨l.val, by omega⟩ k)) * p (ix2 r ⟨768 + l.val, by omega⟩)

/-- The same from the sixteen rows after the tile, zero after the last tile. -/
def dconvAfter (n : ℕ) (pn : Vec Ideal S16x2560 .bf16) (dxn : Vec Ideal S16x1024 .f32) (wo : Vec Ideal S1024x1024 .bf16) (r : Fin 16) (l : Fin 768) : EReal :=
  if n = 31 then 0 else (∑ k, dxn (ix2 r k) * wo (ix2 ⟨l.val, by omega⟩ k)) * pn (ix2 r ⟨768 + l.val, by omega⟩)

/-- The gradient of the convolution's output `k` rows later. -/
def up (k : ℕ) (hk : k ≤ 16) (n : ℕ) (p : Vec Ideal S512x2560 .bf16) (pn : Vec Ideal S16x2560 .bf16) (dx : Vec Ideal S512x1024 .f32) (dxn : Vec Ideal S16x1024 .f32) (wo : Vec Ideal S1024x1024 .bf16) (r : Fin 512) (l : Fin 768) : EReal :=
  if h : r.val + k < 512 then dconv p dx wo ⟨r.val + k, h⟩ l else dconvAfter n pn dxn wo ⟨r.val + k - 512, by omega⟩ l

/-- The values before the tile. -/
theorem vBefore_at (i : grid0.Coords) (ph : Vec Ideal S16x2560 .bf16) (r : Fin 16) (l : Fin 768) :
    k0_pay6 (F := Ideal) i ph (ix2 r l) = vBefore (i 0).val ph r l := by
  pointwise [k0_pay6]
  refine (select_small ⟨(i 0).val, (i 0).isLt⟩ 0 _ _).trans ?_
  unfold vBefore; exact if_congr (by rw [Fin.ext_iff]; rfl) rfl rfl

/-- The convolved values. -/
theorem v_at (p : Vec Ideal S512x2560 .bf16) (r : Fin 512) (l : Fin 768) : k0_pay5 (F := Ideal) p (ix2 r l) = v p r l := by
  pointwise [k0_pay5, k0_pay4, k0_pay2]; rfl

/-- The convolved values one row earlier. -/
theorem down1_at (i : grid0.Coords) (p : Vec Ideal S512x2560 .bf16) (ph : Vec Ideal S16x2560 .bf16) (r : Fin 512) (l : Fin 768) :
    k0_pay7 (F := Ideal) i p ph (ix2 r l) = down 1 (by omega) (i 0).val p ph r l := by
  pointwise [k0_pay7]
  simp only [v_at, vBefore_at]
  unfold down
  by_cases h8 : r.val < 8
  · rw [dif_pos h8, below1 ⟨r.val, h8⟩]
    by_cases h1 : 1 ≤ r.val
    · rw [dif_pos h1, if_neg (by show ¬ r.val < 1; omega)]
      exact congrArg (fun a => v p a l) (Fin.ext (by show (r.val + 512 - 1) % 512 = r.val - 1; omega))
    · rw [dif_neg h1, if_pos (by show r.val < 1; omega)]
      exact congrArg (fun a => vBefore (i 0).val ph a l) (Fin.ext (by show (r.val + 16 - 1) % 16 = 16 + r.val - 1; omega))
  · rw [dif_neg h8, dif_pos (by omega)]
    exact congrArg (fun a => v p a l) (Fin.ext (by show (8 + (r.val - 8) + 512 - 1) % 512 = r.val - 1; omega))

/-- The convolved values two rows earlier. -/
theorem down2_at (i : grid0.Coords) (p : Vec Ideal S512x2560 .bf16) (ph : Vec Ideal S16x2560 .bf16) (r : Fin 512) (l : Fin 768) :
    k0_pay8 (F := Ideal) i p ph (ix2 r l) = down 2 (by omega) (i 0).val p ph r l := by
  pointwise [k0_pay8]
  simp only [v_at, vBefore_at]
  unfold down
  by_cases h8 : r.val < 8
  · rw [dif_pos h8, below2 ⟨r.val, h8⟩]
    by_cases h1 : 2 ≤ r.val
    · rw [dif_pos h1, if_neg (by show ¬ r.val < 2; omega)]
      exact congrArg (fun a => v p a l) (Fin.ext (by show (r.val + 512 - 2) % 512 = r.val - 2; omega))
    · rw [dif_neg h1, if_pos (by show r.val < 2; omega)]
      exact congrArg (fun a => vBefore (i 0).val ph a l) (Fin.ext (by show (r.val + 16 - 2) % 16 = 16 + r.val - 2; omega))
  · rw [dif_neg h8, dif_pos (by omega)]
    exact congrArg (fun a => v p a l) (Fin.ext (by show (8 + (r.val - 8) + 512 - 2) % 512 = r.val - 2; omega))

/-- The gradient of the convolution's output. -/
theorem dconv_at (p : Vec Ideal S512x2560 .bf16) (dx : Vec Ideal S512x1024 .f32) (wo : Vec Ideal S1024x1024 .bf16) (r : Fin 512) (l : Fin 768) :
    k0_pay16 (F := Ideal) wo (k0_pay3 p) dx (ix2 r l) = dconv p dx wo r l := by
  pointwise [k0_pay16, k0_pay12, k0_pay11, k0_pay3]; rfl

/-- The gradient of the convolution's output after the tile. -/
theorem dconvAfter_at (n : Fin 32) (pn : Vec Ideal S16x2560 .bf16) (dxn : Vec Ideal S16x1024 .f32) (wo : Vec Ideal S1024x1024 .bf16) (r : Fin 16) (l : Fin 768) :
    k0_pay14 (F := Ideal) (BitVec.ofNat 32 n.val) wo pn dxn (ix2 r l) = dconvAfter n.val pn dxn wo r l := by
  pointwise [k0_pay14]
  refine (select_small n 31 _ _).trans ?_
  unfold dconvAfter; exact if_congr (by rw [Fin.ext_iff]; rfl) rfl rfl

/-- The gradient of the convolved values of one tile. -/
def dv (n : ℕ) (cw : Vec Ideal S3x768 .f32) (p : Vec Ideal S512x2560 .bf16) (pn : Vec Ideal S16x2560 .bf16) (dx : Vec Ideal S512x1024 .f32) (dxn : Vec Ideal S16x1024 .f32) (wo : Vec Ideal S1024x1024 .bf16) (r : Fin 512) (l : Fin 768) : EReal :=
  cw (ix2 2 l) * dconv p dx wo r l + cw (ix2 1 l) * up 1 (by omega) n p pn dx dxn wo r l + cw (ix2 0 l) * up 2 (by omega) n p pn dx dxn wo r l

/-- The kernel's gradient of the convolved values. -/
theorem dv_at (n : Fin 32) (cw : Vec Ideal S3x768 .f32) (p : Vec Ideal S512x2560 .bf16) (pn : Vec Ideal S16x2560 .bf16) (dx : Vec Ideal S512x1024 .f32) (dxn : Vec Ideal S16x1024 .f32) (wo : Vec Ideal S1024x1024 .bf16) (r : Fin 512) (l : Fin 768) :
    k0_pay20 (F := Ideal) (k0_pay14 (BitVec.ofNat 32 n.val) wo pn dxn) (k0_pay17 (BitVec.ofNat 32 n.val) cw wo (k0_pay3 p) dx pn dxn) (k0_pay18 cw) (k0_pay19 wo (k0_pay3 p) dx) 6#32 (ix2 r l)
      = dv n.val cw p pn dx dxn wo r l := by
  pointwise [k0_pay20, k0_pay17, k0_pay18, k0_pay19]
  simp only [dconv_at, dconvAfter_at]
  unfold dv
  refine congrArg₂ (· + ·) (congrArg (cw (ix2 2 l) * dconv p dx wo r l + cw (ix2 1 l) * ·) ?_) (congrArg (cw (ix2 0 l) * ·) ?_)
  · unfold up
    by_cases h5 : r.val < 504
    · rw [dif_pos h5, dif_pos (by omega)]
      exact congrArg (fun a => dconv p dx wo a l) (Fin.ext (by show (r.val + 512 - 511) % 512 = r.val + 1; omega))
    · rw [dif_neg h5, from7 ⟨r.val - 504, by omega⟩]
      by_cases h1 : r.val + 1 < 512
      · rw [dif_pos h1, if_neg (by show ¬ 7 ≤ r.val - 504; omega)]
        exact congrArg (fun a => dconv p dx wo a l) (Fin.ext (by show (504 + (r.val - 504) + 512 - 511) % 512 = r.val + 1; omega))
      · rw [dif_neg h1, if_pos (by show 7 ≤ r.val - 504; omega)]
        exact congrArg (fun a => dconvAfter n.val pn dxn wo a l) (Fin.ext (by show (r.val - 504 + 16 - 7) % 16 = r.val + 1 - 512; omega))
  · unfold up
    by_cases h5 : r.val < 504
    · rw [dif_pos h5, dif_pos (by omega)]
      exact congrArg (fun a => dconv p dx wo a l) (Fin.ext (by show (r.val + 512 - 510) % 512 = r.val + 2; omega))
    · rw [dif_neg h5, from6 ⟨r.val - 504, by omega⟩]
      by_cases h1 : r.val + 2 < 512
      · rw [dif_pos h1, if_neg (by show ¬ 6 ≤ r.val - 504; omega)]
        exact congrArg (fun a => dconv p dx wo a l) (Fin.ext (by show (504 + (r.val - 504) + 512 - 510) % 512 = r.val + 2; omega))
      · rw [dif_neg h1, if_pos (by show 6 ≤ r.val - 504; omega)]
        exact congrArg (fun a => dconvAfter n.val pn dxn wo a l) (Fin.ext (by show (r.val - 504 + 16 - 6) % 16 = r.val + 2 - 512; omega))

/-- The gradients of the three rows of the convolution's weights of one tile. -/
theorem dcw_at (i : grid0.Coords) (p : Vec Ideal S512x2560 .bf16) (ph : Vec Ideal S16x2560 .bf16) (dx : Vec Ideal S512x1024 .f32) (wo : Vec Ideal S1024x1024 .bf16) (o : Vec Ideal S8x768 .f32) (r : Fin 8) (l : Fin 768) :
    k0_pay67 (F := Ideal) (k0_pay23 (k0_pay5 p) (k0_pay7 i p ph) (k0_pay8 i p ph) (k0_pay16 wo (k0_pay3 p) dx)) o (ix2 r l) = o (ix2 r l) +
      ((if r.val = 0 then ∑ a, dconv p dx wo a l * down 2 (by omega) (i 0).val p ph a l else 0)
      + (if r.val = 1 then ∑ a, dconv p dx wo a l * down 1 (by omega) (i 0).val p ph a l else 0)
      + (if r.val = 2 then ∑ a, dconv p dx wo a l * v p a l else 0)) := by
  pointwise [k0_pay67, k0_pay23]
  simp only [dconv_at, v_at, down1_at, down2_at]
  refine congrArg (o (ix2 r l) + ·) (congrArg₂ (· + ·) (congrArg₂ (· + ·) ?_ ?_) ?_)
  · exact (select_small ⟨r.val, by omega⟩ 0 _ _).trans (if_congr (by rw [Fin.ext_iff]; rfl) rfl rfl)
  · exact (select_small ⟨r.val, by omega⟩ 1 _ _).trans (if_congr (by rw [Fin.ext_iff]; rfl) rfl rfl)
  · exact (select_small ⟨r.val, by omega⟩ 2 _ _).trans (if_congr (by rw [Fin.ext_iff]; rfl) rfl rfl)

/-- The gradient of the second gate: the output's gradient times the convolution. -/
theorem dbg_at (i : grid0.Coords) (cw : Vec Ideal S3x768 .f32) (p : Vec Ideal S512x2560 .bf16) (ph : Vec Ideal S16x2560 .bf16) (dx : Vec Ideal S512x1024 .f32) (wo : Vec Ideal S1024x1024 .bf16) (r : Fin 512) (l : Fin 768) :
    k0_pay15 (F := Ideal) cw wo (k0_pay5 p) (k0_pay7 i p ph) (k0_pay9 i p cw ph) (k0_pay10 cw) dx (ix2 r l)
      = (∑ k, dx (ix2 r k) * wo (ix2 ⟨l.val, by omega⟩ k))
        * (cw (ix2 0 l) * down 2 (by omega) (i 0).val p ph r l + cw (ix2 1 l) * down 1 (by omega) (i 0).val p ph r l + cw (ix2 2 l) * v p r l) := by
  pointwise [k0_pay15, k0_pay12, k0_pay11, k0_pay9, k0_pay10]
  simp only [v_at, down1_at, down2_at]

end Cert.MixConvTile

end
-- ==== Proof.MixRef.lean ====
/- The first mixer's backward call: what the reference's stages are at an index. -/
module

public import proofs.«01_k».proof.Proof.Gen.ReferenceIdeal.Read
public import Idealize.ShloMosaic.Lib.Pointwise
public import proofs.«01_k».proof.Proof.Attn

@[expose] public section

set_option maxRecDepth 16384

noncomputable section

namespace Cert.MixRef

open Cert.ReferenceIdeal Cert.ReferenceIdeal.Gen Idealize.ShloMosaic Idealize.ShloMosaic.TcCoe Idealize.SL.Sem
open Cert.Attn

variable (X : Vec Ideal S16384x1024 .f32) (P : Vec Ideal S16384x2560 .bf16) (W : Vec Ideal S3x768 .f32) (M : Vec Ideal S256x2048 .bf16) (O : Vec Ideal S1024x1024 .bf16)

/-- The memory queries of token `R`. -/
def q (R : Fin 16384) (j : Fin 256) : EReal := P (ix2 R ⟨2304 + j.val, by omega⟩)

/-- The memory's keys. -/
def keys (m j : Fin 256) : EReal := M (ix2 m ⟨512 + j.val, by omega⟩)

/-- The memory's values. -/
def vals (m j : Fin 256) : EReal := M (ix2 m ⟨512 + (256 + j.val), by omega⟩)

/-- The gradient of the memory's output at token `R`. -/
def y (R : Fin 16384) (j : Fin 256) : EReal := ∑ k, X (ix2 R k) * O (ix2 ⟨768 + j.val, by omega⟩ k)

/-- The scores of head `h` at token `R`. -/
def sc (h : Fin 4) (R : Fin 16384) : Fin 256 → EReal := score h (q P R) (keys M)

/-- The gradients of the weights of head `h` at token `R`. -/
def dp (h : Fin 4) (R : Fin 16384) : Fin 256 → EReal := dprob h (y X O R) (vals M)

/-- The gradients of the scores of head `h` at token `R`. -/
def ds (h : Fin 4) (R : Fin 16384) : Fin 256 → EReal := dscore (sc P M h R) (dp X M O h R)

/-- The scores. -/
theorem score_ref (h : Fin 4) (R : Fin 16384) (m : Fin 256) :
    Read.val_main_v40 (F := Ideal) P M (ix3 h R m) = sc P M h R m := by
  pointwise [Read.val_main_v40, Read.val_main_v39, Read.val_main_cst_1, Read.val_main_v38, Read.val_main_v36, Read.val_main_v35, Read.val_main_v7, Read.val_main_v3, Read.val_main_v33, Read.val_main_v1, Read.val_main_v0]; rfl

/-- A host maximum over the last of three axes. -/
theorem host_max {a b n : ℕ} {u : Shape} (x : FVec Ideal ⟨3, ![a, b, n]⟩ .f32) (init : u.Idx → EReal) (h' : (⟨3, ![a, b, n]⟩ : Shape).ReducesTo [2] ⟨2, ![a, b]⟩)
    (h : (⟨3, ![a, b, n]⟩ : Shape).Reduces [2] ⟨2, ![a, b]⟩) (hu : 0 < u.numel) (i : Fin a) (j : Fin b) :
    Host.reduce (FloatOps.maximumf (F := Ideal) (φ := .f32)) x init h' hu (ix2 i j) = Finset.fold max (init (Shape.Idx.first hu)) (fun k : Fin n => x (ix3 i j k)) Finset.univ := by
  refine (Host.reduce_eq_fold_single (FloatOps.maximumf (F := Ideal) (φ := .f32)) x init h' h hu (ix2 i j)).trans ?_
  have e : x ∘ h.lift (ix2 i j) = fun k : Fin n => x (ix3 i j k) := funext fun k => congrArg x (funext fun d => Fin.ext (by
    match d with
    | ⟨0, _⟩ => rfl
    | ⟨1, _⟩ => rfl
    | ⟨2, _⟩ => rfl))
  rw [e]
  rfl

/-- The greatest score before it is held above the least. -/
theorem top_ref0 (h : Fin 4) (R : Fin 16384) :
    Read.val_main_v41 (F := Ideal) P M (ix2 h R) = top (sc P M h R) := by
  unfold Read.val_main_v41
  refine (host_max (Read.val_main_v40 (F := Ideal) P M) _ _ (by decide) _ h R).trans ?_
  simp only [score_ref]; rfl

/-- The greatest score. -/
theorem top_ref (h : Fin 4) (R : Fin 16384) :
    Read.val_main_v48 (F := Ideal) P M (ix2 h R) = top (sc P M h R) := by
  have e : Read.val_main_v47 (F := Ideal) (ix2 h R) = (⊥ : EReal) := by
    rw [Read.val_main_v47_apply]; exact bits_bot
  have f : ∀ a b : EReal, a = ⊥ → max a b = b := fun a b h => by rw [h]; exact max_eq_right bot_le
  rw [Read.val_main_v48_apply, top_ref0]
  exact f _ _ e

/-- The weights before they are normalised. -/
theorem ex_ref (h : Fin 4) (R : Fin 16384) (m : Fin 256) :
    Read.val_main_v61 (F := Ideal) P M (ix3 h R m) = ex (sc P M h R) m := by
  pointwise [Read.val_main_v61, Read.val_main_v60, Read.val_main_v59, Read.val_main_v58]
  rw [score_ref, top_ref]; rfl

/-- Their sum. -/
theorem tot_ref (h : Fin 4) (R : Fin 16384) :
    Read.val_main_v62 (F := Ideal) P M (ix2 h R) = tot (sc P M h R) := by
  pointwise [Read.val_main_v62, Read.val_main_cst_10]
  simp only [ex_ref]; rfl

/-- The normalised weights. -/
theorem prob_ref (h : Fin 4) (R : Fin 16384) (m : Fin 256) :
    Read.val_main_v65 (F := Ideal) P M (ix3 h R m) = prob (sc P M h R) m := by
  pointwise [Read.val_main_v65, Read.val_main_v64, Read.val_main_v63]
  rw [ex_ref, tot_ref]; rfl

/-- The gradients of the weights. -/
theorem dprob_ref (h : Fin 4) (R : Fin 16384) (m : Fin 256) :
    Read.val_main_v79 (F := Ideal) X M O (ix3 h R m) = dp X M O h R m := by
  pointwise [Read.val_main_v79, Read.val_main_v78, Read.val_main_v77, Read.val_main_v76, Read.val_main_v74, Read.val_main_v37, Read.val_main_v34, Read.val_main_v2, Read.val_main_v1, Read.val_main_v0]; rfl

/-- The part of a score's gradient that all of a row share. -/
theorem inner_ref (h : Fin 4) (R : Fin 16384) :
    Read.val_main_v85 (F := Ideal) X P M O (ix2 h R) = ∑ x, dp X M O h R x * Ideal.div 1 (tot (sc P M h R) * tot (sc P M h R)) * ex (sc P M h R) x := by
  pointwise [Read.val_main_v85, Read.val_main_v84, Read.val_main_v83, Read.val_main_v82, Read.val_main_v68, Read.val_main_v67, Read.val_main_v66, Read.val_main_v63, Read.val_main_cst_11, Read.val_main_cst_12]
  simp only [ex_ref, tot_ref, dprob_ref]

/-- The gradients of the scores. -/
theorem dscore_ref (h : Fin 4) (R : Fin 16384) (m : Fin 256) :
    Read.val_main_v95 (F := Ideal) X P M O (ix3 h R m) = ds X P M O h R m := by
  pointwise [Read.val_main_v95, Read.val_main_v94, Read.val_main_v93, Read.val_main_v92, Read.val_main_v91, Read.val_main_v90, Read.val_main_v89, Read.val_main_v88, Read.val_main_v87, Read.val_main_v86, Read.val_main_v63, Read.val_main_cst_13, Read.val_main_cst_14]
  simp only [Fin.sum_univ_one, ex_ref, tot_ref, dprob_ref, inner_ref]; rfl

/-- The queries' gradient. -/
theorem dq_ref (R : Fin 16384) (j : Fin 256) :
    Read.val_main_v102 (F := Ideal) X P M O (ix2 R j) = ∑ m, ds X P M O (head j) R m * keys M m j := by
  pointwise [Read.val_main_v102, Read.val_main_v99, Read.val_main_v98, Read.val_main_v36, Read.val_main_v33, Read.val_main_v1, Read.val_main_v0]
  exact Finset.sum_congr rfl fun m _ => congrArg (· * keys M m j) (dscore_ref X P M O (head j) R m)

/-- The keys' gradient. -/
theorem dmk_ref (m j : Fin 256) :
    Read.val_main_v101 (F := Ideal) X P M O (ix2 m j) = ∑ R, ds X P M O (head j) R m * q P R j := by
  pointwise [Read.val_main_v101, Read.val_main_v97, Read.val_main_v96, Read.val_main_v35, Read.val_main_v7, Read.val_main_v3]
  exact Finset.sum_congr rfl fun R _ => congrArg (· * q P R j) (dscore_ref X P M O (head j) R m)

/-- The values' gradient. -/
theorem dmv_ref (m j : Fin 256) :
    Read.val_main_v100 (F := Ideal) X P M O (ix2 m j) = ∑ R, y X O R j * prob (sc P M (head j) R) m := by
  pointwise [Read.val_main_v100, Read.val_main_v81, Read.val_main_v80, Read.val_main_v78, Read.val_main_v77, Read.val_main_v76, Read.val_main_v74, Read.val_main_v2]
  exact Finset.sum_congr rfl fun R _ => congrArg (y X O R j * ·) (prob_ref P M (head j) R m)

/-- The convolved value of row `R`: the gate times the input. -/
def v (R : Fin 16384) (l : Fin 768) : EReal := P (ix2 R ⟨1536 + l.val, by omega⟩) * P (ix2 R ⟨l.val, by omega⟩)

/-- The convolved value `k` rows earlier, zero before the first row. -/
def down (k : ℕ) (R : Fin 16384) (l : Fin 768) : EReal := if R.val < k then 0 else v P ⟨R.val - k, by omega⟩ l

/-- The gradient of the first gate's output at row `R`. -/
def dtok (R : Fin 16384) (l : Fin 768) : EReal := ∑ k, X (ix2 R k) * O (ix2 ⟨l.val, by omega⟩ k)

/-- The gradient of the convolution's output at row `R`. -/
def dconv (R : Fin 16384) (l : Fin 768) : EReal := dtok X O R l * P (ix2 R ⟨768 + l.val, by omega⟩)

/-- The gradient of the convolution's output `k` rows later, zero after the last row. -/
def up (k : ℕ) (R : Fin 16384) (l : Fin 768) : EReal := if h : R.val + k < 16384 then dconv X P O ⟨R.val + k, h⟩ l else 0

/-- The gradient of the convolved values. -/
def dv (R : Fin 16384) (l : Fin 768) : EReal :=
  W (ix2 2 l) * dconv X P O R l + W (ix2 1 l) * up X P O 1 R l + W (ix2 0 l) * up X P O 2 R l

/-- The convolved values. -/
theorem v_ref (R : Fin 16384) (l : Fin 768) :
    Read.val_main_v27 (F := Ideal) P (ix2 R l) = v P R l := by
  pointwise [Read.val_main_v27, Read.val_main_v10, Read.val_main_v9, Read.val_main_v8, Read.val_main_v6, Read.val_main_v4, Read.val_main_v3, Read.val_main_cst]
  rfl

/-- The convolved values one row earlier. -/
theorem down1_ref (R : Fin 16384) (l : Fin 768) :
    Read.val_main_v20 (F := Ideal) P (ix2 R l) = down P 1 R l := by
  pointwise [Read.val_main_v20, Read.val_main_v10, Read.val_main_v9, Read.val_main_v8, Read.val_main_v6, Read.val_main_v4, Read.val_main_v3, Read.val_main_cst]
  unfold down
  by_cases h : R.val < 1
  · rw [dif_pos (by omega), if_pos h]
  · rw [dif_neg (by omega), if_neg h]
    exact congrArg (fun a => v P a l) (Fin.ext (by show 1 + R.val - 2 = R.val - 1; omega))

/-- The convolved values two rows earlier. -/
theorem down2_ref (R : Fin 16384) (l : Fin 768) :
    Read.val_main_v14 (F := Ideal) P (ix2 R l) = down P 2 R l := by
  pointwise [Read.val_main_v14, Read.val_main_v10, Read.val_main_v9, Read.val_main_v8, Read.val_main_v6, Read.val_main_v4, Read.val_main_v3, Read.val_main_cst]
  unfold down
  by_cases h : R.val < 2
  · rw [dif_pos (by omega), if_pos h]
  · rw [dif_neg (by omega), if_neg h]
    exact congrArg (fun a => v P a l) (Fin.ext (by show R.val - 2 = R.val - 2; omega))

/-- The gradient of the convolution. -/
theorem dconv_ref (R : Fin 16384) (l : Fin 768) :
    Read.val_main_v104 (F := Ideal) X P O (ix2 R l) = dconv X P O R l := by
  pointwise [Read.val_main_v104, Read.val_main_v75, Read.val_main_v74, Read.val_main_v2, Read.val_main_v5, Read.val_main_v3]
  exact mul_comm _ _

/-- The second gate's gradient. -/
theorem dbg_ref (R : Fin 16384) (l : Fin 768) :
    Read.val_main_v105 (F := Ideal) X P W O (ix2 R l) = dtok X O R l * (W (ix2 0 l) * down P 2 R l + W (ix2 1 l) * down P 1 R l + W (ix2 2 l) * v P R l) := by
  pointwise [Read.val_main_v105, Read.val_main_v75, Read.val_main_v74, Read.val_main_v2, Read.val_main_v31, Read.val_main_v30, Read.val_main_v29, Read.val_main_v28, Read.val_main_v26, Read.val_main_v25, Read.val_main_v24, Read.val_main_v23, Read.val_main_v22, Read.val_main_v21, Read.val_main_v19, Read.val_main_v18, Read.val_main_v17, Read.val_main_v16, Read.val_main_v15, Read.val_main_v13, Read.val_main_v12]
  simp only [v_ref, down1_ref, down2_ref]; rfl

/-- The gradient of the convolved values. -/
theorem dv_ref (R : Fin 16384) (l : Fin 768) :
    Read.val_main_v138 (F := Ideal) X P W O (ix2 R l) = dv X P W O R l := by
  pointwise [Read.val_main_v138, Read.val_main_v133, Read.val_main_v132, Read.val_main_v122, Read.val_main_v121, Read.val_main_v112, Read.val_main_v107, Read.val_main_v106, Read.val_main_v116, Read.val_main_v115, Read.val_main_v127, Read.val_main_v126, Read.val_main_v28, Read.val_main_v26, Read.val_main_v25, Read.val_main_v21, Read.val_main_v19, Read.val_main_v18, Read.val_main_v15, Read.val_main_v13, Read.val_main_v12, Read.val_main_cst_17, Read.val_main_cst_21, Read.val_main_cst_25]
  simp only [dconv_ref]
  unfold dv up
  refine congrArg₂ (· + ·) (congrArg (W (ix2 2 l) * dconv X P O R l + ·) ?_) ?_
  · by_cases h : R.val + 1 < 16384
    · rw [dif_pos (by omega), dif_pos h]
      exact congrArg (fun a => W (ix2 1 l) * dconv X P O a l) (Fin.ext (by show 2 + R.val - 1 = R.val + 1; omega))
    · rw [dif_neg (by omega), dif_neg h, mul_zero]
  · by_cases h : R.val + 2 < 16384
    · rw [dif_pos (by omega), dif_pos h]
      exact congrArg (fun a => W (ix2 0 l) * dconv X P O a l) (Fin.ext (by show 2 + R.val = R.val + 2; omega))
    · rw [dif_neg (by omega), dif_neg h, mul_zero]

/-- The zero that pads. -/
theorem sitofp_zero :
    (FloatOps.sitofp FTy.f32 0#32 : Ideal FTy.f32) = (0 : EReal) := by
  show (((0#32 : BitVec 32).toInt : ℝ) : EReal) = 0
  simp

/-- The gradients of the convolution's weights. -/
theorem dcw_ref (r : Fin 8) (l : Fin 768) :
    Read.val_main_v143 (F := Ideal) X P O (ix2 r l) = (if r.val = 0 then ∑ R, dconv X P O R l * down P 2 R l else 0)
      + (if r.val = 1 then ∑ R, dconv X P O R l * down P 1 R l else 0) + (if r.val = 2 then ∑ R, dconv X P O R l * v P R l else 0) := by
  pointwise [Read.val_main_v143, Read.val_main_v136, Read.val_main_v135, Read.val_main_v134, Read.val_main_v125, Read.val_main_v124, Read.val_main_v123, Read.val_main_v114, Read.val_main_v113, Read.val_main_v131, Read.val_main_v130, Read.val_main_v129, Read.val_main_v128, Read.val_main_v120, Read.val_main_v119, Read.val_main_v118, Read.val_main_v117, Read.val_main_v111, Read.val_main_v110, Read.val_main_v109, Read.val_main_v108, Read.val_main_cst_15, Read.val_main_cst_16, Read.val_main_cst_18, Read.val_main_cst_19, Read.val_main_cst_20, Read.val_main_cst_22, Read.val_main_cst_23, Read.val_main_cst_24, Read.val_main_cst_26, Read.val_main_call0_v0, Read.val_main_c]
  simp only [dconv_ref, v_ref, down1_ref, down2_ref, Fin.sum_univ_one]
  match r with
  | ⟨0, _⟩ => simp
  | ⟨1, _⟩ => simp
  | ⟨2, _⟩ => simp
  | ⟨3, _⟩ => simp; exact sitofp_zero
  | ⟨4, _⟩ => simp; exact sitofp_zero
  | ⟨5, _⟩ => simp; exact sitofp_zero
  | ⟨6, _⟩ => simp; exact sitofp_zero
  | ⟨7, _⟩ => simp; exact sitofp_zero

/-- The whole gradient of the projection's output: input, second gate, first gate, queries. -/
def dproj (R : Fin 16384) (l : Fin 2560) : EReal :=
  if h : l.val < 768 then P (ix2 R ⟨1536 + l.val, by omega⟩) * dv X P W O R ⟨l.val, by omega⟩
  else if h : l.val - 768 < 768 then
    dtok X O R ⟨l.val - 768, by omega⟩ * (W (ix2 0 ⟨l.val - 768, by omega⟩) * down P 2 R ⟨l.val - 768, by omega⟩
      + W (ix2 1 ⟨l.val - 768, by omega⟩) * down P 1 R ⟨l.val - 768, by omega⟩ + W (ix2 2 ⟨l.val - 768, by omega⟩) * v P R ⟨l.val - 768, by omega⟩)
  else if h : l.val - 768 - 768 < 768 then dv X P W O R ⟨l.val - 768 - 768, by omega⟩ * P (ix2 R ⟨l.val - 768 - 768, by omega⟩)
  else ∑ m, ds X P M O (head ⟨l.val - 768 - 768 - 768, by omega⟩) R m * keys M m ⟨l.val - 768 - 768 - 768, by omega⟩

/-- The gradient of the memory's keys and values. -/
def dmkv (m : Fin 256) (l : Fin 512) : EReal :=
  if h : l.val < 256 then ∑ R, ds X P M O (head ⟨l.val, h⟩) R m * q P R ⟨l.val, h⟩
  else ∑ R, y X O R ⟨l.val - 256, by omega⟩ * prob (sc P M (head ⟨l.val - 256, by omega⟩) R) m

/-- The reference's gradient of the projection. -/
theorem dproj_ref (R : Fin 16384) (l : Fin 2560) :
    Read.val_main_v142 (F := Ideal) X P W M O (ix2 R l) = dproj X P W M O R l := by
  pointwise [Read.val_main_v142, Read.val_main_v141, Read.val_main_v139, Read.val_main_v140, Read.val_main_v6, Read.val_main_v4, Read.val_main_v3]
  simp only [dv_ref, dbg_ref, dq_ref]; rfl

/-- The reference's gradient of the memory. -/
theorem dmkv_ref (m : Fin 256) (l : Fin 512) :
    Read.val_main_v103 (F := Ideal) X P M O (ix2 m l) = dmkv X P M O m l := by
  pointwise [Read.val_main_v103]
  simp only [dmk_ref, dmv_ref]; rfl

end Cert.MixRef

end
-- ==== Proof.MixABwd.lean ====
/- The first mixer's backward call: the gradients of its projection, of the convolution's weights and of the memory's keys
   and values, over all 32 tiles. -/
module

public import proofs.«01_k».proof.Proof.Gen.KernelIdeal.Frame
public import proofs.«01_k».proof.Proof.Gen.ReferenceIdeal.Read
public import Idealize.ShloMosaic.Lib.Pipeline.ValueKit.Tiles
public import Idealize.ShloMosaic.Lib.Pipeline.ValueKit.Geometry
public import Idealize.ShloMosaic.Lib.Pipeline.Value
public import Idealize.ShloMosaic.Lib.Pointwise
public import Idealize.ShloMosaic.Lib.Pipeline.ReadBack
public import proofs.«01_k».proof.Proof.Gen.Pre_finite
public import proofs.«01_k».proof.Proof.Finite
public import proofs.«01_k».proof.Proof.Attn
public import proofs.«01_k».proof.Proof.MixTile
public import proofs.«01_k».proof.Proof.MixConvTile
public import proofs.«01_k».proof.Proof.MixRef
public import proofs.«01_k».proof.Defs

@[expose] public section

set_option maxRecDepth 16384

noncomputable section

namespace Cert.MixABwdProof

open Cert.KernelIdeal Cert.KernelIdeal.Gen Idealize.ShloMosaic Idealize.ShloMosaic.TcCoe Idealize.SL.Sem
open Idealize.ShloMosaic.Pipeline (Dat)
open Cert.Attn Cert.Finite

variable (m : (ℓ : Loc nD τ sig) → Buf (Elt Ideal) ℓ)

/-- Where the block of the incoming gradient starts, in blocks. -/
theorem at0 : ∀ t : Fin cfg0.N, win0_0.index t = ![t.val, 0] := (by decide +kernel : ∀ t : Fin grid0.N, _)
/-- Where the block of the incoming gradient after the tile starts, in blocks. -/
theorem at1 : ∀ t : Fin cfg0.N, win0_1.index t = ![if t.val = 31 then 1023 else 32 * t.val + 32, 0] := (by decide +kernel : ∀ t : Fin grid0.N, _)
/-- Where the block of the projection starts, in blocks. -/
theorem at2 : ∀ t : Fin cfg0.N, win0_2.index t = ![t.val, 0] := (by decide +kernel : ∀ t : Fin grid0.N, _)
/-- Where the block of the projection before the tile starts, in blocks. -/
theorem at3 : ∀ t : Fin cfg0.N, win0_3.index t = ![if t.val = 0 then 0 else 32 * t.val - 1, 0] := (by decide +kernel : ∀ t : Fin grid0.N, _)
/-- Where the block of the projection after the tile starts, in blocks. -/
theorem at4 : ∀ t : Fin cfg0.N, win0_4.index t = ![if t.val = 31 then 1023 else 32 * t.val + 32, 0] := (by decide +kernel : ∀ t : Fin grid0.N, _)
/-- Where the block of the convolution's weights starts, in blocks. -/
theorem at5 : ∀ t : Fin cfg0.N, win0_5.index t = ![0, 0] := (by decide +kernel : ∀ t : Fin grid0.N, _)
/-- Where the block of the memory starts, in blocks. -/
theorem at6 : ∀ t : Fin cfg0.N, win0_6.index t = ![0, 1] := (by decide +kernel : ∀ t : Fin grid0.N, _)
/-- Where the block of the output matrix starts, in blocks. -/
theorem at7 : ∀ t : Fin cfg0.N, win0_7.index t = ![0, 0] := (by decide +kernel : ∀ t : Fin grid0.N, _)
/-- Where the block of the projection's gradient starts, in blocks. -/
theorem at8 : ∀ t : Fin cfg0.N, win0_8.index t = ![t.val, 0] := (by decide +kernel : ∀ t : Fin grid0.N, _)
/-- Where the block of the weights' gradient starts, in blocks. -/
theorem at9 : ∀ t : Fin cfg0.N, win0_9.index t = ![0, 0] := (by decide +kernel : ∀ t : Fin grid0.N, _)
/-- Where the block of the memory's gradient starts, in blocks. -/
theorem at10 : ∀ t : Fin cfg0.N, win0_10.index t = ![0, 0] := (by decide +kernel : ∀ t : Fin grid0.N, _)

/-- The point's coordinate is its number. -/
theorem coord : ∀ t : Fin cfg0.N, (grid0.coords t 0).val = t.val := (by decide +kernel : ∀ t : Fin grid0.N, _)

/-- A point's number is below 32. -/
theorem point_lt (t : Fin cfg0.N) : t.val < 32 := lt_of_lt_of_eq t.isLt N_0

/-- Row `r` of the tile at point `t`, as a row of the whole array. -/
def row (t : Fin cfg0.N) (r : Fin 512) : Fin 16384 := ⟨t.val * 512 + r.val, by have := point_lt t; omega⟩

/-- Row `r` of the sixteen before the tile. -/
def rowBefore (t : Fin cfg0.N) (ht : t.val ≠ 0) (r : Fin 16) : Fin 16384 := ⟨t.val * 512 + r.val - 16, by have := point_lt t; omega⟩

/-- Row `r` of the sixteen after the tile. -/
def rowAfter (t : Fin cfg0.N) (ht : t.val ≠ 31) (r : Fin 16) : Fin 16384 := ⟨t.val * 512 + r.val + 512, by have := point_lt t; omega⟩

/-- The incoming gradient. -/
abbrev aX (c : Dev nD) : Vec Ideal S16384x1024 .f32 := m ((c : Thread nD τ).loc main_arg0)
/-- The projection. -/
abbrev aP (c : Dev nD) : Vec Ideal S16384x2560 .bf16 := m ((c : Thread nD τ).loc main_arg1)
/-- The convolution's weights. -/
abbrev aW (c : Dev nD) : Vec Ideal S3x768 .f32 := m ((c : Thread nD τ).loc main_arg2)
/-- The memory. -/
abbrev aM (c : Dev nD) : Vec Ideal S256x2048 .bf16 := m ((c : Thread nD τ).loc main_arg3)
/-- The output matrix. -/
abbrev aO (c : Dev nD) : Vec Ideal S1024x1024 .bf16 := m ((c : Thread nD τ).loc main_arg4)

/-- The tile of the incoming gradient. -/
abbrev bX (c : Dev nD) (t : Fin cfg0.N) : Vec Ideal S512x1024 .f32 := iblk m c 0 t
/-- The rows of the incoming gradient after the tile. -/
abbrev bXn (c : Dev nD) (t : Fin cfg0.N) : Vec Ideal S16x1024 .f32 := iblk m c 1 t
/-- The tile of the projection. -/
abbrev bP (c : Dev nD) (t : Fin cfg0.N) : Vec Ideal S512x2560 .bf16 := iblk m c 2 t
/-- The rows of the projection before the tile. -/
abbrev bPh (c : Dev nD) (t : Fin cfg0.N) : Vec Ideal S16x2560 .bf16 := iblk m c 3 t
/-- The rows of the projection after the tile. -/
abbrev bPn (c : Dev nD) (t : Fin cfg0.N) : Vec Ideal S16x2560 .bf16 := iblk m c 4 t
/-- The convolution's weights. -/
abbrev bW (c : Dev nD) (t : Fin cfg0.N) : Vec Ideal S3x768 .f32 := iblk m c 5 t
/-- The layer's keys and values. -/
abbrev bM (c : Dev nD) (t : Fin cfg0.N) : Vec Ideal S256x512 .bf16 := iblk m c 6 t
/-- The output matrix. -/
abbrev bO (c : Dev nD) (t : Fin cfg0.N) : Vec Ideal S1024x1024 .bf16 := iblk m c 7 t

/-- An entry of the tile of the incoming gradient. -/
theorem x_at (c : Dev nD) (t : Fin cfg0.N) (r : Fin 512) (k : Fin 1024) : bX m c t (ix2 r k) = aX m c (ix2 (row t r) k) := by
  unfold bX; blk_ext [iblk, V_main_arg0, at0 t, row]
/-- An entry of the incoming gradient after the tile. -/
theorem xn_at (c : Dev nD) (t : Fin cfg0.N) (ht : t.val ≠ 31) (r : Fin 16) (k : Fin 1024) : bXn m c t (ix2 r k) = aX m c (ix2 (rowAfter t ht r) k) := by
  unfold bXn; blk_ext [iblk, V_main_arg0, at1 t, rowAfter, if_neg ht]
/-- An entry of the tile of the projection. -/
theorem p_at (c : Dev nD) (t : Fin cfg0.N) (r : Fin 512) (k : Fin 2560) : bP m c t (ix2 r k) = aP m c (ix2 (row t r) k) := by
  unfold bP; blk_ext [iblk, V_main_arg1, at2 t, row]
/-- An entry of the projection before the tile. -/
theorem ph_at (c : Dev nD) (t : Fin cfg0.N) (ht : t.val ≠ 0) (r : Fin 16) (k : Fin 2560) : bPh m c t (ix2 r k) = aP m c (ix2 (rowBefore t ht r) k) := by
  unfold bPh; blk_ext [iblk, V_main_arg1, at3 t, rowBefore, if_neg ht]
/-- An entry of the projection after the tile. -/
theorem pn_at (c : Dev nD) (t : Fin cfg0.N) (ht : t.val ≠ 31) (r : Fin 16) (k : Fin 2560) : bPn m c t (ix2 r k) = aP m c (ix2 (rowAfter t ht r) k) := by
  unfold bPn; blk_ext [iblk, V_main_arg1, at4 t, rowAfter, if_neg ht]
/-- An entry of the convolution's weights. -/
theorem w_at (c : Dev nD) (t : Fin cfg0.N) (r : Fin 3) (k : Fin 768) : bW m c t (ix2 r k) = aW m c (ix2 r k) := by
  unfold bW; blk_ext [iblk, V_main_arg2, at5 t]
/-- An entry of the layer's keys and values. -/
theorem m_at (c : Dev nD) (t : Fin cfg0.N) (r : Fin 256) (k : Fin 512) : bM m c t (ix2 r k) = aM m c (ix2 r ⟨512 + k.val, by omega⟩) := by
  unfold bM; blk_ext [iblk, V_main_arg3, at6 t]
/-- An entry of the output matrix. -/
theorem o_at (c : Dev nD) (t : Fin cfg0.N) (r k : Fin 1024) : bO m c t (ix2 r k) = aO m c (ix2 r k) := by
  unfold bO; blk_ext [iblk, V_main_arg4, at7 t]

/-- A tile's convolved values. -/
theorem v_eq (c : Dev nD) (t : Fin cfg0.N) (r : Fin 512) (l : Fin 768) : MixConvTile.v (bP m c t) r l = MixRef.v (aP m c) (row t r) l := by
  unfold MixConvTile.v MixRef.v; rw [p_at, p_at]

/-- A tile's convolved values some rows earlier. -/
theorem down_eq (c : Dev nD) (t : Fin cfg0.N) (k : ℕ) (hk : k ≤ 16) (h0 : 0 < k) (r : Fin 512) (l : Fin 768) :
    MixConvTile.down k hk (grid0.coords t 0).val (bP m c t) (bPh m c t) r l = MixRef.down (aP m c) k (row t r) l := by
  rw [coord]
  unfold MixConvTile.down MixRef.down
  by_cases h : k ≤ r.val
  · rw [dif_pos h, if_neg (by show ¬ t.val * 512 + r.val < k; omega), v_eq]
    exact congrArg (fun a => MixRef.v (aP m c) a l) (Fin.ext (by show t.val * 512 + (r.val - k) = t.val * 512 + r.val - k; omega))
  · rw [dif_neg h]
    unfold MixConvTile.vBefore
    by_cases ht : t.val = 0
    · rw [if_pos ht, if_pos (by show t.val * 512 + r.val < k; omega)]
    · rw [if_neg ht, if_neg (by show ¬ t.val * 512 + r.val < k; omega), ph_at m c t ht, ph_at m c t ht]
      exact congrArg (fun a => MixRef.v (aP m c) a l) (Fin.ext (by show t.val * 512 + (16 + r.val - k) - 16 = t.val * 512 + r.val - k; omega))

/-- A tile's gradient of the convolution's output. -/
theorem dconv_eq (c : Dev nD) (t : Fin cfg0.N) (r : Fin 512) (l : Fin 768) :
    MixConvTile.dconv (bP m c t) (bX m c t) (bO m c t) r l = MixRef.dconv (aX m c) (aP m c) (aO m c) (row t r) l := by
  unfold MixConvTile.dconv MixRef.dconv MixRef.dtok; simp only [p_at, x_at, o_at]

/-- A tile's gradient of the convolution's output some rows later. -/
theorem up_eq (c : Dev nD) (t : Fin cfg0.N) (k : ℕ) (hk : k ≤ 16) (r : Fin 512) (l : Fin 768) :
    MixConvTile.up k hk t.val (bP m c t) (bPn m c t) (bX m c t) (bXn m c t) (bO m c t) r l = MixRef.up (aX m c) (aP m c) (aO m c) k (row t r) l := by
  have hl := point_lt t
  unfold MixConvTile.up MixRef.up
  by_cases h : r.val + k < 512
  · rw [dif_pos h, dif_pos (by show t.val * 512 + r.val + k < 16384; omega), dconv_eq]
    exact congrArg (fun a => MixRef.dconv (aX m c) (aP m c) (aO m c) a l) (Fin.ext (by show t.val * 512 + (r.val + k) = t.val * 512 + r.val + k; omega))
  · rw [dif_neg h]
    unfold MixConvTile.dconvAfter
    by_cases ht : t.val = 31
    · rw [if_pos ht, dif_neg (by show ¬ t.val * 512 + r.val + k < 16384; omega)]
    · rw [if_neg ht, dif_pos (by show t.val * 512 + r.val + k < 16384; omega)]
      simp only [pn_at m c t ht, xn_at m c t ht, o_at]
      exact congrArg (fun a => MixRef.dconv (aX m c) (aP m c) (aO m c) a l) (Fin.ext (by show t.val * 512 + (r.val + k - 512) + 512 = t.val * 512 + r.val + k; omega))

/-- A tile's gradient of the convolved values. -/
theorem dv_eq (c : Dev nD) (t : Fin cfg0.N) (r : Fin 512) (l : Fin 768) :
    MixConvTile.dv t.val (bW m c t) (bP m c t) (bPn m c t) (bX m c t) (bXn m c t) (bO m c t) r l = MixRef.dv (aX m c) (aP m c) (aW m c) (aO m c) (row t r) l := by
  unfold MixConvTile.dv MixRef.dv; rw [up_eq, up_eq, dconv_eq, w_at, w_at, w_at]

/-- A tile's queries. -/
theorem q_eq (c : Dev nD) (t : Fin cfg0.N) (r : Fin 512) : MixTile.q (bP m c t) r = MixRef.q (aP m c) (row t r) :=
  funext fun j => by unfold MixTile.q MixRef.q; rw [p_at]
/-- A tile's keys. -/
theorem keys_eq (c : Dev nD) (t : Fin cfg0.N) : MixTile.keys (bM m c t) = MixRef.keys (aM m c) :=
  funext fun i => funext fun j => by unfold MixTile.keys MixRef.keys; rw [m_at]
/-- A tile's values. -/
theorem vals_eq (c : Dev nD) (t : Fin cfg0.N) : MixTile.vals (bM m c t) = MixRef.vals (aM m c) :=
  funext fun i => funext fun j => by unfold MixTile.vals MixRef.vals; rw [m_at]
/-- A tile's gradient of the memory's output. -/
theorem y_eq (c : Dev nD) (t : Fin cfg0.N) (r : Fin 512) : MixTile.y (bX m c t) (bO m c t) r = MixRef.y (aX m c) (aO m c) (row t r) :=
  funext fun j => by unfold MixTile.y MixRef.y; simp only [x_at, o_at]

/-- Every entry that the memory's part reads is a real number. -/
def Reals (c : Dev nD) : Prop :=
  (∀ i, IsReal (aX m c i)) ∧ (∀ R j, IsReal (MixRef.q (aP m c) R j)) ∧ (∀ (i : Fin 256) (j : Fin 512), IsReal (aM m c (ix2 i ⟨512 + j.val, by omega⟩)))
  ∧ ∀ (j : Fin 256) (k : Fin 1024), IsReal (aO m c (ix2 ⟨768 + j.val, by omega⟩ k))

section
variable {m} {c : Dev nD} (hr : Reals m c)
include hr

/-- The queries are real. -/
theorem q_real (R : Fin 16384) (j : Fin 256) : IsReal (MixRef.q (aP m c) R j) := hr.2.1 R j
/-- The keys are real. -/
theorem keys_real (i j : Fin 256) : IsReal (MixRef.keys (aM m c) i j) := hr.2.2.1 i ⟨j.val, by omega⟩
/-- The gradient of the memory's output is real. -/
theorem y_real (R : Fin 16384) (j : Fin 256) : IsReal (MixRef.y (aX m c) (aO m c) R j) := sum fun k => mul (hr.1 _) (hr.2.2.2 j k)
/-- The scores are real. -/
theorem sc_real (h : Fin 4) (R : Fin 16384) (i : Fin 256) : IsReal (MixRef.sc (aP m c) (aM m c) h R i) :=
  score_real (q_real hr R) (keys_real hr) i
/-- The gradients of the weights are real. -/
theorem dp_real (h : Fin 4) (R : Fin 16384) (i : Fin 256) : IsReal (MixRef.dp (aX m c) (aM m c) (aO m c) h R i) :=
  dprob_real (y_real hr R) (fun i j => hr.2.2.1 i ⟨256 + j.val, by omega⟩) i
/-- A tile's scores are the reference's. -/
theorem sc_eq (t : Fin cfg0.N) (h : Fin 4) (r : Fin 512) : MixTile.sc h (bP m c t) (bM m c t) r = MixRef.sc (aP m c) (aM m c) h (row t r) := by
  funext i; unfold MixTile.sc MixRef.sc; rw [q_eq, keys_eq]; exact kscore_eq (q_real hr _) (keys_real hr) i
omit hr in
/-- A tile's gradients of the weights are the reference's. -/
theorem dp_eq (t : Fin cfg0.N) (h : Fin 4) (r : Fin 512) : MixTile.dp h (bX m c t) (bO m c t) (bM m c t) r = MixRef.dp (aX m c) (aM m c) (aO m c) h (row t r) := by
  funext i; unfold MixTile.dp MixRef.dp; rw [y_eq, vals_eq]; exact kdprob_eq h _ _ i
/-- A tile's gradients of the scores, scaled, are the reference's. -/
theorem ds_eq (t : Fin cfg0.N) (h : Fin 4) (r : Fin 512) (i : Fin 256) :
    MixTile.ds h (bP m c t) (bX m c t) (bO m c t) (bM m c t) r i * eighth = MixRef.ds (aX m c) (aP m c) (aM m c) (aO m c) h (row t r) i := by
  unfold MixTile.ds MixRef.ds; rw [sc_eq hr, dp_eq]; exact kdscore_eq (sc_real hr h _) (dp_real hr h _) i
/-- A tile's gradients of the scores are real. -/
theorem ds_real (t : Fin cfg0.N) (h : Fin 4) (r : Fin 512) (i : Fin 256) : IsReal (MixTile.ds h (bP m c t) (bX m c t) (bO m c t) (bM m c t) r i) := by
  unfold MixTile.ds; rw [sc_eq hr, dp_eq]; exact kdscore_real (sc_real hr h _) (dp_real hr h _) i
end

/-- A factor brought into a sum of real terms. -/
theorem sum_mul_real {ι : Type} [Fintype ι] {f : ι → EReal} (hf : ∀ i, IsReal (f i)) {e : EReal} (he : IsReal e) : (∑ i, f i) * e = ∑ i, f i * e := by
  choose a ha using hf
  obtain ⟨b, rfl⟩ := he
  simp only [ha, ← EReal.coe_mul, coe_sum]
  rw [Finset.sum_mul]

/-- What a tile stores of the projection's gradient. -/
def tile (c : Dev nD) (t : Fin cfg0.N) : FVec Ideal S512x2560 .bf16 :=
  k0_pay63
      (k0_pay15 (bW m c t) (bO m c t) (k0_pay5 (bP m c t)) (k0_pay7 (grid0.coords t) (bP m c t) (bPh m c t))
        (k0_pay9 (grid0.coords t) (bP m c t) (bW m c t) (bPh m c t)) (k0_pay10 (bW m c t)) (bX m c t))
      (k0_pay21 (k0_pay4 (bP m c t))
        (k0_pay14 (BitVec.ofNat 32 (grid0.coords t 0).val) (bO m c t) (bPn m c t) (bXn m c t))
        (k0_pay17 (BitVec.ofNat 32 (grid0.coords t 0).val) (bW m c t) (bO m c t) (k0_pay3 (bP m c t)) (bX m c t) (bPn m c t) (bXn m c t))
        (k0_pay18 (bW m c t)) (k0_pay19 (bO m c t) (k0_pay3 (bP m c t)) (bX m c t)) 6#32)
      (k0_pay22 (k0_pay2 (bP m c t))
        (k0_pay14 (BitVec.ofNat 32 (grid0.coords t 0).val) (bO m c t) (bPn m c t) (bXn m c t))
        (k0_pay17 (BitVec.ofNat 32 (grid0.coords t 0).val) (bW m c t) (bO m c t) (k0_pay3 (bP m c t)) (bX m c t) (bPn m c t) (bXn m c t))
        (k0_pay18 (bW m c t)) (k0_pay19 (bO m c t) (k0_pay3 (bP m c t)) (bX m c t)) 6#32)
      (k0_pay54 (k0_pay29 (k0_pay25 (bM m c t))) (k0_pay30 (k0_pay25 (bM m c t)))
        (k0_pay31 (k0_pay25 (bM m c t))) (k0_pay32 k0_pay27 (k0_pay28 (k0_pay25 (bM m c t))) 3#32)
        (k0_pay35 (k0_pay24 (bP m c t)) k0_pay27 (k0_pay28 (k0_pay25 (bM m c t))) 3#32)
        (k0_pay38 (k0_pay13 (bO m c t) (bX m c t)) (k0_pay26 (bM m c t)) k0_pay27)
        (k0_pay39 (k0_pay13 (bO m c t) (bX m c t)) (k0_pay26 (bM m c t)) k0_pay27)
        (k0_pay43 (k0_pay36 (k0_pay13 (bO m c t) (bX m c t)) (k0_pay26 (bM m c t)) k0_pay27)
          (k0_pay40 (k0_pay24 (bP m c t)) (k0_pay29 (k0_pay25 (bM m c t)))))
        (k0_pay46 (k0_pay33 (k0_pay24 (bP m c t)) (k0_pay30 (k0_pay25 (bM m c t))))
          (k0_pay37 (k0_pay13 (bO m c t) (bX m c t)) (k0_pay26 (bM m c t)) k0_pay27))
        (k0_pay47 (k0_pay34 (k0_pay24 (bP m c t)) (k0_pay31 (k0_pay25 (bM m c t)))))
        (k0_pay48 (k0_pay34 (k0_pay24 (bP m c t)) (k0_pay31 (k0_pay25 (bM m c t))))
          (k0_pay38 (k0_pay13 (bO m c t) (bX m c t)) (k0_pay26 (bM m c t)) k0_pay27)))

/-- Every point stores its tile. -/
theorem stored (c : Dev nD) (t : Fin cfg0.N) : (outsAt0 m c t.val t.isLt).1 = tile m c t := by
  by_cases h0 : t.val % 32 = 0
  · rw [outsAt0_A m c t h0 (by omega)]; frame_out; rfl
  · by_cases h1 : t.val % 32 = 31
    · rw [outsAt0_C m c t h0 h1]; frame_out; rfl
    · rw [outsAt0_B m c t h0 h1]; frame_out; rfl

/-- An entry of the tile is the reference's. -/
theorem tile_eq (c : Dev nD) (hr : Reals m c) (t : Fin cfg0.N) (r : Fin 512) (l : Fin 2560) :
    tile m c t (ix2 r l) = MixRef.dproj (aX m c) (aP m c) (aW m c) (aM m c) (aO m c) (row t r) l := by
  unfold tile
  pointwise [k0_pay63, k0_pay21, k0_pay22, k0_pay4, k0_pay2]
  have hc : (BitVec.ofNat 32 (grid0.coords t 0).val) = BitVec.ofNat 32 (⟨t.val, point_lt t⟩ : Fin 32).val := by rw [coord]
  rw [hc]
  simp only [MixConvTile.dv_at ⟨t.val, point_lt t⟩, MixConvTile.dbg_at, MixTile.dq_at]
  unfold MixRef.dproj
  by_cases h0 : l.val < 768
  · rw [dif_pos h0, dif_pos h0, p_at, mul_comm]
    exact congrArg (_ * ·) (dv_eq m c t r _)
  rw [dif_neg h0, dif_neg h0]
  by_cases h1 : l.val - 768 < 768
  · rw [dif_pos h1, dif_pos h1, down_eq m c t 2 _ (by omega), down_eq m c t 1 _ (by omega), v_eq, w_at, w_at, w_at]
    unfold MixRef.dtok; simp only [x_at, o_at]
  rw [dif_neg h1, dif_neg h1]
  by_cases h2 : l.val - 768 - 768 < 768
  · rw [dif_pos h2, dif_pos h2, p_at]
    exact congrArg (· * _) (dv_eq m c t r _)
  rw [dif_neg h2, dif_neg h2]
  refine Finset.sum_congr rfl fun i _ => ?_
  rw [← ds_eq hr, keys_eq, mul_comm (MixRef.keys (aM m c) i _) eighth, mul_assoc]

/-- The reference's gradient of the projection. -/
abbrev rP (c : Dev nD) := Cert.ReferenceIdeal.Read.val_main_v142 (F := Ideal) (aX m c) (aP m c) (aW m c) (aM m c) (aO m c)
/-- The reference's gradient of the convolution's weights. -/
abbrev rW (c : Dev nD) := Cert.ReferenceIdeal.Read.val_main_v143 (F := Ideal) (aX m c) (aP m c) (aO m c)
/-- The reference's gradient of the memory. -/
abbrev rM (c : Dev nD) := Cert.ReferenceIdeal.Read.val_main_v103 (F := Ideal) (aX m c) (aP m c) (aM m c) (aO m c)

/-- The projection's gradient. -/
theorem proj_result (c : Dev nD) (hr : Reals m c) : (dats m 0 c).arrAt 8 cfg0.N = rP m c := by
  refine (dats m 0 c).arrAt_eq_of_covers 8 _ (by decide +kernel) fun t hf y => ?_
  obtain ⟨r, l, rfl⟩ : ∃ r l, y = ix2 r l := ⟨y 0, y 1, (ix2_eta y).symm⟩
  blk_simp
  have he : ((win0_8.blk t).view.emb (ix2 r l) : S16384x2560.Idx) = ix2 (row t r) l := by
    blk_ext [at8 t, row]
  rw [he, after0_8, stored, tile_eq m c hr]
  exact (MixRef.dproj_ref (aX m c) (aP m c) (aW m c) (aM m c) (aO m c) (row t r) l).symm

/-- A tile's part of the gradient of the convolution's weights. -/
def wpart (c : Dev nD) (t : Fin cfg0.N) (r : Fin 8) (l : Fin 768) : EReal :=
  (if r.val = 0 then ∑ a : Fin 512, MixRef.dconv (aX m c) (aP m c) (aO m c) (row t a) l * MixRef.down (aP m c) 2 (row t a) l else 0)
  + (if r.val = 1 then ∑ a : Fin 512, MixRef.dconv (aX m c) (aP m c) (aO m c) (row t a) l * MixRef.down (aP m c) 1 (row t a) l else 0)
  + (if r.val = 2 then ∑ a : Fin 512, MixRef.dconv (aX m c) (aP m c) (aO m c) (row t a) l * MixRef.v (aP m c) (row t a) l else 0)

/-- One tile's step on the gradient of the convolution's weights. -/
theorem wstep (c : Dev nD) (t : Fin cfg0.N) (o : Vec Ideal S8x768 .f32) (r : Fin 8) (l : Fin 768) :
    k0_pay67 (F := Ideal) (k0_pay23 (k0_pay5 (bP m c t)) (k0_pay7 (grid0.coords t) (bP m c t) (bPh m c t)) (k0_pay8 (grid0.coords t) (bP m c t) (bPh m c t)) (k0_pay16 (bO m c t) (k0_pay3 (bP m c t)) (bX m c t))) o (ix2 r l)
      = o (ix2 r l) + wpart m c t r l := by
  refine (MixConvTile.dcw_at (grid0.coords t) (bP m c t) (bPh m c t) (bX m c t) (bO m c t) o r l).trans ?_
  unfold wpart
  simp only [dconv_eq, v_eq, down_eq m c t 2 _ (by omega : 0 < 2), down_eq m c t 1 _ (by omega : 0 < 1)]

/-- The sums start at zero. -/
theorem zero_w (k : S8x768.Idx) : k0_pay64 (F := Ideal) k = 0 := by
  obtain ⟨r, l, rfl⟩ : ∃ r l, k = ix2 r l := ⟨k 0, k 1, (ix2_eta k).symm⟩
  pointwise [k0_pay64]
/-- The keys' sums start at zero. -/
theorem zero_k (k : S256x256.Idx) : k0_pay65 (F := Ideal) k = 0 := by
  obtain ⟨r, l, rfl⟩ : ∃ r l, k = ix2 r l := ⟨k 0, k 1, (ix2_eta k).symm⟩
  pointwise [k0_pay65]
/-- The values' sums start at zero. -/
theorem zero_v (k : S256x256.Idx) : k0_pay66 (F := Ideal) k = 0 := by
  obtain ⟨r, l, rfl⟩ : ∃ r l, k = ix2 r l := ⟨k 0, k 1, (ix2_eta k).symm⟩
  pointwise [k0_pay66]

/-- After the last point the weights' gradient is the sum of the parts. -/
theorem w_last (c : Dev nD) (t : Fin cfg0.N) (ht : t.val + 1 = cfg0.N) (k : S8x768.Idx) :
    (outsAt0 m c t.val t.isLt).2.1 k = 0 + ∑ p : Fin cfg0.N, wpart m c p (k 0) (k 1) := by
  exact Pipeline.eq_sum_fin_of_reset_step_apply_last (fun n h k => (outsAt0 m c n h).2.1 k) 32 (fun _ => (0 : EReal)) (fun p k => wpart m c p (k 0) (k 1))
    (fun t h k => by
      show (outsAt0 m c t.val t.isLt).2.1 k = _
      obtain ⟨r, l, rfl⟩ : ∃ r l, k = ix2 r l := ⟨k 0, k 1, (ix2_eta k).symm⟩
      rw [outsAt0_A m c t h (by omega)]; frame_out
      refine (wstep m c t _ r l).trans ?_
      rw [zero_w]; rfl)
    (fun t h k => by
      show (outsAt0 m c t.val t.isLt).2.1 k = _
      obtain ⟨r, l, rfl⟩ : ∃ r l, k = ix2 r l := ⟨k 0, k 1, (ix2_eta k).symm⟩
      by_cases h1 : t.val % 32 = 31
      · rw [outsAt0_C m c t h h1]; frame_out
        refine (wstep m c t _ r l).trans ?_
        rfl
      · rw [outsAt0_B m c t h h1]; frame_out
        refine (wstep m c t _ r l).trans ?_
        rfl)
    (le_of_eq N_0) t ht k

/-- A sum over the tiles and their rows is the sum over all rows. -/
theorem all_rows (f : Fin 16384 → EReal) : ∑ p : Fin cfg0.N, ∑ a : Fin 512, f (row p a) = ∑ R, f R :=
  Fin.sum_mul_add_congr (S := cfg0.N) (n := 512) (fun t k ht => rfl) (by have : cfg0.N = 32 := N_0; rw [this])

/-- A choice that does not depend on the summand. -/
theorem sum_if {ι : Type} [Fintype ι] (q : Prop) [Decidable q] (f : ι → EReal) : ∑ i, (if q then f i else 0) = if q then ∑ i, f i else 0 := by
  by_cases h : q
  · simp only [if_pos h]
  · simp only [if_neg h, Finset.sum_const_zero]

/-- The gradient of the convolution's weights. -/
theorem w_result (c : Dev nD) : (dats m 0 c).arrAt 9 cfg0.N = rW m c := by
  refine (dats m 0 c).arrAt_eq_of_covers 9 _ (by decide +kernel) fun t hf y => ?_
  have hN : cfg0.N = 32 := N_0
  have h31 : t.val % 32 = 31 := (flush0_9 t).mp hf
  have ht : t.val + 1 = cfg0.N := by have := point_lt t; rw [hN]; omega
  obtain ⟨r, l, rfl⟩ : ∃ r l, y = ix2 r l := ⟨y 0, y 1, (ix2_eta y).symm⟩
  blk_simp
  have he : ((win0_9.blk t).view.emb (ix2 r l) : S8x768.Idx) = ix2 r l := by
    blk_ext [at9 t]
  rw [he, after0_9]
  refine (w_last m c t ht (ix2 r l)).trans ?_
  refine Eq.trans ?_ (MixRef.dcw_ref (aX m c) (aP m c) (aO m c) r l).symm
  rw [zero_add]
  show ∑ p : Fin cfg0.N, wpart m c p r l = _
  unfold wpart
  rw [Finset.sum_add_distrib, Finset.sum_add_distrib, sum_if, sum_if, sum_if,
    all_rows (fun R => MixRef.dconv (aX m c) (aP m c) (aO m c) R l * MixRef.down (aP m c) 2 R l),
    all_rows (fun R => MixRef.dconv (aX m c) (aP m c) (aO m c) R l * MixRef.down (aP m c) 1 R l),
    all_rows (fun R => MixRef.dconv (aX m c) (aP m c) (aO m c) R l * MixRef.v (aP m c) R l)]

/-- A tile's part of the keys' gradient. -/
def kpart (c : Dev nD) (t : Fin cfg0.N) (k : S256x256.Idx) : EReal :=
  (∑ r : Fin 512, MixTile.ds (head (k 1)) (bP m c t) (bX m c t) (bO m c t) (bM m c t) r (k 0) * MixTile.q (bP m c t) r (k 1)) * eighth
/-- A tile's part of the values' gradient. -/
def vpart (c : Dev nD) (t : Fin cfg0.N) (k : S256x256.Idx) : EReal :=
  ∑ r : Fin 512, kprob (MixTile.sc (head (k 1)) (bP m c t) (bM m c t) r) (k 0) * MixTile.y (bX m c t) (bO m c t) r (k 1)

/-- After the last point the keys' gradient is the sum of the parts. -/
theorem k_last (c : Dev nD) (t : Fin cfg0.N) (ht : t.val + 1 = cfg0.N) (k : S256x256.Idx) :
    (outsAt0 m c t.val t.isLt).2.2.2.1 k = 0 + ∑ p : Fin cfg0.N, kpart m c p k := by
  exact Pipeline.eq_sum_fin_of_reset_step_apply_last (fun n h k => (outsAt0 m c n h).2.2.2.1 k) 32 (fun _ => (0 : EReal)) (kpart m c)
    (fun t h k => by
      show (outsAt0 m c t.val t.isLt).2.2.2.1 k = _
      obtain ⟨r, l, rfl⟩ : ∃ r l, k = ix2 r l := ⟨k 0, k 1, (ix2_eta k).symm⟩
      rw [outsAt0_A m c t h (by omega)]; frame_out
      refine (MixTile.dmk_at (bP m c t) (bX m c t) (bO m c t) (bM m c t) _ r l).trans ?_
      exact congrArg (· + _) (zero_k (ix2 r l)))
    (fun t h k => by
      show (outsAt0 m c t.val t.isLt).2.2.2.1 k = _
      obtain ⟨r, l, rfl⟩ : ∃ r l, k = ix2 r l := ⟨k 0, k 1, (ix2_eta k).symm⟩
      by_cases h1 : t.val % 32 = 31
      · rw [outsAt0_C m c t h h1]; frame_out
        refine (MixTile.dmk_at (bP m c t) (bX m c t) (bO m c t) (bM m c t) _ r l).trans ?_
        rw [read_unread_whole]; rfl
      · rw [outsAt0_B m c t h h1]; frame_out
        refine (MixTile.dmk_at (bP m c t) (bX m c t) (bO m c t) (bM m c t) _ r l).trans ?_
        rw [read_unread_whole]; rfl)
    (le_of_eq N_0) t ht k

/-- After the last point the values' gradient is the sum of the parts. -/
theorem v_last (c : Dev nD) (t : Fin cfg0.N) (ht : t.val + 1 = cfg0.N) (k : S256x256.Idx) :
    (outsAt0 m c t.val t.isLt).2.2.2.2 k = 0 + ∑ p : Fin cfg0.N, vpart m c p k := by
  exact Pipeline.eq_sum_fin_of_reset_step_apply_last (fun n h k => (outsAt0 m c n h).2.2.2.2 k) 32 (fun _ => (0 : EReal)) (vpart m c)
    (fun t h k => by
      show (outsAt0 m c t.val t.isLt).2.2.2.2 k = _
      obtain ⟨r, l, rfl⟩ : ∃ r l, k = ix2 r l := ⟨k 0, k 1, (ix2_eta k).symm⟩
      rw [outsAt0_A m c t h (by omega)]; frame_out
      refine (MixTile.dmv_at (bP m c t) (bX m c t) (bO m c t) (bM m c t) _ r l).trans ?_
      exact congrArg (· + _) (zero_v (ix2 r l)))
    (fun t h k => by
      show (outsAt0 m c t.val t.isLt).2.2.2.2 k = _
      obtain ⟨r, l, rfl⟩ : ∃ r l, k = ix2 r l := ⟨k 0, k 1, (ix2_eta k).symm⟩
      by_cases h1 : t.val % 32 = 31
      · rw [outsAt0_C m c t h h1]; frame_out
        refine (MixTile.dmv_at (bP m c t) (bX m c t) (bO m c t) (bM m c t) _ r l).trans ?_
        rw [read_unread_whole]; rfl
      · rw [outsAt0_B m c t h h1]; frame_out
        refine (MixTile.dmv_at (bP m c t) (bX m c t) (bO m c t) (bM m c t) _ r l).trans ?_
        rw [read_unread_whole]; rfl)
    (le_of_eq N_0) t ht k

/-- The last point joins the two sums. -/
theorem joined (c : Dev nD) (t : Fin cfg0.N) (h : t.val % 32 = 31) :
    (outsAt0 m c t.val t.isLt).2.2.1 = k0_pay1 (F := Ideal) (outsAt0 m c t.val t.isLt).2.2.2.1 (outsAt0 m c t.val t.isLt).2.2.2.2 := by
  rw [outsAt0_C m c t (by omega) h]; frame_out

/-- The joined array is the keys' part, then the values'. -/
theorem join_at (a b : Vec Ideal S256x256 .f32) (i : Fin 256) (l : Fin 512) :
    k0_pay1 (F := Ideal) a b (ix2 i l) = if h : l.val < 256 then a (ix2 i ⟨l.val, h⟩) else b (ix2 i ⟨l.val - 256, by omega⟩) := by
  pointwise [k0_pay1]

/-- The gradient of the memory. -/
theorem m_result (c : Dev nD) (hr : Reals m c) : (dats m 0 c).arrAt 10 cfg0.N = rM m c := by
  refine (dats m 0 c).arrAt_eq_of_covers 10 _ (by decide +kernel) fun t hf y => ?_
  have hN : cfg0.N = 32 := N_0
  have h31 : t.val % 32 = 31 := (flush0_10 t).mp hf
  have ht : t.val + 1 = cfg0.N := by have := point_lt t; rw [hN]; omega
  obtain ⟨r, l, rfl⟩ : ∃ r l, y = ix2 r l := ⟨y 0, y 1, (ix2_eta y).symm⟩
  blk_simp
  have he : ((win0_10.blk t).view.emb (ix2 r l) : S256x512.Idx) = ix2 r l := by
    blk_ext [at10 t]
  rw [he, after0_10, joined m c t h31]
  refine (join_at _ _ r l).trans ?_
  refine Eq.trans ?_ (MixRef.dmkv_ref (aX m c) (aP m c) (aM m c) (aO m c) r l).symm
  unfold MixRef.dmkv
  by_cases h : l.val < 256
  · rw [dif_pos h, dif_pos h, k_last m c t ht, zero_add]
    refine Eq.trans ?_ (all_rows (fun R => MixRef.ds (aX m c) (aP m c) (aM m c) (aO m c) (head ⟨l.val, h⟩) R r * MixRef.q (aP m c) R ⟨l.val, h⟩))
    refine Finset.sum_congr rfl fun p _ => ?_
    refine (sum_mul_real (fun a => mul (ds_real hr p _ a _) (by rw [q_eq]; exact q_real hr _ _)) ⟨_, eighth_real⟩).trans ?_
    refine Finset.sum_congr rfl fun a _ => ?_
    show MixTile.ds (head ⟨l.val, h⟩) (bP m c p) (bX m c p) (bO m c p) (bM m c p) a r * MixTile.q (bP m c p) a ⟨l.val, h⟩ * eighth = _
    rw [mul_assoc, mul_comm _ eighth, ← mul_assoc, ds_eq hr, q_eq]
  · rw [dif_neg h, dif_neg h, v_last m c t ht, zero_add]
    refine Eq.trans ?_ (all_rows (fun R => MixRef.y (aX m c) (aO m c) R ⟨l.val - 256, by omega⟩ * prob (MixRef.sc (aP m c) (aM m c) (head ⟨l.val - 256, by omega⟩) R) r))
    refine Finset.sum_congr rfl fun p _ => Finset.sum_congr rfl fun a _ => ?_
    rw [sc_eq hr, y_eq, mul_comm]
    exact congrArg (_ * ·) (kprob_eq (sc_real hr _ _) _)

/-- The scalar shape has one index. -/
instance : Subsingleton Cert.Pre_finite.S_.Idx := ⟨fun a b => funext fun d => d.elim0⟩

/-- The precondition says that the entries are real. -/
theorem reals (h : Cert.Pre_KernelIdeal_finite m) (c : Dev nD) : Reals m c := by
  have e := congrFun (h c) (fun d => d.elim0)
  unfold Cert.Pre_finite.fn Cert.Pre_finite.fn_part1 at e
  obtain ⟨e, e3⟩ := both e
  obtain ⟨e, e2⟩ := both e
  obtain ⟨e0, e1⟩ := both e
  have a := all_of_test (extractStridedSlice Cert.Pre_finite.S16384x256 ![0, 2304] (aP m c) Cert.Pre_finite.Gen.slices_S16384x2560_S16384x256_0_2304)
    _ _ _ _ _ (by intro i; rfl) e1
  have b := all_of_test (extractStridedSlice Cert.Pre_finite.S256x512 ![0, 512] (aM m c) Cert.Pre_finite.Gen.slices_S256x2048_S256x512_0_512)
    _ _ _ _ _ (by intro i; rfl) e2
  have d := all_of_test (extractStridedSlice Cert.Pre_finite.S256x1024 ![768, 0] (aO m c) Cert.Pre_finite.Gen.slices_S1024x1024_S256x1024_768_0)
    _ _ _ _ _ (by intro i; rfl) e3
  refine ⟨all_of_test _ _ _ _ _ _ (fun i => rfl) e0, fun R j => ?_, fun i j => ?_, fun j k => ?_⟩
  · have h := a (ix2 R j)
    rwa [show extractStridedSlice Cert.Pre_finite.S16384x256 ![0, 2304] (aP m c) Cert.Pre_finite.Gen.slices_S16384x2560_S16384x256_0_2304 (ix2 R j)
      = MixRef.q (aP m c) R j from by pointwise []; rfl] at h
  · have h := b (ix2 i j)
    rwa [show extractStridedSlice Cert.Pre_finite.S256x512 ![0, 512] (aM m c) Cert.Pre_finite.Gen.slices_S256x2048_S256x512_0_512 (ix2 i j)
      = aM m c (ix2 i ⟨512 + j.val, by omega⟩) from by pointwise []] at h
  · have h := d (ix2 j k)
    rwa [show extractStridedSlice Cert.Pre_finite.S256x1024 ![768, 0] (aO m c) Cert.Pre_finite.Gen.slices_S1024x1024_S256x1024_768_0 (ix2 j k)
      = aO m c (ix2 ⟨768 + j.val, by omega⟩ k) from by pointwise []] at h

/-- An argument that is only read is kept. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).1 5).trans (((dats m 0 c).arrAt_in 5 rfl _).trans ((A_eq m c 5).trans (V_main_arg2 m c))),
    ((h c).1 6).trans (((dats m 0 c).arrAt_in 6 rfl _).trans ((A_eq m c 6).trans (V_main_arg3 m c))),
    ((h c).1 7).trans (((dats m 0 c).arrAt_in 7 rfl _).trans ((A_eq m c 7).trans (V_main_arg4 m c)))⟩

/-- The kernel's run ends at the reference's three arrays, its arguments kept. -/
theorem kernel_run (hp : Cert.Pre_KernelIdeal_finite m) (ρ : Dev nD → PrngReg) :
    θ_run defs (onTc (τ := τ) (main (F := Ideal))) ⟨m, fun _ => 0, ρ⟩ fun r => ∀ c : Dev nD,
      r.2.mem ((c : Thread nD τ).loc main_v0_0) = rP m c
      ∧ r.2.mem ((c : Thread nD τ).loc main_v0_1) = rW m c
      ∧ r.2.mem ((c : Thread nD τ).loc main_v0_2) = rM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 8).trans (proj_result m c (reals m hp c)), ((h c).1 9).trans (w_result m c),
    ((h c).1 10).trans (m_result m c (reals m hp c)), kept m r h c⟩) (run_main m ρ)

/-- From memories agreeing on the arguments, with real entries, kernel and reference both run and end with equal results. -/
theorem algebraic : Cert.algebraic_KernelIdeal_ReferenceIdeal_pre_finite := by
  intro m ρ m' ρ' hp hm
  refine ⟨_, _, _, kernel_run m hp ρ, (θ_run _ _ _).mono (fun r h c => ⟨(h c).1.trans ?_, (h c).2.1.trans ?_, (h c).2.2.1.trans ?_, (h c).2.2.2⟩)
    (Cert.ReferenceIdeal.Value.run m' ρ')⟩
  · refine (Cert.ReferenceIdeal.Read.val_main_v142_eq m' c).trans ?_
    rw [(hm c).1, (hm c).2.1, (hm c).2.2.1, (hm c).2.2.2.1, (hm c).2.2.2.2]
  · refine (Cert.ReferenceIdeal.Read.val_main_v143_eq m' c).trans ?_
    rw [(hm c).1, (hm c).2.1, (hm c).2.2.2.2]
  · refine (Cert.ReferenceIdeal.Read.val_main_v103_eq m' c).trans ?_
    rw [(hm c).1, (hm c).2.1, (hm c).2.2.2.1, (hm c).2.2.2.2]

end Cert.MixABwdProof

end
-- ==== Proof.WgradKv.lean ====
/- The weight gradient of the shared keys and values: one accumulated product of two tall
   arrays, walked 1024 rows at a time, is the one product over all rows. -/
module

public import proofs.«01_k».proof.Proof.Gen.WgradKvIdeal.Value
public import proofs.«01_k».proof.Proof.Gen.WgradKvRefIdeal.Read
public import Idealize.ShloMosaic.Lib.Pipeline.ValueKit.Acc
public import Idealize.ShloMosaic.Lib.Pipeline.ValueKit.Geometry
public import Idealize.ShloMosaic.Lib.Pointwise
public import Idealize.ShloMosaic.Lib.Pipeline.ReadBack
public import proofs.«01_k».proof.Defs

@[expose] public section

set_option maxRecDepth 16384

noncomputable section

namespace Cert.WgradKvProof

open Cert.WgradKvIdeal Cert.WgradKvIdeal.Gen Idealize.ShloMosaic Idealize.ShloMosaic.TcCoe Idealize.SL.Sem
open Idealize.ShloMosaic.Pipeline (Dat)

variable (m : (ℓ : Loc nD τ sig) → Buf (Elt Ideal) ℓ)

/-- The block stored at the first point is zero everywhere. -/
theorem zero_apply (r : Fin 1024) (l : Fin 512) : k0_pay1 (F := Ideal) (ix2 r l) = 0 := by
  pointwise [k0_pay1]

/-- One point's step at an entry: what was there plus the product of the point's rows. -/
theorem step_apply (a : Vec Ideal S1024x512 .f32) (x : Vec Ideal S1024x1024 .bf16) (y : Vec Ideal S1024x512 .bf16)
    (r : Fin 1024) (l : Fin 512) :
    k0_pay2 a x y (ix2 r l) = a (ix2 r l) + ∑ k : Fin 1024, x (ix2 k r) * y (ix2 k l) := by
  pointwise [k0_pay2]

/-- The closing conversion keeps every entry. -/
theorem close_apply (a : Vec Ideal S1024x512 .f32) (r : Fin 1024) (l : Fin 512) :
    k0_pay3 a (ix2 r l) = a (ix2 r l) := by
  pointwise [k0_pay3]

/-- The block of rows the left window holds at point `t` starts at row `1024 t`. -/
theorem rows_left : ∀ t : Fin cfg0.N, win0_0.index t = ![t.val, 0] := (by decide +kernel : ∀ t : Fin grid0.N, _)
/-- The block of rows the right window holds at point `t` starts at row `1024 t`. -/
theorem rows_right : ∀ t : Fin cfg0.N, win0_1.index t = ![t.val, 0] := (by decide +kernel : ∀ t : Fin grid0.N, _)
/-- The output block is the whole array at every point. -/
theorem rows_out : ∀ t : Fin cfg0.N, win0_2.index t = ![0, 0] := (by decide +kernel : ∀ t : Fin grid0.N, _)

/-- The product of one point's rows at entry `j`. -/
def rowsProduct (x : Vec Ideal S1024x1024 .bf16) (y : Vec Ideal S1024x512 .bf16) (j : S1024x512.Idx) : EReal :=
  ∑ k : Fin 1024, x (ix2 k (j 0)) * y (ix2 k (j 1))

/-- What point `t` adds at entry `j`: the product of the point's rows. -/
def part (c : Dev nD) (t : Fin cfg0.N) (j : S1024x512.Idx) : EReal :=
  rowsProduct (iblk m c 0 t) (iblk m c 1 t) j

/-- After the last point the scratch holds the sum of all points' products. -/
theorem scratch_last (c : Dev nD) (t : Fin cfg0.N) (ht : t.val + 1 = cfg0.N) (j : S1024x512.Idx) :
    (outsAt0 m c t.val t.isLt).2 j = 0 + ∑ p : Fin cfg0.N, part m c p j := by
  exact Pipeline.eq_sum_fin_of_reset_step_apply_last (fun n h => (outsAt0 m c n h).2) 16 (fun _ => (0 : EReal)) (part m c)
    (fun t h j => by
      obtain ⟨r, l, rfl⟩ : ∃ r l, j = ix2 r l := ⟨j 0, j 1, (ix2_eta j).symm⟩
      rw [outsAt0_A m c t h (by omega)]; frame_out; rw [step_apply, zero_apply]; rfl)
    (fun t h j => by
      obtain ⟨r, l, rfl⟩ : ∃ r l, j = ix2 r l := ⟨j 0, j 1, (ix2_eta j).symm⟩
      by_cases h1 : t.val % 16 = 15
      · rw [outsAt0_C m c t h h1]; frame_out; rw [step_apply, read_unread_whole]; rfl
      · rw [outsAt0_B m c t h h1]; frame_out; rw [step_apply, read_unread_whole]; rfl)
    (le_of_eq N_0) t ht j

/-- The closing store takes the scratch as the point leaves it. -/
theorem out_of_scratch (c : Dev nD) (t : Fin cfg0.N) (h1 : t.val % 16 = 15) :
    (outsAt0 m c t.val t.isLt).1 = k0_pay3 (outsAt0 m c t.val t.isLt).2 := by
  rw [outsAt0_C m c t (by omega) h1]; frame_out

/-- The array the kernel leaves is the product over all rows. -/
theorem result (c : Dev nD) : (dats m 0 c).arrAt 2 cfg0.N
    = Cert.WgradKvRefIdeal.Read.val_main_v6 (F := Ideal) (m ((c : Thread nD τ).loc main_arg0)) (m ((c : Thread nD τ).loc main_arg1)) := by
  refine (dats m 0 c).arrAt_eq_of_covers 2 _ (by decide +kernel) fun t hf y => ?_
  have hN : cfg0.N = 16 := N_0
  have h15 : t.val % 16 = 15 := (flush0_2 t).mp hf
  have ht : t.val + 1 = cfg0.N := by have : t.val < 16 := lt_of_lt_of_eq t.isLt N_0; rw [hN]; omega
  blk_simp
  rw [after0_2, out_of_scratch m c t h15]
  obtain ⟨r, l, rfl⟩ : ∃ r l, y = ix2 r l := ⟨y 0, y 1, (ix2_eta y).symm⟩
  have he : ((win0_2.blk t).view.emb (ix2 r l) : S1024x512.Idx) = ix2 r l := by
    blk_ext [rows_out t]
  rw [he, close_apply, scratch_last m c t ht, zero_add]
  simp only [Cert.WgradKvRefIdeal.Read.val_main_v6_apply,
    Cert.WgradKvRefIdeal.Read.val_main_v5_apply,
    Cert.WgradKvRefIdeal.Read.val_main_v4_apply,
    Cert.WgradKvRefIdeal.Read.val_main_v1_apply,
    Cert.WgradKvRefIdeal.Read.val_main_v0_apply, Ideal.truncf_def, Ideal.extf_def, part, rowsProduct]
  refine Fin.sum_mul_add_congr (S := cfg0.N) (n := 1024) (fun t k ht => ?_) (by rw [hN])
  rw [mul_comm]
  congr 1
  · blk_ext [iblk, V_main_arg1, rows_right t]
  · blk_ext [iblk, V_main_arg0, rows_left t]

/-- Each window's rows and the closing store put together: the kernel's run ends at the reference's array. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = Cert.WgradKvRefIdeal.Read.val_main_v6 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (Cert.WgradKvIdeal.Value.run_blocks m ρ)

/-- From memories agreeing on the arguments, kernel and reference both run and end with equal results. -/
theorem algebraic : Cert.algebraic_WgradKvIdeal_WgradKvRefIdeal := by
  intro m ρ m' ρ' _ hm
  refine ⟨_, kernel_run m ρ, (θ_run _ _ _).mono (fun r h c => ⟨(h c).1.trans ?_, (h c).2⟩) (Cert.WgradKvRefIdeal.Value.run m' ρ')⟩
  rw [(hm c).1, (hm c).2]
  exact Cert.WgradKvRefIdeal.Read.val_main_v6_eq _ _

end Cert.WgradKvProof

end
-- ==== Proof.ProjBBwd.lean ====
/- The backward call of a second mixer's input projection: the gradient of the projection's product and of the norm
   before it, with the gain's gradient summed over the rows. -/
module

public import proofs.«01_k».proof.Proof.Gen.ProjBBwdIdeal.Value
public import proofs.«01_k».proof.Proof.Gen.ProjBBwdRefIdeal.Read
public import Idealize.ShloMosaic.Lib.Pipeline.ValueKit.Tiles
public import Idealize.ShloMosaic.Lib.Pipeline.ValueKit.Geometry
public import Idealize.ShloMosaic.Lib.Pointwise
public import Idealize.ShloMosaic.Lib.Pipeline.ReadBack
public import proofs.«01_k».proof.Proof.Gen.Pre_finite10
public import proofs.«01_k».proof.Proof.Finite
public import proofs.«01_k».proof.Defs

@[expose] public section

set_option maxRecDepth 16384

noncomputable section

namespace Cert.ProjBBwdProof

open Cert.ProjBBwdIdeal Cert.ProjBBwdIdeal.Gen Idealize.ShloMosaic Idealize.ShloMosaic.TcCoe Idealize.SL.Sem
open Idealize.ShloMosaic.Pipeline (Dat)
open Cert.Rows Cert.Finite

variable (m : (ℓ : Loc nD τ sig) → Buf (Elt Ideal) ℓ)

/-- One entry of the product's gradient: a row of the incoming gradient times a row of the matrix. -/
def dh (p w : Fin 1024 → EReal) : EReal := ∑ k, p k * w k

/-- What the kernel stores of the norm's gradient. -/
def back (x d : Fin 1024 → EReal) (k : Fin 1024) : EReal :=
  scale x * (d k - x k * scale x * Ideal.div (∑ j, d j * (x j * scale x)) (Ideal.ofBits FTy.f32 1149239296#32))

/-- The kernel's normed rows. -/
theorem normed_block (x : Vec Ideal S1024x1024 .f32) (g : Vec Ideal S1x1024 .f32) (r k : Fin 1024) :
    k0_pay5 (F := Ideal) x g (ix2 r k) = normed (fun k => x (ix2 r k)) (fun k => g (ix2 0 k)) k := by
  pointwise [k0_pay5, k0_pay4, k0_pay3]; rfl

/-- The kernel's rows before the gain. -/
theorem scaled_block (x : Vec Ideal S1024x1024 .f32) (r k : Fin 1024) :
    k0_pay4 (F := Ideal) x (ix2 r k) = x (ix2 r k) * scale (fun k => x (ix2 r k)) := by
  pointwise [k0_pay4, k0_pay3]; rfl

/-- The kernel's gradient of the product. -/
theorem dh_block (p w : Vec Ideal S1024x1024 .bf16) (r k : Fin 1024) :
    k0_pay6 (F := Ideal) p w (ix2 r k) = dh (fun l => p (ix2 r l)) (fun l => w (ix2 k l)) := by
  pointwise [k0_pay6]; rfl

/-- The kernel's result row. -/
theorem row_block (x : Vec Ideal S1024x1024 .f32) (g : Vec Ideal S1x1024 .f32) (p w : Vec Ideal S1024x1024 .bf16) (e : Vec Ideal S1024x1024 .f32) (r k : Fin 1024) :
    k0_pay7 (F := Ideal) x g p w e (ix2 r k) = e (ix2 r k)
      + back (fun k => x (ix2 r k)) (fun k => dh (fun l => p (ix2 r l)) (fun l => w (ix2 k l)) * g (ix2 0 k)) k := by
  pointwise [k0_pay7]; simp only [scaled_block, dh_block]; pointwise [k0_pay3]; rfl

/-- The zero row stored at the first point. -/
theorem zero_row (k : Fin 1024) : k0_pay1 (F := Ideal) (ix2 0 k) = 0 := by
  pointwise [k0_pay1]

/-- One point's step of the gain's gradient. -/
theorem gain_step (a d : FVec Ideal S1024x1024 .f32) (o : Vec Ideal S1x1024 .f32) (k : Fin 1024) :
    k0_pay2 (F := Ideal) a d o (ix2 0 k) = o (ix2 0 k) + ∑ r, d (ix2 r k) * a (ix2 r k) := by
  pointwise [k0_pay2]

/-- The reference's scale of a row. -/
theorem scale_ref (x : Vec Ideal Cert.ProjBBwdRefIdeal.S16384x1024 .f32) (r : Fin 16384) :
    Cert.ProjBBwdRefIdeal.Read.val_main_v11 (F := Ideal) x (ix2 r 0) = scale (fun k => x (ix2 r k)) := by
  pointwise [Cert.ProjBBwdRefIdeal.Read.val_main_v11, Cert.ProjBBwdRefIdeal.Read.val_main_v10, Cert.ProjBBwdRefIdeal.Read.val_main_v9, Cert.ProjBBwdRefIdeal.Read.val_main_v8, Cert.ProjBBwdRefIdeal.Read.val_main_v7, Cert.ProjBBwdRefIdeal.Read.val_main_v6, Cert.ProjBBwdRefIdeal.Read.val_main_v5, Cert.ProjBBwdRefIdeal.Read.val_main_v4, Cert.ProjBBwdRefIdeal.Read.val_main_cst, Cert.ProjBBwdRefIdeal.Read.val_main_cst_0, Cert.ProjBBwdRefIdeal.Read.val_main_cst_1]; rfl

/-- The reference's mean square of a row. -/
theorem meanSq_ref (x : Vec Ideal Cert.ProjBBwdRefIdeal.S16384x1024 .f32) (r : Fin 16384) :
    Cert.ProjBBwdRefIdeal.Read.val_main_v10 (F := Ideal) x (ix2 r 0) = meanSq (fun k => x (ix2 r k)) := by
  pointwise [Cert.ProjBBwdRefIdeal.Read.val_main_v10, Cert.ProjBBwdRefIdeal.Read.val_main_v9, Cert.ProjBBwdRefIdeal.Read.val_main_v8, Cert.ProjBBwdRefIdeal.Read.val_main_v7, Cert.ProjBBwdRefIdeal.Read.val_main_v6, Cert.ProjBBwdRefIdeal.Read.val_main_v5, Cert.ProjBBwdRefIdeal.Read.val_main_v4, Cert.ProjBBwdRefIdeal.Read.val_main_cst, Cert.ProjBBwdRefIdeal.Read.val_main_cst_0, Cert.ProjBBwdRefIdeal.Read.val_main_cst_1]; rfl

/-- The reference's gradient of the product. -/
theorem dh_ref (p : Vec Ideal Cert.ProjBBwdRefIdeal.S16384x1024 .bf16) (w : Vec Ideal Cert.ProjBBwdRefIdeal.S1024x1024 .bf16) (r : Fin 16384) (k : Fin 1024) :
    Cert.ProjBBwdRefIdeal.Read.val_main_v3 (F := Ideal) p w (ix2 r k) = dh (fun l => p (ix2 r l)) (fun l => w (ix2 k l)) := by
  pointwise [Cert.ProjBBwdRefIdeal.Read.val_main_v3, Cert.ProjBBwdRefIdeal.Read.val_main_v2, Cert.ProjBBwdRefIdeal.Read.val_main_v1, Cert.ProjBBwdRefIdeal.Read.val_main_v0]; rfl

/-- The reference's factor of the inner derivative. -/
theorem inner_ref (p : Vec Ideal Cert.ProjBBwdRefIdeal.S16384x1024 .bf16) (w : Vec Ideal Cert.ProjBBwdRefIdeal.S1024x1024 .bf16) (x : Vec Ideal Cert.ProjBBwdRefIdeal.S16384x1024 .f32) (g : Vec Ideal Cert.ProjBBwdRefIdeal.S1x1024 .f32) (r : Fin 16384) (k : Fin 1024) :
    Cert.ProjBBwdRefIdeal.Read.val_main_v33 (F := Ideal) p w x g (ix2 r k) = inner (fun k => x (ix2 r k)) (fun k => dh (fun l => p (ix2 r l)) (fun l => w (ix2 k l)) * g (ix2 0 k)) := by
  pointwise [Cert.ProjBBwdRefIdeal.Read.val_main_v33, Cert.ProjBBwdRefIdeal.Read.val_main_v32, Cert.ProjBBwdRefIdeal.Read.val_main_v31, Cert.ProjBBwdRefIdeal.Read.val_main_v30, Cert.ProjBBwdRefIdeal.Read.val_main_v29, Cert.ProjBBwdRefIdeal.Read.val_main_v26, Cert.ProjBBwdRefIdeal.Read.val_main_v25, Cert.ProjBBwdRefIdeal.Read.val_main_v24, Cert.ProjBBwdRefIdeal.Read.val_main_v23, Cert.ProjBBwdRefIdeal.Read.val_main_v22, Cert.ProjBBwdRefIdeal.Read.val_main_v14, Cert.ProjBBwdRefIdeal.Read.val_main_v13, Cert.ProjBBwdRefIdeal.Read.val_main_v12, Cert.ProjBBwdRefIdeal.Read.val_main_cst_2, Cert.ProjBBwdRefIdeal.Read.val_main_cst_4, Cert.ProjBBwdRefIdeal.Read.val_main_cst_5, Cert.ProjBBwdRefIdeal.Read.val_main_cst_6]
  simp only [Fin.sum_univ_one, dh_ref, scale_ref, meanSq_ref]; rfl

/-- The reference's result row. -/
theorem row_ref (p : Vec Ideal Cert.ProjBBwdRefIdeal.S16384x1024 .bf16) (w : Vec Ideal Cert.ProjBBwdRefIdeal.S1024x1024 .bf16) (x : Vec Ideal Cert.ProjBBwdRefIdeal.S16384x1024 .f32) (g : Vec Ideal Cert.ProjBBwdRefIdeal.S1x1024 .f32) (e : Vec Ideal Cert.ProjBBwdRefIdeal.S16384x1024 .f32) (r : Fin 16384) (k : Fin 1024) :
    Cert.ProjBBwdRefIdeal.Read.val_main_v38 (F := Ideal) p w x g e (ix2 r k) = e (ix2 r k)
      + (dh (fun l => p (ix2 r l)) (fun l => w (ix2 k l)) * g (ix2 0 k) * scale (fun k => x (ix2 r k))
        + x (ix2 r k) * inner (fun k => x (ix2 r k)) (fun k => dh (fun l => p (ix2 r l)) (fun l => w (ix2 k l)) * g (ix2 0 k))
        + inner (fun k => x (ix2 r k)) (fun k => dh (fun l => p (ix2 r l)) (fun l => w (ix2 k l)) * g (ix2 0 k)) * x (ix2 r k)) := by
  pointwise [Cert.ProjBBwdRefIdeal.Read.val_main_v38, Cert.ProjBBwdRefIdeal.Read.val_main_v37, Cert.ProjBBwdRefIdeal.Read.val_main_v36, Cert.ProjBBwdRefIdeal.Read.val_main_v35, Cert.ProjBBwdRefIdeal.Read.val_main_v34, Cert.ProjBBwdRefIdeal.Read.val_main_v28, Cert.ProjBBwdRefIdeal.Read.val_main_v27, Cert.ProjBBwdRefIdeal.Read.val_main_v23, Cert.ProjBBwdRefIdeal.Read.val_main_v22]
  simp only [inner_ref, dh_ref, scale_ref]

/-- The gain's gradient at a column, over all rows. -/
def gainSum (p : Vec Ideal S16384x1024 .bf16) (w : Vec Ideal S1024x1024 .bf16) (x : Vec Ideal S16384x1024 .f32) (k : Fin 1024) : EReal :=
  ∑ r : Fin 16384, x (ix2 r k) * scale (fun k => x (ix2 r k)) * dh (fun l => p (ix2 r l)) (fun l => w (ix2 k l))

/-- The reference's gradient of the gain. -/
theorem gain_ref (p : Vec Ideal Cert.ProjBBwdRefIdeal.S16384x1024 .bf16) (w : Vec Ideal Cert.ProjBBwdRefIdeal.S1024x1024 .bf16) (x : Vec Ideal Cert.ProjBBwdRefIdeal.S16384x1024 .f32) (k : Fin 1024) :
    Cert.ProjBBwdRefIdeal.Read.val_main_v21 (F := Ideal) p w x (ix2 0 k) = gainSum p w x k := by
  unfold gainSum
  pointwise [Cert.ProjBBwdRefIdeal.Read.val_main_v21, Cert.ProjBBwdRefIdeal.Read.val_main_v20, Cert.ProjBBwdRefIdeal.Read.val_main_v19, Cert.ProjBBwdRefIdeal.Read.val_main_v16, Cert.ProjBBwdRefIdeal.Read.val_main_v15, Cert.ProjBBwdRefIdeal.Read.val_main_cst_3]
  simp only [dh_ref, scale_ref]

/-- The reference's normed rows. -/
theorem normed_ref (x : Vec Ideal Cert.ProjBBwdRefIdeal.S16384x1024 .f32) (g : Vec Ideal Cert.ProjBBwdRefIdeal.S1x1024 .f32) (r : Fin 16384) (k : Fin 1024) :
    Cert.ProjBBwdRefIdeal.Read.val_main_v51 (F := Ideal) x g (ix2 r k) = normed (fun k => x (ix2 r k)) (fun k => g (ix2 0 k)) k := by
  pointwise [Cert.ProjBBwdRefIdeal.Read.val_main_v39, Cert.ProjBBwdRefIdeal.Read.val_main_v40, Cert.ProjBBwdRefIdeal.Read.val_main_v41, Cert.ProjBBwdRefIdeal.Read.val_main_v42, Cert.ProjBBwdRefIdeal.Read.val_main_v43, Cert.ProjBBwdRefIdeal.Read.val_main_v44, Cert.ProjBBwdRefIdeal.Read.val_main_v45, Cert.ProjBBwdRefIdeal.Read.val_main_v46, Cert.ProjBBwdRefIdeal.Read.val_main_v47, Cert.ProjBBwdRefIdeal.Read.val_main_v48, Cert.ProjBBwdRefIdeal.Read.val_main_v49, Cert.ProjBBwdRefIdeal.Read.val_main_v50, Cert.ProjBBwdRefIdeal.Read.val_main_v51, Cert.ProjBBwdRefIdeal.Read.val_main_cst_7, Cert.ProjBBwdRefIdeal.Read.val_main_cst_8, Cert.ProjBBwdRefIdeal.Read.val_main_cst_9]; rfl

/-- The block of the incoming gradient at point `t` starts at row `1024 t`. -/
theorem rows_p : ∀ t : Fin cfg0.N, win0_0.index t = ![t.val, 0] := (by decide +kernel : ∀ t : Fin grid0.N, _)
/-- The matrix is whole at every point. -/
theorem rows_w : ∀ t : Fin cfg0.N, win0_1.index t = ![0, 0] := (by decide +kernel : ∀ t : Fin grid0.N, _)
/-- The block of the norm's input at point `t` starts at row `1024 t`. -/
theorem rows_x : ∀ t : Fin cfg0.N, win0_2.index t = ![t.val, 0] := (by decide +kernel : ∀ t : Fin grid0.N, _)
/-- The gain is whole at every point. -/
theorem rows_g : ∀ t : Fin cfg0.N, win0_3.index t = ![0, 0] := (by decide +kernel : ∀ t : Fin grid0.N, _)
/-- The block of the added gradient at point `t` starts at row `1024 t`. -/
theorem rows_e : ∀ t : Fin cfg0.N, win0_4.index t = ![t.val, 0] := (by decide +kernel : ∀ t : Fin grid0.N, _)
/-- The block of the result at point `t`. -/
theorem rows_out5 : ∀ t : Fin cfg0.N, win0_5.index t = ![t.val, 0] := (by decide +kernel : ∀ t : Fin grid0.N, _)
/-- The block of the gain's gradient at point `t`. -/
theorem rows_out6 : ∀ t : Fin cfg0.N, win0_6.index t = ![0, 0] := (by decide +kernel : ∀ t : Fin grid0.N, _)
/-- The block of the normed rows at point `t`. -/
theorem rows_out7 : ∀ t : Fin cfg0.N, win0_7.index t = ![t.val, 0] := (by decide +kernel : ∀ t : Fin grid0.N, _)

/-- Row `r` of the block at point `t`, as a row of the whole array. -/
def row (t : Fin cfg0.N) (r : Fin 1024) : Fin 16384 :=
  ⟨t.val * 1024 + r.val, by have : t.val < 16 := lt_of_lt_of_eq t.isLt N_0; omega⟩

/-- An entry of the block of the incoming gradient. -/
theorem p_at (c : Dev nD) (t : Fin cfg0.N) (r : Fin 1024) (k : Fin 1024) :
    (iblk m c 0 t : Vec Ideal S1024x1024 .bf16) (ix2 r k) = m ((c : Thread nD τ).loc main_arg0) (ix2 (row t r) k) := by
  blk_ext [iblk, V_main_arg0, rows_p t, row]
/-- An entry of the block of the matrix. -/
theorem w_at (c : Dev nD) (t : Fin cfg0.N) (r : Fin 1024) (k : Fin 1024) :
    (iblk m c 1 t : Vec Ideal S1024x1024 .bf16) (ix2 r k) = m ((c : Thread nD τ).loc main_arg1) (ix2 r k) := by
  blk_ext [iblk, V_main_arg1, rows_w t]
/-- An entry of the block of the norm's input. -/
theorem x_at (c : Dev nD) (t : Fin cfg0.N) (r : Fin 1024) (k : Fin 1024) :
    (iblk m c 2 t : Vec Ideal S1024x1024 .f32) (ix2 r k) = m ((c : Thread nD τ).loc main_arg2) (ix2 (row t r) k) := by
  blk_ext [iblk, V_main_arg2, rows_x t, row]
/-- An entry of the block of the gain. -/
theorem g_at (c : Dev nD) (t : Fin cfg0.N) (r : Fin 1) (k : Fin 1024) :
    (iblk m c 3 t : Vec Ideal S1x1024 .f32) (ix2 r k) = m ((c : Thread nD τ).loc main_arg3) (ix2 r k) := by
  blk_ext [iblk, V_main_arg3, rows_g t]
/-- An entry of the block of the added gradient. -/
theorem e_at (c : Dev nD) (t : Fin cfg0.N) (r : Fin 1024) (k : Fin 1024) :
    (iblk m c 4 t : Vec Ideal S1024x1024 .f32) (ix2 r k) = m ((c : Thread nD τ).loc main_arg4) (ix2 (row t r) k) := by
  blk_ext [iblk, V_main_arg4, rows_e t, row]

/-- Every entry of the arguments is a real number. -/
def Reals (c : Dev nD) : Prop :=
  (∀ i, IsReal ((m ((c : Thread nD τ).loc main_arg0) : Vec Ideal S16384x1024 .bf16) i)) ∧ (∀ i, IsReal ((m ((c : Thread nD τ).loc main_arg1) : Vec Ideal S1024x1024 .bf16) i))
    ∧ (∀ i, IsReal ((m ((c : Thread nD τ).loc main_arg2) : Vec Ideal S16384x1024 .f32) i)) ∧ (∀ i, IsReal ((m ((c : Thread nD τ).loc main_arg3) : Vec Ideal S1x1024 .f32) i))

/-- A product of real rows is real. -/
theorem dh_real {p w : Fin 1024 → EReal} (hp : ∀ k, IsReal (p k)) (hw : ∀ k, IsReal (w k)) : IsReal (dh p w) :=
  sum fun k => mul (hp k) (hw k)

/-- The two forms of the norm's gradient. -/
theorem back_eq {x d : Fin 1024 → EReal} (hx : ∀ k, IsReal (x k)) (hd : ∀ k, IsReal (d k)) (k : Fin 1024) :
    back x d k = d k * scale x + x k * inner x d + inner x d * x k := norm_back hx hd k

/-- The result's array. -/
theorem row_result (c : Dev nD) (hr : Reals m c) : (dats m 0 c).arrAt 5 cfg0.N
    = Cert.ProjBBwdRefIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, l, rfl⟩ : ∃ r l, y = ix2 r l := ⟨y 0, y 1, (ix2_eta y).symm⟩
  blk_simp
  have he : ((win0_5.blk t).view.emb (ix2 r l) : S16384x1024.Idx) = ix2 (row t r) l := by
    blk_ext [rows_out5 t, row]
  rw [he, after0_5, row_ref]
  have hs : (outsAt0 m c t.val t.isLt).1 (ix2 r l) = k0_pay7 (F := Ideal) (iblk m c 2 t) (iblk m c 3 t) (iblk m c 0 t) (iblk m c 1 t) (iblk m c 4 t) (ix2 r l) := by
    by_cases h : t.val % 16 = 0
    · rw [outsAt0_A m c t h]; frame_out
    · rw [outsAt0_B m c t h]; frame_out
  refine hs.trans ((row_block (iblk m c 2 t) (iblk m c 3 t) (iblk m c 0 t) (iblk m c 1 t) (iblk m c 4 t) r l).trans ?_)
  simp only [p_at, w_at, x_at, g_at, e_at]
  rw [back_eq (fun k => hr.2.2.1 _) (fun k => mul (dh_real (fun _ => hr.1 _) (fun _ => hr.2.1 _)) (hr.2.2.2 _)) l]

/-- The normed rows' array. -/
theorem normed_result (c : Dev nD) : (dats m 0 c).arrAt 7 cfg0.N
    = Cert.ProjBBwdRefIdeal.Read.val_main_v51 (F := Ideal) (m ((c : Thread nD τ).loc main_arg2)) (m ((c : Thread nD τ).loc main_arg3)) := by
  refine (dats m 0 c).arrAt_eq_of_covers 7 _ (by decide +kernel) fun t hf y => ?_
  obtain ⟨r, l, rfl⟩ : ∃ r l, y = ix2 r l := ⟨y 0, y 1, (ix2_eta y).symm⟩
  blk_simp
  have he : ((win0_7.blk t).view.emb (ix2 r l) : S16384x1024.Idx) = ix2 (row t r) l := by
    blk_ext [rows_out7 t, row]
  rw [he, after0_7, normed_ref]
  have hs : (outsAt0 m c t.val t.isLt).2.2 (ix2 r l) = k0_pay5 (F := Ideal) (iblk m c 2 t) (iblk m c 3 t) (ix2 r l) := by
    by_cases h : t.val % 16 = 0
    · rw [outsAt0_A m c t h]; frame_out
    · rw [outsAt0_B m c t h]; frame_out
  refine hs.trans ((normed_block (iblk m c 2 t) (iblk m c 3 t) r l).trans ?_)
  simp only [x_at, g_at]

/-- What one point adds to the gain's gradient, from its blocks. -/
def gainPart (p w : Vec Ideal S1024x1024 .bf16) (x : Vec Ideal S1024x1024 .f32) (k : Fin 1024) : EReal :=
  ∑ r, dh (fun l => p (ix2 r l)) (fun l => w (ix2 k l)) * (x (ix2 r k) * scale (fun k => x (ix2 r k)))

/-- What point `t` adds to the gain's gradient. -/
def part (c : Dev nD) (t : Fin cfg0.N) (k : Fin 1024) : EReal := gainPart (iblk m c 0 t) (iblk m c 1 t) (iblk m c 2 t) k

/-- One point's step of the gain's gradient, from its blocks. -/
theorem gain_apply (p w : Vec Ideal S1024x1024 .bf16) (x : Vec Ideal S1024x1024 .f32) (o : Vec Ideal S1x1024 .f32) (k : Fin 1024) :
    k0_pay2 (F := Ideal) (k0_pay4 x) (k0_pay6 p w) o (ix2 0 k) = o (ix2 0 k) + gainPart p w x k := by
  rw [gain_step]; simp only [dh_block, scaled_block]; rfl

/-- After the last point the row holds the sum of all points' parts. -/
theorem gain_last (c : Dev nD) (t : Fin cfg0.N) (ht : t.val + 1 = cfg0.N) (k : Fin 1024) :
    (outsAt0 m c t.val t.isLt).2.1 (ix2 0 k) = 0 + ∑ p : Fin cfg0.N, part m c p k := by
  exact Pipeline.eq_sum_fin_of_reset_step_apply_last (fun n h k => (outsAt0 m c n h).2.1 (ix2 0 k)) 16 (fun _ => (0 : EReal)) (part m c)
    (fun t h k => by
      show (outsAt0 m c t.val t.isLt).2.1 (ix2 0 k) = _
      rw [outsAt0_A m c t h]; frame_out
      refine (gain_apply (iblk m c 0 t) (iblk m c 1 t) (iblk m c 2 t) _ k).trans ?_
      rw [zero_row]; rfl)
    (fun t h k => by
      show (outsAt0 m c t.val t.isLt).2.1 (ix2 0 k) = _
      rw [outsAt0_B m c t h]; frame_out
      refine (gain_apply (iblk m c 0 t) (iblk m c 1 t) (iblk m c 2 t) _ k).trans ?_
      rfl)
    (le_of_eq N_0) t ht k

/-- The points' parts are the sum over all rows. -/
theorem sum_parts (c : Dev nD) (l : Fin 1024) : ∑ p : Fin cfg0.N, part m c p l
    = gainSum (m ((c : Thread nD τ).loc main_arg0)) (m ((c : Thread nD τ).loc main_arg1)) (m ((c : Thread nD τ).loc main_arg2)) l := by
  unfold gainSum
  unfold part gainPart
  refine Fin.sum_mul_add_congr (S := cfg0.N) (n := 1024) (fun t k ht => ?_) (by have : cfg0.N = 16 := N_0; rw [this])
  simp only [p_at, w_at, x_at, row]
  exact mul_comm _ _

/-- The gain's gradient. -/
theorem gain_result (c : Dev nD) : (dats m 0 c).arrAt 6 cfg0.N
    = Cert.ProjBBwdRefIdeal.Read.val_main_v21 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have hN : cfg0.N = 16 := N_0
  have h15 : t.val % 16 = 15 := (flush0_6 t).mp hf
  have ht : t.val + 1 = cfg0.N := by have : t.val < 16 := lt_of_lt_of_eq t.isLt N_0; rw [hN]; omega
  obtain ⟨r, l, rfl⟩ : ∃ r l, y = ix2 r l := ⟨y 0, y 1, (ix2_eta y).symm⟩
  obtain rfl : r = 0 := Subsingleton.elim _ _
  blk_simp
  have he : ((win0_6.blk t).view.emb (ix2 0 l) : S1x1024.Idx) = ix2 0 l := by
    blk_ext [rows_out6 t]
  rw [he, after0_6, gain_ref, gain_last m c t ht, zero_add]
  exact sum_parts m c l

/-- The scalar shape has one index. -/
instance : Subsingleton Cert.Pre_finite10.S_.Idx := ⟨fun a b => funext fun d => d.elim0⟩

/-- The precondition says that the entries are real. -/
theorem reals (h : Cert.Pre_ProjBBwdIdeal_finite10 m) (c : Dev nD) : Reals m c := by
  have e := congrFun (h c) (fun d => d.elim0)
  unfold Cert.Pre_finite10.fn Cert.Pre_finite10.fn_part1 at e
  obtain ⟨e, e3⟩ := both e
  obtain ⟨e, e2⟩ := both e
  obtain ⟨e0, e1⟩ := both e
  exact ⟨all_of_test _ _ _ _ _ _ (fun i => rfl) e0, all_of_test _ _ _ _ _ _ (fun i => rfl) e1,
    all_of_test _ _ _ _ _ _ (fun i => rfl) e2, all_of_test _ _ _ _ _ _ (fun i => rfl) e3⟩

/-- The kernel's run ends at the reference's three arrays, its arguments kept. -/
theorem kernel_run (hp : Cert.Pre_ProjBBwdIdeal_finite10 m) (ρ : Dev nD → PrngReg) :
    θ_run defs (onTc (τ := τ) (main (F := Ideal))) ⟨m, fun _ => 0, ρ⟩ fun r => ∀ c : Dev nD,
      r.2.mem ((c : Thread nD τ).loc main_v0_0) = Cert.ProjBBwdRefIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = Cert.ProjBBwdRefIdeal.Read.val_main_v21 (F := Ideal) (m ((c : Thread nD τ).loc main_arg0)) (m ((c : Thread nD τ).loc main_arg1)) (m ((c : Thread nD τ).loc main_arg2))
      ∧ r.2.mem ((c : Thread nD τ).loc main_v0_2) = Cert.ProjBBwdRefIdeal.Read.val_main_v51 (F := Ideal) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (row_result m c (reals m hp c)), (h c).2.1.trans (gain_result m c),
    (h c).2.2.1.trans (normed_result m c), (h c).2.2.2⟩) (Cert.ProjBBwdIdeal.Value.run_blocks m ρ)

/-- From memories agreeing on the arguments, with real entries, kernel and reference both run and end with equal results. -/
theorem algebraic : Cert.algebraic_ProjBBwdIdeal_ProjBBwdRefIdeal_pre_finite10 := by
  intro m ρ m' ρ' hp hm
  refine ⟨_, _, _, kernel_run m hp ρ, (θ_run _ _ _).mono (fun r h c => ⟨(h c).1.trans ?_, (h c).2.1.trans ?_, (h c).2.2.1.trans ?_, (h c).2.2.2⟩)
    (Cert.ProjBBwdRefIdeal.Value.run m' ρ')⟩
  · refine (Cert.ProjBBwdRefIdeal.Read.val_main_v38_eq m' c).trans ?_
    rw [(hm c).1, (hm c).2.1, (hm c).2.2.1, (hm c).2.2.2.1, (hm c).2.2.2.2]
  · rw [(hm c).1, (hm c).2.1, (hm c).2.2.1]
    exact Cert.ProjBBwdRefIdeal.Read.val_main_v21_eq _ _ _
  · rw [(hm c).2.2.1, (hm c).2.2.2.1]
    exact Cert.ProjBBwdRefIdeal.Read.val_main_v51_eq _ _

end Cert.ProjBBwdProof

end
-- ==== Proof.ProjAFwd.lean ====
/- The first mixers' input projection: the kernel norms 1024 rows at a time and multiplies them by the matrix. -/
module

public import proofs.«01_k».proof.Proof.Gen.ProjAFwdIdeal.Value
public import proofs.«01_k».proof.Proof.Gen.ProjAFwdRefIdeal.Read
public import Idealize.ShloMosaic.Lib.Pipeline.ValueKit.Tiles
public import Idealize.ShloMosaic.Lib.Pipeline.ValueKit.Geometry
public import Idealize.ShloMosaic.Lib.Pointwise
public import Idealize.ShloMosaic.Lib.Pipeline.ReadBack
public import proofs.«01_k».proof.Proof.Rows
public import proofs.«01_k».proof.Defs

@[expose] public section

set_option maxRecDepth 16384

noncomputable section

namespace Cert.ProjAFwdProof

open Cert.ProjAFwdIdeal Cert.ProjAFwdIdeal.Gen Idealize.ShloMosaic Idealize.ShloMosaic.TcCoe Idealize.SL.Sem
open Idealize.ShloMosaic.Pipeline (Dat)
open Cert.Rows

variable (m : (ℓ : Loc nD τ sig) → Buf (Elt Ideal) ℓ)

/-- The kernel's product of normed rows. -/
theorem block (x : Vec Ideal S1024x1024 .f32) (g : Vec Ideal S1x1024 .f32) (w : Vec Ideal S1024x2560 .bf16) (r : Fin 1024) (l : Fin 2560) :
    k0_pay1 (F := Ideal) x g w (ix2 r l) = entry (normed (fun k => x (ix2 r k)) (fun k => g (ix2 0 k))) (fun k => w (ix2 k l)) := by
  pointwise [k0_pay1]; rfl

/-- The reference's product of normed rows. -/
theorem whole (x : Vec Ideal Cert.ProjAFwdRefIdeal.S16384x1024 .f32) (g : Vec Ideal Cert.ProjAFwdRefIdeal.S1x1024 .f32) (w : Vec Ideal Cert.ProjAFwdRefIdeal.S1024x2560 .bf16) (r : Fin 16384) (l : Fin 2560) :
    Cert.ProjAFwdRefIdeal.Read.val_main_v14 (F := Ideal) x g w (ix2 r l) = entry (normed (fun k => x (ix2 r k)) (fun k => g (ix2 0 k))) (fun k => w (ix2 k l)) := by
  pointwise [Cert.ProjAFwdRefIdeal.Read.val_main_v0, Cert.ProjAFwdRefIdeal.Read.val_main_cst, Cert.ProjAFwdRefIdeal.Read.val_main_v1, Cert.ProjAFwdRefIdeal.Read.val_main_v2, Cert.ProjAFwdRefIdeal.Read.val_main_cst_0, Cert.ProjAFwdRefIdeal.Read.val_main_v3, Cert.ProjAFwdRefIdeal.Read.val_main_v4, Cert.ProjAFwdRefIdeal.Read.val_main_cst_1, Cert.ProjAFwdRefIdeal.Read.val_main_v5, Cert.ProjAFwdRefIdeal.Read.val_main_v6, Cert.ProjAFwdRefIdeal.Read.val_main_v7, Cert.ProjAFwdRefIdeal.Read.val_main_v8, Cert.ProjAFwdRefIdeal.Read.val_main_v9, Cert.ProjAFwdRefIdeal.Read.val_main_v10, Cert.ProjAFwdRefIdeal.Read.val_main_v11, Cert.ProjAFwdRefIdeal.Read.val_main_v12, Cert.ProjAFwdRefIdeal.Read.val_main_v13, Cert.ProjAFwdRefIdeal.Read.val_main_v14]; rfl

/-- The block of rows at point `t` starts at row `1024 t`. -/
theorem rows_x : ∀ t : Fin cfg0.N, win0_0.index t = ![t.val, 0] := (by decide +kernel : ∀ t : Fin grid0.N, _)
/-- The gain is whole at every point. -/
theorem rows_g : ∀ t : Fin cfg0.N, win0_1.index t = ![0, 0] := (by decide +kernel : ∀ t : Fin grid0.N, _)
/-- The matrix is whole at every point. -/
theorem rows_w : ∀ t : Fin cfg0.N, win0_2.index t = ![0, 0] := (by decide +kernel : ∀ t : Fin grid0.N, _)
/-- The block of the result at point `t` starts at row `1024 t`. -/
theorem rows_o : ∀ t : Fin cfg0.N, win0_3.index t = ![t.val, 0] := (by decide +kernel : ∀ t : Fin grid0.N, _)

/-- Row `r` of the block at point `t`, as a row of the whole array. -/
def row (t : Fin cfg0.N) (r : Fin 1024) : Fin 16384 :=
  ⟨t.val * 1024 + r.val, by have : t.val < 16 := lt_of_lt_of_eq t.isLt N_0; omega⟩

/-- An entry of the block of rows. -/
theorem x_at (c : Dev nD) (t : Fin cfg0.N) (r k : Fin 1024) :
    (iblk m c 0 t : Vec Ideal S1024x1024 .f32) (ix2 r k) = m ((c : Thread nD τ).loc main_arg0) (ix2 (row t r) k) := by
  blk_ext [iblk, V_main_arg0, rows_x t, row]
/-- An entry of the gain. -/
theorem g_at (c : Dev nD) (t : Fin cfg0.N) (r : Fin 1) (k : Fin 1024) :
    (iblk m c 1 t : Vec Ideal S1x1024 .f32) (ix2 r k) = m ((c : Thread nD τ).loc main_arg1) (ix2 r k) := by
  blk_ext [iblk, V_main_arg1, rows_g t]
/-- An entry of the matrix. -/
theorem w_at (c : Dev nD) (t : Fin cfg0.N) (r : Fin 1024) (k : Fin 2560) :
    (iblk m c 2 t : Vec Ideal S1024x2560 .bf16) (ix2 r k) = m ((c : Thread nD τ).loc main_arg2) (ix2 r k) := by
  blk_ext [iblk, V_main_arg2, rows_w t]

/-- The result's array. -/
theorem result (c : Dev nD) : (dats m 0 c).arrAt 3 cfg0.N
    = Cert.ProjAFwdRefIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ r l, y = ix2 r l := ⟨y 0, y 1, (ix2_eta y).symm⟩
  blk_simp
  have he : ((win0_3.blk t).view.emb (ix2 r l) : S16384x2560.Idx) = ix2 (row t r) l := by
    blk_ext [rows_o t, row]
  rw [he, after0_3, whole]
  unfold out0_3
  frame_out
  refine (block (iblk m c 0 t) (iblk m c 1 t) (iblk m c 2 t) r l).trans ?_
  simp only [x_at, g_at, w_at]

/-- The kernel's run ends at the reference's array, its arguments kept. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = Cert.ProjAFwdRefIdeal.Read.val_main_v14 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (Cert.ProjAFwdIdeal.Value.run_blocks m ρ)

/-- From memories agreeing on the arguments, kernel and reference both run and end with equal results. -/
theorem algebraic : Cert.algebraic_ProjAFwdIdeal_ProjAFwdRefIdeal := by
  intro m ρ m' ρ' _ hm
  refine ⟨_, kernel_run m ρ, (θ_run _ _ _).mono (fun r h c => ⟨(h c).1.trans ?_, (h c).2⟩) (Cert.ProjAFwdRefIdeal.Value.run m' ρ')⟩
  rw [(hm c).1, (hm c).2.1, (hm c).2.2]
  exact Cert.ProjAFwdRefIdeal.Read.val_main_v14_eq _ _ _

end Cert.ProjAFwdProof

end
-- ==== Proof.ProjBFwd.lean ====
/- The second mixers' input projection: the kernel norms 1024 rows at a time and multiplies them by the matrix. -/
module

public import proofs.«01_k».proof.Proof.Gen.ProjBFwdIdeal.Value
public import proofs.«01_k».proof.Proof.Gen.ProjBFwdRefIdeal.Read
public import Idealize.ShloMosaic.Lib.Pipeline.ValueKit.Tiles
public import Idealize.ShloMosaic.Lib.Pipeline.ValueKit.Geometry
public import Idealize.ShloMosaic.Lib.Pointwise
public import Idealize.ShloMosaic.Lib.Pipeline.ReadBack
public import proofs.«01_k».proof.Proof.Rows
public import proofs.«01_k».proof.Defs

@[expose] public section

set_option maxRecDepth 16384

noncomputable section

namespace Cert.ProjBFwdProof

open Cert.ProjBFwdIdeal Cert.ProjBFwdIdeal.Gen Idealize.ShloMosaic Idealize.ShloMosaic.TcCoe Idealize.SL.Sem
open Idealize.ShloMosaic.Pipeline (Dat)
open Cert.Rows

variable (m : (ℓ : Loc nD τ sig) → Buf (Elt Ideal) ℓ)

/-- The kernel's product of normed rows. -/
theorem block (x : Vec Ideal S1024x1024 .f32) (g : Vec Ideal S1x1024 .f32) (w : Vec Ideal S1024x1024 .bf16) (r : Fin 1024) (l : Fin 1024) :
    k0_pay1 (F := Ideal) x g w (ix2 r l) = entry (normed (fun k => x (ix2 r k)) (fun k => g (ix2 0 k))) (fun k => w (ix2 k l)) := by
  pointwise [k0_pay1]; rfl

/-- The reference's product of normed rows. -/
theorem whole (x : Vec Ideal Cert.ProjBFwdRefIdeal.S16384x1024 .f32) (g : Vec Ideal Cert.ProjBFwdRefIdeal.S1x1024 .f32) (w : Vec Ideal Cert.ProjBFwdRefIdeal.S1024x1024 .bf16) (r : Fin 16384) (l : Fin 1024) :
    Cert.ProjBFwdRefIdeal.Read.val_main_v14 (F := Ideal) x g w (ix2 r l) = entry (normed (fun k => x (ix2 r k)) (fun k => g (ix2 0 k))) (fun k => w (ix2 k l)) := by
  pointwise [Cert.ProjBFwdRefIdeal.Read.val_main_v0, Cert.ProjBFwdRefIdeal.Read.val_main_cst, Cert.ProjBFwdRefIdeal.Read.val_main_v1, Cert.ProjBFwdRefIdeal.Read.val_main_v2, Cert.ProjBFwdRefIdeal.Read.val_main_cst_0, Cert.ProjBFwdRefIdeal.Read.val_main_v3, Cert.ProjBFwdRefIdeal.Read.val_main_v4, Cert.ProjBFwdRefIdeal.Read.val_main_cst_1, Cert.ProjBFwdRefIdeal.Read.val_main_v5, Cert.ProjBFwdRefIdeal.Read.val_main_v6, Cert.ProjBFwdRefIdeal.Read.val_main_v7, Cert.ProjBFwdRefIdeal.Read.val_main_v8, Cert.ProjBFwdRefIdeal.Read.val_main_v9, Cert.ProjBFwdRefIdeal.Read.val_main_v10, Cert.ProjBFwdRefIdeal.Read.val_main_v11, Cert.ProjBFwdRefIdeal.Read.val_main_v12, Cert.ProjBFwdRefIdeal.Read.val_main_v13, Cert.ProjBFwdRefIdeal.Read.val_main_v14]; rfl

/-- The block of rows at point `t` starts at row `1024 t`. -/
theorem rows_x : ∀ t : Fin cfg0.N, win0_0.index t = ![t.val, 0] := (by decide +kernel : ∀ t : Fin grid0.N, _)
/-- The gain is whole at every point. -/
theorem rows_g : ∀ t : Fin cfg0.N, win0_1.index t = ![0, 0] := (by decide +kernel : ∀ t : Fin grid0.N, _)
/-- The matrix is whole at every point. -/
theorem rows_w : ∀ t : Fin cfg0.N, win0_2.index t = ![0, 0] := (by decide +kernel : ∀ t : Fin grid0.N, _)
/-- The block of the result at point `t` starts at row `1024 t`. -/
theorem rows_o : ∀ t : Fin cfg0.N, win0_3.index t = ![t.val, 0] := (by decide +kernel : ∀ t : Fin grid0.N, _)

/-- Row `r` of the block at point `t`, as a row of the whole array. -/
def row (t : Fin cfg0.N) (r : Fin 1024) : Fin 16384 :=
  ⟨t.val * 1024 + r.val, by have : t.val < 16 := lt_of_lt_of_eq t.isLt N_0; omega⟩

/-- An entry of the block of rows. -/
theorem x_at (c : Dev nD) (t : Fin cfg0.N) (r k : Fin 1024) :
    (iblk m c 0 t : Vec Ideal S1024x1024 .f32) (ix2 r k) = m ((c : Thread nD τ).loc main_arg0) (ix2 (row t r) k) := by
  blk_ext [iblk, V_main_arg0, rows_x t, row]
/-- An entry of the gain. -/
theorem g_at (c : Dev nD) (t : Fin cfg0.N) (r : Fin 1) (k : Fin 1024) :
    (iblk m c 1 t : Vec Ideal S1x1024 .f32) (ix2 r k) = m ((c : Thread nD τ).loc main_arg1) (ix2 r k) := by
  blk_ext [iblk, V_main_arg1, rows_g t]
/-- An entry of the matrix. -/
theorem w_at (c : Dev nD) (t : Fin cfg0.N) (r : Fin 1024) (k : Fin 1024) :
    (iblk m c 2 t : Vec Ideal S1024x1024 .bf16) (ix2 r k) = m ((c : Thread nD τ).loc main_arg2) (ix2 r k) := by
  blk_ext [iblk, V_main_arg2, rows_w t]

/-- The result's array. -/
theorem result (c : Dev nD) : (dats m 0 c).arrAt 3 cfg0.N
    = Cert.ProjBFwdRefIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ r l, y = ix2 r l := ⟨y 0, y 1, (ix2_eta y).symm⟩
  blk_simp
  have he : ((win0_3.blk t).view.emb (ix2 r l) : S16384x1024.Idx) = ix2 (row t r) l := by
    blk_ext [rows_o t, row]
  rw [he, after0_3, whole]
  unfold out0_3
  frame_out
  refine (block (iblk m c 0 t) (iblk m c 1 t) (iblk m c 2 t) r l).trans ?_
  simp only [x_at, g_at, w_at]

/-- The kernel's run ends at the reference's array, its arguments kept. -/
theorem kernel_run (ρ : Dev nD → PrngReg) :
    θ_run defs (onTc (τ := τ) (main (F := Ideal))) ⟨m, fun _ => 0, ρ⟩ fun r => ∀ c : Dev nD,
      r.2.mem ((c : Thread nD τ).loc main_v0) = Cert.ProjBFwdRefIdeal.Read.val_main_v14 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (Cert.ProjBFwdIdeal.Value.run_blocks m ρ)

/-- From memories agreeing on the arguments, kernel and reference both run and end with equal results. -/
theorem algebraic : Cert.algebraic_ProjBFwdIdeal_ProjBFwdRefIdeal := by
  intro m ρ m' ρ' _ hm
  refine ⟨_, kernel_run m ρ, (θ_run _ _ _).mono (fun r h c => ⟨(h c).1.trans ?_, (h c).2⟩) (Cert.ProjBFwdRefIdeal.Value.run m' ρ')⟩
  rw [(hm c).1, (hm c).2.1, (hm c).2.2]
  exact Cert.ProjBFwdRefIdeal.Read.val_main_v14_eq _ _ _

end Cert.ProjBFwdProof

end
-- ==== Proof.ProjBKvFwd.lean ====
/- The second mixer's query projection together with the shared keys' and values': the kernel norms 1024 rows at a time once
   and multiplies them, under either gain, by either matrix. -/
module

public import proofs.«01_k».proof.Proof.Gen.ProjBKvFwdIdeal.Value
public import proofs.«01_k».proof.Proof.Gen.ProjBKvFwdRefIdeal.Read
public import Idealize.ShloMosaic.Lib.Pipeline.ValueKit.Tiles
public import Idealize.ShloMosaic.Lib.Pipeline.ValueKit.Geometry
public import Idealize.ShloMosaic.Lib.Pointwise
public import Idealize.ShloMosaic.Lib.Pipeline.ReadBack
public import proofs.«01_k».proof.Proof.Rows
public import proofs.«01_k».proof.Defs

@[expose] public section

set_option maxRecDepth 16384

noncomputable section

namespace Cert.ProjBKvFwdProof

open Cert.ProjBKvFwdIdeal Cert.ProjBKvFwdIdeal.Gen Idealize.ShloMosaic Idealize.ShloMosaic.TcCoe Idealize.SL.Sem
open Idealize.ShloMosaic.Pipeline (Dat)
open Cert.Rows

variable (m : (ℓ : Loc nD τ sig) → Buf (Elt Ideal) ℓ)

/-- The kernel's rows before the gain. -/
theorem scaled (x : Vec Ideal S1024x1024 .f32) (r k : Fin 1024) :
    k0_pay1 (F := Ideal) x (ix2 r k) = x (ix2 r k) * scale (fun k => x (ix2 r k)) := by
  pointwise [k0_pay1]; rfl

/-- The kernel's first product. -/
theorem block_a (x : Vec Ideal S1024x1024 .f32) (g : Vec Ideal S1x1024 .f32) (w : Vec Ideal S1024x1024 .bf16) (r l : Fin 1024) :
    k0_pay2 (F := Ideal) x g w (ix2 r l) = entry (normed (fun k => x (ix2 r k)) (fun k => g (ix2 0 k))) (fun k => w (ix2 k l)) := by
  pointwise [k0_pay2]; simp only [scaled]; rfl

/-- The kernel's second product. -/
theorem block_b (x : Vec Ideal S1024x1024 .f32) (g : Vec Ideal S1x1024 .f32) (w : Vec Ideal S1024x512 .bf16) (r : Fin 1024) (l : Fin 512) :
    k0_pay3 (F := Ideal) x g w (ix2 r l) = entry (normed (fun k => x (ix2 r k)) (fun k => g (ix2 0 k))) (fun k => w (ix2 k l)) := by
  pointwise [k0_pay3]; simp only [scaled]; rfl

/-- The reference's first product. -/
theorem whole_a (x : Vec Ideal Cert.ProjBKvFwdRefIdeal.S16384x1024 .f32) (g : Vec Ideal Cert.ProjBKvFwdRefIdeal.S1x1024 .f32) (w : Vec Ideal Cert.ProjBKvFwdRefIdeal.S1024x1024 .bf16) (r : Fin 16384) (l : Fin 1024) :
    Cert.ProjBKvFwdRefIdeal.Read.val_main_v14 (F := Ideal) x g w (ix2 r l) = entry (normed (fun k => x (ix2 r k)) (fun k => g (ix2 0 k))) (fun k => w (ix2 k l)) := by
  pointwise [Cert.ProjBKvFwdRefIdeal.Read.val_main_v0, Cert.ProjBKvFwdRefIdeal.Read.val_main_v1, Cert.ProjBKvFwdRefIdeal.Read.val_main_v2, Cert.ProjBKvFwdRefIdeal.Read.val_main_v3, Cert.ProjBKvFwdRefIdeal.Read.val_main_v4, Cert.ProjBKvFwdRefIdeal.Read.val_main_v5, Cert.ProjBKvFwdRefIdeal.Read.val_main_v6, Cert.ProjBKvFwdRefIdeal.Read.val_main_v7, Cert.ProjBKvFwdRefIdeal.Read.val_main_v8, Cert.ProjBKvFwdRefIdeal.Read.val_main_v9, Cert.ProjBKvFwdRefIdeal.Read.val_main_v10, Cert.ProjBKvFwdRefIdeal.Read.val_main_v11, Cert.ProjBKvFwdRefIdeal.Read.val_main_v12, Cert.ProjBKvFwdRefIdeal.Read.val_main_v13, Cert.ProjBKvFwdRefIdeal.Read.val_main_v14, Cert.ProjBKvFwdRefIdeal.Read.val_main_cst, Cert.ProjBKvFwdRefIdeal.Read.val_main_cst_0, Cert.ProjBKvFwdRefIdeal.Read.val_main_cst_1]; rfl

/-- The reference's second product. -/
theorem whole_b (x : Vec Ideal Cert.ProjBKvFwdRefIdeal.S16384x1024 .f32) (g : Vec Ideal Cert.ProjBKvFwdRefIdeal.S1x1024 .f32) (w : Vec Ideal Cert.ProjBKvFwdRefIdeal.S1024x512 .bf16) (r : Fin 16384) (l : Fin 512) :
    Cert.ProjBKvFwdRefIdeal.Read.val_main_v29 (F := Ideal) x g w (ix2 r l) = entry (normed (fun k => x (ix2 r k)) (fun k => g (ix2 0 k))) (fun k => w (ix2 k l)) := by
  pointwise [Cert.ProjBKvFwdRefIdeal.Read.val_main_v15, Cert.ProjBKvFwdRefIdeal.Read.val_main_v16, Cert.ProjBKvFwdRefIdeal.Read.val_main_v17, Cert.ProjBKvFwdRefIdeal.Read.val_main_v18, Cert.ProjBKvFwdRefIdeal.Read.val_main_v19, Cert.ProjBKvFwdRefIdeal.Read.val_main_v20, Cert.ProjBKvFwdRefIdeal.Read.val_main_v21, Cert.ProjBKvFwdRefIdeal.Read.val_main_v22, Cert.ProjBKvFwdRefIdeal.Read.val_main_v23, Cert.ProjBKvFwdRefIdeal.Read.val_main_v24, Cert.ProjBKvFwdRefIdeal.Read.val_main_v25, Cert.ProjBKvFwdRefIdeal.Read.val_main_v26, Cert.ProjBKvFwdRefIdeal.Read.val_main_v27, Cert.ProjBKvFwdRefIdeal.Read.val_main_v28, Cert.ProjBKvFwdRefIdeal.Read.val_main_v29, Cert.ProjBKvFwdRefIdeal.Read.val_main_cst_2, Cert.ProjBKvFwdRefIdeal.Read.val_main_cst_3, Cert.ProjBKvFwdRefIdeal.Read.val_main_cst_4]; rfl

/-- The block of rows at point `t` starts at row `1024 t`. -/
theorem rows_x : ∀ t : Fin cfg0.N, win0_0.index t = ![t.val, 0] := (by decide +kernel : ∀ t : Fin grid0.N, _)
/-- The first gain is whole at every point. -/
theorem rows_ga : ∀ t : Fin cfg0.N, win0_1.index t = ![0, 0] := (by decide +kernel : ∀ t : Fin grid0.N, _)
/-- The first matrix is whole at every point. -/
theorem rows_wa : ∀ t : Fin cfg0.N, win0_2.index t = ![0, 0] := (by decide +kernel : ∀ t : Fin grid0.N, _)
/-- The second gain is whole at every point. -/
theorem rows_gb : ∀ t : Fin cfg0.N, win0_3.index t = ![0, 0] := (by decide +kernel : ∀ t : Fin grid0.N, _)
/-- The second matrix is whole at every point. -/
theorem rows_wb : ∀ t : Fin cfg0.N, win0_4.index t = ![0, 0] := (by decide +kernel : ∀ t : Fin grid0.N, _)
/-- The block of the first result at point `t` starts at row `1024 t`. -/
theorem rows_oa : ∀ t : Fin cfg0.N, win0_5.index t = ![t.val, 0] := (by decide +kernel : ∀ t : Fin grid0.N, _)
/-- The block of the second result at point `t` starts at row `1024 t`. -/
theorem rows_ob : ∀ t : Fin cfg0.N, win0_6.index t = ![t.val, 0] := (by decide +kernel : ∀ t : Fin grid0.N, _)

/-- Row `r` of the block at point `t`, as a row of the whole array. -/
def row (t : Fin cfg0.N) (r : Fin 1024) : Fin 16384 :=
  ⟨t.val * 1024 + r.val, by have : t.val < 16 := lt_of_lt_of_eq t.isLt N_0; omega⟩

/-- An entry of the block of rows. -/
theorem x_at (c : Dev nD) (t : Fin cfg0.N) (r k : Fin 1024) :
    (iblk m c 0 t : Vec Ideal S1024x1024 .f32) (ix2 r k) = m ((c : Thread nD τ).loc main_arg0) (ix2 (row t r) k) := by
  blk_ext [iblk, V_main_arg0, rows_x t, row]
/-- An entry of the first gain. -/
theorem ga_at (c : Dev nD) (t : Fin cfg0.N) (r : Fin 1) (k : Fin 1024) :
    (iblk m c 1 t : Vec Ideal S1x1024 .f32) (ix2 r k) = m ((c : Thread nD τ).loc main_arg1) (ix2 r k) := by
  blk_ext [iblk, V_main_arg1, rows_ga t]
/-- An entry of the first matrix. -/
theorem wa_at (c : Dev nD) (t : Fin cfg0.N) (r : Fin 1024) (k : Fin 1024) :
    (iblk m c 2 t : Vec Ideal S1024x1024 .bf16) (ix2 r k) = m ((c : Thread nD τ).loc main_arg2) (ix2 r k) := by
  blk_ext [iblk, V_main_arg2, rows_wa t]
/-- An entry of the second gain. -/
theorem gb_at (c : Dev nD) (t : Fin cfg0.N) (r : Fin 1) (k : Fin 1024) :
    (iblk m c 3 t : Vec Ideal S1x1024 .f32) (ix2 r k) = m ((c : Thread nD τ).loc main_arg3) (ix2 r k) := by
  blk_ext [iblk, V_main_arg3, rows_gb t]
/-- An entry of the second matrix. -/
theorem wb_at (c : Dev nD) (t : Fin cfg0.N) (r : Fin 1024) (k : Fin 512) :
    (iblk m c 4 t : Vec Ideal S1024x512 .bf16) (ix2 r k) = m ((c : Thread nD τ).loc main_arg4) (ix2 r k) := by
  blk_ext [iblk, V_main_arg4, rows_wb t]

/-- The first result's array. -/
theorem result_a (c : Dev nD) : (dats m 0 c).arrAt 5 cfg0.N
    = Cert.ProjBKvFwdRefIdeal.Read.val_main_v14 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨r, l, rfl⟩ : ∃ r l, y = ix2 r l := ⟨y 0, y 1, (ix2_eta y).symm⟩
  blk_simp
  have he : ((win0_5.blk t).view.emb (ix2 r l) : S16384x1024.Idx) = ix2 (row t r) l := by
    blk_ext [rows_oa t, row]
  rw [he, after0_5, whole_a]
  unfold out0_5
  frame_out
  refine (block_a (iblk m c 0 t) (iblk m c 1 t) (iblk m c 2 t) r l).trans ?_
  simp only [x_at, ga_at, wa_at]

/-- The second result's array. -/
theorem result_b (c : Dev nD) : (dats m 0 c).arrAt 6 cfg0.N
    = Cert.ProjBKvFwdRefIdeal.Read.val_main_v29 (F := Ideal) (m ((c : Thread nD τ).loc main_arg0)) (m ((c : Thread nD τ).loc main_arg3)) (m ((c : Thread nD τ).loc main_arg4)) := by
  refine (dats m 0 c).arrAt_eq_of_covers 6 _ (by decide +kernel) fun t hf y => ?_
  obtain ⟨r, l, rfl⟩ : ∃ r l, y = ix2 r l := ⟨y 0, y 1, (ix2_eta y).symm⟩
  blk_simp
  have he : ((win0_6.blk t).view.emb (ix2 r l) : S16384x512.Idx) = ix2 (row t r) l := by
    blk_ext [rows_ob t, row]
  rw [he, after0_6, whole_b]
  unfold out0_6
  frame_out
  refine (block_b (iblk m c 0 t) (iblk m c 3 t) (iblk m c 4 t) r l).trans ?_
  simp only [x_at, gb_at, wb_at]

/-- The kernel's run ends at the reference's two arrays, its arguments kept. -/
theorem kernel_run (ρ : Dev nD → PrngReg) :
    θ_run defs (onTc (τ := τ) (main (F := Ideal))) ⟨m, fun _ => 0, ρ⟩ fun r => ∀ c : Dev nD,
      r.2.mem ((c : Thread nD τ).loc main_v0_0) = Cert.ProjBKvFwdRefIdeal.Read.val_main_v14 (F := Ideal) (m ((c : Thread nD τ).loc main_arg0)) (m ((c : Thread nD τ).loc main_arg1)) (m ((c : Thread nD τ).loc main_arg2))
      ∧ r.2.mem ((c : Thread nD τ).loc main_v0_1) = Cert.ProjBKvFwdRefIdeal.Read.val_main_v29 (F := Ideal) (m ((c : Thread nD τ).loc main_arg0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_a m c), (h c).2.1.trans (result_b m c), (h c).2.2⟩) (Cert.ProjBKvFwdIdeal.Value.run_blocks m ρ)

/-- From memories agreeing on the arguments, kernel and reference both run and end with equal results. -/
theorem algebraic : Cert.algebraic_ProjBKvFwdIdeal_ProjBKvFwdRefIdeal := by
  intro m ρ m' ρ' _ hm
  refine ⟨_, _, kernel_run m ρ, (θ_run _ _ _).mono (fun r h c => ⟨(h c).1.trans ?_, (h c).2.1.trans ?_, (h c).2.2⟩) (Cert.ProjBKvFwdRefIdeal.Value.run m' ρ')⟩
  · rw [(hm c).1, (hm c).2.1, (hm c).2.2.1]
    exact Cert.ProjBKvFwdRefIdeal.Read.val_main_v14_eq _ _ _
  · rw [(hm c).1, (hm c).2.2.2.1, (hm c).2.2.2.2]
    exact Cert.ProjBKvFwdRefIdeal.Read.val_main_v29_eq _ _ _

end Cert.ProjBKvFwdProof

end
-- ==== Proof.ProjBKvBwd.lean ====
/- The backward call of the second mixer's query projection together with the shared keys' and values': the keys' and values'
   gradients are gathered from both layers, each with the overlap the next rows sent back, and the two products' gradients
   go together through the norm they share. -/
module

public import proofs.«01_k».proof.Proof.Gen.ProjBKvBwdIdeal.Value
public import proofs.«01_k».proof.Proof.Gen.ProjBKvBwdRefIdeal.Read
public import Idealize.ShloMosaic.Lib.Pipeline.ValueKit.Tiles
public import Idealize.ShloMosaic.Lib.Pipeline.ValueKit.Geometry
public import Idealize.ShloMosaic.Lib.Pointwise
public import Idealize.ShloMosaic.Lib.Pipeline.ReadBack
public import proofs.«01_k».proof.Proof.Gen.Pre_finite11
public import proofs.«01_k».proof.Proof.Finite
public import proofs.«01_k».proof.Defs

@[expose] public section

set_option maxRecDepth 16384

noncomputable section

namespace Cert.ProjBKvBwdProof

open Cert.ProjBKvBwdIdeal Cert.ProjBKvBwdIdeal.Gen Idealize.ShloMosaic Idealize.ShloMosaic.TcCoe Idealize.SL.Sem
open Idealize.ShloMosaic.Pipeline (Dat)
open Cert.Rows Cert.Finite

variable (m : (ℓ : Loc nD τ sig) → Buf (Elt Ideal) ℓ)

/-- A row times a row. -/
def dot {n : Nat} (p w : Fin n → EReal) : EReal := ∑ k, p k * w k

/-- What the kernel stores of the norm's gradient. -/
def back (x d : Fin 1024 → EReal) (k : Fin 1024) : EReal :=
  scale x * (d k - x k * scale x * Ideal.div (∑ j, d j * (x j * scale x)) (Ideal.ofBits FTy.f32 1149239296#32))

/-- The gathered gradient of the keys and values: both layers' own part, and in each tile's last 128 rows both layers' overlap
    from the next tile, none after the last. -/
def kv (m1 : Vec Ideal S16384x512 .f32) (m2 : Vec Ideal S16384x512 .f32) (h1 : Vec Ideal S32x128x512 .f32) (h2 : Vec Ideal S32x128x512 .f32) (r : Fin 16384) (l : Fin 512) : EReal :=
  m1 (ix2 r l) + m2 (ix2 r l) + (if h : r.val % 512 < 384 then 0 else if h' : r.val / 512 < 31 then
    h1 (ix3 ⟨1 + r.val / 512, by omega⟩ ⟨r.val % 512 - 384, by omega⟩ l) + h2 (ix3 ⟨1 + r.val / 512, by omega⟩ ⟨r.val % 512 - 384, by omega⟩ l) else 0)

/-- The same from one tile's blocks, at tile `n`. -/
def kvTile (n : Nat) (a b : Vec Ideal S512x512 .f32) (h1 h2 : Vec Ideal S1x128x512 .f32) (r l : Fin 512) : EReal :=
  if h : r.val < 384 then a (ix2 r l) + b (ix2 r l) else
    a (ix2 r l) + b (ix2 r l) + (if n = 31 then 0 else h1 (ix3 0 ⟨r.val - 384, by omega⟩ l) + h2 (ix3 0 ⟨r.val - 384, by omega⟩ l))

/-- A choice by the tile's number being the last. -/
theorem select_last : ∀ (n : Fin 32) , Scalar.cmpi CmpIPredicate.eq (BitVec.ofNat 32 n.val) 31#32 = if n.val = 31 then 1#1 else 0#1 := by
  decide

/-- The kernel's gathered gradient. -/
theorem kv_block (i : grid0.Coords) (a b : Vec Ideal S512x512 .f32) (h1 h2 : Vec Ideal S1x128x512 .f32) (r l : Fin 512) :
    k0_pay3 (F := Ideal) i a b h1 h2 (ix2 r l) = kvTile (i 0).val a b h1 h2 r l := by
  unfold kvTile
  pointwise [k0_pay3]
  by_cases h : r.val < 384
  · rw [dif_pos h, dif_pos h]
  · rw [dif_neg h, dif_neg h]
    have hr : (⟨384 + (r.val - 384), by omega⟩ : Fin 512) = r := Fin.ext (by show 384 + (r.val - 384) = r.val; omega)
    rw [hr]
    congr 1
    have hc := select_last ⟨(i 0).val, (i 0).isLt⟩
    by_cases h31 : (i 0).val = 31
    · rw [if_pos h31]
      rw [show (⟨(i 0).val, (i 0).isLt⟩ : Fin 32).val = (i 0).val from rfl, if_pos h31] at hc
      rw [hc]; rfl
    · rw [if_neg h31]
      rw [show (⟨(i 0).val, (i 0).isLt⟩ : Fin 32).val = (i 0).val from rfl, if_neg h31] at hc
      rw [hc]; rfl

/-- The kernel's scale of a row. -/
theorem scale_block (x : Vec Ideal S512x1024 .f32) (r : Fin 512) :
    k0_pay4 (F := Ideal) x (ix2 r 0) = scale (fun k => x (ix2 r k)) := by
  pointwise [k0_pay4]; rfl

/-- The kernel's rows before the gain. -/
theorem scaled_block (x : Vec Ideal S512x1024 .f32) (r : Fin 512) (k : Fin 1024) :
    k0_pay5 (F := Ideal) x (ix2 r k) = x (ix2 r k) * scale (fun k => x (ix2 r k)) := by
  pointwise [k0_pay5]; simp only [scale_block]

/-- The kernel's rows normed under the first gain. -/
theorem normed_block (x : Vec Ideal S512x1024 .f32) (g : Vec Ideal S1x1024 .f32) (r : Fin 512) (k : Fin 1024) :
    k0_pay6 (F := Ideal) x g (ix2 r k) = normed (fun k => x (ix2 r k)) (fun k => g (ix2 0 k)) k := by
  pointwise [k0_pay6]; simp only [scaled_block]; rfl

/-- The kernel's rows normed under the second gain. -/
theorem normed_kv_block (x : Vec Ideal S512x1024 .f32) (g : Vec Ideal S1x1024 .f32) (r : Fin 512) (k : Fin 1024) :
    k0_pay7 (F := Ideal) (k0_pay5 x) g (ix2 r k) = normed (fun k => x (ix2 r k)) (fun k => g (ix2 0 k)) k := by
  pointwise [k0_pay7]; simp only [scaled_block]; rfl

/-- The kernel's gradient of the first product. -/
theorem dq_block (p : Vec Ideal S512x1024 .bf16) (w : Vec Ideal S1024x1024 .bf16) (r : Fin 512) (k : Fin 1024) :
    k0_pay8 (F := Ideal) p w (ix2 r k) = dot (fun l => p (ix2 r l)) (fun l => w (ix2 k l)) := by
  pointwise [k0_pay8]; rfl

/-- The kernel's gradient of the second product. -/
theorem dk_block (p : FVec Ideal S512x512 .bf16) (w : Vec Ideal S1024x512 .bf16) (r : Fin 512) (k : Fin 1024) :
    k0_pay9 (F := Ideal) p w (ix2 r k) = dot (fun l => p (ix2 r l)) (fun l => w (ix2 k l)) := by
  pointwise [k0_pay9]; rfl

/-- The kernel's result row. -/
theorem row_block (v : FVec Ideal S512x512 .bf16) (x : Vec Ideal S512x1024 .f32) (g gk : Vec Ideal S1x1024 .f32) (p : Vec Ideal S512x1024 .bf16) (w : Vec Ideal S1024x1024 .bf16)
    (wk : Vec Ideal S1024x512 .bf16) (e : Vec Ideal S512x1024 .f32) (r : Fin 512) (k : Fin 1024) :
    k0_pay10 (F := Ideal) v (k0_pay4 x) (k0_pay5 x) g gk p w wk e (ix2 r k) = e (ix2 r k)
      + back (fun k => x (ix2 r k)) (fun k => dot (fun l => p (ix2 r l)) (fun l => w (ix2 k l)) * g (ix2 0 k) + dot (fun l => v (ix2 r l)) (fun l => wk (ix2 k l)) * gk (ix2 0 k)) k := by
  pointwise [k0_pay10]; simp only [scaled_block, scale_block, dq_block, dk_block]; rfl

/-- The zero row stored at the first point. -/
theorem zero_row (k : Fin 1024) : k0_pay11 (F := Ideal) (ix2 0 k) = 0 := by
  pointwise [k0_pay11]
/-- The other zero row stored at the first point. -/
theorem zero_row_kv (k : Fin 1024) : k0_pay12 (F := Ideal) (ix2 0 k) = 0 := by
  pointwise [k0_pay12]

/-- What one point adds to the first gain's gradient, from its blocks. -/
def gainPart (p : Vec Ideal S512x1024 .bf16) (w : Vec Ideal S1024x1024 .bf16) (x : Vec Ideal S512x1024 .f32) (k : Fin 1024) : EReal :=
  ∑ r, dot (fun l => p (ix2 r l)) (fun l => w (ix2 k l)) * (x (ix2 r k) * scale (fun k => x (ix2 r k)))

/-- One point's step of the first gain's gradient. -/
theorem gain_apply (p : Vec Ideal S512x1024 .bf16) (w : Vec Ideal S1024x1024 .bf16) (x : Vec Ideal S512x1024 .f32) (o : Vec Ideal S1x1024 .f32) (k : Fin 1024) :
    k0_pay1 (F := Ideal) (k0_pay13 o) (k0_pay14 (k0_pay5 x) p w) (ix2 0 k) = o (ix2 0 k) + gainPart p w x k := by
  pointwise [k0_pay1, k0_pay13, k0_pay14]; simp only [scaled_block, dq_block]; rfl

/-- What one point adds to the second gain's gradient, from its blocks. -/
def gainKvPart (v : FVec Ideal S512x512 .bf16) (wk : Vec Ideal S1024x512 .bf16) (x : Vec Ideal S512x1024 .f32) (k : Fin 1024) : EReal :=
  ∑ r, dot (fun l => v (ix2 r l)) (fun l => wk (ix2 k l)) * (x (ix2 r k) * scale (fun k => x (ix2 r k)))

/-- One point's step of the second gain's gradient. -/
theorem gain_kv_apply (v : FVec Ideal S512x512 .bf16) (wk : Vec Ideal S1024x512 .bf16) (x : Vec Ideal S512x1024 .f32) (o : Vec Ideal S1x1024 .f32) (k : Fin 1024) :
    k0_pay2 (F := Ideal) (k0_pay5 x) (k0_pay9 v wk) o (ix2 0 k) = o (ix2 0 k) + gainKvPart v wk x k := by
  pointwise [k0_pay2]; simp only [scaled_block, dk_block]; rfl

/-- The reference's gathered gradient. -/
theorem kv_ref (m1 : Vec Ideal Cert.ProjBKvBwdRefIdeal.S16384x512 .f32) (h1 : Vec Ideal Cert.ProjBKvBwdRefIdeal.S32x128x512 .f32) (m2 : Vec Ideal Cert.ProjBKvBwdRefIdeal.S16384x512 .f32) (h2 : Vec Ideal Cert.ProjBKvBwdRefIdeal.S32x128x512 .f32) (r : Fin 16384) (l : Fin 512) :
    Cert.ProjBKvBwdRefIdeal.Read.val_main_v8 (F := Ideal) m1 h1 m2 h2 (ix2 r l) = kv m1 m2 h1 h2 r l := by
  pointwise [Cert.ProjBKvBwdRefIdeal.Read.val_main_v8, Cert.ProjBKvBwdRefIdeal.Read.val_main_v7, Cert.ProjBKvBwdRefIdeal.Read.val_main_v6, Cert.ProjBKvBwdRefIdeal.Read.val_main_v5, Cert.ProjBKvBwdRefIdeal.Read.val_main_v4, Cert.ProjBKvBwdRefIdeal.Read.val_main_v3, Cert.ProjBKvBwdRefIdeal.Read.val_main_v2, Cert.ProjBKvBwdRefIdeal.Read.val_main_v1, Cert.ProjBKvBwdRefIdeal.Read.val_main_v0, Cert.ProjBKvBwdRefIdeal.Read.val_main_cst, Cert.ProjBKvBwdRefIdeal.Read.val_main_cst_0]; rfl

/-- The reference's gradient of the first product. -/
theorem dq_ref (dqp : Vec Ideal Cert.ProjBKvBwdRefIdeal.S16384x1024 .bf16) (w : Vec Ideal Cert.ProjBKvBwdRefIdeal.S1024x1024 .bf16) (r : Fin 16384) (k : Fin 1024) :
    Cert.ProjBKvBwdRefIdeal.Read.val_main_v12 (F := Ideal) dqp w (ix2 r k) = dot (fun l => dqp (ix2 r l)) (fun l => w (ix2 k l)) := by
  pointwise [Cert.ProjBKvBwdRefIdeal.Read.val_main_v12, Cert.ProjBKvBwdRefIdeal.Read.val_main_v11, Cert.ProjBKvBwdRefIdeal.Read.val_main_v10, Cert.ProjBKvBwdRefIdeal.Read.val_main_v9]; rfl

/-- The reference's gradient of the second product. -/
theorem dk_ref (m1 : Vec Ideal Cert.ProjBKvBwdRefIdeal.S16384x512 .f32) (h1 : Vec Ideal Cert.ProjBKvBwdRefIdeal.S32x128x512 .f32) (m2 : Vec Ideal Cert.ProjBKvBwdRefIdeal.S16384x512 .f32) (h2 : Vec Ideal Cert.ProjBKvBwdRefIdeal.S32x128x512 .f32) (wkv : Vec Ideal Cert.ProjBKvBwdRefIdeal.S1024x512 .bf16) (r : Fin 16384) (k : Fin 1024) :
    Cert.ProjBKvBwdRefIdeal.Read.val_main_v15 (F := Ideal) m1 h1 m2 h2 wkv (ix2 r k) = dot (fun l => kv m1 m2 h1 h2 r l) (fun l => wkv (ix2 k l)) := by
  pointwise [Cert.ProjBKvBwdRefIdeal.Read.val_main_v15, Cert.ProjBKvBwdRefIdeal.Read.val_main_v14, Cert.ProjBKvBwdRefIdeal.Read.val_main_v13]; simp only [kv_ref]; rfl

/-- The reference's mean square of a row, in its first norm. -/
theorem meanSq_q (x : Vec Ideal Cert.ProjBKvBwdRefIdeal.S16384x1024 .f32) (r : Fin 16384) : Cert.ProjBKvBwdRefIdeal.Read.val_main_v22 (F := Ideal) x (ix2 r 0) = meanSq (fun k => x (ix2 r k)) := by
  pointwise [Cert.ProjBKvBwdRefIdeal.Read.val_main_v22, Cert.ProjBKvBwdRefIdeal.Read.val_main_v21, Cert.ProjBKvBwdRefIdeal.Read.val_main_v20, Cert.ProjBKvBwdRefIdeal.Read.val_main_v19, Cert.ProjBKvBwdRefIdeal.Read.val_main_v18, Cert.ProjBKvBwdRefIdeal.Read.val_main_v17, Cert.ProjBKvBwdRefIdeal.Read.val_main_v16, Cert.ProjBKvBwdRefIdeal.Read.val_main_cst_1, Cert.ProjBKvBwdRefIdeal.Read.val_main_cst_2, Cert.ProjBKvBwdRefIdeal.Read.val_main_cst_3]; rfl
/-- The reference's scale of a row, in its first norm. -/
theorem scale_q (x : Vec Ideal Cert.ProjBKvBwdRefIdeal.S16384x1024 .f32) (r : Fin 16384) : Cert.ProjBKvBwdRefIdeal.Read.val_main_v23 (F := Ideal) x (ix2 r 0) = scale (fun k => x (ix2 r k)) := by
  pointwise [Cert.ProjBKvBwdRefIdeal.Read.val_main_v23, Cert.ProjBKvBwdRefIdeal.Read.val_main_v22, Cert.ProjBKvBwdRefIdeal.Read.val_main_v21, Cert.ProjBKvBwdRefIdeal.Read.val_main_v20, Cert.ProjBKvBwdRefIdeal.Read.val_main_v19, Cert.ProjBKvBwdRefIdeal.Read.val_main_v18, Cert.ProjBKvBwdRefIdeal.Read.val_main_v17, Cert.ProjBKvBwdRefIdeal.Read.val_main_v16, Cert.ProjBKvBwdRefIdeal.Read.val_main_cst_1, Cert.ProjBKvBwdRefIdeal.Read.val_main_cst_2, Cert.ProjBKvBwdRefIdeal.Read.val_main_cst_3]; rfl
/-- The reference's mean square of a row, in its second norm. -/
theorem meanSq_k (x : Vec Ideal Cert.ProjBKvBwdRefIdeal.S16384x1024 .f32) (r : Fin 16384) : Cert.ProjBKvBwdRefIdeal.Read.val_main_v37 (F := Ideal) x (ix2 r 0) = meanSq (fun k => x (ix2 r k)) := by
  pointwise [Cert.ProjBKvBwdRefIdeal.Read.val_main_v37, Cert.ProjBKvBwdRefIdeal.Read.val_main_v36, Cert.ProjBKvBwdRefIdeal.Read.val_main_v35, Cert.ProjBKvBwdRefIdeal.Read.val_main_v34, Cert.ProjBKvBwdRefIdeal.Read.val_main_v33, Cert.ProjBKvBwdRefIdeal.Read.val_main_v32, Cert.ProjBKvBwdRefIdeal.Read.val_main_v31, Cert.ProjBKvBwdRefIdeal.Read.val_main_cst_5, Cert.ProjBKvBwdRefIdeal.Read.val_main_cst_6, Cert.ProjBKvBwdRefIdeal.Read.val_main_cst_7]; rfl
/-- The reference's scale of a row, in its second norm. -/
theorem scale_k (x : Vec Ideal Cert.ProjBKvBwdRefIdeal.S16384x1024 .f32) (r : Fin 16384) : Cert.ProjBKvBwdRefIdeal.Read.val_main_v38 (F := Ideal) x (ix2 r 0) = scale (fun k => x (ix2 r k)) := by
  pointwise [Cert.ProjBKvBwdRefIdeal.Read.val_main_v38, Cert.ProjBKvBwdRefIdeal.Read.val_main_v37, Cert.ProjBKvBwdRefIdeal.Read.val_main_v36, Cert.ProjBKvBwdRefIdeal.Read.val_main_v35, Cert.ProjBKvBwdRefIdeal.Read.val_main_v34, Cert.ProjBKvBwdRefIdeal.Read.val_main_v33, Cert.ProjBKvBwdRefIdeal.Read.val_main_v32, Cert.ProjBKvBwdRefIdeal.Read.val_main_v31, Cert.ProjBKvBwdRefIdeal.Read.val_main_cst_5, Cert.ProjBKvBwdRefIdeal.Read.val_main_cst_6, Cert.ProjBKvBwdRefIdeal.Read.val_main_cst_7]; rfl

/-- The reference's factor of the inner derivative, in its first norm. -/
theorem inner_q (dqp : Vec Ideal Cert.ProjBKvBwdRefIdeal.S16384x1024 .bf16) (w : Vec Ideal Cert.ProjBKvBwdRefIdeal.S1024x1024 .bf16) (g : Vec Ideal Cert.ProjBKvBwdRefIdeal.S1x1024 .f32) (x : Vec Ideal Cert.ProjBKvBwdRefIdeal.S16384x1024 .f32) (r : Fin 16384) (k : Fin 1024) :
    Cert.ProjBKvBwdRefIdeal.Read.val_main_v80 (F := Ideal) dqp w g x (ix2 r k) = inner (fun k => x (ix2 r k)) (fun k => dot (fun l => dqp (ix2 r l)) (fun l => w (ix2 k l)) * g (ix2 0 k)) := by
  pointwise [Cert.ProjBKvBwdRefIdeal.Read.val_main_v80, Cert.ProjBKvBwdRefIdeal.Read.val_main_v79, Cert.ProjBKvBwdRefIdeal.Read.val_main_v78, Cert.ProjBKvBwdRefIdeal.Read.val_main_v77, Cert.ProjBKvBwdRefIdeal.Read.val_main_v76, Cert.ProjBKvBwdRefIdeal.Read.val_main_v72, Cert.ProjBKvBwdRefIdeal.Read.val_main_v71, Cert.ProjBKvBwdRefIdeal.Read.val_main_v70, Cert.ProjBKvBwdRefIdeal.Read.val_main_v69, Cert.ProjBKvBwdRefIdeal.Read.val_main_v68, Cert.ProjBKvBwdRefIdeal.Read.val_main_v26, Cert.ProjBKvBwdRefIdeal.Read.val_main_v25, Cert.ProjBKvBwdRefIdeal.Read.val_main_v24, Cert.ProjBKvBwdRefIdeal.Read.val_main_cst_4, Cert.ProjBKvBwdRefIdeal.Read.val_main_cst_14, Cert.ProjBKvBwdRefIdeal.Read.val_main_cst_15, Cert.ProjBKvBwdRefIdeal.Read.val_main_cst_16]
  simp only [Fin.sum_univ_one, dq_ref, scale_q, meanSq_q]; rfl

/-- The reference's factor of the inner derivative, in its second norm. -/
theorem inner_k (m1 : Vec Ideal Cert.ProjBKvBwdRefIdeal.S16384x512 .f32) (h1 : Vec Ideal Cert.ProjBKvBwdRefIdeal.S32x128x512 .f32) (m2 : Vec Ideal Cert.ProjBKvBwdRefIdeal.S16384x512 .f32) (h2 : Vec Ideal Cert.ProjBKvBwdRefIdeal.S32x128x512 .f32) (wkv : Vec Ideal Cert.ProjBKvBwdRefIdeal.S1024x512 .bf16) (gkv : Vec Ideal Cert.ProjBKvBwdRefIdeal.S1x1024 .f32) (x : Vec Ideal Cert.ProjBKvBwdRefIdeal.S16384x1024 .f32) (r : Fin 16384) (k : Fin 1024) :
    Cert.ProjBKvBwdRefIdeal.Read.val_main_v60 (F := Ideal) m1 h1 m2 h2 wkv gkv x (ix2 r k) = inner (fun k => x (ix2 r k)) (fun k => dot (fun l => kv m1 m2 h1 h2 r l) (fun l => wkv (ix2 k l)) * gkv (ix2 0 k)) := by
  pointwise [Cert.ProjBKvBwdRefIdeal.Read.val_main_v60, Cert.ProjBKvBwdRefIdeal.Read.val_main_v59, Cert.ProjBKvBwdRefIdeal.Read.val_main_v58, Cert.ProjBKvBwdRefIdeal.Read.val_main_v57, Cert.ProjBKvBwdRefIdeal.Read.val_main_v56, Cert.ProjBKvBwdRefIdeal.Read.val_main_v53, Cert.ProjBKvBwdRefIdeal.Read.val_main_v52, Cert.ProjBKvBwdRefIdeal.Read.val_main_v51, Cert.ProjBKvBwdRefIdeal.Read.val_main_v50, Cert.ProjBKvBwdRefIdeal.Read.val_main_v49, Cert.ProjBKvBwdRefIdeal.Read.val_main_v41, Cert.ProjBKvBwdRefIdeal.Read.val_main_v40, Cert.ProjBKvBwdRefIdeal.Read.val_main_v39, Cert.ProjBKvBwdRefIdeal.Read.val_main_cst_8, Cert.ProjBKvBwdRefIdeal.Read.val_main_cst_10, Cert.ProjBKvBwdRefIdeal.Read.val_main_cst_11, Cert.ProjBKvBwdRefIdeal.Read.val_main_cst_12]
  simp only [Fin.sum_univ_one, dk_ref, scale_k, meanSq_k]; rfl

/-- The reference's result row. -/
theorem row_ref (dqp : Vec Ideal Cert.ProjBKvBwdRefIdeal.S16384x1024 .bf16) (w : Vec Ideal Cert.ProjBKvBwdRefIdeal.S1024x1024 .bf16) (g : Vec Ideal Cert.ProjBKvBwdRefIdeal.S1x1024 .f32) (m1 : Vec Ideal Cert.ProjBKvBwdRefIdeal.S16384x512 .f32) (h1 : Vec Ideal Cert.ProjBKvBwdRefIdeal.S32x128x512 .f32) (m2 : Vec Ideal Cert.ProjBKvBwdRefIdeal.S16384x512 .f32) (h2 : Vec Ideal Cert.ProjBKvBwdRefIdeal.S32x128x512 .f32) (wkv : Vec Ideal Cert.ProjBKvBwdRefIdeal.S1024x512 .bf16) (gkv : Vec Ideal Cert.ProjBKvBwdRefIdeal.S1x1024 .f32) (x : Vec Ideal Cert.ProjBKvBwdRefIdeal.S16384x1024 .f32) (e : Vec Ideal Cert.ProjBKvBwdRefIdeal.S16384x1024 .f32) (r : Fin 16384) (k : Fin 1024) :
    Cert.ProjBKvBwdRefIdeal.Read.val_main_v85 (F := Ideal) dqp w g m1 h1 m2 h2 wkv gkv x e (ix2 r k) = e (ix2 r k)
      + (dot (fun l => kv m1 m2 h1 h2 r l) (fun l => wkv (ix2 k l)) * gkv (ix2 0 k) * scale (fun k => x (ix2 r k)) + x (ix2 r k) * inner (fun k => x (ix2 r k)) (fun k => dot (fun l => kv m1 m2 h1 h2 r l) (fun l => wkv (ix2 k l)) * gkv (ix2 0 k)) + inner (fun k => x (ix2 r k)) (fun k => dot (fun l => kv m1 m2 h1 h2 r l) (fun l => wkv (ix2 k l)) * gkv (ix2 0 k)) * x (ix2 r k)
        + dot (fun l => dqp (ix2 r l)) (fun l => w (ix2 k l)) * g (ix2 0 k) * scale (fun k => x (ix2 r k)) + x (ix2 r k) * inner (fun k => x (ix2 r k)) (fun k => dot (fun l => dqp (ix2 r l)) (fun l => w (ix2 k l)) * g (ix2 0 k)) + inner (fun k => x (ix2 r k)) (fun k => dot (fun l => dqp (ix2 r l)) (fun l => w (ix2 k l)) * g (ix2 0 k)) * x (ix2 r k)) := by
  pointwise [Cert.ProjBKvBwdRefIdeal.Read.val_main_v85, Cert.ProjBKvBwdRefIdeal.Read.val_main_v84, Cert.ProjBKvBwdRefIdeal.Read.val_main_v83, Cert.ProjBKvBwdRefIdeal.Read.val_main_v82, Cert.ProjBKvBwdRefIdeal.Read.val_main_v81, Cert.ProjBKvBwdRefIdeal.Read.val_main_v75, Cert.ProjBKvBwdRefIdeal.Read.val_main_v74, Cert.ProjBKvBwdRefIdeal.Read.val_main_v73, Cert.ProjBKvBwdRefIdeal.Read.val_main_v69, Cert.ProjBKvBwdRefIdeal.Read.val_main_v68, Cert.ProjBKvBwdRefIdeal.Read.val_main_v64, Cert.ProjBKvBwdRefIdeal.Read.val_main_v63, Cert.ProjBKvBwdRefIdeal.Read.val_main_v62, Cert.ProjBKvBwdRefIdeal.Read.val_main_v61, Cert.ProjBKvBwdRefIdeal.Read.val_main_v55, Cert.ProjBKvBwdRefIdeal.Read.val_main_v54, Cert.ProjBKvBwdRefIdeal.Read.val_main_v50, Cert.ProjBKvBwdRefIdeal.Read.val_main_v49]
  simp only [inner_q, inner_k, dq_ref, dk_ref, scale_q, scale_k]

/-- The first gain's gradient at a column, over all rows. -/
def gainSum (dqp : Vec Ideal S16384x1024 .bf16) (w : Vec Ideal S1024x1024 .bf16) (x : Vec Ideal S16384x1024 .f32) (k : Fin 1024) : EReal := ∑ r : Fin 16384, x (ix2 r k) * scale (fun k => x (ix2 r k)) * dot (fun l => dqp (ix2 r l)) (fun l => w (ix2 k l))
/-- The second gain's gradient at a column, over all rows. -/
def gainKvSum (m1 : Vec Ideal S16384x512 .f32) (h1 : Vec Ideal S32x128x512 .f32) (m2 : Vec Ideal S16384x512 .f32) (h2 : Vec Ideal S32x128x512 .f32) (wkv : Vec Ideal S1024x512 .bf16) (x : Vec Ideal S16384x1024 .f32) (k : Fin 1024) : EReal := ∑ r : Fin 16384, x (ix2 r k) * scale (fun k => x (ix2 r k)) * dot (fun l => kv m1 m2 h1 h2 r l) (fun l => wkv (ix2 k l))

/-- The reference's gradient of the first gain. -/
theorem gain_ref (dqp : Vec Ideal Cert.ProjBKvBwdRefIdeal.S16384x1024 .bf16) (w : Vec Ideal Cert.ProjBKvBwdRefIdeal.S1024x1024 .bf16) (x : Vec Ideal Cert.ProjBKvBwdRefIdeal.S16384x1024 .f32) (k : Fin 1024) :
    Cert.ProjBKvBwdRefIdeal.Read.val_main_v67 (F := Ideal) dqp w x (ix2 0 k) = gainSum dqp w x k := by
  unfold gainSum
  pointwise [Cert.ProjBKvBwdRefIdeal.Read.val_main_v67, Cert.ProjBKvBwdRefIdeal.Read.val_main_v66, Cert.ProjBKvBwdRefIdeal.Read.val_main_v65, Cert.ProjBKvBwdRefIdeal.Read.val_main_v28, Cert.ProjBKvBwdRefIdeal.Read.val_main_v27, Cert.ProjBKvBwdRefIdeal.Read.val_main_cst_13]
  simp only [dq_ref, scale_q]
/-- The reference's gradient of the second gain. -/
theorem gain_kv_ref (m1 : Vec Ideal Cert.ProjBKvBwdRefIdeal.S16384x512 .f32) (h1 : Vec Ideal Cert.ProjBKvBwdRefIdeal.S32x128x512 .f32) (m2 : Vec Ideal Cert.ProjBKvBwdRefIdeal.S16384x512 .f32) (h2 : Vec Ideal Cert.ProjBKvBwdRefIdeal.S32x128x512 .f32) (wkv : Vec Ideal Cert.ProjBKvBwdRefIdeal.S1024x512 .bf16) (x : Vec Ideal Cert.ProjBKvBwdRefIdeal.S16384x1024 .f32) (k : Fin 1024) :
    Cert.ProjBKvBwdRefIdeal.Read.val_main_v48 (F := Ideal) m1 h1 m2 h2 wkv x (ix2 0 k) = gainKvSum m1 h1 m2 h2 wkv x k := by
  unfold gainKvSum
  pointwise [Cert.ProjBKvBwdRefIdeal.Read.val_main_v48, Cert.ProjBKvBwdRefIdeal.Read.val_main_v47, Cert.ProjBKvBwdRefIdeal.Read.val_main_v46, Cert.ProjBKvBwdRefIdeal.Read.val_main_v43, Cert.ProjBKvBwdRefIdeal.Read.val_main_v42, Cert.ProjBKvBwdRefIdeal.Read.val_main_cst_9]
  simp only [dk_ref, scale_k]

/-- The reference's rows normed under the first gain. -/
theorem normed_ref (g : Vec Ideal Cert.ProjBKvBwdRefIdeal.S1x1024 .f32) (x : Vec Ideal Cert.ProjBKvBwdRefIdeal.S16384x1024 .f32) (r : Fin 16384) (k : Fin 1024) :
    Cert.ProjBKvBwdRefIdeal.Read.val_main_v98 (F := Ideal) g x (ix2 r k) = normed (fun k => x (ix2 r k)) (fun k => g (ix2 0 k)) k := by
  pointwise [Cert.ProjBKvBwdRefIdeal.Read.val_main_v86, Cert.ProjBKvBwdRefIdeal.Read.val_main_v87, Cert.ProjBKvBwdRefIdeal.Read.val_main_v88, Cert.ProjBKvBwdRefIdeal.Read.val_main_v89, Cert.ProjBKvBwdRefIdeal.Read.val_main_v90, Cert.ProjBKvBwdRefIdeal.Read.val_main_v91, Cert.ProjBKvBwdRefIdeal.Read.val_main_v92, Cert.ProjBKvBwdRefIdeal.Read.val_main_v93, Cert.ProjBKvBwdRefIdeal.Read.val_main_v94, Cert.ProjBKvBwdRefIdeal.Read.val_main_v95, Cert.ProjBKvBwdRefIdeal.Read.val_main_v96, Cert.ProjBKvBwdRefIdeal.Read.val_main_v97, Cert.ProjBKvBwdRefIdeal.Read.val_main_v98, Cert.ProjBKvBwdRefIdeal.Read.val_main_cst_17, Cert.ProjBKvBwdRefIdeal.Read.val_main_cst_18, Cert.ProjBKvBwdRefIdeal.Read.val_main_cst_19]; rfl
/-- The reference's rows normed under the second gain. -/
theorem normed_kv_ref (gkv : Vec Ideal Cert.ProjBKvBwdRefIdeal.S1x1024 .f32) (x : Vec Ideal Cert.ProjBKvBwdRefIdeal.S16384x1024 .f32) (r : Fin 16384) (k : Fin 1024) :
    Cert.ProjBKvBwdRefIdeal.Read.val_main_v111 (F := Ideal) gkv x (ix2 r k) = normed (fun k => x (ix2 r k)) (fun k => gkv (ix2 0 k)) k := by
  pointwise [Cert.ProjBKvBwdRefIdeal.Read.val_main_v99, Cert.ProjBKvBwdRefIdeal.Read.val_main_v100, Cert.ProjBKvBwdRefIdeal.Read.val_main_v101, Cert.ProjBKvBwdRefIdeal.Read.val_main_v102, Cert.ProjBKvBwdRefIdeal.Read.val_main_v103, Cert.ProjBKvBwdRefIdeal.Read.val_main_v104, Cert.ProjBKvBwdRefIdeal.Read.val_main_v105, Cert.ProjBKvBwdRefIdeal.Read.val_main_v106, Cert.ProjBKvBwdRefIdeal.Read.val_main_v107, Cert.ProjBKvBwdRefIdeal.Read.val_main_v108, Cert.ProjBKvBwdRefIdeal.Read.val_main_v109, Cert.ProjBKvBwdRefIdeal.Read.val_main_v110, Cert.ProjBKvBwdRefIdeal.Read.val_main_v111, Cert.ProjBKvBwdRefIdeal.Read.val_main_cst_20, Cert.ProjBKvBwdRefIdeal.Read.val_main_cst_21, Cert.ProjBKvBwdRefIdeal.Read.val_main_cst_22]; rfl

/-- The block of the incoming gradient at point `t` starts at row `512 t`. -/
theorem rows_p : ∀ t : Fin cfg0.N, win0_0.index t = ![t.val, 0] := (by decide +kernel : ∀ t : Fin grid0.N, _)
/-- The first matrix is whole at every point. -/
theorem rows_w : ∀ t : Fin cfg0.N, win0_1.index t = ![0, 0] := (by decide +kernel : ∀ t : Fin grid0.N, _)
/-- The first gain is whole at every point. -/
theorem rows_g : ∀ t : Fin cfg0.N, win0_2.index t = ![0, 0] := (by decide +kernel : ∀ t : Fin grid0.N, _)
/-- The first layer's block of the keys' and values' gradient at point `t` starts at row `512 t`. -/
theorem rows_a : ∀ t : Fin cfg0.N, win0_3.index t = ![t.val, 0] := (by decide +kernel : ∀ t : Fin grid0.N, _)
/-- The overlap's block at point `t` is the next tile's. -/
theorem rows_ha : ∀ t : Fin cfg0.N, win0_4.index t = ![min (t.val + 1) 31, 0, 0] := (by decide +kernel : ∀ t : Fin grid0.N, _)
/-- The second layer's block of the keys' and values' gradient at point `t` starts at row `512 t`. -/
theorem rows_b : ∀ t : Fin cfg0.N, win0_5.index t = ![t.val, 0] := (by decide +kernel : ∀ t : Fin grid0.N, _)
/-- The overlap's block at point `t` is the next tile's. -/
theorem rows_hb : ∀ t : Fin cfg0.N, win0_6.index t = ![min (t.val + 1) 31, 0, 0] := (by decide +kernel : ∀ t : Fin grid0.N, _)
/-- The second matrix is whole at every point. -/
theorem rows_wk : ∀ t : Fin cfg0.N, win0_7.index t = ![0, 0] := (by decide +kernel : ∀ t : Fin grid0.N, _)
/-- The second gain is whole at every point. -/
theorem rows_gk : ∀ t : Fin cfg0.N, win0_8.index t = ![0, 0] := (by decide +kernel : ∀ t : Fin grid0.N, _)
/-- The block of the norm's input at point `t` starts at row `512 t`. -/
theorem rows_x : ∀ t : Fin cfg0.N, win0_9.index t = ![t.val, 0] := (by decide +kernel : ∀ t : Fin grid0.N, _)
/-- The block of the added gradient at point `t` starts at row `512 t`. -/
theorem rows_e : ∀ t : Fin cfg0.N, win0_10.index t = ![t.val, 0] := (by decide +kernel : ∀ t : Fin grid0.N, _)
/-- The block of the result at point `t` starts at row `512 t`. -/
theorem rows_o11 : ∀ t : Fin cfg0.N, win0_11.index t = ![t.val, 0] := (by decide +kernel : ∀ t : Fin grid0.N, _)
/-- The first gain's gradient is whole at every point. -/
theorem rows_o12 : ∀ t : Fin cfg0.N, win0_12.index t = ![0, 0] := (by decide +kernel : ∀ t : Fin grid0.N, _)
/-- The second gain's gradient is whole at every point. -/
theorem rows_o13 : ∀ t : Fin cfg0.N, win0_13.index t = ![0, 0] := (by decide +kernel : ∀ t : Fin grid0.N, _)
/-- The block of rows normed under the first gain at point `t` starts at row `512 t`. -/
theorem rows_o14 : ∀ t : Fin cfg0.N, win0_14.index t = ![t.val, 0] := (by decide +kernel : ∀ t : Fin grid0.N, _)
/-- The block of rows normed under the second gain at point `t` starts at row `512 t`. -/
theorem rows_o15 : ∀ t : Fin cfg0.N, win0_15.index t = ![t.val, 0] := (by decide +kernel : ∀ t : Fin grid0.N, _)
/-- The block of the gathered gradient at point `t` starts at row `512 t`. -/
theorem rows_o16 : ∀ t : Fin cfg0.N, win0_16.index t = ![t.val, 0] := (by decide +kernel : ∀ t : Fin grid0.N, _)
/-- Point `t` has coordinate `t`. -/
theorem coord : ∀ t : Fin cfg0.N, ((grid0.coords t) 0).val = t.val := (by decide +kernel : ∀ t : Fin grid0.N, _)

/-- Row `r` of the block at point `t`, as a row of the whole array. -/
def row (t : Fin cfg0.N) (r : Fin 512) : Fin 16384 :=
  ⟨t.val * 512 + r.val, by have : t.val < 32 := lt_of_lt_of_eq t.isLt N_0; omega⟩

/-- The tile after point `t`'s, or the last. -/
def next (t : Fin cfg0.N) : Fin 32 := ⟨min (t.val + 1) 31, by omega⟩

/-- An entry of the block of the incoming gradient. -/
theorem p_at (c : Dev nD) (t : Fin cfg0.N) (r : Fin 512) (k : Fin 1024) :
    (iblk m c 0 t : Vec Ideal S512x1024 .bf16) (ix2 r k) = m ((c : Thread nD τ).loc main_arg0) (ix2 (row t r) k) := by
  blk_ext [iblk, V_main_arg0, rows_p t, row]
/-- An entry of the first matrix. -/
theorem w_at (c : Dev nD) (t : Fin cfg0.N) (r : Fin 1024) (k : Fin 1024) :
    (iblk m c 1 t : Vec Ideal S1024x1024 .bf16) (ix2 r k) = m ((c : Thread nD τ).loc main_arg1) (ix2 r k) := by
  blk_ext [iblk, V_main_arg1, rows_w t]
/-- An entry of the first gain. -/
theorem g_at (c : Dev nD) (t : Fin cfg0.N) (r : Fin 1) (k : Fin 1024) :
    (iblk m c 2 t : Vec Ideal S1x1024 .f32) (ix2 r k) = m ((c : Thread nD τ).loc main_arg2) (ix2 r k) := by
  blk_ext [iblk, V_main_arg2, rows_g t]
/-- An entry of the first layer's block of the keys' and values' gradient. -/
theorem a_at (c : Dev nD) (t : Fin cfg0.N) (r : Fin 512) (k : Fin 512) :
    (iblk m c 3 t : Vec Ideal S512x512 .f32) (ix2 r k) = m ((c : Thread nD τ).loc main_arg3) (ix2 (row t r) k) := by
  blk_ext [iblk, V_main_arg3, rows_a t, row]
/-- An entry of the overlap's block. -/
theorem ha_at (c : Dev nD) (t : Fin cfg0.N) (r : Fin 128) (k : Fin 512) :
    (iblk m c 4 t : Vec Ideal S1x128x512 .f32) (ix3 0 r k) = m ((c : Thread nD τ).loc main_arg4) (ix3 (next t) r k) := by
  blk_ext [iblk, V_main_arg4, rows_ha t, next]
/-- An entry of the second layer's block of the keys' and values' gradient. -/
theorem b_at (c : Dev nD) (t : Fin cfg0.N) (r : Fin 512) (k : Fin 512) :
    (iblk m c 5 t : Vec Ideal S512x512 .f32) (ix2 r k) = m ((c : Thread nD τ).loc main_arg5) (ix2 (row t r) k) := by
  blk_ext [iblk, V_main_arg5, rows_b t, row]
/-- An entry of the overlap's block. -/
theorem hb_at (c : Dev nD) (t : Fin cfg0.N) (r : Fin 128) (k : Fin 512) :
    (iblk m c 6 t : Vec Ideal S1x128x512 .f32) (ix3 0 r k) = m ((c : Thread nD τ).loc main_arg6) (ix3 (next t) r k) := by
  blk_ext [iblk, V_main_arg6, rows_hb t, next]
/-- An entry of the second matrix. -/
theorem wk_at (c : Dev nD) (t : Fin cfg0.N) (r : Fin 1024) (k : Fin 512) :
    (iblk m c 7 t : Vec Ideal S1024x512 .bf16) (ix2 r k) = m ((c : Thread nD τ).loc main_arg7) (ix2 r k) := by
  blk_ext [iblk, V_main_arg7, rows_wk t]
/-- An entry of the second gain. -/
theorem gk_at (c : Dev nD) (t : Fin cfg0.N) (r : Fin 1) (k : Fin 1024) :
    (iblk m c 8 t : Vec Ideal S1x1024 .f32) (ix2 r k) = m ((c : Thread nD τ).loc main_arg8) (ix2 r k) := by
  blk_ext [iblk, V_main_arg8, rows_gk t]
/-- An entry of the block of the norm's input. -/
theorem x_at (c : Dev nD) (t : Fin cfg0.N) (r : Fin 512) (k : Fin 1024) :
    (iblk m c 9 t : Vec Ideal S512x1024 .f32) (ix2 r k) = m ((c : Thread nD τ).loc main_arg9) (ix2 (row t r) k) := by
  blk_ext [iblk, V_main_arg9, rows_x t, row]
/-- An entry of the block of the added gradient. -/
theorem e_at (c : Dev nD) (t : Fin cfg0.N) (r : Fin 512) (k : Fin 1024) :
    (iblk m c 10 t : Vec Ideal S512x1024 .f32) (ix2 r k) = m ((c : Thread nD τ).loc main_arg10) (ix2 (row t r) k) := by
  blk_ext [iblk, V_main_arg10, rows_e t, row]

/-- The gathered gradient of a tile is that of its rows. -/
theorem kv_at (c : Dev nD) (t : Fin cfg0.N) (r l : Fin 512) :
    (k0_pay3 (F := Ideal) (grid0.coords t) (iblk m c 3 t) (iblk m c 5 t) (iblk m c 4 t) (iblk m c 6 t)) (ix2 r l) = kv (m ((c : Thread nD τ).loc main_arg3)) (m ((c : Thread nD τ).loc main_arg5)) (m ((c : Thread nD τ).loc main_arg4)) (m ((c : Thread nD τ).loc main_arg6)) (row t r) l := by
  refine (kv_block (grid0.coords t) (iblk m c 3 t) (iblk m c 5 t) (iblk m c 4 t) (iblk m c 6 t) r l).trans ?_
  have hN : t.val < 32 := lt_of_lt_of_eq t.isLt N_0
  have hm : (row t r).val % 512 = r.val := by show (t.val * 512 + r.val) % 512 = r.val; omega
  have hd : (row t r).val / 512 = t.val := by show (t.val * 512 + r.val) / 512 = t.val; omega
  unfold kvTile kv
  rw [coord t]
  by_cases h : r.val < 384
  · rw [dif_pos h, dif_pos (by rw [hm]; exact h), add_zero, a_at, b_at]
  · rw [dif_neg h, dif_neg (by rw [hm]; exact h), a_at, b_at]
    congr 1
    by_cases h31 : t.val = 31
    · rw [if_pos h31, dif_neg (by rw [hd]; omega)]
    · rw [if_neg h31, dif_pos (by rw [hd]; omega), ha_at, hb_at]
      have e1 : next t = ⟨1 + (row t r).val / 512, by omega⟩ := Fin.ext (by show min (t.val + 1) 31 = 1 + (row t r).val / 512; rw [hd]; omega)
      have e2 : (⟨r.val - 384, by omega⟩ : Fin 128) = ⟨(row t r).val % 512 - 384, by omega⟩ := Fin.ext (by show r.val - 384 = (row t r).val % 512 - 384; rw [hm])
      rw [e1, e2]

/-- Two arrays whose sum has real entries. -/
def RealSum {S : Type} (a b : S → EReal) : Prop := ∀ i, IsReal (a i + b i)

/-- Every entry the precondition tests is a real number. -/
def Reals (c : Dev nD) : Prop :=
  (∀ i, IsReal ((m ((c : Thread nD τ).loc main_arg0) : Vec Ideal S16384x1024 .bf16) i)) ∧ (∀ i, IsReal ((m ((c : Thread nD τ).loc main_arg1) : Vec Ideal S1024x1024 .bf16) i)) ∧ (∀ i, IsReal ((m ((c : Thread nD τ).loc main_arg2) : Vec Ideal S1x1024 .f32) i))
    ∧ RealSum (m ((c : Thread nD τ).loc main_arg3) : Vec Ideal S16384x512 .f32) (m ((c : Thread nD τ).loc main_arg5) : Vec Ideal S16384x512 .f32) ∧ RealSum (m ((c : Thread nD τ).loc main_arg4) : Vec Ideal S32x128x512 .f32) (m ((c : Thread nD τ).loc main_arg6) : Vec Ideal S32x128x512 .f32)
    ∧ (∀ i, IsReal ((m ((c : Thread nD τ).loc main_arg7) : Vec Ideal S1024x512 .bf16) i)) ∧ (∀ i, IsReal ((m ((c : Thread nD τ).loc main_arg8) : Vec Ideal S1x1024 .f32) i)) ∧ (∀ i, IsReal ((m ((c : Thread nD τ).loc main_arg9) : Vec Ideal S16384x1024 .f32) i))

/-- A product of real rows is real. -/
theorem dot_real {n : Nat} {p w : Fin n → EReal} (hp : ∀ k, IsReal (p k)) (hw : ∀ k, IsReal (w k)) : IsReal (dot p w) :=
  sum fun k => mul (hp k) (hw k)

/-- The gathered gradient is real. -/
theorem kv_real (m1 : Vec Ideal S16384x512 .f32) (m2 : Vec Ideal S16384x512 .f32) (h1 : Vec Ideal S32x128x512 .f32) (h2 : Vec Ideal S32x128x512 .f32) (hm : ∀ i, IsReal (m1 i + m2 i)) (hh : ∀ i, IsReal (h1 i + h2 i)) (r : Fin 16384) (l : Fin 512) : IsReal (kv m1 m2 h1 h2 r l) := by
  unfold kv
  refine add (hm _) ?_
  split
  · exact ⟨0, rfl⟩
  · split
    · exact hh _
    · exact ⟨0, rfl⟩

/-- The inner derivative's factor, of reals. -/
theorem inner_form {x : Fin 1024 → EReal} (hx : ∀ k, IsReal (x k)) : ∃ q : ℝ, ∀ d : Fin 1024 → EReal, (∀ k, IsReal (d k)) → inner x d = (∑ j, x j * d j) * (q : EReal) := by
  obtain ⟨s, hs, h⟩ := meanSq_real hx
  have hr : scale x = (((Real.sqrt s)⁻¹ : ℝ) : EReal) := (congrArg Ideal.rsqrt h).trans (rsqrt_real hs)
  refine ⟨-(1/2) * ((Real.sqrt s)⁻¹ / s) / 1024, fun d hd => ?_⟩
  obtain ⟨a, ha⟩ := sum fun j => mul (hx j) (hd j)
  rw [Finite.inner, ha, hr, h, bits_mhalf, bits_1024, div_real _ hs.ne', ← EReal.coe_mul, ← EReal.coe_mul, div_real _ (by norm_num), ← EReal.coe_mul]
  congr 1
  ring

/-- The norm's gradient of a sum: the kernel's form is the reference's two. -/
theorem back_two {x d f : Fin 1024 → EReal} (hx : ∀ k, IsReal (x k)) (hd : ∀ k, IsReal (d k)) (hf : ∀ k, IsReal (f k)) (k : Fin 1024) :
    back x (fun k => d k + f k) k
      = f k * scale x + x k * inner x f + inner x f * x k + d k * scale x + x k * inner x d + inner x d * x k := by
  refine (norm_back hx (fun k => add (hd k) (hf k)) k).trans ?_
  obtain ⟨q, hq⟩ := inner_form hx
  rw [hq _ (fun k => add (hd k) (hf k)), hq _ hd, hq _ hf]
  obtain ⟨s, hs⟩ := scale_real hx
  choose a ha using hx
  choose b hb using hd
  choose e he using hf
  simp only [hs, ha, hb, he, ← EReal.coe_mul, ← EReal.coe_add, coe_sum]
  congr 1
  simp only [mul_add, Finset.sum_add_distrib]
  ring

/-- The result's array. -/
theorem row_result (c : Dev nD) (hr : Reals m c) : (dats m 0 c).arrAt 11 cfg0.N
    = Cert.ProjBKvBwdRefIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  obtain ⟨r, l, rfl⟩ : ∃ r l, y = ix2 r l := ⟨y 0, y 1, (ix2_eta y).symm⟩
  blk_simp
  have he : ((win0_11.blk t).view.emb (ix2 r l) : S16384x1024.Idx) = ix2 (row t r) l := by
    blk_ext [rows_o11 t, row]
  rw [he, after0_11, row_ref]
  have hs : (outsAt0 m c t.val t.isLt).1 (ix2 r l) = k0_pay10 (F := Ideal) (k0_pay3 (F := Ideal) (grid0.coords t) (iblk m c 3 t) (iblk m c 5 t) (iblk m c 4 t) (iblk m c 6 t)) (k0_pay4 (iblk m c 9 t)) (k0_pay5 (iblk m c 9 t)) (iblk m c 2 t) (iblk m c 8 t) (iblk m c 0 t) (iblk m c 1 t) (iblk m c 7 t) (iblk m c 10 t) (ix2 r l) := by
    by_cases h : t.val % 32 = 0
    · rw [outsAt0_A m c t h]; frame_out
    · rw [outsAt0_B m c t h]; frame_out
  refine hs.trans ((row_block (k0_pay3 (F := Ideal) (grid0.coords t) (iblk m c 3 t) (iblk m c 5 t) (iblk m c 4 t) (iblk m c 6 t)) (iblk m c 9 t) (iblk m c 2 t) (iblk m c 8 t) (iblk m c 0 t) (iblk m c 1 t) (iblk m c 7 t) (iblk m c 10 t) r l).trans ?_)
  simp only [p_at, w_at, x_at, g_at, gk_at, wk_at, e_at, kv_at]
  rw [back_two (fun _ => hr.2.2.2.2.2.2.2 _) (fun _ => mul (dot_real (fun _ => hr.1 _) (fun _ => hr.2.1 _)) (hr.2.2.1 _))
    (fun _ => mul (dot_real (fun _ => kv_real _ _ _ _ hr.2.2.2.1 hr.2.2.2.2.1 _ _) (fun _ => hr.2.2.2.2.2.1 _)) (hr.2.2.2.2.2.2.1 _)) l]

/-- The array of rows normed under the first gain. -/
theorem normed_result (c : Dev nD) : (dats m 0 c).arrAt 14 cfg0.N
    = Cert.ProjBKvBwdRefIdeal.Read.val_main_v98 (F := Ideal) (m ((c : Thread nD τ).loc main_arg2)) (m ((c : Thread nD τ).loc main_arg9)) := by
  refine (dats m 0 c).arrAt_eq_of_covers 14 _ (by decide +kernel) fun t hf y => ?_
  obtain ⟨r, l, rfl⟩ : ∃ r l, y = ix2 r l := ⟨y 0, y 1, (ix2_eta y).symm⟩
  blk_simp
  have he : ((win0_14.blk t).view.emb (ix2 r l) : S16384x1024.Idx) = ix2 (row t r) l := by
    blk_ext [rows_o14 t, row]
  rw [he, after0_14, normed_ref]
  have hs : (outsAt0 m c t.val t.isLt).2.2.2.1 (ix2 r l) = k0_pay6 (F := Ideal) (iblk m c 9 t) (iblk m c 2 t) (ix2 r l) := by
    by_cases h : t.val % 32 = 0
    · rw [outsAt0_A m c t h]; frame_out
    · rw [outsAt0_B m c t h]; frame_out
  refine hs.trans ((normed_block (iblk m c 9 t) (iblk m c 2 t) r l).trans ?_)
  simp only [x_at, g_at]

/-- The array of rows normed under the second gain. -/
theorem normed_kv_result (c : Dev nD) : (dats m 0 c).arrAt 15 cfg0.N
    = Cert.ProjBKvBwdRefIdeal.Read.val_main_v111 (F := Ideal) (m ((c : Thread nD τ).loc main_arg8)) (m ((c : Thread nD τ).loc main_arg9)) := by
  refine (dats m 0 c).arrAt_eq_of_covers 15 _ (by decide +kernel) fun t hf y => ?_
  obtain ⟨r, l, rfl⟩ : ∃ r l, y = ix2 r l := ⟨y 0, y 1, (ix2_eta y).symm⟩
  blk_simp
  have he : ((win0_15.blk t).view.emb (ix2 r l) : S16384x1024.Idx) = ix2 (row t r) l := by
    blk_ext [rows_o15 t, row]
  rw [he, after0_15, normed_kv_ref]
  have hs : (outsAt0 m c t.val t.isLt).2.2.2.2.1 (ix2 r l) = k0_pay7 (F := Ideal) (k0_pay5 (iblk m c 9 t)) (iblk m c 8 t) (ix2 r l) := by
    by_cases h : t.val % 32 = 0
    · rw [outsAt0_A m c t h]; frame_out
    · rw [outsAt0_B m c t h]; frame_out
  refine hs.trans ((normed_kv_block (iblk m c 9 t) (iblk m c 8 t) r l).trans ?_)
  simp only [x_at, gk_at]

/-- The gathered gradient's array. -/
theorem kv_result (c : Dev nD) : (dats m 0 c).arrAt 16 cfg0.N
    = Cert.ProjBKvBwdRefIdeal.Read.val_main_v112 (F := Ideal) (m ((c : Thread nD τ).loc main_arg3)) (m ((c : Thread nD τ).loc main_arg4)) (m ((c : Thread nD τ).loc main_arg5)) (m ((c : Thread nD τ).loc main_arg6)) := by
  refine (dats m 0 c).arrAt_eq_of_covers 16 _ (by decide +kernel) fun t hf y => ?_
  obtain ⟨r, l, rfl⟩ : ∃ r l, y = ix2 r l := ⟨y 0, y 1, (ix2_eta y).symm⟩
  blk_simp
  have he : ((win0_16.blk t).view.emb (ix2 r l) : S16384x512.Idx) = ix2 (row t r) l := by
    blk_ext [rows_o16 t, row]
  rw [he, after0_16, Cert.ProjBKvBwdRefIdeal.Read.val_main_v112_apply, kv_ref, Ideal.truncf_def]
  have hs : (outsAt0 m c t.val t.isLt).2.2.2.2.2 (ix2 r l) = k0_pay3 (F := Ideal) (grid0.coords t) (iblk m c 3 t) (iblk m c 5 t) (iblk m c 4 t) (iblk m c 6 t) (ix2 r l) := by
    by_cases h : t.val % 32 = 0
    · rw [outsAt0_A m c t h]; frame_out
    · rw [outsAt0_B m c t h]; frame_out
  exact hs.trans (kv_at m c t r l)

/-- After the last point the row of the first gain's gradient holds the sum of all points' parts. -/
theorem gain_last (c : Dev nD) (t : Fin cfg0.N) (ht : t.val + 1 = cfg0.N) (k : Fin 1024) :
    (outsAt0 m c t.val t.isLt).2.1 (ix2 0 k) = 0 + ∑ p : Fin cfg0.N, gainPart (iblk m c 0 p) (iblk m c 1 p) (iblk m c 9 p) k := by
  exact Pipeline.eq_sum_fin_of_reset_step_apply_last (fun n h k => (outsAt0 m c n h).2.1 (ix2 0 k)) 32 (fun _ => (0 : EReal)) (fun t k => gainPart (iblk m c 0 t) (iblk m c 1 t) (iblk m c 9 t) k)
    (fun t h k => by
      show (outsAt0 m c t.val t.isLt).2.1 (ix2 0 k) = _
      rw [outsAt0_A m c t h]; frame_out
      refine (gain_apply (iblk m c 0 t) (iblk m c 1 t) (iblk m c 9 t) _ k).trans ?_
      rw [zero_row])
    (fun t h k => by
      show (outsAt0 m c t.val t.isLt).2.1 (ix2 0 k) = _
      rw [outsAt0_B m c t h]; frame_out
      refine (gain_apply (iblk m c 0 t) (iblk m c 1 t) (iblk m c 9 t) _ k).trans ?_
      rfl)
    (le_of_eq N_0) t ht k

/-- The points' parts are the sum over all rows. -/
theorem gain_parts (c : Dev nD) (l : Fin 1024) : ∑ t : Fin cfg0.N, gainPart (iblk m c 0 t) (iblk m c 1 t) (iblk m c 9 t) l
    = gainSum (m ((c : Thread nD τ).loc main_arg0)) (m ((c : Thread nD τ).loc main_arg1)) (m ((c : Thread nD τ).loc main_arg9)) l := by
  unfold gainSum gainPart
  refine Fin.sum_mul_add_congr (S := cfg0.N) (n := 512) (fun t k ht => ?_) (by have : cfg0.N = 32 := N_0; rw [this])
  simp only [p_at, w_at, x_at]
  exact mul_comm _ _

/-- The first gain's gradient. -/
theorem gain_result (c : Dev nD) : (dats m 0 c).arrAt 12 cfg0.N
    = Cert.ProjBKvBwdRefIdeal.Read.val_main_v67 (F := Ideal) (m ((c : Thread nD τ).loc main_arg0)) (m ((c : Thread nD τ).loc main_arg1)) (m ((c : Thread nD τ).loc main_arg9)) := by
  refine (dats m 0 c).arrAt_eq_of_covers 12 _ (by decide +kernel) fun t hf y => ?_
  have hN : cfg0.N = 32 := N_0
  have h31 : t.val % 32 = 31 := (flush0_12 t).mp hf
  have ht : t.val + 1 = cfg0.N := by have : t.val < 32 := lt_of_lt_of_eq t.isLt N_0; rw [hN]; omega
  obtain ⟨r, l, rfl⟩ : ∃ r l, y = ix2 r l := ⟨y 0, y 1, (ix2_eta y).symm⟩
  obtain rfl : r = 0 := Subsingleton.elim _ _
  blk_simp
  have he : ((win0_12.blk t).view.emb (ix2 0 l) : S1x1024.Idx) = ix2 0 l := by
    blk_ext [rows_o12 t]
  rw [he, after0_12, gain_ref, gain_last m c t ht, zero_add]
  exact gain_parts m c l

/-- After the last point the row of the second gain's gradient holds the sum of all points' parts. -/
theorem gain_kv_last (c : Dev nD) (t : Fin cfg0.N) (ht : t.val + 1 = cfg0.N) (k : Fin 1024) :
    (outsAt0 m c t.val t.isLt).2.2.1 (ix2 0 k) = 0 + ∑ p : Fin cfg0.N, gainKvPart (k0_pay3 (F := Ideal) (grid0.coords p) (iblk m c 3 p) (iblk m c 5 p) (iblk m c 4 p) (iblk m c 6 p)) (iblk m c 7 p) (iblk m c 9 p) k := by
  exact Pipeline.eq_sum_fin_of_reset_step_apply_last (fun n h k => (outsAt0 m c n h).2.2.1 (ix2 0 k)) 32 (fun _ => (0 : EReal)) (fun t k => gainKvPart (k0_pay3 (F := Ideal) (grid0.coords t) (iblk m c 3 t) (iblk m c 5 t) (iblk m c 4 t) (iblk m c 6 t)) (iblk m c 7 t) (iblk m c 9 t) k)
    (fun t h k => by
      show (outsAt0 m c t.val t.isLt).2.2.1 (ix2 0 k) = _
      rw [outsAt0_A m c t h]; frame_out
      refine (gain_kv_apply (k0_pay3 (F := Ideal) (grid0.coords t) (iblk m c 3 t) (iblk m c 5 t) (iblk m c 4 t) (iblk m c 6 t)) (iblk m c 7 t) (iblk m c 9 t) _ k).trans ?_
      rw [zero_row_kv])
    (fun t h k => by
      show (outsAt0 m c t.val t.isLt).2.2.1 (ix2 0 k) = _
      rw [outsAt0_B m c t h]; frame_out
      refine (gain_kv_apply (k0_pay3 (F := Ideal) (grid0.coords t) (iblk m c 3 t) (iblk m c 5 t) (iblk m c 4 t) (iblk m c 6 t)) (iblk m c 7 t) (iblk m c 9 t) _ k).trans ?_
      rfl)
    (le_of_eq N_0) t ht k

/-- The points' parts are the sum over all rows. -/
theorem gain_kv_parts (c : Dev nD) (l : Fin 1024) : ∑ t : Fin cfg0.N, gainKvPart (k0_pay3 (F := Ideal) (grid0.coords t) (iblk m c 3 t) (iblk m c 5 t) (iblk m c 4 t) (iblk m c 6 t)) (iblk m c 7 t) (iblk m c 9 t) l
    = gainKvSum (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) l := by
  unfold gainKvSum gainKvPart
  refine Fin.sum_mul_add_congr (S := cfg0.N) (n := 512) (fun t k ht => ?_) (by have : cfg0.N = 32 := N_0; rw [this])
  simp only [kv_at, wk_at, x_at]
  exact mul_comm _ _

/-- The second gain's gradient. -/
theorem gain_kv_result (c : Dev nD) : (dats m 0 c).arrAt 13 cfg0.N
    = Cert.ProjBKvBwdRefIdeal.Read.val_main_v48 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) := by
  refine (dats m 0 c).arrAt_eq_of_covers 13 _ (by decide +kernel) fun t hf y => ?_
  have hN : cfg0.N = 32 := N_0
  have h31 : t.val % 32 = 31 := (flush0_13 t).mp hf
  have ht : t.val + 1 = cfg0.N := by have : t.val < 32 := lt_of_lt_of_eq t.isLt N_0; rw [hN]; omega
  obtain ⟨r, l, rfl⟩ : ∃ r l, y = ix2 r l := ⟨y 0, y 1, (ix2_eta y).symm⟩
  obtain rfl : r = 0 := Subsingleton.elim _ _
  blk_simp
  have he : ((win0_13.blk t).view.emb (ix2 0 l) : S1x1024.Idx) = ix2 0 l := by
    blk_ext [rows_o13 t]
  rw [he, after0_13, gain_kv_ref, gain_kv_last m c t ht, zero_add]
  exact gain_kv_parts m c l

/-- The scalar shape has one index. -/
instance : Subsingleton Cert.Pre_finite11.S_.Idx := ⟨fun a b => funext fun d => d.elim0⟩

/-- The precondition says that the entries are real. -/
theorem reals (h : Cert.Pre_ProjBKvBwdIdeal_finite11 m) (c : Dev nD) : Reals m c := by
  have e := congrFun (h c) (fun d => d.elim0)
  unfold Cert.Pre_finite11.fn Cert.Pre_finite11.fn_part1 Cert.Pre_finite11.fn_part2 at e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e0, e1⟩ := both e
  exact ⟨all_of_test _ _ _ _ _ _ (fun i => rfl) e0, all_of_test _ _ _ _ _ _ (fun i => rfl) e1,
    all_of_test _ _ _ _ _ _ (fun i => rfl) e2, all_of_test _ _ _ _ _ _ (fun i => rfl) e3,
    all_of_test _ _ _ _ _ _ (fun i => rfl) e4, all_of_test _ _ _ _ _ _ (fun i => rfl) e5, all_of_test _ _ _ _ _ _ (fun i => rfl) e6, all_of_test _ _ _ _ _ _ (fun i => rfl) e7⟩

/-- The kernel's run ends at the reference's six arrays, its arguments kept. -/
theorem kernel_run (hp : Cert.Pre_ProjBKvBwdIdeal_finite11 m) (ρ : Dev nD → PrngReg) :
    θ_run defs (onTc (τ := τ) (main (F := Ideal))) ⟨m, fun _ => 0, ρ⟩ fun r => ∀ c : Dev nD,
      r.2.mem ((c : Thread nD τ).loc main_v0_0) = Cert.ProjBKvBwdRefIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v0_1) = Cert.ProjBKvBwdRefIdeal.Read.val_main_v67 (F := Ideal) (m ((c : Thread nD τ).loc main_arg0)) (m ((c : Thread nD τ).loc main_arg1)) (m ((c : Thread nD τ).loc main_arg9))
      ∧ r.2.mem ((c : Thread nD τ).loc main_v0_2) = Cert.ProjBKvBwdRefIdeal.Read.val_main_v48 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9))
      ∧ r.2.mem ((c : Thread nD τ).loc main_v0_3) = Cert.ProjBKvBwdRefIdeal.Read.val_main_v98 (F := Ideal) (m ((c : Thread nD τ).loc main_arg2)) (m ((c : Thread nD τ).loc main_arg9))
      ∧ r.2.mem ((c : Thread nD τ).loc main_v0_4) = Cert.ProjBKvBwdRefIdeal.Read.val_main_v111 (F := Ideal) (m ((c : Thread nD τ).loc main_arg8)) (m ((c : Thread nD τ).loc main_arg9))
      ∧ r.2.mem ((c : Thread nD τ).loc main_v0_5) = Cert.ProjBKvBwdRefIdeal.Read.val_main_v112 (F := Ideal) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (row_result m c (reals m hp c)), (h c).2.1.trans (gain_result m c),
    (h c).2.2.1.trans (gain_kv_result m c), (h c).2.2.2.1.trans (normed_result m c), (h c).2.2.2.2.1.trans (normed_kv_result m c), (h c).2.2.2.2.2.1.trans (kv_result m c), (h c).2.2.2.2.2.2⟩) (Cert.ProjBKvBwdIdeal.Value.run_blocks m ρ)

/-- From memories agreeing on the arguments, with real entries, kernel and reference both run and end with equal results. -/
theorem algebraic : Cert.algebraic_ProjBKvBwdIdeal_ProjBKvBwdRefIdeal_pre_finite11 := by
  intro m ρ m' ρ' hp hm
  refine ⟨_, _, _, _, _, _, kernel_run m hp ρ, (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.ProjBKvBwdRefIdeal.Value.run m' ρ')⟩
  · refine (Cert.ProjBKvBwdRefIdeal.Read.val_main_v85_eq m' c).trans ?_
    rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2]
  · rw [(hm c).1, (hm c).2.1, (hm c).2.2.2.2.2.2.2.2.2.1]
    exact Cert.ProjBKvBwdRefIdeal.Read.val_main_v67_eq _ _ _
  · rw [(hm c).2.2.2.1, (hm c).2.2.2.2.1, (hm c).2.2.2.2.2.1, (hm c).2.2.2.2.2.2.1, (hm c).2.2.2.2.2.2.2.1, (hm c).2.2.2.2.2.2.2.2.2.1]
    exact Cert.ProjBKvBwdRefIdeal.Read.val_main_v48_eq _ _ _ _ _ _
  · rw [(hm c).2.2.1, (hm c).2.2.2.2.2.2.2.2.2.1]
    exact Cert.ProjBKvBwdRefIdeal.Read.val_main_v98_eq _ _
  · rw [(hm c).2.2.2.2.2.2.2.2.1, (hm c).2.2.2.2.2.2.2.2.2.1]
    exact Cert.ProjBKvBwdRefIdeal.Read.val_main_v111_eq _ _
  · rw [(hm c).2.2.2.1, (hm c).2.2.2.2.1, (hm c).2.2.2.2.2.1, (hm c).2.2.2.2.2.2.1]
    exact Cert.ProjBKvBwdRefIdeal.Read.val_main_v112_eq _ _ _ _

end Cert.ProjBKvBwdProof

end
-- ==== Proof.FfnLoss.lean ====
/- The last feed-forward block with the loss: the kernel walks 512 rows at a time, splits the hidden width in two parts, and goes
   on from the finished row to its part of the loss and of the gradients of the loss. -/
module

public import proofs.«01_k».proof.Proof.Gen.FfnLossIdeal.Value
public import proofs.«01_k».proof.Proof.Gen.FfnLossRefIdeal.Read
public import Idealize.ShloMosaic.Lib.Pipeline.ValueKit.Tiles
public import Idealize.ShloMosaic.Lib.Pipeline.ValueKit.Geometry
public import Idealize.ShloMosaic.Lib.Pointwise
public import Idealize.ShloMosaic.Lib.Pipeline.ReadBack
public import proofs.«01_k».proof.Proof.Gen.Pre_finite16
public import proofs.«01_k».proof.Proof.Finite
public import proofs.«01_k».proof.Defs

@[expose] public section

set_option maxRecDepth 16384

noncomputable section

namespace Cert.FfnLossProof

open Cert.FfnLossIdeal Cert.FfnLossIdeal.Gen Idealize.ShloMosaic Idealize.ShloMosaic.TcCoe Idealize.SL.Sem
open Idealize.ShloMosaic.Pipeline (Dat)
open Cert.Rows Cert.Finite

variable (m : (ℓ : Loc nD τ sig) → Buf (Elt Ideal) ℓ)

/-- The finished row: what came in plus the gated hidden values times the last matrix. -/
def mid (x g : Fin 1024 → EReal) (w1 w2 w3 : Fin 2816 → Fin 1024 → EReal) (k : Fin 1024) : EReal :=
  x k + ∑ j, gated (entry (normed x g) (w1 j)) (entry (normed x g) (w2 j)) * w3 j k

/-- How far the normed row lies from its target. -/
def off (y g t : Fin 1024 → EReal) (k : Fin 1024) : EReal := normed y g k - t k

/-- The loss's gradient in the normed row. -/
def pull (y g t : Fin 1024 → EReal) (k : Fin 1024) : EReal := off y g t k * Ideal.ofBits FTy.f32 981467136#32

/-- What the kernel stores of the norm's gradient. -/
def back (x d : Fin 1024 → EReal) (k : Fin 1024) : EReal :=
  scale x * (d k - x k * scale x * Ideal.div (∑ j, d j * (x j * scale x)) (Ideal.ofBits FTy.f32 1149239296#32))

/-- The sum of squares of a row's distances. -/
def squares (y g t : Fin 1024 → EReal) : EReal := ∑ k, off y g t k * off y g t k

/-- The kernel's normed rows. -/
theorem normed_block (x : Vec Ideal S512x1024 .f32) (g : Vec Ideal S1x1024 .f32) (r : Fin 512) (k : Fin 1024) :
    k0_pay1 (F := Ideal) x g (ix2 r k) = normed (fun k => x (ix2 r k)) (fun k => g (ix2 0 k)) k := by
  pointwise [k0_pay1]; rfl

/-- First part of the first product. -/
theorem gate_low (x : Vec Ideal S512x1024 .f32) (g : Vec Ideal S1x1024 .f32) (w : Vec Ideal S1536x1024 .bf16) (r : Fin 512) (k : Fin 1536) :
    k0_pay4 (F := Ideal) x g w (ix2 r k) = entry (normed (fun k => x (ix2 r k)) (fun k => g (ix2 0 k))) (fun l => w (ix2 k l)) := by
  pointwise [k0_pay4, k0_pay2]; simp only [normed_block]; rfl

/-- Second part of the first product. -/
theorem gate_high (h : Vec Ideal S512x1024 .bf16) (w : Vec Ideal S1280x1024 .bf16) (r : Fin 512) (k : Fin 1280) :
    k0_pay9 (F := Ideal) h w (ix2 r k) = entry (fun l => h (ix2 r l)) (fun l => w (ix2 k l)) := by
  pointwise [k0_pay9, k0_pay7]; rfl

/-- First part of the second product. -/
theorem up_low (x : Vec Ideal S512x1024 .f32) (g : Vec Ideal S1x1024 .f32) (w : Vec Ideal S1536x1024 .bf16) (r : Fin 512) (k : Fin 1536) :
    k0_pay5 (F := Ideal) x g w (ix2 r k) = entry (normed (fun k => x (ix2 r k)) (fun k => g (ix2 0 k))) (fun l => w (ix2 k l)) := by
  pointwise [k0_pay5, k0_pay3]; simp only [normed_block]; rfl

/-- Second part of the second product. -/
theorem up_high (h : Vec Ideal S512x1024 .bf16) (w : Vec Ideal S1280x1024 .bf16) (r : Fin 512) (k : Fin 1280) :
    k0_pay10 (F := Ideal) h w (ix2 r k) = entry (fun l => h (ix2 r l)) (fun l => w (ix2 k l)) := by
  pointwise [k0_pay10, k0_pay8]; rfl

/-- The gated values of the first part. -/
theorem act_low (x : Vec Ideal S512x1024 .f32) (g : Vec Ideal S1x1024 .f32) (w1 w2 : Vec Ideal S1536x1024 .bf16) (r : Fin 512) (k : Fin 1536) :
    k0_pay6 (F := Ideal) x g w1 w2 (ix2 r k)
      = gated (entry (normed (fun k => x (ix2 r k)) (fun k => g (ix2 0 k))) (fun l => w1 (ix2 k l)))
          (entry (normed (fun k => x (ix2 r k)) (fun k => g (ix2 0 k))) (fun l => w2 (ix2 k l))) := by
  pointwise [k0_pay6, k0_pay2, k0_pay3]; simp only [normed_block, zero_minus]; rfl

/-- The stored row: what came in plus both parts of the last product. -/
theorem row_stored (x : Vec Ideal S512x1024 .f32) (h : Vec Ideal S512x1024 .bf16) (a : Vec Ideal S512x1536 .bf16)
    (d1 : Vec Ideal S1536x1024 .bf16) (w1 w2 d2 : Vec Ideal S1280x1024 .bf16) (r : Fin 512) (k : Fin 1024) :
    k0_pay11 (F := Ideal) x h a d1 (constant (F := Ideal) S512x1024 .f32 0x00000000#32) w1 w2 d2 (ix2 r k)
      = x (ix2 r k) + ((∑ j, a (ix2 r j) * d1 (ix2 j k))
        + ∑ j, gated (entry (fun l => h (ix2 r l)) (fun l => w1 (ix2 j l))) (entry (fun l => h (ix2 r l)) (fun l => w2 (ix2 j l))) * d2 (ix2 j k)) := by
  pointwise [k0_pay11, k0_pay7, k0_pay8]; simp only [zero_minus, add_assoc]; rfl

/-- The reference's normed rows. -/
theorem normed_ref (x : Vec Ideal Cert.FfnLossRefIdeal.S16384x1024 .f32) (g : Vec Ideal Cert.FfnLossRefIdeal.S1x1024 .f32) (r : Fin 16384) (k : Fin 1024) :
    Cert.FfnLossRefIdeal.Read.val_main_v11 (F := Ideal) x g (ix2 r k) = normed (fun k => x (ix2 r k)) (fun k => g (ix2 0 k)) k := by
  pointwise [Cert.FfnLossRefIdeal.Read.val_main_v0, Cert.FfnLossRefIdeal.Read.val_main_v1, Cert.FfnLossRefIdeal.Read.val_main_v2, Cert.FfnLossRefIdeal.Read.val_main_v3, Cert.FfnLossRefIdeal.Read.val_main_v4, Cert.FfnLossRefIdeal.Read.val_main_v5, Cert.FfnLossRefIdeal.Read.val_main_v6, Cert.FfnLossRefIdeal.Read.val_main_v7, Cert.FfnLossRefIdeal.Read.val_main_v8, Cert.FfnLossRefIdeal.Read.val_main_v9, Cert.FfnLossRefIdeal.Read.val_main_v10, Cert.FfnLossRefIdeal.Read.val_main_v11, Cert.FfnLossRefIdeal.Read.val_main_cst, Cert.FfnLossRefIdeal.Read.val_main_cst_0, Cert.FfnLossRefIdeal.Read.val_main_cst_1]; rfl

/-- The reference's first product. -/
theorem gate_ref (x : Vec Ideal Cert.FfnLossRefIdeal.S16384x1024 .f32) (g : Vec Ideal Cert.FfnLossRefIdeal.S1x1024 .f32) (w : Vec Ideal Cert.FfnLossRefIdeal.S2816x1024 .bf16) (r : Fin 16384) (j : Fin 2816) :
    Cert.FfnLossRefIdeal.Read.val_main_v14 (F := Ideal) x g w (ix2 r j) = entry (normed (fun k => x (ix2 r k)) (fun k => g (ix2 0 k))) (fun l => w (ix2 j l)) := by
  pointwise [Cert.FfnLossRefIdeal.Read.val_main_v14, Cert.FfnLossRefIdeal.Read.val_main_v13, Cert.FfnLossRefIdeal.Read.val_main_v12]; simp only [normed_ref]; rfl

/-- The reference's second product. -/
theorem up_ref (x : Vec Ideal Cert.FfnLossRefIdeal.S16384x1024 .f32) (g : Vec Ideal Cert.FfnLossRefIdeal.S1x1024 .f32) (w : Vec Ideal Cert.FfnLossRefIdeal.S2816x1024 .bf16) (r : Fin 16384) (j : Fin 2816) :
    Cert.FfnLossRefIdeal.Read.val_main_v17 (F := Ideal) x g w (ix2 r j) = entry (normed (fun k => x (ix2 r k)) (fun k => g (ix2 0 k))) (fun l => w (ix2 j l)) := by
  pointwise [Cert.FfnLossRefIdeal.Read.val_main_v17, Cert.FfnLossRefIdeal.Read.val_main_v16, Cert.FfnLossRefIdeal.Read.val_main_v15]; simp only [normed_ref]; rfl

/-- The first 1536 rows of a matrix. -/
def lowRows (w : Vec Ideal S2816x1024 .bf16) : Vec Ideal S1536x1024 .bf16 := View.ld (Val := Elt Ideal) w (Rect.unit (s := S2816x1024) ![0, 0] ![1536, 1024] inb_S2816x1024_S1536x1024_0_0)
/-- The other 1280 rows of a matrix. -/
def highRows (w : Vec Ideal S2816x1024 .bf16) : Vec Ideal S1280x1024 .bf16 := View.ld (Val := Elt Ideal) w (Rect.unit (s := S2816x1024) ![1536, 0] ![1280, 1024] inb_S2816x1024_S1280x1024_1536_0)
/-- An entry of the first 1536 rows. -/
theorem low_at (w : Vec Ideal S2816x1024 .bf16) (j : Fin 1536) (l : Fin 1024) : lowRows w (ix2 j l) = w (ix2 (low j) l) :=
  View.ld_unit_apply_of w _ _ _ _ _ (fun a => by match a with | ⟨0, _⟩ => simp [low] <;> rfl | ⟨1, _⟩ => simp)
/-- An entry of the other 1280 rows. -/
theorem high_at (w : Vec Ideal S2816x1024 .bf16) (j : Fin 1280) (l : Fin 1024) : highRows w (ix2 j l) = w (ix2 (high j) l) :=
  View.ld_unit_apply_of w _ _ _ _ _ (fun a => by match a with | ⟨0, _⟩ => simp [high] <;> rfl | ⟨1, _⟩ => simp)

/-- The gate entry stored in the first columns, from the whole matrix. -/
theorem gate_low_read (x : Vec Ideal S512x1024 .f32) (g : Vec Ideal S1x1024 .f32) (w : Vec Ideal S2816x1024 .bf16) (r : Fin 512) (j : Fin 1536) :
    k0_pay4 (F := Ideal) x g (lowRows w) (ix2 r j) = entry (normed (fun k => x (ix2 r k)) (fun k => g (ix2 0 k))) (fun l => w (ix2 (low j) l)) := by
  rw [gate_low]; simp only [low_at]
/-- The gate entry stored in the other columns, from the whole matrix. -/
theorem gate_high_read (x : Vec Ideal S512x1024 .f32) (g : Vec Ideal S1x1024 .f32) (w : Vec Ideal S2816x1024 .bf16) (r : Fin 512) (j : Fin 1280) :
    k0_pay9 (F := Ideal) (k0_pay1 x g) (highRows w) (ix2 r j) = entry (normed (fun k => x (ix2 r k)) (fun k => g (ix2 0 k))) (fun l => w (ix2 (high j) l)) := by
  rw [gate_high]; simp only [high_at, normed_block]
/-- The up entry stored in the first columns, from the whole matrix. -/
theorem up_low_read (x : Vec Ideal S512x1024 .f32) (g : Vec Ideal S1x1024 .f32) (w : Vec Ideal S2816x1024 .bf16) (r : Fin 512) (j : Fin 1536) :
    k0_pay5 (F := Ideal) x g (lowRows w) (ix2 r j) = entry (normed (fun k => x (ix2 r k)) (fun k => g (ix2 0 k))) (fun l => w (ix2 (low j) l)) := by
  rw [up_low]; simp only [low_at]
/-- The up entry stored in the other columns, from the whole matrix. -/
theorem up_high_read (x : Vec Ideal S512x1024 .f32) (g : Vec Ideal S1x1024 .f32) (w : Vec Ideal S2816x1024 .bf16) (r : Fin 512) (j : Fin 1280) :
    k0_pay10 (F := Ideal) (k0_pay1 x g) (highRows w) (ix2 r j) = entry (normed (fun k => x (ix2 r k)) (fun k => g (ix2 0 k))) (fun l => w (ix2 (high j) l)) := by
  rw [up_high]; simp only [high_at, normed_block]
/-- The stored row, from the whole matrices. -/
theorem row_read (x : Vec Ideal S512x1024 .f32) (g : Vec Ideal S1x1024 .f32) (w1 w2 w3 : Vec Ideal S2816x1024 .bf16) (r : Fin 512) (k : Fin 1024) :
    k0_pay11 (F := Ideal) x (k0_pay1 x g) (k0_pay6 x g (lowRows w1) (lowRows w2)) (lowRows w3) (constant (F := Ideal) S512x1024 .f32 0x00000000#32)
        (highRows w1) (highRows w2) (highRows w3) (ix2 r k)
      = x (ix2 r k) + ∑ j : Fin 2816, gated (entry (normed (fun k => x (ix2 r k)) (fun k => g (ix2 0 k))) (fun l => w1 (ix2 j l))) (entry (normed (fun k => x (ix2 r k)) (fun k => g (ix2 0 k))) (fun l => w2 (ix2 j l))) * w3 (ix2 j k) := by
  rw [row_stored, sum_cut]; simp only [act_low, normed_block, low_at, high_at]

/-- The two column ranges of a stored block hold every column. -/
theorem columns (w1 : Vec Ideal S512x1280 .bf16) (w2 : Vec Ideal S512x1536 .bf16) (y : S512x2816.Idx) :
    ∃ p ∈ ([⟨Rect.unit ![0, 1536] ![512, 1280] inb_S512x2816_S512x1280_0_1536, w1⟩,
        ⟨Rect.unit ![0, 0] ![512, 1536] inb_S512x2816_S512x1536_0_0, w2⟩] : List (View.Piece (Elt Ideal) S512x2816 .bf16)), y ∈ p.1.set := by
  have h0 : (y 0).val < 512 := (y 0).isLt
  have h1 : (y 1).val < 2816 := (y 1).isLt
  by_cases h : (y 1).val < 1536
  · refine ⟨_, List.mem_cons_of_mem _ List.mem_cons_self, ?_⟩
    show y ∈ (Rect.unit (s := S512x2816) ![0, 0] ![512, 1536] inb_S512x2816_S512x1536_0_0).set
    exact Rect.mem_set_unit.mpr (fun a => by match a with | ⟨0, _⟩ => exact ⟨Nat.zero_le _, by simpa using h0⟩ | ⟨1, _⟩ => exact ⟨Nat.zero_le _, by simpa using h⟩)
  · refine ⟨_, List.mem_cons_self, ?_⟩
    show y ∈ (Rect.unit (s := S512x2816) ![0, 1536] ![512, 1280] inb_S512x2816_S512x1280_0_1536).set
    exact Rect.mem_set_unit.mpr (fun a => by match a with | ⟨0, _⟩ => exact ⟨Nat.zero_le _, by simpa using h0⟩ | ⟨1, _⟩ => exact ⟨Nat.le_of_not_lt h, h1⟩)

/-- The scale of a finished row, in the kernel. -/
theorem scale_block (x0 : Vec Ideal S512x1024 .f32) (x14 : FVec Ideal S512x1024 .bf16) (x32 : FVec Ideal S512x1536 .bf16) (x33 : Vec Ideal S1536x1024 .bf16) (z : FVec Ideal S512x1024 .f32) (x36 x38 x54 : Vec Ideal S1280x1024 .bf16) (r : Fin 512) :
    k0_pay12 (F := Ideal) x0 x14 x32 x33 z x36 x38 x54 (ix2 r 0) = scale (fun k => k0_pay11 (F := Ideal) x0 x14 x32 x33 z x36 x38 x54 (ix2 r k)) := by
  unfold k0_pay12; generalize k0_pay11 (F := Ideal) x0 x14 x32 x33 z x36 x38 x54 = y; pointwise []; rfl

/-- The finished row before the gain, in the kernel. -/
theorem scaled_block (x0 : Vec Ideal S512x1024 .f32) (x14 : FVec Ideal S512x1024 .bf16) (x32 : FVec Ideal S512x1536 .bf16) (x33 : Vec Ideal S1536x1024 .bf16) (z : FVec Ideal S512x1024 .f32) (x36 x38 x54 : Vec Ideal S1280x1024 .bf16) (r : Fin 512) (k : Fin 1024) :
    k0_pay13 (F := Ideal) x0 x14 x32 x33 z x36 x38 x54 (ix2 r k) = k0_pay11 (F := Ideal) x0 x14 x32 x33 z x36 x38 x54 (ix2 r k) * scale (fun k => k0_pay11 (F := Ideal) x0 x14 x32 x33 z x36 x38 x54 (ix2 r k)) := by
  rw [← scale_block]; unfold k0_pay13; generalize k0_pay11 (F := Ideal) x0 x14 x32 x33 z x36 x38 x54 = y; generalize k0_pay12 (F := Ideal) x0 x14 x32 x33 z x36 x38 x54 = s; pointwise []

/-- The normed finished row, in the kernel. -/
theorem last_block (x0 : Vec Ideal S512x1024 .f32) (x14 : FVec Ideal S512x1024 .bf16) (x32 : FVec Ideal S512x1536 .bf16) (x33 : Vec Ideal S1536x1024 .bf16) (z : FVec Ideal S512x1024 .f32) (x36 x38 x54 : Vec Ideal S1280x1024 .bf16) (g : Vec Ideal S1x1024 .f32) (r : Fin 512) (k : Fin 1024) :
    k0_pay14 (F := Ideal) x0 x14 x32 x33 z x36 x38 x54 g (ix2 r k) = normed (fun k => k0_pay11 (F := Ideal) x0 x14 x32 x33 z x36 x38 x54 (ix2 r k)) (fun k => g (ix2 0 k)) k := by
  unfold normed; rw [← scaled_block]; unfold k0_pay14; generalize k0_pay13 (F := Ideal) x0 x14 x32 x33 z x36 x38 x54 = y; pointwise []

/-- The stored gradient of the finished row, from the rows the kernel holds. -/
theorem dx_step (s : FVec Ideal S512x1 .f32) (y : FVec Ideal S512x1024 .f32) (g : Vec Ideal S1x1024 .f32) (n : FVec Ideal S512x1024 .f32) (t : Vec Ideal S512x1024 .f32) (r : Fin 512) (k : Fin 1024) :
    k0_pay17 (F := Ideal) s y g n t (ix2 r k) = s (ix2 r 0) * ((n (ix2 r k) - t (ix2 r k)) * Ideal.ofBits FTy.f32 981467136#32 * g (ix2 0 k)
      - y (ix2 r k) * Ideal.div (∑ j, (n (ix2 r j) - t (ix2 r j)) * Ideal.ofBits FTy.f32 981467136#32 * g (ix2 0 j) * y (ix2 r j)) (Ideal.ofBits FTy.f32 1149239296#32)) := by
  pointwise [k0_pay17, k0_pay16, k0_pay15]

/-- The zero row stored at the first point. -/
theorem zero_row (k : Fin 1024) : k0_pay18 (F := Ideal) (ix2 0 k) = 0 := by
  pointwise [k0_pay18]

/-- The zero block stored at the first point. -/
theorem zero_block (a : Fin 8) (b : Fin 128) : k0_pay19 (F := Ideal) (ix2 a b) = 0 := by
  pointwise [k0_pay19]

/-- One point's step of the gain's gradient. -/
theorem gain_step (y n : FVec Ideal S512x1024 .f32) (t : Vec Ideal S512x1024 .f32) (o : Vec Ideal S1x1024 .f32) (k : Fin 1024) :
    k0_pay20 (F := Ideal) y n t o (ix2 0 k) = o (ix2 0 k) + ∑ r, (n (ix2 r k) - t (ix2 r k)) * Ideal.ofBits FTy.f32 981467136#32 * y (ix2 r k) := by
  pointwise [k0_pay20, k0_pay16, k0_pay15]

/-- One point's step of the loss. -/
theorem loss_step (n : FVec Ideal S512x1024 .f32) (t : Vec Ideal S512x1024 .f32) (o : Vec Ideal S8x128 .f32) (a : Fin 8) (b : Fin 128) :
    k0_pay21 (F := Ideal) n t o (ix2 a b) = o (ix2 a b) + (∑ r, ∑ k, (n (ix2 r k) - t (ix2 r k)) * (n (ix2 r k) - t (ix2 r k))) * Ideal.ofBits FTy.f32 973078528#32 := by
  pointwise [k0_pay21, k0_pay15]

/-- The kernel's block of finished rows. -/
def midB (x : Vec Ideal S512x1024 .f32) (g : Vec Ideal S1x1024 .f32) (w1 w2 w3 : Vec Ideal S2816x1024 .bf16) : FVec Ideal S512x1024 .f32 := k0_pay11 (F := Ideal) x (k0_pay1 x g) (k0_pay6 x g (lowRows w1) (lowRows w2)) (lowRows w3) (constant (F := Ideal) S512x1024 .f32 0x00000000#32) (highRows w1) (highRows w2) (highRows w3)
/-- The kernel's block of scales. -/
def scaleB (x : Vec Ideal S512x1024 .f32) (g : Vec Ideal S1x1024 .f32) (w1 w2 w3 : Vec Ideal S2816x1024 .bf16) : FVec Ideal S512x1 .f32 := k0_pay12 (F := Ideal) x (k0_pay1 x g) (k0_pay6 x g (lowRows w1) (lowRows w2)) (lowRows w3) (constant (F := Ideal) S512x1024 .f32 0x00000000#32) (highRows w1) (highRows w2) (highRows w3)
/-- The kernel's block of finished rows before the gain. -/
def scaledB (x : Vec Ideal S512x1024 .f32) (g : Vec Ideal S1x1024 .f32) (w1 w2 w3 : Vec Ideal S2816x1024 .bf16) : FVec Ideal S512x1024 .f32 := k0_pay13 (F := Ideal) x (k0_pay1 x g) (k0_pay6 x g (lowRows w1) (lowRows w2)) (lowRows w3) (constant (F := Ideal) S512x1024 .f32 0x00000000#32) (highRows w1) (highRows w2) (highRows w3)
/-- The kernel's block of normed finished rows. -/
def lastB (x : Vec Ideal S512x1024 .f32) (g : Vec Ideal S1x1024 .f32) (w1 w2 w3 : Vec Ideal S2816x1024 .bf16) (gf : Vec Ideal S1x1024 .f32) : FVec Ideal S512x1024 .f32 := k0_pay14 (F := Ideal) x (k0_pay1 x g) (k0_pay6 x g (lowRows w1) (lowRows w2)) (lowRows w3) (constant (F := Ideal) S512x1024 .f32 0x00000000#32) (highRows w1) (highRows w2) (highRows w3) gf

/-- A finished row, in the kernel. -/
theorem midB_at (x : Vec Ideal S512x1024 .f32) (g : Vec Ideal S1x1024 .f32) (w1 w2 w3 : Vec Ideal S2816x1024 .bf16) (r : Fin 512) (k : Fin 1024) :
    midB x g w1 w2 w3 (ix2 r k) = mid (fun k => x (ix2 r k)) (fun k => g (ix2 0 k)) (fun j l => w1 (ix2 j l)) (fun j l => w2 (ix2 j l)) (fun j l => w3 (ix2 j l)) k := row_read x g w1 w2 w3 r k
/-- Its scale. -/
theorem scaleB_at (x : Vec Ideal S512x1024 .f32) (g : Vec Ideal S1x1024 .f32) (w1 w2 w3 : Vec Ideal S2816x1024 .bf16) (r : Fin 512) :
    scaleB x g w1 w2 w3 (ix2 r 0) = scale (mid (fun k => x (ix2 r k)) (fun k => g (ix2 0 k)) (fun j l => w1 (ix2 j l)) (fun j l => w2 (ix2 j l)) (fun j l => w3 (ix2 j l))) :=
  (scale_block _ _ _ _ _ _ _ _ r).trans (congrArg scale (funext fun k => midB_at x g w1 w2 w3 r k))
/-- It times its scale. -/
theorem scaledB_at (x : Vec Ideal S512x1024 .f32) (g : Vec Ideal S1x1024 .f32) (w1 w2 w3 : Vec Ideal S2816x1024 .bf16) (r : Fin 512) (k : Fin 1024) :
    scaledB x g w1 w2 w3 (ix2 r k) = mid (fun k => x (ix2 r k)) (fun k => g (ix2 0 k)) (fun j l => w1 (ix2 j l)) (fun j l => w2 (ix2 j l)) (fun j l => w3 (ix2 j l)) k * scale (mid (fun k => x (ix2 r k)) (fun k => g (ix2 0 k)) (fun j l => w1 (ix2 j l)) (fun j l => w2 (ix2 j l)) (fun j l => w3 (ix2 j l))) :=
  (scaled_block _ _ _ _ _ _ _ _ r k).trans (congrArg₂ (· * ·) (midB_at x g w1 w2 w3 r k) (congrArg scale (funext fun k => midB_at x g w1 w2 w3 r k)))
/-- It normed. -/
theorem lastB_at (x : Vec Ideal S512x1024 .f32) (g : Vec Ideal S1x1024 .f32) (w1 w2 w3 : Vec Ideal S2816x1024 .bf16) (gf : Vec Ideal S1x1024 .f32) (r : Fin 512) (k : Fin 1024) :
    lastB x g w1 w2 w3 gf (ix2 r k) = normed (mid (fun k => x (ix2 r k)) (fun k => g (ix2 0 k)) (fun j l => w1 (ix2 j l)) (fun j l => w2 (ix2 j l)) (fun j l => w3 (ix2 j l))) (fun k => gf (ix2 0 k)) k :=
  (last_block _ _ _ _ _ _ _ _ gf r k).trans (congrArg (fun y => normed y _ k) (funext fun k => midB_at x g w1 w2 w3 r k))

/-- The stored gradient of the finished row. -/
theorem dx_block (x : Vec Ideal S512x1024 .f32) (g : Vec Ideal S1x1024 .f32) (w1 w2 w3 : Vec Ideal S2816x1024 .bf16) (gf : Vec Ideal S1x1024 .f32) (t : Vec Ideal S512x1024 .f32) (r : Fin 512) (k : Fin 1024) :
    k0_pay17 (F := Ideal) (scaleB x g w1 w2 w3) (scaledB x g w1 w2 w3) gf (lastB x g w1 w2 w3 gf) t (ix2 r k)
      = back (mid (fun k => x (ix2 r k)) (fun k => g (ix2 0 k)) (fun j l => w1 (ix2 j l)) (fun j l => w2 (ix2 j l)) (fun j l => w3 (ix2 j l))) (fun k => pull (mid (fun k => x (ix2 r k)) (fun k => g (ix2 0 k)) (fun j l => w1 (ix2 j l)) (fun j l => w2 (ix2 j l)) (fun j l => w3 (ix2 j l))) (fun k => gf (ix2 0 k)) (fun k => t (ix2 r k)) k * gf (ix2 0 k)) k := by
  rw [dx_step]; simp only [scaleB_at, scaledB_at, lastB_at]; rfl

/-- What one point adds to the gain's gradient, from its blocks. -/
def gainPart (x : Vec Ideal S512x1024 .f32) (g : Vec Ideal S1x1024 .f32) (w1 w2 w3 : Vec Ideal S2816x1024 .bf16) (gf : Vec Ideal S1x1024 .f32) (t : Vec Ideal S512x1024 .f32) (k : Fin 1024) : EReal :=
  ∑ r, pull (mid (fun k => x (ix2 r k)) (fun k => g (ix2 0 k)) (fun j l => w1 (ix2 j l)) (fun j l => w2 (ix2 j l)) (fun j l => w3 (ix2 j l))) (fun k => gf (ix2 0 k)) (fun k => t (ix2 r k)) k * (mid (fun k => x (ix2 r k)) (fun k => g (ix2 0 k)) (fun j l => w1 (ix2 j l)) (fun j l => w2 (ix2 j l)) (fun j l => w3 (ix2 j l)) k * scale (mid (fun k => x (ix2 r k)) (fun k => g (ix2 0 k)) (fun j l => w1 (ix2 j l)) (fun j l => w2 (ix2 j l)) (fun j l => w3 (ix2 j l))))

/-- One point's step of the gain's gradient, from its blocks. -/
theorem gain_apply (x : Vec Ideal S512x1024 .f32) (g : Vec Ideal S1x1024 .f32) (w1 w2 w3 : Vec Ideal S2816x1024 .bf16) (gf : Vec Ideal S1x1024 .f32) (t : Vec Ideal S512x1024 .f32) (o : Vec Ideal S1x1024 .f32) (k : Fin 1024) :
    k0_pay20 (F := Ideal) (scaledB x g w1 w2 w3) (lastB x g w1 w2 w3 gf) t o (ix2 0 k) = o (ix2 0 k) + gainPart x g w1 w2 w3 gf t k := by
  rw [gain_step]; simp only [scaledB_at, lastB_at]; rfl

/-- What one point adds to the loss, from its blocks. -/
def lossPart (x : Vec Ideal S512x1024 .f32) (g : Vec Ideal S1x1024 .f32) (w1 w2 w3 : Vec Ideal S2816x1024 .bf16) (gf : Vec Ideal S1x1024 .f32) (t : Vec Ideal S512x1024 .f32) : EReal :=
  (∑ r, squares (mid (fun k => x (ix2 r k)) (fun k => g (ix2 0 k)) (fun j l => w1 (ix2 j l)) (fun j l => w2 (ix2 j l)) (fun j l => w3 (ix2 j l))) (fun k => gf (ix2 0 k)) (fun k => t (ix2 r k))) * Ideal.ofBits FTy.f32 973078528#32

/-- One point's step of the loss, from its blocks. -/
theorem loss_apply (x : Vec Ideal S512x1024 .f32) (g : Vec Ideal S1x1024 .f32) (w1 w2 w3 : Vec Ideal S2816x1024 .bf16) (gf : Vec Ideal S1x1024 .f32) (t : Vec Ideal S512x1024 .f32) (o : Vec Ideal S8x128 .f32) (a : Fin 8) (b : Fin 128) :
    k0_pay21 (F := Ideal) (lastB x g w1 w2 w3 gf) t o (ix2 a b) = o (ix2 a b) + lossPart x g w1 w2 w3 gf t := by
  rw [loss_step]; simp only [lastB_at]; rfl

/-- One half. -/
theorem bits_half : Ideal.ofBits FTy.f32 1056964608#32 = ((1/2 : ℝ) : EReal) := by
  simp [Ideal.ofBits, Ideal.ieee, ← EReal.coe_mul]; norm_num
/-- Two. -/
theorem bits_two : Ideal.ofBits FTy.f32 1073741824#32 = ((2 : ℝ) : EReal) := by
  simp [Ideal.ofBits, Ideal.ieee, ← EReal.coe_mul]; norm_num
/-- One part in 1024. -/
theorem bits_1024th : Ideal.ofBits FTy.f32 981467136#32 = ((1/1024 : ℝ) : EReal) := by
  simp [Ideal.ofBits, Ideal.ieee, ← EReal.coe_mul]; norm_num
/-- One part in 2048. -/
theorem bits_2048th : Ideal.ofBits FTy.f32 973078528#32 = ((1/2048 : ℝ) : EReal) := by
  simp [Ideal.ofBits, Ideal.ieee, ← EReal.coe_mul]; norm_num

/-- The reference's factor before the distance is the kernel's. -/
theorem factor (d : EReal) : Ideal.div (Ideal.ofBits FTy.f32 1056964608#32) (Ideal.ofBits FTy.f32 1149239296#32) * (Ideal.ofBits FTy.f32 1073741824#32 * d)
    = d * Ideal.ofBits FTy.f32 981467136#32 := by
  rw [bits_half, bits_two, bits_1024, bits_1024th, div_real _ (by norm_num), ← mul_assoc, ← EReal.coe_mul, mul_comm]
  norm_num

/-- The reference's finished row. -/
theorem mid_ref (x : Vec Ideal Cert.FfnLossRefIdeal.S16384x1024 .f32) (g : Vec Ideal Cert.FfnLossRefIdeal.S1x1024 .f32) (w1 w2 w3 : Vec Ideal Cert.FfnLossRefIdeal.S2816x1024 .bf16) (r : Fin 16384) (k : Fin 1024) :
    Cert.FfnLossRefIdeal.Read.val_main_v22 (F := Ideal) x g w1 w2 w3 (ix2 r k) = mid (fun k => x (ix2 r k)) (fun k => g (ix2 0 k)) (fun j l => w1 (ix2 j l)) (fun j l => w2 (ix2 j l)) (fun j l => w3 (ix2 j l)) k := by
  pointwise [Cert.FfnLossRefIdeal.Read.val_main_v22, Cert.FfnLossRefIdeal.Read.val_main_v21, Cert.FfnLossRefIdeal.Read.val_main_v20, Cert.FfnLossRefIdeal.Read.val_main_v19, Cert.FfnLossRefIdeal.Read.val_main_v18, Cert.FfnLossRefIdeal.Read.val_main_call0_v5, Cert.FfnLossRefIdeal.Read.val_main_call0_v4, Cert.FfnLossRefIdeal.Read.val_main_call0_v3, Cert.FfnLossRefIdeal.Read.val_main_call0_v2, Cert.FfnLossRefIdeal.Read.val_main_call0_v1, Cert.FfnLossRefIdeal.Read.val_main_call0_v0, Cert.FfnLossRefIdeal.Read.val_main_call0_cst, Cert.FfnLossRefIdeal.Read.val_main_call0_cst_0]
  simp only [gate_ref, up_ref]; rfl

/-- The reference's mean square of a finished row. -/
theorem meanSq_ref (x : Vec Ideal Cert.FfnLossRefIdeal.S16384x1024 .f32) (g : Vec Ideal Cert.FfnLossRefIdeal.S1x1024 .f32) (w1 w2 w3 : Vec Ideal Cert.FfnLossRefIdeal.S2816x1024 .bf16) (r : Fin 16384) :
    Cert.FfnLossRefIdeal.Read.val_main_v29 (F := Ideal) x g w1 w2 w3 (ix2 r 0) = meanSq (mid (fun k => x (ix2 r k)) (fun k => g (ix2 0 k)) (fun j l => w1 (ix2 j l)) (fun j l => w2 (ix2 j l)) (fun j l => w3 (ix2 j l))) := by
  pointwise [Cert.FfnLossRefIdeal.Read.val_main_v29, Cert.FfnLossRefIdeal.Read.val_main_v28, Cert.FfnLossRefIdeal.Read.val_main_v27, Cert.FfnLossRefIdeal.Read.val_main_v26, Cert.FfnLossRefIdeal.Read.val_main_v25, Cert.FfnLossRefIdeal.Read.val_main_v24, Cert.FfnLossRefIdeal.Read.val_main_v23, Cert.FfnLossRefIdeal.Read.val_main_cst_2, Cert.FfnLossRefIdeal.Read.val_main_cst_3, Cert.FfnLossRefIdeal.Read.val_main_cst_4]; simp only [mid_ref]; rfl

/-- The reference's scale of a finished row. -/
theorem scale_ref (x : Vec Ideal Cert.FfnLossRefIdeal.S16384x1024 .f32) (g : Vec Ideal Cert.FfnLossRefIdeal.S1x1024 .f32) (w1 w2 w3 : Vec Ideal Cert.FfnLossRefIdeal.S2816x1024 .bf16) (r : Fin 16384) :
    Cert.FfnLossRefIdeal.Read.val_main_v30 (F := Ideal) x g w1 w2 w3 (ix2 r 0) = scale (mid (fun k => x (ix2 r k)) (fun k => g (ix2 0 k)) (fun j l => w1 (ix2 j l)) (fun j l => w2 (ix2 j l)) (fun j l => w3 (ix2 j l))) := by
  pointwise [Cert.FfnLossRefIdeal.Read.val_main_v30]; simp only [meanSq_ref]; rfl

/-- The reference's finished row before the gain. -/
theorem scaled_ref (x : Vec Ideal Cert.FfnLossRefIdeal.S16384x1024 .f32) (g : Vec Ideal Cert.FfnLossRefIdeal.S1x1024 .f32) (w1 w2 w3 : Vec Ideal Cert.FfnLossRefIdeal.S2816x1024 .bf16) (r : Fin 16384) (k : Fin 1024) :
    Cert.FfnLossRefIdeal.Read.val_main_v35 (F := Ideal) x g w1 w2 w3 (ix2 r k) = mid (fun k => x (ix2 r k)) (fun k => g (ix2 0 k)) (fun j l => w1 (ix2 j l)) (fun j l => w2 (ix2 j l)) (fun j l => w3 (ix2 j l)) k * scale (mid (fun k => x (ix2 r k)) (fun k => g (ix2 0 k)) (fun j l => w1 (ix2 j l)) (fun j l => w2 (ix2 j l)) (fun j l => w3 (ix2 j l))) := by
  pointwise [Cert.FfnLossRefIdeal.Read.val_main_v35, Cert.FfnLossRefIdeal.Read.val_main_v34]; simp only [mid_ref, scale_ref]

/-- The reference's distance. -/
theorem off_ref (x : Vec Ideal Cert.FfnLossRefIdeal.S16384x1024 .f32) (g : Vec Ideal Cert.FfnLossRefIdeal.S1x1024 .f32) (w1 w2 w3 : Vec Ideal Cert.FfnLossRefIdeal.S2816x1024 .bf16) (gf : Vec Ideal Cert.FfnLossRefIdeal.S1x1024 .f32) (t : Vec Ideal Cert.FfnLossRefIdeal.S16384x1024 .f32) (r : Fin 16384) (k : Fin 1024) :
    Cert.FfnLossRefIdeal.Read.val_main_v38 (F := Ideal) x g w1 w2 w3 gf t (ix2 r k) = off (mid (fun k => x (ix2 r k)) (fun k => g (ix2 0 k)) (fun j l => w1 (ix2 j l)) (fun j l => w2 (ix2 j l)) (fun j l => w3 (ix2 j l))) (fun k => gf (ix2 0 k)) (fun k => t (ix2 r k)) k := by
  pointwise [Cert.FfnLossRefIdeal.Read.val_main_v38, Cert.FfnLossRefIdeal.Read.val_main_v37, Cert.FfnLossRefIdeal.Read.val_main_v36]; simp only [scaled_ref]; rfl

/-- The reference's gradient in the normed row. -/
theorem pull_ref (x : Vec Ideal Cert.FfnLossRefIdeal.S16384x1024 .f32) (g : Vec Ideal Cert.FfnLossRefIdeal.S1x1024 .f32) (w1 w2 w3 : Vec Ideal Cert.FfnLossRefIdeal.S2816x1024 .bf16) (gf : Vec Ideal Cert.FfnLossRefIdeal.S1x1024 .f32) (t : Vec Ideal Cert.FfnLossRefIdeal.S16384x1024 .f32) (r : Fin 16384) (k : Fin 1024) :
    Cert.FfnLossRefIdeal.Read.val_main_v52 (F := Ideal) x g w1 w2 w3 gf t (ix2 r k) = pull (mid (fun k => x (ix2 r k)) (fun k => g (ix2 0 k)) (fun j l => w1 (ix2 j l)) (fun j l => w2 (ix2 j l)) (fun j l => w3 (ix2 j l))) (fun k => gf (ix2 0 k)) (fun k => t (ix2 r k)) k := by
  pointwise [Cert.FfnLossRefIdeal.Read.val_main_v52, Cert.FfnLossRefIdeal.Read.val_main_v51, Cert.FfnLossRefIdeal.Read.val_main_v50, Cert.FfnLossRefIdeal.Read.val_main_v49, Cert.FfnLossRefIdeal.Read.val_main_v48, Cert.FfnLossRefIdeal.Read.val_main_v47, Cert.FfnLossRefIdeal.Read.val_main_v41, Cert.FfnLossRefIdeal.Read.val_main_v40, Cert.FfnLossRefIdeal.Read.val_main_cst_6, Cert.FfnLossRefIdeal.Read.val_main_cst_11, Cert.FfnLossRefIdeal.Read.val_main_cst_12, Cert.FfnLossRefIdeal.Read.val_main_cst_13]; simp only [off_ref, mul_one]; exact factor _

/-- The reference's factor of the inner derivative. -/
theorem inner_ref (x : Vec Ideal Cert.FfnLossRefIdeal.S16384x1024 .f32) (g : Vec Ideal Cert.FfnLossRefIdeal.S1x1024 .f32) (w1 w2 w3 : Vec Ideal Cert.FfnLossRefIdeal.S2816x1024 .bf16) (gf : Vec Ideal Cert.FfnLossRefIdeal.S1x1024 .f32) (t : Vec Ideal Cert.FfnLossRefIdeal.S16384x1024 .f32) (r : Fin 16384) (k : Fin 1024) :
    Cert.FfnLossRefIdeal.Read.val_main_v67 (F := Ideal) x g w1 w2 w3 gf t (ix2 r k) = inner (mid (fun k => x (ix2 r k)) (fun k => g (ix2 0 k)) (fun j l => w1 (ix2 j l)) (fun j l => w2 (ix2 j l)) (fun j l => w3 (ix2 j l))) (fun k => pull (mid (fun k => x (ix2 r k)) (fun k => g (ix2 0 k)) (fun j l => w1 (ix2 j l)) (fun j l => w2 (ix2 j l)) (fun j l => w3 (ix2 j l))) (fun k => gf (ix2 0 k)) (fun k => t (ix2 r k)) k * gf (ix2 0 k)) := by
  pointwise [Cert.FfnLossRefIdeal.Read.val_main_v67, Cert.FfnLossRefIdeal.Read.val_main_v66, Cert.FfnLossRefIdeal.Read.val_main_v65, Cert.FfnLossRefIdeal.Read.val_main_v64, Cert.FfnLossRefIdeal.Read.val_main_v63, Cert.FfnLossRefIdeal.Read.val_main_v60, Cert.FfnLossRefIdeal.Read.val_main_v59, Cert.FfnLossRefIdeal.Read.val_main_v58, Cert.FfnLossRefIdeal.Read.val_main_v57, Cert.FfnLossRefIdeal.Read.val_main_v56, Cert.FfnLossRefIdeal.Read.val_main_v33, Cert.FfnLossRefIdeal.Read.val_main_v32, Cert.FfnLossRefIdeal.Read.val_main_v31, Cert.FfnLossRefIdeal.Read.val_main_cst_5, Cert.FfnLossRefIdeal.Read.val_main_cst_15, Cert.FfnLossRefIdeal.Read.val_main_cst_16, Cert.FfnLossRefIdeal.Read.val_main_cst_17]
  simp only [Fin.sum_univ_one, pull_ref, mid_ref, scale_ref, meanSq_ref]; rfl

/-- The reference's gradient of the finished row. -/
theorem dx_ref (x : Vec Ideal Cert.FfnLossRefIdeal.S16384x1024 .f32) (g : Vec Ideal Cert.FfnLossRefIdeal.S1x1024 .f32) (w1 w2 w3 : Vec Ideal Cert.FfnLossRefIdeal.S2816x1024 .bf16) (gf : Vec Ideal Cert.FfnLossRefIdeal.S1x1024 .f32) (t : Vec Ideal Cert.FfnLossRefIdeal.S16384x1024 .f32) (r : Fin 16384) (k : Fin 1024) :
    Cert.FfnLossRefIdeal.Read.val_main_v71 (F := Ideal) x g w1 w2 w3 gf t (ix2 r k)
      = pull (mid (fun k => x (ix2 r k)) (fun k => g (ix2 0 k)) (fun j l => w1 (ix2 j l)) (fun j l => w2 (ix2 j l)) (fun j l => w3 (ix2 j l))) (fun k => gf (ix2 0 k)) (fun k => t (ix2 r k)) k * gf (ix2 0 k) * scale (mid (fun k => x (ix2 r k)) (fun k => g (ix2 0 k)) (fun j l => w1 (ix2 j l)) (fun j l => w2 (ix2 j l)) (fun j l => w3 (ix2 j l)))
        + mid (fun k => x (ix2 r k)) (fun k => g (ix2 0 k)) (fun j l => w1 (ix2 j l)) (fun j l => w2 (ix2 j l)) (fun j l => w3 (ix2 j l)) k * inner (mid (fun k => x (ix2 r k)) (fun k => g (ix2 0 k)) (fun j l => w1 (ix2 j l)) (fun j l => w2 (ix2 j l)) (fun j l => w3 (ix2 j l))) (fun k => pull (mid (fun k => x (ix2 r k)) (fun k => g (ix2 0 k)) (fun j l => w1 (ix2 j l)) (fun j l => w2 (ix2 j l)) (fun j l => w3 (ix2 j l))) (fun k => gf (ix2 0 k)) (fun k => t (ix2 r k)) k * gf (ix2 0 k))
        + inner (mid (fun k => x (ix2 r k)) (fun k => g (ix2 0 k)) (fun j l => w1 (ix2 j l)) (fun j l => w2 (ix2 j l)) (fun j l => w3 (ix2 j l))) (fun k => pull (mid (fun k => x (ix2 r k)) (fun k => g (ix2 0 k)) (fun j l => w1 (ix2 j l)) (fun j l => w2 (ix2 j l)) (fun j l => w3 (ix2 j l))) (fun k => gf (ix2 0 k)) (fun k => t (ix2 r k)) k * gf (ix2 0 k)) * mid (fun k => x (ix2 r k)) (fun k => g (ix2 0 k)) (fun j l => w1 (ix2 j l)) (fun j l => w2 (ix2 j l)) (fun j l => w3 (ix2 j l)) k := by
  pointwise [Cert.FfnLossRefIdeal.Read.val_main_v71, Cert.FfnLossRefIdeal.Read.val_main_v70, Cert.FfnLossRefIdeal.Read.val_main_v69, Cert.FfnLossRefIdeal.Read.val_main_v68, Cert.FfnLossRefIdeal.Read.val_main_v62, Cert.FfnLossRefIdeal.Read.val_main_v61, Cert.FfnLossRefIdeal.Read.val_main_v57, Cert.FfnLossRefIdeal.Read.val_main_v56]
  simp only [inner_ref, pull_ref, mid_ref, scale_ref]

/-- The gain's gradient at a column, over all rows. -/
def gainSum (x : Vec Ideal S16384x1024 .f32) (g : Vec Ideal S1x1024 .f32) (w1 w2 w3 : Vec Ideal S2816x1024 .bf16) (gf : Vec Ideal S1x1024 .f32) (t : Vec Ideal S16384x1024 .f32) (k : Fin 1024) : EReal :=
  ∑ r : Fin 16384, mid (fun k => x (ix2 r k)) (fun k => g (ix2 0 k)) (fun j l => w1 (ix2 j l)) (fun j l => w2 (ix2 j l)) (fun j l => w3 (ix2 j l)) k * scale (mid (fun k => x (ix2 r k)) (fun k => g (ix2 0 k)) (fun j l => w1 (ix2 j l)) (fun j l => w2 (ix2 j l)) (fun j l => w3 (ix2 j l))) * pull (mid (fun k => x (ix2 r k)) (fun k => g (ix2 0 k)) (fun j l => w1 (ix2 j l)) (fun j l => w2 (ix2 j l)) (fun j l => w3 (ix2 j l))) (fun k => gf (ix2 0 k)) (fun k => t (ix2 r k)) k

/-- The reference's gradient of the gain. -/
theorem gain_ref (x : Vec Ideal Cert.FfnLossRefIdeal.S16384x1024 .f32) (g : Vec Ideal Cert.FfnLossRefIdeal.S1x1024 .f32) (w1 w2 w3 : Vec Ideal Cert.FfnLossRefIdeal.S2816x1024 .bf16) (gf : Vec Ideal Cert.FfnLossRefIdeal.S1x1024 .f32) (t : Vec Ideal Cert.FfnLossRefIdeal.S16384x1024 .f32) (k : Fin 1024) :
    Cert.FfnLossRefIdeal.Read.val_main_v55 (F := Ideal) x g w1 w2 w3 gf t (ix2 0 k) = gainSum x g w1 w2 w3 gf t k := by
  unfold gainSum
  pointwise [Cert.FfnLossRefIdeal.Read.val_main_v55, Cert.FfnLossRefIdeal.Read.val_main_v54, Cert.FfnLossRefIdeal.Read.val_main_v53, Cert.FfnLossRefIdeal.Read.val_main_cst_14]
  simp only [scaled_ref, pull_ref]

/-- The loss over all rows, as the reference takes it. -/
def lossSum (x : Vec Ideal S16384x1024 .f32) (g : Vec Ideal S1x1024 .f32) (w1 w2 w3 : Vec Ideal S2816x1024 .bf16) (gf : Vec Ideal S1x1024 .f32) (t : Vec Ideal S16384x1024 .f32) : EReal :=
  Ideal.ofBits FTy.f32 1056964608#32 * ∑ r : Fin 16384, Ideal.div (squares (mid (fun k => x (ix2 r k)) (fun k => g (ix2 0 k)) (fun j l => w1 (ix2 j l)) (fun j l => w2 (ix2 j l)) (fun j l => w3 (ix2 j l))) (fun k => gf (ix2 0 k)) (fun k => t (ix2 r k))) (Ideal.ofBits FTy.f32 1149239296#32)

/-- The reference's loss. -/
theorem loss_ref (x : Vec Ideal Cert.FfnLossRefIdeal.S16384x1024 .f32) (g : Vec Ideal Cert.FfnLossRefIdeal.S1x1024 .f32) (w1 w2 w3 : Vec Ideal Cert.FfnLossRefIdeal.S2816x1024 .bf16) (gf : Vec Ideal Cert.FfnLossRefIdeal.S1x1024 .f32) (t : Vec Ideal Cert.FfnLossRefIdeal.S16384x1024 .f32) (a : Fin 8) (b : Fin 128) :
    Cert.FfnLossRefIdeal.Read.val_main_v74 (F := Ideal) x g w1 w2 w3 gf t (ix2 a b) = lossSum x g w1 w2 w3 gf t := by
  unfold lossSum
  pointwise [Cert.FfnLossRefIdeal.Read.val_main_v74, Cert.FfnLossRefIdeal.Read.val_main_v46, Cert.FfnLossRefIdeal.Read.val_main_v45, Cert.FfnLossRefIdeal.Read.val_main_v44, Cert.FfnLossRefIdeal.Read.val_main_v43, Cert.FfnLossRefIdeal.Read.val_main_v42, Cert.FfnLossRefIdeal.Read.val_main_v39, Cert.FfnLossRefIdeal.Read.val_main_cst_7, Cert.FfnLossRefIdeal.Read.val_main_cst_8, Cert.FfnLossRefIdeal.Read.val_main_cst_9, Cert.FfnLossRefIdeal.Read.val_main_cst_10]
  simp only [off_ref]; rfl

/-- The input block at point `t` starts at row `512 t`. -/
theorem rows_x : ∀ t : Fin cfg0.N, win0_0.index t = ![t.val, 0] := (by decide +kernel : ∀ t : Fin grid0.N, _)
/-- The gain is whole at every point. -/
theorem rows_g : ∀ t : Fin cfg0.N, win0_1.index t = ![0, 0] := (by decide +kernel : ∀ t : Fin grid0.N, _)
/-- The first matrix is whole at every point. -/
theorem rows_w1 : ∀ t : Fin cfg0.N, win0_2.index t = ![0, 0] := (by decide +kernel : ∀ t : Fin grid0.N, _)
/-- The second matrix is whole at every point. -/
theorem rows_w2 : ∀ t : Fin cfg0.N, win0_3.index t = ![0, 0] := (by decide +kernel : ∀ t : Fin grid0.N, _)
/-- The third matrix is whole at every point. -/
theorem rows_w3 : ∀ t : Fin cfg0.N, win0_4.index t = ![0, 0] := (by decide +kernel : ∀ t : Fin grid0.N, _)
/-- The last gain is whole at every point. -/
theorem rows_gf : ∀ t : Fin cfg0.N, win0_5.index t = ![0, 0] := (by decide +kernel : ∀ t : Fin grid0.N, _)
/-- The block of targets at point `t` starts at row `512 t`. -/
theorem rows_t : ∀ t : Fin cfg0.N, win0_6.index t = ![t.val, 0] := (by decide +kernel : ∀ t : Fin grid0.N, _)
/-- The first product's block at point `t` starts at row `512 t`. -/
theorem rows_gate : ∀ t : Fin cfg0.N, win0_7.index t = ![t.val, 0] := (by decide +kernel : ∀ t : Fin grid0.N, _)
/-- The second product's block at point `t` starts at row `512 t`. -/
theorem rows_up : ∀ t : Fin cfg0.N, win0_8.index t = ![t.val, 0] := (by decide +kernel : ∀ t : Fin grid0.N, _)
/-- The loss's block is whole at every point. -/
theorem rows_loss : ∀ t : Fin cfg0.N, win0_9.index t = ![0, 0] := (by decide +kernel : ∀ t : Fin grid0.N, _)
/-- The gradient's block at point `t` starts at row `512 t`. -/
theorem rows_dx : ∀ t : Fin cfg0.N, win0_10.index t = ![t.val, 0] := (by decide +kernel : ∀ t : Fin grid0.N, _)
/-- The last gain's gradient is whole at every point. -/
theorem rows_dg : ∀ t : Fin cfg0.N, win0_11.index t = ![0, 0] := (by decide +kernel : ∀ t : Fin grid0.N, _)

/-- Row `r` of the block at point `t`, as a row of the whole array. -/
def row (t : Fin cfg0.N) (r : Fin 512) : Fin 16384 :=
  ⟨t.val * 512 + r.val, by have : t.val < 32 := lt_of_lt_of_eq t.isLt N_0; omega⟩

/-- An entry of the input block. -/
theorem x_at (c : Dev nD) (t : Fin cfg0.N) (r : Fin 512) (k : Fin 1024) :
    (iblk m c 0 t : Vec Ideal S512x1024 .f32) (ix2 r k) = m ((c : Thread nD τ).loc main_arg0) (ix2 (row t r) k) := by
  blk_ext [iblk, V_main_arg0, rows_x t, row]
/-- An entry of the gain. -/
theorem g_at (c : Dev nD) (t : Fin cfg0.N) (r : Fin 1) (k : Fin 1024) :
    (iblk m c 1 t : Vec Ideal S1x1024 .f32) (ix2 r k) = m ((c : Thread nD τ).loc main_arg1) (ix2 r k) := by
  blk_ext [iblk, V_main_arg1, rows_g t]
/-- An entry of the first matrix. -/
theorem w1_at (c : Dev nD) (t : Fin cfg0.N) (r : Fin 2816) (k : Fin 1024) :
    (iblk m c 2 t : Vec Ideal S2816x1024 .bf16) (ix2 r k) = m ((c : Thread nD τ).loc main_arg2) (ix2 r k) := by
  blk_ext [iblk, V_main_arg2, rows_w1 t]
/-- An entry of the second matrix. -/
theorem w2_at (c : Dev nD) (t : Fin cfg0.N) (r : Fin 2816) (k : Fin 1024) :
    (iblk m c 3 t : Vec Ideal S2816x1024 .bf16) (ix2 r k) = m ((c : Thread nD τ).loc main_arg3) (ix2 r k) := by
  blk_ext [iblk, V_main_arg3, rows_w2 t]
/-- An entry of the third matrix. -/
theorem w3_at (c : Dev nD) (t : Fin cfg0.N) (r : Fin 2816) (k : Fin 1024) :
    (iblk m c 4 t : Vec Ideal S2816x1024 .bf16) (ix2 r k) = m ((c : Thread nD τ).loc main_arg4) (ix2 r k) := by
  blk_ext [iblk, V_main_arg4, rows_w3 t]
/-- An entry of the last gain. -/
theorem gf_at (c : Dev nD) (t : Fin cfg0.N) (r : Fin 1) (k : Fin 1024) :
    (iblk m c 5 t : Vec Ideal S1x1024 .f32) (ix2 r k) = m ((c : Thread nD τ).loc main_arg5) (ix2 r k) := by
  blk_ext [iblk, V_main_arg5, rows_gf t]
/-- An entry of the block of targets. -/
theorem t_at (c : Dev nD) (t : Fin cfg0.N) (r : Fin 512) (k : Fin 1024) :
    (iblk m c 6 t : Vec Ideal S512x1024 .f32) (ix2 r k) = m ((c : Thread nD τ).loc main_arg6) (ix2 (row t r) k) := by
  blk_ext [iblk, V_main_arg6, rows_t t, row]
/-- The first product's array. -/
theorem gate_result (c : Dev nD) : (dats m 0 c).arrAt 7 cfg0.N
    = Cert.FfnLossRefIdeal.Read.val_main_v72 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨r, l, rfl⟩ : ∃ r l, y = ix2 r l := ⟨y 0, y 1, (ix2_eta y).symm⟩
  blk_simp
  have he : ((win0_7.blk t).view.emb (ix2 r l) : S16384x2816.Idx) = ix2 (row t r) l := by
    blk_ext [rows_gate t, row]
  rw [he, after0_7, Cert.FfnLossRefIdeal.Read.val_main_v72_apply, gate_ref]
  by_cases h : t.val % 32 = 0
  · rw [outsAt0_A m c t h]; frame_out
    canon_tiles x hx using columns _ _ _
    · obtain ⟨a, b, rfl⟩ : ∃ a b, x = ix2 a b := ⟨x 0, x 1, (ix2_eta x).symm⟩
      obtain rfl : r = a := Fin.ext hx0
      obtain rfl : l = high b := Fin.ext hx1
      refine (gate_high_read (iblk m c 0 t) (iblk m c 1 t) (iblk m c 2 t) r b).trans ?_
      simp only [x_at, g_at, w1_at, Ideal.truncf_def]
    · obtain ⟨a, b, rfl⟩ : ∃ a b, x = ix2 a b := ⟨x 0, x 1, (ix2_eta x).symm⟩
      obtain rfl : r = a := Fin.ext hx0
      obtain rfl : l = low b := Fin.ext hx1
      refine (gate_low_read (iblk m c 0 t) (iblk m c 1 t) (iblk m c 2 t) r b).trans ?_
      simp only [x_at, g_at, w1_at, Ideal.truncf_def]
  · rw [outsAt0_B m c t h]; frame_out
    canon_tiles x hx using columns _ _ _
    · obtain ⟨a, b, rfl⟩ : ∃ a b, x = ix2 a b := ⟨x 0, x 1, (ix2_eta x).symm⟩
      obtain rfl : r = a := Fin.ext hx0
      obtain rfl : l = high b := Fin.ext hx1
      refine (gate_high_read (iblk m c 0 t) (iblk m c 1 t) (iblk m c 2 t) r b).trans ?_
      simp only [x_at, g_at, w1_at, Ideal.truncf_def]
    · obtain ⟨a, b, rfl⟩ : ∃ a b, x = ix2 a b := ⟨x 0, x 1, (ix2_eta x).symm⟩
      obtain rfl : r = a := Fin.ext hx0
      obtain rfl : l = low b := Fin.ext hx1
      refine (gate_low_read (iblk m c 0 t) (iblk m c 1 t) (iblk m c 2 t) r b).trans ?_
      simp only [x_at, g_at, w1_at, Ideal.truncf_def]

/-- The second product's array. -/
theorem up_result (c : Dev nD) : (dats m 0 c).arrAt 8 cfg0.N
    = Cert.FfnLossRefIdeal.Read.val_main_v73 (F := Ideal) (m ((c : Thread nD τ).loc main_arg0)) (m ((c : Thread nD τ).loc main_arg1)) (m ((c : Thread nD τ).loc main_arg3)) := by
  refine (dats m 0 c).arrAt_eq_of_covers 8 _ (by decide +kernel) fun t hf y => ?_
  obtain ⟨r, l, rfl⟩ : ∃ r l, y = ix2 r l := ⟨y 0, y 1, (ix2_eta y).symm⟩
  blk_simp
  have he : ((win0_8.blk t).view.emb (ix2 r l) : S16384x2816.Idx) = ix2 (row t r) l := by
    blk_ext [rows_up t, row]
  rw [he, after0_8, Cert.FfnLossRefIdeal.Read.val_main_v73_apply, up_ref]
  by_cases h : t.val % 32 = 0
  · rw [outsAt0_A m c t h]; frame_out
    canon_tiles x hx using columns _ _ _
    · obtain ⟨a, b, rfl⟩ : ∃ a b, x = ix2 a b := ⟨x 0, x 1, (ix2_eta x).symm⟩
      obtain rfl : r = a := Fin.ext hx0
      obtain rfl : l = high b := Fin.ext hx1
      refine (up_high_read (iblk m c 0 t) (iblk m c 1 t) (iblk m c 3 t) r b).trans ?_
      simp only [x_at, g_at, w2_at, Ideal.truncf_def]
    · obtain ⟨a, b, rfl⟩ : ∃ a b, x = ix2 a b := ⟨x 0, x 1, (ix2_eta x).symm⟩
      obtain rfl : r = a := Fin.ext hx0
      obtain rfl : l = low b := Fin.ext hx1
      refine (up_low_read (iblk m c 0 t) (iblk m c 1 t) (iblk m c 3 t) r b).trans ?_
      simp only [x_at, g_at, w2_at, Ideal.truncf_def]
  · rw [outsAt0_B m c t h]; frame_out
    canon_tiles x hx using columns _ _ _
    · obtain ⟨a, b, rfl⟩ : ∃ a b, x = ix2 a b := ⟨x 0, x 1, (ix2_eta x).symm⟩
      obtain rfl : r = a := Fin.ext hx0
      obtain rfl : l = high b := Fin.ext hx1
      refine (up_high_read (iblk m c 0 t) (iblk m c 1 t) (iblk m c 3 t) r b).trans ?_
      simp only [x_at, g_at, w2_at, Ideal.truncf_def]
    · obtain ⟨a, b, rfl⟩ : ∃ a b, x = ix2 a b := ⟨x 0, x 1, (ix2_eta x).symm⟩
      obtain rfl : r = a := Fin.ext hx0
      obtain rfl : l = low b := Fin.ext hx1
      refine (up_low_read (iblk m c 0 t) (iblk m c 1 t) (iblk m c 3 t) r b).trans ?_
      simp only [x_at, g_at, w2_at, Ideal.truncf_def]

/-- Every entry of the arguments is a real number. -/
def Reals (c : Dev nD) : Prop :=
  (∀ i, IsReal ((m ((c : Thread nD τ).loc main_arg0) : Vec Ideal S16384x1024 .f32) i)) ∧ (∀ i, IsReal ((m ((c : Thread nD τ).loc main_arg1) : Vec Ideal S1x1024 .f32) i))
    ∧ (∀ i, IsReal ((m ((c : Thread nD τ).loc main_arg2) : Vec Ideal S2816x1024 .bf16) i)) ∧ (∀ i, IsReal ((m ((c : Thread nD τ).loc main_arg3) : Vec Ideal S2816x1024 .bf16) i))
    ∧ (∀ i, IsReal ((m ((c : Thread nD τ).loc main_arg4) : Vec Ideal S2816x1024 .bf16) i)) ∧ (∀ i, IsReal ((m ((c : Thread nD τ).loc main_arg5) : Vec Ideal S1x1024 .f32) i))
    ∧ (∀ i, IsReal ((m ((c : Thread nD τ).loc main_arg6) : Vec Ideal S16384x1024 .f32) i))

/-- A real row times a real row is real. -/
theorem entry_real {h w : Fin 1024 → EReal} (hh : ∀ k, IsReal (h k)) (hw : ∀ k, IsReal (w k)) : IsReal (entry h w) :=
  sum fun k => mul (hh k) (hw k)

/-- Finished rows of reals are real. -/
theorem mid_real {x g : Fin 1024 → EReal} {w1 w2 w3 : Fin 2816 → Fin 1024 → EReal} (hx : ∀ k, IsReal (x k)) (hg : ∀ k, IsReal (g k))
    (h1 : ∀ j k, IsReal (w1 j k)) (h2 : ∀ j k, IsReal (w2 j k)) (h3 : ∀ j k, IsReal (w3 j k)) (k : Fin 1024) : IsReal (mid x g w1 w2 w3 k) :=
  add (hx k) (sum fun j => mul (mul (mul (entry_real (normed_real hx hg) (h1 j)) (sig_real (entry_real (normed_real hx hg) (h1 j)))) (entry_real (normed_real hx hg) (h2 j))) (h3 j k))

/-- Distances of reals are real. -/
theorem off_real {y g t : Fin 1024 → EReal} (hy : ∀ k, IsReal (y k)) (hg : ∀ k, IsReal (g k)) (ht : ∀ k, IsReal (t k)) (k : Fin 1024) : IsReal (off y g t k) :=
  sub (normed_real hy hg k) (ht k)

/-- The loss's gradient of reals is real. -/
theorem pull_real {y g t : Fin 1024 → EReal} (hy : ∀ k, IsReal (y k)) (hg : ∀ k, IsReal (g k)) (ht : ∀ k, IsReal (t k)) (k : Fin 1024) : IsReal (pull y g t k) :=
  mul (off_real hy hg ht k) ⟨_, bits_1024th⟩

/-- The two forms of the norm's gradient. -/
theorem back_eq {x d : Fin 1024 → EReal} (hx : ∀ k, IsReal (x k)) (hd : ∀ k, IsReal (d k)) (k : Fin 1024) :
    back x d k = d k * scale x + x k * inner x d + inner x d * x k := norm_back hx hd k

/-- Finished rows of the arguments are real. -/
theorem row_real (c : Dev nD) (hr : Reals m c) (r : Fin 16384) (k : Fin 1024) :
    IsReal (mid (fun k => (m ((c : Thread nD τ).loc main_arg0) : Vec Ideal S16384x1024 .f32) (ix2 r k)) (fun k => (m ((c : Thread nD τ).loc main_arg1) : Vec Ideal S1x1024 .f32) (ix2 0 k)) (fun j l => (m ((c : Thread nD τ).loc main_arg2) : Vec Ideal S2816x1024 .bf16) (ix2 j l))
      (fun j l => (m ((c : Thread nD τ).loc main_arg3) : Vec Ideal S2816x1024 .bf16) (ix2 j l)) (fun j l => (m ((c : Thread nD τ).loc main_arg4) : Vec Ideal S2816x1024 .bf16) (ix2 j l)) k) :=
  mid_real (fun _ => hr.1 _) (fun _ => hr.2.1 _) (fun _ _ => hr.2.2.1 _) (fun _ _ => hr.2.2.2.1 _) (fun _ _ => hr.2.2.2.2.1 _) k

/-- The gradient's array. -/
theorem dx_result (c : Dev nD) (hr : Reals m c) : (dats m 0 c).arrAt 10 cfg0.N
    = Cert.FfnLossRefIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  obtain ⟨r, l, rfl⟩ : ∃ r l, y = ix2 r l := ⟨y 0, y 1, (ix2_eta y).symm⟩
  blk_simp
  have he : ((win0_10.blk t).view.emb (ix2 r l) : S16384x1024.Idx) = ix2 (row t r) l := by
    blk_ext [rows_dx t, row]
  rw [he, after0_10, dx_ref]
  have hs : (outsAt0 m c t.val t.isLt).2.2.2.1 (ix2 r l) = k0_pay17 (F := Ideal) (scaleB (iblk m c 0 t) (iblk m c 1 t) (iblk m c 2 t) (iblk m c 3 t) (iblk m c 4 t)) (scaledB (iblk m c 0 t) (iblk m c 1 t) (iblk m c 2 t) (iblk m c 3 t) (iblk m c 4 t)) (iblk m c 5 t) (lastB (iblk m c 0 t) (iblk m c 1 t) (iblk m c 2 t) (iblk m c 3 t) (iblk m c 4 t) (iblk m c 5 t)) (iblk m c 6 t) (ix2 r l) := by
    by_cases h : t.val % 32 = 0
    · rw [outsAt0_A m c t h]; frame_out; rfl
    · rw [outsAt0_B m c t h]; frame_out; rfl
  refine hs.trans ((dx_block (iblk m c 0 t) (iblk m c 1 t) (iblk m c 2 t) (iblk m c 3 t) (iblk m c 4 t) (iblk m c 5 t) (iblk m c 6 t) r l).trans ?_)
  simp only [x_at, g_at, w1_at, w2_at, w3_at, gf_at, t_at]
  exact back_eq (row_real m c hr _) (fun k => mul (pull_real (row_real m c hr _) (fun _ => hr.2.2.2.2.2.1 _) (fun _ => hr.2.2.2.2.2.2 _) k) (hr.2.2.2.2.2.1 _)) l

/-- After the last point the row holds the sum of all points' parts. -/
theorem gain_last (c : Dev nD) (t : Fin cfg0.N) (ht : t.val + 1 = cfg0.N) (k : Fin 1024) :
    (outsAt0 m c t.val t.isLt).2.2.2.2 (ix2 0 k) = 0 + ∑ p : Fin cfg0.N, gainPart (iblk m c 0 p) (iblk m c 1 p) (iblk m c 2 p) (iblk m c 3 p) (iblk m c 4 p) (iblk m c 5 p) (iblk m c 6 p) k := by
  exact Pipeline.eq_sum_fin_of_reset_step_apply_last (fun n h k => (outsAt0 m c n h).2.2.2.2 (ix2 0 k)) 32 (fun _ => (0 : EReal)) (fun t k => gainPart (iblk m c 0 t) (iblk m c 1 t) (iblk m c 2 t) (iblk m c 3 t) (iblk m c 4 t) (iblk m c 5 t) (iblk m c 6 t) k)
    (fun t h k => by
      show (outsAt0 m c t.val t.isLt).2.2.2.2 (ix2 0 k) = _
      rw [outsAt0_A m c t h]; frame_out
      refine (gain_apply (iblk m c 0 t) (iblk m c 1 t) (iblk m c 2 t) (iblk m c 3 t) (iblk m c 4 t) (iblk m c 5 t) (iblk m c 6 t) _ k).trans ?_
      rw [zero_row])
    (fun t h k => by
      show (outsAt0 m c t.val t.isLt).2.2.2.2 (ix2 0 k) = _
      rw [outsAt0_B m c t h]; frame_out
      refine (gain_apply (iblk m c 0 t) (iblk m c 1 t) (iblk m c 2 t) (iblk m c 3 t) (iblk m c 4 t) (iblk m c 5 t) (iblk m c 6 t) _ k).trans ?_
      rfl)
    (le_of_eq N_0) t ht k

/-- The points' parts are the sum over all rows. -/
theorem gain_parts (c : Dev nD) (l : Fin 1024) : ∑ t : Fin cfg0.N, gainPart (iblk m c 0 t) (iblk m c 1 t) (iblk m c 2 t) (iblk m c 3 t) (iblk m c 4 t) (iblk m c 5 t) (iblk m c 6 t) l
    = gainSum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) l := by
  unfold gainSum gainPart
  refine Fin.sum_mul_add_congr (S := cfg0.N) (n := 512) (fun t k ht => ?_) (by have : cfg0.N = 32 := N_0; rw [this])
  simp only [x_at, g_at, w1_at, w2_at, w3_at, gf_at, t_at, row]
  exact mul_comm _ _

/-- The gain's gradient. -/
theorem gain_result (c : Dev nD) : (dats m 0 c).arrAt 11 cfg0.N
    = Cert.FfnLossRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  have hN : cfg0.N = 32 := N_0
  have h31 : t.val % 32 = 31 := (flush0_11 t).mp hf
  have ht : t.val + 1 = cfg0.N := by have : t.val < 32 := lt_of_lt_of_eq t.isLt N_0; rw [hN]; omega
  obtain ⟨r, l, rfl⟩ : ∃ r l, y = ix2 r l := ⟨y 0, y 1, (ix2_eta y).symm⟩
  obtain rfl : r = 0 := Subsingleton.elim _ _
  blk_simp
  have he : ((win0_11.blk t).view.emb (ix2 0 l) : S1x1024.Idx) = ix2 0 l := by
    blk_ext [rows_dg t]
  rw [he, after0_11, gain_ref, gain_last m c t ht, zero_add]
  exact gain_parts m c l

/-- After the last point every entry holds the sum of all points' parts. -/
theorem loss_last (c : Dev nD) (t : Fin cfg0.N) (ht : t.val + 1 = cfg0.N) (a : Fin 8) (b : Fin 128) :
    (outsAt0 m c t.val t.isLt).2.2.1 (ix2 a b) = 0 + ∑ p : Fin cfg0.N, lossPart (iblk m c 0 p) (iblk m c 1 p) (iblk m c 2 p) (iblk m c 3 p) (iblk m c 4 p) (iblk m c 5 p) (iblk m c 6 p) := by
  exact Pipeline.eq_sum_fin_of_reset_step_apply_last (fun n h (_ : Fin 1) => (outsAt0 m c n h).2.2.1 (ix2 a b)) 32 (fun _ => (0 : EReal)) (fun t _ => lossPart (iblk m c 0 t) (iblk m c 1 t) (iblk m c 2 t) (iblk m c 3 t) (iblk m c 4 t) (iblk m c 5 t) (iblk m c 6 t))
    (fun t h k => by
      show (outsAt0 m c t.val t.isLt).2.2.1 (ix2 a b) = _
      rw [outsAt0_A m c t h]; frame_out
      refine (loss_apply (iblk m c 0 t) (iblk m c 1 t) (iblk m c 2 t) (iblk m c 3 t) (iblk m c 4 t) (iblk m c 5 t) (iblk m c 6 t) _ a b).trans ?_
      rw [zero_block])
    (fun t h k => by
      show (outsAt0 m c t.val t.isLt).2.2.1 (ix2 a b) = _
      rw [outsAt0_B m c t h]; frame_out
      refine (loss_apply (iblk m c 0 t) (iblk m c 1 t) (iblk m c 2 t) (iblk m c 3 t) (iblk m c 4 t) (iblk m c 5 t) (iblk m c 6 t) _ a b).trans ?_
      rfl)
    (le_of_eq N_0) t ht 0

/-- A sum of reals, each then taken one part in 2048 of. -/
theorem sum_2048th {n : Nat} {f : Fin n → EReal} (h : ∀ i, IsReal (f i)) :
    (∑ i, f i) * Ideal.ofBits FTy.f32 973078528#32 = ∑ i, f i * Ideal.ofBits FTy.f32 973078528#32 := by
  choose a ha using h
  simp only [ha, bits_2048th, ← EReal.coe_mul, coe_sum, Finset.sum_mul]

/-- Half the sum of the means is the sum of the parts in 2048. -/
theorem half_means {n : Nat} {f : Fin n → EReal} (h : ∀ i, IsReal (f i)) :
    ∑ i, f i * Ideal.ofBits FTy.f32 973078528#32 = Ideal.ofBits FTy.f32 1056964608#32 * ∑ i, Ideal.div (f i) (Ideal.ofBits FTy.f32 1149239296#32) := by
  choose a ha using h
  simp only [ha, bits_2048th, bits_half, bits_1024, div_real _ (show (1024 : ℝ) ≠ 0 by norm_num), ← EReal.coe_mul, coe_sum, Finset.mul_sum]
  congr 1
  refine Finset.sum_congr rfl fun i _ => ?_
  ring

/-- The points' parts are the loss over all rows. -/
theorem loss_parts (c : Dev nD) (hr : Reals m c) : ∑ t : Fin cfg0.N, lossPart (iblk m c 0 t) (iblk m c 1 t) (iblk m c 2 t) (iblk m c 3 t) (iblk m c 4 t) (iblk m c 5 t) (iblk m c 6 t)
    = lossSum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hs : ∀ r : Fin 16384, IsReal (squares (mid (fun k => (m ((c : Thread nD τ).loc main_arg0) : Vec Ideal S16384x1024 .f32) (ix2 r k)) (fun k => (m ((c : Thread nD τ).loc main_arg1) : Vec Ideal S1x1024 .f32) (ix2 0 k)) (fun j l => (m ((c : Thread nD τ).loc main_arg2) : Vec Ideal S2816x1024 .bf16) (ix2 j l))
      (fun j l => (m ((c : Thread nD τ).loc main_arg3) : Vec Ideal S2816x1024 .bf16) (ix2 j l)) (fun j l => (m ((c : Thread nD τ).loc main_arg4) : Vec Ideal S2816x1024 .bf16) (ix2 j l)))
      (fun k => (m ((c : Thread nD τ).loc main_arg5) : Vec Ideal S1x1024 .f32) (ix2 0 k)) (fun k => (m ((c : Thread nD τ).loc main_arg6) : Vec Ideal S16384x1024 .f32) (ix2 r k))) := fun r =>
    sum fun k => mul (off_real (row_real m c hr r) (fun _ => hr.2.2.2.2.2.1 _) (fun _ => hr.2.2.2.2.2.2 _) k) (off_real (row_real m c hr r) (fun _ => hr.2.2.2.2.2.1 _) (fun _ => hr.2.2.2.2.2.2 _) k)
  unfold lossSum
  rw [← half_means hs]
  unfold lossPart
  simp only [x_at, g_at, w1_at, w2_at, w3_at, gf_at, t_at]
  have h2 : ∀ t : Fin cfg0.N, _ := fun t => sum_2048th (fun r : Fin 512 => hs (row t r))
  rw [Finset.sum_congr rfl fun t _ => h2 t]
  refine Fin.sum_mul_add_congr (S := cfg0.N) (n := 512) (fun t k ht => ?_) (by have : cfg0.N = 32 := N_0; rw [this])
  rfl

/-- The loss's array. -/
theorem loss_result (c : Dev nD) (hr : Reals m c) : (dats m 0 c).arrAt 9 cfg0.N
    = Cert.FfnLossRefIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have hN : cfg0.N = 32 := N_0
  have h31 : t.val % 32 = 31 := (flush0_9 t).mp hf
  have ht : t.val + 1 = cfg0.N := by have : t.val < 32 := lt_of_lt_of_eq t.isLt N_0; rw [hN]; omega
  obtain ⟨a, b, rfl⟩ : ∃ a b, y = ix2 a b := ⟨y 0, y 1, (ix2_eta y).symm⟩
  blk_simp
  have he : ((win0_9.blk t).view.emb (ix2 a b) : S8x128.Idx) = ix2 a b := by
    blk_ext [rows_loss t]
  rw [he, after0_9, loss_ref, loss_last m c t ht, zero_add]
  exact loss_parts m c hr

/-- The scalar shape has one index. -/
instance : Subsingleton Cert.Pre_finite16.S_.Idx := ⟨fun a b => funext fun d => d.elim0⟩

/-- The precondition says that the entries are real. -/
theorem reals (h : Cert.Pre_FfnLossIdeal_finite16 m) (c : Dev nD) : Reals m c := by
  have e := congrFun (h c) (fun d => d.elim0)
  unfold Cert.Pre_finite16.fn Cert.Pre_finite16.fn_part1 Cert.Pre_finite16.fn_part2 at e
  obtain ⟨e, e6⟩ := both e
  obtain ⟨e, e5⟩ := both e
  obtain ⟨e, e4⟩ := both e
  obtain ⟨e, e3⟩ := both e
  obtain ⟨e, e2⟩ := both e
  obtain ⟨e0, e1⟩ := both e
  exact ⟨all_of_test _ _ _ _ _ _ (fun i => rfl) e0, all_of_test _ _ _ _ _ _ (fun i => rfl) e1,
    all_of_test _ _ _ _ _ _ (fun i => rfl) e2, all_of_test _ _ _ _ _ _ (fun i => rfl) e3,
    all_of_test _ _ _ _ _ _ (fun i => rfl) e4, all_of_test _ _ _ _ _ _ (fun i => rfl) e5, all_of_test _ _ _ _ _ _ (fun i => rfl) e6⟩

/-- The kernel's run ends at the reference's five arrays, its arguments kept. -/
theorem kernel_run (hp : Cert.Pre_FfnLossIdeal_finite16 m) (ρ : Dev nD → PrngReg) :
    θ_run defs (onTc (τ := τ) (main (F := Ideal))) ⟨m, fun _ => 0, ρ⟩ fun r => ∀ c : Dev nD,
      r.2.mem ((c : Thread nD τ).loc main_v0_0) = Cert.FfnLossRefIdeal.Read.val_main_v72 (F := Ideal) (m ((c : Thread nD τ).loc main_arg0)) (m ((c : Thread nD τ).loc main_arg1)) (m ((c : Thread nD τ).loc main_arg2))
      ∧ r.2.mem ((c : Thread nD τ).loc main_v0_1) = Cert.FfnLossRefIdeal.Read.val_main_v73 (F := Ideal) (m ((c : Thread nD τ).loc main_arg0)) (m ((c : Thread nD τ).loc main_arg1)) (m ((c : Thread nD τ).loc main_arg3))
      ∧ r.2.mem ((c : Thread nD τ).loc main_v0_2) = Cert.FfnLossRefIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_3) = Cert.FfnLossRefIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_4) = Cert.FfnLossRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (gate_result m c), (h c).2.1.trans (up_result m c),
    (h c).2.2.1.trans (loss_result m c (reals m hp c)), (h c).2.2.2.1.trans (dx_result m c (reals m hp c)), (h c).2.2.2.2.1.trans (gain_result m c), (h c).2.2.2.2.2⟩) (Cert.FfnLossIdeal.Value.run_blocks m ρ)

/-- From memories agreeing on the arguments, with real entries, kernel and reference both run and end with equal results. -/
theorem algebraic : Cert.algebraic_FfnLossIdeal_FfnLossRefIdeal_pre_finite16 := by
  intro m ρ m' ρ' hp hm
  refine ⟨_, _, _, _, _, kernel_run m hp ρ, (θ_run _ _ _).mono (fun r h c => ⟨(h c).1.trans ?_, (h c).2.1.trans ?_, (h c).2.2.1.trans ?_, (h c).2.2.2.1.trans ?_, (h c).2.2.2.2.1.trans ?_, (h c).2.2.2.2.2⟩)
    (Cert.FfnLossRefIdeal.Value.run m' ρ')⟩
  · rw [(hm c).1, (hm c).2.1, (hm c).2.2.1]
    exact Cert.FfnLossRefIdeal.Read.val_main_v72_eq _ _ _
  · rw [(hm c).1, (hm c).2.1, (hm c).2.2.2.1]
    exact Cert.FfnLossRefIdeal.Read.val_main_v73_eq _ _ _
  · refine (Cert.FfnLossRefIdeal.Read.val_main_v74_eq m' c).trans ?_
    rw [(hm c).1, (hm c).2.1, (hm c).2.2.1, (hm c).2.2.2.1, (hm c).2.2.2.2.1, (hm c).2.2.2.2.2.1, (hm c).2.2.2.2.2.2]
  · refine (Cert.FfnLossRefIdeal.Read.val_main_v71_eq m' c).trans ?_
    rw [(hm c).1, (hm c).2.1, (hm c).2.2.1, (hm c).2.2.2.1, (hm c).2.2.2.2.1, (hm c).2.2.2.2.2.1, (hm c).2.2.2.2.2.2]
  · refine (Cert.FfnLossRefIdeal.Read.val_main_v55_eq m' c).trans ?_
    rw [(hm c).1, (hm c).2.1, (hm c).2.2.1, (hm c).2.2.2.1, (hm c).2.2.2.2.1, (hm c).2.2.2.2.2.1, (hm c).2.2.2.2.2.2]

end Cert.FfnLossProof

end
-- ==== Proof.MixFTile.lean ====
/- The first mixer's forward call on one tile of 512 tokens: what the kernel's values are at an index. -/
module

public import proofs.«01_k».proof.Proof.Gen.MixAFwdIdeal.Skeleton
public import Idealize.ShloMosaic.Lib.Pointwise
public import proofs.«01_k».proof.Proof.Attn

@[expose] public section

set_option maxRecDepth 16384

noncomputable section

namespace Cert.MixFTile

open Cert.MixAFwdIdeal Cert.MixAFwdIdeal.Gen Idealize.ShloMosaic Idealize.ShloMosaic.TcCoe Idealize.SL.Sem
open Cert.Attn

/-- A column's head as the kernel counts it. -/
theorem head_word : ∀ j : Fin 256, k0_pay9 (ix2 0 j) = BitVec.ofNat 32 (j.val / 64) := by
  intro j
  pointwise [k0_pay9]
  revert j; decide +kernel

/-- Choosing by a column's head. -/
theorem select_head (h : Fin 4) (j : Fin 256) (a b : EReal) :
    Scalar.select (IntOp.cmpi CmpIPredicate.eq (k0_pay9 (ix2 0 j)) (BitVec.ofNat 32 h.val)) a b = if head j = h then a else b := by
  have : IntOp.cmpi CmpIPredicate.eq (k0_pay9 (ix2 0 j)) (BitVec.ofNat 32 h.val) = if head j = h then 1#1 else 0#1 := by
    rw [head_word]; revert j h; decide +kernel
  rw [this]; split <;> rfl

/-- A tile's memory queries of token `r`. -/
def q (p : Vec Ideal S512x2560 .bf16) (r : Fin 512) (j : Fin 256) : EReal := p (ix2 r ⟨2304 + j.val, by omega⟩)

/-- The memory's keys. -/
def keys (kv : Vec Ideal S256x512 .bf16) (m j : Fin 256) : EReal := kv (ix2 m ⟨j.val, by omega⟩)

/-- The memory's values. -/
def vals (kv : Vec Ideal S256x512 .bf16) (m j : Fin 256) : EReal := kv (ix2 m ⟨256 + j.val, by omega⟩)

/-- The tile's scores of head `h` at token `r`. -/
def sc (h : Fin 4) (p : Vec Ideal S512x2560 .bf16) (kv : Vec Ideal S256x512 .bf16) (r : Fin 512) : Fin 256 → EReal := kscore h (q p r) (keys kv)

/-- The queries. -/
theorem q_at (p : Vec Ideal S512x2560 .bf16) (r : Fin 512) (j : Fin 256) : k0_pay7 (F := Ideal) p (ix2 r j) = q p r j := by
  pointwise [k0_pay7]; rfl
/-- The values. -/
theorem vals_at (kv : Vec Ideal S256x512 .bf16) (m j : Fin 256) : k0_pay8 (F := Ideal) kv (ix2 m j) = vals kv m j := by
  pointwise [k0_pay8]; rfl
/-- The scaled keys. -/
theorem scaled_at (kv : Vec Ideal S256x512 .bf16) (m j : Fin 256) : k0_pay10 (F := Ideal) kv (ix2 m j) = keys kv m j * eighth := by
  pointwise [k0_pay10]; rw [eighth_short]; rfl
/-- A kept term times a factor. -/
theorem keep_left (h : Fin 4) (f : Fin 256 → EReal) (g : EReal) (j : Fin 256) : (if head j = h then f j * g else 0) = keep h f j * g := by
  unfold keep; split
  · rfl
  · exact (zero_mul g).symm

/-- The scores of head 0. -/
theorem s0_at (p : Vec Ideal S512x2560 .bf16) (kv : Vec Ideal S256x512 .bf16) (m : Fin 256) (r : Fin 512) :
    k0_pay11 (F := Ideal) p kv (ix2 m r) = sc 0 p kv r m := by
  pointwise [k0_pay11]; simp only [scaled_at, q_at]
  exact Finset.sum_congr rfl fun j _ => (select_head 0 j _ _).trans (keep_left 0 (fun j => keys kv m j * eighth) (q p r j) j)
/-- The scores of head 2. -/
theorem s2_at (p : Vec Ideal S512x2560 .bf16) (kv : Vec Ideal S256x512 .bf16) (m : Fin 256) (r : Fin 512) :
    k0_pay13 (F := Ideal) (k0_pay7 p) k0_pay9 (k0_pay10 kv) (ix2 m r) = sc 2 p kv r m := by
  pointwise [k0_pay13]; simp only [scaled_at, q_at]
  exact Finset.sum_congr rfl fun j _ => (select_head 2 j _ _).trans (keep_left 2 (fun j => keys kv m j * eighth) (q p r j) j)
/-- The scores of head 3. -/
theorem s3_at (p : Vec Ideal S512x2560 .bf16) (kv : Vec Ideal S256x512 .bf16) (m : Fin 256) (r : Fin 512) :
    k0_pay14 (F := Ideal) (k0_pay7 p) k0_pay9 (k0_pay10 kv) (ix2 m r) = sc 3 p kv r m := by
  pointwise [k0_pay14]; simp only [scaled_at, q_at]
  exact Finset.sum_congr rfl fun j _ => (select_head 3 j _ _).trans (keep_left 3 (fun j => keys kv m j * eighth) (q p r j) j)
/-- The weights of head 0, from its scores. -/
theorem w0_at (s : FVec Ideal S256x512 .f32) (m : Fin 256) (r : Fin 512) :
    k0_pay15 (F := Ideal) s (ix2 m r) = kprob (fun m => s (ix2 m r)) m := by
  pointwise [k0_pay15]; rfl
/-- A term of head 1's scores. -/
theorem term1 (p : Vec Ideal S512x2560 .bf16) (kv : Vec Ideal S256x512 .bf16) (m : Fin 256) (r : Fin 512) :
    (∑ j, Scalar.select (IntOp.cmpi CmpIPredicate.eq (k0_pay9 (ix2 0 j)) 1#32) (keys kv m j * eighth * q p r j) 0 : EReal) = sc 1 p kv r m :=
  Finset.sum_congr rfl fun j _ => (select_head 1 j _ _).trans (keep_left 1 (fun j => keys kv m j * eighth) (q p r j) j)
/-- The weights of head 1. -/
theorem w1_at (p : Vec Ideal S512x2560 .bf16) (kv : Vec Ideal S256x512 .bf16) (m : Fin 256) (r : Fin 512) :
    k0_pay16 (F := Ideal) (k0_pay7 p) (k0_pay10 kv) k0_pay12 (ix2 m r) = kprob (sc 1 p kv r) m := by
  pointwise [k0_pay16, k0_pay12]; simp only [scaled_at, q_at, term1]; rfl
/-- The greatest score of head 2. -/
theorem top2_at (p : Vec Ideal S512x2560 .bf16) (kv : Vec Ideal S256x512 .bf16) (r : Fin 512) :
    k0_pay17 (F := Ideal) (k0_pay7 p) k0_pay9 (k0_pay10 kv) (ix2 0 r) = top (sc 2 p kv r) := by
  pointwise [k0_pay17]; simp only [s2_at]; rfl
/-- The weights of head 3, from its scores. -/
theorem w3_at (s : FVec Ideal S256x512 .f32) (m : Fin 256) (r : Fin 512) :
    k0_pay18 (F := Ideal) s (ix2 m r) = kprob (fun m => s (ix2 m r)) m := by
  pointwise [k0_pay18]; rfl

/-- A term kept for one head's columns. -/
theorem sum_if {ι : Type} [Fintype ι] (h : Fin 4) (a : ι → EReal) (f : ι → Fin 256 → EReal) (j : Fin 256) :
    ∑ m, a m * keep h (f m) j = if head j = h then ∑ m, a m * f m j else 0 := by
  unfold keep; split
  · rfl
  · exact Finset.sum_eq_zero fun m _ => mul_zero _

/-- A kept term after a factor. -/
theorem keep_right (h : Fin 4) (a : EReal) (f : Fin 256 → EReal) (j : Fin 256) : (if head j = h then a * f j else 0) = a * keep h f j := by
  unfold keep; split
  · rfl
  · exact (mul_zero a).symm

/-- The output of head 0. -/
theorem o0_at (kv : Vec Ideal S256x512 .bf16) (w : FVec Ideal S256x512 .bf16) (r : Fin 512) (j : Fin 256) :
    k0_pay19 (F := Ideal) (k0_pay8 kv) k0_pay9 w (ix2 r j) = if head j = 0 then ∑ m, w (ix2 m r) * vals kv m j else 0 := by
  rw [← sum_if 0 (fun m => w (ix2 m r)) (vals kv) j]
  pointwise [k0_pay19]; simp only [vals_at]
  exact Finset.sum_congr rfl fun m _ => (select_head 0 j _ _).trans (keep_right 0 (w (ix2 m r)) (vals kv m) j)
/-- The output of head 1. -/
theorem o1_at (kv : Vec Ideal S256x512 .bf16) (w : FVec Ideal S256x512 .bf16) (r : Fin 512) (j : Fin 256) :
    k0_pay20 (F := Ideal) (k0_pay8 kv) k0_pay9 w (ix2 r j) = if head j = 1 then ∑ m, w (ix2 m r) * vals kv m j else 0 := by
  rw [← sum_if 1 (fun m => w (ix2 m r)) (vals kv) j]
  pointwise [k0_pay20]; simp only [vals_at]
  exact Finset.sum_congr rfl fun m _ => (select_head 1 j _ _).trans (keep_right 1 (w (ix2 m r)) (vals kv m) j)
/-- The output of head 2, from its scores and the greatest of them. -/
theorem o2_at (kv : Vec Ideal S256x512 .bf16) (s : FVec Ideal S256x512 .f32) (t : FVec Ideal S1x512 .f32) (r : Fin 512) (ht : t (ix2 0 r) = top (fun m => s (ix2 m r))) (j : Fin 256) :
    k0_pay21 (F := Ideal) (k0_pay8 kv) k0_pay9 s t (ix2 r j) = if head j = 2 then ∑ m, kprob (fun m => s (ix2 m r)) m * vals kv m j else 0 := by
  rw [← sum_if 2 (kprob fun m => s (ix2 m r)) (vals kv) j]
  pointwise [k0_pay21]; simp only [vals_at, ht]
  exact Finset.sum_congr rfl fun m _ => (select_head 2 j _ _).trans (keep_right 2 (kprob (fun m => s (ix2 m r)) m) (vals kv m) j)

/-- Rows below one among the first eight. -/
theorem below1 : ∀ n : Fin 8, IntOp.cmpi CmpIPredicate.slt (BitVec.ofNat 32 n.val) 1#32 = if n.val < 1 then 1#1 else 0#1 := by decide +kernel
/-- Rows below two among the first eight. -/
theorem below2 : ∀ n : Fin 8, IntOp.cmpi CmpIPredicate.slt (BitVec.ofNat 32 n.val) 2#32 = if n.val < 2 then 1#1 else 0#1 := by decide +kernel
/-- The first tile among all. -/
theorem first : ∀ n : Fin 32, Scalar.cmpi CmpIPredicate.eq (BitVec.ofNat 32 n.val) 0#32 = if n.val = 0 then 1#1 else 0#1 := by decide +kernel

/-- The convolved value of row `r`: the gate times the input. -/
def v (p : Vec Ideal S512x2560 .bf16) (r : Fin 512) (l : Fin 768) : EReal := p (ix2 r ⟨1536 + l.val, by omega⟩) * p (ix2 r ⟨l.val, by omega⟩)

/-- The same from the sixteen rows before the tile, zero before the first tile. -/
def vBefore (n : ℕ) (ph : Vec Ideal S16x2560 .bf16) (r : Fin 16) (l : Fin 768) : EReal :=
  if n = 0 then 0 else ph (ix2 r ⟨1536 + l.val, by omega⟩) * ph (ix2 r ⟨l.val, by omega⟩)

/-- The convolved value `k` rows earlier. -/
def down (k : ℕ) (hk : k ≤ 16) (n : ℕ) (p : Vec Ideal S512x2560 .bf16) (ph : Vec Ideal S16x2560 .bf16) (r : Fin 512) (l : Fin 768) : EReal :=
  if h : k ≤ r.val then v p ⟨r.val - k, by omega⟩ l else vBefore n ph ⟨16 + r.val - k, by omega⟩ l

/-- The convolved values. -/
theorem v_at (p : Vec Ideal S512x2560 .bf16) (r : Fin 512) (l : Fin 768) : k0_pay4 (F := Ideal) p (ix2 r l) = v p r l := by
  pointwise [k0_pay4]; rfl

/-- A choice by a true bit. -/
theorem select_one (a b : EReal) : Scalar.select 1#1 a b = a := rfl
/-- A choice by a false bit. -/
theorem select_zero (a b : EReal) : Scalar.select 0#1 a b = b := rfl

/-- The convolved value `k` rows earlier, as the kernel picks it from the turned tile and from the turned rows before it. -/
theorem turned (k : ℕ) (h0 : 0 < k) (hk : k ≤ 8) (n : ℕ) (p : Vec Ideal S512x2560 .bf16) (ph : Vec Ideal S16x2560 .bf16) (r : Fin 512) (l : Fin 768) (a b : BitVec 1)
    (ha : r.val < 8 → a = if r.val < k then 1#1 else 0#1) (hb : b = if n = 0 then 1#1 else 0#1) :
    (if h : r.val < 8 then
        Scalar.select a (Scalar.select b (0 : EReal) (ph (ix2 ⟨(r.val + 16 - k) % 16, by omega⟩ ⟨1536 + l.val, by omega⟩) * ph (ix2 ⟨(r.val + 16 - k) % 16, by omega⟩ ⟨l.val, by omega⟩)))
          (v p ⟨(r.val + 512 - k) % 512, by omega⟩ l)
      else v p ⟨(8 + (r.val - 8) + 512 - k) % 512, by omega⟩ l) = down k (by omega) n p ph r l := by
  unfold down
  by_cases h8 : r.val < 8
  · rw [dif_pos h8, ha h8]
    by_cases h1 : k ≤ r.val
    · rw [dif_pos h1, if_neg (by omega), select_zero]
      exact congrArg (fun a => v p a l) (Fin.ext (by show (r.val + 512 - k) % 512 = r.val - k; omega))
    · rw [dif_neg h1, if_pos (by omega), select_one, hb]
      unfold vBefore
      by_cases hn : n = 0
      · rw [if_pos hn, if_pos hn, select_one]
      · rw [if_neg hn, if_neg hn, select_zero]
        exact congrArg (fun a : Fin 16 => ph (ix2 a ⟨1536 + l.val, by omega⟩) * ph (ix2 a ⟨l.val, by omega⟩)) (Fin.ext (by show (r.val + 16 - k) % 16 = 16 + r.val - k; omega))
  · rw [dif_neg h8, dif_pos (by omega)]
    exact congrArg (fun a => v p a l) (Fin.ext (by show (8 + (r.val - 8) + 512 - k) % 512 = r.val - k; omega))

/-- The two earlier rows' part of the convolution. -/
theorem conv2_at (i : grid0.Coords) (p : Vec Ideal S512x2560 .bf16) (ph : Vec Ideal S16x2560 .bf16) (w : Vec Ideal S3x768 .f32) (r : Fin 512) (l : Fin 768) :
    k0_pay5 (F := Ideal) i p ph w (ix2 r l)
      = w (ix2 0 l) * down 2 (by omega) (i 0).val p ph r l + w (ix2 1 l) * down 1 (by omega) (i 0).val p ph r l := by
  pointwise [k0_pay5]
  simp only [v_at]
  exact congrArg₂ (· + ·)
    (congrArg (w (ix2 0 l) * ·) (turned 2 (by omega) (by omega) (i 0).val p ph r l (IntOp.cmpi CmpIPredicate.slt (BitVec.ofNat 32 r.val) 2#32) (Scalar.cmpi CmpIPredicate.eq (BitVec.ofNat 32 (i 0).val) 0#32) (fun h => below2 ⟨r.val, h⟩) (first ⟨(i 0).val, (i 0).isLt⟩)))
    (congrArg (w (ix2 1 l) * ·) (turned 1 (by omega) (by omega) (i 0).val p ph r l (IntOp.cmpi CmpIPredicate.slt (BitVec.ofNat 32 r.val) 1#32) (Scalar.cmpi CmpIPredicate.eq (BitVec.ofNat 32 (i 0).val) 0#32) (fun h => below1 ⟨r.val, h⟩) (first ⟨(i 0).val, (i 0).isLt⟩)))

/-- The gated convolution. -/
def tok (n : ℕ) (p : Vec Ideal S512x2560 .bf16) (ph : Vec Ideal S16x2560 .bf16) (w : Vec Ideal S3x768 .f32) (r : Fin 512) (l : Fin 768) : EReal :=
  p (ix2 r ⟨768 + l.val, by omega⟩)
    * (w (ix2 0 l) * down 2 (by omega) n p ph r l + w (ix2 1 l) * down 1 (by omega) n p ph r l + w (ix2 2 l) * v p r l)

/-- The kernel's gated convolution. -/
theorem tok_at (i : grid0.Coords) (p : Vec Ideal S512x2560 .bf16) (ph : Vec Ideal S16x2560 .bf16) (w : Vec Ideal S3x768 .f32) (r : Fin 512) (l : Fin 768) :
    k0_pay6 (F := Ideal) w (k0_pay3 p) (k0_pay4 p) (k0_pay5 i p ph w) (ix2 r l) = tok (i 0).val p ph w r l := by
  pointwise [k0_pay6, k0_pay3]
  simp only [v_at, conv2_at]; rfl

/-- The memory's output at a column. -/
def mem (p : Vec Ideal S512x2560 .bf16) (kv : Vec Ideal S256x512 .bf16) (r : Fin 512) (j : Fin 256) : EReal :=
  ∑ m, kprob (sc (head j) p kv r) m * vals kv m j

/-- The stored tile of both parts beside one another. -/
def cat (i : grid0.Coords) (p : Vec Ideal S512x2560 .bf16) (ph : Vec Ideal S16x2560 .bf16) (w : Vec Ideal S3x768 .f32) (kv : Vec Ideal S256x512 .bf16) : FVec Ideal S512x1024 .bf16 :=
  k0_pay1 (F := Ideal) (k0_pay6 w (k0_pay3 p) (k0_pay4 p) (k0_pay5 i p ph w)) (k0_pay8 kv) (k0_pay18 (k0_pay14 (k0_pay7 p) k0_pay9 (k0_pay10 kv)))
    (k0_pay19 (k0_pay8 kv) k0_pay9 (k0_pay15 (k0_pay11 p kv)))
    (k0_pay20 (k0_pay8 kv) k0_pay9 (k0_pay16 (k0_pay7 p) (k0_pay10 kv) k0_pay12))
    (k0_pay21 (k0_pay8 kv) k0_pay9 (k0_pay13 (k0_pay7 p) k0_pay9 (k0_pay10 kv)) (k0_pay17 (k0_pay7 p) k0_pay9 (k0_pay10 kv)))
    (k0_pay22 k0_pay9)

/-- The output of head 3 at a column. -/
theorem term3 (kv : Vec Ideal S256x512 .bf16) (w : Fin 256 → EReal) (j : Fin 256) :
    (∑ m, Scalar.select (IntOp.cmpi CmpIPredicate.eq (k0_pay9 (ix2 0 j)) 3#32) (w m * vals kv m j) 0 : EReal) = if head j = 3 then ∑ m, w m * vals kv m j else 0 := by
  rw [← sum_if 3 w (vals kv) j]
  exact Finset.sum_congr rfl fun m _ => (select_head 3 j _ _).trans (keep_right 3 (w m) (vals kv m) j)

/-- An entry of the stored tile. -/
theorem cat_at (i : grid0.Coords) (p : Vec Ideal S512x2560 .bf16) (ph : Vec Ideal S16x2560 .bf16) (w : Vec Ideal S3x768 .f32) (kv : Vec Ideal S256x512 .bf16) (r : Fin 512) (l : Fin 1024) :
    cat i p ph w kv (ix2 r l) = if h : l.val < 768 then tok (i 0).val p ph w r ⟨l.val, h⟩ else mem p kv r ⟨l.val - 768, by omega⟩ := by
  unfold cat
  pointwise [k0_pay1, k0_pay22]
  by_cases h : l.val < 768
  · rw [dif_pos h, dif_pos h]; exact tok_at i p ph w r ⟨l.val, h⟩
  · rw [dif_neg h, dif_neg h]
    simp only [vals_at, o0_at, o1_at, o2_at kv _ _ r ((top2_at p kv r).trans (congrArg top (funext fun m => (s2_at p kv m r).symm))), w0_at, w1_at, w3_at, s0_at, s2_at, s3_at]
    refine Eq.trans ?_ (pick ⟨l.val - 768, by omega⟩ fun h => ∑ m, kprob (sc h p kv r) m * vals kv m ⟨l.val - 768, by omega⟩)
    refine congrArg₂ (· + ·) rfl (congrArg₂ (· + ·) rfl ?_)
    exact term3 kv (kprob (sc 3 p kv r)) ⟨l.val - 768, by omega⟩

/-- The kernel's result tile. -/
theorem out_at (x : Vec Ideal S512x1024 .f32) (c : FVec Ideal S512x768 .bf16) (a : FVec Ideal S256x256 .bf16) (w3 : FVec Ideal S256x512 .bf16) (o0 o1 o2 : FVec Ideal S512x256 .f32) (s : IVec S1x256 1) (wo : Vec Ideal S1024x1024 .bf16) (r : Fin 512) (l : Fin 1024) :
    k0_pay2 (F := Ideal) c a w3 o0 o1 o2 s x wo (ix2 r l) = x (ix2 r l) + ∑ k, k0_pay1 (F := Ideal) c a w3 o0 o1 o2 s (ix2 r k) * wo (ix2 k l) := by
  pointwise [k0_pay2]

end Cert.MixFTile

end
-- ==== Proof.MixFRef.lean ====
/- The first mixer's forward call: what the reference's stages are at an index. -/
module

public import proofs.«01_k».proof.Proof.Gen.MixAFwdRefIdeal.Read
public import Idealize.ShloMosaic.Lib.Pointwise
public import proofs.«01_k».proof.Proof.Attn

@[expose] public section

set_option maxRecDepth 16384

noncomputable section

namespace Cert.MixFRef

open Cert.MixAFwdRefIdeal Cert.MixAFwdRefIdeal.Gen Idealize.ShloMosaic Idealize.ShloMosaic.TcCoe Idealize.SL.Sem
open Cert.Attn

variable (X : Vec Ideal S16384x1024 .f32) (P : Vec Ideal S16384x2560 .bf16) (W : Vec Ideal S3x768 .f32) (M : Vec Ideal S256x2048 .bf16) (O : Vec Ideal S1024x1024 .bf16)

/-- The memory queries of token `R`. -/
def q (R : Fin 16384) (j : Fin 256) : EReal := P (ix2 R ⟨2304 + j.val, by omega⟩)

/-- The memory's keys. -/
def keys (m j : Fin 256) : EReal := M (ix2 m ⟨512 + j.val, by omega⟩)

/-- The memory's values. -/
def vals (m j : Fin 256) : EReal := M (ix2 m ⟨512 + (256 + j.val), by omega⟩)

/-- The scores of head `h` at token `R`. -/
def sc (h : Fin 4) (R : Fin 16384) : Fin 256 → EReal := score h (q P R) (keys M)

/-- The scores. -/
theorem score_ref (h : Fin 4) (R : Fin 16384) (m : Fin 256) :
    Read.val_main_v38 (F := Ideal) P M (ix3 h R m) = sc P M h R m := by
  pointwise [Read.val_main_v38, Read.val_main_v37, Read.val_main_cst_0, Read.val_main_v36, Read.val_main_v34, Read.val_main_v33, Read.val_main_v31, Read.val_main_v6, Read.val_main_v2, Read.val_main_v1, Read.val_main_v0]; rfl

/-- A host maximum over the last of three axes. -/
theorem host_max {a b n : ℕ} {u : Shape} (x : FVec Ideal ⟨3, ![a, b, n]⟩ .f32) (init : u.Idx → EReal) (h' : (⟨3, ![a, b, n]⟩ : Shape).ReducesTo [2] ⟨2, ![a, b]⟩)
    (h : (⟨3, ![a, b, n]⟩ : Shape).Reduces [2] ⟨2, ![a, b]⟩) (hu : 0 < u.numel) (i : Fin a) (j : Fin b) :
    Host.reduce (FloatOps.maximumf (F := Ideal) (φ := .f32)) x init h' hu (ix2 i j) = Finset.fold max (init (Shape.Idx.first hu)) (fun k : Fin n => x (ix3 i j k)) Finset.univ := by
  refine (Host.reduce_eq_fold_single (FloatOps.maximumf (F := Ideal) (φ := .f32)) x init h' h hu (ix2 i j)).trans ?_
  have e : x ∘ h.lift (ix2 i j) = fun k : Fin n => x (ix3 i j k) := funext fun k => congrArg x (funext fun d => Fin.ext (by
    match d with
    | ⟨0, _⟩ => rfl
    | ⟨1, _⟩ => rfl
    | ⟨2, _⟩ => rfl))
  rw [e]
  rfl

/-- The greatest score before it is held above the least. -/
theorem top_ref0 (h : Fin 4) (R : Fin 16384) :
    Read.val_main_v39 (F := Ideal) P M (ix2 h R) = top (sc P M h R) := by
  unfold Read.val_main_v39
  refine (host_max (Read.val_main_v38 (F := Ideal) P M) _ _ (by decide) _ h R).trans ?_
  simp only [score_ref]; rfl

/-- The greatest score. -/
theorem top_ref (h : Fin 4) (R : Fin 16384) :
    Read.val_main_v41 (F := Ideal) P M (ix2 h R) = top (sc P M h R) := by
  have e : Read.val_main_v40 (F := Ideal) (ix2 h R) = (⊥ : EReal) := by
    rw [Read.val_main_v40_apply]; exact bits_bot
  have f : ∀ a b : EReal, a = ⊥ → max a b = b := fun a b h => by rw [h]; exact max_eq_right bot_le
  rw [Read.val_main_v41_apply, top_ref0]
  exact f _ _ e

/-- The weights before they are normalised. -/
theorem ex_ref (h : Fin 4) (R : Fin 16384) (m : Fin 256) :
    Read.val_main_v45 (F := Ideal) P M (ix3 h R m) = ex (sc P M h R) m := by
  pointwise [Read.val_main_v45, Read.val_main_v44, Read.val_main_v43, Read.val_main_v42]
  rw [score_ref, top_ref]; rfl

/-- Their sum. -/
theorem tot_ref (h : Fin 4) (R : Fin 16384) :
    Read.val_main_v46 (F := Ideal) P M (ix2 h R) = tot (sc P M h R) := by
  pointwise [Read.val_main_v46, Read.val_main_cst_3]
  simp only [ex_ref]; rfl

/-- The normalised weights. -/
theorem prob_ref (h : Fin 4) (R : Fin 16384) (m : Fin 256) :
    Read.val_main_v49 (F := Ideal) P M (ix3 h R m) = prob (sc P M h R) m := by
  pointwise [Read.val_main_v49, Read.val_main_v48, Read.val_main_v47]
  rw [ex_ref, tot_ref]; rfl

/-- The memory's output at a column. -/
def mem (R : Fin 16384) (j : Fin 256) : EReal := ∑ m, vals M m j * prob (sc P M (head j) R) m

/-- The reference's output of the memory. -/
theorem mem_ref (R : Fin 16384) (j : Fin 256) :
    Read.val_main_v52 (F := Ideal) P M (ix2 R j) = mem P M R j := by
  pointwise [Read.val_main_v52, Read.val_main_v51, Read.val_main_v50, Read.val_main_v35, Read.val_main_v32, Read.val_main_v1, Read.val_main_v0]
  exact Finset.sum_congr rfl fun m _ => congrArg (vals M m j * ·) (prob_ref P M (head j) R m)

/-- The convolved value of row `R`: the gate times the input. -/
def v (R : Fin 16384) (l : Fin 768) : EReal := P (ix2 R ⟨1536 + l.val, by omega⟩) * P (ix2 R ⟨l.val, by omega⟩)

/-- The convolved value `k` rows earlier, zero before the first row. -/
def down (k : ℕ) (R : Fin 16384) (l : Fin 768) : EReal := if R.val < k then 0 else v P ⟨R.val - k, by omega⟩ l

/-- The convolved values. -/
theorem v_ref (R : Fin 16384) (l : Fin 768) :
    Read.val_main_v25 (F := Ideal) P (ix2 R l) = v P R l := by
  pointwise [Read.val_main_v25, Read.val_main_v9, Read.val_main_v8, Read.val_main_v7, Read.val_main_v5, Read.val_main_v3, Read.val_main_v2, Read.val_main_cst]
  rfl

/-- The convolved values one row earlier. -/
theorem down1_ref (R : Fin 16384) (l : Fin 768) :
    Read.val_main_v18 (F := Ideal) P (ix2 R l) = down P 1 R l := by
  pointwise [Read.val_main_v18, Read.val_main_v9, Read.val_main_v8, Read.val_main_v7, Read.val_main_v5, Read.val_main_v3, Read.val_main_v2, Read.val_main_cst]
  unfold down
  by_cases h : R.val < 1
  · rw [dif_pos (by omega), if_pos h]
  · rw [dif_neg (by omega), if_neg h]
    exact congrArg (fun a => v P a l) (Fin.ext (by show 1 + R.val - 2 = R.val - 1; omega))

/-- The convolved values two rows earlier. -/
theorem down2_ref (R : Fin 16384) (l : Fin 768) :
    Read.val_main_v12 (F := Ideal) P (ix2 R l) = down P 2 R l := by
  pointwise [Read.val_main_v12, Read.val_main_v9, Read.val_main_v8, Read.val_main_v7, Read.val_main_v5, Read.val_main_v3, Read.val_main_v2, Read.val_main_cst]
  unfold down
  by_cases h : R.val < 2
  · rw [dif_pos (by omega), if_pos h]
  · rw [dif_neg (by omega), if_neg h]
    exact congrArg (fun a => v P a l) (Fin.ext (by show R.val - 2 = R.val - 2; omega))

/-- The gated convolution. -/
def tok (R : Fin 16384) (l : Fin 768) : EReal :=
  P (ix2 R ⟨768 + l.val, by omega⟩) * (W (ix2 0 l) * down P 2 R l + W (ix2 1 l) * down P 1 R l + W (ix2 2 l) * v P R l)

/-- The reference's gated convolution. -/
theorem tok_ref (R : Fin 16384) (l : Fin 768) :
    Read.val_main_v30 (F := Ideal) P W (ix2 R l) = tok P W R l := by
  pointwise [Read.val_main_v30, Read.val_main_v29, Read.val_main_v28, Read.val_main_v27, Read.val_main_v26, Read.val_main_v24, Read.val_main_v23, Read.val_main_v22, Read.val_main_v21, Read.val_main_v20, Read.val_main_v19, Read.val_main_v17, Read.val_main_v16, Read.val_main_v15, Read.val_main_v14, Read.val_main_v13, Read.val_main_v11, Read.val_main_v10, Read.val_main_v4, Read.val_main_v2]
  simp only [v_ref, down1_ref, down2_ref]; rfl

/-- Both parts beside one another. -/
def cat (R : Fin 16384) (l : Fin 1024) : EReal :=
  if h : l.val < 768 then tok P W R ⟨l.val, h⟩ else mem P M R ⟨l.val - 768, by omega⟩

/-- The reference's two parts. -/
theorem cat_ref (R : Fin 16384) (l : Fin 1024) :
    Read.val_main_v53 (F := Ideal) P W M (ix2 R l) = cat P W M R l := by
  pointwise [Read.val_main_v53]
  simp only [tok_ref, mem_ref]; rfl

/-- The same as they are stored. -/
theorem stored_ref (R : Fin 16384) (l : Fin 1024) :
    Read.val_main_v57 (F := Ideal) P W M (ix2 R l) = cat P W M R l := by
  pointwise [Read.val_main_v57]
  exact cat_ref P W M R l

/-- The reference's result. -/
theorem out_ref (R : Fin 16384) (l : Fin 1024) :
    Read.val_main_v56 (F := Ideal) X P W M O (ix2 R l) = X (ix2 R l) + ∑ k, cat P W M R k * O (ix2 k l) := by
  pointwise [Read.val_main_v56, Read.val_main_v55, Read.val_main_v54]
  simp only [cat_ref]

end Cert.MixFRef

end
-- ==== Proof.MixAFwd.lean ====
/- The first mixer's forward call: the short convolution and the attention over the memory, and the residual with their
   output product, over all 32 tiles. -/
module

public import proofs.«01_k».proof.Proof.Gen.MixAFwdIdeal.Value
public import proofs.«01_k».proof.Proof.Gen.MixAFwdRefIdeal.Read
public import Idealize.ShloMosaic.Lib.Pipeline.ValueKit.Tiles
public import Idealize.ShloMosaic.Lib.Pipeline.ValueKit.Geometry
public import Idealize.ShloMosaic.Lib.Pipeline.Value
public import Idealize.ShloMosaic.Lib.Pointwise
public import Idealize.ShloMosaic.Lib.Pipeline.ReadBack
public import proofs.«01_k».proof.Proof.Gen.Pre_finite17
public import proofs.«01_k».proof.Proof.Finite
public import proofs.«01_k».proof.Proof.Attn
public import proofs.«01_k».proof.Proof.MixFTile
public import proofs.«01_k».proof.Proof.MixFRef
public import proofs.«01_k».proof.Defs

@[expose] public section

set_option maxRecDepth 16384

noncomputable section

namespace Cert.MixAFwdProof

open Cert.MixAFwdIdeal Cert.MixAFwdIdeal.Gen Idealize.ShloMosaic Idealize.ShloMosaic.TcCoe Idealize.SL.Sem
open Idealize.ShloMosaic.Pipeline (Dat)
open Cert.Attn Cert.Finite

variable (m : (ℓ : Loc nD τ sig) → Buf (Elt Ideal) ℓ)

/-- The input's tile, by its block's place. -/
theorem in0 : ∀ t : Fin cfg0.N, win0_0.index t = ![t.val, 0] := (by decide +kernel : ∀ t : Fin grid0.N, _)
/-- The projection's tile, by its block's place. -/
theorem in1 : ∀ t : Fin cfg0.N, win0_1.index t = ![t.val, 0] := (by decide +kernel : ∀ t : Fin grid0.N, _)
/-- The sixteen rows before the tile, by its block's place. -/
theorem in2 : ∀ t : Fin cfg0.N, win0_2.index t = ![if t.val = 0 then 0 else 32 * t.val - 1, 0] := (by decide +kernel : ∀ t : Fin grid0.N, _)
/-- The convolution's weights, by its block's place. -/
theorem in3 : ∀ t : Fin cfg0.N, win0_3.index t = ![0, 0] := (by decide +kernel : ∀ t : Fin grid0.N, _)
/-- The layer's keys and values, by its block's place. -/
theorem in4 : ∀ t : Fin cfg0.N, win0_4.index t = ![0, 1] := (by decide +kernel : ∀ t : Fin grid0.N, _)
/-- The output matrix, by its block's place. -/
theorem in5 : ∀ t : Fin cfg0.N, win0_5.index t = ![0, 0] := (by decide +kernel : ∀ t : Fin grid0.N, _)
/-- The result's tile, by its block's place. -/
theorem out6 : ∀ t : Fin cfg0.N, win0_6.index t = ![t.val, 0] := (by decide +kernel : ∀ t : Fin grid0.N, _)
/-- The stored parts' tile, by its block's place. -/
theorem out7 : ∀ t : Fin cfg0.N, win0_7.index t = ![t.val, 0] := (by decide +kernel : ∀ t : Fin grid0.N, _)
/-- Point `t` has coordinate `t`. -/
theorem coord : ∀ t : Fin cfg0.N, (grid0.coords t 0).val = t.val := (by decide +kernel : ∀ t : Fin grid0.N, _)

/-- There are 32 points. -/
theorem point_lt (t : Fin cfg0.N) : t.val < 32 := lt_of_lt_of_eq t.isLt N_0

/-- Row `r` of the tile at point `t`. -/
def row (t : Fin cfg0.N) (r : Fin 512) : Fin 16384 := ⟨t.val * 512 + r.val, by have := point_lt t; omega⟩

/-- Row `r` of the sixteen before the tile. -/
def rowBefore (t : Fin cfg0.N) (ht : t.val ≠ 0) (r : Fin 16) : Fin 16384 := ⟨t.val * 512 + r.val - 16, by have := point_lt t; omega⟩

/-- The layer's input. -/
abbrev aX (c : Dev nD) : Vec Ideal S16384x1024 .f32 := m ((c : Thread nD τ).loc main_arg0)
/-- The projection. -/
abbrev aP (c : Dev nD) : Vec Ideal S16384x2560 .bf16 := m ((c : Thread nD τ).loc main_arg1)
/-- The convolution's weights. -/
abbrev aW (c : Dev nD) : Vec Ideal S3x768 .f32 := m ((c : Thread nD τ).loc main_arg2)
/-- The memory. -/
abbrev aM (c : Dev nD) : Vec Ideal S256x2048 .bf16 := m ((c : Thread nD τ).loc main_arg3)
/-- The output matrix. -/
abbrev aO (c : Dev nD) : Vec Ideal S1024x1024 .bf16 := m ((c : Thread nD τ).loc main_arg4)

/-- The tile of the input. -/
abbrev bX (c : Dev nD) (t : Fin cfg0.N) : Vec Ideal S512x1024 .f32 := iblk m c 0 t
/-- The tile of the projection. -/
abbrev bP (c : Dev nD) (t : Fin cfg0.N) : Vec Ideal S512x2560 .bf16 := iblk m c 1 t
/-- The rows of the projection before the tile. -/
abbrev bPh (c : Dev nD) (t : Fin cfg0.N) : Vec Ideal S16x2560 .bf16 := iblk m c 2 t
/-- The convolution's weights. -/
abbrev bW (c : Dev nD) (t : Fin cfg0.N) : Vec Ideal S3x768 .f32 := iblk m c 3 t
/-- The layer's keys and values. -/
abbrev bM (c : Dev nD) (t : Fin cfg0.N) : Vec Ideal S256x512 .bf16 := iblk m c 4 t
/-- The output matrix. -/
abbrev bO (c : Dev nD) (t : Fin cfg0.N) : Vec Ideal S1024x1024 .bf16 := iblk m c 5 t

/-- An entry of the tile of the input. -/
theorem x_at (c : Dev nD) (t : Fin cfg0.N) (r : Fin 512) (k : Fin 1024) : bX m c t (ix2 r k) = aX m c (ix2 (row t r) k) := by
  unfold bX; blk_ext [iblk, V_main_arg0, in0 t, row]
/-- An entry of the tile of the projection. -/
theorem p_at (c : Dev nD) (t : Fin cfg0.N) (r : Fin 512) (k : Fin 2560) : bP m c t (ix2 r k) = aP m c (ix2 (row t r) k) := by
  unfold bP; blk_ext [iblk, V_main_arg1, in1 t, row]
/-- An entry of the projection before the tile. -/
theorem ph_at (c : Dev nD) (t : Fin cfg0.N) (ht : t.val ≠ 0) (r : Fin 16) (k : Fin 2560) : bPh m c t (ix2 r k) = aP m c (ix2 (rowBefore t ht r) k) := by
  unfold bPh; blk_ext [iblk, V_main_arg1, in2 t, rowBefore, if_neg ht]
/-- An entry of the convolution's weights. -/
theorem w_at (c : Dev nD) (t : Fin cfg0.N) (r : Fin 3) (k : Fin 768) : bW m c t (ix2 r k) = aW m c (ix2 r k) := by
  unfold bW; blk_ext [iblk, V_main_arg2, in3 t]
/-- An entry of the layer's keys and values. -/
theorem m_at (c : Dev nD) (t : Fin cfg0.N) (r : Fin 256) (k : Fin 512) : bM m c t (ix2 r k) = aM m c (ix2 r ⟨512 + k.val, by omega⟩) := by
  unfold bM; blk_ext [iblk, V_main_arg3, in4 t]
/-- An entry of the output matrix. -/
theorem o_at (c : Dev nD) (t : Fin cfg0.N) (r k : Fin 1024) : bO m c t (ix2 r k) = aO m c (ix2 r k) := by
  unfold bO; blk_ext [iblk, V_main_arg4, in5 t]

/-- A tile's convolved values. -/
theorem v_eq (c : Dev nD) (t : Fin cfg0.N) (r : Fin 512) (l : Fin 768) : MixFTile.v (bP m c t) r l = MixFRef.v (aP m c) (row t r) l := by
  unfold MixFTile.v MixFRef.v; rw [p_at, p_at]

/-- A tile's convolved values some rows earlier. -/
theorem down_eq (c : Dev nD) (t : Fin cfg0.N) (k : ℕ) (hk : k ≤ 16) (h0 : 0 < k) (r : Fin 512) (l : Fin 768) :
    MixFTile.down k hk (grid0.coords t 0).val (bP m c t) (bPh m c t) r l = MixFRef.down (aP m c) k (row t r) l := by
  rw [coord]
  unfold MixFTile.down MixFRef.down
  by_cases h : k ≤ r.val
  · rw [dif_pos h, if_neg (by show ¬ t.val * 512 + r.val < k; omega), v_eq]
    exact congrArg (fun a => MixFRef.v (aP m c) a l) (Fin.ext (by show t.val * 512 + (r.val - k) = t.val * 512 + r.val - k; omega))
  · rw [dif_neg h]
    unfold MixFTile.vBefore
    by_cases ht : t.val = 0
    · rw [if_pos ht, if_pos (by show t.val * 512 + r.val < k; omega)]
    · rw [if_neg ht, if_neg (by show ¬ t.val * 512 + r.val < k; omega), ph_at m c t ht, ph_at m c t ht]
      exact congrArg (fun a => MixFRef.v (aP m c) a l) (Fin.ext (by show t.val * 512 + (16 + r.val - k) - 16 = t.val * 512 + r.val - k; omega))

/-- A tile's gated convolution. -/
theorem tok_eq (c : Dev nD) (t : Fin cfg0.N) (r : Fin 512) (l : Fin 768) :
    MixFTile.tok (grid0.coords t 0).val (bP m c t) (bPh m c t) (bW m c t) r l = MixFRef.tok (aP m c) (aW m c) (row t r) l := by
  unfold MixFTile.tok MixFRef.tok
  rw [down_eq m c t 2 (by omega) (by omega), down_eq m c t 1 (by omega) (by omega), v_eq, p_at, w_at, w_at, w_at]

/-- A tile's queries. -/
theorem q_eq (c : Dev nD) (t : Fin cfg0.N) (r : Fin 512) : MixFTile.q (bP m c t) r = MixFRef.q (aP m c) (row t r) :=
  funext fun j => p_at m c t r _
/-- A tile's keys. -/
theorem keys_eq (c : Dev nD) (t : Fin cfg0.N) : MixFTile.keys (bM m c t) = MixFRef.keys (aM m c) :=
  funext fun i => funext fun j => m_at m c t i _
/-- A tile's values. -/
theorem vals_eq (c : Dev nD) (t : Fin cfg0.N) : MixFTile.vals (bM m c t) = MixFRef.vals (aM m c) :=
  funext fun i => funext fun j => m_at m c t i _

/-- Every entry the precondition tests, of the queries and of the keys, is a real number. -/
def Reals (c : Dev nD) : Prop := (∀ R j, IsReal (MixFRef.q (aP m c) R j)) ∧ ∀ i j, IsReal (MixFRef.keys (aM m c) i j)

variable {m} {c : Dev nD} (hr : Reals m c)
include hr

/-- The scores are real. -/
theorem sc_real (h : Fin 4) (R : Fin 16384) (i : Fin 256) : IsReal (MixFRef.sc (aP m c) (aM m c) h R i) :=
  score_real (hr.1 _) hr.2 i

/-- The kernel's scores are the reference's. -/
theorem sc_eq (t : Fin cfg0.N) (h : Fin 4) (r : Fin 512) : MixFTile.sc h (bP m c t) (bM m c t) r = MixFRef.sc (aP m c) (aM m c) h (row t r) := by
  unfold MixFTile.sc MixFRef.sc
  rw [q_eq, keys_eq]
  exact funext fun i => kscore_eq (hr.1 _) hr.2 i

/-- The kernel's output of the memory is the reference's. -/
theorem mem_eq (t : Fin cfg0.N) (r : Fin 512) (j : Fin 256) : MixFTile.mem (bP m c t) (bM m c t) r j = MixFRef.mem (aP m c) (aM m c) (row t r) j := by
  unfold MixFTile.mem MixFRef.mem
  refine Finset.sum_congr rfl fun i _ => ?_
  rw [sc_eq hr, vals_eq, kprob_eq (sc_real hr _ _), mul_comm]

/-- Both parts of a tile are the reference's. -/
theorem cat_eq (t : Fin cfg0.N) (r : Fin 512) (l : Fin 1024) :
    MixFTile.cat (grid0.coords t) (bP m c t) (bPh m c t) (bW m c t) (bM m c t) (ix2 r l) = MixFRef.cat (aP m c) (aW m c) (aM m c) (row t r) l := by
  rw [MixFTile.cat_at]
  unfold MixFRef.cat
  by_cases h : l.val < 768
  · rw [dif_pos h, dif_pos h, tok_eq]
  · rw [dif_neg h, dif_neg h, mem_eq hr]

omit hr
variable (m) (c)

/-- What the body stores of both parts. -/
theorem stored (t : Fin cfg0.N) : out0_7 (F := Ideal) (grid0.coords t) (iblk m c 0 t) (iblk m c 1 t) (iblk m c 2 t) (iblk m c 3 t) (iblk m c 4 t) (iblk m c 5 t)
    = MixFTile.cat (grid0.coords t) (bP m c t) (bPh m c t) (bW m c t) (bM m c t) := by
  unfold_out out0_7
  frame_out
  rfl

/-- What the body stores of the result. -/
theorem result (t : Fin cfg0.N) (r : Fin 512) (l : Fin 1024) :
    out0_6 (F := Ideal) (grid0.coords t) (iblk m c 0 t) (iblk m c 1 t) (iblk m c 2 t) (iblk m c 3 t) (iblk m c 4 t) (iblk m c 5 t) (ix2 r l)
    = bX m c t (ix2 r l) + ∑ k, MixFTile.cat (grid0.coords t) (bP m c t) (bPh m c t) (bW m c t) (bM m c t) (ix2 r k) * bO m c t (ix2 k l) := by
  unfold_out out0_6
  frame_out
  exact MixFTile.out_at (bX m c t) _ _ _ _ _ _ _ (bO m c t) r l

/-- The stored parts' array. -/
theorem cat_result (hr : Reals m c) : (dats m 0 c).arrAt 7 cfg0.N
    = Cert.MixAFwdRefIdeal.Read.val_main_v57 (F := Ideal) (aP m c) (aW m c) (aM m c) := by
  refine (dats m 0 c).arrAt_eq_of_covers 7 _ (by decide +kernel) fun t hf y => ?_
  obtain ⟨r, l, rfl⟩ : ∃ r l, y = ix2 r l := ⟨y 0, y 1, (ix2_eta y).symm⟩
  blk_simp
  have he : ((win0_7.blk t).view.emb (ix2 r l) : S16384x1024.Idx) = ix2 (row t r) l := by
    blk_ext [out7 t, row]
  rw [he, after0_7, MixFRef.stored_ref]
  exact (congrFun (stored m c t) (ix2 r l)).trans (cat_eq hr t r l)

/-- The result's array. -/
theorem out_result (hr : Reals m c) : (dats m 0 c).arrAt 6 cfg0.N
    = Cert.MixAFwdRefIdeal.Read.val_main_v56 (F := Ideal) (aX m c) (aP m c) (aW m c) (aM m c) (aO m c) := by
  refine (dats m 0 c).arrAt_eq_of_covers 6 _ (by decide +kernel) fun t hf y => ?_
  obtain ⟨r, l, rfl⟩ : ∃ r l, y = ix2 r l := ⟨y 0, y 1, (ix2_eta y).symm⟩
  blk_simp
  have he : ((win0_6.blk t).view.emb (ix2 r l) : S16384x1024.Idx) = ix2 (row t r) l := by
    blk_ext [out6 t, row]
  rw [he, after0_6, MixFRef.out_ref]
  refine (result m c t r l).trans (congrArg₂ (· + ·) (x_at m c t r l) (Finset.sum_congr rfl fun k _ => ?_))
  rw [cat_eq hr, o_at]

/-- The scalar shape has one index. -/
instance : Subsingleton Cert.Pre_finite17.S_.Idx := ⟨fun a b => funext fun d => d.elim0⟩

/-- The precondition says that the entries are real. -/
theorem reals (h : Cert.Pre_MixAFwdIdeal_finite17 m) (c : Dev nD) : Reals m c := by
  have e := congrFun (h c) (fun d => d.elim0)
  unfold Cert.Pre_finite17.fn  at e
  obtain ⟨e0, e1⟩ := both e
  have a := all_of_test (extractStridedSlice Cert.Pre_finite17.S16384x256 ![0, 2304] (aP m c) Cert.Pre_finite17.Gen.slices_S16384x2560_S16384x256_0_2304)
    _ _ _ _ _ (by intro i; rfl) e0
  have b := all_of_test (extractStridedSlice Cert.Pre_finite17.S256x256 ![0, 512] (aM m c) Cert.Pre_finite17.Gen.slices_S256x2048_S256x256_0_512)
    _ _ _ _ _ (by intro i; rfl) e1
  refine ⟨fun R j => ?_, fun i j => ?_⟩
  · have h := a (ix2 R j)
    rwa [show extractStridedSlice Cert.Pre_finite17.S16384x256 ![0, 2304] (aP m c) Cert.Pre_finite17.Gen.slices_S16384x2560_S16384x256_0_2304 (ix2 R j)
      = MixFRef.q (aP m c) R j from by pointwise []; rfl] at h
  · have h := b (ix2 i j)
    rwa [show extractStridedSlice Cert.Pre_finite17.S256x256 ![0, 512] (aM m c) Cert.Pre_finite17.Gen.slices_S256x2048_S256x256_0_512 (ix2 i j)
      = MixFRef.keys (aM m c) i j from by pointwise []; rfl] at h

/-- The kernel's run ends at the reference's two arrays, its arguments kept. -/
theorem kernel_run (hp : Cert.Pre_MixAFwdIdeal_finite17 m) (ρ : Dev nD → PrngReg) :
    θ_run defs (onTc (τ := τ) (main (F := Ideal))) ⟨m, fun _ => 0, ρ⟩ fun r => ∀ c : Dev nD,
      r.2.mem ((c : Thread nD τ).loc main_v0_0) = Cert.MixAFwdRefIdeal.Read.val_main_v56 (F := Ideal) (aX m c) (aP m c) (aW m c) (aM m c) (aO m c)
      ∧ r.2.mem ((c : Thread nD τ).loc main_v0_1) = Cert.MixAFwdRefIdeal.Read.val_main_v57 (F := Ideal) (aP m c) (aW m c) (aM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (out_result m c (reals m hp c)), (h c).2.1.trans (cat_result m c (reals m hp c)), (h c).2.2⟩) (Cert.MixAFwdIdeal.Value.run_blocks m ρ)

/-- From memories agreeing on the arguments, with real entries, kernel and reference both run and end with equal results. -/
theorem algebraic : Cert.algebraic_MixAFwdIdeal_MixAFwdRefIdeal_pre_finite17 := by
  intro m ρ m' ρ' hp hm
  refine ⟨_, _, kernel_run m hp ρ, (θ_run _ _ _).mono (fun r h c => ⟨(h c).1.trans ?_, (h c).2.1.trans ?_, (h c).2.2⟩)
    (Cert.MixAFwdRefIdeal.Value.run m' ρ')⟩
  · refine (Cert.MixAFwdRefIdeal.Read.val_main_v56_eq m' c).trans ?_
    rw [(hm c).1, (hm c).2.1, (hm c).2.2.1, (hm c).2.2.2.1, (hm c).2.2.2.2]
  · refine (Cert.MixAFwdRefIdeal.Read.val_main_v57_eq m' c).trans ?_
    rw [(hm c).2.1, (hm c).2.2.1, (hm c).2.2.2.1]

end Cert.MixAFwdProof

end
-- ==== Proof.lean ====
/- What this certificate claims, put together: every program's frame, that each idealised kernel is the kernel read
   over the extended reals, and that the calls named in NOTES.md compute their references. The values are proved in
   the modules beside this one; here they are only gathered. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdIdeal.Value
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.Gen.WgradDown
public import proofs.«01_k».proof.Proof.Gen.WgradDown.Skeleton
public import proofs.«01_k».proof.Proof.Gen.WgradDown.Launch
public import proofs.«01_k».proof.Proof.Gen.WgradDown.Points
public import proofs.«01_k».proof.Proof.Gen.WgradDown.Frame
public import proofs.«01_k».proof.Proof.Gen.WgradDownIdeal
public import proofs.«01_k».proof.Proof.Gen.WgradDownIdeal.Skeleton
public import proofs.«01_k».proof.Proof.Gen.WgradDownIdeal.Launch
public import proofs.«01_k».proof.Proof.Gen.WgradDownIdeal.Points
public import proofs.«01_k».proof.Proof.Gen.WgradDownIdeal.Frame
public import proofs.«01_k».proof.Proof.Gen.WgradDownIdeal.Value
public import proofs.«01_k».proof.Proof.Gen.WgradDownRefIdeal
public import proofs.«01_k».proof.Proof.Gen.WgradDownRefIdeal.Run
public import proofs.«01_k».proof.Proof.Gen.WgradDownRefIdeal.Read
public import proofs.«01_k».proof.Proof.Gen.WgradGate
public import proofs.«01_k».proof.Proof.Gen.WgradGate.Skeleton
public import proofs.«01_k».proof.Proof.Gen.WgradGate.Launch
public import proofs.«01_k».proof.Proof.Gen.WgradGate.Points
public import proofs.«01_k».proof.Proof.Gen.WgradGate.Frame
public import proofs.«01_k».proof.Proof.Gen.WgradGateIdeal
public import proofs.«01_k».proof.Proof.Gen.WgradGateIdeal.Skeleton
public import proofs.«01_k».proof.Proof.Gen.WgradGateIdeal.Launch
public import proofs.«01_k».proof.Proof.Gen.WgradGateIdeal.Points
public import proofs.«01_k».proof.Proof.Gen.WgradGateIdeal.Frame
public import proofs.«01_k».proof.Proof.Gen.WgradGateIdeal.Value
public import proofs.«01_k».proof.Proof.Gen.WgradGateRefIdeal
public import proofs.«01_k».proof.Proof.Gen.WgradGateRefIdeal.Run
public import proofs.«01_k».proof.Proof.Gen.WgradGateRefIdeal.Read
public import proofs.«01_k».proof.Proof.Gen.WgradOut
public import proofs.«01_k».proof.Proof.Gen.WgradOut.Skeleton
public import proofs.«01_k».proof.Proof.Gen.WgradOut.Launch
public import proofs.«01_k».proof.Proof.Gen.WgradOut.Points
public import proofs.«01_k».proof.Proof.Gen.WgradOut.Frame
public import proofs.«01_k».proof.Proof.Gen.WgradOutIdeal
public import proofs.«01_k».proof.Proof.Gen.WgradOutIdeal.Skeleton
public import proofs.«01_k».proof.Proof.Gen.WgradOutIdeal.Launch
public import proofs.«01_k».proof.Proof.Gen.WgradOutIdeal.Points
public import proofs.«01_k».proof.Proof.Gen.WgradOutIdeal.Frame
public import proofs.«01_k».proof.Proof.Gen.WgradOutIdeal.Value
public import proofs.«01_k».proof.Proof.Gen.WgradOutRefIdeal
public import proofs.«01_k».proof.Proof.Gen.WgradOutRefIdeal.Run
public import proofs.«01_k».proof.Proof.Gen.WgradOutRefIdeal.Read
public import proofs.«01_k».proof.Proof.Gen.WgradInA
public import proofs.«01_k».proof.Proof.Gen.WgradInA.Skeleton
public import proofs.«01_k».proof.Proof.Gen.WgradInA.Launch
public import proofs.«01_k».proof.Proof.Gen.WgradInA.Points
public import proofs.«01_k».proof.Proof.Gen.WgradInA.Frame
public import proofs.«01_k».proof.Proof.Gen.WgradInAIdeal
public import proofs.«01_k».proof.Proof.Gen.WgradInAIdeal.Skeleton
public import proofs.«01_k».proof.Proof.Gen.WgradInAIdeal.Launch
public import proofs.«01_k».proof.Proof.Gen.WgradInAIdeal.Points
public import proofs.«01_k».proof.Proof.Gen.WgradInAIdeal.Frame
public import proofs.«01_k».proof.Proof.Gen.WgradInAIdeal.Value
public import proofs.«01_k».proof.Proof.Gen.WgradInARefIdeal
public import proofs.«01_k».proof.Proof.Gen.WgradInARefIdeal.Run
public import proofs.«01_k».proof.Proof.Gen.WgradInARefIdeal.Read
public import proofs.«01_k».proof.Proof.Gen.WgradInB
public import proofs.«01_k».proof.Proof.Gen.WgradInB.Skeleton
public import proofs.«01_k».proof.Proof.Gen.WgradInB.Launch
public import proofs.«01_k».proof.Proof.Gen.WgradInB.Points
public import proofs.«01_k».proof.Proof.Gen.WgradInB.Frame
public import proofs.«01_k».proof.Proof.Gen.WgradInBIdeal
public import proofs.«01_k».proof.Proof.Gen.WgradInBIdeal.Skeleton
public import proofs.«01_k».proof.Proof.Gen.WgradInBIdeal.Launch
public import proofs.«01_k».proof.Proof.Gen.WgradInBIdeal.Points
public import proofs.«01_k».proof.Proof.Gen.WgradInBIdeal.Frame
public import proofs.«01_k».proof.Proof.Gen.WgradInBIdeal.Value
public import proofs.«01_k».proof.Proof.Gen.WgradInBRefIdeal
public import proofs.«01_k».proof.Proof.Gen.WgradInBRefIdeal.Run
public import proofs.«01_k».proof.Proof.Gen.WgradInBRefIdeal.Read
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.ProjABwd
public import proofs.«01_k».proof.Proof.Gen.ProjABwd.Skeleton
public import proofs.«01_k».proof.Proof.Gen.ProjABwd.Launch
public import proofs.«01_k».proof.Proof.Gen.ProjABwd.Points
public import proofs.«01_k».proof.Proof.Gen.ProjABwd.Frame
public import proofs.«01_k».proof.Proof.Gen.ProjABwdIdeal
public import proofs.«01_k».proof.Proof.Gen.ProjABwdIdeal.Skeleton
public import proofs.«01_k».proof.Proof.Gen.ProjABwdIdeal.Launch
public import proofs.«01_k».proof.Proof.Gen.ProjABwdIdeal.Points
public import proofs.«01_k».proof.Proof.Gen.ProjABwdIdeal.Frame
public import proofs.«01_k».proof.Proof.Gen.ProjABwdIdeal.Value
public import proofs.«01_k».proof.Proof.Gen.ProjABwdRefIdeal
public import proofs.«01_k».proof.Proof.Gen.ProjABwdRefIdeal.Run
public import proofs.«01_k».proof.Proof.Gen.ProjABwdRefIdeal.Read
public import proofs.«01_k».proof.Proof.Gen.ProjBBwd
public import proofs.«01_k».proof.Proof.Gen.ProjBBwd.Skeleton
public import proofs.«01_k».proof.Proof.Gen.ProjBBwd.Launch
public import proofs.«01_k».proof.Proof.Gen.ProjBBwd.Points
public import proofs.«01_k».proof.Proof.Gen.ProjBBwd.Frame
public import proofs.«01_k».proof.Proof.Gen.ProjBBwdIdeal
public import proofs.«01_k».proof.Proof.Gen.ProjBBwdIdeal.Skeleton
public import proofs.«01_k».proof.Proof.Gen.ProjBBwdIdeal.Launch
public import proofs.«01_k».proof.Proof.Gen.ProjBBwdIdeal.Points
public import proofs.«01_k».proof.Proof.Gen.ProjBBwdIdeal.Frame
public import proofs.«01_k».proof.Proof.Gen.ProjBBwdIdeal.Value
public import proofs.«01_k».proof.Proof.Gen.ProjBBwdRefIdeal
public import proofs.«01_k».proof.Proof.Gen.ProjBBwdRefIdeal.Run
public import proofs.«01_k».proof.Proof.Gen.ProjBBwdRefIdeal.Read
public import proofs.«01_k».proof.Proof.Gen.ProjBKvBwd
public import proofs.«01_k».proof.Proof.Gen.ProjBKvBwd.Skeleton
public import proofs.«01_k».proof.Proof.Gen.ProjBKvBwd.Launch
public import proofs.«01_k».proof.Proof.Gen.ProjBKvBwd.Points
public import proofs.«01_k».proof.Proof.Gen.ProjBKvBwd.Frame
public import proofs.«01_k».proof.Proof.Gen.ProjBKvBwdIdeal
public import proofs.«01_k».proof.Proof.Gen.ProjBKvBwdIdeal.Skeleton
public import proofs.«01_k».proof.Proof.Gen.ProjBKvBwdIdeal.Launch
public import proofs.«01_k».proof.Proof.Gen.ProjBKvBwdIdeal.Points
public import proofs.«01_k».proof.Proof.Gen.ProjBKvBwdIdeal.Frame
public import proofs.«01_k».proof.Proof.Gen.ProjBKvBwdIdeal.Value
public import proofs.«01_k».proof.Proof.Gen.ProjBKvBwdRefIdeal
public import proofs.«01_k».proof.Proof.Gen.ProjBKvBwdRefIdeal.Run
public import proofs.«01_k».proof.Proof.Gen.ProjBKvBwdRefIdeal.Read
public import proofs.«01_k».proof.Proof.Gen.WgradKv
public import proofs.«01_k».proof.Proof.Gen.WgradKv.Skeleton
public import proofs.«01_k».proof.Proof.Gen.WgradKv.Launch
public import proofs.«01_k».proof.Proof.Gen.WgradKv.Points
public import proofs.«01_k».proof.Proof.Gen.WgradKv.Frame
public import proofs.«01_k».proof.Proof.Gen.WgradKvIdeal
public import proofs.«01_k».proof.Proof.Gen.WgradKvIdeal.Skeleton
public import proofs.«01_k».proof.Proof.Gen.WgradKvIdeal.Launch
public import proofs.«01_k».proof.Proof.Gen.WgradKvIdeal.Points
public import proofs.«01_k».proof.Proof.Gen.WgradKvIdeal.Frame
public import proofs.«01_k».proof.Proof.Gen.WgradKvIdeal.Value
public import proofs.«01_k».proof.Proof.Gen.WgradKvRefIdeal
public import proofs.«01_k».proof.Proof.Gen.WgradKvRefIdeal.Run
public import proofs.«01_k».proof.Proof.Gen.WgradKvRefIdeal.Read
public import proofs.«01_k».proof.Proof.Gen.ProjAFwd
public import proofs.«01_k».proof.Proof.Gen.ProjAFwd.Skeleton
public import proofs.«01_k».proof.Proof.Gen.ProjAFwd.Launch
public import proofs.«01_k».proof.Proof.Gen.ProjAFwd.Points
public import proofs.«01_k».proof.Proof.Gen.ProjAFwd.Frame
public import proofs.«01_k».proof.Proof.Gen.ProjAFwdIdeal
public import proofs.«01_k».proof.Proof.Gen.ProjAFwdIdeal.Skeleton
public import proofs.«01_k».proof.Proof.Gen.ProjAFwdIdeal.Launch
public import proofs.«01_k».proof.Proof.Gen.ProjAFwdIdeal.Points
public import proofs.«01_k».proof.Proof.Gen.ProjAFwdIdeal.Frame
public import proofs.«01_k».proof.Proof.Gen.ProjAFwdIdeal.Value
public import proofs.«01_k».proof.Proof.Gen.ProjAFwdRefIdeal
public import proofs.«01_k».proof.Proof.Gen.ProjAFwdRefIdeal.Run
public import proofs.«01_k».proof.Proof.Gen.ProjAFwdRefIdeal.Read
public import proofs.«01_k».proof.Proof.Gen.ProjBFwd
public import proofs.«01_k».proof.Proof.Gen.ProjBFwd.Skeleton
public import proofs.«01_k».proof.Proof.Gen.ProjBFwd.Launch
public import proofs.«01_k».proof.Proof.Gen.ProjBFwd.Points
public import proofs.«01_k».proof.Proof.Gen.ProjBFwd.Frame
public import proofs.«01_k».proof.Proof.Gen.ProjBFwdIdeal
public import proofs.«01_k».proof.Proof.Gen.ProjBFwdIdeal.Skeleton
public import proofs.«01_k».proof.Proof.Gen.ProjBFwdIdeal.Launch
public import proofs.«01_k».proof.Proof.Gen.ProjBFwdIdeal.Points
public import proofs.«01_k».proof.Proof.Gen.ProjBFwdIdeal.Frame
public import proofs.«01_k».proof.Proof.Gen.ProjBFwdIdeal.Value
public import proofs.«01_k».proof.Proof.Gen.ProjBFwdRefIdeal
public import proofs.«01_k».proof.Proof.Gen.ProjBFwdRefIdeal.Run
public import proofs.«01_k».proof.Proof.Gen.ProjBFwdRefIdeal.Read
public import proofs.«01_k».proof.Proof.Gen.ProjBKvFwd
public import proofs.«01_k».proof.Proof.Gen.ProjBKvFwd.Skeleton
public import proofs.«01_k».proof.Proof.Gen.ProjBKvFwd.Launch
public import proofs.«01_k».proof.Proof.Gen.ProjBKvFwd.Points
public import proofs.«01_k».proof.Proof.Gen.ProjBKvFwd.Frame
public import proofs.«01_k».proof.Proof.Gen.ProjBKvFwdIdeal
public import proofs.«01_k».proof.Proof.Gen.ProjBKvFwdIdeal.Skeleton
public import proofs.«01_k».proof.Proof.Gen.ProjBKvFwdIdeal.Launch
public import proofs.«01_k».proof.Proof.Gen.ProjBKvFwdIdeal.Points
public import proofs.«01_k».proof.Proof.Gen.ProjBKvFwdIdeal.Frame
public import proofs.«01_k».proof.Proof.Gen.ProjBKvFwdIdeal.Value
public import proofs.«01_k».proof.Proof.Gen.ProjBKvFwdRefIdeal
public import proofs.«01_k».proof.Proof.Gen.ProjBKvFwdRefIdeal.Run
public import proofs.«01_k».proof.Proof.Gen.ProjBKvFwdRefIdeal.Read
public import proofs.«01_k».proof.Proof.Gen.FfnLoss
public import proofs.«01_k».proof.Proof.Gen.FfnLoss.Skeleton
public import proofs.«01_k».proof.Proof.Gen.FfnLoss.Launch
public import proofs.«01_k».proof.Proof.Gen.FfnLoss.Points
public import proofs.«01_k».proof.Proof.Gen.FfnLoss.Frame
public import proofs.«01_k».proof.Proof.Gen.FfnLossIdeal
public import proofs.«01_k».proof.Proof.Gen.FfnLossIdeal.Skeleton
public import proofs.«01_k».proof.Proof.Gen.FfnLossIdeal.Launch
public import proofs.«01_k».proof.Proof.Gen.FfnLossIdeal.Points
public import proofs.«01_k».proof.Proof.Gen.FfnLossIdeal.Frame
public import proofs.«01_k».proof.Proof.Gen.FfnLossIdeal.Value
public import proofs.«01_k».proof.Proof.Gen.FfnLossRefIdeal
public import proofs.«01_k».proof.Proof.Gen.FfnLossRefIdeal.Run
public import proofs.«01_k».proof.Proof.Gen.FfnLossRefIdeal.Read
public import proofs.«01_k».proof.Proof.Gen.MixAFwd
public import proofs.«01_k».proof.Proof.Gen.MixAFwd.Skeleton
public import proofs.«01_k».proof.Proof.Gen.MixAFwd.Launch
public import proofs.«01_k».proof.Proof.Gen.MixAFwd.Points
public import proofs.«01_k».proof.Proof.Gen.MixAFwd.Frame
public import proofs.«01_k».proof.Proof.Gen.MixAFwdIdeal
public import proofs.«01_k».proof.Proof.Gen.MixAFwdIdeal.Skeleton
public import proofs.«01_k».proof.Proof.Gen.MixAFwdIdeal.Launch
public import proofs.«01_k».proof.Proof.Gen.MixAFwdIdeal.Points
public import proofs.«01_k».proof.Proof.Gen.MixAFwdIdeal.Frame
public import proofs.«01_k».proof.Proof.Gen.MixAFwdIdeal.Value
public import proofs.«01_k».proof.Proof.Gen.MixAFwdRefIdeal
public import proofs.«01_k».proof.Proof.Gen.MixAFwdRefIdeal.Run
public import proofs.«01_k».proof.Proof.Gen.MixAFwdRefIdeal.Read
public import proofs.«01_k».proof.Proof.Gen.Pre_finite
public import proofs.«01_k».proof.Proof.Gen.Pre_finite2
public import proofs.«01_k».proof.Proof.Gen.Pre_finite9
public import proofs.«01_k».proof.Proof.Gen.Pre_finite10
public import proofs.«01_k».proof.Proof.Gen.Pre_finite11
public import proofs.«01_k».proof.Proof.Gen.Pre_finite16
public import proofs.«01_k».proof.Proof.Gen.Pre_finite17
public import proofs.«01_k».proof.Proof.WgradDown
public import proofs.«01_k».proof.Proof.WgradGate
public import proofs.«01_k».proof.Proof.WgradOut
public import proofs.«01_k».proof.Proof.WgradInA
public import proofs.«01_k».proof.Proof.WgradInB
public import proofs.«01_k».proof.Proof.FfnFwd
public import proofs.«01_k».proof.Proof.ProjABwd
public import proofs.«01_k».proof.Proof.FfnBwd
public import proofs.«01_k».proof.Proof.MixABwd
public import proofs.«01_k».proof.Proof.WgradKv
public import proofs.«01_k».proof.Proof.ProjBBwd
public import proofs.«01_k».proof.Proof.ProjAFwd
public import proofs.«01_k».proof.Proof.ProjBFwd
public import proofs.«01_k».proof.Proof.ProjBKvFwd
public import proofs.«01_k».proof.Proof.ProjBKvBwd
public import proofs.«01_k».proof.Proof.FfnLoss
public import proofs.«01_k».proof.Proof.MixAFwd
public import Idealize.ShloMosaic.Adequacy
public import Idealize.ShloMosaic.Init

@[expose] public section

noncomputable section

namespace Cert.Proof

open Idealize.ShloMosaic Idealize.SL.Sem

/-- The reference of the mixer's backward call ends without fault, keeps its arguments and, having no semaphore, leaves none raised. -/
theorem quiescent_ReferenceIdeal : Cert.quiescent_ReferenceIdeal := fun m ρ _ =>
  (θ_run _ _ _).mono (fun r h => ⟨fun c => (h c).2.2.2, funext fun s => by
    rcases s with ⟨t, s⟩; cases s <;> rename_i s <;> exact s.elim0⟩) (Cert.ReferenceIdeal.Value.run (F := Ideal) m ρ)

/-- The reference of the mixer's backward call ends without fault, keeps its arguments and, having no semaphore, leaves none raised. -/
theorem quiescent_ReferenceIdeal_pre_finite : Cert.quiescent_ReferenceIdeal_pre_finite := fun m ρ _ =>
  (θ_run _ _ _).mono (fun r h => ⟨fun c => (h c).2.2.2, funext fun s => by
    rcases s with ⟨t, s⟩; cases s <;> rename_i s <;> exact s.elim0⟩) (Cert.ReferenceIdeal.Value.run (F := Ideal) m ρ)

/-- The reference of the feed-forward block's backward call ends without fault, keeps its arguments and, having no semaphore, leaves none raised. -/
theorem quiescent_FfnBwdRefIdeal : Cert.quiescent_FfnBwdRefIdeal := fun m ρ _ =>
  (θ_run _ _ _).mono (fun r h => ⟨fun c => (h c).2.2.2.2.2.2, funext fun s => by
    rcases s with ⟨t, s⟩; cases s <;> rename_i s <;> exact s.elim0⟩) (Cert.FfnBwdRefIdeal.Value.run (F := Ideal) m ρ)

/-- The reference of the feed-forward block's backward call ends without fault, keeps its arguments and, having no semaphore, leaves none raised. -/
theorem quiescent_FfnBwdRefIdeal_pre_finite2 : Cert.quiescent_FfnBwdRefIdeal_pre_finite2 := fun m ρ _ =>
  (θ_run _ _ _).mono (fun r h => ⟨fun c => (h c).2.2.2.2.2.2, funext fun s => by
    rcases s with ⟨t, s⟩; cases s <;> rename_i s <;> exact s.elim0⟩) (Cert.FfnBwdRefIdeal.Value.run (F := Ideal) m ρ)

/-- The reference of the weight gradient of the down projection ends without fault, keeps its arguments and, having no semaphore, leaves none raised. -/
theorem quiescent_WgradDownRefIdeal : Cert.quiescent_WgradDownRefIdeal := fun m ρ _ =>
  (θ_run _ _ _).mono (fun r h => ⟨fun c => (h c).2, funext fun s => by
    rcases s with ⟨t, s⟩; cases s <;> rename_i s <;> exact s.elim0⟩) (Cert.WgradDownRefIdeal.Value.run (F := Ideal) m ρ)

/-- The reference of the weight gradient of the gate and up projections ends without fault, keeps its arguments and, having no semaphore, leaves none raised. -/
theorem quiescent_WgradGateRefIdeal : Cert.quiescent_WgradGateRefIdeal := fun m ρ _ =>
  (θ_run _ _ _).mono (fun r h => ⟨fun c => (h c).2, funext fun s => by
    rcases s with ⟨t, s⟩; cases s <;> rename_i s <;> exact s.elim0⟩) (Cert.WgradGateRefIdeal.Value.run (F := Ideal) m ρ)

/-- The reference of the weight gradient of the mixer's output projection ends without fault, keeps its arguments and, having no semaphore, leaves none raised. -/
theorem quiescent_WgradOutRefIdeal : Cert.quiescent_WgradOutRefIdeal := fun m ρ _ =>
  (θ_run _ _ _).mono (fun r h => ⟨fun c => (h c).2, funext fun s => by
    rcases s with ⟨t, s⟩; cases s <;> rename_i s <;> exact s.elim0⟩) (Cert.WgradOutRefIdeal.Value.run (F := Ideal) m ρ)

/-- The reference of the weight gradient of the first mixer's input projection ends without fault, keeps its arguments and, having no semaphore, leaves none raised. -/
theorem quiescent_WgradInARefIdeal : Cert.quiescent_WgradInARefIdeal := fun m ρ _ =>
  (θ_run _ _ _).mono (fun r h => ⟨fun c => (h c).2, funext fun s => by
    rcases s with ⟨t, s⟩; cases s <;> rename_i s <;> exact s.elim0⟩) (Cert.WgradInARefIdeal.Value.run (F := Ideal) m ρ)

/-- The reference of the weight gradient of the second mixer's input projection ends without fault, keeps its arguments and, having no semaphore, leaves none raised. -/
theorem quiescent_WgradInBRefIdeal : Cert.quiescent_WgradInBRefIdeal := fun m ρ _ =>
  (θ_run _ _ _).mono (fun r h => ⟨fun c => (h c).2, funext fun s => by
    rcases s with ⟨t, s⟩; cases s <;> rename_i s <;> exact s.elim0⟩) (Cert.WgradInBRefIdeal.Value.run (F := Ideal) m ρ)

/-- The reference of the feed-forward block's forward call ends without fault, keeps its arguments and, having no semaphore, leaves none raised. -/
theorem quiescent_FfnFwdRefIdeal : Cert.quiescent_FfnFwdRefIdeal := fun m ρ _ =>
  (θ_run _ _ _).mono (fun r h => ⟨fun c => (h c).2.2.2, funext fun s => by
    rcases s with ⟨t, s⟩; cases s <;> rename_i s <;> exact s.elim0⟩) (Cert.FfnFwdRefIdeal.Value.run (F := Ideal) m ρ)

/-- The reference of the backward call of the first mixer's input projection ends without fault, keeps its arguments and, having no semaphore, leaves none raised. -/
theorem quiescent_ProjABwdRefIdeal : Cert.quiescent_ProjABwdRefIdeal := fun m ρ _ =>
  (θ_run _ _ _).mono (fun r h => ⟨fun c => (h c).2.2.2, funext fun s => by
    rcases s with ⟨t, s⟩; cases s <;> rename_i s <;> exact s.elim0⟩) (Cert.ProjABwdRefIdeal.Value.run (F := Ideal) m ρ)

/-- The reference of the backward call of the first mixer's input projection ends without fault, keeps its arguments and, having no semaphore, leaves none raised. -/
theorem quiescent_ProjABwdRefIdeal_pre_finite9 : Cert.quiescent_ProjABwdRefIdeal_pre_finite9 := fun m ρ _ =>
  (θ_run _ _ _).mono (fun r h => ⟨fun c => (h c).2.2.2, funext fun s => by
    rcases s with ⟨t, s⟩; cases s <;> rename_i s <;> exact s.elim0⟩) (Cert.ProjABwdRefIdeal.Value.run (F := Ideal) m ρ)

/-- The reference of the backward call of a second mixer's input projection ends without fault, keeps its arguments and, having no semaphore, leaves none raised. -/
theorem quiescent_ProjBBwdRefIdeal : Cert.quiescent_ProjBBwdRefIdeal := fun m ρ _ =>
  (θ_run _ _ _).mono (fun r h => ⟨fun c => (h c).2.2.2, funext fun s => by
    rcases s with ⟨t, s⟩; cases s <;> rename_i s <;> exact s.elim0⟩) (Cert.ProjBBwdRefIdeal.Value.run (F := Ideal) m ρ)

/-- The reference of the backward call of a second mixer's input projection ends without fault, keeps its arguments and, having no semaphore, leaves none raised. -/
theorem quiescent_ProjBBwdRefIdeal_pre_finite10 : Cert.quiescent_ProjBBwdRefIdeal_pre_finite10 := fun m ρ _ =>
  (θ_run _ _ _).mono (fun r h => ⟨fun c => (h c).2.2.2, funext fun s => by
    rcases s with ⟨t, s⟩; cases s <;> rename_i s <;> exact s.elim0⟩) (Cert.ProjBBwdRefIdeal.Value.run (F := Ideal) m ρ)

/-- The reference of the backward call of the second mixer's input projection with the shared keys and values ends without fault, keeps its arguments and, having no semaphore, leaves none raised. -/
theorem quiescent_ProjBKvBwdRefIdeal : Cert.quiescent_ProjBKvBwdRefIdeal := fun m ρ _ =>
  (θ_run _ _ _).mono (fun r h => ⟨fun c => (h c).2.2.2.2.2.2, funext fun s => by
    rcases s with ⟨t, s⟩; cases s <;> rename_i s <;> exact s.elim0⟩) (Cert.ProjBKvBwdRefIdeal.Value.run (F := Ideal) m ρ)

/-- The reference of the backward call of the second mixer's input projection with the shared keys and values ends without fault, keeps its arguments and, having no semaphore, leaves none raised. -/
theorem quiescent_ProjBKvBwdRefIdeal_pre_finite11 : Cert.quiescent_ProjBKvBwdRefIdeal_pre_finite11 := fun m ρ _ =>
  (θ_run _ _ _).mono (fun r h => ⟨fun c => (h c).2.2.2.2.2.2, funext fun s => by
    rcases s with ⟨t, s⟩; cases s <;> rename_i s <;> exact s.elim0⟩) (Cert.ProjBKvBwdRefIdeal.Value.run (F := Ideal) m ρ)

/-- The reference of the weight gradient of the shared keys and values ends without fault, keeps its arguments and, having no semaphore, leaves none raised. -/
theorem quiescent_WgradKvRefIdeal : Cert.quiescent_WgradKvRefIdeal := fun m ρ _ =>
  (θ_run _ _ _).mono (fun r h => ⟨fun c => (h c).2, funext fun s => by
    rcases s with ⟨t, s⟩; cases s <;> rename_i s <;> exact s.elim0⟩) (Cert.WgradKvRefIdeal.Value.run (F := Ideal) m ρ)

/-- The reference of the first mixer's input projection ends without fault, keeps its arguments and, having no semaphore, leaves none raised. -/
theorem quiescent_ProjAFwdRefIdeal : Cert.quiescent_ProjAFwdRefIdeal := fun m ρ _ =>
  (θ_run _ _ _).mono (fun r h => ⟨fun c => (h c).2, funext fun s => by
    rcases s with ⟨t, s⟩; cases s <;> rename_i s <;> exact s.elim0⟩) (Cert.ProjAFwdRefIdeal.Value.run (F := Ideal) m ρ)

/-- The reference of a second mixer's input projection ends without fault, keeps its arguments and, having no semaphore, leaves none raised. -/
theorem quiescent_ProjBFwdRefIdeal : Cert.quiescent_ProjBFwdRefIdeal := fun m ρ _ =>
  (θ_run _ _ _).mono (fun r h => ⟨fun c => (h c).2, funext fun s => by
    rcases s with ⟨t, s⟩; cases s <;> rename_i s <;> exact s.elim0⟩) (Cert.ProjBFwdRefIdeal.Value.run (F := Ideal) m ρ)

/-- The reference of the second mixer's input projection with the shared keys and values ends without fault, keeps its arguments and, having no semaphore, leaves none raised. -/
theorem quiescent_ProjBKvFwdRefIdeal : Cert.quiescent_ProjBKvFwdRefIdeal := fun m ρ _ =>
  (θ_run _ _ _).mono (fun r h => ⟨fun c => (h c).2.2, funext fun s => by
    rcases s with ⟨t, s⟩; cases s <;> rename_i s <;> exact s.elim0⟩) (Cert.ProjBKvFwdRefIdeal.Value.run (F := Ideal) m ρ)

/-- The reference of the last feed-forward block with the loss ends without fault, keeps its arguments and, having no semaphore, leaves none raised. -/
theorem quiescent_FfnLossRefIdeal : Cert.quiescent_FfnLossRefIdeal := fun m ρ _ =>
  (θ_run _ _ _).mono (fun r h => ⟨fun c => (h c).2.2.2.2.2, funext fun s => by
    rcases s with ⟨t, s⟩; cases s <;> rename_i s <;> exact s.elim0⟩) (Cert.FfnLossRefIdeal.Value.run (F := Ideal) m ρ)

/-- The reference of the last feed-forward block with the loss ends without fault, keeps its arguments and, having no semaphore, leaves none raised. -/
theorem quiescent_FfnLossRefIdeal_pre_finite16 : Cert.quiescent_FfnLossRefIdeal_pre_finite16 := fun m ρ _ =>
  (θ_run _ _ _).mono (fun r h => ⟨fun c => (h c).2.2.2.2.2, funext fun s => by
    rcases s with ⟨t, s⟩; cases s <;> rename_i s <;> exact s.elim0⟩) (Cert.FfnLossRefIdeal.Value.run (F := Ideal) m ρ)

/-- The reference of the first mixer's forward call ends without fault, keeps its arguments and, having no semaphore, leaves none raised. -/
theorem quiescent_MixAFwdRefIdeal : Cert.quiescent_MixAFwdRefIdeal := fun m ρ _ =>
  (θ_run _ _ _).mono (fun r h => ⟨fun c => (h c).2.2, funext fun s => by
    rcases s with ⟨t, s⟩; cases s <;> rename_i s <;> exact s.elim0⟩) (Cert.MixAFwdRefIdeal.Value.run (F := Ideal) m ρ)

/-- The reference of the first mixer's forward call ends without fault, keeps its arguments and, having no semaphore, leaves none raised. -/
theorem quiescent_MixAFwdRefIdeal_pre_finite17 : Cert.quiescent_MixAFwdRefIdeal_pre_finite17 := fun m ρ _ =>
  (θ_run _ _ _).mono (fun r h => ⟨fun c => (h c).2.2, funext fun s => by
    rcases s with ⟨t, s⟩; cases s <;> rename_i s <;> exact s.elim0⟩) (Cert.MixAFwdRefIdeal.Value.run (F := Ideal) m ρ)

/-- The whole claim: the witnesses of the programs' facts, then each part in the order in which it is stated. -/
theorem claim : Cert.Claim :=
  ⟨Cert.Kernel.Gen.facts, Cert.KernelIdeal.Gen.facts, Cert.ReferenceIdeal.Gen.facts, Cert.FfnBwd.Gen.facts, Cert.FfnBwdIdeal.Gen.facts, Cert.FfnBwdRefIdeal.Gen.facts, Cert.WgradDown.Gen.facts, Cert.WgradDownIdeal.Gen.facts, Cert.WgradDownRefIdeal.Gen.facts, Cert.WgradGate.Gen.facts, Cert.WgradGateIdeal.Gen.facts, Cert.WgradGateRefIdeal.Gen.facts, Cert.WgradOut.Gen.facts, Cert.WgradOutIdeal.Gen.facts, Cert.WgradOutRefIdeal.Gen.facts, Cert.WgradInA.Gen.facts, Cert.WgradInAIdeal.Gen.facts, Cert.WgradInARefIdeal.Gen.facts, Cert.WgradInB.Gen.facts, Cert.WgradInBIdeal.Gen.facts, Cert.WgradInBRefIdeal.Gen.facts, Cert.FfnFwd.Gen.facts, Cert.FfnFwdIdeal.Gen.facts, Cert.FfnFwdRefIdeal.Gen.facts, Cert.ProjABwd.Gen.facts, Cert.ProjABwdIdeal.Gen.facts, Cert.ProjABwdRefIdeal.Gen.facts, Cert.ProjBBwd.Gen.facts, Cert.ProjBBwdIdeal.Gen.facts, Cert.ProjBBwdRefIdeal.Gen.facts, Cert.ProjBKvBwd.Gen.facts, Cert.ProjBKvBwdIdeal.Gen.facts, Cert.ProjBKvBwdRefIdeal.Gen.facts, Cert.WgradKv.Gen.facts, Cert.WgradKvIdeal.Gen.facts, Cert.WgradKvRefIdeal.Gen.facts, Cert.ProjAFwd.Gen.facts, Cert.ProjAFwdIdeal.Gen.facts, Cert.ProjAFwdRefIdeal.Gen.facts, Cert.ProjBFwd.Gen.facts, Cert.ProjBFwdIdeal.Gen.facts, Cert.ProjBFwdRefIdeal.Gen.facts, Cert.ProjBKvFwd.Gen.facts, Cert.ProjBKvFwdIdeal.Gen.facts, Cert.ProjBKvFwdRefIdeal.Gen.facts, Cert.FfnLoss.Gen.facts, Cert.FfnLossIdeal.Gen.facts, Cert.FfnLossRefIdeal.Gen.facts, Cert.MixAFwd.Gen.facts, Cert.MixAFwdIdeal.Gen.facts, Cert.MixAFwdRefIdeal.Gen.facts, Cert.Pre_finite.Gen.facts, Cert.Pre_finite2.Gen.facts, Cert.Pre_finite9.Gen.facts, Cert.Pre_finite10.Gen.facts, Cert.Pre_finite11.Gen.facts, Cert.Pre_finite16.Gen.facts, Cert.Pre_finite17.Gen.facts,
    (fun m ρ _ => Cert.Kernel.Gen.frame m ρ),
    (fun m ρ _ => Cert.KernelIdeal.Gen.frame m ρ),
    (fun m ρ _ => Cert.KernelIdeal.Gen.frame m ρ),
    quiescent_ReferenceIdeal,
    quiescent_ReferenceIdeal_pre_finite,
    (fun m ρ _ => Cert.FfnBwd.Gen.frame m ρ),
    (fun m ρ _ => Cert.FfnBwdIdeal.Gen.frame m ρ),
    (fun m ρ _ => Cert.FfnBwdIdeal.Gen.frame m ρ),
    quiescent_FfnBwdRefIdeal,
    quiescent_FfnBwdRefIdeal_pre_finite2,
    (fun m ρ _ => Cert.WgradDown.Gen.frame m ρ),
    (fun m ρ _ => Cert.WgradDownIdeal.Gen.frame m ρ),
    quiescent_WgradDownRefIdeal,
    (fun m ρ _ => Cert.WgradGate.Gen.frame m ρ),
    (fun m ρ _ => Cert.WgradGateIdeal.Gen.frame m ρ),
    quiescent_WgradGateRefIdeal,
    (fun m ρ _ => Cert.WgradOut.Gen.frame m ρ),
    (fun m ρ _ => Cert.WgradOutIdeal.Gen.frame m ρ),
    quiescent_WgradOutRefIdeal,
    (fun m ρ _ => Cert.WgradInA.Gen.frame m ρ),
    (fun m ρ _ => Cert.WgradInAIdeal.Gen.frame m ρ),
    quiescent_WgradInARefIdeal,
    (fun m ρ _ => Cert.WgradInB.Gen.frame m ρ),
    (fun m ρ _ => Cert.WgradInBIdeal.Gen.frame m ρ),
    quiescent_WgradInBRefIdeal,
    (fun m ρ _ => Cert.FfnFwd.Gen.frame m ρ),
    (fun m ρ _ => Cert.FfnFwdIdeal.Gen.frame m ρ),
    quiescent_FfnFwdRefIdeal,
    (fun m ρ _ => Cert.ProjABwd.Gen.frame m ρ),
    (fun m ρ _ => Cert.ProjABwdIdeal.Gen.frame m ρ),
    (fun m ρ _ => Cert.ProjABwdIdeal.Gen.frame m ρ),
    quiescent_ProjABwdRefIdeal,
    quiescent_ProjABwdRefIdeal_pre_finite9,
    (fun m ρ _ => Cert.ProjBBwd.Gen.frame m ρ),
    (fun m ρ _ => Cert.ProjBBwdIdeal.Gen.frame m ρ),
    (fun m ρ _ => Cert.ProjBBwdIdeal.Gen.frame m ρ),
    quiescent_ProjBBwdRefIdeal,
    quiescent_ProjBBwdRefIdeal_pre_finite10,
    (fun m ρ _ => Cert.ProjBKvBwd.Gen.frame m ρ),
    (fun m ρ _ => Cert.ProjBKvBwdIdeal.Gen.frame m ρ),
    (fun m ρ _ => Cert.ProjBKvBwdIdeal.Gen.frame m ρ),
    quiescent_ProjBKvBwdRefIdeal,
    quiescent_ProjBKvBwdRefIdeal_pre_finite11,
    (fun m ρ _ => Cert.WgradKv.Gen.frame m ρ),
    (fun m ρ _ => Cert.WgradKvIdeal.Gen.frame m ρ),
    quiescent_WgradKvRefIdeal,
    (fun m ρ _ => Cert.ProjAFwd.Gen.frame m ρ),
    (fun m ρ _ => Cert.ProjAFwdIdeal.Gen.frame m ρ),
    quiescent_ProjAFwdRefIdeal,
    (fun m ρ _ => Cert.ProjBFwd.Gen.frame m ρ),
    (fun m ρ _ => Cert.ProjBFwdIdeal.Gen.frame m ρ),
    quiescent_ProjBFwdRefIdeal,
    (fun m ρ _ => Cert.ProjBKvFwd.Gen.frame m ρ),
    (fun m ρ _ => Cert.ProjBKvFwdIdeal.Gen.frame m ρ),
    quiescent_ProjBKvFwdRefIdeal,
    (fun m ρ _ => Cert.FfnLoss.Gen.frame m ρ),
    (fun m ρ _ => Cert.FfnLossIdeal.Gen.frame m ρ),
    (fun m ρ _ => Cert.FfnLossIdeal.Gen.frame m ρ),
    quiescent_FfnLossRefIdeal,
    quiescent_FfnLossRefIdeal_pre_finite16,
    (fun m ρ _ => Cert.MixAFwd.Gen.frame m ρ),
    (fun m ρ _ => Cert.MixAFwdIdeal.Gen.frame m ρ),
    (fun m ρ _ => Cert.MixAFwdIdeal.Gen.frame m ρ),
    quiescent_MixAFwdRefIdeal,
    quiescent_MixAFwdRefIdeal_pre_finite17,
    trivial,
    Cert.MixABwdProof.algebraic,
    trivial,
    Cert.FfnBwdProof.algebraic,
    trivial,
    Cert.WgradDownProof.algebraic,
    trivial,
    Cert.WgradGateProof.algebraic,
    trivial,
    Cert.WgradOutProof.algebraic,
    trivial,
    Cert.WgradInAProof.algebraic,
    trivial,
    Cert.WgradInBProof.algebraic,
    trivial,
    Cert.FfnFwdProof.algebraic,
    trivial,
    Cert.ProjABwdProof.algebraic,
    trivial,
    Cert.ProjBBwdProof.algebraic,
    trivial,
    Cert.ProjBKvBwdProof.algebraic,
    trivial,
    Cert.WgradKvProof.algebraic,
    trivial,
    Cert.ProjAFwdProof.algebraic,
    trivial,
    Cert.ProjBFwdProof.algebraic,
    trivial,
    Cert.ProjBKvFwdProof.algebraic,
    trivial,
    Cert.FfnLossProof.algebraic,
    trivial,
    Cert.MixAFwdProof.algebraic⟩

end Cert.Proof

end
